-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KDw2 (m : (ℓ : Loc Cert.KDw2.nD Cert.KDw2.τ Cert.KDw2.sig) → Buf (Elt Bits) ℓ) : Prop :=
  True

def Pre_KDw2Ideal (m : (ℓ : Loc Cert.KDw2Ideal.nD Cert.KDw2Ideal.τ Cert.KDw2Ideal.sig) → Buf (Elt Ideal) ℓ) : Prop :=
  True

def Pre_RDw2Ideal (m : (ℓ : Loc Cert.RDw2Ideal.nD Cert.RDw2Ideal.τ Cert.RDw2Ideal.sig) → Buf (Elt Ideal) ℓ) : Prop :=
  True

def Pre_KDw1 (m : (ℓ : Loc Cert.KDw1.nD Cert.KDw1.τ Cert.KDw1.sig) → Buf (Elt Bits) ℓ) : Prop :=
  True

def Pre_KDw1Ideal (m : (ℓ : Loc Cert.KDw1Ideal.nD Cert.KDw1Ideal.τ Cert.KDw1Ideal.sig) → Buf (Elt Ideal) ℓ) : Prop :=
  True

def Pre_RDw1Ideal (m : (ℓ : Loc Cert.RDw1Ideal.nD Cert.RDw1Ideal.τ Cert.RDw1Ideal.sig) → Buf (Elt Ideal) ℓ) : Prop :=
  True

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_KUpIdeal_finite_up [hPre_finite_up : Cert.Pre_finite_up.Facts] (m : (ℓ : Loc Cert.KUpIdeal.nD Cert.KUpIdeal.τ Cert.KUpIdeal.sig) → Buf (Elt Ideal) ℓ) : Prop :=
  ∀ c : Dev Cert.KUpIdeal.nD,
    (Cert.Pre_finite_up.fn (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)) (m ((c.tc : Thread Cert.KUpIdeal.nD Cert.KUpIdeal.τ).loc Cert.KUpIdeal.main_arg2)) (m ((c.tc : Thread Cert.KUpIdeal.nD Cert.KUpIdeal.τ).loc Cert.KUpIdeal.main_arg3)) (m ((c.tc : Thread Cert.KUpIdeal.nD Cert.KUpIdeal.τ).loc Cert.KUpIdeal.main_arg4)) (m ((c.tc : Thread Cert.KUpIdeal.nD Cert.KUpIdeal.τ).loc Cert.KUpIdeal.main_arg5))) = (fun _ => 1#1)

def Pre_RUpIdeal (m : (ℓ : Loc Cert.RUpIdeal.nD Cert.RUpIdeal.τ Cert.RUpIdeal.sig) → Buf (Elt Ideal) ℓ) : Prop :=
  True

def Pre_RUpIdeal_finite_up [hPre_finite_up : Cert.Pre_finite_up.Facts] (m : (ℓ : Loc Cert.RUpIdeal.nD Cert.RUpIdeal.τ Cert.RUpIdeal.sig) → Buf (Elt Ideal) ℓ) : Prop :=
  ∀ c : Dev Cert.RUpIdeal.nD,
    (Cert.Pre_finite_up.fn (F := Ideal) (m ((c.tc : Thread Cert.RUpIdeal.nD Cert.RUpIdeal.τ).loc Cert.RUpIdeal.main_arg0)) (m ((c.tc : Thread Cert.RUpIdeal.nD Cert.RUpIdeal.τ).loc Cert.RUpIdeal.main_arg1)) (m ((c.tc : Thread Cert.RUpIdeal.nD Cert.RUpIdeal.τ).loc Cert.RUpIdeal.main_arg2)) (m ((c.tc : Thread Cert.RUpIdeal.nD Cert.RUpIdeal.τ).loc Cert.RUpIdeal.main_arg3)) (m ((c.tc : Thread Cert.RUpIdeal.nD Cert.RUpIdeal.τ).loc Cert.RUpIdeal.main_arg4)) (m ((c.tc : Thread Cert.RUpIdeal.nD Cert.RUpIdeal.τ).loc Cert.RUpIdeal.main_arg5))) = (fun _ => 1#1)

def Pre_KMup (m : (ℓ : Loc Cert.KMup.nD Cert.KMup.τ Cert.KMup.sig) → Buf (Elt Bits) ℓ) : Prop :=
  True

def Pre_KMupIdeal (m : (ℓ : Loc Cert.KMupIdeal.nD Cert.KMupIdeal.τ Cert.KMupIdeal.sig) → Buf (Elt Ideal) ℓ) : Prop :=
  True

def Pre_RMupIdeal (m : (ℓ : Loc Cert.RMupIdeal.nD Cert.RMupIdeal.τ Cert.RMupIdeal.sig) → Buf (Elt Ideal) ℓ) : Prop :=
  True

def Pre_KMdown (m : (ℓ : Loc Cert.KMdown.nD Cert.KMdown.τ Cert.KMdown.sig) → Buf (Elt Bits) ℓ) : Prop :=
  True

def Pre_KMdownIdeal (m : (ℓ : Loc Cert.KMdownIdeal.nD Cert.KMdownIdeal.τ Cert.KMdownIdeal.sig) → Buf (Elt Ideal) ℓ) : Prop :=
  True

def Pre_RMdownIdeal (m : (ℓ : Loc Cert.RMdownIdeal.nD Cert.RMdownIdeal.τ Cert.RMdownIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KBo (m : (ℓ : Loc Cert.KBo.nD Cert.KBo.τ Cert.KBo.sig) → Buf (Elt Bits) ℓ) : Prop :=
  True

def Pre_KBoIdeal (m : (ℓ : Loc Cert.KBoIdeal.nD Cert.KBoIdeal.τ Cert.KBoIdeal.sig) → Buf (Elt Ideal) ℓ) : Prop :=
  True

def Pre_RBoIdeal (m : (ℓ : Loc Cert.RBoIdeal.nD Cert.RBoIdeal.τ Cert.RBoIdeal.sig) → Buf (Elt Ideal) ℓ) : Prop :=
  True

def Pre_KDwo (m : (ℓ : Loc Cert.KDwo.nD Cert.KDwo.τ Cert.KDwo.sig) → Buf (Elt Bits) ℓ) : Prop :=
  True

def Pre_KDwoIdeal (m : (ℓ : Loc Cert.KDwoIdeal.nD Cert.KDwoIdeal.τ Cert.KDwoIdeal.sig) → Buf (Elt Ideal) ℓ) : Prop :=
  True

def Pre_RDwoIdeal (m : (ℓ : Loc Cert.RDwoIdeal.nD Cert.RDwoIdeal.τ Cert.RDwoIdeal.sig) → Buf (Elt Ideal) ℓ) : Prop :=
  True

def Pre_KSdo (m : (ℓ : Loc Cert.KSdo.nD Cert.KSdo.τ Cert.KSdo.sig) → Buf (Elt Bits) ℓ) : Prop :=
  True

def Pre_KSdoIdeal (m : (ℓ : Loc Cert.KSdoIdeal.nD Cert.KSdoIdeal.τ Cert.KSdoIdeal.sig) → Buf (Elt Ideal) ℓ) : Prop :=
  True

def Pre_RSdoIdeal (m : (ℓ : Loc Cert.RSdoIdeal.nD Cert.RSdoIdeal.τ Cert.RSdoIdeal.sig) → Buf (Elt Ideal) ℓ) : Prop :=
  True

def Pre_KSdi (m : (ℓ : Loc Cert.KSdi.nD Cert.KSdi.τ Cert.KSdi.sig) → Buf (Elt Bits) ℓ) : Prop :=
  True

def Pre_KSdiIdeal (m : (ℓ : Loc Cert.KSdiIdeal.nD Cert.KSdiIdeal.τ Cert.KSdiIdeal.sig) → Buf (Elt Ideal) ℓ) : Prop :=
  True

def Pre_RSdiIdeal (m : (ℓ : Loc Cert.RSdiIdeal.nD Cert.RSdiIdeal.τ Cert.RSdiIdeal.sig) → Buf (Elt Ideal) ℓ) : Prop :=
  True

def Pre_KDwq (m : (ℓ : Loc Cert.KDwq.nD Cert.KDwq.τ Cert.KDwq.sig) → Buf (Elt Bits) ℓ) : Prop :=
  True

def Pre_KDwqIdeal (m : (ℓ : Loc Cert.KDwqIdeal.nD Cert.KDwqIdeal.τ Cert.KDwqIdeal.sig) → Buf (Elt Ideal) ℓ) : Prop :=
  True

def Pre_RDwqIdeal (m : (ℓ : Loc Cert.RDwqIdeal.nD Cert.RDwqIdeal.τ Cert.RDwqIdeal.sig) → Buf (Elt Ideal) ℓ) : Prop :=
  True

def Pre_KDwk (m : (ℓ : Loc Cert.KDwk.nD Cert.KDwk.τ Cert.KDwk.sig) → Buf (Elt Bits) ℓ) : Prop :=
  True

def Pre_KDwkIdeal (m : (ℓ : Loc Cert.KDwkIdeal.nD Cert.KDwkIdeal.τ Cert.KDwkIdeal.sig) → Buf (Elt Ideal) ℓ) : Prop :=
  True

def Pre_RDwkIdeal (m : (ℓ : Loc Cert.RDwkIdeal.nD Cert.RDwkIdeal.τ Cert.RDwkIdeal.sig) → Buf (Elt Ideal) ℓ) : Prop :=
  True

def Pre_KDwd (m : (ℓ : Loc Cert.KDwd.nD Cert.KDwd.τ Cert.KDwd.sig) → Buf (Elt Bits) ℓ) : Prop :=
  True

def Pre_KDwdIdeal (m : (ℓ : Loc Cert.KDwdIdeal.nD Cert.KDwdIdeal.τ Cert.KDwdIdeal.sig) → Buf (Elt Ideal) ℓ) : Prop :=
  True

def Pre_RDwdIdeal (m : (ℓ : Loc Cert.RDwdIdeal.nD Cert.RDwdIdeal.τ Cert.RDwdIdeal.sig) → Buf (Elt Ideal) ℓ) : Prop :=
  True

def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_KAttnIdeal_finite_attn [hPre_finite_attn : Cert.Pre_finite_attn.Facts] (m : (ℓ : Loc Cert.KAttnIdeal.nD Cert.KAttnIdeal.τ Cert.KAttnIdeal.sig) → Buf (Elt Ideal) ℓ) : Prop :=
  ∀ c : Dev Cert.KAttnIdeal.nD,
    (Cert.Pre_finite_attn.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2))) = (fun _ => 1#1)

def Pre_RAttnIdeal (m : (ℓ : Loc Cert.RAttnIdeal.nD Cert.RAttnIdeal.τ Cert.RAttnIdeal.sig) → Buf (Elt Ideal) ℓ) : Prop :=
  True

def Pre_RAttnIdeal_finite_attn [hPre_finite_attn : Cert.Pre_finite_attn.Facts] (m : (ℓ : Loc Cert.RAttnIdeal.nD Cert.RAttnIdeal.τ Cert.RAttnIdeal.sig) → Buf (Elt Ideal) ℓ) : Prop :=
  ∀ c : Dev Cert.RAttnIdeal.nD,
    (Cert.Pre_finite_attn.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2))) = (fun _ => 1#1)

def Pre_KLat (m : (ℓ : Loc Cert.KLat.nD Cert.KLat.τ Cert.KLat.sig) → Buf (Elt Bits) ℓ) : Prop :=
  True

def Pre_KLatIdeal (m : (ℓ : Loc Cert.KLatIdeal.nD Cert.KLatIdeal.τ Cert.KLatIdeal.sig) → Buf (Elt Ideal) ℓ) : Prop :=
  True

def Pre_RLatIdeal (m : (ℓ : Loc Cert.RLatIdeal.nD Cert.RLatIdeal.τ Cert.RLatIdeal.sig) → Buf (Elt Ideal) ℓ) : Prop :=
  True

def Pre_KQkv (m : (ℓ : Loc Cert.KQkv.nD Cert.KQkv.τ Cert.KQkv.sig) → Buf (Elt Bits) ℓ) : Prop :=
  True

def Pre_KQkvIdeal (m : (ℓ : Loc Cert.KQkvIdeal.nD Cert.KQkvIdeal.τ Cert.KQkvIdeal.sig) → Buf (Elt Ideal) ℓ) : Prop :=
  True

def Pre_RQkvIdeal (m : (ℓ : Loc Cert.RQkvIdeal.nD Cert.RQkvIdeal.τ Cert.RQkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def quiescent_KDw2 [hKDw2 : Cert.KDw2.Facts] : Prop :=
  ∀ (m : (ℓ : Loc Cert.KDw2.nD Cert.KDw2.τ Cert.KDw2.sig) → Buf (Elt Bits) ℓ) (g : Dev Cert.KDw2.nD → PrngReg), Pre_KDw2 m →
    θ_run (Cert.KDw2.defs (F := Bits)) (onTc (τ := Cert.KDw2.τ) (Cert.KDw2.main (F := Bits))) ⟨m, fun _ => 0, g⟩ (fun r => (∀ c : Dev Cert.KDw2.nD,
      r.2.mem ((c.tc : Thread Cert.KDw2.nD Cert.KDw2.τ).loc Cert.KDw2.main_arg0) = m ((c.tc : Thread Cert.KDw2.nD Cert.KDw2.τ).loc Cert.KDw2.main_arg0)
      ∧ r.2.mem ((c.tc : Thread Cert.KDw2.nD Cert.KDw2.τ).loc Cert.KDw2.main_arg1) = m ((c.tc : Thread Cert.KDw2.nD Cert.KDw2.τ).loc Cert.KDw2.main_arg1))
      ∧ r.2.sem = fun _ => 0)

def quiescent_KDw2Ideal [hKDw2Ideal : Cert.KDw2Ideal.Facts] : Prop :=
  ∀ (m : (ℓ : Loc Cert.KDw2Ideal.nD Cert.KDw2Ideal.τ Cert.KDw2Ideal.sig) → Buf (Elt Ideal) ℓ) (g : Dev Cert.KDw2Ideal.nD → PrngReg), Pre_KDw2Ideal m →
    θ_run (Cert.KDw2Ideal.defs (F := Ideal)) (onTc (τ := Cert.KDw2Ideal.τ) (Cert.KDw2Ideal.main (F := Ideal))) ⟨m, fun _ => 0, g⟩ (fun r => (∀ c : Dev Cert.KDw2Ideal.nD,
      r.2.mem ((c.tc : Thread Cert.KDw2Ideal.nD Cert.KDw2Ideal.τ).loc Cert.KDw2Ideal.main_arg0) = m ((c.tc : Thread Cert.KDw2Ideal.nD Cert.KDw2Ideal.τ).loc Cert.KDw2Ideal.main_arg0)
      ∧ r.2.mem ((c.tc : Thread Cert.KDw2Ideal.nD Cert.KDw2Ideal.τ).loc Cert.KDw2Ideal.main_arg1) = m ((c.tc : Thread Cert.KDw2Ideal.nD Cert.KDw2Ideal.τ).loc Cert.KDw2Ideal.main_arg1))
      ∧ r.2.sem = fun _ => 0)

def quiescent_RDw2Ideal [hRDw2Ideal : Cert.RDw2Ideal.Facts] : Prop :=
  ∀ (m : (ℓ : Loc Cert.RDw2Ideal.nD Cert.RDw2Ideal.τ Cert.RDw2Ideal.sig) → Buf (Elt Ideal) ℓ) (g : Dev Cert.RDw2Ideal.nD → PrngReg), Pre_RDw2Ideal m →
    θ_run (Cert.RDw2Ideal.defs (F := Ideal)) (onTc (τ := Cert.RDw2Ideal.τ) (Cert.RDw2Ideal.main (F := Ideal))) ⟨m, fun _ => 0, g⟩ (fun r => (∀ c : Dev Cert.RDw2Ideal.nD,
      r.2.mem ((c.tc : Thread Cert.RDw2Ideal.nD Cert.RDw2Ideal.τ).loc Cert.RDw2Ideal.main_arg0) = m ((c.tc : Thread Cert.RDw2Ideal.nD Cert.RDw2Ideal.τ).loc Cert.RDw2Ideal.main_arg0)
      ∧ r.2.mem ((c.tc : Thread Cert.RDw2Ideal.nD Cert.RDw2Ideal.τ).loc Cert.RDw2Ideal.main_arg1) = m ((c.tc : Thread Cert.RDw2Ideal.nD Cert.RDw2Ideal.τ).loc Cert.RDw2Ideal.main_arg1))
      ∧ r.2.sem = fun _ => 0)

def quiescent_KDw1 [hKDw1 : Cert.KDw1.Facts] : Prop :=
  ∀ (m : (ℓ : Loc Cert.KDw1.nD Cert.KDw1.τ Cert.KDw1.sig) → Buf (Elt Bits) ℓ) (g : Dev Cert.KDw1.nD → PrngReg), Pre_KDw1 m →
    θ_run (Cert.KDw1.defs (F := Bits)) (onTc (τ := Cert.KDw1.τ) (Cert.KDw1.main (F := Bits))) ⟨m, fun _ => 0, g⟩ (fun r => (∀ c : Dev Cert.KDw1.nD,
      r.2.mem ((c.tc : Thread Cert.KDw1.nD Cert.KDw1.τ).loc Cert.KDw1.main_arg0) = m ((c.tc : Thread Cert.KDw1.nD Cert.KDw1.τ).loc Cert.KDw1.main_arg0)
      ∧ r.2.mem ((c.tc : Thread Cert.KDw1.nD Cert.KDw1.τ).loc Cert.KDw1.main_arg1) = m ((c.tc : Thread Cert.KDw1.nD Cert.KDw1.τ).loc Cert.KDw1.main_arg1))
      ∧ r.2.sem = fun _ => 0)

def quiescent_KDw1Ideal [hKDw1Ideal : Cert.KDw1Ideal.Facts] : Prop :=
  ∀ (m : (ℓ : Loc Cert.KDw1Ideal.nD Cert.KDw1Ideal.τ Cert.KDw1Ideal.sig) → Buf (Elt Ideal) ℓ) (g : Dev Cert.KDw1Ideal.nD → PrngReg), Pre_KDw1Ideal m →
    θ_run (Cert.KDw1Ideal.defs (F := Ideal)) (onTc (τ := Cert.KDw1Ideal.τ) (Cert.KDw1Ideal.main (F := Ideal))) ⟨m, fun _ => 0, g⟩ (fun r => (∀ c : Dev Cert.KDw1Ideal.nD,
      r.2.mem ((c.tc : Thread Cert.KDw1Ideal.nD Cert.KDw1Ideal.τ).loc Cert.KDw1Ideal.main_arg0) = m ((c.tc : Thread Cert.KDw1Ideal.nD Cert.KDw1Ideal.τ).loc Cert.KDw1Ideal.main_arg0)
      ∧ r.2.mem ((c.tc : Thread Cert.KDw1Ideal.nD Cert.KDw1Ideal.τ).loc Cert.KDw1Ideal.main_arg1) = m ((c.tc : Thread Cert.KDw1Ideal.nD Cert.KDw1Ideal.τ).loc Cert.KDw1Ideal.main_arg1))
      ∧ r.2.sem = fun _ => 0)

def quiescent_RDw1Ideal [hRDw1Ideal : Cert.RDw1Ideal.Facts] : Prop :=
  ∀ (m : (ℓ : Loc Cert.RDw1Ideal.nD Cert.RDw1Ideal.τ Cert.RDw1Ideal.sig) → Buf (Elt Ideal) ℓ) (g : Dev Cert.RDw1Ideal.nD → PrngReg), Pre_RDw1Ideal m →
    θ_run (Cert.RDw1Ideal.defs (F := Ideal)) (onTc (τ := Cert.RDw1Ideal.τ) (Cert.RDw1Ideal.main (F := Ideal))) ⟨m, fun _ => 0, g⟩ (fun r => (∀ c : Dev Cert.RDw1Ideal.nD,
      r.2.mem ((c.tc : Thread Cert.RDw1Ideal.nD Cert.RDw1Ideal.τ).loc Cert.RDw1Ideal.main_arg0) = m ((c.tc : Thread Cert.RDw1Ideal.nD Cert.RDw1Ideal.τ).loc Cert.RDw1Ideal.main_arg0)
      ∧ r.2.mem ((c.tc : Thread Cert.RDw1Ideal.nD Cert.RDw1Ideal.τ).loc Cert.RDw1Ideal.main_arg1) = m ((c.tc : Thread Cert.RDw1Ideal.nD Cert.RDw1Ideal.τ).loc Cert.RDw1Ideal.main_arg1))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2)
      ∧ r.2.mem ((c.tc : Thread Cert.KUp.nD Cert.KUp.τ).loc Cert.KUp.main_arg3) = m ((c.tc : Thread Cert.KUp.nD Cert.KUp.τ).loc Cert.KUp.main_arg3)
      ∧ r.2.mem ((c.tc : Thread Cert.KUp.nD Cert.KUp.τ).loc Cert.KUp.main_arg4) = m ((c.tc : Thread Cert.KUp.nD Cert.KUp.τ).loc Cert.KUp.main_arg4)
      ∧ r.2.mem ((c.tc : Thread Cert.KUp.nD Cert.KUp.τ).loc Cert.KUp.main_arg5) = m ((c.tc : Thread Cert.KUp.nD Cert.KUp.τ).loc Cert.KUp.main_arg5))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3)
      ∧ r.2.mem ((c.tc : Thread Cert.KUpIdeal.nD Cert.KUpIdeal.τ).loc Cert.KUpIdeal.main_arg4) = m ((c.tc : Thread Cert.KUpIdeal.nD Cert.KUpIdeal.τ).loc Cert.KUpIdeal.main_arg4)
      ∧ r.2.mem ((c.tc : Thread Cert.KUpIdeal.nD Cert.KUpIdeal.τ).loc Cert.KUpIdeal.main_arg5) = m ((c.tc : Thread Cert.KUpIdeal.nD Cert.KUpIdeal.τ).loc Cert.KUpIdeal.main_arg5))
      ∧ r.2.sem = fun _ => 0)

def quiescent_KUpIdeal_pre_finite_up [hKUpIdeal : Cert.KUpIdeal.Facts] [hPre_finite_up : Cert.Pre_finite_up.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal_finite_up m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3)
      ∧ r.2.mem ((c.tc : Thread Cert.KUpIdeal.nD Cert.KUpIdeal.τ).loc Cert.KUpIdeal.main_arg4) = m ((c.tc : Thread Cert.KUpIdeal.nD Cert.KUpIdeal.τ).loc Cert.KUpIdeal.main_arg4)
      ∧ r.2.mem ((c.tc : Thread Cert.KUpIdeal.nD Cert.KUpIdeal.τ).loc Cert.KUpIdeal.main_arg5) = m ((c.tc : Thread Cert.KUpIdeal.nD Cert.KUpIdeal.τ).loc Cert.KUpIdeal.main_arg5))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3)
      ∧ r.2.mem ((c.tc : Thread Cert.RUpIdeal.nD Cert.RUpIdeal.τ).loc Cert.RUpIdeal.main_arg4) = m ((c.tc : Thread Cert.RUpIdeal.nD Cert.RUpIdeal.τ).loc Cert.RUpIdeal.main_arg4)
      ∧ r.2.mem ((c.tc : Thread Cert.RUpIdeal.nD Cert.RUpIdeal.τ).loc Cert.RUpIdeal.main_arg5) = m ((c.tc : Thread Cert.RUpIdeal.nD Cert.RUpIdeal.τ).loc Cert.RUpIdeal.main_arg5))
      ∧ r.2.sem = fun _ => 0)

def quiescent_RUpIdeal_pre_finite_up [hRUpIdeal : Cert.RUpIdeal.Facts] [hPre_finite_up : Cert.Pre_finite_up.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal_finite_up m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3)
      ∧ r.2.mem ((c.tc : Thread Cert.RUpIdeal.nD Cert.RUpIdeal.τ).loc Cert.RUpIdeal.main_arg4) = m ((c.tc : Thread Cert.RUpIdeal.nD Cert.RUpIdeal.τ).loc Cert.RUpIdeal.main_arg4)
      ∧ r.2.mem ((c.tc : Thread Cert.RUpIdeal.nD Cert.RUpIdeal.τ).loc Cert.RUpIdeal.main_arg5) = m ((c.tc : Thread Cert.RUpIdeal.nD Cert.RUpIdeal.τ).loc Cert.RUpIdeal.main_arg5))
      ∧ r.2.sem = fun _ => 0)

def quiescent_KMup [hKMup : Cert.KMup.Facts] : Prop :=
  ∀ (m : (ℓ : Loc Cert.KMup.nD Cert.KMup.τ Cert.KMup.sig) → Buf (Elt Bits) ℓ) (g : Dev Cert.KMup.nD → PrngReg), Pre_KMup m →
    θ_run (Cert.KMup.defs (F := Bits)) (onTc (τ := Cert.KMup.τ) (Cert.KMup.main (F := Bits))) ⟨m, fun _ => 0, g⟩ (fun r => (∀ c : Dev Cert.KMup.nD,
      r.2.mem ((c.tc : Thread Cert.KMup.nD Cert.KMup.τ).loc Cert.KMup.main_arg0) = m ((c.tc : Thread Cert.KMup.nD Cert.KMup.τ).loc Cert.KMup.main_arg0)
      ∧ r.2.mem ((c.tc : Thread Cert.KMup.nD Cert.KMup.τ).loc Cert.KMup.main_arg1) = m ((c.tc : Thread Cert.KMup.nD Cert.KMup.τ).loc Cert.KMup.main_arg1)
      ∧ r.2.mem ((c.tc : Thread Cert.KMup.nD Cert.KMup.τ).loc Cert.KMup.main_arg2) = m ((c.tc : Thread Cert.KMup.nD Cert.KMup.τ).loc Cert.KMup.main_arg2)
      ∧ r.2.mem ((c.tc : Thread Cert.KMup.nD Cert.KMup.τ).loc Cert.KMup.main_arg3) = m ((c.tc : Thread Cert.KMup.nD Cert.KMup.τ).loc Cert.KMup.main_arg3))
      ∧ r.2.sem = fun _ => 0)

def quiescent_KMupIdeal [hKMupIdeal : Cert.KMupIdeal.Facts] : Prop :=
  ∀ (m : (ℓ : Loc Cert.KMupIdeal.nD Cert.KMupIdeal.τ Cert.KMupIdeal.sig) → Buf (Elt Ideal) ℓ) (g : Dev Cert.KMupIdeal.nD → PrngReg), Pre_KMupIdeal m →
    θ_run (Cert.KMupIdeal.defs (F := Ideal)) (onTc (τ := Cert.KMupIdeal.τ) (Cert.KMupIdeal.main (F := Ideal))) ⟨m, fun _ => 0, g⟩ (fun r => (∀ c : Dev Cert.KMupIdeal.nD,
      r.2.mem ((c.tc : Thread Cert.KMupIdeal.nD Cert.KMupIdeal.τ).loc Cert.KMupIdeal.main_arg0) = m ((c.tc : Thread Cert.KMupIdeal.nD Cert.KMupIdeal.τ).loc Cert.KMupIdeal.main_arg0)
      ∧ r.2.mem ((c.tc : Thread Cert.KMupIdeal.nD Cert.KMupIdeal.τ).loc Cert.KMupIdeal.main_arg1) = m ((c.tc : Thread Cert.KMupIdeal.nD Cert.KMupIdeal.τ).loc Cert.KMupIdeal.main_arg1)
      ∧ r.2.mem ((c.tc : Thread Cert.KMupIdeal.nD Cert.KMupIdeal.τ).loc Cert.KMupIdeal.main_arg2) = m ((c.tc : Thread Cert.KMupIdeal.nD Cert.KMupIdeal.τ).loc Cert.KMupIdeal.main_arg2)
      ∧ r.2.mem ((c.tc : Thread Cert.KMupIdeal.nD Cert.KMupIdeal.τ).loc Cert.KMupIdeal.main_arg3) = m ((c.tc : Thread Cert.KMupIdeal.nD Cert.KMupIdeal.τ).loc Cert.KMupIdeal.main_arg3))
      ∧ r.2.sem = fun _ => 0)

def quiescent_RMupIdeal [hRMupIdeal : Cert.RMupIdeal.Facts] : Prop :=
  ∀ (m : (ℓ : Loc Cert.RMupIdeal.nD Cert.RMupIdeal.τ Cert.RMupIdeal.sig) → Buf (Elt Ideal) ℓ) (g : Dev Cert.RMupIdeal.nD → PrngReg), Pre_RMupIdeal m →
    θ_run (Cert.RMupIdeal.defs (F := Ideal)) (onTc (τ := Cert.RMupIdeal.τ) (Cert.RMupIdeal.main (F := Ideal))) ⟨m, fun _ => 0, g⟩ (fun r => (∀ c : Dev Cert.RMupIdeal.nD,
      r.2.mem ((c.tc : Thread Cert.RMupIdeal.nD Cert.RMupIdeal.τ).loc Cert.RMupIdeal.main_arg0) = m ((c.tc : Thread Cert.RMupIdeal.nD Cert.RMupIdeal.τ).loc Cert.RMupIdeal.main_arg0)
      ∧ r.2.mem ((c.tc : Thread Cert.RMupIdeal.nD Cert.RMupIdeal.τ).loc Cert.RMupIdeal.main_arg1) = m ((c.tc : Thread Cert.RMupIdeal.nD Cert.RMupIdeal.τ).loc Cert.RMupIdeal.main_arg1)
      ∧ r.2.mem ((c.tc : Thread Cert.RMupIdeal.nD Cert.RMupIdeal.τ).loc Cert.RMupIdeal.main_arg2) = m ((c.tc : Thread Cert.RMupIdeal.nD Cert.RMupIdeal.τ).loc Cert.RMupIdeal.main_arg2)
      ∧ r.2.mem ((c.tc : Thread Cert.RMupIdeal.nD Cert.RMupIdeal.τ).loc Cert.RMupIdeal.main_arg3) = m ((c.tc : Thread Cert.RMupIdeal.nD Cert.RMupIdeal.τ).loc Cert.RMupIdeal.main_arg3))
      ∧ r.2.sem = fun _ => 0)

def quiescent_KMdown [hKMdown : Cert.KMdown.Facts] : Prop :=
  ∀ (m : (ℓ : Loc Cert.KMdown.nD Cert.KMdown.τ Cert.KMdown.sig) → Buf (Elt Bits) ℓ) (g : Dev Cert.KMdown.nD → PrngReg), Pre_KMdown m →
    θ_run (Cert.KMdown.defs (F := Bits)) (onTc (τ := Cert.KMdown.τ) (Cert.KMdown.main (F := Bits))) ⟨m, fun _ => 0, g⟩ (fun r => (∀ c : Dev Cert.KMdown.nD,
      r.2.mem ((c.tc : Thread Cert.KMdown.nD Cert.KMdown.τ).loc Cert.KMdown.main_arg0) = m ((c.tc : Thread Cert.KMdown.nD Cert.KMdown.τ).loc Cert.KMdown.main_arg0)
      ∧ r.2.mem ((c.tc : Thread Cert.KMdown.nD Cert.KMdown.τ).loc Cert.KMdown.main_arg1) = m ((c.tc : Thread Cert.KMdown.nD Cert.KMdown.τ).loc Cert.KMdown.main_arg1)
      ∧ r.2.mem ((c.tc : Thread Cert.KMdown.nD Cert.KMdown.τ).loc Cert.KMdown.main_arg2) = m ((c.tc : Thread Cert.KMdown.nD Cert.KMdown.τ).loc Cert.KMdown.main_arg2)
      ∧ r.2.mem ((c.tc : Thread Cert.KMdown.nD Cert.KMdown.τ).loc Cert.KMdown.main_arg3) = m ((c.tc : Thread Cert.KMdown.nD Cert.KMdown.τ).loc Cert.KMdown.main_arg3))
      ∧ r.2.sem = fun _ => 0)

def quiescent_KMdownIdeal [hKMdownIdeal : Cert.KMdownIdeal.Facts] : Prop :=
  ∀ (m : (ℓ : Loc Cert.KMdownIdeal.nD Cert.KMdownIdeal.τ Cert.KMdownIdeal.sig) → Buf (Elt Ideal) ℓ) (g : Dev Cert.KMdownIdeal.nD → PrngReg), Pre_KMdownIdeal m →
    θ_run (Cert.KMdownIdeal.defs (F := Ideal)) (onTc (τ := Cert.KMdownIdeal.τ) (Cert.KMdownIdeal.main (F := Ideal))) ⟨m, fun _ => 0, g⟩ (fun r => (∀ c : Dev Cert.KMdownIdeal.nD,
      r.2.mem ((c.tc : Thread Cert.KMdownIdeal.nD Cert.KMdownIdeal.τ).loc Cert.KMdownIdeal.main_arg0) = m ((c.tc : Thread Cert.KMdownIdeal.nD Cert.KMdownIdeal.τ).loc Cert.KMdownIdeal.main_arg0)
      ∧ r.2.mem ((c.tc : Thread Cert.KMdownIdeal.nD Cert.KMdownIdeal.τ).loc Cert.KMdownIdeal.main_arg1) = m ((c.tc : Thread Cert.KMdownIdeal.nD Cert.KMdownIdeal.τ).loc Cert.KMdownIdeal.main_arg1)
      ∧ r.2.mem ((c.tc : Thread Cert.KMdownIdeal.nD Cert.KMdownIdeal.τ).loc Cert.KMdownIdeal.main_arg2) = m ((c.tc : Thread Cert.KMdownIdeal.nD Cert.KMdownIdeal.τ).loc Cert.KMdownIdeal.main_arg2)
      ∧ r.2.mem ((c.tc : Thread Cert.KMdownIdeal.nD Cert.KMdownIdeal.τ).loc Cert.KMdownIdeal.main_arg3) = m ((c.tc : Thread Cert.KMdownIdeal.nD Cert.KMdownIdeal.τ).loc Cert.KMdownIdeal.main_arg3))
      ∧ r.2.sem = fun _ => 0)

def quiescent_RMdownIdeal [hRMdownIdeal : Cert.RMdownIdeal.Facts] : Prop :=
  ∀ (m : (ℓ : Loc Cert.RMdownIdeal.nD Cert.RMdownIdeal.τ Cert.RMdownIdeal.sig) → Buf (Elt Ideal) ℓ) (g : Dev Cert.RMdownIdeal.nD → PrngReg), Pre_RMdownIdeal m →
    θ_run (Cert.RMdownIdeal.defs (F := Ideal)) (onTc (τ := Cert.RMdownIdeal.τ) (Cert.RMdownIdeal.main (F := Ideal))) ⟨m, fun _ => 0, g⟩ (fun r => (∀ c : Dev Cert.RMdownIdeal.nD,
      r.2.mem ((c.tc : Thread Cert.RMdownIdeal.nD Cert.RMdownIdeal.τ).loc Cert.RMdownIdeal.main_arg0) = m ((c.tc : Thread Cert.RMdownIdeal.nD Cert.RMdownIdeal.τ).loc Cert.RMdownIdeal.main_arg0)
      ∧ r.2.mem ((c.tc : Thread Cert.RMdownIdeal.nD Cert.RMdownIdeal.τ).loc Cert.RMdownIdeal.main_arg1) = m ((c.tc : Thread Cert.RMdownIdeal.nD Cert.RMdownIdeal.τ).loc Cert.RMdownIdeal.main_arg1)
      ∧ r.2.mem ((c.tc : Thread Cert.RMdownIdeal.nD Cert.RMdownIdeal.τ).loc Cert.RMdownIdeal.main_arg2) = m ((c.tc : Thread Cert.RMdownIdeal.nD Cert.RMdownIdeal.τ).loc Cert.RMdownIdeal.main_arg2)
      ∧ r.2.mem ((c.tc : Thread Cert.RMdownIdeal.nD Cert.RMdownIdeal.τ).loc Cert.RMdownIdeal.main_arg3) = m ((c.tc : Thread Cert.RMdownIdeal.nD Cert.RMdownIdeal.τ).loc Cert.RMdownIdeal.main_arg3))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3))
      ∧ r.2.sem = fun _ => 0)

def quiescent_KBo [hKBo : Cert.KBo.Facts] : Prop :=
  ∀ (m : (ℓ : Loc Cert.KBo.nD Cert.KBo.τ Cert.KBo.sig) → Buf (Elt Bits) ℓ) (g : Dev Cert.KBo.nD → PrngReg), Pre_KBo m →
    θ_run (Cert.KBo.defs (F := Bits)) (onTc (τ := Cert.KBo.τ) (Cert.KBo.main (F := Bits))) ⟨m, fun _ => 0, g⟩ (fun r => (∀ c : Dev Cert.KBo.nD,
      r.2.mem ((c.tc : Thread Cert.KBo.nD Cert.KBo.τ).loc Cert.KBo.main_arg0) = m ((c.tc : Thread Cert.KBo.nD Cert.KBo.τ).loc Cert.KBo.main_arg0)
      ∧ r.2.mem ((c.tc : Thread Cert.KBo.nD Cert.KBo.τ).loc Cert.KBo.main_arg1) = m ((c.tc : Thread Cert.KBo.nD Cert.KBo.τ).loc Cert.KBo.main_arg1)
      ∧ r.2.mem ((c.tc : Thread Cert.KBo.nD Cert.KBo.τ).loc Cert.KBo.main_arg2) = m ((c.tc : Thread Cert.KBo.nD Cert.KBo.τ).loc Cert.KBo.main_arg2)
      ∧ r.2.mem ((c.tc : Thread Cert.KBo.nD Cert.KBo.τ).loc Cert.KBo.main_arg3) = m ((c.tc : Thread Cert.KBo.nD Cert.KBo.τ).loc Cert.KBo.main_arg3))
      ∧ r.2.sem = fun _ => 0)

def quiescent_KBoIdeal [hKBoIdeal : Cert.KBoIdeal.Facts] : Prop :=
  ∀ (m : (ℓ : Loc Cert.KBoIdeal.nD Cert.KBoIdeal.τ Cert.KBoIdeal.sig) → Buf (Elt Ideal) ℓ) (g : Dev Cert.KBoIdeal.nD → PrngReg), Pre_KBoIdeal m →
    θ_run (Cert.KBoIdeal.defs (F := Ideal)) (onTc (τ := Cert.KBoIdeal.τ) (Cert.KBoIdeal.main (F := Ideal))) ⟨m, fun _ => 0, g⟩ (fun r => (∀ c : Dev Cert.KBoIdeal.nD,
      r.2.mem ((c.tc : Thread Cert.KBoIdeal.nD Cert.KBoIdeal.τ).loc Cert.KBoIdeal.main_arg0) = m ((c.tc : Thread Cert.KBoIdeal.nD Cert.KBoIdeal.τ).loc Cert.KBoIdeal.main_arg0)
      ∧ r.2.mem ((c.tc : Thread Cert.KBoIdeal.nD Cert.KBoIdeal.τ).loc Cert.KBoIdeal.main_arg1) = m ((c.tc : Thread Cert.KBoIdeal.nD Cert.KBoIdeal.τ).loc Cert.KBoIdeal.main_arg1)
      ∧ r.2.mem ((c.tc : Thread Cert.KBoIdeal.nD Cert.KBoIdeal.τ).loc Cert.KBoIdeal.main_arg2) = m ((c.tc : Thread Cert.KBoIdeal.nD Cert.KBoIdeal.τ).loc Cert.KBoIdeal.main_arg2)
      ∧ r.2.mem ((c.tc : Thread Cert.KBoIdeal.nD Cert.KBoIdeal.τ).loc Cert.KBoIdeal.main_arg3) = m ((c.tc : Thread Cert.KBoIdeal.nD Cert.KBoIdeal.τ).loc Cert.KBoIdeal.main_arg3))
      ∧ r.2.sem = fun _ => 0)

def quiescent_RBoIdeal [hRBoIdeal : Cert.RBoIdeal.Facts] : Prop :=
  ∀ (m : (ℓ : Loc Cert.RBoIdeal.nD Cert.RBoIdeal.τ Cert.RBoIdeal.sig) → Buf (Elt Ideal) ℓ) (g : Dev Cert.RBoIdeal.nD → PrngReg), Pre_RBoIdeal m →
    θ_run (Cert.RBoIdeal.defs (F := Ideal)) (onTc (τ := Cert.RBoIdeal.τ) (Cert.RBoIdeal.main (F := Ideal))) ⟨m, fun _ => 0, g⟩ (fun r => (∀ c : Dev Cert.RBoIdeal.nD,
      r.2.mem ((c.tc : Thread Cert.RBoIdeal.nD Cert.RBoIdeal.τ).loc Cert.RBoIdeal.main_arg0) = m ((c.tc : Thread Cert.RBoIdeal.nD Cert.RBoIdeal.τ).loc Cert.RBoIdeal.main_arg0)
      ∧ r.2.mem ((c.tc : Thread Cert.RBoIdeal.nD Cert.RBoIdeal.τ).loc Cert.RBoIdeal.main_arg1) = m ((c.tc : Thread Cert.RBoIdeal.nD Cert.RBoIdeal.τ).loc Cert.RBoIdeal.main_arg1)
      ∧ r.2.mem ((c.tc : Thread Cert.RBoIdeal.nD Cert.RBoIdeal.τ).loc Cert.RBoIdeal.main_arg2) = m ((c.tc : Thread Cert.RBoIdeal.nD Cert.RBoIdeal.τ).loc Cert.RBoIdeal.main_arg2)
      ∧ r.2.mem ((c.tc : Thread Cert.RBoIdeal.nD Cert.RBoIdeal.τ).loc Cert.RBoIdeal.main_arg3) = m ((c.tc : Thread Cert.RBoIdeal.nD Cert.RBoIdeal.τ).loc Cert.RBoIdeal.main_arg3))
      ∧ r.2.sem = fun _ => 0)

def quiescent_KDwo [hKDwo : Cert.KDwo.Facts] : Prop :=
  ∀ (m : (ℓ : Loc Cert.KDwo.nD Cert.KDwo.τ Cert.KDwo.sig) → Buf (Elt Bits) ℓ) (g : Dev Cert.KDwo.nD → PrngReg), Pre_KDwo m →
    θ_run (Cert.KDwo.defs (F := Bits)) (onTc (τ := Cert.KDwo.τ) (Cert.KDwo.main (F := Bits))) ⟨m, fun _ => 0, g⟩ (fun r => (∀ c : Dev Cert.KDwo.nD,
      r.2.mem ((c.tc : Thread Cert.KDwo.nD Cert.KDwo.τ).loc Cert.KDwo.main_arg0) = m ((c.tc : Thread Cert.KDwo.nD Cert.KDwo.τ).loc Cert.KDwo.main_arg0)
      ∧ r.2.mem ((c.tc : Thread Cert.KDwo.nD Cert.KDwo.τ).loc Cert.KDwo.main_arg1) = m ((c.tc : Thread Cert.KDwo.nD Cert.KDwo.τ).loc Cert.KDwo.main_arg1))
      ∧ r.2.sem = fun _ => 0)

def quiescent_KDwoIdeal [hKDwoIdeal : Cert.KDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg), Pre_KDwoIdeal m →
    θ_run (Cert.KDwoIdeal.defs (F := Ideal)) (onTc (τ := Cert.KDwoIdeal.τ) (Cert.KDwoIdeal.main (F := Ideal))) ⟨m, fun _ => 0, g⟩ (fun r => (∀ c : Dev Cert.KDwoIdeal.nD,
      r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
      ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ r.2.sem = fun _ => 0)

def quiescent_RDwoIdeal [hRDwoIdeal : Cert.RDwoIdeal.Facts] : Prop :=
  ∀ (m : (ℓ : Loc Cert.RDwoIdeal.nD Cert.RDwoIdeal.τ Cert.RDwoIdeal.sig) → Buf (Elt Ideal) ℓ) (g : Dev Cert.RDwoIdeal.nD → PrngReg), Pre_RDwoIdeal m →
    θ_run (Cert.RDwoIdeal.defs (F := Ideal)) (onTc (τ := Cert.RDwoIdeal.τ) (Cert.RDwoIdeal.main (F := Ideal))) ⟨m, fun _ => 0, g⟩ (fun r => (∀ c : Dev Cert.RDwoIdeal.nD,
      r.2.mem ((c.tc : Thread Cert.RDwoIdeal.nD Cert.RDwoIdeal.τ).loc Cert.RDwoIdeal.main_arg0) = m ((c.tc : Thread Cert.RDwoIdeal.nD Cert.RDwoIdeal.τ).loc Cert.RDwoIdeal.main_arg0)
      ∧ r.2.mem ((c.tc : Thread Cert.RDwoIdeal.nD Cert.RDwoIdeal.τ).loc Cert.RDwoIdeal.main_arg1) = m ((c.tc : Thread Cert.RDwoIdeal.nD Cert.RDwoIdeal.τ).loc Cert.RDwoIdeal.main_arg1))
      ∧ r.2.sem = fun _ => 0)

def quiescent_KSdo [hKSdo : Cert.KSdo.Facts] : Prop :=
  ∀ (m : (ℓ : Loc Cert.KSdo.nD Cert.KSdo.τ Cert.KSdo.sig) → Buf (Elt Bits) ℓ) (g : Dev Cert.KSdo.nD → PrngReg), Pre_KSdo m →
    θ_run (Cert.KSdo.defs (F := Bits)) (onTc (τ := Cert.KSdo.τ) (Cert.KSdo.main (F := Bits))) ⟨m, fun _ => 0, g⟩ (fun r => (∀ c : Dev Cert.KSdo.nD,
      r.2.mem ((c.tc : Thread Cert.KSdo.nD Cert.KSdo.τ).loc Cert.KSdo.main_arg0) = m ((c.tc : Thread Cert.KSdo.nD Cert.KSdo.τ).loc Cert.KSdo.main_arg0)
      ∧ r.2.mem ((c.tc : Thread Cert.KSdo.nD Cert.KSdo.τ).loc Cert.KSdo.main_arg1) = m ((c.tc : Thread Cert.KSdo.nD Cert.KSdo.τ).loc Cert.KSdo.main_arg1))
      ∧ r.2.sem = fun _ => 0)

def quiescent_KSdoIdeal [hKSdoIdeal : Cert.KSdoIdeal.Facts] : Prop :=
  ∀ (m : (ℓ : Loc Cert.KSdoIdeal.nD Cert.KSdoIdeal.τ Cert.KSdoIdeal.sig) → Buf (Elt Ideal) ℓ) (g : Dev Cert.KSdoIdeal.nD → PrngReg), Pre_KSdoIdeal m →
    θ_run (Cert.KSdoIdeal.defs (F := Ideal)) (onTc (τ := Cert.KSdoIdeal.τ) (Cert.KSdoIdeal.main (F := Ideal))) ⟨m, fun _ => 0, g⟩ (fun r => (∀ c : Dev Cert.KSdoIdeal.nD,
      r.2.mem ((c.tc : Thread Cert.KSdoIdeal.nD Cert.KSdoIdeal.τ).loc Cert.KSdoIdeal.main_arg0) = m ((c.tc : Thread Cert.KSdoIdeal.nD Cert.KSdoIdeal.τ).loc Cert.KSdoIdeal.main_arg0)
      ∧ r.2.mem ((c.tc : Thread Cert.KSdoIdeal.nD Cert.KSdoIdeal.τ).loc Cert.KSdoIdeal.main_arg1) = m ((c.tc : Thread Cert.KSdoIdeal.nD Cert.KSdoIdeal.τ).loc Cert.KSdoIdeal.main_arg1))
      ∧ r.2.sem = fun _ => 0)

def quiescent_RSdoIdeal [hRSdoIdeal : Cert.RSdoIdeal.Facts] : Prop :=
  ∀ (m : (ℓ : Loc Cert.RSdoIdeal.nD Cert.RSdoIdeal.τ Cert.RSdoIdeal.sig) → Buf (Elt Ideal) ℓ) (g : Dev Cert.RSdoIdeal.nD → PrngReg), Pre_RSdoIdeal m →
    θ_run (Cert.RSdoIdeal.defs (F := Ideal)) (onTc (τ := Cert.RSdoIdeal.τ) (Cert.RSdoIdeal.main (F := Ideal))) ⟨m, fun _ => 0, g⟩ (fun r => (∀ c : Dev Cert.RSdoIdeal.nD,
      r.2.mem ((c.tc : Thread Cert.RSdoIdeal.nD Cert.RSdoIdeal.τ).loc Cert.RSdoIdeal.main_arg0) = m ((c.tc : Thread Cert.RSdoIdeal.nD Cert.RSdoIdeal.τ).loc Cert.RSdoIdeal.main_arg0)
      ∧ r.2.mem ((c.tc : Thread Cert.RSdoIdeal.nD Cert.RSdoIdeal.τ).loc Cert.RSdoIdeal.main_arg1) = m ((c.tc : Thread Cert.RSdoIdeal.nD Cert.RSdoIdeal.τ).loc Cert.RSdoIdeal.main_arg1))
      ∧ r.2.sem = fun _ => 0)

def quiescent_KSdi [hKSdi : Cert.KSdi.Facts] : Prop :=
  ∀ (m : (ℓ : Loc Cert.KSdi.nD Cert.KSdi.τ Cert.KSdi.sig) → Buf (Elt Bits) ℓ) (g : Dev Cert.KSdi.nD → PrngReg), Pre_KSdi m →
    θ_run (Cert.KSdi.defs (F := Bits)) (onTc (τ := Cert.KSdi.τ) (Cert.KSdi.main (F := Bits))) ⟨m, fun _ => 0, g⟩ (fun r => (∀ c : Dev Cert.KSdi.nD,
      r.2.mem ((c.tc : Thread Cert.KSdi.nD Cert.KSdi.τ).loc Cert.KSdi.main_arg0) = m ((c.tc : Thread Cert.KSdi.nD Cert.KSdi.τ).loc Cert.KSdi.main_arg0)
      ∧ r.2.mem ((c.tc : Thread Cert.KSdi.nD Cert.KSdi.τ).loc Cert.KSdi.main_arg1) = m ((c.tc : Thread Cert.KSdi.nD Cert.KSdi.τ).loc Cert.KSdi.main_arg1))
      ∧ r.2.sem = fun _ => 0)

def quiescent_KSdiIdeal [hKSdiIdeal : Cert.KSdiIdeal.Facts] : Prop :=
  ∀ (m : (ℓ : Loc Cert.KSdiIdeal.nD Cert.KSdiIdeal.τ Cert.KSdiIdeal.sig) → Buf (Elt Ideal) ℓ) (g : Dev Cert.KSdiIdeal.nD → PrngReg), Pre_KSdiIdeal m →
    θ_run (Cert.KSdiIdeal.defs (F := Ideal)) (onTc (τ := Cert.KSdiIdeal.τ) (Cert.KSdiIdeal.main (F := Ideal))) ⟨m, fun _ => 0, g⟩ (fun r => (∀ c : Dev Cert.KSdiIdeal.nD,
      r.2.mem ((c.tc : Thread Cert.KSdiIdeal.nD Cert.KSdiIdeal.τ).loc Cert.KSdiIdeal.main_arg0) = m ((c.tc : Thread Cert.KSdiIdeal.nD Cert.KSdiIdeal.τ).loc Cert.KSdiIdeal.main_arg0)
      ∧ r.2.mem ((c.tc : Thread Cert.KSdiIdeal.nD Cert.KSdiIdeal.τ).loc Cert.KSdiIdeal.main_arg1) = m ((c.tc : Thread Cert.KSdiIdeal.nD Cert.KSdiIdeal.τ).loc Cert.KSdiIdeal.main_arg1))
      ∧ r.2.sem = fun _ => 0)

def quiescent_RSdiIdeal [hRSdiIdeal : Cert.RSdiIdeal.Facts] : Prop :=
  ∀ (m : (ℓ : Loc Cert.RSdiIdeal.nD Cert.RSdiIdeal.τ Cert.RSdiIdeal.sig) → Buf (Elt Ideal) ℓ) (g : Dev Cert.RSdiIdeal.nD → PrngReg), Pre_RSdiIdeal m →
    θ_run (Cert.RSdiIdeal.defs (F := Ideal)) (onTc (τ := Cert.RSdiIdeal.τ) (Cert.RSdiIdeal.main (F := Ideal))) ⟨m, fun _ => 0, g⟩ (fun r => (∀ c : Dev Cert.RSdiIdeal.nD,
      r.2.mem ((c.tc : Thread Cert.RSdiIdeal.nD Cert.RSdiIdeal.τ).loc Cert.RSdiIdeal.main_arg0) = m ((c.tc : Thread Cert.RSdiIdeal.nD Cert.RSdiIdeal.τ).loc Cert.RSdiIdeal.main_arg0)
      ∧ r.2.mem ((c.tc : Thread Cert.RSdiIdeal.nD Cert.RSdiIdeal.τ).loc Cert.RSdiIdeal.main_arg1) = m ((c.tc : Thread Cert.RSdiIdeal.nD Cert.RSdiIdeal.τ).loc Cert.RSdiIdeal.main_arg1))
      ∧ r.2.sem = fun _ => 0)

def quiescent_KDwq [hKDwq : Cert.KDwq.Facts] : Prop :=
  ∀ (m : (ℓ : Loc Cert.KDwq.nD Cert.KDwq.τ Cert.KDwq.sig) → Buf (Elt Bits) ℓ) (g : Dev Cert.KDwq.nD → PrngReg), Pre_KDwq m →
    θ_run (Cert.KDwq.defs (F := Bits)) (onTc (τ := Cert.KDwq.τ) (Cert.KDwq.main (F := Bits))) ⟨m, fun _ => 0, g⟩ (fun r => (∀ c : Dev Cert.KDwq.nD,
      r.2.mem ((c.tc : Thread Cert.KDwq.nD Cert.KDwq.τ).loc Cert.KDwq.main_arg0) = m ((c.tc : Thread Cert.KDwq.nD Cert.KDwq.τ).loc Cert.KDwq.main_arg0)
      ∧ r.2.mem ((c.tc : Thread Cert.KDwq.nD Cert.KDwq.τ).loc Cert.KDwq.main_arg1) = m ((c.tc : Thread Cert.KDwq.nD Cert.KDwq.τ).loc Cert.KDwq.main_arg1))
      ∧ r.2.sem = fun _ => 0)

def quiescent_KDwqIdeal [hKDwqIdeal : Cert.KDwqIdeal.Facts] : Prop :=
  ∀ (m : (ℓ : Loc Cert.KDwqIdeal.nD Cert.KDwqIdeal.τ Cert.KDwqIdeal.sig) → Buf (Elt Ideal) ℓ) (g : Dev Cert.KDwqIdeal.nD → PrngReg), Pre_KDwqIdeal m →
    θ_run (Cert.KDwqIdeal.defs (F := Ideal)) (onTc (τ := Cert.KDwqIdeal.τ) (Cert.KDwqIdeal.main (F := Ideal))) ⟨m, fun _ => 0, g⟩ (fun r => (∀ c : Dev Cert.KDwqIdeal.nD,
      r.2.mem ((c.tc : Thread Cert.KDwqIdeal.nD Cert.KDwqIdeal.τ).loc Cert.KDwqIdeal.main_arg0) = m ((c.tc : Thread Cert.KDwqIdeal.nD Cert.KDwqIdeal.τ).loc Cert.KDwqIdeal.main_arg0)
      ∧ r.2.mem ((c.tc : Thread Cert.KDwqIdeal.nD Cert.KDwqIdeal.τ).loc Cert.KDwqIdeal.main_arg1) = m ((c.tc : Thread Cert.KDwqIdeal.nD Cert.KDwqIdeal.τ).loc Cert.KDwqIdeal.main_arg1))
      ∧ r.2.sem = fun _ => 0)

def quiescent_RDwqIdeal [hRDwqIdeal : Cert.RDwqIdeal.Facts] : Prop :=
  ∀ (m : (ℓ : Loc Cert.RDwqIdeal.nD Cert.RDwqIdeal.τ Cert.RDwqIdeal.sig) → Buf (Elt Ideal) ℓ) (g : Dev Cert.RDwqIdeal.nD → PrngReg), Pre_RDwqIdeal m →
    θ_run (Cert.RDwqIdeal.defs (F := Ideal)) (onTc (τ := Cert.RDwqIdeal.τ) (Cert.RDwqIdeal.main (F := Ideal))) ⟨m, fun _ => 0, g⟩ (fun r => (∀ c : Dev Cert.RDwqIdeal.nD,
      r.2.mem ((c.tc : Thread Cert.RDwqIdeal.nD Cert.RDwqIdeal.τ).loc Cert.RDwqIdeal.main_arg0) = m ((c.tc : Thread Cert.RDwqIdeal.nD Cert.RDwqIdeal.τ).loc Cert.RDwqIdeal.main_arg0)
      ∧ r.2.mem ((c.tc : Thread Cert.RDwqIdeal.nD Cert.RDwqIdeal.τ).loc Cert.RDwqIdeal.main_arg1) = m ((c.tc : Thread Cert.RDwqIdeal.nD Cert.RDwqIdeal.τ).loc Cert.RDwqIdeal.main_arg1))
      ∧ r.2.sem = fun _ => 0)

def quiescent_KDwk [hKDwk : Cert.KDwk.Facts] : Prop :=
  ∀ (m : (ℓ : Loc Cert.KDwk.nD Cert.KDwk.τ Cert.KDwk.sig) → Buf (Elt Bits) ℓ) (g : Dev Cert.KDwk.nD → PrngReg), Pre_KDwk m →
    θ_run (Cert.KDwk.defs (F := Bits)) (onTc (τ := Cert.KDwk.τ) (Cert.KDwk.main (F := Bits))) ⟨m, fun _ => 0, g⟩ (fun r => (∀ c : Dev Cert.KDwk.nD,
      r.2.mem ((c.tc : Thread Cert.KDwk.nD Cert.KDwk.τ).loc Cert.KDwk.main_arg0) = m ((c.tc : Thread Cert.KDwk.nD Cert.KDwk.τ).loc Cert.KDwk.main_arg0)
      ∧ r.2.mem ((c.tc : Thread Cert.KDwk.nD Cert.KDwk.τ).loc Cert.KDwk.main_arg1) = m ((c.tc : Thread Cert.KDwk.nD Cert.KDwk.τ).loc Cert.KDwk.main_arg1))
      ∧ r.2.sem = fun _ => 0)

def quiescent_KDwkIdeal [hKDwkIdeal : Cert.KDwkIdeal.Facts] : Prop :=
  ∀ (m : (ℓ : Loc Cert.KDwkIdeal.nD Cert.KDwkIdeal.τ Cert.KDwkIdeal.sig) → Buf (Elt Ideal) ℓ) (g : Dev Cert.KDwkIdeal.nD → PrngReg), Pre_KDwkIdeal m →
    θ_run (Cert.KDwkIdeal.defs (F := Ideal)) (onTc (τ := Cert.KDwkIdeal.τ) (Cert.KDwkIdeal.main (F := Ideal))) ⟨m, fun _ => 0, g⟩ (fun r => (∀ c : Dev Cert.KDwkIdeal.nD,
      r.2.mem ((c.tc : Thread Cert.KDwkIdeal.nD Cert.KDwkIdeal.τ).loc Cert.KDwkIdeal.main_arg0) = m ((c.tc : Thread Cert.KDwkIdeal.nD Cert.KDwkIdeal.τ).loc Cert.KDwkIdeal.main_arg0)
      ∧ r.2.mem ((c.tc : Thread Cert.KDwkIdeal.nD Cert.KDwkIdeal.τ).loc Cert.KDwkIdeal.main_arg1) = m ((c.tc : Thread Cert.KDwkIdeal.nD Cert.KDwkIdeal.τ).loc Cert.KDwkIdeal.main_arg1))
      ∧ r.2.sem = fun _ => 0)

def quiescent_RDwkIdeal [hRDwkIdeal : Cert.RDwkIdeal.Facts] : Prop :=
  ∀ (m : (ℓ : Loc Cert.RDwkIdeal.nD Cert.RDwkIdeal.τ Cert.RDwkIdeal.sig) → Buf (Elt Ideal) ℓ) (g : Dev Cert.RDwkIdeal.nD → PrngReg), Pre_RDwkIdeal m →
    θ_run (Cert.RDwkIdeal.defs (F := Ideal)) (onTc (τ := Cert.RDwkIdeal.τ) (Cert.RDwkIdeal.main (F := Ideal))) ⟨m, fun _ => 0, g⟩ (fun r => (∀ c : Dev Cert.RDwkIdeal.nD,
      r.2.mem ((c.tc : Thread Cert.RDwkIdeal.nD Cert.RDwkIdeal.τ).loc Cert.RDwkIdeal.main_arg0) = m ((c.tc : Thread Cert.RDwkIdeal.nD Cert.RDwkIdeal.τ).loc Cert.RDwkIdeal.main_arg0)
      ∧ r.2.mem ((c.tc : Thread Cert.RDwkIdeal.nD Cert.RDwkIdeal.τ).loc Cert.RDwkIdeal.main_arg1) = m ((c.tc : Thread Cert.RDwkIdeal.nD Cert.RDwkIdeal.τ).loc Cert.RDwkIdeal.main_arg1))
      ∧ r.2.sem = fun _ => 0)

def quiescent_KDwd [hKDwd : Cert.KDwd.Facts] : Prop :=
  ∀ (m : (ℓ : Loc Cert.KDwd.nD Cert.KDwd.τ Cert.KDwd.sig) → Buf (Elt Bits) ℓ) (g : Dev Cert.KDwd.nD → PrngReg), Pre_KDwd m →
    θ_run (Cert.KDwd.defs (F := Bits)) (onTc (τ := Cert.KDwd.τ) (Cert.KDwd.main (F := Bits))) ⟨m, fun _ => 0, g⟩ (fun r => (∀ c : Dev Cert.KDwd.nD,
      r.2.mem ((c.tc : Thread Cert.KDwd.nD Cert.KDwd.τ).loc Cert.KDwd.main_arg0) = m ((c.tc : Thread Cert.KDwd.nD Cert.KDwd.τ).loc Cert.KDwd.main_arg0)
      ∧ r.2.mem ((c.tc : Thread Cert.KDwd.nD Cert.KDwd.τ).loc Cert.KDwd.main_arg1) = m ((c.tc : Thread Cert.KDwd.nD Cert.KDwd.τ).loc Cert.KDwd.main_arg1))
      ∧ r.2.sem = fun _ => 0)

def quiescent_KDwdIdeal [hKDwdIdeal : Cert.KDwdIdeal.Facts] : Prop :=
  ∀ (m : (ℓ : Loc Cert.KDwdIdeal.nD Cert.KDwdIdeal.τ Cert.KDwdIdeal.sig) → Buf (Elt Ideal) ℓ) (g : Dev Cert.KDwdIdeal.nD → PrngReg), Pre_KDwdIdeal m →
    θ_run (Cert.KDwdIdeal.defs (F := Ideal)) (onTc (τ := Cert.KDwdIdeal.τ) (Cert.KDwdIdeal.main (F := Ideal))) ⟨m, fun _ => 0, g⟩ (fun r => (∀ c : Dev Cert.KDwdIdeal.nD,
      r.2.mem ((c.tc : Thread Cert.KDwdIdeal.nD Cert.KDwdIdeal.τ).loc Cert.KDwdIdeal.main_arg0) = m ((c.tc : Thread Cert.KDwdIdeal.nD Cert.KDwdIdeal.τ).loc Cert.KDwdIdeal.main_arg0)
      ∧ r.2.mem ((c.tc : Thread Cert.KDwdIdeal.nD Cert.KDwdIdeal.τ).loc Cert.KDwdIdeal.main_arg1) = m ((c.tc : Thread Cert.KDwdIdeal.nD Cert.KDwdIdeal.τ).loc Cert.KDwdIdeal.main_arg1))
      ∧ r.2.sem = fun _ => 0)

def quiescent_RDwdIdeal [hRDwdIdeal : Cert.RDwdIdeal.Facts] : Prop :=
  ∀ (m : (ℓ : Loc Cert.RDwdIdeal.nD Cert.RDwdIdeal.τ Cert.RDwdIdeal.sig) → Buf (Elt Ideal) ℓ) (g : Dev Cert.RDwdIdeal.nD → PrngReg), Pre_RDwdIdeal m →
    θ_run (Cert.RDwdIdeal.defs (F := Ideal)) (onTc (τ := Cert.RDwdIdeal.τ) (Cert.RDwdIdeal.main (F := Ideal))) ⟨m, fun _ => 0, g⟩ (fun r => (∀ c : Dev Cert.RDwdIdeal.nD,
      r.2.mem ((c.tc : Thread Cert.RDwdIdeal.nD Cert.RDwdIdeal.τ).loc Cert.RDwdIdeal.main_arg0) = m ((c.tc : Thread Cert.RDwdIdeal.nD Cert.RDwdIdeal.τ).loc Cert.RDwdIdeal.main_arg0)
      ∧ r.2.mem ((c.tc : Thread Cert.RDwdIdeal.nD Cert.RDwdIdeal.τ).loc Cert.RDwdIdeal.main_arg1) = m ((c.tc : Thread Cert.RDwdIdeal.nD Cert.RDwdIdeal.τ).loc Cert.RDwdIdeal.main_arg1))
      ∧ r.2.sem = fun _ => 0)

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2))
      ∧ r.2.sem = fun _ => 0)

def quiescent_KAttnIdeal_pre_finite_attn [hKAttnIdeal : Cert.KAttnIdeal.Facts] [hPre_finite_attn : Cert.Pre_finite_attn.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal_finite_attn m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2))
      ∧ r.2.sem = fun _ => 0)

def quiescent_RAttnIdeal_pre_finite_attn [hRAttnIdeal : Cert.RAttnIdeal.Facts] [hPre_finite_attn : Cert.Pre_finite_attn.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal_finite_attn m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2))
      ∧ r.2.sem = fun _ => 0)

def quiescent_KLat [hKLat : Cert.KLat.Facts] : Prop :=
  ∀ (m : (ℓ : Loc Cert.KLat.nD Cert.KLat.τ Cert.KLat.sig) → Buf (Elt Bits) ℓ) (g : Dev Cert.KLat.nD → PrngReg), Pre_KLat m →
    θ_run (Cert.KLat.defs (F := Bits)) (onTc (τ := Cert.KLat.τ) (Cert.KLat.main (F := Bits))) ⟨m, fun _ => 0, g⟩ (fun r => (∀ c : Dev Cert.KLat.nD,
      r.2.mem ((c.tc : Thread Cert.KLat.nD Cert.KLat.τ).loc Cert.KLat.main_arg0) = m ((c.tc : Thread Cert.KLat.nD Cert.KLat.τ).loc Cert.KLat.main_arg0)
      ∧ r.2.mem ((c.tc : Thread Cert.KLat.nD Cert.KLat.τ).loc Cert.KLat.main_arg1) = m ((c.tc : Thread Cert.KLat.nD Cert.KLat.τ).loc Cert.KLat.main_arg1)
      ∧ r.2.mem ((c.tc : Thread Cert.KLat.nD Cert.KLat.τ).loc Cert.KLat.main_arg2) = m ((c.tc : Thread Cert.KLat.nD Cert.KLat.τ).loc Cert.KLat.main_arg2)
      ∧ r.2.mem ((c.tc : Thread Cert.KLat.nD Cert.KLat.τ).loc Cert.KLat.main_arg3) = m ((c.tc : Thread Cert.KLat.nD Cert.KLat.τ).loc Cert.KLat.main_arg3)
      ∧ r.2.mem ((c.tc : Thread Cert.KLat.nD Cert.KLat.τ).loc Cert.KLat.main_arg4) = m ((c.tc : Thread Cert.KLat.nD Cert.KLat.τ).loc Cert.KLat.main_arg4)
      ∧ r.2.mem ((c.tc : Thread Cert.KLat.nD Cert.KLat.τ).loc Cert.KLat.main_arg5) = m ((c.tc : Thread Cert.KLat.nD Cert.KLat.τ).loc Cert.KLat.main_arg5)
      ∧ r.2.mem ((c.tc : Thread Cert.KLat.nD Cert.KLat.τ).loc Cert.KLat.main_arg6) = m ((c.tc : Thread Cert.KLat.nD Cert.KLat.τ).loc Cert.KLat.main_arg6)
      ∧ r.2.mem ((c.tc : Thread Cert.KLat.nD Cert.KLat.τ).loc Cert.KLat.main_arg7) = m ((c.tc : Thread Cert.KLat.nD Cert.KLat.τ).loc Cert.KLat.main_arg7))
      ∧ r.2.sem = fun _ => 0)

def quiescent_KLatIdeal [hKLatIdeal : Cert.KLatIdeal.Facts] : Prop :=
  ∀ (m : (ℓ : Loc Cert.KLatIdeal.nD Cert.KLatIdeal.τ Cert.KLatIdeal.sig) → Buf (Elt Ideal) ℓ) (g : Dev Cert.KLatIdeal.nD → PrngReg), Pre_KLatIdeal m →
    θ_run (Cert.KLatIdeal.defs (F := Ideal)) (onTc (τ := Cert.KLatIdeal.τ) (Cert.KLatIdeal.main (F := Ideal))) ⟨m, fun _ => 0, g⟩ (fun r => (∀ c : Dev Cert.KLatIdeal.nD,
      r.2.mem ((c.tc : Thread Cert.KLatIdeal.nD Cert.KLatIdeal.τ).loc Cert.KLatIdeal.main_arg0) = m ((c.tc : Thread Cert.KLatIdeal.nD Cert.KLatIdeal.τ).loc Cert.KLatIdeal.main_arg0)
      ∧ r.2.mem ((c.tc : Thread Cert.KLatIdeal.nD Cert.KLatIdeal.τ).loc Cert.KLatIdeal.main_arg1) = m ((c.tc : Thread Cert.KLatIdeal.nD Cert.KLatIdeal.τ).loc Cert.KLatIdeal.main_arg1)
      ∧ r.2.mem ((c.tc : Thread Cert.KLatIdeal.nD Cert.KLatIdeal.τ).loc Cert.KLatIdeal.main_arg2) = m ((c.tc : Thread Cert.KLatIdeal.nD Cert.KLatIdeal.τ).loc Cert.KLatIdeal.main_arg2)
      ∧ r.2.mem ((c.tc : Thread Cert.KLatIdeal.nD Cert.KLatIdeal.τ).loc Cert.KLatIdeal.main_arg3) = m ((c.tc : Thread Cert.KLatIdeal.nD Cert.KLatIdeal.τ).loc Cert.KLatIdeal.main_arg3)
      ∧ r.2.mem ((c.tc : Thread Cert.KLatIdeal.nD Cert.KLatIdeal.τ).loc Cert.KLatIdeal.main_arg4) = m ((c.tc : Thread Cert.KLatIdeal.nD Cert.KLatIdeal.τ).loc Cert.KLatIdeal.main_arg4)
      ∧ r.2.mem ((c.tc : Thread Cert.KLatIdeal.nD Cert.KLatIdeal.τ).loc Cert.KLatIdeal.main_arg5) = m ((c.tc : Thread Cert.KLatIdeal.nD Cert.KLatIdeal.τ).loc Cert.KLatIdeal.main_arg5)
      ∧ r.2.mem ((c.tc : Thread Cert.KLatIdeal.nD Cert.KLatIdeal.τ).loc Cert.KLatIdeal.main_arg6) = m ((c.tc : Thread Cert.KLatIdeal.nD Cert.KLatIdeal.τ).loc Cert.KLatIdeal.main_arg6)
      ∧ r.2.mem ((c.tc : Thread Cert.KLatIdeal.nD Cert.KLatIdeal.τ).loc Cert.KLatIdeal.main_arg7) = m ((c.tc : Thread Cert.KLatIdeal.nD Cert.KLatIdeal.τ).loc Cert.KLatIdeal.main_arg7))
      ∧ r.2.sem = fun _ => 0)

def quiescent_RLatIdeal [hRLatIdeal : Cert.RLatIdeal.Facts] : Prop :=
  ∀ (m : (ℓ : Loc Cert.RLatIdeal.nD Cert.RLatIdeal.τ Cert.RLatIdeal.sig) → Buf (Elt Ideal) ℓ) (g : Dev Cert.RLatIdeal.nD → PrngReg), Pre_RLatIdeal m →
    θ_run (Cert.RLatIdeal.defs (F := Ideal)) (onTc (τ := Cert.RLatIdeal.τ) (Cert.RLatIdeal.main (F := Ideal))) ⟨m, fun _ => 0, g⟩ (fun r => (∀ c : Dev Cert.RLatIdeal.nD,
      r.2.mem ((c.tc : Thread Cert.RLatIdeal.nD Cert.RLatIdeal.τ).loc Cert.RLatIdeal.main_arg0) = m ((c.tc : Thread Cert.RLatIdeal.nD Cert.RLatIdeal.τ).loc Cert.RLatIdeal.main_arg0)
      ∧ r.2.mem ((c.tc : Thread Cert.RLatIdeal.nD Cert.RLatIdeal.τ).loc Cert.RLatIdeal.main_arg1) = m ((c.tc : Thread Cert.RLatIdeal.nD Cert.RLatIdeal.τ).loc Cert.RLatIdeal.main_arg1)
      ∧ r.2.mem ((c.tc : Thread Cert.RLatIdeal.nD Cert.RLatIdeal.τ).loc Cert.RLatIdeal.main_arg2) = m ((c.tc : Thread Cert.RLatIdeal.nD Cert.RLatIdeal.τ).loc Cert.RLatIdeal.main_arg2)
      ∧ r.2.mem ((c.tc : Thread Cert.RLatIdeal.nD Cert.RLatIdeal.τ).loc Cert.RLatIdeal.main_arg3) = m ((c.tc : Thread Cert.RLatIdeal.nD Cert.RLatIdeal.τ).loc Cert.RLatIdeal.main_arg3)
      ∧ r.2.mem ((c.tc : Thread Cert.RLatIdeal.nD Cert.RLatIdeal.τ).loc Cert.RLatIdeal.main_arg4) = m ((c.tc : Thread Cert.RLatIdeal.nD Cert.RLatIdeal.τ).loc Cert.RLatIdeal.main_arg4)
      ∧ r.2.mem ((c.tc : Thread Cert.RLatIdeal.nD Cert.RLatIdeal.τ).loc Cert.RLatIdeal.main_arg5) = m ((c.tc : Thread Cert.RLatIdeal.nD Cert.RLatIdeal.τ).loc Cert.RLatIdeal.main_arg5)
      ∧ r.2.mem ((c.tc : Thread Cert.RLatIdeal.nD Cert.RLatIdeal.τ).loc Cert.RLatIdeal.main_arg6) = m ((c.tc : Thread Cert.RLatIdeal.nD Cert.RLatIdeal.τ).loc Cert.RLatIdeal.main_arg6)
      ∧ r.2.mem ((c.tc : Thread Cert.RLatIdeal.nD Cert.RLatIdeal.τ).loc Cert.RLatIdeal.main_arg7) = m ((c.tc : Thread Cert.RLatIdeal.nD Cert.RLatIdeal.τ).loc Cert.RLatIdeal.main_arg7))
      ∧ r.2.sem = fun _ => 0)

def quiescent_KQkv [hKQkv : Cert.KQkv.Facts] : Prop :=
  ∀ (m : (ℓ : Loc Cert.KQkv.nD Cert.KQkv.τ Cert.KQkv.sig) → Buf (Elt Bits) ℓ) (g : Dev Cert.KQkv.nD → PrngReg), Pre_KQkv m →
    θ_run (Cert.KQkv.defs (F := Bits)) (onTc (τ := Cert.KQkv.τ) (Cert.KQkv.main (F := Bits))) ⟨m, fun _ => 0, g⟩ (fun r => (∀ c : Dev Cert.KQkv.nD,
      r.2.mem ((c.tc : Thread Cert.KQkv.nD Cert.KQkv.τ).loc Cert.KQkv.main_arg0) = m ((c.tc : Thread Cert.KQkv.nD Cert.KQkv.τ).loc Cert.KQkv.main_arg0)
      ∧ r.2.mem ((c.tc : Thread Cert.KQkv.nD Cert.KQkv.τ).loc Cert.KQkv.main_arg1) = m ((c.tc : Thread Cert.KQkv.nD Cert.KQkv.τ).loc Cert.KQkv.main_arg1)
      ∧ r.2.mem ((c.tc : Thread Cert.KQkv.nD Cert.KQkv.τ).loc Cert.KQkv.main_arg2) = m ((c.tc : Thread Cert.KQkv.nD Cert.KQkv.τ).loc Cert.KQkv.main_arg2)
      ∧ r.2.mem ((c.tc : Thread Cert.KQkv.nD Cert.KQkv.τ).loc Cert.KQkv.main_arg3) = m ((c.tc : Thread Cert.KQkv.nD Cert.KQkv.τ).loc Cert.KQkv.main_arg3)
      ∧ r.2.mem ((c.tc : Thread Cert.KQkv.nD Cert.KQkv.τ).loc Cert.KQkv.main_arg4) = m ((c.tc : Thread Cert.KQkv.nD Cert.KQkv.τ).loc Cert.KQkv.main_arg4)
      ∧ r.2.mem ((c.tc : Thread Cert.KQkv.nD Cert.KQkv.τ).loc Cert.KQkv.main_arg5) = m ((c.tc : Thread Cert.KQkv.nD Cert.KQkv.τ).loc Cert.KQkv.main_arg5)
      ∧ r.2.mem ((c.tc : Thread Cert.KQkv.nD Cert.KQkv.τ).loc Cert.KQkv.main_arg6) = m ((c.tc : Thread Cert.KQkv.nD Cert.KQkv.τ).loc Cert.KQkv.main_arg6))
      ∧ r.2.sem = fun _ => 0)

def quiescent_KQkvIdeal [hKQkvIdeal : Cert.KQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg), Pre_KQkvIdeal m →
    θ_run (Cert.KQkvIdeal.defs (F := Ideal)) (onTc (τ := Cert.KQkvIdeal.τ) (Cert.KQkvIdeal.main (F := Ideal))) ⟨m, fun _ => 0, g⟩ (fun r => (∀ c : Dev Cert.KQkvIdeal.nD,
      r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
      ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
      ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
      ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
      ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4)
      ∧ r.2.mem ((c.tc : Thread Cert.KQkvIdeal.nD Cert.KQkvIdeal.τ).loc Cert.KQkvIdeal.main_arg5) = m ((c.tc : Thread Cert.KQkvIdeal.nD Cert.KQkvIdeal.τ).loc Cert.KQkvIdeal.main_arg5)
      ∧ r.2.mem ((c.tc : Thread Cert.KQkvIdeal.nD Cert.KQkvIdeal.τ).loc Cert.KQkvIdeal.main_arg6) = m ((c.tc : Thread Cert.KQkvIdeal.nD Cert.KQkvIdeal.τ).loc Cert.KQkvIdeal.main_arg6))
      ∧ r.2.sem = fun _ => 0)

def quiescent_RQkvIdeal [hRQkvIdeal : Cert.RQkvIdeal.Facts] : Prop :=
  ∀ (m : (ℓ : Loc Cert.RQkvIdeal.nD Cert.RQkvIdeal.τ Cert.RQkvIdeal.sig) → Buf (Elt Ideal) ℓ) (g : Dev Cert.RQkvIdeal.nD → PrngReg), Pre_RQkvIdeal m →
    θ_run (Cert.RQkvIdeal.defs (F := Ideal)) (onTc (τ := Cert.RQkvIdeal.τ) (Cert.RQkvIdeal.main (F := Ideal))) ⟨m, fun _ => 0, g⟩ (fun r => (∀ c : Dev Cert.RQkvIdeal.nD,
      r.2.mem ((c.tc : Thread Cert.RQkvIdeal.nD Cert.RQkvIdeal.τ).loc Cert.RQkvIdeal.main_arg0) = m ((c.tc : Thread Cert.RQkvIdeal.nD Cert.RQkvIdeal.τ).loc Cert.RQkvIdeal.main_arg0)
      ∧ r.2.mem ((c.tc : Thread Cert.RQkvIdeal.nD Cert.RQkvIdeal.τ).loc Cert.RQkvIdeal.main_arg1) = m ((c.tc : Thread Cert.RQkvIdeal.nD Cert.RQkvIdeal.τ).loc Cert.RQkvIdeal.main_arg1)
      ∧ r.2.mem ((c.tc : Thread Cert.RQkvIdeal.nD Cert.RQkvIdeal.τ).loc Cert.RQkvIdeal.main_arg2) = m ((c.tc : Thread Cert.RQkvIdeal.nD Cert.RQkvIdeal.τ).loc Cert.RQkvIdeal.main_arg2)
      ∧ r.2.mem ((c.tc : Thread Cert.RQkvIdeal.nD Cert.RQkvIdeal.τ).loc Cert.RQkvIdeal.main_arg3) = m ((c.tc : Thread Cert.RQkvIdeal.nD Cert.RQkvIdeal.τ).loc Cert.RQkvIdeal.main_arg3)
      ∧ r.2.mem ((c.tc : Thread Cert.RQkvIdeal.nD Cert.RQkvIdeal.τ).loc Cert.RQkvIdeal.main_arg4) = m ((c.tc : Thread Cert.RQkvIdeal.nD Cert.RQkvIdeal.τ).loc Cert.RQkvIdeal.main_arg4)
      ∧ r.2.mem ((c.tc : Thread Cert.RQkvIdeal.nD Cert.RQkvIdeal.τ).loc Cert.RQkvIdeal.main_arg5) = m ((c.tc : Thread Cert.RQkvIdeal.nD Cert.RQkvIdeal.τ).loc Cert.RQkvIdeal.main_arg5)
      ∧ r.2.mem ((c.tc : Thread Cert.RQkvIdeal.nD Cert.RQkvIdeal.τ).loc Cert.RQkvIdeal.main_arg6) = m ((c.tc : Thread Cert.RQkvIdeal.nD Cert.RQkvIdeal.τ).loc Cert.RQkvIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)) →
    ∃ (v0 : (c : Dev Cert.KDownIdeal.nD) → Buf (Elt Ideal) ((c.tc : Thread Cert.KDownIdeal.nD Cert.KDownIdeal.τ).loc Cert.KDownIdeal.main_v6_0)) (v1 : (c : Dev Cert.KDownIdeal.nD) → Buf (Elt Ideal) ((c.tc : Thread Cert.KDownIdeal.nD Cert.KDownIdeal.τ).loc Cert.KDownIdeal.main_v6_1)) (v2 : (c : Dev Cert.KDownIdeal.nD) → Buf (Elt Ideal) ((c.tc : Thread Cert.KDownIdeal.nD Cert.KDownIdeal.τ).loc Cert.KDownIdeal.main_v6_2)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v6_0) = v0 c
          ∧ r.2.mem ((c.tc : Thread Cert.KDownIdeal.nD Cert.KDownIdeal.τ).loc Cert.KDownIdeal.main_v6_1) = v1 c
          ∧ r.2.mem ((c.tc : Thread Cert.KDownIdeal.nD Cert.KDownIdeal.τ).loc Cert.KDownIdeal.main_v6_2) = v2 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v31) = v0 c
          ∧ r.2.mem ((c.tc : Thread Cert.RDownIdeal.nD Cert.RDownIdeal.τ).loc Cert.RDownIdeal.main_v32) = v1 c
          ∧ r.2.mem ((c.tc : Thread Cert.RDownIdeal.nD Cert.RDownIdeal.τ).loc Cert.RDownIdeal.main_v34) = v2 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3))

def preserves_KDw2_KDw2Ideal : Prop :=
  True

def algebraic_KDw2Ideal_RDw2Ideal [hKDw2Ideal : Cert.KDw2Ideal.Facts] [hRDw2Ideal : Cert.RDw2Ideal.Facts] : Prop :=
  ∀ (m : (ℓ : Loc Cert.KDw2Ideal.nD Cert.KDw2Ideal.τ Cert.KDw2Ideal.sig) → Buf (Elt Ideal) ℓ) (g : Dev Cert.KDw2Ideal.nD → PrngReg)
    (m' : (ℓ : Loc Cert.RDw2Ideal.nD Cert.RDw2Ideal.τ Cert.RDw2Ideal.sig) → Buf (Elt Ideal) ℓ) (g' : Dev Cert.RDw2Ideal.nD → PrngReg), Pre_KDw2Ideal m →
    (∀ c : Dev Cert.KDw2Ideal.nD,
      m' ((c.tc : Thread Cert.RDw2Ideal.nD Cert.RDw2Ideal.τ).loc Cert.RDw2Ideal.main_arg0) = m ((c.tc : Thread Cert.KDw2Ideal.nD Cert.KDw2Ideal.τ).loc Cert.KDw2Ideal.main_arg0)
      ∧ m' ((c.tc : Thread Cert.RDw2Ideal.nD Cert.RDw2Ideal.τ).loc Cert.RDw2Ideal.main_arg1) = m ((c.tc : Thread Cert.KDw2Ideal.nD Cert.KDw2Ideal.τ).loc Cert.KDw2Ideal.main_arg1)) →
    ∃ (v0 : (c : Dev Cert.KDw2Ideal.nD) → Buf (Elt Ideal) ((c.tc : Thread Cert.KDw2Ideal.nD Cert.KDw2Ideal.τ).loc Cert.KDw2Ideal.main_v3)),
      θ_run (Cert.KDw2Ideal.defs (F := Ideal)) (onTc (τ := Cert.KDw2Ideal.τ) (Cert.KDw2Ideal.main (F := Ideal))) ⟨m, fun _ => 0, g⟩ (fun r => ∀ c : Dev Cert.KDw2Ideal.nD,
          r.2.mem ((c.tc : Thread Cert.KDw2Ideal.nD Cert.KDw2Ideal.τ).loc Cert.KDw2Ideal.main_v3) = v0 c
          ∧ r.2.mem ((c.tc : Thread Cert.KDw2Ideal.nD Cert.KDw2Ideal.τ).loc Cert.KDw2Ideal.main_arg0) = m ((c.tc : Thread Cert.KDw2Ideal.nD Cert.KDw2Ideal.τ).loc Cert.KDw2Ideal.main_arg0)
          ∧ r.2.mem ((c.tc : Thread Cert.KDw2Ideal.nD Cert.KDw2Ideal.τ).loc Cert.KDw2Ideal.main_arg1) = m ((c.tc : Thread Cert.KDw2Ideal.nD Cert.KDw2Ideal.τ).loc Cert.KDw2Ideal.main_arg1))
      ∧ θ_run (Cert.RDw2Ideal.defs (F := Ideal)) (onTc (τ := Cert.RDw2Ideal.τ) (Cert.RDw2Ideal.main (F := Ideal))) ⟨m', fun _ => 0, g'⟩ (fun r => ∀ c : Dev Cert.RDw2Ideal.nD,
          r.2.mem ((c.tc : Thread Cert.RDw2Ideal.nD Cert.RDw2Ideal.τ).loc Cert.RDw2Ideal.main_v6) = v0 c
          ∧ r.2.mem ((c.tc : Thread Cert.RDw2Ideal.nD Cert.RDw2Ideal.τ).loc Cert.RDw2Ideal.main_arg0) = m' ((c.tc : Thread Cert.RDw2Ideal.nD Cert.RDw2Ideal.τ).loc Cert.RDw2Ideal.main_arg0)
          ∧ r.2.mem ((c.tc : Thread Cert.RDw2Ideal.nD Cert.RDw2Ideal.τ).loc Cert.RDw2Ideal.main_arg1) = m' ((c.tc : Thread Cert.RDw2Ideal.nD Cert.RDw2Ideal.τ).loc Cert.RDw2Ideal.main_arg1))

def preserves_KDw1_KDw1Ideal : Prop :=
  True

def algebraic_KDw1Ideal_RDw1Ideal [hKDw1Ideal : Cert.KDw1Ideal.Facts] [hRDw1Ideal : Cert.RDw1Ideal.Facts] : Prop :=
  ∀ (m : (ℓ : Loc Cert.KDw1Ideal.nD Cert.KDw1Ideal.τ Cert.KDw1Ideal.sig) → Buf (Elt Ideal) ℓ) (g : Dev Cert.KDw1Ideal.nD → PrngReg)
    (m' : (ℓ : Loc Cert.RDw1Ideal.nD Cert.RDw1Ideal.τ Cert.RDw1Ideal.sig) → Buf (Elt Ideal) ℓ) (g' : Dev Cert.RDw1Ideal.nD → PrngReg), Pre_KDw1Ideal m →
    (∀ c : Dev Cert.KDw1Ideal.nD,
      m' ((c.tc : Thread Cert.RDw1Ideal.nD Cert.RDw1Ideal.τ).loc Cert.RDw1Ideal.main_arg0) = m ((c.tc : Thread Cert.KDw1Ideal.nD Cert.KDw1Ideal.τ).loc Cert.KDw1Ideal.main_arg0)
      ∧ m' ((c.tc : Thread Cert.RDw1Ideal.nD Cert.RDw1Ideal.τ).loc Cert.RDw1Ideal.main_arg1) = m ((c.tc : Thread Cert.KDw1Ideal.nD Cert.KDw1Ideal.τ).loc Cert.KDw1Ideal.main_arg1)) →
    ∃ (v0 : (c : Dev Cert.KDw1Ideal.nD) → Buf (Elt Ideal) ((c.tc : Thread Cert.KDw1Ideal.nD Cert.KDw1Ideal.τ).loc Cert.KDw1Ideal.main_v2)),
      θ_run (Cert.KDw1Ideal.defs (F := Ideal)) (onTc (τ := Cert.KDw1Ideal.τ) (Cert.KDw1Ideal.main (F := Ideal))) ⟨m, fun _ => 0, g⟩ (fun r => ∀ c : Dev Cert.KDw1Ideal.nD,
          r.2.mem ((c.tc : Thread Cert.KDw1Ideal.nD Cert.KDw1Ideal.τ).loc Cert.KDw1Ideal.main_v2) = v0 c
          ∧ r.2.mem ((c.tc : Thread Cert.KDw1Ideal.nD Cert.KDw1Ideal.τ).loc Cert.KDw1Ideal.main_arg0) = m ((c.tc : Thread Cert.KDw1Ideal.nD Cert.KDw1Ideal.τ).loc Cert.KDw1Ideal.main_arg0)
          ∧ r.2.mem ((c.tc : Thread Cert.KDw1Ideal.nD Cert.KDw1Ideal.τ).loc Cert.KDw1Ideal.main_arg1) = m ((c.tc : Thread Cert.KDw1Ideal.nD Cert.KDw1Ideal.τ).loc Cert.KDw1Ideal.main_arg1))
      ∧ θ_run (Cert.RDw1Ideal.defs (F := Ideal)) (onTc (τ := Cert.RDw1Ideal.τ) (Cert.RDw1Ideal.main (F := Ideal))) ⟨m', fun _ => 0, g'⟩ (fun r => ∀ c : Dev Cert.RDw1Ideal.nD,
          r.2.mem ((c.tc : Thread Cert.RDw1Ideal.nD Cert.RDw1Ideal.τ).loc Cert.RDw1Ideal.main_v6) = v0 c
          ∧ r.2.mem ((c.tc : Thread Cert.RDw1Ideal.nD Cert.RDw1Ideal.τ).loc Cert.RDw1Ideal.main_arg0) = m' ((c.tc : Thread Cert.RDw1Ideal.nD Cert.RDw1Ideal.τ).loc Cert.RDw1Ideal.main_arg0)
          ∧ r.2.mem ((c.tc : Thread Cert.RDw1Ideal.nD Cert.RDw1Ideal.τ).loc Cert.RDw1Ideal.main_arg1) = m' ((c.tc : Thread Cert.RDw1Ideal.nD Cert.RDw1Ideal.τ).loc Cert.RDw1Ideal.main_arg1))

def preserves_KUp_KUpIdeal : Prop :=
  True

def algebraic_KUpIdeal_RUpIdeal_pre_finite_up [hKUpIdeal : Cert.KUpIdeal.Facts] [hRUpIdeal : Cert.RUpIdeal.Facts] [hPre_finite_up : Cert.Pre_finite_up.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal_finite_up m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)
      ∧ m' ((c.tc : Thread Cert.RUpIdeal.nD Cert.RUpIdeal.τ).loc Cert.RUpIdeal.main_arg3) = m ((c.tc : Thread Cert.KUpIdeal.nD Cert.KUpIdeal.τ).loc Cert.KUpIdeal.main_arg3)
      ∧ m' ((c.tc : Thread Cert.RUpIdeal.nD Cert.RUpIdeal.τ).loc Cert.RUpIdeal.main_arg4) = m ((c.tc : Thread Cert.KUpIdeal.nD Cert.KUpIdeal.τ).loc Cert.KUpIdeal.main_arg4)
      ∧ m' ((c.tc : Thread Cert.RUpIdeal.nD Cert.RUpIdeal.τ).loc Cert.RUpIdeal.main_arg5) = m ((c.tc : Thread Cert.KUpIdeal.nD Cert.KUpIdeal.τ).loc Cert.KUpIdeal.main_arg5)) →
    ∃ (v0 : (c : Dev Cert.KUpIdeal.nD) → Buf (Elt Ideal) ((c.tc : Thread Cert.KUpIdeal.nD Cert.KUpIdeal.τ).loc Cert.KUpIdeal.main_v2_0)) (v1 : (c : Dev Cert.KUpIdeal.nD) → Buf (Elt Ideal) ((c.tc : Thread Cert.KUpIdeal.nD Cert.KUpIdeal.τ).loc Cert.KUpIdeal.main_v2_1)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v2_0) = v0 c
          ∧ r.2.mem ((c.tc : Thread Cert.KUpIdeal.nD Cert.KUpIdeal.τ).loc Cert.KUpIdeal.main_v2_1) = v1 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
          ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3)
          ∧ r.2.mem ((c.tc : Thread Cert.KUpIdeal.nD Cert.KUpIdeal.τ).loc Cert.KUpIdeal.main_arg4) = m ((c.tc : Thread Cert.KUpIdeal.nD Cert.KUpIdeal.τ).loc Cert.KUpIdeal.main_arg4)
          ∧ r.2.mem ((c.tc : Thread Cert.KUpIdeal.nD Cert.KUpIdeal.τ).loc Cert.KUpIdeal.main_arg5) = m ((c.tc : Thread Cert.KUpIdeal.nD Cert.KUpIdeal.τ).loc Cert.KUpIdeal.main_arg5))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v55) = v0 c
          ∧ r.2.mem ((c.tc : Thread Cert.RUpIdeal.nD Cert.RUpIdeal.τ).loc Cert.RUpIdeal.main_v62) = v1 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3)
          ∧ r.2.mem ((c.tc : Thread Cert.RUpIdeal.nD Cert.RUpIdeal.τ).loc Cert.RUpIdeal.main_arg4) = m' ((c.tc : Thread Cert.RUpIdeal.nD Cert.RUpIdeal.τ).loc Cert.RUpIdeal.main_arg4)
          ∧ r.2.mem ((c.tc : Thread Cert.RUpIdeal.nD Cert.RUpIdeal.τ).loc Cert.RUpIdeal.main_arg5) = m' ((c.tc : Thread Cert.RUpIdeal.nD Cert.RUpIdeal.τ).loc Cert.RUpIdeal.main_arg5))

def preserves_KMup_KMupIdeal : Prop :=
  True

def algebraic_KMupIdeal_RMupIdeal [hKMupIdeal : Cert.KMupIdeal.Facts] [hRMupIdeal : Cert.RMupIdeal.Facts] : Prop :=
  ∀ (m : (ℓ : Loc Cert.KMupIdeal.nD Cert.KMupIdeal.τ Cert.KMupIdeal.sig) → Buf (Elt Ideal) ℓ) (g : Dev Cert.KMupIdeal.nD → PrngReg)
    (m' : (ℓ : Loc Cert.RMupIdeal.nD Cert.RMupIdeal.τ Cert.RMupIdeal.sig) → Buf (Elt Ideal) ℓ) (g' : Dev Cert.RMupIdeal.nD → PrngReg), Pre_KMupIdeal m →
    (∀ c : Dev Cert.KMupIdeal.nD,
      m' ((c.tc : Thread Cert.RMupIdeal.nD Cert.RMupIdeal.τ).loc Cert.RMupIdeal.main_arg0) = m ((c.tc : Thread Cert.KMupIdeal.nD Cert.KMupIdeal.τ).loc Cert.KMupIdeal.main_arg0)
      ∧ m' ((c.tc : Thread Cert.RMupIdeal.nD Cert.RMupIdeal.τ).loc Cert.RMupIdeal.main_arg1) = m ((c.tc : Thread Cert.KMupIdeal.nD Cert.KMupIdeal.τ).loc Cert.KMupIdeal.main_arg1)
      ∧ m' ((c.tc : Thread Cert.RMupIdeal.nD Cert.RMupIdeal.τ).loc Cert.RMupIdeal.main_arg2) = m ((c.tc : Thread Cert.KMupIdeal.nD Cert.KMupIdeal.τ).loc Cert.KMupIdeal.main_arg2)
      ∧ m' ((c.tc : Thread Cert.RMupIdeal.nD Cert.RMupIdeal.τ).loc Cert.RMupIdeal.main_arg3) = m ((c.tc : Thread Cert.KMupIdeal.nD Cert.KMupIdeal.τ).loc Cert.KMupIdeal.main_arg3)) →
    ∃ (v0 : (c : Dev Cert.KMupIdeal.nD) → Buf (Elt Ideal) ((c.tc : Thread Cert.KMupIdeal.nD Cert.KMupIdeal.τ).loc Cert.KMupIdeal.main_v1_0)) (v1 : (c : Dev Cert.KMupIdeal.nD) → Buf (Elt Ideal) ((c.tc : Thread Cert.KMupIdeal.nD Cert.KMupIdeal.τ).loc Cert.KMupIdeal.main_v1_1)),
      θ_run (Cert.KMupIdeal.defs (F := Ideal)) (onTc (τ := Cert.KMupIdeal.τ) (Cert.KMupIdeal.main (F := Ideal))) ⟨m, fun _ => 0, g⟩ (fun r => ∀ c : Dev Cert.KMupIdeal.nD,
          r.2.mem ((c.tc : Thread Cert.KMupIdeal.nD Cert.KMupIdeal.τ).loc Cert.KMupIdeal.main_v1_0) = v0 c
          ∧ r.2.mem ((c.tc : Thread Cert.KMupIdeal.nD Cert.KMupIdeal.τ).loc Cert.KMupIdeal.main_v1_1) = v1 c
          ∧ r.2.mem ((c.tc : Thread Cert.KMupIdeal.nD Cert.KMupIdeal.τ).loc Cert.KMupIdeal.main_arg0) = m ((c.tc : Thread Cert.KMupIdeal.nD Cert.KMupIdeal.τ).loc Cert.KMupIdeal.main_arg0)
          ∧ r.2.mem ((c.tc : Thread Cert.KMupIdeal.nD Cert.KMupIdeal.τ).loc Cert.KMupIdeal.main_arg1) = m ((c.tc : Thread Cert.KMupIdeal.nD Cert.KMupIdeal.τ).loc Cert.KMupIdeal.main_arg1)
          ∧ r.2.mem ((c.tc : Thread Cert.KMupIdeal.nD Cert.KMupIdeal.τ).loc Cert.KMupIdeal.main_arg2) = m ((c.tc : Thread Cert.KMupIdeal.nD Cert.KMupIdeal.τ).loc Cert.KMupIdeal.main_arg2)
          ∧ r.2.mem ((c.tc : Thread Cert.KMupIdeal.nD Cert.KMupIdeal.τ).loc Cert.KMupIdeal.main_arg3) = m ((c.tc : Thread Cert.KMupIdeal.nD Cert.KMupIdeal.τ).loc Cert.KMupIdeal.main_arg3))
      ∧ θ_run (Cert.RMupIdeal.defs (F := Ideal)) (onTc (τ := Cert.RMupIdeal.τ) (Cert.RMupIdeal.main (F := Ideal))) ⟨m', fun _ => 0, g'⟩ (fun r => ∀ c : Dev Cert.RMupIdeal.nD,
          r.2.mem ((c.tc : Thread Cert.RMupIdeal.nD Cert.RMupIdeal.τ).loc Cert.RMupIdeal.main_v24) = v0 c
          ∧ r.2.mem ((c.tc : Thread Cert.RMupIdeal.nD Cert.RMupIdeal.τ).loc Cert.RMupIdeal.main_v27) = v1 c
          ∧ r.2.mem ((c.tc : Thread Cert.RMupIdeal.nD Cert.RMupIdeal.τ).loc Cert.RMupIdeal.main_arg0) = m' ((c.tc : Thread Cert.RMupIdeal.nD Cert.RMupIdeal.τ).loc Cert.RMupIdeal.main_arg0)
          ∧ r.2.mem ((c.tc : Thread Cert.RMupIdeal.nD Cert.RMupIdeal.τ).loc Cert.RMupIdeal.main_arg1) = m' ((c.tc : Thread Cert.RMupIdeal.nD Cert.RMupIdeal.τ).loc Cert.RMupIdeal.main_arg1)
          ∧ r.2.mem ((c.tc : Thread Cert.RMupIdeal.nD Cert.RMupIdeal.τ).loc Cert.RMupIdeal.main_arg2) = m' ((c.tc : Thread Cert.RMupIdeal.nD Cert.RMupIdeal.τ).loc Cert.RMupIdeal.main_arg2)
          ∧ r.2.mem ((c.tc : Thread Cert.RMupIdeal.nD Cert.RMupIdeal.τ).loc Cert.RMupIdeal.main_arg3) = m' ((c.tc : Thread Cert.RMupIdeal.nD Cert.RMupIdeal.τ).loc Cert.RMupIdeal.main_arg3))

def preserves_KMdown_KMdownIdeal : Prop :=
  True

def algebraic_KMdownIdeal_RMdownIdeal [hKMdownIdeal : Cert.KMdownIdeal.Facts] [hRMdownIdeal : Cert.RMdownIdeal.Facts] : Prop :=
  ∀ (m : (ℓ : Loc Cert.KMdownIdeal.nD Cert.KMdownIdeal.τ Cert.KMdownIdeal.sig) → Buf (Elt Ideal) ℓ) (g : Dev Cert.KMdownIdeal.nD → PrngReg)
    (m' : (ℓ : Loc Cert.RMdownIdeal.nD Cert.RMdownIdeal.τ Cert.RMdownIdeal.sig) → Buf (Elt Ideal) ℓ) (g' : Dev Cert.RMdownIdeal.nD → PrngReg), Pre_KMdownIdeal m →
    (∀ c : Dev Cert.KMdownIdeal.nD,
      m' ((c.tc : Thread Cert.RMdownIdeal.nD Cert.RMdownIdeal.τ).loc Cert.RMdownIdeal.main_arg0) = m ((c.tc : Thread Cert.KMdownIdeal.nD Cert.KMdownIdeal.τ).loc Cert.KMdownIdeal.main_arg0)
      ∧ m' ((c.tc : Thread Cert.RMdownIdeal.nD Cert.RMdownIdeal.τ).loc Cert.RMdownIdeal.main_arg1) = m ((c.tc : Thread Cert.KMdownIdeal.nD Cert.KMdownIdeal.τ).loc Cert.KMdownIdeal.main_arg1)
      ∧ m' ((c.tc : Thread Cert.RMdownIdeal.nD Cert.RMdownIdeal.τ).loc Cert.RMdownIdeal.main_arg2) = m ((c.tc : Thread Cert.KMdownIdeal.nD Cert.KMdownIdeal.τ).loc Cert.KMdownIdeal.main_arg2)
      ∧ m' ((c.tc : Thread Cert.RMdownIdeal.nD Cert.RMdownIdeal.τ).loc Cert.RMdownIdeal.main_arg3) = m ((c.tc : Thread Cert.KMdownIdeal.nD Cert.KMdownIdeal.τ).loc Cert.KMdownIdeal.main_arg3)) →
    ∃ (v0 : (c : Dev Cert.KMdownIdeal.nD) → Buf (Elt Ideal) ((c.tc : Thread Cert.KMdownIdeal.nD Cert.KMdownIdeal.τ).loc Cert.KMdownIdeal.main_v3_0)) (v1 : (c : Dev Cert.KMdownIdeal.nD) → Buf (Elt Ideal) ((c.tc : Thread Cert.KMdownIdeal.nD Cert.KMdownIdeal.τ).loc Cert.KMdownIdeal.main_v3_1)),
      θ_run (Cert.KMdownIdeal.defs (F := Ideal)) (onTc (τ := Cert.KMdownIdeal.τ) (Cert.KMdownIdeal.main (F := Ideal))) ⟨m, fun _ => 0, g⟩ (fun r => ∀ c : Dev Cert.KMdownIdeal.nD,
          r.2.mem ((c.tc : Thread Cert.KMdownIdeal.nD Cert.KMdownIdeal.τ).loc Cert.KMdownIdeal.main_v3_0) = v0 c
          ∧ r.2.mem ((c.tc : Thread Cert.KMdownIdeal.nD Cert.KMdownIdeal.τ).loc Cert.KMdownIdeal.main_v3_1) = v1 c
          ∧ r.2.mem ((c.tc : Thread Cert.KMdownIdeal.nD Cert.KMdownIdeal.τ).loc Cert.KMdownIdeal.main_arg0) = m ((c.tc : Thread Cert.KMdownIdeal.nD Cert.KMdownIdeal.τ).loc Cert.KMdownIdeal.main_arg0)
          ∧ r.2.mem ((c.tc : Thread Cert.KMdownIdeal.nD Cert.KMdownIdeal.τ).loc Cert.KMdownIdeal.main_arg1) = m ((c.tc : Thread Cert.KMdownIdeal.nD Cert.KMdownIdeal.τ).loc Cert.KMdownIdeal.main_arg1)
          ∧ r.2.mem ((c.tc : Thread Cert.KMdownIdeal.nD Cert.KMdownIdeal.τ).loc Cert.KMdownIdeal.main_arg2) = m ((c.tc : Thread Cert.KMdownIdeal.nD Cert.KMdownIdeal.τ).loc Cert.KMdownIdeal.main_arg2)
          ∧ r.2.mem ((c.tc : Thread Cert.KMdownIdeal.nD Cert.KMdownIdeal.τ).loc Cert.KMdownIdeal.main_arg3) = m ((c.tc : Thread Cert.KMdownIdeal.nD Cert.KMdownIdeal.τ).loc Cert.KMdownIdeal.main_arg3))
      ∧ θ_run (Cert.RMdownIdeal.defs (F := Ideal)) (onTc (τ := Cert.RMdownIdeal.τ) (Cert.RMdownIdeal.main (F := Ideal))) ⟨m', fun _ => 0, g'⟩ (fun r => ∀ c : Dev Cert.RMdownIdeal.nD,
          r.2.mem ((c.tc : Thread Cert.RMdownIdeal.nD Cert.RMdownIdeal.τ).loc Cert.RMdownIdeal.main_v11) = v0 c
          ∧ r.2.mem ((c.tc : Thread Cert.RMdownIdeal.nD Cert.RMdownIdeal.τ).loc Cert.RMdownIdeal.main_v12) = v1 c
          ∧ r.2.mem ((c.tc : Thread Cert.RMdownIdeal.nD Cert.RMdownIdeal.τ).loc Cert.RMdownIdeal.main_arg0) = m' ((c.tc : Thread Cert.RMdownIdeal.nD Cert.RMdownIdeal.τ).loc Cert.RMdownIdeal.main_arg0)
          ∧ r.2.mem ((c.tc : Thread Cert.RMdownIdeal.nD Cert.RMdownIdeal.τ).loc Cert.RMdownIdeal.main_arg1) = m' ((c.tc : Thread Cert.RMdownIdeal.nD Cert.RMdownIdeal.τ).loc Cert.RMdownIdeal.main_arg1)
          ∧ r.2.mem ((c.tc : Thread Cert.RMdownIdeal.nD Cert.RMdownIdeal.τ).loc Cert.RMdownIdeal.main_arg2) = m' ((c.tc : Thread Cert.RMdownIdeal.nD Cert.RMdownIdeal.τ).loc Cert.RMdownIdeal.main_arg2)
          ∧ r.2.mem ((c.tc : Thread Cert.RMdownIdeal.nD Cert.RMdownIdeal.τ).loc Cert.RMdownIdeal.main_arg3) = m' ((c.tc : Thread Cert.RMdownIdeal.nD Cert.RMdownIdeal.τ).loc Cert.RMdownIdeal.main_arg3))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)) →
    ∃ (v0 : (c : Dev Cert.KOutIdeal.nD) → Buf (Elt Ideal) ((c.tc : Thread Cert.KOutIdeal.nD Cert.KOutIdeal.τ).loc Cert.KOutIdeal.main_v2_0)) (v1 : (c : Dev Cert.KOutIdeal.nD) → Buf (Elt Ideal) ((c.tc : Thread Cert.KOutIdeal.nD Cert.KOutIdeal.τ).loc Cert.KOutIdeal.main_v2_1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v2_0) = v0 c
          ∧ r.2.mem ((c.tc : Thread Cert.KOutIdeal.nD Cert.KOutIdeal.τ).loc Cert.KOutIdeal.main_v2_1) = v1 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v9) = v0 c
          ∧ r.2.mem ((c.tc : Thread Cert.ROutIdeal.nD Cert.ROutIdeal.τ).loc Cert.ROutIdeal.main_v10) = v1 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3))

def preserves_KBo_KBoIdeal : Prop :=
  True

def algebraic_KBoIdeal_RBoIdeal [hKBoIdeal : Cert.KBoIdeal.Facts] [hRBoIdeal : Cert.RBoIdeal.Facts] : Prop :=
  ∀ (m : (ℓ : Loc Cert.KBoIdeal.nD Cert.KBoIdeal.τ Cert.KBoIdeal.sig) → Buf (Elt Ideal) ℓ) (g : Dev Cert.KBoIdeal.nD → PrngReg)
    (m' : (ℓ : Loc Cert.RBoIdeal.nD Cert.RBoIdeal.τ Cert.RBoIdeal.sig) → Buf (Elt Ideal) ℓ) (g' : Dev Cert.RBoIdeal.nD → PrngReg), Pre_KBoIdeal m →
    (∀ c : Dev Cert.KBoIdeal.nD,
      m' ((c.tc : Thread Cert.RBoIdeal.nD Cert.RBoIdeal.τ).loc Cert.RBoIdeal.main_arg0) = m ((c.tc : Thread Cert.KBoIdeal.nD Cert.KBoIdeal.τ).loc Cert.KBoIdeal.main_arg0)
      ∧ m' ((c.tc : Thread Cert.RBoIdeal.nD Cert.RBoIdeal.τ).loc Cert.RBoIdeal.main_arg1) = m ((c.tc : Thread Cert.KBoIdeal.nD Cert.KBoIdeal.τ).loc Cert.KBoIdeal.main_arg1)
      ∧ m' ((c.tc : Thread Cert.RBoIdeal.nD Cert.RBoIdeal.τ).loc Cert.RBoIdeal.main_arg2) = m ((c.tc : Thread Cert.KBoIdeal.nD Cert.KBoIdeal.τ).loc Cert.KBoIdeal.main_arg2)
      ∧ m' ((c.tc : Thread Cert.RBoIdeal.nD Cert.RBoIdeal.τ).loc Cert.RBoIdeal.main_arg3) = m ((c.tc : Thread Cert.KBoIdeal.nD Cert.KBoIdeal.τ).loc Cert.KBoIdeal.main_arg3)) →
    ∃ (v0 : (c : Dev Cert.KBoIdeal.nD) → Buf (Elt Ideal) ((c.tc : Thread Cert.KBoIdeal.nD Cert.KBoIdeal.τ).loc Cert.KBoIdeal.main_v3_0)) (v1 : (c : Dev Cert.KBoIdeal.nD) → Buf (Elt Ideal) ((c.tc : Thread Cert.KBoIdeal.nD Cert.KBoIdeal.τ).loc Cert.KBoIdeal.main_v3_1)) (v2 : (c : Dev Cert.KBoIdeal.nD) → Buf (Elt Ideal) ((c.tc : Thread Cert.KBoIdeal.nD Cert.KBoIdeal.τ).loc Cert.KBoIdeal.main_v3_2)),
      θ_run (Cert.KBoIdeal.defs (F := Ideal)) (onTc (τ := Cert.KBoIdeal.τ) (Cert.KBoIdeal.main (F := Ideal))) ⟨m, fun _ => 0, g⟩ (fun r => ∀ c : Dev Cert.KBoIdeal.nD,
          r.2.mem ((c.tc : Thread Cert.KBoIdeal.nD Cert.KBoIdeal.τ).loc Cert.KBoIdeal.main_v3_0) = v0 c
          ∧ r.2.mem ((c.tc : Thread Cert.KBoIdeal.nD Cert.KBoIdeal.τ).loc Cert.KBoIdeal.main_v3_1) = v1 c
          ∧ r.2.mem ((c.tc : Thread Cert.KBoIdeal.nD Cert.KBoIdeal.τ).loc Cert.KBoIdeal.main_v3_2) = v2 c
          ∧ r.2.mem ((c.tc : Thread Cert.KBoIdeal.nD Cert.KBoIdeal.τ).loc Cert.KBoIdeal.main_arg0) = m ((c.tc : Thread Cert.KBoIdeal.nD Cert.KBoIdeal.τ).loc Cert.KBoIdeal.main_arg0)
          ∧ r.2.mem ((c.tc : Thread Cert.KBoIdeal.nD Cert.KBoIdeal.τ).loc Cert.KBoIdeal.main_arg1) = m ((c.tc : Thread Cert.KBoIdeal.nD Cert.KBoIdeal.τ).loc Cert.KBoIdeal.main_arg1)
          ∧ r.2.mem ((c.tc : Thread Cert.KBoIdeal.nD Cert.KBoIdeal.τ).loc Cert.KBoIdeal.main_arg2) = m ((c.tc : Thread Cert.KBoIdeal.nD Cert.KBoIdeal.τ).loc Cert.KBoIdeal.main_arg2)
          ∧ r.2.mem ((c.tc : Thread Cert.KBoIdeal.nD Cert.KBoIdeal.τ).loc Cert.KBoIdeal.main_arg3) = m ((c.tc : Thread Cert.KBoIdeal.nD Cert.KBoIdeal.τ).loc Cert.KBoIdeal.main_arg3))
      ∧ θ_run (Cert.RBoIdeal.defs (F := Ideal)) (onTc (τ := Cert.RBoIdeal.τ) (Cert.RBoIdeal.main (F := Ideal))) ⟨m', fun _ => 0, g'⟩ (fun r => ∀ c : Dev Cert.RBoIdeal.nD,
          r.2.mem ((c.tc : Thread Cert.RBoIdeal.nD Cert.RBoIdeal.τ).loc Cert.RBoIdeal.main_v21) = v0 c
          ∧ r.2.mem ((c.tc : Thread Cert.RBoIdeal.nD Cert.RBoIdeal.τ).loc Cert.RBoIdeal.main_v22) = v1 c
          ∧ r.2.mem ((c.tc : Thread Cert.RBoIdeal.nD Cert.RBoIdeal.τ).loc Cert.RBoIdeal.main_v24) = v2 c
          ∧ r.2.mem ((c.tc : Thread Cert.RBoIdeal.nD Cert.RBoIdeal.τ).loc Cert.RBoIdeal.main_arg0) = m' ((c.tc : Thread Cert.RBoIdeal.nD Cert.RBoIdeal.τ).loc Cert.RBoIdeal.main_arg0)
          ∧ r.2.mem ((c.tc : Thread Cert.RBoIdeal.nD Cert.RBoIdeal.τ).loc Cert.RBoIdeal.main_arg1) = m' ((c.tc : Thread Cert.RBoIdeal.nD Cert.RBoIdeal.τ).loc Cert.RBoIdeal.main_arg1)
          ∧ r.2.mem ((c.tc : Thread Cert.RBoIdeal.nD Cert.RBoIdeal.τ).loc Cert.RBoIdeal.main_arg2) = m' ((c.tc : Thread Cert.RBoIdeal.nD Cert.RBoIdeal.τ).loc Cert.RBoIdeal.main_arg2)
          ∧ r.2.mem ((c.tc : Thread Cert.RBoIdeal.nD Cert.RBoIdeal.τ).loc Cert.RBoIdeal.main_arg3) = m' ((c.tc : Thread Cert.RBoIdeal.nD Cert.RBoIdeal.τ).loc Cert.RBoIdeal.main_arg3))

def preserves_KDwo_KDwoIdeal : Prop :=
  True

def algebraic_KDwoIdeal_RDwoIdeal [hKDwoIdeal : Cert.KDwoIdeal.Facts] [hRDwoIdeal : Cert.RDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg)
    (m' : (ℓ : Loc Cert.RDwoIdeal.nD Cert.RDwoIdeal.τ Cert.RDwoIdeal.sig) → Buf (Elt Ideal) ℓ) (g' : Dev Cert.RDwoIdeal.nD → PrngReg), Pre_KDwoIdeal m →
    (∀ c : Dev Cert.KDwoIdeal.nD,
      m' ((c.tc : Thread Cert.RDwoIdeal.nD Cert.RDwoIdeal.τ).loc Cert.RDwoIdeal.main_arg0) = m ((c.tc : Thread Cert.KDwoIdeal.nD Cert.KDwoIdeal.τ).loc Cert.KDwoIdeal.main_arg0)
      ∧ m' ((c.tc : Thread Cert.RDwoIdeal.nD Cert.RDwoIdeal.τ).loc Cert.RDwoIdeal.main_arg1) = m ((c.tc : Thread Cert.KDwoIdeal.nD Cert.KDwoIdeal.τ).loc Cert.KDwoIdeal.main_arg1)) →
    ∃ (v0 : (c : Dev Cert.KDwoIdeal.nD) → Buf (Elt Ideal) ((c.tc : Thread Cert.KDwoIdeal.nD Cert.KDwoIdeal.τ).loc Cert.KDwoIdeal.main_v2)),
      θ_run (Cert.KDwoIdeal.defs (F := Ideal)) (onTc (τ := Cert.KDwoIdeal.τ) (Cert.KDwoIdeal.main (F := Ideal))) ⟨m, fun _ => 0, g⟩ (fun r => ∀ c : Dev Cert.KDwoIdeal.nD,
          r.2.mem ((c.tc : Thread Cert.KDwoIdeal.nD Cert.KDwoIdeal.τ).loc Cert.KDwoIdeal.main_v2) = v0 c
          ∧ r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
          ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ θ_run (Cert.RDwoIdeal.defs (F := Ideal)) (onTc (τ := Cert.RDwoIdeal.τ) (Cert.RDwoIdeal.main (F := Ideal))) ⟨m', fun _ => 0, g'⟩ (fun r => ∀ c : Dev Cert.RDwoIdeal.nD,
          r.2.mem ((c.tc : Thread Cert.RDwoIdeal.nD Cert.RDwoIdeal.τ).loc Cert.RDwoIdeal.main_v4) = v0 c
          ∧ r.2.mem ((c.tc : Thread Cert.RDwoIdeal.nD Cert.RDwoIdeal.τ).loc Cert.RDwoIdeal.main_arg0) = m' ((c.tc : Thread Cert.RDwoIdeal.nD Cert.RDwoIdeal.τ).loc Cert.RDwoIdeal.main_arg0)
          ∧ r.2.mem ((c.tc : Thread Cert.RDwoIdeal.nD Cert.RDwoIdeal.τ).loc Cert.RDwoIdeal.main_arg1) = m' ((c.tc : Thread Cert.RDwoIdeal.nD Cert.RDwoIdeal.τ).loc Cert.RDwoIdeal.main_arg1))

def preserves_KSdo_KSdoIdeal : Prop :=
  True

def algebraic_KSdoIdeal_RSdoIdeal [hKSdoIdeal : Cert.KSdoIdeal.Facts] [hRSdoIdeal : Cert.RSdoIdeal.Facts] : Prop :=
  ∀ (m : (ℓ : Loc Cert.KSdoIdeal.nD Cert.KSdoIdeal.τ Cert.KSdoIdeal.sig) → Buf (Elt Ideal) ℓ) (g : Dev Cert.KSdoIdeal.nD → PrngReg)
    (m' : (ℓ : Loc Cert.RSdoIdeal.nD Cert.RSdoIdeal.τ Cert.RSdoIdeal.sig) → Buf (Elt Ideal) ℓ) (g' : Dev Cert.RSdoIdeal.nD → PrngReg), Pre_KSdoIdeal m →
    (∀ c : Dev Cert.KSdoIdeal.nD,
      m' ((c.tc : Thread Cert.RSdoIdeal.nD Cert.RSdoIdeal.τ).loc Cert.RSdoIdeal.main_arg0) = m ((c.tc : Thread Cert.KSdoIdeal.nD Cert.KSdoIdeal.τ).loc Cert.KSdoIdeal.main_arg0)
      ∧ m' ((c.tc : Thread Cert.RSdoIdeal.nD Cert.RSdoIdeal.τ).loc Cert.RSdoIdeal.main_arg1) = m ((c.tc : Thread Cert.KSdoIdeal.nD Cert.KSdoIdeal.τ).loc Cert.KSdoIdeal.main_arg1)) →
    ∃ (v0 : (c : Dev Cert.KSdoIdeal.nD) → Buf (Elt Ideal) ((c.tc : Thread Cert.KSdoIdeal.nD Cert.KSdoIdeal.τ).loc Cert.KSdoIdeal.main_v2)),
      θ_run (Cert.KSdoIdeal.defs (F := Ideal)) (onTc (τ := Cert.KSdoIdeal.τ) (Cert.KSdoIdeal.main (F := Ideal))) ⟨m, fun _ => 0, g⟩ (fun r => ∀ c : Dev Cert.KSdoIdeal.nD,
          r.2.mem ((c.tc : Thread Cert.KSdoIdeal.nD Cert.KSdoIdeal.τ).loc Cert.KSdoIdeal.main_v2) = v0 c
          ∧ r.2.mem ((c.tc : Thread Cert.KSdoIdeal.nD Cert.KSdoIdeal.τ).loc Cert.KSdoIdeal.main_arg0) = m ((c.tc : Thread Cert.KSdoIdeal.nD Cert.KSdoIdeal.τ).loc Cert.KSdoIdeal.main_arg0)
          ∧ r.2.mem ((c.tc : Thread Cert.KSdoIdeal.nD Cert.KSdoIdeal.τ).loc Cert.KSdoIdeal.main_arg1) = m ((c.tc : Thread Cert.KSdoIdeal.nD Cert.KSdoIdeal.τ).loc Cert.KSdoIdeal.main_arg1))
      ∧ θ_run (Cert.RSdoIdeal.defs (F := Ideal)) (onTc (τ := Cert.RSdoIdeal.τ) (Cert.RSdoIdeal.main (F := Ideal))) ⟨m', fun _ => 0, g'⟩ (fun r => ∀ c : Dev Cert.RSdoIdeal.nD,
          r.2.mem ((c.tc : Thread Cert.RSdoIdeal.nD Cert.RSdoIdeal.τ).loc Cert.RSdoIdeal.main_v4) = v0 c
          ∧ r.2.mem ((c.tc : Thread Cert.RSdoIdeal.nD Cert.RSdoIdeal.τ).loc Cert.RSdoIdeal.main_arg0) = m' ((c.tc : Thread Cert.RSdoIdeal.nD Cert.RSdoIdeal.τ).loc Cert.RSdoIdeal.main_arg0)
          ∧ r.2.mem ((c.tc : Thread Cert.RSdoIdeal.nD Cert.RSdoIdeal.τ).loc Cert.RSdoIdeal.main_arg1) = m' ((c.tc : Thread Cert.RSdoIdeal.nD Cert.RSdoIdeal.τ).loc Cert.RSdoIdeal.main_arg1))

def preserves_KSdi_KSdiIdeal : Prop :=
  True

def algebraic_KSdiIdeal_RSdiIdeal [hKSdiIdeal : Cert.KSdiIdeal.Facts] [hRSdiIdeal : Cert.RSdiIdeal.Facts] : Prop :=
  ∀ (m : (ℓ : Loc Cert.KSdiIdeal.nD Cert.KSdiIdeal.τ Cert.KSdiIdeal.sig) → Buf (Elt Ideal) ℓ) (g : Dev Cert.KSdiIdeal.nD → PrngReg)
    (m' : (ℓ : Loc Cert.RSdiIdeal.nD Cert.RSdiIdeal.τ Cert.RSdiIdeal.sig) → Buf (Elt Ideal) ℓ) (g' : Dev Cert.RSdiIdeal.nD → PrngReg), Pre_KSdiIdeal m →
    (∀ c : Dev Cert.KSdiIdeal.nD,
      m' ((c.tc : Thread Cert.RSdiIdeal.nD Cert.RSdiIdeal.τ).loc Cert.RSdiIdeal.main_arg0) = m ((c.tc : Thread Cert.KSdiIdeal.nD Cert.KSdiIdeal.τ).loc Cert.KSdiIdeal.main_arg0)
      ∧ m' ((c.tc : Thread Cert.RSdiIdeal.nD Cert.RSdiIdeal.τ).loc Cert.RSdiIdeal.main_arg1) = m ((c.tc : Thread Cert.KSdiIdeal.nD Cert.KSdiIdeal.τ).loc Cert.KSdiIdeal.main_arg1)) →
    ∃ (v0 : (c : Dev Cert.KSdiIdeal.nD) → Buf (Elt Ideal) ((c.tc : Thread Cert.KSdiIdeal.nD Cert.KSdiIdeal.τ).loc Cert.KSdiIdeal.main_v2)),
      θ_run (Cert.KSdiIdeal.defs (F := Ideal)) (onTc (τ := Cert.KSdiIdeal.τ) (Cert.KSdiIdeal.main (F := Ideal))) ⟨m, fun _ => 0, g⟩ (fun r => ∀ c : Dev Cert.KSdiIdeal.nD,
          r.2.mem ((c.tc : Thread Cert.KSdiIdeal.nD Cert.KSdiIdeal.τ).loc Cert.KSdiIdeal.main_v2) = v0 c
          ∧ r.2.mem ((c.tc : Thread Cert.KSdiIdeal.nD Cert.KSdiIdeal.τ).loc Cert.KSdiIdeal.main_arg0) = m ((c.tc : Thread Cert.KSdiIdeal.nD Cert.KSdiIdeal.τ).loc Cert.KSdiIdeal.main_arg0)
          ∧ r.2.mem ((c.tc : Thread Cert.KSdiIdeal.nD Cert.KSdiIdeal.τ).loc Cert.KSdiIdeal.main_arg1) = m ((c.tc : Thread Cert.KSdiIdeal.nD Cert.KSdiIdeal.τ).loc Cert.KSdiIdeal.main_arg1))
      ∧ θ_run (Cert.RSdiIdeal.defs (F := Ideal)) (onTc (τ := Cert.RSdiIdeal.τ) (Cert.RSdiIdeal.main (F := Ideal))) ⟨m', fun _ => 0, g'⟩ (fun r => ∀ c : Dev Cert.RSdiIdeal.nD,
          r.2.mem ((c.tc : Thread Cert.RSdiIdeal.nD Cert.RSdiIdeal.τ).loc Cert.RSdiIdeal.main_v6) = v0 c
          ∧ r.2.mem ((c.tc : Thread Cert.RSdiIdeal.nD Cert.RSdiIdeal.τ).loc Cert.RSdiIdeal.main_arg0) = m' ((c.tc : Thread Cert.RSdiIdeal.nD Cert.RSdiIdeal.τ).loc Cert.RSdiIdeal.main_arg0)
          ∧ r.2.mem ((c.tc : Thread Cert.RSdiIdeal.nD Cert.RSdiIdeal.τ).loc Cert.RSdiIdeal.main_arg1) = m' ((c.tc : Thread Cert.RSdiIdeal.nD Cert.RSdiIdeal.τ).loc Cert.RSdiIdeal.main_arg1))

def preserves_KDwq_KDwqIdeal : Prop :=
  True

def algebraic_KDwqIdeal_RDwqIdeal [hKDwqIdeal : Cert.KDwqIdeal.Facts] [hRDwqIdeal : Cert.RDwqIdeal.Facts] : Prop :=
  ∀ (m : (ℓ : Loc Cert.KDwqIdeal.nD Cert.KDwqIdeal.τ Cert.KDwqIdeal.sig) → Buf (Elt Ideal) ℓ) (g : Dev Cert.KDwqIdeal.nD → PrngReg)
    (m' : (ℓ : Loc Cert.RDwqIdeal.nD Cert.RDwqIdeal.τ Cert.RDwqIdeal.sig) → Buf (Elt Ideal) ℓ) (g' : Dev Cert.RDwqIdeal.nD → PrngReg), Pre_KDwqIdeal m →
    (∀ c : Dev Cert.KDwqIdeal.nD,
      m' ((c.tc : Thread Cert.RDwqIdeal.nD Cert.RDwqIdeal.τ).loc Cert.RDwqIdeal.main_arg0) = m ((c.tc : Thread Cert.KDwqIdeal.nD Cert.KDwqIdeal.τ).loc Cert.KDwqIdeal.main_arg0)
      ∧ m' ((c.tc : Thread Cert.RDwqIdeal.nD Cert.RDwqIdeal.τ).loc Cert.RDwqIdeal.main_arg1) = m ((c.tc : Thread Cert.KDwqIdeal.nD Cert.KDwqIdeal.τ).loc Cert.KDwqIdeal.main_arg1)) →
    ∃ (v0 : (c : Dev Cert.KDwqIdeal.nD) → Buf (Elt Ideal) ((c.tc : Thread Cert.KDwqIdeal.nD Cert.KDwqIdeal.τ).loc Cert.KDwqIdeal.main_v2)),
      θ_run (Cert.KDwqIdeal.defs (F := Ideal)) (onTc (τ := Cert.KDwqIdeal.τ) (Cert.KDwqIdeal.main (F := Ideal))) ⟨m, fun _ => 0, g⟩ (fun r => ∀ c : Dev Cert.KDwqIdeal.nD,
          r.2.mem ((c.tc : Thread Cert.KDwqIdeal.nD Cert.KDwqIdeal.τ).loc Cert.KDwqIdeal.main_v2) = v0 c
          ∧ r.2.mem ((c.tc : Thread Cert.KDwqIdeal.nD Cert.KDwqIdeal.τ).loc Cert.KDwqIdeal.main_arg0) = m ((c.tc : Thread Cert.KDwqIdeal.nD Cert.KDwqIdeal.τ).loc Cert.KDwqIdeal.main_arg0)
          ∧ r.2.mem ((c.tc : Thread Cert.KDwqIdeal.nD Cert.KDwqIdeal.τ).loc Cert.KDwqIdeal.main_arg1) = m ((c.tc : Thread Cert.KDwqIdeal.nD Cert.KDwqIdeal.τ).loc Cert.KDwqIdeal.main_arg1))
      ∧ θ_run (Cert.RDwqIdeal.defs (F := Ideal)) (onTc (τ := Cert.RDwqIdeal.τ) (Cert.RDwqIdeal.main (F := Ideal))) ⟨m', fun _ => 0, g'⟩ (fun r => ∀ c : Dev Cert.RDwqIdeal.nD,
          r.2.mem ((c.tc : Thread Cert.RDwqIdeal.nD Cert.RDwqIdeal.τ).loc Cert.RDwqIdeal.main_v4) = v0 c
          ∧ r.2.mem ((c.tc : Thread Cert.RDwqIdeal.nD Cert.RDwqIdeal.τ).loc Cert.RDwqIdeal.main_arg0) = m' ((c.tc : Thread Cert.RDwqIdeal.nD Cert.RDwqIdeal.τ).loc Cert.RDwqIdeal.main_arg0)
          ∧ r.2.mem ((c.tc : Thread Cert.RDwqIdeal.nD Cert.RDwqIdeal.τ).loc Cert.RDwqIdeal.main_arg1) = m' ((c.tc : Thread Cert.RDwqIdeal.nD Cert.RDwqIdeal.τ).loc Cert.RDwqIdeal.main_arg1))

def preserves_KDwk_KDwkIdeal : Prop :=
  True

def algebraic_KDwkIdeal_RDwkIdeal [hKDwkIdeal : Cert.KDwkIdeal.Facts] [hRDwkIdeal : Cert.RDwkIdeal.Facts] : Prop :=
  ∀ (m : (ℓ : Loc Cert.KDwkIdeal.nD Cert.KDwkIdeal.τ Cert.KDwkIdeal.sig) → Buf (Elt Ideal) ℓ) (g : Dev Cert.KDwkIdeal.nD → PrngReg)
    (m' : (ℓ : Loc Cert.RDwkIdeal.nD Cert.RDwkIdeal.τ Cert.RDwkIdeal.sig) → Buf (Elt Ideal) ℓ) (g' : Dev Cert.RDwkIdeal.nD → PrngReg), Pre_KDwkIdeal m →
    (∀ c : Dev Cert.KDwkIdeal.nD,
      m' ((c.tc : Thread Cert.RDwkIdeal.nD Cert.RDwkIdeal.τ).loc Cert.RDwkIdeal.main_arg0) = m ((c.tc : Thread Cert.KDwkIdeal.nD Cert.KDwkIdeal.τ).loc Cert.KDwkIdeal.main_arg0)
      ∧ m' ((c.tc : Thread Cert.RDwkIdeal.nD Cert.RDwkIdeal.τ).loc Cert.RDwkIdeal.main_arg1) = m ((c.tc : Thread Cert.KDwkIdeal.nD Cert.KDwkIdeal.τ).loc Cert.KDwkIdeal.main_arg1)) →
    ∃ (v0 : (c : Dev Cert.KDwkIdeal.nD) → Buf (Elt Ideal) ((c.tc : Thread Cert.KDwkIdeal.nD Cert.KDwkIdeal.τ).loc Cert.KDwkIdeal.main_v2)),
      θ_run (Cert.KDwkIdeal.defs (F := Ideal)) (onTc (τ := Cert.KDwkIdeal.τ) (Cert.KDwkIdeal.main (F := Ideal))) ⟨m, fun _ => 0, g⟩ (fun r => ∀ c : Dev Cert.KDwkIdeal.nD,
          r.2.mem ((c.tc : Thread Cert.KDwkIdeal.nD Cert.KDwkIdeal.τ).loc Cert.KDwkIdeal.main_v2) = v0 c
          ∧ r.2.mem ((c.tc : Thread Cert.KDwkIdeal.nD Cert.KDwkIdeal.τ).loc Cert.KDwkIdeal.main_arg0) = m ((c.tc : Thread Cert.KDwkIdeal.nD Cert.KDwkIdeal.τ).loc Cert.KDwkIdeal.main_arg0)
          ∧ r.2.mem ((c.tc : Thread Cert.KDwkIdeal.nD Cert.KDwkIdeal.τ).loc Cert.KDwkIdeal.main_arg1) = m ((c.tc : Thread Cert.KDwkIdeal.nD Cert.KDwkIdeal.τ).loc Cert.KDwkIdeal.main_arg1))
      ∧ θ_run (Cert.RDwkIdeal.defs (F := Ideal)) (onTc (τ := Cert.RDwkIdeal.τ) (Cert.RDwkIdeal.main (F := Ideal))) ⟨m', fun _ => 0, g'⟩ (fun r => ∀ c : Dev Cert.RDwkIdeal.nD,
          r.2.mem ((c.tc : Thread Cert.RDwkIdeal.nD Cert.RDwkIdeal.τ).loc Cert.RDwkIdeal.main_v6) = v0 c
          ∧ r.2.mem ((c.tc : Thread Cert.RDwkIdeal.nD Cert.RDwkIdeal.τ).loc Cert.RDwkIdeal.main_arg0) = m' ((c.tc : Thread Cert.RDwkIdeal.nD Cert.RDwkIdeal.τ).loc Cert.RDwkIdeal.main_arg0)
          ∧ r.2.mem ((c.tc : Thread Cert.RDwkIdeal.nD Cert.RDwkIdeal.τ).loc Cert.RDwkIdeal.main_arg1) = m' ((c.tc : Thread Cert.RDwkIdeal.nD Cert.RDwkIdeal.τ).loc Cert.RDwkIdeal.main_arg1))

def preserves_KDwd_KDwdIdeal : Prop :=
  True

def algebraic_KDwdIdeal_RDwdIdeal [hKDwdIdeal : Cert.KDwdIdeal.Facts] [hRDwdIdeal : Cert.RDwdIdeal.Facts] : Prop :=
  ∀ (m : (ℓ : Loc Cert.KDwdIdeal.nD Cert.KDwdIdeal.τ Cert.KDwdIdeal.sig) → Buf (Elt Ideal) ℓ) (g : Dev Cert.KDwdIdeal.nD → PrngReg)
    (m' : (ℓ : Loc Cert.RDwdIdeal.nD Cert.RDwdIdeal.τ Cert.RDwdIdeal.sig) → Buf (Elt Ideal) ℓ) (g' : Dev Cert.RDwdIdeal.nD → PrngReg), Pre_KDwdIdeal m →
    (∀ c : Dev Cert.KDwdIdeal.nD,
      m' ((c.tc : Thread Cert.RDwdIdeal.nD Cert.RDwdIdeal.τ).loc Cert.RDwdIdeal.main_arg0) = m ((c.tc : Thread Cert.KDwdIdeal.nD Cert.KDwdIdeal.τ).loc Cert.KDwdIdeal.main_arg0)
      ∧ m' ((c.tc : Thread Cert.RDwdIdeal.nD Cert.RDwdIdeal.τ).loc Cert.RDwdIdeal.main_arg1) = m ((c.tc : Thread Cert.KDwdIdeal.nD Cert.KDwdIdeal.τ).loc Cert.KDwdIdeal.main_arg1)) →
    ∃ (v0 : (c : Dev Cert.KDwdIdeal.nD) → Buf (Elt Ideal) ((c.tc : Thread Cert.KDwdIdeal.nD Cert.KDwdIdeal.τ).loc Cert.KDwdIdeal.main_v2)),
      θ_run (Cert.KDwdIdeal.defs (F := Ideal)) (onTc (τ := Cert.KDwdIdeal.τ) (Cert.KDwdIdeal.main (F := Ideal))) ⟨m, fun _ => 0, g⟩ (fun r => ∀ c : Dev Cert.KDwdIdeal.nD,
          r.2.mem ((c.tc : Thread Cert.KDwdIdeal.nD Cert.KDwdIdeal.τ).loc Cert.KDwdIdeal.main_v2) = v0 c
          ∧ r.2.mem ((c.tc : Thread Cert.KDwdIdeal.nD Cert.KDwdIdeal.τ).loc Cert.KDwdIdeal.main_arg0) = m ((c.tc : Thread Cert.KDwdIdeal.nD Cert.KDwdIdeal.τ).loc Cert.KDwdIdeal.main_arg0)
          ∧ r.2.mem ((c.tc : Thread Cert.KDwdIdeal.nD Cert.KDwdIdeal.τ).loc Cert.KDwdIdeal.main_arg1) = m ((c.tc : Thread Cert.KDwdIdeal.nD Cert.KDwdIdeal.τ).loc Cert.KDwdIdeal.main_arg1))
      ∧ θ_run (Cert.RDwdIdeal.defs (F := Ideal)) (onTc (τ := Cert.RDwdIdeal.τ) (Cert.RDwdIdeal.main (F := Ideal))) ⟨m', fun _ => 0, g'⟩ (fun r => ∀ c : Dev Cert.RDwdIdeal.nD,
          r.2.mem ((c.tc : Thread Cert.RDwdIdeal.nD Cert.RDwdIdeal.τ).loc Cert.RDwdIdeal.main_v4) = v0 c
          ∧ r.2.mem ((c.tc : Thread Cert.RDwdIdeal.nD Cert.RDwdIdeal.τ).loc Cert.RDwdIdeal.main_arg0) = m' ((c.tc : Thread Cert.RDwdIdeal.nD Cert.RDwdIdeal.τ).loc Cert.RDwdIdeal.main_arg0)
          ∧ r.2.mem ((c.tc : Thread Cert.RDwdIdeal.nD Cert.RDwdIdeal.τ).loc Cert.RDwdIdeal.main_arg1) = m' ((c.tc : Thread Cert.RDwdIdeal.nD Cert.RDwdIdeal.τ).loc Cert.RDwdIdeal.main_arg1))

def preserves_KAttn_KAttnIdeal : Prop :=
  IdealRules.named_const.Statement Cert.KAttnIdeal.κ "mask" .f32 0xF149F2CA#32 ⊥
  ∧ IdealRules.named_const.Statement Cert.KAttnIdeal.κ "ln2" .f32 0x3F317218#32 ((Real.log 2 : ℝ) : EReal)

def algebraic_KAttnIdeal_RAttnIdeal_pre_finite_attn [hKAttnIdeal : Cert.KAttnIdeal.Facts] [hRAttnIdeal : Cert.RAttnIdeal.Facts] [hPre_finite_attn : Cert.Pre_finite_attn.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal_finite_attn m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)) →
    ∃ (v0 : (c : Dev Cert.KAttnIdeal.nD) → Buf (Elt Ideal) ((c.tc : Thread Cert.KAttnIdeal.nD Cert.KAttnIdeal.τ).loc Cert.KAttnIdeal.main_v17_0)) (v1 : (c : Dev Cert.KAttnIdeal.nD) → Buf (Elt Ideal) ((c.tc : Thread Cert.KAttnIdeal.nD Cert.KAttnIdeal.τ).loc Cert.KAttnIdeal.main_v17_1)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v17_0) = v0 c
          ∧ r.2.mem ((c.tc : Thread Cert.KAttnIdeal.nD Cert.KAttnIdeal.τ).loc Cert.KAttnIdeal.main_v17_1) = v1 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v42) = v0 c
          ∧ r.2.mem ((c.tc : Thread Cert.RAttnIdeal.nD Cert.RAttnIdeal.τ).loc Cert.RAttnIdeal.main_v46) = v1 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2))

def preserves_KLat_KLatIdeal : Prop :=
  True

def algebraic_KLatIdeal_RLatIdeal [hKLatIdeal : Cert.KLatIdeal.Facts] [hRLatIdeal : Cert.RLatIdeal.Facts] : Prop :=
  ∀ (m : (ℓ : Loc Cert.KLatIdeal.nD Cert.KLatIdeal.τ Cert.KLatIdeal.sig) → Buf (Elt Ideal) ℓ) (g : Dev Cert.KLatIdeal.nD → PrngReg)
    (m' : (ℓ : Loc Cert.RLatIdeal.nD Cert.RLatIdeal.τ Cert.RLatIdeal.sig) → Buf (Elt Ideal) ℓ) (g' : Dev Cert.RLatIdeal.nD → PrngReg), Pre_KLatIdeal m →
    (∀ c : Dev Cert.KLatIdeal.nD,
      m' ((c.tc : Thread Cert.RLatIdeal.nD Cert.RLatIdeal.τ).loc Cert.RLatIdeal.main_arg0) = m ((c.tc : Thread Cert.KLatIdeal.nD Cert.KLatIdeal.τ).loc Cert.KLatIdeal.main_arg0)
      ∧ m' ((c.tc : Thread Cert.RLatIdeal.nD Cert.RLatIdeal.τ).loc Cert.RLatIdeal.main_arg1) = m ((c.tc : Thread Cert.KLatIdeal.nD Cert.KLatIdeal.τ).loc Cert.KLatIdeal.main_arg1)
      ∧ m' ((c.tc : Thread Cert.RLatIdeal.nD Cert.RLatIdeal.τ).loc Cert.RLatIdeal.main_arg2) = m ((c.tc : Thread Cert.KLatIdeal.nD Cert.KLatIdeal.τ).loc Cert.KLatIdeal.main_arg2)
      ∧ m' ((c.tc : Thread Cert.RLatIdeal.nD Cert.RLatIdeal.τ).loc Cert.RLatIdeal.main_arg3) = m ((c.tc : Thread Cert.KLatIdeal.nD Cert.KLatIdeal.τ).loc Cert.KLatIdeal.main_arg3)
      ∧ m' ((c.tc : Thread Cert.RLatIdeal.nD Cert.RLatIdeal.τ).loc Cert.RLatIdeal.main_arg4) = m ((c.tc : Thread Cert.KLatIdeal.nD Cert.KLatIdeal.τ).loc Cert.KLatIdeal.main_arg4)
      ∧ m' ((c.tc : Thread Cert.RLatIdeal.nD Cert.RLatIdeal.τ).loc Cert.RLatIdeal.main_arg5) = m ((c.tc : Thread Cert.KLatIdeal.nD Cert.KLatIdeal.τ).loc Cert.KLatIdeal.main_arg5)
      ∧ m' ((c.tc : Thread Cert.RLatIdeal.nD Cert.RLatIdeal.τ).loc Cert.RLatIdeal.main_arg6) = m ((c.tc : Thread Cert.KLatIdeal.nD Cert.KLatIdeal.τ).loc Cert.KLatIdeal.main_arg6)
      ∧ m' ((c.tc : Thread Cert.RLatIdeal.nD Cert.RLatIdeal.τ).loc Cert.RLatIdeal.main_arg7) = m ((c.tc : Thread Cert.KLatIdeal.nD Cert.KLatIdeal.τ).loc Cert.KLatIdeal.main_arg7)) →
    ∃ (v0 : (c : Dev Cert.KLatIdeal.nD) → Buf (Elt Ideal) ((c.tc : Thread Cert.KLatIdeal.nD Cert.KLatIdeal.τ).loc Cert.KLatIdeal.main_v7_0)) (v1 : (c : Dev Cert.KLatIdeal.nD) → Buf (Elt Ideal) ((c.tc : Thread Cert.KLatIdeal.nD Cert.KLatIdeal.τ).loc Cert.KLatIdeal.main_v7_1)) (v2 : (c : Dev Cert.KLatIdeal.nD) → Buf (Elt Ideal) ((c.tc : Thread Cert.KLatIdeal.nD Cert.KLatIdeal.τ).loc Cert.KLatIdeal.main_v7_2)) (v3 : (c : Dev Cert.KLatIdeal.nD) → Buf (Elt Ideal) ((c.tc : Thread Cert.KLatIdeal.nD Cert.KLatIdeal.τ).loc Cert.KLatIdeal.main_v7_3)) (v4 : (c : Dev Cert.KLatIdeal.nD) → Buf (Elt Ideal) ((c.tc : Thread Cert.KLatIdeal.nD Cert.KLatIdeal.τ).loc Cert.KLatIdeal.main_v7_4)),
      θ_run (Cert.KLatIdeal.defs (F := Ideal)) (onTc (τ := Cert.KLatIdeal.τ) (Cert.KLatIdeal.main (F := Ideal))) ⟨m, fun _ => 0, g⟩ (fun r => ∀ c : Dev Cert.KLatIdeal.nD,
          r.2.mem ((c.tc : Thread Cert.KLatIdeal.nD Cert.KLatIdeal.τ).loc Cert.KLatIdeal.main_v7_0) = v0 c
          ∧ r.2.mem ((c.tc : Thread Cert.KLatIdeal.nD Cert.KLatIdeal.τ).loc Cert.KLatIdeal.main_v7_1) = v1 c
          ∧ r.2.mem ((c.tc : Thread Cert.KLatIdeal.nD Cert.KLatIdeal.τ).loc Cert.KLatIdeal.main_v7_2) = v2 c
          ∧ r.2.mem ((c.tc : Thread Cert.KLatIdeal.nD Cert.KLatIdeal.τ).loc Cert.KLatIdeal.main_v7_3) = v3 c
          ∧ r.2.mem ((c.tc : Thread Cert.KLatIdeal.nD Cert.KLatIdeal.τ).loc Cert.KLatIdeal.main_v7_4) = v4 c
          ∧ r.2.mem ((c.tc : Thread Cert.KLatIdeal.nD Cert.KLatIdeal.τ).loc Cert.KLatIdeal.main_arg0) = m ((c.tc : Thread Cert.KLatIdeal.nD Cert.KLatIdeal.τ).loc Cert.KLatIdeal.main_arg0)
          ∧ r.2.mem ((c.tc : Thread Cert.KLatIdeal.nD Cert.KLatIdeal.τ).loc Cert.KLatIdeal.main_arg1) = m ((c.tc : Thread Cert.KLatIdeal.nD Cert.KLatIdeal.τ).loc Cert.KLatIdeal.main_arg1)
          ∧ r.2.mem ((c.tc : Thread Cert.KLatIdeal.nD Cert.KLatIdeal.τ).loc Cert.KLatIdeal.main_arg2) = m ((c.tc : Thread Cert.KLatIdeal.nD Cert.KLatIdeal.τ).loc Cert.KLatIdeal.main_arg2)
          ∧ r.2.mem ((c.tc : Thread Cert.KLatIdeal.nD Cert.KLatIdeal.τ).loc Cert.KLatIdeal.main_arg3) = m ((c.tc : Thread Cert.KLatIdeal.nD Cert.KLatIdeal.τ).loc Cert.KLatIdeal.main_arg3)
          ∧ r.2.mem ((c.tc : Thread Cert.KLatIdeal.nD Cert.KLatIdeal.τ).loc Cert.KLatIdeal.main_arg4) = m ((c.tc : Thread Cert.KLatIdeal.nD Cert.KLatIdeal.τ).loc Cert.KLatIdeal.main_arg4)
          ∧ r.2.mem ((c.tc : Thread Cert.KLatIdeal.nD Cert.KLatIdeal.τ).loc Cert.KLatIdeal.main_arg5) = m ((c.tc : Thread Cert.KLatIdeal.nD Cert.KLatIdeal.τ).loc Cert.KLatIdeal.main_arg5)
          ∧ r.2.mem ((c.tc : Thread Cert.KLatIdeal.nD Cert.KLatIdeal.τ).loc Cert.KLatIdeal.main_arg6) = m ((c.tc : Thread Cert.KLatIdeal.nD Cert.KLatIdeal.τ).loc Cert.KLatIdeal.main_arg6)
          ∧ r.2.mem ((c.tc : Thread Cert.KLatIdeal.nD Cert.KLatIdeal.τ).loc Cert.KLatIdeal.main_arg7) = m ((c.tc : Thread Cert.KLatIdeal.nD Cert.KLatIdeal.τ).loc Cert.KLatIdeal.main_arg7))
      ∧ θ_run (Cert.RLatIdeal.defs (F := Ideal)) (onTc (τ := Cert.RLatIdeal.τ) (Cert.RLatIdeal.main (F := Ideal))) ⟨m', fun _ => 0, g'⟩ (fun r => ∀ c : Dev Cert.RLatIdeal.nD,
          r.2.mem ((c.tc : Thread Cert.RLatIdeal.nD Cert.RLatIdeal.τ).loc Cert.RLatIdeal.main_v38) = v0 c
          ∧ r.2.mem ((c.tc : Thread Cert.RLatIdeal.nD Cert.RLatIdeal.τ).loc Cert.RLatIdeal.main_v39) = v1 c
          ∧ r.2.mem ((c.tc : Thread Cert.RLatIdeal.nD Cert.RLatIdeal.τ).loc Cert.RLatIdeal.main_v52) = v2 c
          ∧ r.2.mem ((c.tc : Thread Cert.RLatIdeal.nD Cert.RLatIdeal.τ).loc Cert.RLatIdeal.main_v65) = v3 c
          ∧ r.2.mem ((c.tc : Thread Cert.RLatIdeal.nD Cert.RLatIdeal.τ).loc Cert.RLatIdeal.main_v67) = v4 c
          ∧ r.2.mem ((c.tc : Thread Cert.RLatIdeal.nD Cert.RLatIdeal.τ).loc Cert.RLatIdeal.main_arg0) = m' ((c.tc : Thread Cert.RLatIdeal.nD Cert.RLatIdeal.τ).loc Cert.RLatIdeal.main_arg0)
          ∧ r.2.mem ((c.tc : Thread Cert.RLatIdeal.nD Cert.RLatIdeal.τ).loc Cert.RLatIdeal.main_arg1) = m' ((c.tc : Thread Cert.RLatIdeal.nD Cert.RLatIdeal.τ).loc Cert.RLatIdeal.main_arg1)
          ∧ r.2.mem ((c.tc : Thread Cert.RLatIdeal.nD Cert.RLatIdeal.τ).loc Cert.RLatIdeal.main_arg2) = m' ((c.tc : Thread Cert.RLatIdeal.nD Cert.RLatIdeal.τ).loc Cert.RLatIdeal.main_arg2)
          ∧ r.2.mem ((c.tc : Thread Cert.RLatIdeal.nD Cert.RLatIdeal.τ).loc Cert.RLatIdeal.main_arg3) = m' ((c.tc : Thread Cert.RLatIdeal.nD Cert.RLatIdeal.τ).loc Cert.RLatIdeal.main_arg3)
          ∧ r.2.mem ((c.tc : Thread Cert.RLatIdeal.nD Cert.RLatIdeal.τ).loc Cert.RLatIdeal.main_arg4) = m' ((c.tc : Thread Cert.RLatIdeal.nD Cert.RLatIdeal.τ).loc Cert.RLatIdeal.main_arg4)
          ∧ r.2.mem ((c.tc : Thread Cert.RLatIdeal.nD Cert.RLatIdeal.τ).loc Cert.RLatIdeal.main_arg5) = m' ((c.tc : Thread Cert.RLatIdeal.nD Cert.RLatIdeal.τ).loc Cert.RLatIdeal.main_arg5)
          ∧ r.2.mem ((c.tc : Thread Cert.RLatIdeal.nD Cert.RLatIdeal.τ).loc Cert.RLatIdeal.main_arg6) = m' ((c.tc : Thread Cert.RLatIdeal.nD Cert.RLatIdeal.τ).loc Cert.RLatIdeal.main_arg6)
          ∧ r.2.mem ((c.tc : Thread Cert.RLatIdeal.nD Cert.RLatIdeal.τ).loc Cert.RLatIdeal.main_arg7) = m' ((c.tc : Thread Cert.RLatIdeal.nD Cert.RLatIdeal.τ).loc Cert.RLatIdeal.main_arg7))

def preserves_KQkv_KQkvIdeal : Prop :=
  True

def algebraic_KQkvIdeal_RQkvIdeal [hKQkvIdeal : Cert.KQkvIdeal.Facts] [hRQkvIdeal : Cert.RQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg)
    (m' : (ℓ : Loc Cert.RQkvIdeal.nD Cert.RQkvIdeal.τ Cert.RQkvIdeal.sig) → Buf (Elt Ideal) ℓ) (g' : Dev Cert.RQkvIdeal.nD → PrngReg), Pre_KQkvIdeal m →
    (∀ c : Dev Cert.KQkvIdeal.nD,
      m' ((c.tc : Thread Cert.RQkvIdeal.nD Cert.RQkvIdeal.τ).loc Cert.RQkvIdeal.main_arg0) = m ((c.tc : Thread Cert.KQkvIdeal.nD Cert.KQkvIdeal.τ).loc Cert.KQkvIdeal.main_arg0)
      ∧ m' ((c.tc : Thread Cert.RQkvIdeal.nD Cert.RQkvIdeal.τ).loc Cert.RQkvIdeal.main_arg1) = m ((c.tc : Thread Cert.KQkvIdeal.nD Cert.KQkvIdeal.τ).loc Cert.KQkvIdeal.main_arg1)
      ∧ m' ((c.tc : Thread Cert.RQkvIdeal.nD Cert.RQkvIdeal.τ).loc Cert.RQkvIdeal.main_arg2) = m ((c.tc : Thread Cert.KQkvIdeal.nD Cert.KQkvIdeal.τ).loc Cert.KQkvIdeal.main_arg2)
      ∧ m' ((c.tc : Thread Cert.RQkvIdeal.nD Cert.RQkvIdeal.τ).loc Cert.RQkvIdeal.main_arg3) = m ((c.tc : Thread Cert.KQkvIdeal.nD Cert.KQkvIdeal.τ).loc Cert.KQkvIdeal.main_arg3)
      ∧ m' ((c.tc : Thread Cert.RQkvIdeal.nD Cert.RQkvIdeal.τ).loc Cert.RQkvIdeal.main_arg4) = m ((c.tc : Thread Cert.KQkvIdeal.nD Cert.KQkvIdeal.τ).loc Cert.KQkvIdeal.main_arg4)
      ∧ m' ((c.tc : Thread Cert.RQkvIdeal.nD Cert.RQkvIdeal.τ).loc Cert.RQkvIdeal.main_arg5) = m ((c.tc : Thread Cert.KQkvIdeal.nD Cert.KQkvIdeal.τ).loc Cert.KQkvIdeal.main_arg5)
      ∧ m' ((c.tc : Thread Cert.RQkvIdeal.nD Cert.RQkvIdeal.τ).loc Cert.RQkvIdeal.main_arg6) = m ((c.tc : Thread Cert.KQkvIdeal.nD Cert.KQkvIdeal.τ).loc Cert.KQkvIdeal.main_arg6)) →
    ∃ (v0 : (c : Dev Cert.KQkvIdeal.nD) → Buf (Elt Ideal) ((c.tc : Thread Cert.KQkvIdeal.nD Cert.KQkvIdeal.τ).loc Cert.KQkvIdeal.main_v15_0)) (v1 : (c : Dev Cert.KQkvIdeal.nD) → Buf (Elt Ideal) ((c.tc : Thread Cert.KQkvIdeal.nD Cert.KQkvIdeal.τ).loc Cert.KQkvIdeal.main_v15_1)) (v2 : (c : Dev Cert.KQkvIdeal.nD) → Buf (Elt Ideal) ((c.tc : Thread Cert.KQkvIdeal.nD Cert.KQkvIdeal.τ).loc Cert.KQkvIdeal.main_v15_2)),
      θ_run (Cert.KQkvIdeal.defs (F := Ideal)) (onTc (τ := Cert.KQkvIdeal.τ) (Cert.KQkvIdeal.main (F := Ideal))) ⟨m, fun _ => 0, g⟩ (fun r => ∀ c : Dev Cert.KQkvIdeal.nD,
          r.2.mem ((c.tc : Thread Cert.KQkvIdeal.nD Cert.KQkvIdeal.τ).loc Cert.KQkvIdeal.main_v15_0) = v0 c
          ∧ r.2.mem ((c.tc : Thread Cert.KQkvIdeal.nD Cert.KQkvIdeal.τ).loc Cert.KQkvIdeal.main_v15_1) = v1 c
          ∧ r.2.mem ((c.tc : Thread Cert.KQkvIdeal.nD Cert.KQkvIdeal.τ).loc Cert.KQkvIdeal.main_v15_2) = v2 c
          ∧ r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
          ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
          ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
          ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
          ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4)
          ∧ r.2.mem ((c.tc : Thread Cert.KQkvIdeal.nD Cert.KQkvIdeal.τ).loc Cert.KQkvIdeal.main_arg5) = m ((c.tc : Thread Cert.KQkvIdeal.nD Cert.KQkvIdeal.τ).loc Cert.KQkvIdeal.main_arg5)
          ∧ r.2.mem ((c.tc : Thread Cert.KQkvIdeal.nD Cert.KQkvIdeal.τ).loc Cert.KQkvIdeal.main_arg6) = m ((c.tc : Thread Cert.KQkvIdeal.nD Cert.KQkvIdeal.τ).loc Cert.KQkvIdeal.main_arg6))
      ∧ θ_run (Cert.RQkvIdeal.defs (F := Ideal)) (onTc (τ := Cert.RQkvIdeal.τ) (Cert.RQkvIdeal.main (F := Ideal))) ⟨m', fun _ => 0, g'⟩ (fun r => ∀ c : Dev Cert.RQkvIdeal.nD,
          r.2.mem ((c.tc : Thread Cert.RQkvIdeal.nD Cert.RQkvIdeal.τ).loc Cert.RQkvIdeal.main_v30) = v0 c
          ∧ r.2.mem ((c.tc : Thread Cert.RQkvIdeal.nD Cert.RQkvIdeal.τ).loc Cert.RQkvIdeal.main_v32) = v1 c
          ∧ r.2.mem ((c.tc : Thread Cert.RQkvIdeal.nD Cert.RQkvIdeal.τ).loc Cert.RQkvIdeal.main_v34) = v2 c
          ∧ r.2.mem ((c.tc : Thread Cert.RQkvIdeal.nD Cert.RQkvIdeal.τ).loc Cert.RQkvIdeal.main_arg0) = m' ((c.tc : Thread Cert.RQkvIdeal.nD Cert.RQkvIdeal.τ).loc Cert.RQkvIdeal.main_arg0)
          ∧ r.2.mem ((c.tc : Thread Cert.RQkvIdeal.nD Cert.RQkvIdeal.τ).loc Cert.RQkvIdeal.main_arg1) = m' ((c.tc : Thread Cert.RQkvIdeal.nD Cert.RQkvIdeal.τ).loc Cert.RQkvIdeal.main_arg1)
          ∧ r.2.mem ((c.tc : Thread Cert.RQkvIdeal.nD Cert.RQkvIdeal.τ).loc Cert.RQkvIdeal.main_arg2) = m' ((c.tc : Thread Cert.RQkvIdeal.nD Cert.RQkvIdeal.τ).loc Cert.RQkvIdeal.main_arg2)
          ∧ r.2.mem ((c.tc : Thread Cert.RQkvIdeal.nD Cert.RQkvIdeal.τ).loc Cert.RQkvIdeal.main_arg3) = m' ((c.tc : Thread Cert.RQkvIdeal.nD Cert.RQkvIdeal.τ).loc Cert.RQkvIdeal.main_arg3)
          ∧ r.2.mem ((c.tc : Thread Cert.RQkvIdeal.nD Cert.RQkvIdeal.τ).loc Cert.RQkvIdeal.main_arg4) = m' ((c.tc : Thread Cert.RQkvIdeal.nD Cert.RQkvIdeal.τ).loc Cert.RQkvIdeal.main_arg4)
          ∧ r.2.mem ((c.tc : Thread Cert.RQkvIdeal.nD Cert.RQkvIdeal.τ).loc Cert.RQkvIdeal.main_arg5) = m' ((c.tc : Thread Cert.RQkvIdeal.nD Cert.RQkvIdeal.τ).loc Cert.RQkvIdeal.main_arg5)
          ∧ r.2.mem ((c.tc : Thread Cert.RQkvIdeal.nD Cert.RQkvIdeal.τ).loc Cert.RQkvIdeal.main_arg6) = m' ((c.tc : Thread Cert.RQkvIdeal.nD Cert.RQkvIdeal.τ).loc Cert.RQkvIdeal.main_arg6))

def Claim : Prop :=
  ∃ (hKernel : Cert.Kernel.Facts) (hKernelIdeal : Cert.KernelIdeal.Facts) (hReferenceIdeal : Cert.ReferenceIdeal.Facts) (hKDown : Cert.KDown.Facts) (hKDownIdeal : Cert.KDownIdeal.Facts) (hRDownIdeal : Cert.RDownIdeal.Facts) (hKDw2 : Cert.KDw2.Facts) (hKDw2Ideal : Cert.KDw2Ideal.Facts) (hRDw2Ideal : Cert.RDw2Ideal.Facts) (hKDw1 : Cert.KDw1.Facts) (hKDw1Ideal : Cert.KDw1Ideal.Facts) (hRDw1Ideal : Cert.RDw1Ideal.Facts) (hKUp : Cert.KUp.Facts) (hKUpIdeal : Cert.KUpIdeal.Facts) (hRUpIdeal : Cert.RUpIdeal.Facts) (hKMup : Cert.KMup.Facts) (hKMupIdeal : Cert.KMupIdeal.Facts) (hRMupIdeal : Cert.RMupIdeal.Facts) (hKMdown : Cert.KMdown.Facts) (hKMdownIdeal : Cert.KMdownIdeal.Facts) (hRMdownIdeal : Cert.RMdownIdeal.Facts) (hKOut : Cert.KOut.Facts) (hKOutIdeal : Cert.KOutIdeal.Facts) (hROutIdeal : Cert.ROutIdeal.Facts) (hKBo : Cert.KBo.Facts) (hKBoIdeal : Cert.KBoIdeal.Facts) (hRBoIdeal : Cert.RBoIdeal.Facts) (hKDwo : Cert.KDwo.Facts) (hKDwoIdeal : Cert.KDwoIdeal.Facts) (hRDwoIdeal : Cert.RDwoIdeal.Facts) (hKSdo : Cert.KSdo.Facts) (hKSdoIdeal : Cert.KSdoIdeal.Facts) (hRSdoIdeal : Cert.RSdoIdeal.Facts) (hKSdi : Cert.KSdi.Facts) (hKSdiIdeal : Cert.KSdiIdeal.Facts) (hRSdiIdeal : Cert.RSdiIdeal.Facts) (hKDwq : Cert.KDwq.Facts) (hKDwqIdeal : Cert.KDwqIdeal.Facts) (hRDwqIdeal : Cert.RDwqIdeal.Facts) (hKDwk : Cert.KDwk.Facts) (hKDwkIdeal : Cert.KDwkIdeal.Facts) (hRDwkIdeal : Cert.RDwkIdeal.Facts) (hKDwd : Cert.KDwd.Facts) (hKDwdIdeal : Cert.KDwdIdeal.Facts) (hRDwdIdeal : Cert.RDwdIdeal.Facts) (hKAttn : Cert.KAttn.Facts) (hKAttnIdeal : Cert.KAttnIdeal.Facts) (hRAttnIdeal : Cert.RAttnIdeal.Facts) (hKLat : Cert.KLat.Facts) (hKLatIdeal : Cert.KLatIdeal.Facts) (hRLatIdeal : Cert.RLatIdeal.Facts) (hKQkv : Cert.KQkv.Facts) (hKQkvIdeal : Cert.KQkvIdeal.Facts) (hRQkvIdeal : Cert.RQkvIdeal.Facts) (hPre_finite : Cert.Pre_finite.Facts) (hPre_finite_up : Cert.Pre_finite_up.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KDown (hKDown := hKDown)
    ∧ quiescent_KDownIdeal (hKDownIdeal := hKDownIdeal)
    ∧ quiescent_RDownIdeal (hRDownIdeal := hRDownIdeal)
    ∧ quiescent_KDw2 (hKDw2 := hKDw2)
    ∧ quiescent_KDw2Ideal (hKDw2Ideal := hKDw2Ideal)
    ∧ quiescent_RDw2Ideal (hRDw2Ideal := hRDw2Ideal)
    ∧ quiescent_KDw1 (hKDw1 := hKDw1)
    ∧ quiescent_KDw1Ideal (hKDw1Ideal := hKDw1Ideal)
    ∧ quiescent_RDw1Ideal (hRDw1Ideal := hRDw1Ideal)
    ∧ quiescent_KUp (hKUp := hKUp)
    ∧ quiescent_KUpIdeal (hKUpIdeal := hKUpIdeal)
    ∧ quiescent_KUpIdeal_pre_finite_up (hKUpIdeal := hKUpIdeal) (hPre_finite_up := hPre_finite_up)
    ∧ quiescent_RUpIdeal (hRUpIdeal := hRUpIdeal)
    ∧ quiescent_RUpIdeal_pre_finite_up (hRUpIdeal := hRUpIdeal) (hPre_finite_up := hPre_finite_up)
    ∧ quiescent_KMup (hKMup := hKMup)
    ∧ quiescent_KMupIdeal (hKMupIdeal := hKMupIdeal)
    ∧ quiescent_RMupIdeal (hRMupIdeal := hRMupIdeal)
    ∧ quiescent_KMdown (hKMdown := hKMdown)
    ∧ quiescent_KMdownIdeal (hKMdownIdeal := hKMdownIdeal)
    ∧ quiescent_RMdownIdeal (hRMdownIdeal := hRMdownIdeal)
    ∧ quiescent_KOut (hKOut := hKOut)
    ∧ quiescent_KOutIdeal (hKOutIdeal := hKOutIdeal)
    ∧ quiescent_ROutIdeal (hROutIdeal := hROutIdeal)
    ∧ quiescent_KBo (hKBo := hKBo)
    ∧ quiescent_KBoIdeal (hKBoIdeal := hKBoIdeal)
    ∧ quiescent_RBoIdeal (hRBoIdeal := hRBoIdeal)
    ∧ quiescent_KDwo (hKDwo := hKDwo)
    ∧ quiescent_KDwoIdeal (hKDwoIdeal := hKDwoIdeal)
    ∧ quiescent_RDwoIdeal (hRDwoIdeal := hRDwoIdeal)
    ∧ quiescent_KSdo (hKSdo := hKSdo)
    ∧ quiescent_KSdoIdeal (hKSdoIdeal := hKSdoIdeal)
    ∧ quiescent_RSdoIdeal (hRSdoIdeal := hRSdoIdeal)
    ∧ quiescent_KSdi (hKSdi := hKSdi)
    ∧ quiescent_KSdiIdeal (hKSdiIdeal := hKSdiIdeal)
    ∧ quiescent_RSdiIdeal (hRSdiIdeal := hRSdiIdeal)
    ∧ quiescent_KDwq (hKDwq := hKDwq)
    ∧ quiescent_KDwqIdeal (hKDwqIdeal := hKDwqIdeal)
    ∧ quiescent_RDwqIdeal (hRDwqIdeal := hRDwqIdeal)
    ∧ quiescent_KDwk (hKDwk := hKDwk)
    ∧ quiescent_KDwkIdeal (hKDwkIdeal := hKDwkIdeal)
    ∧ quiescent_RDwkIdeal (hRDwkIdeal := hRDwkIdeal)
    ∧ quiescent_KDwd (hKDwd := hKDwd)
    ∧ quiescent_KDwdIdeal (hKDwdIdeal := hKDwdIdeal)
    ∧ quiescent_RDwdIdeal (hRDwdIdeal := hRDwdIdeal)
    ∧ quiescent_KAttn (hKAttn := hKAttn)
    ∧ quiescent_KAttnIdeal (hKAttnIdeal := hKAttnIdeal)
    ∧ quiescent_KAttnIdeal_pre_finite_attn (hKAttnIdeal := hKAttnIdeal) (hPre_finite_attn := hPre_finite_attn)
    ∧ quiescent_RAttnIdeal (hRAttnIdeal := hRAttnIdeal)
    ∧ quiescent_RAttnIdeal_pre_finite_attn (hRAttnIdeal := hRAttnIdeal) (hPre_finite_attn := hPre_finite_attn)
    ∧ quiescent_KLat (hKLat := hKLat)
    ∧ quiescent_KLatIdeal (hKLatIdeal := hKLatIdeal)
    ∧ quiescent_RLatIdeal (hRLatIdeal := hRLatIdeal)
    ∧ quiescent_KQkv (hKQkv := hKQkv)
    ∧ quiescent_KQkvIdeal (hKQkvIdeal := hKQkvIdeal)
    ∧ quiescent_RQkvIdeal (hRQkvIdeal := hRQkvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KDown_KDownIdeal
    ∧ algebraic_KDownIdeal_RDownIdeal (hKDownIdeal := hKDownIdeal) (hRDownIdeal := hRDownIdeal)
    ∧ preserves_KDw2_KDw2Ideal
    ∧ algebraic_KDw2Ideal_RDw2Ideal (hKDw2Ideal := hKDw2Ideal) (hRDw2Ideal := hRDw2Ideal)
    ∧ preserves_KDw1_KDw1Ideal
    ∧ algebraic_KDw1Ideal_RDw1Ideal (hKDw1Ideal := hKDw1Ideal) (hRDw1Ideal := hRDw1Ideal)
    ∧ preserves_KUp_KUpIdeal
    ∧ algebraic_KUpIdeal_RUpIdeal_pre_finite_up (hKUpIdeal := hKUpIdeal) (hRUpIdeal := hRUpIdeal) (hPre_finite_up := hPre_finite_up)
    ∧ preserves_KMup_KMupIdeal
    ∧ algebraic_KMupIdeal_RMupIdeal (hKMupIdeal := hKMupIdeal) (hRMupIdeal := hRMupIdeal)
    ∧ preserves_KMdown_KMdownIdeal
    ∧ algebraic_KMdownIdeal_RMdownIdeal (hKMdownIdeal := hKMdownIdeal) (hRMdownIdeal := hRMdownIdeal)
    ∧ preserves_KOut_KOutIdeal
    ∧ algebraic_KOutIdeal_ROutIdeal (hKOutIdeal := hKOutIdeal) (hROutIdeal := hROutIdeal)
    ∧ preserves_KBo_KBoIdeal
    ∧ algebraic_KBoIdeal_RBoIdeal (hKBoIdeal := hKBoIdeal) (hRBoIdeal := hRBoIdeal)
    ∧ preserves_KDwo_KDwoIdeal
    ∧ algebraic_KDwoIdeal_RDwoIdeal (hKDwoIdeal := hKDwoIdeal) (hRDwoIdeal := hRDwoIdeal)
    ∧ preserves_KSdo_KSdoIdeal
    ∧ algebraic_KSdoIdeal_RSdoIdeal (hKSdoIdeal := hKSdoIdeal) (hRSdoIdeal := hRSdoIdeal)
    ∧ preserves_KSdi_KSdiIdeal
    ∧ algebraic_KSdiIdeal_RSdiIdeal (hKSdiIdeal := hKSdiIdeal) (hRSdiIdeal := hRSdiIdeal)
    ∧ preserves_KDwq_KDwqIdeal
    ∧ algebraic_KDwqIdeal_RDwqIdeal (hKDwqIdeal := hKDwqIdeal) (hRDwqIdeal := hRDwqIdeal)
    ∧ preserves_KDwk_KDwkIdeal
    ∧ algebraic_KDwkIdeal_RDwkIdeal (hKDwkIdeal := hKDwkIdeal) (hRDwkIdeal := hRDwkIdeal)
    ∧ preserves_KDwd_KDwdIdeal
    ∧ algebraic_KDwdIdeal_RDwdIdeal (hKDwdIdeal := hKDwdIdeal) (hRDwdIdeal := hRDwdIdeal)
    ∧ preserves_KAttn_KAttnIdeal
    ∧ algebraic_KAttnIdeal_RAttnIdeal_pre_finite_attn (hKAttnIdeal := hKAttnIdeal) (hRAttnIdeal := hRAttnIdeal) (hPre_finite_attn := hPre_finite_attn)
    ∧ preserves_KLat_KLatIdeal
    ∧ algebraic_KLatIdeal_RLatIdeal (hKLatIdeal := hKLatIdeal) (hRLatIdeal := hRLatIdeal)
    ∧ preserves_KQkv_KQkvIdeal
    ∧ algebraic_KQkvIdeal_RQkvIdeal (hKQkvIdeal := hKQkvIdeal) (hRQkvIdeal := hRQkvIdeal)
-- ==== Pre_finite.lean ====
abbrev S4096x16x192 : Shape := ⟨3, ![4096, 16, 192]⟩
abbrev S4096x16x256 : Shape := ⟨3, ![4096, 16, 256]⟩
abbrev S4096x64 : Shape := ⟨2, ![4096, 64]⟩
abbrev S4096 : Shape := ⟨1, ![4096]⟩
abbrev S4096x2048 : Shape := ⟨2, ![4096, 2048]⟩
abbrev S_ : Shape := ⟨0, ![]⟩

class Facts : Prop where
  bcast_S_S4096x16x192 : S_.BroadcastsInDim S4096x16x192 (![] : Fin 0 → Fin S4096x16x192.rank)
  reducesTo_S4096x16x192_S_d0_1_2 : S4096x16x192.ReducesTo [0, 1, 2] S_
  h_S_ : 0 < S_.numel
  bcast_S_S4096x16x256 : S_.BroadcastsInDim S4096x16x256 (![] : Fin 0 → Fin S4096x16x256.rank)
  reducesTo_S4096x16x256_S_d0_1_2 : S4096x16x256.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x16x192 .f32) (main_arg1 : FVec F S4096x16x256 .f32) (main_arg2 : FVec F S4096x64 .f32) (main_arg3 : IVec S4096 32) (main_arg4 : FVec F S4096x2048 .f32) : IVec S_ 1 :=
  let main_v0 : FVec F S4096x16x192 .f32 := Host.absf main_arg0
  let main_cst : FVec F S_ .f32 := constant S_ .f32 0x7F800000#32
  let main_v1 : FVec F S4096x16x192 .f32 := broadcastInDim S4096x16x192 ![] bcast_S_S4096x16x192 main_cst
  let main_v2 : IVec S4096x16x192 1 := cmpf .olt main_v0 main_v1
  let main_c : IVec S_ 1 := constantI S_ 1 1#1
  let main_v3 : IVec S_ 1 := (fun x v => Host.reduce IntOp.andi x v reducesTo_S4096x16x192_S_d0_1_2 h_S_) main_v2 main_c
  let main_v4 : FVec F S4096x16x256 .f32 := Host.absf main_arg1
  let main_cst_0 : FVec F S_ .f32 := constant S_ .f32 0x7F800000#32
  let main_v5 : FVec F S4096x16x256 .f32 := broadcastInDim S4096x16x256 ![] bcast_S_S4096x16x256 main_cst_0
  let main_v6 : IVec S4096x16x256 1 := cmpf .olt main_v4 main_v5
  let main_c_1 : IVec S_ 1 := constantI S_ 1 1#1
  let main_v7 : IVec S_ 1 := (fun x v => Host.reduce IntOp.andi x v reducesTo_S4096x16x256_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_finite_attn.lean ====
abbrev S4096x16x192 : Shape := ⟨3, ![4096, 16, 192]⟩
abbrev S4096x16x256 : Shape := ⟨3, ![4096, 16, 256]⟩
abbrev S4096x64 : Shape := ⟨2, ![4096, 64]⟩
abbrev S_ : Shape := ⟨0, ![]⟩
abbrev S4096x16x128 : Shape := ⟨3, ![4096, 16, 128]⟩

class Facts : Prop where
  bcast_S_S4096x16x192 : S_.BroadcastsInDim S4096x16x192 (![] : Fin 0 → Fin S4096x16x192.rank)
  reducesTo_S4096x16x192_S_d0_1_2 : S4096x16x192.ReducesTo [0, 1, 2] S_
  h_S_ : 0 < S_.numel
  slices_S4096x16x256_S4096x16x128_0_0_0 : S4096x16x256.Slices ![0, 0, 0] S4096x16x128
  bcast_S_S4096x16x128 : S_.BroadcastsInDim S4096x16x128 (![] : Fin 0 → Fin S4096x16x128.rank)
  reducesTo_S4096x16x128_S_d0_1_2 : S4096x16x128.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4096x16x192 .f32) (main_arg1 : FVec F S4096x16x256 .f32) (main_arg2 : FVec F S4096x64 .f32) : IVec S_ 1 :=
  let main_v0 : FVec F S4096x16x192 .f32 := Host.absf main_arg0
  let main_cst : FVec F S_ .f32 := constant S_ .f32 0x7F800000#32
  let main_v1 : FVec F S4096x16x192 .f32 := broadcastInDim S4096x16x192 ![] bcast_S_S4096x16x192 main_cst
  let main_v2 : IVec S4096x16x192 1 := cmpf .olt main_v0 main_v1
  let main_c : IVec S_ 1 := constantI S_ 1 1#1
  let main_v3 : IVec S_ 1 := (fun x v => Host.reduce IntOp.andi x v reducesTo_S4096x16x192_S_d0_1_2 h_S_) main_v2 main_c
  let main_v4 : FVec F S4096x16x128 .f32 := (extractStridedSlice S4096x16x128 ![0, 0, 0] · slices_S4096x16x256_S4096x16x128_0_0_0) main_arg1
  let main_v5 : FVec F S4096x16x128 .f32 := Host.absf main_v4
  let main_cst_0 : FVec F S_ .f32 := constant S_ .f32 0x7F800000#32
  let main_v6 : FVec F S4096x16x128 .f32 := broadcastInDim S4096x16x128 ![] bcast_S_S4096x16x128 main_cst_0
  let main_v7 : IVec S4096x16x128 1 := cmpf .olt main_v5 main_v6
  let main_c_1 : IVec S_ 1 := constantI S_ 1 1#1
  let main_v8 : IVec S_ 1 := (fun x v => Host.reduce IntOp.andi x v reducesTo_S4096x16x128_S_d0_1_2 h_S_) main_v7 main_c_1
  let main_v9 : IVec S_ 1 := andi main_v3 main_v8
  let main_v10 : FVec F S4096x64 .f32 := Host.absf main_arg2
  let main_cst_2 : FVec F S_ .f32 := constant S_ .f32 0x7F800000#32
  let main_v11 : FVec F S4096x64 .f32 := broadcastInDim S4096x64 ![] bcast_S_S4096x64 main_cst_2
  let main_v12 : IVec S4096x64 1 := cmpf .olt main_v10 main_v11
  let main_c_3 : IVec S_ 1 := constantI S_ 1 1#1
  let main_v13 : IVec S_ 1 := (fun x v => Host.reduce IntOp.andi x v reducesTo_S4096x64_S_d0_1 h_S_) main_v12 main_c_3
  let main_v14 : IVec S_ 1 := andi main_v9 main_v13
  main_v14
-- ==== Pre_finite_up.lean ====
abbrev S4096x4096 : Shape := ⟨2, ![4096, 4096]⟩
abbrev S1024x4096 : Shape := ⟨2, ![1024, 4096]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  slices_S6x1024_S1x1024_4_0 : S6x1024.Slices ![4, 0] S1x1024
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v13 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v13 main_v18
  let main_v20 : FVec F S1x1024 .f32 := Host.absf main_arg5
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  main_v24

def fn {F : FTy → Type} [FloatOps F] (main_arg0 : FVec F S4096x4096 .f32) (main_arg1 : FVec F S1024x4096 .f32) (main_arg2 : FVec F S4096x1024 .f32) (main_arg3 : FVec F S4096x1024 .f32) (main_arg4 : FVec F S6x1024 .f32) (main_arg5 : FVec F S1x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := (extractStridedSlice S1x1024 ![4, 0] · slices_S6x1024_S1x1024_4_0) main_arg4
  let main_v15 : FVec F S1x1024 .f32 := Host.absf main_v14
  let main_cst_4 : FVec F S_ .f32 := constant S_ .f32 0x7F800000#32
  let main_v16 : FVec F S1x1024 .f32 := broadcastInDim S1x1024 ![] bcast_S_S1x1024 main_cst_4
  fn_part1 (F := F) main_arg5 main_v13 main_v15 main_v16
-- ==== Kernel.lean ====
abbrev S4096x16x192 : Shape := ⟨3, ![4096, 16, 192]⟩
abbrev S4096x16x256 : Shape := ⟨3, ![4096, 16, 256]⟩
abbrev S4096x64 : Shape := ⟨2, ![4096, 64]⟩
abbrev S4096 : Shape := ⟨1, ![4096]⟩
abbrev S4096x2048 : Shape := ⟨2, ![4096, 2048]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x16x128 : Shape := ⟨3, ![4096, 16, 128]⟩
abbrev S4096x16x32 : Shape := ⟨3, ![4096, 16, 32]⟩
abbrev S4096x1x32 : Shape := ⟨3, ![4096, 1, 32]⟩
abbrev S4096x16x64 : Shape := ⟨3, ![4096, 16, 64]⟩
abbrev S16x4096x4096 : Shape := ⟨3, ![16, 4096, 4096]⟩
abbrev S4096x4096x16 : Shape := ⟨3, ![4096, 4096, 16]⟩
abbrev S1x4096 : Shape := ⟨2, ![1, 4096]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x1x64 : Shape := ⟨3, ![4096, 1, 64]⟩
abbrev S4096x256 : Shape := ⟨2, ![4096, 256]⟩
abbrev S1x4096x128 : Shape := ⟨3, ![1, 4096, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S1x512x1 : Shape := ⟨3, ![1, 512, 1]⟩

abbrev nBuf : Space → Nat
  | .hbm => 111
  | .vmem => 21
  | .smem => 0
  | _ => 0

abbrev bufTy : (tb : Table) → Fin (tcTables nBuf tb) → BufTy
  | .hbm, ⟨0, _⟩ => ⟨S4096x16x192, .f32⟩
  | .hbm, ⟨1, _⟩ => ⟨S4096x16x256, .f32⟩
  | .hbm, ⟨2, _⟩ => ⟨S4096x64, .f32⟩
  | .hbm, ⟨3, _⟩ => ⟨S4096, .i32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096x1, .i32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S_, .f32⟩
  | .hbm, ⟨30, _⟩ => ⟨S4096x64, .f32⟩
  | .hbm, ⟨31, _⟩ => ⟨S4096x128, .f32⟩
  | .hbm, ⟨32, _⟩ => ⟨S4096x32, .f32⟩
  | .hbm, ⟨33, _⟩ => ⟨S4096x128, .f32⟩
  | .hbm, ⟨34, _⟩ => ⟨S4096x16x128, .f32⟩
  | .hbm, ⟨35, _⟩ => ⟨S4096x16x32, .f32⟩
  | .hbm, ⟨36, _⟩ => ⟨S4096x16x32, .f32⟩
  | .hbm, ⟨37, _⟩ => ⟨S4096x1x32, .f32⟩
  | .hbm, ⟨38, _⟩ => ⟨S4096x1x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x32, .f32⟩
  | .hbm, ⟨44, _⟩ => ⟨S4096x16x32, .f32⟩
  | .hbm, ⟨45, _⟩ => ⟨S4096x16x32, .f32⟩
  | .hbm, ⟨46, _⟩ => ⟨S4096x16x32, .f32⟩
  | .hbm, ⟨47, _⟩ => ⟨S4096x16x32, .f32⟩
  | .hbm, ⟨48, _⟩ => ⟨S4096x16x32, .f32⟩
  | .hbm, ⟨49, _⟩ => ⟨S4096x16x64, .f32⟩
  | .hbm, ⟨50, _⟩ => ⟨S4096x16x128, .f32⟩
  | .hbm, ⟨51, _⟩ => ⟨S4096x16x128, .f32⟩
  | .hbm, ⟨52, _⟩ => ⟨S16x4096x4096, .f32⟩
  | .hbm, ⟨53, _⟩ => ⟨S4096x4096x16, .f32⟩
  | .hbm, ⟨54, _⟩ => ⟨S16x4096x4096, .f32⟩
  | .hbm, ⟨55, _⟩ => ⟨S16x4096x4096, .f32⟩
  | .hbm, ⟨56, _⟩ => ⟨S4096, .i32⟩
  | .hbm, ⟨57, _⟩ => ⟨S1x4096, .i32⟩
  | .hbm, ⟨58, _⟩ => ⟨S4096x1, .i32⟩
  | .hbm, ⟨59, _⟩ => ⟨S4096x4096, .i32⟩
  | .hbm, ⟨60, _⟩ => ⟨S4096x4096, .i32⟩
  | .hbm, ⟨61, _⟩ => ⟨S4096x4096, .i1⟩
  | .hbm, ⟨62, _⟩ => ⟨S1x4096x4096, .i1⟩
  | .hbm, ⟨63, _⟩ => ⟨S_, .f32⟩
  | .hbm, ⟨64, _⟩ => ⟨S16x4096x4096, .f32⟩
  | .hbm, ⟨65, _⟩ => ⟨S16x4096x4096, .f32⟩
  | .hbm, ⟨66, _⟩ => ⟨S_, .f32⟩
  | .hbm, ⟨67, _⟩ => ⟨S_, .f32⟩
  | .hbm, ⟨68, _⟩ => ⟨S16x4096x4096, .i1⟩
  | .hbm, ⟨69, _⟩ => ⟨S16x4096x4096, .f32⟩
  | .hbm, ⟨70, _⟩ => ⟨S16x4096x4096, .f32⟩
  | .hbm, ⟨71, _⟩ => ⟨S_, .f32⟩
  | .hbm, ⟨72, _⟩ => ⟨S16x4096, .f32⟩
  | .hbm, ⟨73, _⟩ => ⟨S16x4096x1, .f32⟩
  | .hbm, ⟨74, _⟩ => ⟨S16x4096x4096, .f32⟩
  | .hbm, ⟨75, _⟩ => ⟨S16x4096x4096, .f32⟩
  | .hbm, ⟨76, _⟩ => ⟨S16x4096x4096, .f32⟩
  | .hbm, ⟨77, _⟩ => ⟨S_, .f32⟩
  | .hbm, ⟨78, _⟩ => ⟨S16x4096, .f32⟩
  | .hbm, ⟨79, _⟩ => ⟨S16x4096x1, .f32⟩
  | .hbm, ⟨80, _⟩ => ⟨S16x4096x4096, .f32⟩
  | .hbm, ⟨81, _⟩ => ⟨S16x4096x4096, .f32⟩
  | .hbm, ⟨82, _⟩ => ⟨S16x128x4096, .f32⟩
  | .hbm, ⟨83, _⟩ => ⟨S4096x16x128, .f32⟩
  | .hbm, ⟨84, _⟩ => ⟨S16x4096x1, .f32⟩
  | .hbm, ⟨85, _⟩ => ⟨S16x4096x1, .f32⟩
  | .hbm, ⟨86, _⟩ => ⟨S16x4096x1, .f32⟩
  | .hbm, ⟨87, _⟩ => ⟨S16x4096x1, .f32⟩
  | .hbm, ⟨88, _⟩ => ⟨S16x4096x128, .f32⟩
  | .hbm, ⟨89, _⟩ => ⟨S_, .f32⟩
  | .hbm, ⟨90, _⟩ => ⟨S4096x16x64, .f32⟩
  | .hbm, ⟨91, _⟩ => ⟨S4096x16x256, .f32⟩
  | .hbm, ⟨92, _⟩ => ⟨S_, .f32⟩
  | .hbm, ⟨93, _⟩ => ⟨S_, .f32⟩
  | .hbm, ⟨94, _⟩ => ⟨S4096x16x256, .f32⟩
  | .hbm, ⟨95, _⟩ => ⟨S4096x16x256, .f32⟩
  | .hbm, ⟨96, _⟩ => ⟨S4096x16x256, .bf16⟩
  | .hbm, ⟨97, _⟩ => ⟨S4096x4096, .bf16⟩
  | .hbm, ⟨98, _⟩ => ⟨S4096x1x64, .f32⟩
  | .hbm, ⟨99, _⟩ => ⟨S4096x16x64, .f32⟩
  | .hbm, ⟨100, _⟩ => ⟨S4096x16x256, .f32⟩
  | .hbm, ⟨101, _⟩ => ⟨S4096x16x256, .bf16⟩
  | .hbm, ⟨102, _⟩ => ⟨S4096x4096, .bf16⟩
  | .hbm, ⟨103, _⟩ => ⟨S4096x16x128, .bf16⟩
  | .hbm, ⟨104, _⟩ => ⟨S4096x2048, .bf16⟩
  | .hbm, ⟨105, _⟩ => ⟨S4096x16x128, .bf16⟩
  | .hbm, ⟨106, _⟩ => ⟨S4096x2048, .bf16⟩
  | .hbm, ⟨107, _⟩ => ⟨S4096x2048, .bf16⟩
  | .hbm, ⟨108, _⟩ => ⟨S4096x4096, .bf16⟩
  | .hbm, ⟨109, _⟩ => ⟨S4096x4096, .bf16⟩
  | .hbm, ⟨110, _⟩ => ⟨S4096x128, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x4096x128, .f32⟩
  | .local _ .vmem, ⟨11, _⟩ => ⟨S1x4096x128, .f32⟩
  | .local _ .vmem, ⟨12, _⟩ => ⟨S4096x128, .f32⟩
  | .local _ .vmem, ⟨13, _⟩ => ⟨S4096x128, .f32⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x128, .f32⟩
  | .local _ .vmem, ⟨19, _⟩ => ⟨S4096x256, .f32⟩
  | .local _ .vmem, ⟨20, _⟩ => ⟨S4096x128, .f32⟩
  | _, _ => ⟨S4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88_0 : Ref sig .tc := ⟨.hbm, 108, rfl⟩
abbrev main_v88_1 : Ref sig .tc := ⟨.hbm, 109, rfl⟩
abbrev main_v88_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c8_i32 : BitVec 32 := 8#32
  let v7 : BitVec 32 := Scalar.addi c0_i32_2 c8_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg14 : BitVec 32 := Scf.iv c0_i32_2 c1_i32 k0_t1
  let c512_i32 : BitVec 32 := 512#32
  let v1165 : BitVec 32 := Scalar.muli arg14 c512_i32
  v1165
def k0_off1 (k0_t1 : Fin k0_t1_loop.trips) : Fin 2 → Nat :=
  let c0_i32_2 : BitVec 32 := 0#32
  let c1_i32 : BitVec 32 := 1#32
  let arg14 : BitVec 32 := Scf.iv c0_i32_2 c1_i32 k0_t1
  let c512_i32 : BitVec 32 := 512#32
  let v1165 : BitVec 32 := Scalar.muli arg14 c512_i32
  let v1166 : BitVec 32 := v1165
  let v1167 : Index := Scalar.indexCast v1166
  let c0_776 : Index := 0#32
  ![v1167.toNat, 0]
@[reducible] def k0_t2_loop : Scf.Loop 32 :=
  let c0_i32_772 : BitVec 32 := 0#32
  let c8_i32_773 : BitVec 32 := 8#32
  let v1164 : BitVec 32 := Scalar.addi c0_i32_772 c8_i32_773
  let c1_i32_774 : BitVec 32 := 1#32
  ⟨c0_i32_772, v1164, c1_i32_774⟩
def k0_mult2 (k0_t2 : Fin k0_t2_loop.trips) : BitVec 32 :=
  let c0_i32_772 : BitVec 32 := 0#32
  let c1_i32_774 : BitVec 32 := 1#32
  let arg14 : BitVec 32 := Scf.iv c0_i32_772 c1_i32_774 k0_t2
  let c512_i32 : BitVec 32 := 512#32
  let v1165 : BitVec 32 := Scalar.muli arg14 c512_i32
  v1165
def k0_off2 (k0_t2 : Fin k0_t2_loop.trips) : Fin 2 → Nat :=
  let c0_i32_772 : BitVec 32 := 0#32
  let c1_i32_774 : BitVec 32 := 1#32
  let arg14 : BitVec 32 := Scf.iv c0_i32_772 c1_i32_774 k0_t2
  let c512_i32 : BitVec 32 := 512#32
  let v1165 : BitVec 32 := Scalar.muli arg14 c512_i32
  let v1166 : BitVec 32 := v1165
  let v1167 : Index := Scalar.indexCast v1166
  let c0_776 : Index := 0#32
  ![v1167.toNat, 0]
def k0_off3 (k0_t2 : Fin k0_t2_loop.trips) : Fin 2 → Nat :=
  let c0_i32_772 : BitVec 32 := 0#32
  let c1_i32_774 : BitVec 32 := 1#32
  let arg14 : BitVec 32 := Scf.iv c0_i32_772 c1_i32_774 k0_t2
  let c512_i32 : BitVec 32 := 512#32
  let v1165 : BitVec 32 := Scalar.muli arg14 c512_i32
  let v1166 : BitVec 32 := v1165
  let v1174 : Index := Scalar.indexCast v1166
  let c0_778 : Index := 0#32
  ![v1174.toNat, 0]
def k0_off4 (k0_t2 : Fin k0_t2_loop.trips) : Fin 2 → Nat :=
  let c0_i32_772 : BitVec 32 := 0#32
  let c1_i32_774 : BitVec 32 := 1#32
  let arg14 : BitVec 32 := Scf.iv c0_i32_772 c1_i32_774 k0_t2
  let c512_i32 : BitVec 32 := 512#32
  let v1165 : BitVec 32 := Scalar.muli arg14 c512_i32
  let v1166 : BitVec 32 := v1165
  let v1176 : Index := Scalar.indexCast v1166
  let c0_779 : Index := 0#32
  ![v1176.toNat, 0]
def k0_off5 (k0_t2 : Fin k0_t2_loop.trips) : Fin 2 → Nat :=
  let c0_i32_772 : BitVec 32 := 0#32
  let c1_i32_774 : BitVec 32 := 1#32
  let arg14 : BitVec 32 := Scf.iv c0_i32_772 c1_i32_774 k0_t2
  let c512_i32 : BitVec 32 := 512#32
  let v1165 : BitVec 32 := Scalar.muli arg14 c512_i32
  let v1166 : BitVec 32 := v1165
  let v1196 : Index := Scalar.indexCast v1166
  let c128_783 : Index := 128#32
  ![v1196.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x16x192 : Shape := ⟨3, ![4096, 16, 192]⟩
abbrev S4096x16x256 : Shape := ⟨3, ![4096, 16, 256]⟩
abbrev S4096x64 : Shape := ⟨2, ![4096, 64]⟩
abbrev S4096 : Shape := ⟨1, ![4096]⟩
abbrev S4096x2048 : Shape := ⟨2, ![4096, 2048]⟩
abbrev S4096x16x128 : Shape := ⟨3, ![4096, 16, 128]⟩
abbrev S4096x16x64 : Shape := ⟨3, ![4096, 16, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S1x4096 : Shape := ⟨2, ![1, 4096]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x128 : Shape := ⟨2, ![4096, 128]⟩

abbrev nBuf : Space → Nat
  | .hbm => 167
  | .vmem => 0
  | .smem => 0
  | _ => 0

abbrev hbmTy0_0 (i : Nat) : BufTy := match i % 128 with
  | 0 => ⟨S4096x16x192, .f32⟩
  | 1 => ⟨S4096x16x256, .f32⟩
  | 2 => ⟨S4096x64, .f32⟩
  | 3 => ⟨S4096, .i32⟩
  | 4 => ⟨S4096x2048, .f32⟩
  | 5 => ⟨S4096x16x128, .f32⟩
  | 6 => ⟨S4096x16x64, .f32⟩
  | 7 => ⟨S4096x16x128, .f32⟩
  | 8 => ⟨S4096x16x128, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S4096x32, .f32⟩
  | 31 => ⟨S4096x1x32, .f32⟩
  | 32 => ⟨S4096x1x32, .f32⟩
  | 33 => ⟨S4096x16x32, .f32⟩
  | 34 => ⟨S4096x16x32, .f32⟩
  | 35 => ⟨S4096x16x32, .f32⟩
  | 36 => ⟨S4096x16x32, .f32⟩
  | 37 => ⟨S4096x16x32, .f32⟩
  | 38 => ⟨S4096x16x32, .f32⟩
  | 39 => ⟨S4096x16x32, .f32⟩
  | 40 => ⟨S4096x16x32, .f32⟩
  | 41 => ⟨S4096x16x32, .f32⟩
  | 42 => ⟨S4096x16x32, .f32⟩
  | 43 => ⟨S4096x16x32, .f32⟩
  | 44 => ⟨S4096x16x32, .f32⟩
  | 45 => ⟨S4096x16x64, .f32⟩
  | 46 => ⟨S16x4096x4096, .f32⟩
  | 47 => ⟨S4096x4096x16, .f32⟩
  | 48 => ⟨S16x4096x4096, .f32⟩
  | 49 => ⟨S16x4096x4096, .f32⟩
  | 50 => ⟨S4096, .i32⟩
  | 51 => ⟨S1x4096, .i32⟩
  | 52 => ⟨S4096, .i32⟩
  | 53 => ⟨S4096x1, .i32⟩
  | 54 => ⟨S4096x4096, .i32⟩
  | 55 => ⟨S4096x4096, .i32⟩
  | 56 => ⟨S4096x4096, .i1⟩
  | 57 => ⟨S1x4096x4096, .i1⟩
  | 58 => ⟨S_, .f32⟩
  | 59 => ⟨S16x4096x4096, .f32⟩
  | 60 => ⟨S16x4096x4096, .f32⟩
  | 61 => ⟨S_, .f32⟩
  | 62 => ⟨S_, .f32⟩
  | 63 => ⟨S16x4096x4096, .i1⟩
  | 64 => ⟨S16x4096x4096, .f32⟩
  | 65 => ⟨S16x4096x4096, .f32⟩
  | 66 => ⟨S_, .f32⟩
  | 67 => ⟨S16x4096x4096, .f32⟩
  | 68 => ⟨S_, .f32⟩
  | 69 => ⟨S16x4096, .f32⟩
  | 70 => ⟨S16x4096x1, .f32⟩
  | 71 => ⟨S16x4096x4096, .f32⟩
  | 72 => ⟨S16x4096x4096, .i1⟩
  | 73 => ⟨S16x4096x4096, .f32⟩
  | 74 => ⟨S_, .f32⟩
  | 75 => ⟨S16x4096, .f32⟩
  | 76 => ⟨S_, .f32⟩
  | 77 => ⟨S16x4096, .f32⟩
  | 78 => ⟨S16x4096, .f32⟩
  | 79 => ⟨S_, .f32⟩
  | 80 => ⟨S16x4096, .f32⟩
  | 81 => ⟨S16x4096, .i1⟩
  | 82 => ⟨S_, .f32⟩
  | 83 => ⟨S16x4096, .f32⟩
  | 84 => ⟨S16x4096, .i1⟩
  | 85 => ⟨S_, .f32⟩
  | 86 => ⟨S16x4096, .f32⟩
  | 87 => ⟨S_, .f32⟩
  | 88 => ⟨S16x4096, .f32⟩
  | 89 => ⟨S_, .f32⟩
  | 90 => ⟨S16x4096, .f32⟩
  | 91 => ⟨S16x4096, .f32⟩
  | 92 => ⟨S16x4096, .f32⟩
  | 93 => ⟨S16x4096x1, .f32⟩
  | 94 => ⟨S16x4096x4096, .f32⟩
  | 95 => ⟨S16x4096x4096, .f32⟩
  | 96 => ⟨S16x4096x4096, .f32⟩
  | 97 => ⟨S_, .f32⟩
  | 98 => ⟨S16x4096, .f32⟩
  | 99 => ⟨S16x4096x1, .f32⟩
  | 100 => ⟨S16x4096x4096, .f32⟩
  | 101 => ⟨S16x4096x4096, .f32⟩
  | 102 => ⟨S16x4096x1, .f32⟩
  | 103 => ⟨S_, .f32⟩
  | 104 => ⟨S16x4096x1, .f32⟩
  | 105 => ⟨S16x4096x1, .f32⟩
  | 106 => ⟨S16x128x4096, .f32⟩
  | 107 => ⟨S4096x16x128, .f32⟩
  | 108 => ⟨S4096x2048, .f32⟩
  | 109 => ⟨S4096x16x128, .f32⟩
  | 110 => ⟨S16x128x4096, .f32⟩
  | 111 => ⟨S16x4096x4096, .f32⟩
  | 112 => ⟨S16x128x4096, .f32⟩
  | 113 => ⟨S4096x16x128, .f32⟩
  | 114 => ⟨S16x4096x4096, .f32⟩
  | 115 => ⟨S16x4096x4096, .f32⟩
  | 116 => ⟨S16x4096x4096, .f32⟩
  | 117 => ⟨S_, .f32⟩
  | 118 => ⟨S16x4096, .f32⟩
  | 119 => ⟨S16x4096x1, .f32⟩
  | 120 => ⟨S16x4096x1, .f32⟩
  | 121 => ⟨S16x4096x4096, .f32⟩
  | 122 => ⟨S16x4096x4096, .f32⟩
  | 123 => ⟨S_, .f32⟩
  | 124 => ⟨S16x4096, .f32⟩
  | 125 => ⟨S16x4096x4096, .f32⟩
  | 126 => ⟨S16x4096x4096, .f32⟩
  | 127 => ⟨S16x4096x4096, .f32⟩
  | _ => ⟨S4096x16x192, .f32⟩

abbrev hbmTy0_1 (i : Nat) : BufTy := match i % 128 with
  | 0 => ⟨S_, .f32⟩
  | 1 => ⟨S16x4096x4096, .f32⟩
  | 2 => ⟨S16x4096x4096, .f32⟩
  | 3 => ⟨S_, .f32⟩
  | 4 => ⟨S16x4096x4096, .f32⟩
  | 5 => ⟨S16x4096x4096, .f32⟩
  | 6 => ⟨S4096x4096x16, .f32⟩
  | 7 => ⟨S4096x16x64, .f32⟩
  | 8 => ⟨S4096x64, .f32⟩
  | 9 => ⟨S16x4096x128, .f32⟩
  | 10 => ⟨S4096x16x128, .f32⟩
  | 11 => ⟨S16x4096x128, .f32⟩
  | 12 => ⟨S4096x16x128, .f32⟩
  | 13 => ⟨S4096x16x32, .f32⟩
  | 14 => ⟨S4096x16x32, .f32⟩
  | 15 => ⟨S4096x16x32, .f32⟩
  | 16 => ⟨S4096x16x32, .f32⟩
  | 17 => ⟨S4096x16x32, .f32⟩
  | 18 => ⟨S4096x16x32, .f32⟩
  | 19 => ⟨S4096x16x32, .f32⟩
  | 20 => ⟨S4096x16x32, .f32⟩
  | 21 => ⟨S4096x16x32, .f32⟩
  | 22 => ⟨S4096x16x32, .f32⟩
  | 23 => ⟨S4096x16x32, .f32⟩
  | 24 => ⟨S4096x16x32, .f32⟩
  | 25 => ⟨S4096x16x32, .f32⟩
  | 26 => ⟨S4096x16x64, .f32⟩
  | 27 => ⟨S4096x16x256, .f32⟩
  | 28 => ⟨S4096x16x192, .f32⟩
  | 29 => ⟨S_, .f32⟩
  | 30 => ⟨S4096x16x64, .f32⟩
  | 31 => ⟨S4096x16x256, .f32⟩
  | 32 => ⟨S_, .f32⟩
  | 33 => ⟨S4096x64, .f32⟩
  | 34 => ⟨S4096x128, .f32⟩
  | 35 => ⟨S4096x4096, .f32⟩
  | 36 => ⟨S4096x4096, .bf16⟩
  | 37 => ⟨S4096x4096, .f32⟩
  | 38 => ⟨S4096x4096, .bf16⟩
  | _ => ⟨S4096x16x192, .f32⟩

abbrev hbmTy (i : Nat) : BufTy := match i / 128 with
  | 0 => hbmTy0_0 i
  | 1 => hbmTy0_1 i
  | _ => ⟨S4096x16x192, .f32⟩

abbrev bufTy : (tb : Table) → Fin (tcTables nBuf tb) → BufTy
  | .hbm, ⟨i, _⟩ => hbmTy i
  | _, _ => ⟨S4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_3 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_call0_v0 : Ref sig .tc := ⟨.hbm, 62, rfl⟩
abbrev main_v51_1 : Ref sig .tc := ⟨.hbm, 63, rfl⟩
abbrev main_call0_v2 : Ref sig .tc := ⟨.hbm, 64, rfl⟩
abbrev main_v51_0 : Ref sig .tc := ⟨.hbm, 65, rfl⟩
abbrev main_call0_cst : Ref sig .tc := ⟨.hbm, 66, rfl⟩
abbrev main_v51_2 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_16 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call1_cst : Ref sig .tc := ⟨.hbm, 128, rfl⟩
abbrev main_call1_v0 : Ref sig .tc := ⟨.hbm, 129, rfl⟩
abbrev main_v100 : Ref sig .tc := ⟨.hbm, 130, rfl⟩
abbrev main_cst_17 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_18 : Ref sig .tc := ⟨.hbm, 157, rfl⟩
abbrev main_v126 : Ref sig .tc := ⟨.hbm, 158, rfl⟩
abbrev main_v127 : Ref sig .tc := ⟨.hbm, 159, rfl⟩
abbrev main_cst_19 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩

abbrev nD : Nat := 1
abbrev τ : Topo := Topo.v7x

variable {F : FTy → Type} [FloatOps F]
-- ==== KDown.lean ====
abbrev S4096x1024 : Shape := ⟨2, ![4096, 1024]⟩
abbrev S4096x4096 : Shape := ⟨2, ![4096, 4096]⟩
abbrev S6x1024 : Shape := ⟨2, ![6, 1024]⟩
abbrev S_ : Shape := ⟨0, ![]⟩
abbrev S8x1024 : Shape := ⟨2, ![8, 1024]⟩
abbrev S512x1024 : Shape := ⟨2, ![512, 1024]⟩
abbrev S512x4096 : Shape := ⟨2, ![512, 4096]⟩
abbrev S1x1024 : Shape := ⟨2, ![1, 1024]⟩
abbrev S1024 : Shape := ⟨1, ![1024]⟩
abbrev S2048x1024 : Shape := ⟨2, ![2048, 1024]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S6x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x4096, .bf16⟩
  | .hbm, ⟨12, _⟩ => ⟨S4096x4096, .bf16⟩
  | .hbm, ⟨13, _⟩ => ⟨S4096x1024, .bf16⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S6x1024, .f32⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RDownIdeal.lean ====
abbrev S4096x1024 : Shape := ⟨2, ![4096, 1024]⟩
abbrev S4096x4096 : Shape := ⟨2, ![4096, 4096]⟩
abbrev S6x1024 : Shape := ⟨2, ![6, 1024]⟩
abbrev S_ : Shape := ⟨0, ![]⟩
abbrev S1x1024 : Shape := ⟨2, ![1, 1024]⟩
abbrev S1024 : Shape := ⟨1, ![1024]⟩
abbrev S2x1024 : Shape := ⟨2, ![2, 1024]⟩
abbrev S8x1024 : Shape := ⟨2, ![8, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S6x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S6x1024, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .bf16⟩
  | .hbm, ⟨48, _⟩ => ⟨S4096x1024, .bf16⟩
  | .hbm, ⟨49, _⟩ => ⟨S_, .f32⟩
  | .hbm, ⟨50, _⟩ => ⟨S2x1024, .f32⟩
  | .hbm, ⟨51, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== KDw2.lean ====
abbrev S4096x4096 : Shape := ⟨2, ![4096, 4096]⟩
abbrev S4096x1024 : Shape := ⟨2, ![4096, 1024]⟩
abbrev S_ : Shape := ⟨0, ![]⟩
abbrev S4096x512 : Shape := ⟨2, ![4096, 512]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDw2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== KDw1.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDw1Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KUp.lean ====
abbrev S4096x4096 : Shape := ⟨2, ![4096, 4096]⟩
abbrev S1024x4096 : Shape := ⟨2, ![1024, 4096]⟩
abbrev S4096x1024 : Shape := ⟨2, ![4096, 1024]⟩
abbrev S6x1024 : Shape := ⟨2, ![6, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S6x1024, .f32⟩
  | .hbm, ⟨5, _⟩ => ⟨S1x1024, .f32⟩
  | .hbm, ⟨6, _⟩ => ⟨S4096x4096, .bf16⟩
  | .hbm, ⟨7, _⟩ => ⟨S1024x4096, .bf16⟩
  | .hbm, ⟨8, _⟩ => ⟨S4096x1024, .f32⟩
  | .hbm, ⟨9, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RUpIdeal.lean ====
abbrev S4096x4096 : Shape := ⟨2, ![4096, 4096]⟩
abbrev S1024x4096 : Shape := ⟨2, ![1024, 4096]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x4096, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S6x1024, .f32⟩
  | .hbm, ⟨82, _⟩ => ⟨S_, .f32⟩
  | .hbm, ⟨83, _⟩ => ⟨S1x1024, .f32⟩
  | .hbm, ⟨84, _⟩ => ⟨S8x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== KMup.lean ====
abbrev S4096x1024 : Shape := ⟨2, ![4096, 1024]⟩
abbrev S6x1024 : Shape := ⟨2, ![6, 1024]⟩
abbrev S1x1024 : Shape := ⟨2, ![1, 1024]⟩
abbrev S1024x4096 : Shape := ⟨2, ![1024, 4096]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1x1024, .f32⟩
  | .hbm, ⟨3, _⟩ => ⟨S1024x4096, .f32⟩
  | .hbm, ⟨4, _⟩ => ⟨S1024x4096, .bf16⟩
  | .hbm, ⟨5, _⟩ => ⟨S4096x1024, .bf16⟩
  | .hbm, ⟨6, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S1024x4096, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | .local _ .vmem, ⟨8, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RMupIdeal.lean ====
abbrev S4096x1024 : Shape := ⟨2, ![4096, 1024]⟩
abbrev S6x1024 : Shape := ⟨2, ![6, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1x1024, .f32⟩
  | .hbm, ⟨3, _⟩ => ⟨S1024x4096, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KMdown.lean ====
abbrev S4096x4096 : Shape := ⟨2, ![4096, 4096]⟩
abbrev S4096x1024 : Shape := ⟨2, ![4096, 1024]⟩
abbrev S6x1024 : Shape := ⟨2, ![6, 1024]⟩
abbrev S_ : Shape := ⟨0, ![]⟩
abbrev S512x4096 : Shape := ⟨2, ![512, 4096]⟩
abbrev S512x1024 : Shape := ⟨2, ![512, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S6x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .f32⟩
  | .hbm, ⟨10, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S6x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RMdownIdeal.lean ====
abbrev S4096x4096 : Shape := ⟨2, ![4096, 4096]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KOut.lean ====
abbrev S4096x2048 : Shape := ⟨2, ![4096, 2048]⟩
abbrev S2048x1024 : Shape := ⟨2, ![2048, 1024]⟩
abbrev S4096x1024 : Shape := ⟨2, ![4096, 1024]⟩
abbrev S6x1024 : Shape := ⟨2, ![6, 1024]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S6x1024, .f32⟩
  | .hbm, ⟨4, _⟩ => ⟨S4096x2048, .bf16⟩
  | .hbm, ⟨5, _⟩ => ⟨S2048x1024, .bf16⟩
  | .hbm, ⟨6, _⟩ => ⟨S4096x1024, .f32⟩
  | .hbm, ⟨7, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S6x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ROutIdeal.lean ====
abbrev S4096x2048 : Shape := ⟨2, ![4096, 2048]⟩
abbrev S2048x1024 : Shape := ⟨2, ![2048, 1024]⟩
abbrev S4096x1024 : Shape := ⟨2, ![4096, 1024]⟩
abbrev S6x1024 : Shape := ⟨2, ![6, 1024]⟩
abbrev S1x1024 : Shape := ⟨2, ![1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KBo.lean ====
abbrev S4096x1024 : Shape := ⟨2, ![4096, 1024]⟩
abbrev S4096x2048 : Shape := ⟨2, ![4096, 2048]⟩
abbrev S6x1024 : Shape := ⟨2, ![6, 1024]⟩
abbrev S2048x1024 : Shape := ⟨2, ![2048, 1024]⟩
abbrev S8x1024 : Shape := ⟨2, ![8, 1024]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S6x1024, .f32⟩
  | .hbm, ⟨3, _⟩ => ⟨S2048x1024, .f32⟩
  | .hbm, ⟨4, _⟩ => ⟨S4096x1024, .f32⟩
  | .hbm, ⟨5, _⟩ => ⟨S4096x1024, .bf16⟩
  | .hbm, ⟨6, _⟩ => ⟨S2048x1024, .bf16⟩
  | .hbm, ⟨7, _⟩ => ⟨S4096x1024, .bf16⟩
  | .hbm, ⟨8, _⟩ => ⟨S4096x2048, .bf16⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S6x1024, .f32⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RBoIdeal.lean ====
abbrev S4096x1024 : Shape := ⟨2, ![4096, 1024]⟩
abbrev S4096x2048 : Shape := ⟨2, ![4096, 2048]⟩
abbrev S6x1024 : Shape := ⟨2, ![6, 1024]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S2x1024 : Shape := ⟨2, ![2, 1024]⟩
abbrev S8x1024 : Shape := ⟨2, ![8, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S6x1024, .f32⟩
  | .hbm, ⟨3, _⟩ => ⟨S2048x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S6x1024, .f32⟩
  | .hbm, ⟨30, _⟩ => ⟨S4096x2048, .f32⟩
  | .hbm, ⟨31, _⟩ => ⟨S4096x1024, .bf16⟩
  | .hbm, ⟨32, _⟩ => ⟨S4096x2048, .bf16⟩
  | .hbm, ⟨33, _⟩ => ⟨S_, .f32⟩
  | .hbm, ⟨34, _⟩ => ⟨S2x1024, .f32⟩
  | .hbm, ⟨35, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== KDwo.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDwoIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KSdo.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RSdoIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KSdi.lean ====
abbrev S4096x1024 : Shape := ⟨2, ![4096, 1024]⟩
abbrev S4096x2048 : Shape := ⟨2, ![4096, 2048]⟩
abbrev S8x1024x256 : Shape := ⟨3, ![8, 1024, 256]⟩
abbrev S4096x512 : Shape := ⟨2, ![4096, 512]⟩
abbrev S2x1024x256 : Shape := ⟨3, ![2, 1024, 256]⟩
abbrev S1024x512 : Shape := ⟨2, ![1024, 512]⟩
abbrev S1024x256 : Shape := ⟨2, ![1024, 256]⟩
abbrev S1x1024x256 : Shape := ⟨3, ![1, 1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S8x1024x256, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S2x1024x256, .bf16⟩
  | .local _ .vmem, ⟨4, _⟩ => ⟨S2x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RSdiIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KDwq.lean ====
abbrev S4096x256 : Shape := ⟨2, ![4096, 256]⟩
abbrev S4096x4096 : Shape := ⟨2, ![4096, 4096]⟩
abbrev S256x4096 : Shape := ⟨2, ![256, 4096]⟩
abbrev S4096x1024 : Shape := ⟨2, ![4096, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .bf16⟩
  | .hbm, ⟨3, _⟩ => ⟨S4096x4096, .bf16⟩
  | .hbm, ⟨4, _⟩ => ⟨S256x4096, .bf16⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDwqIdeal.lean ====
abbrev S4096x256 : Shape := ⟨2, ![4096, 256]⟩
abbrev S4096x4096 : Shape := ⟨2, ![4096, 4096]⟩
abbrev S_ : Shape := ⟨0, ![]⟩
abbrev S256x4096 : Shape := ⟨2, ![256, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S_, .f32⟩
  | .hbm, ⟨3, _⟩ => ⟨S256x4096, .f32⟩
  | .hbm, ⟨4, _⟩ => ⟨S4096x4096, .f32⟩
  | .hbm, ⟨5, _⟩ => ⟨S4096x256, .f32⟩
  | .hbm, ⟨6, _⟩ => ⟨S256x4096, .f32⟩
  | .hbm, ⟨7, _⟩ => ⟨S256x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KDwk.lean ====
abbrev S4096x128 : Shape := ⟨2, ![4096, 128]⟩
abbrev S4096x4096 : Shape := ⟨2, ![4096, 4096]⟩
abbrev S8x128x512 : Shape := ⟨3, ![8, 128, 512]⟩
abbrev S4096x1024 : Shape := ⟨2, ![4096, 1024]⟩
abbrev S2x128x512 : Shape := ⟨3, ![2, 128, 512]⟩
abbrev S128x1024 : Shape := ⟨2, ![128, 1024]⟩
abbrev S128x512 : Shape := ⟨2, ![128, 512]⟩
abbrev S1x128x512 : Shape := ⟨3, ![1, 128, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x128, .bf16⟩
  | .hbm, ⟨3, _⟩ => ⟨S4096x4096, .bf16⟩
  | .hbm, ⟨4, _⟩ => ⟨S8x128x512, .bf16⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S2x128x512, .bf16⟩
  | .local _ .vmem, ⟨4, _⟩ => ⟨S2x128x512, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDwkIdeal.lean ====
abbrev S4096x128 : Shape := ⟨2, ![4096, 128]⟩
abbrev S4096x4096 : Shape := ⟨2, ![4096, 4096]⟩
abbrev S_ : Shape := ⟨0, ![]⟩
abbrev S128x4096 : Shape := ⟨2, ![128, 4096]⟩
abbrev S128x8x512 : Shape := ⟨3, ![128, 8, 512]⟩
abbrev S8x128x512 : Shape := ⟨3, ![8, 128, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S_, .f32⟩
  | .hbm, ⟨3, _⟩ => ⟨S128x4096, .f32⟩
  | .hbm, ⟨4, _⟩ => ⟨S4096x4096, .f32⟩
  | .hbm, ⟨5, _⟩ => ⟨S4096x128, .f32⟩
  | .hbm, ⟨6, _⟩ => ⟨S128x4096, .f32⟩
  | .hbm, ⟨7, _⟩ => ⟨S128x8x512, .f32⟩
  | .hbm, ⟨8, _⟩ => ⟨S8x128x512, .f32⟩
  | .hbm, ⟨9, _⟩ => ⟨S8x128x512, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KDwd.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .bf16⟩
  | .hbm, ⟨3, _⟩ => ⟨S4096x512, .bf16⟩
  | .hbm, ⟨4, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== RDwdIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S_, .f32⟩
  | .hbm, ⟨3, _⟩ => ⟨S1024x512, .f32⟩
  | .hbm, ⟨4, _⟩ => ⟨S4096x512, .f32⟩
  | .hbm, ⟨5, _⟩ => ⟨S512x1024, .f32⟩
  | .hbm, ⟨6, _⟩ => ⟨S1024x512, .f32⟩
  | .hbm, ⟨7, _⟩ => ⟨S1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KAttn.lean ====
abbrev S4096x16x192 : Shape := ⟨3, ![4096, 16, 192]⟩
abbrev S4096x16x256 : Shape := ⟨3, ![4096, 16, 256]⟩
abbrev S4096x64 : Shape := ⟨2, ![4096, 64]⟩
abbrev S_ : Shape := ⟨0, ![]⟩
abbrev S4096x16x64 : Shape := ⟨3, ![4096, 16, 64]⟩
abbrev S4096x16x128 : Shape := ⟨3, ![4096, 16, 128]⟩
abbrev S4096x4096 : Shape := ⟨2, ![4096, 4096]⟩
abbrev S4096x1x64 : Shape := ⟨3, ![4096, 1, 64]⟩
abbrev S4096x2048 : Shape := ⟨2, ![4096, 2048]⟩
abbrev S16x4096x128 : Shape := ⟨3, ![16, 4096, 128]⟩
abbrev S4096x256 : Shape := ⟨2, ![4096, 256]⟩
abbrev S4096x128 : Shape := ⟨2, ![4096, 128]⟩
abbrev S1x4096x128 : Shape := ⟨3, ![1, 4096, 128]⟩
abbrev S512x256 : Shape := ⟨2, ![512, 256]⟩
abbrev S512x1 : Shape := ⟨2, ![512, 1]⟩
abbrev S512x512 : Shape := ⟨2, ![512, 512]⟩
abbrev S512 : Shape := ⟨1, ![512]⟩
abbrev S512x128 : Shape := ⟨2, ![512, 128]⟩
abbrev S1x512x128 : Shape := ⟨3, ![1, 512, 128]⟩

abbrev nBuf : Space → Nat
  | .hbm => 25
  | .vmem => 11
  | .smem => 0
  | _ => 0

abbrev bufTy : (tb : Table) → Fin (tcTables nBuf tb) → BufTy
  | .hbm, ⟨0, _⟩ => ⟨S4096x16x192, .f32⟩
  | .hbm, ⟨1, _⟩ => ⟨S4096x16x256, .f32⟩
  | .hbm, ⟨2, _⟩ => ⟨S4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x16x64, .f32⟩
  | .hbm, ⟨7, _⟩ => ⟨S4096x16x128, .f32⟩
  | .hbm, ⟨8, _⟩ => ⟨S4096x16x128, .f32⟩
  | .hbm, ⟨9, _⟩ => ⟨S4096x16x256, .f32⟩
  | .hbm, ⟨10, _⟩ => ⟨S_, .f32⟩
  | .hbm, ⟨11, _⟩ => ⟨S_, .f32⟩
  | .hbm, ⟨12, _⟩ => ⟨S4096x16x256, .f32⟩
  | .hbm, ⟨13, _⟩ => ⟨S4096x16x256, .f32⟩
  | .hbm, ⟨14, _⟩ => ⟨S4096x16x256, .bf16⟩
  | .hbm, ⟨15, _⟩ => ⟨S4096x4096, .bf16⟩
  | .hbm, ⟨16, _⟩ => ⟨S4096x1x64, .f32⟩
  | .hbm, ⟨17, _⟩ => ⟨S4096x16x64, .f32⟩
  | .hbm, ⟨18, _⟩ => ⟨S4096x16x256, .f32⟩
  | .hbm, ⟨19, _⟩ => ⟨S4096x16x256, .bf16⟩
  | .hbm, ⟨20, _⟩ => ⟨S4096x4096, .bf16⟩
  | .hbm, ⟨21, _⟩ => ⟨S4096x16x128, .bf16⟩
  | .hbm, ⟨22, _⟩ => ⟨S4096x2048, .bf16⟩
  | .hbm, ⟨23, _⟩ => ⟨S4096x2048, .bf16⟩
  | .hbm, ⟨24, _⟩ => ⟨S16x4096x128, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x4096x128, .f32⟩
  | .local _ .vmem, ⟨9, _⟩ => ⟨S1x4096x128, .f32⟩
  | .local _ .vmem, ⟨10, _⟩ => ⟨S4096x256, .bf16⟩
  | _, _ => ⟨S4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KAttnIdeal.lean ====
variable {F : FTy → Type} [FloatOps F] [Named F]
def κ : String → Option EReal := fun
  | "ln2" => some ((Real.log 2 : ℝ) : EReal)
  | "mask" => some ⊥
  | _ => none
-- ==== RAttnIdeal.lean ====
abbrev S4096x16x192 : Shape := ⟨3, ![4096, 16, 192]⟩
abbrev S4096x16x256 : Shape := ⟨3, ![4096, 16, 256]⟩
abbrev S4096x64 : Shape := ⟨2, ![4096, 64]⟩
abbrev S4096x16x128 : Shape := ⟨3, ![4096, 16, 128]⟩
abbrev S4096x16x64 : Shape := ⟨3, ![4096, 16, 64]⟩
abbrev S16x4096x4096 : Shape := ⟨3, ![16, 4096, 4096]⟩
abbrev S4096x4096x16 : Shape := ⟨3, ![4096, 4096, 16]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S4096x2048 : Shape := ⟨2, ![4096, 2048]⟩
abbrev S16x4096x128 : Shape := ⟨3, ![16, 4096, 128]⟩

abbrev nBuf : Space → Nat
  | .hbm => 61
  | .vmem => 0
  | .smem => 0
  | _ => 0

abbrev bufTy : (tb : Table) → Fin (tcTables nBuf tb) → BufTy
  | .hbm, ⟨0, _⟩ => ⟨S4096x16x192, .f32⟩
  | .hbm, ⟨1, _⟩ => ⟨S4096x16x256, .f32⟩
  | .hbm, ⟨2, _⟩ => ⟨S4096x64, .f32⟩
  | .hbm, ⟨3, _⟩ => ⟨S4096x16x128, .f32⟩
  | .hbm, ⟨4, _⟩ => ⟨S4096x16x64, .f32⟩
  | .hbm, ⟨5, _⟩ => ⟨S4096x16x128, .f32⟩
  | .hbm, ⟨6, _⟩ => ⟨S4096x16x128, .f32⟩
  | .hbm, ⟨7, _⟩ => ⟨S16x4096x4096, .f32⟩
  | .hbm, ⟨8, _⟩ => ⟨S4096x4096x16, .f32⟩
  | .hbm, ⟨9, _⟩ => ⟨S16x4096x4096, .f32⟩
  | .hbm, ⟨10, _⟩ => ⟨S16x4096x4096, .f32⟩
  | .hbm, ⟨11, _⟩ => ⟨S4096, .i32⟩
  | .hbm, ⟨12, _⟩ => ⟨S1x4096, .i32⟩
  | .hbm, ⟨13, _⟩ => ⟨S4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S1x4096x4096, .i1⟩
  | .hbm, ⟨19, _⟩ => ⟨S_, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S_, .f32⟩
  | .hbm, ⟨24, _⟩ => ⟨S16x4096x4096, .i1⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S_, .f32⟩
  | .hbm, ⟨30, _⟩ => ⟨S16x4096, .f32⟩
  | .hbm, ⟨31, _⟩ => ⟨S16x4096, .f32⟩
  | .hbm, ⟨32, _⟩ => ⟨S16x4096x1, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S16x128x4096, .f32⟩
  | .hbm, ⟨42, _⟩ => ⟨S4096x16x128, .f32⟩
  | .hbm, ⟨43, _⟩ => ⟨S4096x2048, .f32⟩
  | .hbm, ⟨44, _⟩ => ⟨S_, .f32⟩
  | .hbm, ⟨45, _⟩ => ⟨S16x4096, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S_, .f32⟩
  | .hbm, ⟨51, _⟩ => ⟨S16x4096, .f32⟩
  | .hbm, ⟨52, _⟩ => ⟨S16x4096x1, .f32⟩
  | .hbm, ⟨53, _⟩ => ⟨S16x4096x1, .f32⟩
  | .hbm, ⟨54, _⟩ => ⟨S16x4096x1, .f32⟩
  | .hbm, ⟨55, _⟩ => ⟨S4096x2048, .bf16⟩
  | .hbm, ⟨56, _⟩ => ⟨S_, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x4096x128, .f32⟩
  | _, _ => ⟨S4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== KLat.lean ====
abbrev S4096x1024 : Shape := ⟨2, ![4096, 1024]⟩
abbrev S6x1024 : Shape := ⟨2, ![6, 1024]⟩
abbrev S1x1024 : Shape := ⟨2, ![1, 1024]⟩
abbrev S1024x448 : Shape := ⟨2, ![1024, 448]⟩
abbrev S1x256 : Shape := ⟨2, ![1, 256]⟩
abbrev S1x128 : Shape := ⟨2, ![1, 128]⟩
abbrev S4096x32 : Shape := ⟨2, ![4096, 32]⟩
abbrev S_ : Shape := ⟨0, ![]⟩
abbrev S4096x64 : Shape := ⟨2, ![4096, 64]⟩
abbrev S4096x128 : Shape := ⟨2, ![4096, 128]⟩
abbrev S1024x64 : Shape := ⟨2, ![1024, 64]⟩
abbrev S1024x512 : Shape := ⟨2, ![1024, 512]⟩
abbrev S4096x512 : Shape := ⟨2, ![4096, 512]⟩
abbrev S4096x256 : Shape := ⟨2, ![4096, 256]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 22
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1x1024, .f32⟩
  | .hbm, ⟨3, _⟩ => ⟨S1024x448, .f32⟩
  | .hbm, ⟨4, _⟩ => ⟨S1x256, .f32⟩
  | .hbm, ⟨5, _⟩ => ⟨S1x128, .f32⟩
  | .hbm, ⟨6, _⟩ => ⟨S4096x32, .f32⟩
  | .hbm, ⟨7, _⟩ => ⟨S4096x32, .f32⟩
  | .hbm, ⟨8, _⟩ => ⟨S_, .f32⟩
  | .hbm, ⟨9, _⟩ => ⟨S4096x64, .f32⟩
  | .hbm, ⟨10, _⟩ => ⟨S4096x128, .f32⟩
  | .hbm, ⟨11, _⟩ => ⟨S4096x32, .f32⟩
  | .hbm, ⟨12, _⟩ => ⟨S4096x128, .f32⟩
  | .hbm, ⟨13, _⟩ => ⟨S1024x448, .bf16⟩
  | .hbm, ⟨14, _⟩ => ⟨S_, .bf16⟩
  | .hbm, ⟨15, _⟩ => ⟨S1024x64, .bf16⟩
  | .hbm, ⟨16, _⟩ => ⟨S1024x512, .bf16⟩
  | .hbm, ⟨17, _⟩ => ⟨S4096x1024, .bf16⟩
  | .hbm, ⟨18, _⟩ => ⟨S4096x512, .f32⟩
  | .hbm, ⟨19, _⟩ => ⟨S4096x256, .bf16⟩
  | .hbm, ⟨20, _⟩ => ⟨S4096x128, .bf16⟩
  | .hbm, ⟨21, _⟩ => ⟨S4096x128, .bf16⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S1024x512, .bf16⟩
  | .local _ .vmem, ⟨5, _⟩ => ⟨S1x256, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x512, .f32⟩
  | .local _ .vmem, ⟨14, _⟩ => ⟨S512x512, .f32⟩
  | .local _ .vmem, ⟨15, _⟩ => ⟨S512x256, .bf16⟩
  | .local _ .vmem, ⟨16, _⟩ => ⟨S512x256, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RLatIdeal.lean ====
abbrev S4096x1024 : Shape := ⟨2, ![4096, 1024]⟩
abbrev S6x1024 : Shape := ⟨2, ![6, 1024]⟩
abbrev S1x1024 : Shape := ⟨2, ![1, 1024]⟩
abbrev S1024x448 : Shape := ⟨2, ![1024, 448]⟩
abbrev S1x256 : Shape := ⟨2, ![1, 256]⟩
abbrev S1x128 : Shape := ⟨2, ![1, 128]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S4096x448 : Shape := ⟨2, ![4096, 448]⟩
abbrev S4096x256 : Shape := ⟨2, ![4096, 256]⟩
abbrev S4096x128 : Shape := ⟨2, ![4096, 128]⟩
abbrev S4096x64 : Shape := ⟨2, ![4096, 64]⟩
abbrev S4096x512 : Shape := ⟨2, ![4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1x1024, .f32⟩
  | .hbm, ⟨3, _⟩ => ⟨S1024x448, .f32⟩
  | .hbm, ⟨4, _⟩ => ⟨S1x256, .f32⟩
  | .hbm, ⟨5, _⟩ => ⟨S1x128, .f32⟩
  | .hbm, ⟨6, _⟩ => ⟨S4096x32, .f32⟩
  | .hbm, ⟨7, _⟩ => ⟨S4096x32, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x448, .f32⟩
  | .hbm, ⟨37, _⟩ => ⟨S4096x256, .f32⟩
  | .hbm, ⟨38, _⟩ => ⟨S4096x128, .f32⟩
  | .hbm, ⟨39, _⟩ => ⟨S4096x64, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x64, .f32⟩
  | .hbm, ⟨49, _⟩ => ⟨S_, .f32⟩
  | .hbm, ⟨50, _⟩ => ⟨S4096x64, .f32⟩
  | .hbm, ⟨51, _⟩ => ⟨S4096x1024, .bf16⟩
  | .hbm, ⟨52, _⟩ => ⟨S4096x512, .f32⟩
  | .hbm, ⟨53, _⟩ => ⟨S4096x256, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S4096x256, .bf16⟩
  | .hbm, ⟨69, _⟩ => ⟨S4096x128, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S4096x128, .f32⟩
  | .hbm, ⟨84, _⟩ => ⟨S4096x128, .bf16⟩
  | .hbm, ⟨85, _⟩ => ⟨S4096x128, .f32⟩
  | .hbm, ⟨86, _⟩ => ⟨S4096x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== KQkv.lean ====
abbrev S4096x256 : Shape := ⟨2, ![4096, 256]⟩
abbrev S4096x128 : Shape := ⟨2, ![4096, 128]⟩
abbrev S4096x64 : Shape := ⟨2, ![4096, 64]⟩
abbrev S256x3072 : Shape := ⟨2, ![256, 3072]⟩
abbrev S128x4096 : Shape := ⟨2, ![128, 4096]⟩
abbrev S4096x32 : Shape := ⟨2, ![4096, 32]⟩
abbrev S_ : Shape := ⟨0, ![]⟩
abbrev S256x16x192 : Shape := ⟨3, ![256, 16, 192]⟩
abbrev S256x16x64 : Shape := ⟨3, ![256, 16, 64]⟩
abbrev S256x16x256 : Shape := ⟨3, ![256, 16, 256]⟩
abbrev S256x4096 : Shape := ⟨2, ![256, 4096]⟩
abbrev S4096x4096 : Shape := ⟨2, ![4096, 4096]⟩
abbrev S4096x2048 : Shape := ⟨2, ![4096, 2048]⟩
abbrev S512x256 : Shape := ⟨2, ![512, 256]⟩
abbrev S512x128 : Shape := ⟨2, ![512, 128]⟩
abbrev S512x4096 : Shape := ⟨2, ![512, 4096]⟩
abbrev S512x2048 : Shape := ⟨2, ![512, 2048]⟩

abbrev nBuf : Space → Nat
  | .hbm => 28
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x128, .f32⟩
  | .hbm, ⟨2, _⟩ => ⟨S4096x64, .f32⟩
  | .hbm, ⟨3, _⟩ => ⟨S256x3072, .f32⟩
  | .hbm, ⟨4, _⟩ => ⟨S128x4096, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S4096x64, .f32⟩
  | .hbm, ⟨9, _⟩ => ⟨S4096x128, .f32⟩
  | .hbm, ⟨10, _⟩ => ⟨S4096x32, .f32⟩
  | .hbm, ⟨11, _⟩ => ⟨S4096x128, .f32⟩
  | .hbm, ⟨12, _⟩ => ⟨S_, .f32⟩
  | .hbm, ⟨13, _⟩ => ⟨S4096x64, .f32⟩
  | .hbm, ⟨14, _⟩ => ⟨S4096x128, .f32⟩
  | .hbm, ⟨15, _⟩ => ⟨S4096x128, .bf16⟩
  | .hbm, ⟨16, _⟩ => ⟨S256x3072, .bf16⟩
  | .hbm, ⟨17, _⟩ => ⟨S256x16x192, .bf16⟩
  | .hbm, ⟨18, _⟩ => ⟨S_, .bf16⟩
  | .hbm, ⟨19, _⟩ => ⟨S256x16x64, .bf16⟩
  | .hbm, ⟨20, _⟩ => ⟨S256x16x256, .bf16⟩
  | .hbm, ⟨21, _⟩ => ⟨S256x4096, .bf16⟩
  | .hbm, ⟨22, _⟩ => ⟨S4096x256, .bf16⟩
  | .hbm, ⟨23, _⟩ => ⟨S4096x128, .bf16⟩
  | .hbm, ⟨24, _⟩ => ⟨S128x4096, .bf16⟩
  | .hbm, ⟨25, _⟩ => ⟨S4096x4096, .bf16⟩
  | .hbm, ⟨26, _⟩ => ⟨S4096x4096, .bf16⟩
  | .hbm, ⟨27, _⟩ => ⟨S4096x2048, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S256x4096, .bf16⟩
  | .local _ .vmem, ⟨7, _⟩ => ⟨S128x4096, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | .local _ .vmem, ⟨15, _⟩ => ⟨S512x4096, .bf16⟩
  | .local _ .vmem, ⟨16, _⟩ => ⟨S512x2048, .bf16⟩
  | .local _ .vmem, ⟨17, _⟩ => ⟨S512x2048, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RQkvIdeal.lean ====
abbrev S4096x256 : Shape := ⟨2, ![4096, 256]⟩
abbrev S4096x128 : Shape := ⟨2, ![4096, 128]⟩
abbrev S4096x64 : Shape := ⟨2, ![4096, 64]⟩
abbrev S256x3072 : Shape := ⟨2, ![256, 3072]⟩
abbrev S128x4096 : Shape := ⟨2, ![128, 4096]⟩
abbrev S4096x32 : Shape := ⟨2, ![4096, 32]⟩
abbrev S4096x3072 : Shape := ⟨2, ![4096, 3072]⟩
abbrev S4096x16x192 : Shape := ⟨3, ![4096, 16, 192]⟩
abbrev S4096x16x128 : Shape := ⟨3, ![4096, 16, 128]⟩
abbrev S4096x16x64 : Shape := ⟨3, ![4096, 16, 64]⟩
abbrev S4096x4096 : Shape := ⟨2, ![4096, 4096]⟩
abbrev S4096x16x256 : Shape := ⟨3, ![4096, 16, 256]⟩
abbrev S4096x16x32 : Shape := ⟨3, ![4096, 16, 32]⟩
abbrev S4096x1x32 : Shape := ⟨3, ![4096, 1, 32]⟩
abbrev S_ : Shape := ⟨0, ![]⟩
abbrev S4096x1x64 : Shape := ⟨3, ![4096, 1, 64]⟩
abbrev S4096x2048 : Shape := ⟨2, ![4096, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x128, .f32⟩
  | .hbm, ⟨2, _⟩ => ⟨S4096x64, .f32⟩
  | .hbm, ⟨3, _⟩ => ⟨S256x3072, .f32⟩
  | .hbm, ⟨4, _⟩ => ⟨S128x4096, .f32⟩
  | .hbm, ⟨5, _⟩ => ⟨S4096x32, .f32⟩
  | .hbm, ⟨6, _⟩ => ⟨S4096x32, .f32⟩
  | .hbm, ⟨7, _⟩ => ⟨S4096x3072, .f32⟩
  | .hbm, ⟨8, _⟩ => ⟨S4096x16x192, .f32⟩
  | .hbm, ⟨9, _⟩ => ⟨S4096x16x128, .f32⟩
  | .hbm, ⟨10, _⟩ => ⟨S4096x16x64, .f32⟩
  | .hbm, ⟨11, _⟩ => ⟨S4096x4096, .f32⟩
  | .hbm, ⟨12, _⟩ => ⟨S4096x16x256, .f32⟩
  | .hbm, ⟨13, _⟩ => ⟨S4096x16x128, .f32⟩
  | .hbm, ⟨14, _⟩ => ⟨S4096x16x128, .f32⟩
  | .hbm, ⟨15, _⟩ => ⟨S4096x16x32, .f32⟩
  | .hbm, ⟨16, _⟩ => ⟨S4096x16x32, .f32⟩
  | .hbm, ⟨17, _⟩ => ⟨S4096x1x32, .f32⟩
  | .hbm, ⟨18, _⟩ => ⟨S4096x1x32, .f32⟩
  | .hbm, ⟨19, _⟩ => ⟨S_, .f32⟩
  | .hbm, ⟨20, _⟩ => ⟨S4096x16x64, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x32, .f32⟩
  | .hbm, ⟨25, _⟩ => ⟨S4096x16x32, .f32⟩
  | .hbm, ⟨26, _⟩ => ⟨S4096x16x32, .f32⟩
  | .hbm, ⟨27, _⟩ => ⟨S4096x16x32, .f32⟩
  | .hbm, ⟨28, _⟩ => ⟨S4096x16x32, .f32⟩
  | .hbm, ⟨29, _⟩ => ⟨S4096x16x32, .f32⟩
  | .hbm, ⟨30, _⟩ => ⟨S4096x16x32, .f32⟩
  | .hbm, ⟨31, _⟩ => ⟨S4096x16x256, .f32⟩
  | .hbm, ⟨32, _⟩ => ⟨S_, .f32⟩
  | .hbm, ⟨33, _⟩ => ⟨S4096x16x256, .f32⟩
  | .hbm, ⟨34, _⟩ => ⟨S4096x16x256, .f32⟩
  | .hbm, ⟨35, _⟩ => ⟨S4096x1x64, .f32⟩
  | .hbm, ⟨36, _⟩ => ⟨S4096x16x64, .f32⟩
  | .hbm, ⟨37, _⟩ => ⟨S4096x16x256, .f32⟩
  | .hbm, ⟨38, _⟩ => ⟨S4096x16x256, .bf16⟩
  | .hbm, ⟨39, _⟩ => ⟨S4096x4096, .bf16⟩
  | .hbm, ⟨40, _⟩ => ⟨S4096x16x256, .bf16⟩
  | .hbm, ⟨41, _⟩ => ⟨S4096x4096, .bf16⟩
  | .hbm, ⟨42, _⟩ => ⟨S4096x16x128, .bf16⟩
  | .hbm, ⟨43, _⟩ => ⟨S4096x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Proof.Tiles.lean ====
module
public import proofs.«01_k».proof.Proof.Gen.KernelIdeal.Frame.RunB
public import Idealize.ShloMosaic.Lib.Pipeline.ReadBack
public import Idealize.ShloMosaic.Lib.Pipeline.ValueKit
public import Idealize.ShloMosaic.Lib.Pointwise
@[expose] public section
noncomputable section
namespace Cert.KernelIdeal.Body
open Cert.KernelIdeal Cert.KernelIdeal.Gen Idealize.ShloMosaic Idealize.ShloMosaic.TcCoe Idealize.SL.Sem
open Idealize.ShloMosaic.ValueIdx
set_option maxRecDepth 16384

/-! ## The tile the body works on, as functions of what it loads -/

/-- Scores of a query tile against a key tile. -/
def scT (q k : Vec Ideal S512x256 .bf16) : FVec Ideal S512x512 .f32 :=
  matmul (φ₁ := .bf16) (φ₂ := .bf16) dot_S512x256_S512x256_S512x512_1_1_0_0_n_n none (shapeCast S512x256 q shapeCasts_S512x256_S512x256)
    (shapeCast S512x256 k shapeCasts_S512x256_S512x256) (constant S512x512 .f32 0x00000000#32)

/-- The tile's scores under the causal mask where it is on the diagonal. -/
def mkT (diag : Bool) (s : FVec Ideal S512x512 .f32) : FVec Ideal S512x512 .f32 :=
  match diag with
  | true => select (cmpi .sle (iota .tc S512x512 32 [1] iota_S512x512_d1_w32) (iota .tc S512x512 32 [0] iota_S512x512_d0_w32)) s
      (broadcast S512x512 (Named.named κ "mask" 0xF149F2CA#32))
  | false => s

/-- Probabilities of the tile, recomputed from the row statistic. -/
def pT (diag : Bool) (q k : Vec Ideal S512x256 .bf16) (l : Vec Ideal S1x512x1 .f32) : FVec Ideal S512x512 .f32 :=
  exp2 (subf (mkT diag (scT q k)) (broadcastTo S512x512 (shapeCast S512x1 l shapeCasts_S1x512x1_S512x1) broadcasts_S512x1_S512x512))

/-- Derivative of the tile's scores. -/
def dsT (diag : Bool) (q k : Vec Ideal S512x256 .bf16) (v dO : Vec Ideal S512x128 .bf16) (l : Vec Ideal S1x512x1 .f32)
    (dl : Vec Ideal S512x1 .f32) : FVec Ideal S512x512 .bf16 :=
  truncf .bf16 (mulf (pT diag q k l) (subf (matmul (φ₁ := .bf16) (φ₂ := .bf16) dot_S512x128_S512x128_S512x512_1_1_0_0_n_n none
    (shapeCast S512x128 dO shapeCasts_S512x128_S512x128) (shapeCast S512x128 v shapeCasts_S512x128_S512x128)
    (constant S512x512 .f32 0x00000000#32)) (broadcastTo S512x512 dl broadcasts_S512x1_S512x512))) bitsLt_bf16_f32

/-- The tile's part of the gradient of the values. -/
def dvT (diag : Bool) (q k : Vec Ideal S512x256 .bf16) (dO : Vec Ideal S512x128 .bf16) (l : Vec Ideal S1x512x1 .f32) :
    FVec Ideal S512x128 .f32 :=
  matmul (φ₁ := .bf16) (φ₂ := .bf16) dot_S512x512_S512x128_S512x128_0_0_1_1_n_n none (truncf .bf16 (pT diag q k l) bitsLt_bf16_f32)
    (shapeCast S512x128 dO shapeCasts_S512x128_S512x128) (constant S512x128 .f32 0x00000000#32)

/-- The tile's part of the gradient of the keys. -/
def dkT (ds : FVec Ideal S512x512 .bf16) (q : Vec Ideal S512x256 .bf16) : FVec Ideal S512x256 .f32 :=
  matmul (φ₁ := .bf16) (φ₂ := .bf16) dot_S512x512_S512x256_S512x256_0_0_1_1_n_n none ds (shapeCast S512x256 q shapeCasts_S512x256_S512x256)
    (constant S512x256 .f32 0x00000000#32)

/-- The tile's part of the gradient of the queries. -/
def dqT (ds : FVec Ideal S512x512 .bf16) (k : Vec Ideal S512x256 .bf16) : FVec Ideal S512x256 .f32 :=
  matmul (φ₁ := .bf16) (φ₂ := .bf16) dot_S512x512_S512x256_S512x256_1_0_0_1_n_n none ds (shapeCast S512x256 k shapeCasts_S512x256_S512x256)
    (constant S512x256 .f32 0x00000000#32)

theorem inb256 (I : Fin 8) : ∀ a, (![512 * I.val, 0] : Fin 2 → ℕ) a + S512x256.size a ≤ S4096x256.size a := by
  revert I; decide
theorem inb128 (I : Fin 8) : ∀ a, (![512 * I.val, 0] : Fin 2 → ℕ) a + S512x128.size a ≤ S4096x128.size a := by
  revert I; decide
theorem inb1 (I : Fin 8) : ∀ a, (![512 * I.val, 0] : Fin 2 → ℕ) a + S512x1.size a ≤ S4096x128.size a := by
  revert I; decide
theorem inbL (I : Fin 8) : ∀ a, (![0, 512 * I.val, 0] : Fin 3 → ℕ) a + S1x512x1.size a ≤ S1x4096x128.size a := by
  revert I; decide

/-- Row tile `I` of a buffer of 256 lanes. -/
@[reducible] def r256 (I : Fin 8) : Rect S4096x256 := Rect.unit ![512 * I.val, 0] S512x256.size (inb256 I)
@[reducible] def r128 (I : Fin 8) : Rect S4096x128 := Rect.unit ![512 * I.val, 0] S512x128.size (inb128 I)
@[reducible] def r1 (I : Fin 8) : Rect S4096x128 := Rect.unit ![512 * I.val, 0] S512x1.size (inb1 I)
@[reducible] def rL (I : Fin 8) : Rect S1x4096x128 := Rect.unit ![0, 512 * I.val, 0] S1x512x1.size (inbL I)

/-- Contents `g` with `T` added on row tile `I`. -/
def upd (I : Fin 8) (T : S512x256.Idx → EReal) (g : S4096x256.Idx → EReal) : S4096x256.Idx → EReal :=
  (r256 I).overlay g (fun j => g ((r256 I).emb j) + T j)

/-- One step of the query gradient's accumulation: a tile read, added to and stored back. -/
theorem step {sp : Space} {κ' : Kind} {v : View sig κ' sp S4096x256 .f32} {L : List (View.Piece (Elt Ideal) S4096x256 .f32)}
    {g : S4096x256.Idx → EReal} (I : Fin 8) (T : S512x256.Idx → EReal) {w : S512x256.Idx → EReal}
    (hw : w = shapeCast S512x256 (addf (v.readCov L (r256 I).toLoadRect) T : FVec Ideal S512x256 .f32) shapeCasts_S512x256_S512x256)
    (hL : View.canon L = g) : View.canon ((⟨r256 I, w⟩ : View.Piece (Elt Ideal) S4096x256 .f32) :: L) = upd I T g := by
  rw [hw, View.canon_cons, hL]
  unfold upd
  congr 1
  funext j
  rw [View.readCov_eq_canon', hL, shapeCast_self]
  rfl

/-- The steps of the accumulation, last first. -/
def steps : List (Fin 8 × Fin 8) :=
  [(7, 7), (7, 6), (6, 6), (7, 5), (6, 5), (5, 5), (7, 4), (6, 4), (5, 4), (4, 4), (7, 3), (6, 3), (5, 3), (4, 3), (3, 3), (7, 2), (6, 2), (5, 2), (4, 2), (3, 2), (2, 2), (7, 1), (6, 1), (5, 1), (4, 1), (3, 1), (2, 1), (1, 1), (7, 0), (6, 0), (5, 0), (4, 0), (3, 0), (2, 0), (1, 0), (0, 0)]

/-- What the steps leave of `T`'s tiles. -/
def accF (T : Fin 8 → Fin 8 → S512x256.Idx → EReal) : List (Fin 8 × Fin 8) → S4096x256.Idx → EReal
  | [] => k0_pay6 (F := Ideal)
  | p :: l => upd p.1 (T p.1 p.2) (accF T l)

/-- The query tiles at and after key tile `J`. -/
def tl : Fin 8 → List (Fin 8)
  | 0 => [0, 1, 2, 3, 4, 5, 6, 7]
  | 1 => [1, 2, 3, 4, 5, 6, 7]
  | 2 => [2, 3, 4, 5, 6, 7]
  | 3 => [3, 4, 5, 6, 7]
  | 4 => [4, 5, 6, 7]
  | 5 => [5, 6, 7]
  | 6 => [6, 7]
  | 7 => [7]

variable (q k : Fin 8 → Vec Ideal S512x256 .bf16) (v o : Fin 8 → Vec Ideal S512x128 .bf16) (l : Fin 8 → Vec Ideal S1x512x1 .f32)
  (dl : Fin 8 → Vec Ideal S512x1 .f32)

/-- Derivative of the scores of query tile `I` against key tile `J`. -/
def dsIJ (I J : Fin 8) : FVec Ideal S512x512 .bf16 := dsT (I == J) (q I) (k J) (v J) (o I) (l I) (dl I)

/-- The gradient of the values' tile `J`, over the query tiles of a list. -/
def dvF (J : Fin 8) : List (Fin 8) → FVec Ideal S512x128 .f32 → FVec Ideal S512x128 .f32
  | [], a => a
  | I :: L, a => dvF J L (addf a (dvT (I == J) (q I) (k J) (o I) (l I)))

/-- The gradient of the keys' tile `J`, over the query tiles of a list. -/
def dkF (J : Fin 8) : List (Fin 8) → FVec Ideal S512x256 .f32 → FVec Ideal S512x256 .f32
  | [], a => a
  | I :: L, a => dkF J L (addf a (dkT (dsIJ q k v o l dl I J) (q I)))

def dvJ (J : Fin 8) : FVec Ideal S512x128 .f32 := dvF q k o l J (tl J) (broadcast S512x128 (Scalar.ofBits .f32 0x00000000#32))

/-- The gradient of the keys' tile, in units of the natural exponent. -/
def dkJ (J : Fin 8) : FVec Ideal S512x256 .f32 :=
  mulf (dkF q k v o l dl J (tl J) (broadcast S512x256 (Scalar.ofBits .f32 0x00000000#32)))
    (broadcast S512x256 (Named.named κ "ln2" 0x3F317218#32))

theorem inbA (J : Fin 8) : ∀ a, (![512 * J.val, 0] : Fin 2 → ℕ) a + S512x128.size a ≤ S4096x256.size a := by
  revert J; decide
theorem inbB (J : Fin 8) : ∀ a, (![512 * J.val, 128] : Fin 2 → ℕ) a + S512x128.size a ≤ S4096x256.size a := by
  revert J; decide
@[reducible] def rA (J : Fin 8) : Rect S4096x256 := Rect.unit ![512 * J.val, 0] S512x128.size (inbA J)
@[reducible] def rB (J : Fin 8) : Rect S4096x256 := Rect.unit ![512 * J.val, 128] S512x128.size (inbB J)

/-- The stores of the keys' and values' gradients. -/
def kvPieces : List (Fin 8) → List (View.Piece (Elt Ideal) S4096x256 .bf16)
  | [] => []
  | J :: L => ⟨rB J, truncf .bf16 (dvJ q k o l J) bitsLt_bf16_f32⟩ ::
      ⟨rA J, truncf .bf16 (extractStridedSlice S512x128 ![0, 0] (dkJ q k v o l dl J) slices_S512x256_o0_0_S512x128 : FVec Ideal S512x128 .f32) bitsLt_bf16_f32⟩ :: kvPieces L

/-- What the body adds to the rope part's gradient on row tile `J`. -/
def krJ (J : Fin 8) : FVec Ideal S512x128 .f32 :=
  extractStridedSlice S512x128 ![0, 128] (dkJ q k v o l dl J) slices_S512x256_o0_128_S512x128

/-- The stores of the rope part's gradient over what was there. -/
def krPieces (p : Fin 8 → Vec Ideal S512x128 .f32) : List (Fin 8) → List (View.Piece (Elt Ideal) S4096x128 .f32)
  | [] => []
  | J :: L => ⟨r128 J, addf (shapeCast S512x128 (p J) shapeCasts_S512x128_S512x128 : FVec Ideal S512x128 .f32) (krJ q k v o l dl J)⟩ :: krPieces p L

/-- Contents `g` with `T` added on row tile `I`, of 128 lanes. -/
def upd1 (I : Fin 8) (T : S512x128.Idx → EReal) (g : S4096x128.Idx → EReal) : S4096x128.Idx → EReal :=
  (r128 I).overlay g (fun j => g ((r128 I).emb j) + T j)

theorem step1 {sp : Space} {κ' : Kind} {v : View sig κ' sp S4096x128 .f32} {L : List (View.Piece (Elt Ideal) S4096x128 .f32)}
    {g : S4096x128.Idx → EReal} (I : Fin 8) (T : S512x128.Idx → EReal) {w : S512x128.Idx → EReal}
    (hw : w = (addf (shapeCast S512x128 (v.readCov L (r128 I).toLoadRect) shapeCasts_S512x128_S512x128 : FVec Ideal S512x128 .f32) T : FVec Ideal S512x128 .f32))
    (hL : View.canon L = g) : View.canon ((⟨r128 I, w⟩ : View.Piece (Elt Ideal) S4096x128 .f32) :: L) = upd1 I T g := by
  rw [hw, View.canon_cons, hL]
  unfold upd1
  congr 1
  funext j
  rw [View.readCov_eq_canon', hL]
  exact congrArg (· + T j) (congrFun (shapeCast_self (s := S512x128) (fun j => g ((r128 I).idx j)) shapeCasts_S512x128_S512x128) j)

def accR (T : Fin 8 → S512x128.Idx → EReal) : List (Fin 8) → S4096x128.Idx → EReal
  | [] => k0_pay5 (F := Ideal)
  | J :: l => upd1 J (T J) (accR T l)

section
variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S4096x256 .f32) (harg12 : arg12.IsWhole) (arg13 : Memref sig .tc .vmem S4096x128 .f32) (harg13 : arg13.IsWhole) (x0 : Vec Ideal S4096x256 .bf16) (x1 : Vec Ideal S4096x256 .bf16) (x2 : Vec Ideal S4096x128 .bf16) (x3 : Vec Ideal S4096x128 .bf16) (x4 : Vec Ideal S4096x128 .bf16) (x5 : Vec Ideal S1x4096x128 .f32) (x6 : Vec Ideal S4096x128 .f32) (x7 : Vec Ideal S4096x128 .f32)

/-! What the body loads, tile by tile. -/
abbrev qL (I : Fin 8) : Vec Ideal S512x256 .bf16 := View.readAt (Elt Ideal) arg1.view (r256 I).toLoadRect (harg1.unread x0)
abbrev kL (I : Fin 8) : Vec Ideal S512x256 .bf16 := View.readAt (Elt Ideal) arg2.view (r256 I).toLoadRect (harg2.unread x1)
abbrev vL (I : Fin 8) : Vec Ideal S512x128 .bf16 := View.readAt (Elt Ideal) arg3.view (r128 I).toLoadRect (harg3.unread x2)
abbrev oL (I : Fin 8) : Vec Ideal S512x128 .bf16 := View.readAt (Elt Ideal) arg5.view (r128 I).toLoadRect (harg5.unread x4)
abbrev lL (I : Fin 8) : Vec Ideal S1x512x1 .f32 := View.readAt (Elt Ideal) arg6.view (rL I).toLoadRect (harg6.unread x5)
abbrev dL (I : Fin 8) : Vec Ideal S512x1 .f32 := arg13.view.readCov (pb_k0_t1 Variants.none c none i arg1 harg1 arg2 harg2 arg3 harg3 arg4 harg4 arg5 harg5 arg6 harg6 arg7 harg7 arg8 harg8 arg9 harg9 arg10 harg10 arg11 harg11 arg12 harg12 arg13 harg13
  (harg4.unread x3) (harg5.unread x4) (Scf.trips k0_t1_loop.lb k0_t1_loop.ub k0_t1_loop.st)) (r1 I).toLoadRect
abbrev pL (p : Vec Ideal S4096x128 .f32) (I : Fin 8) : Vec Ideal S512x128 .f32 := View.readAt (Elt Ideal) arg11.view (r128 I).toLoadRect (harg11.unread p)
end
end Cert.KernelIdeal.Body
-- ==== Proof.Val1.lean ====
module
public import proofs.«01_k».proof.Proof.Tiles
public import Idealize.ShloMosaic.PureOps.Ideal.Laws
@[expose] public section
noncomputable section
namespace Cert.KernelIdeal.Body
open Cert.KernelIdeal Cert.KernelIdeal.Gen Idealize.ShloMosaic Idealize.ShloMosaic.TcCoe Idealize.SL.Sem
set_option maxRecDepth 16384

/-! ## One head's gradients, whole -/

/-- Row `r` of tile `I`. -/
def gi (I : Fin 8) (r : Fin 512) : Fin 4096 := ⟨512 * I.val + r.val, by omega⟩

section spec
variable (x0 x1 : S4096x256.Idx → EReal) (x2 x3 x4 : S4096x128.Idx → EReal) (x5 : S1x4096x128.Idx → EReal)

/-- The causal scores. -/
def Sm (i k : Fin 4096) : EReal := if k ≤ i then ∑ d : Fin 256, x0 (ix2 i d) * x1 (ix2 k d) else ⊥
/-- The probabilities, from each row's base-2 log-sum. -/
def Pm (i k : Fin 4096) : EReal := Ideal.exp2 (Sm x0 x1 i k - x5 (ix3 0 i 0))
/-- Each row's product of the output and its derivative. -/
def Dl (i : Fin 4096) : EReal := ∑ d : Fin 128, x4 (ix2 i d) * x3 (ix2 i d)
/-- The derivative of the scores. -/
def Ds (i k : Fin 4096) : EReal := Pm x0 x1 x5 i k * ((∑ d : Fin 128, x4 (ix2 i d) * x2 (ix2 k d)) - Dl x3 x4 i)
def dV (k : Fin 4096) (d : Fin 128) : EReal := ∑ i : Fin 4096, Pm x0 x1 x5 i k * x4 (ix2 i d)
def dK (k : Fin 4096) (d : Fin 256) : EReal := ∑ i : Fin 4096, Ds x0 x1 x2 x3 x4 x5 i k * x0 (ix2 i d)
def dQ (i : Fin 4096) (d : Fin 256) : EReal := ∑ k : Fin 4096, Ds x0 x1 x2 x3 x4 x5 i k * x1 (ix2 k d)
end spec

section tiles
variable {x0 x1 : S4096x256.Idx → EReal} {x2 x3 x4 : S4096x128.Idx → EReal} {x5 : S1x4096x128.Idx → EReal}
  {q k : Fin 8 → Vec Ideal S512x256 .bf16} {v o : Fin 8 → Vec Ideal S512x128 .bf16} {l : Fin 8 → Vec Ideal S1x512x1 .f32}
  {dl : Fin 8 → Vec Ideal S512x1 .f32}

theorem exp2_bot_sub (x : EReal) : Ideal.exp2 (⊥ - x) = 0 := by
  rw [EReal.bot_sub]; rfl

theorem mask_eq : (Named.named (F := Ideal) κ "mask" (φ := .f32) 0xF149F2CA#32 : EReal) = ⊥ := by
  exact IdealRules.named_const.ideal_named_scalar _ _ _ _ rfl

theorem gi_le (I : Fin 8) (r c : Fin 512) : gi I c ≤ gi I r ↔ c ≤ r := by
  simp only [gi, Fin.le_def]; omega

theorem gi_le_of_lt {I J : Fin 8} (h : J < I) (r c : Fin 512) : gi J c ≤ gi I r := by
  simp only [gi, Fin.le_def, Fin.lt_def] at *; omega

/-- Off the causal triangle the probabilities are zero. -/
theorem Pm_zero {I J : Fin 8} (h : I < J) (r c : Fin 512) : Pm x0 x1 x5 (gi I r) (gi J c) = 0 := by
  unfold Pm Sm
  rw [if_neg, exp2_bot_sub]
  simp only [gi, Fin.le_def, Fin.lt_def] at *; omega

theorem pT_at (hq : ∀ I r d, q I (ix2 r d) = x0 (ix2 (gi I r) d)) (hk : ∀ I r d, k I (ix2 r d) = x1 (ix2 (gi I r) d))
    (hl : ∀ I r, l I (ix3 0 r 0) = x5 (ix3 0 (gi I r) 0)) (I J : Fin 8) (hJ : J ≤ I) (r c : Fin 512) :
    pT (I == J) (q I) (k J) (l I) (ix2 r c) = Pm x0 x1 x5 (gi I r) (gi J c) := by
  rcases eq_or_ne I J with rfl | hne
  · rw [beq_self_eq_true]
    unfold pT Pm Sm
    pointwise [mkT, scT]
    rw [hl]
    simp only [hq, hk, gi_le, mask_eq]
    rw [WordCmp.cmpi_sle_ofNat (by omega) (by omega)]
    by_cases h : c ≤ r
    · rw [if_pos h, decide_eq_true (show (c : ℕ) ≤ r from h)]; rfl
    · rw [if_neg h, decide_eq_false (show ¬ (c : ℕ) ≤ r from h)]; rfl
  · rw [beq_eq_false_iff_ne.mpr hne]
    unfold pT Pm Sm
    pointwise [mkT, scT]
    rw [hl, if_pos (gi_le_of_lt (lt_of_le_of_ne hJ hne.symm) r c)]
    simp only [hq, hk]
    rfl

theorem dsT_at (hq : ∀ I r d, q I (ix2 r d) = x0 (ix2 (gi I r) d)) (hk : ∀ I r d, k I (ix2 r d) = x1 (ix2 (gi I r) d))
    (hv : ∀ I r d, v I (ix2 r d) = x2 (ix2 (gi I r) d)) (ho : ∀ I r d, o I (ix2 r d) = x4 (ix2 (gi I r) d))
    (hl : ∀ I r, l I (ix3 0 r 0) = x5 (ix3 0 (gi I r) 0)) (hd : ∀ I r, dl I (ix2 r 0) = Dl x3 x4 (gi I r))
    (I J : Fin 8) (hJ : J ≤ I) (r c : Fin 512) :
    dsIJ q k v o l dl I J (ix2 r c) = Ds x0 x1 x2 x3 x4 x5 (gi I r) (gi J c) := by
  unfold dsIJ dsT Ds
  rw [← pT_at hq hk hl I J hJ]
  generalize pT (I == J) (q I) (k J) (l I) = p
  pointwise
  rw [hd]
  simp only [ho, hv]

theorem dvT_at (hq : ∀ I r d, q I (ix2 r d) = x0 (ix2 (gi I r) d)) (hk : ∀ I r d, k I (ix2 r d) = x1 (ix2 (gi I r) d))
    (ho : ∀ I r d, o I (ix2 r d) = x4 (ix2 (gi I r) d))
    (hl : ∀ I r, l I (ix3 0 r 0) = x5 (ix3 0 (gi I r) 0)) (I J : Fin 8) (hJ : J ≤ I) (c : Fin 512) (d : Fin 128) :
    dvT (I == J) (q I) (k J) (o I) (l I) (ix2 c d) = ∑ r : Fin 512, Pm x0 x1 x5 (gi I r) (gi J c) * x4 (ix2 (gi I r) d) := by
  simp only [← pT_at hq hk hl I J hJ]
  unfold dvT
  generalize pT (I == J) (q I) (k J) (l I) = p
  pointwise
  simp only [ho]

theorem dkT_at (hq : ∀ I r d, q I (ix2 r d) = x0 (ix2 (gi I r) d)) (ds : FVec Ideal S512x512 .bf16) (I : Fin 8) (c : Fin 512) (d : Fin 256) :
    dkT ds (q I) (ix2 c d) = ∑ r : Fin 512, ds (ix2 r c) * x0 (ix2 (gi I r) d) := by
  unfold dkT
  pointwise
  simp only [hq]

theorem dqT_at (hk : ∀ I r d, k I (ix2 r d) = x1 (ix2 (gi I r) d)) (ds : FVec Ideal S512x512 .bf16) (J : Fin 8) (r : Fin 512) (d : Fin 256) :
    dqT ds (k J) (ix2 r d) = ∑ c : Fin 512, ds (ix2 r c) * x1 (ix2 (gi J c) d) := by
  unfold dqT
  pointwise
  simp only [hk]

/-- A sum over the rows, tile by tile. -/
theorem sum_gi (f : Fin 4096 → EReal) : ∑ i, f i = ∑ I : Fin 8, ∑ r : Fin 512, f (gi I r) := by
  rw [← Fintype.sum_prod_type' (f := fun I r => f (gi I r))]
  refine (Fintype.sum_equiv (finProdFinEquiv (m := 8) (n := 512)) _ _ fun p => ?_).symm
  congr 1
  apply Fin.ext
  simp [gi, finProdFinEquiv, add_comm]

theorem upd_at (I I' : Fin 8) (T : S512x256.Idx → EReal) (g : S4096x256.Idx → EReal) (r : Fin 512) (d : Fin 256) :
    upd I T g (ix2 (gi I' r) d) = (if I = I' then T (ix2 r d) else 0) + g (ix2 (gi I' r) d) := by
  have e : ∀ r : Fin 512, ix2 (gi I r) d = (r256 I).emb (ix2 r d) := by
    intro r
    funext a; apply Fin.ext
    rw [ValueKit.rect_emb_unit_val]
    fin_cases a <;> simp [gi, ix2]
  unfold upd
  rcases eq_or_ne I I' with rfl | hne
  · rw [e r, Rect.overlay_emb, if_pos rfl, add_comm]
  · rw [Rect.overlay_of_not_mem, if_neg hne, zero_add]
    rw [Rect.mem_set_unit]
    intro h
    obtain ⟨h1, h2⟩ := h 0
    simp [gi, ix2] at h1 h2
    exact hne (Fin.ext (by omega))

theorem accF_at (T : Fin 8 → Fin 8 → S512x256.Idx → EReal) (L : List (Fin 8 × Fin 8)) (I : Fin 8) (r : Fin 512) (d : Fin 256) :
    accF T L (ix2 (gi I r) d) = (L.map fun p => if p.1 = I then T p.1 p.2 (ix2 r d) else 0).sum := by
  induction L with
  | nil => simp only [accF, List.map_nil, List.sum_nil]; pointwise [k0_pay6]
  | cons p L ih => rw [accF, upd_at, ih, List.map_cons, List.sum_cons]

theorem steps_sum (f : Fin 8 × Fin 8 → EReal) : (steps.map f).sum = ∑ I : Fin 8, ∑ J : Fin 8, if J ≤ I then f (I, J) else 0 := by
  have h1 : steps.Nodup := by decide
  have h2 : steps.toFinset = Finset.univ.filter fun p : Fin 8 × Fin 8 => p.2 ≤ p.1 := by decide
  rw [← List.sum_toFinset f h1, h2, Finset.sum_filter, Fintype.sum_prod_type]

theorem tl_sum (J : Fin 8) (f : Fin 8 → EReal) : ((tl J).map f).sum = ∑ I : Fin 8, if J ≤ I then f I else 0 := by
  have h1 : (tl J).Nodup := by revert J; decide
  have h2 : (tl J).toFinset = Finset.univ.filter fun I : Fin 8 => J ≤ I := by revert J; decide
  rw [← List.sum_toFinset f h1, h2, Finset.sum_filter]

/-- The query gradient's accumulator. -/
theorem acc_at (hq : ∀ I r d, q I (ix2 r d) = x0 (ix2 (gi I r) d)) (hk : ∀ I r d, k I (ix2 r d) = x1 (ix2 (gi I r) d))
    (hv : ∀ I r d, v I (ix2 r d) = x2 (ix2 (gi I r) d)) (ho : ∀ I r d, o I (ix2 r d) = x4 (ix2 (gi I r) d))
    (hl : ∀ I r, l I (ix3 0 r 0) = x5 (ix3 0 (gi I r) 0)) (hd : ∀ I r, dl I (ix2 r 0) = Dl x3 x4 (gi I r))
    (I : Fin 8) (r : Fin 512) (d : Fin 256) :
    accF (fun I J => dqT (dsIJ q k v o l dl I J) (k J)) steps (ix2 (gi I r) d) = dQ x0 x1 x2 x3 x4 x5 (gi I r) d := by
  rw [accF_at, steps_sum, dQ, sum_gi]
  rw [Finset.sum_eq_single I (fun I' _ h => by simp [h]) (fun h => absurd (Finset.mem_univ _) h)]
  refine Finset.sum_congr rfl fun J _ => ?_
  by_cases h : J ≤ I
  · rw [if_pos h, if_pos rfl, dqT_at hk]
    simp only [dsT_at hq hk hv ho hl hd I J h]
  · rw [if_neg h]
    symm
    refine Finset.sum_eq_zero fun c _ => ?_
    rw [Ds, Pm_zero (not_le.mp h), zero_mul, zero_mul]

theorem dvF_at (J : Fin 8) (L : List (Fin 8)) (a : FVec Ideal S512x128 .f32) (x : S512x128.Idx) :
    dvF q k o l J L a x = a x + (L.map fun I => dvT (I == J) (q I) (k J) (o I) (l I) x).sum := by
  induction L generalizing a with
  | nil => simp [dvF]
  | cons I L ih => rw [dvF, ih, List.map_cons, List.sum_cons, ← add_assoc]; rfl

theorem dkF_at (J : Fin 8) (L : List (Fin 8)) (a : FVec Ideal S512x256 .f32) (x : S512x256.Idx) :
    dkF q k v o l dl J L a x = a x + (L.map fun I => dkT (dsIJ q k v o l dl I J) (q I) x).sum := by
  induction L generalizing a with
  | nil => simp [dkF]
  | cons I L ih => rw [dkF, ih, List.map_cons, List.sum_cons, ← add_assoc]; rfl

theorem ln2_eq : (Named.named (F := Ideal) κ "ln2" (φ := .f32) 0x3F317218#32 : EReal) = ((Real.log 2 : ℝ) : EReal) := by
  exact IdealRules.named_const.ideal_named_scalar _ _ _ _ rfl

theorem dvJ_at (hq : ∀ I r d, q I (ix2 r d) = x0 (ix2 (gi I r) d)) (hk : ∀ I r d, k I (ix2 r d) = x1 (ix2 (gi I r) d))
    (ho : ∀ I r d, o I (ix2 r d) = x4 (ix2 (gi I r) d))
    (hl : ∀ I r, l I (ix3 0 r 0) = x5 (ix3 0 (gi I r) 0)) (J : Fin 8) (c : Fin 512) (d : Fin 128) :
    dvJ q k o l J (ix2 c d) = dV x0 x1 x4 x5 (gi J c) d := by
  unfold dvJ
  rw [dvF_at, tl_sum, dV, sum_gi]
  have h0 : broadcast S512x128 (Scalar.ofBits (F := Ideal) .f32 0x00000000#32) (ix2 c d) = 0 := by pointwise
  rw [h0, zero_add]
  refine Finset.sum_congr rfl fun I _ => ?_
  by_cases h : J ≤ I
  · rw [if_pos h, dvT_at hq hk ho hl I J h]
  · rw [if_neg h]
    symm
    refine Finset.sum_eq_zero fun r _ => ?_
    rw [Pm_zero (not_le.mp h), zero_mul]

theorem dkJ_at (hq : ∀ I r d, q I (ix2 r d) = x0 (ix2 (gi I r) d)) (hk : ∀ I r d, k I (ix2 r d) = x1 (ix2 (gi I r) d))
    (hv : ∀ I r d, v I (ix2 r d) = x2 (ix2 (gi I r) d)) (ho : ∀ I r d, o I (ix2 r d) = x4 (ix2 (gi I r) d))
    (hl : ∀ I r, l I (ix3 0 r 0) = x5 (ix3 0 (gi I r) 0)) (hd : ∀ I r, dl I (ix2 r 0) = Dl x3 x4 (gi I r))
    (J : Fin 8) (c : Fin 512) (d : Fin 256) :
    dkJ q k v o l dl J (ix2 c d) = dK x0 x1 x2 x3 x4 x5 (gi J c) d * ((Real.log 2 : ℝ) : EReal) := by
  unfold dkJ
  have e : ∀ (a b : FVec Ideal S512x256 .f32) x, mulf a b x = a x * b x := fun _ _ _ => rfl
  rw [e, dkF_at, tl_sum, dK, sum_gi]
  have h0 : broadcast S512x256 (Scalar.ofBits (F := Ideal) .f32 0x00000000#32) (ix2 c d) = 0 := by pointwise
  rw [h0, zero_add]
  congr 1
  · refine Finset.sum_congr rfl fun I _ => ?_
    by_cases h : J ≤ I
    · rw [if_pos h, dkT_at hq]
      simp only [dsT_at hq hk hv ho hl hd I J h]
    · rw [if_neg h]
      symm
      refine Finset.sum_eq_zero fun r _ => ?_
      rw [Ds, Pm_zero (not_le.mp h), zero_mul, zero_mul]
end tiles
end Cert.KernelIdeal.Body
-- ==== Proof.Val2.lean ====
module
public import proofs.«01_k».proof.Proof.Val1
@[expose] public section
noncomputable section
namespace Cert.KernelIdeal.Body
open Cert.KernelIdeal Cert.KernelIdeal.Gen Idealize.ShloMosaic Idealize.ShloMosaic.TcCoe Idealize.SL.Sem
set_option maxRecDepth 16384
variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S4096x256 .f32) (harg12 : arg12.IsWhole) (arg13 : Memref sig .tc .vmem S4096x128 .f32) (harg13 : arg13.IsWhole) (x0 : Vec Ideal S4096x256 .bf16) (x1 : Vec Ideal S4096x256 .bf16) (x2 : Vec Ideal S4096x128 .bf16) (x3 : Vec Ideal S4096x128 .bf16) (x4 : Vec Ideal S4096x128 .bf16) (x5 : Vec Ideal S1x4096x128 .f32) (x6 : Vec Ideal S4096x128 .f32) (x7 : Vec Ideal S4096x128 .f32)

/-! ## What the body loads -/

theorem qL_at (I : Fin 8) (r : Fin 512) (d : Fin 256) : qL arg1 harg1 x0 I (ix2 r d) = x0 (ix2 (gi I r) d) := by
  rw [qL, View.readAt_eq_ld, harg1.read_unread]
  exact View.ld_unit_apply_of _ _ _ _ _ _ (fun a => by fin_cases a <;> simp [gi, ix2])
theorem kL_at (I : Fin 8) (r : Fin 512) (d : Fin 256) : kL arg2 harg2 x1 I (ix2 r d) = x1 (ix2 (gi I r) d) := qL_at arg2 harg2 x1 I r d
theorem oL_at (I : Fin 8) (r : Fin 512) (d : Fin 128) : oL arg5 harg5 x4 I (ix2 r d) = x4 (ix2 (gi I r) d) := by
  rw [oL, View.readAt_eq_ld, harg5.read_unread]
  exact View.ld_unit_apply_of _ _ _ _ _ _ (fun a => by fin_cases a <;> simp [gi, ix2])
theorem vL_at (I : Fin 8) (r : Fin 512) (d : Fin 128) : vL arg3 harg3 x2 I (ix2 r d) = x2 (ix2 (gi I r) d) := oL_at arg3 harg3 x2 I r d
theorem lL_at (I : Fin 8) (r : Fin 512) : lL arg6 harg6 x5 I (ix3 0 r 0) = x5 (ix3 0 (gi I r) 0) := by
  rw [lL, View.readAt_eq_ld, harg6.read_unread]
  exact View.ld_unit_apply_of _ _ _ _ _ _ (fun a => by fin_cases a <;> simp [gi, ix3])
theorem pL_at (p : Vec Ideal S4096x128 .f32) (I : Fin 8) (r : Fin 512) (d : Fin 128) : pL arg11 harg11 p I (ix2 r d) = p (ix2 (gi I r) d) := by
  rw [pL, View.readAt_eq_ld, harg11.read_unread]
  exact View.ld_unit_apply_of _ _ _ _ _ _ (fun a => by fin_cases a <;> simp [gi, ix2])

/-! ## The rows' products of the output and its derivative -/

/-- What the loop stores of a row's product, in every lane. -/
theorem pay7_at (x y : Vec Ideal S512x128 .bf16) (r : Fin 512) (l : Fin 128) : k0_pay7 x y (ix2 r l) = ∑ d : Fin 128, x (ix2 r d) * y (ix2 r d) := by
  pointwise [k0_pay7]

theorem emb_unit_of {s : Shape} {off off' size : Fin s.rank → Nat} (h : off = off') (inb) (x : (Rect.unit off size inb).shape.Idx) (a : Fin s.rank) :
    ((Rect.unit off size inb).emb x a : ℕ) = off' a + x a := by
  subst h; exact ValueKit.rect_emb_unit_val _ _ _ _ _

theorem off1 (k : Fin k0_t1_loop.trips) : k0_off1 k = ![512 * k.val, 0] := by
  revert k; decide

theorem trips1 : k0_t1_loop.trips = 8 := by decide

theorem trip1 (k : Fin k0_t1_loop.trips) : tripL_k0_t1 Variants.none c none i arg1 harg1 arg2 harg2 arg3 harg3 arg4 harg4 arg5 harg5 arg6 harg6 arg7 harg7 arg8 harg8 arg9 harg9 arg10 harg10 arg11 harg11 arg12 harg12 arg13 harg13 (harg4.unread x3) (harg5.unread x4) k =
    [⟨Rect.unit (s := S4096x128) (k0_off1 k) S512x128.size (k0_off1_inb k), k0_pay7 (View.readAt (Elt Ideal) arg5.view (Rect.unit (s := S4096x128) (k0_off1 k) S512x128.size (k0_off1_inb k)).toLoadRect (harg5.unread x4))
      (View.readAt (Elt Ideal) arg4.view (Rect.unit (s := S4096x128) (k0_off1 k) S512x128.size (k0_off1_inb k)).toLoadRect (harg4.unread x3))⟩] := by
  unfold tripL_k0_t1 trip_k0_t1
  rfl

theorem pieces1 (n : ℕ) (hn : n ≤ 8) :
    (∀ p ∈ pb_k0_t1 Variants.none c none i arg1 harg1 arg2 harg2 arg3 harg3 arg4 harg4 arg5 harg5 arg6 harg6 arg7 harg7 arg8 harg8 arg9 harg9 arg10 harg10 arg11 harg11 arg12 harg12 arg13 harg13 (harg4.unread x3) (harg5.unread x4) n, ∀ x : p.1.shape.Idx, p.2 x = Dl x3 x4 (p.1.emb x 0)) ∧
    (∀ y : S4096x128.Idx, (y 0).val < 512 * n → ∃ p ∈ pb_k0_t1 Variants.none c none i arg1 harg1 arg2 harg2 arg3 harg3 arg4 harg4 arg5 harg5 arg6 harg6 arg7 harg7 arg8 harg8 arg9 harg9 arg10 harg10 arg11 harg11 arg12 harg12 arg13 harg13 (harg4.unread x3) (harg5.unread x4) n, y ∈ p.1.set) := by
  induction n with
  | zero => exact ⟨fun p hp => absurd hp (by simp [pb_k0_t1]), fun y hy => absurd hy (by simp)⟩
  | succ n ih =>
    obtain ⟨ih1, ih2⟩ := ih (by omega)
    have hk : n < k0_t1_loop.trips := by rw [trips1]; omega
    rw [show n + 1 = (⟨n, hk⟩ : Fin k0_t1_loop.trips).val + 1 from rfl, pb_k0_t1_succ, trip1]
    generalize hI : (⟨n, hk⟩ : Fin k0_t1_loop.trips) = k at *
    have hkn : k.val = n := by rw [← hI]
    constructor
    · intro p hp
      rcases List.mem_append.mp hp with h | h
      · rw [List.mem_singleton] at h
        subst h
        intro x
        obtain ⟨r, l, rfl⟩ : ∃ (r : Fin 512) (l : Fin 128), x = ix2 r l := ⟨x 0, x 1, eq_ix2 x⟩
        have hoff := off1 k
        have e : (Rect.unit (s := S4096x128) (k0_off1 k) S512x128.size (k0_off1_inb k)).emb (ix2 r l) 0 = gi ⟨n, by omega⟩ r := by
          apply Fin.ext
          refine (emb_unit_of hoff _ _ 0).trans ?_
          simp [gi, ix2, hkn]
        have ld : ∀ (z : Vec Ideal S4096x128 .bf16) (d : Fin 128), View.ld z (Rect.unit (s := S4096x128) (k0_off1 k) S512x128.size (k0_off1_inb k)) (ix2 r d) = z (ix2 (gi ⟨n, by omega⟩ r) d) := by
          intro z d
          refine View.ld_unit_apply_of _ _ _ _ _ _ (fun a => ?_)
          rw [congrFun hoff a]
          fin_cases a <;> simp [gi, ix2, hkn]
        refine (pay7_at _ _ r l).trans ?_
        rw [View.readAt_eq_ld, View.readAt_eq_ld, harg4.read_unread, harg5.read_unread]
        show _ = Dl x3 x4 ((Rect.unit (s := S4096x128) (k0_off1 k) S512x128.size (k0_off1_inb k)).emb (ix2 r l) 0)
        rw [e, Dl]
        exact Finset.sum_congr rfl fun d _ => by rw [ld, ld]
      · exact ih1 p (hkn ▸ h)
    · intro y hy
      by_cases h : (y 0).val < 512 * n
      · obtain ⟨p, hp, hy⟩ := ih2 y h
        exact ⟨p, List.mem_append_right _ (hkn.symm ▸ hp), hy⟩
      · refine ⟨_, List.mem_append_left _ (List.mem_singleton.mpr rfl), ?_⟩
        rw [Rect.mem_set_unit, off1]
        intro a
        fin_cases a
        · simp; omega
        · have := (y 1).isLt
          simpa using this

theorem dL_at (I : Fin 8) (r : Fin 512) : dL c i arg1 harg1 arg2 harg2 arg3 harg3 arg4 harg4 arg5 harg5 arg6 harg6 arg7 harg7 arg8 harg8 arg9 harg9 arg10 harg10 arg11 harg11 arg12 harg12 arg13 harg13 x3 x4 I (ix2 r 0) = Dl x3 x4 (gi I r) := by
  rw [dL, View.readCov_eq_canon']
  have h := pieces1 c i arg1 harg1 arg2 harg2 arg3 harg3 arg4 harg4 arg5 harg5 arg6 harg6 arg7 harg7 arg8 harg8 arg9 harg9 arg10 harg10 arg11 harg11 arg12 harg12 arg13 harg13 x3 x4 8 le_rfl
  have e : (r1 I).idx (ix2 r 0) = ix2 (gi I r) 0 := by
    funext a; apply Fin.ext
    rw [Rect.idx_unit_val]
    fin_cases a <;> simp [gi, ix2]
  refine (View.canon_apply_of_pieces (fun y : S4096x128.Idx => Dl x3 x4 (y 0)) _ h.1 _ (h.2 _ ?_)).trans ?_
  · show ((r1 I).idx (ix2 r 0) 0).val < 4096
    exact ((r1 I).idx (ix2 r 0) 0).isLt
  · exact congrArg (Dl x3 x4) (congrFun e 0)

/-! ## The last loop: the query gradient scaled and rotated back -/

/-- The scale of the scores. -/
def smE : EReal := Ideal.ofBits .f32 1033096506#32

/-- A row's rope part, scaled and rotated back: the row's upper lanes by the cosines, and their halves exchanged by the sines. -/
def rotB (X : Fin 256 → EReal) (cs sn : Fin 128 → EReal) (l : Fin 128) : EReal :=
  X ⟨128 + l, by omega⟩ * smE * cs l + if h : l.val < 32 then X ⟨128 + (l + 32), by omega⟩ * smE * sn ⟨l + 32, by omega⟩
    else if h : l.val < 64 then X ⟨128 + (l - 32), by omega⟩ * smE * sn ⟨l - 32, by omega⟩ else 0

/-- The query gradient's row as stored. -/
def outQ (X : Fin 256 → EReal) (cs sn : Fin 128 → EReal) (c : Fin 256) : EReal :=
  if h : c.val < 128 then X c * smE else rotB X cs sn ⟨c - 128, by omega⟩

theorem trips2 : k0_t2_loop.trips = 8 := by decide
theorem off2 (k : Fin k0_t2_loop.trips) : k0_off2 k = ![512 * k.val, 0] := by
  revert k; decide
theorem off3 (k : Fin k0_t2_loop.trips) : k0_off3 k = ![512 * k.val, 0] := by
  revert k; decide
theorem off4 (k : Fin k0_t2_loop.trips) : k0_off4 k = ![512 * k.val, 0] := by
  revert k; decide
theorem off5 (k : Fin k0_t2_loop.trips) : k0_off5 k = ![512 * k.val, 128] := by
  revert k; decide

theorem pay3_at (x : Vec Ideal S512x256 .f32) (r : Fin 512) (l : Fin 128) : k0_pay3 x (ix2 r l) = x (ix2 r ⟨l, by omega⟩) * smE := by
  pointwise [k0_pay3, k0_pay2]
  rfl

theorem pay4_at (x : Vec Ideal S512x256 .f32) (cs sn : Vec Ideal S512x128 .f32) (r : Fin 512) (l : Fin 128) :
    k0_pay4 x cs sn (ix2 r l) = rotB (fun d => x (ix2 r d)) (fun d => cs (ix2 r d)) (fun d => sn (ix2 r d)) l := by
  unfold rotB smE
  pointwise [k0_pay4, k0_pay2]
  rw [WordCmp.cmpi_slt_ofNat (by omega) (by omega), WordCmp.cmpi_slt_ofNat (by omega) (by omega)]
  congr 1
  by_cases h : l.val < 32
  · rw [dif_pos h, decide_eq_true h]
    have e : (l.val + 128 - 96) % 128 = l + 32 := by omega
    simp only [e]
    rfl
  · rw [dif_neg h, decide_eq_false h]
    by_cases h2 : l.val < 64
    · rw [dif_pos h2, decide_eq_true h2]
      have e : (l.val + 128 - 32) % 128 = l - 32 := by omega
      simp only [e]
      rfl
    · rw [dif_neg h2, decide_eq_false h2]
      rfl

theorem trip2 (X12 : BufTy.Contents (Elt Ideal) arg12.view.ty) (k : Fin k0_t2_loop.trips) : tripL_k0_t2 Variants.none c none i arg1 harg1 arg2 harg2 arg3 harg3 arg4 harg4 arg5 harg5 arg6 harg6 arg7 harg7 arg8 harg8 arg9 harg9 arg10 harg10 arg11 harg11 arg12 harg12 arg13 harg13 (harg7.unread x6) (harg8.unread x7) X12 k =
    [⟨Rect.unit (s := S4096x256) (k0_off5 k) S512x128.size (k0_off5_inb k), k0_pay4 (View.readAt (Elt Ideal) arg12.view (Rect.unit (s := S4096x256) (k0_off2 k) S512x256.size (k0_off2_inb k)).toLoadRect X12)
      (View.readAt (Elt Ideal) arg7.view (Rect.unit (s := S4096x128) (k0_off4 k) S512x128.size (k0_off4_inb k)).toLoadRect (harg7.unread x6))
      (View.readAt (Elt Ideal) arg8.view (Rect.unit (s := S4096x128) (k0_off4 k) S512x128.size (k0_off4_inb k)).toLoadRect (harg8.unread x7))⟩,
     ⟨Rect.unit (s := S4096x256) (k0_off3 k) S512x128.size (k0_off3_inb k), k0_pay3 (View.readAt (Elt Ideal) arg12.view (Rect.unit (s := S4096x256) (k0_off2 k) S512x256.size (k0_off2_inb k)).toLoadRect X12)⟩] := by
  unfold tripL_k0_t2 trip_k0_t2
  rfl

/-- What the loop leaves of an accumulator read as `A`. -/
def out8F (A : S4096x256.Idx → EReal) (y : S4096x256.Idx) : EReal :=
  outQ (fun d => A (ix2 (y 0) d)) (fun d => x6 (ix2 (y 0) d)) (fun d => x7 (ix2 (y 0) d)) (y 1)

theorem pieces2 (X12 : BufTy.Contents (Elt Ideal) arg12.view.ty) (A : S4096x256.Idx → EReal) (hA : arg12.view.read (Elt Ideal) X12 = A) (n : ℕ) (hn : n ≤ 8) :
    (∀ p ∈ pb_k0_t2 Variants.none c none i arg1 harg1 arg2 harg2 arg3 harg3 arg4 harg4 arg5 harg5 arg6 harg6 arg7 harg7 arg8 harg8 arg9 harg9 arg10 harg10 arg11 harg11 arg12 harg12 arg13 harg13 (harg7.unread x6) (harg8.unread x7) X12 n, ∀ x : p.1.shape.Idx, p.2 x = out8F x6 x7 A (p.1.emb x)) ∧
    (∀ y : S4096x256.Idx, (y 0).val < 512 * n → ∃ p ∈ pb_k0_t2 Variants.none c none i arg1 harg1 arg2 harg2 arg3 harg3 arg4 harg4 arg5 harg5 arg6 harg6 arg7 harg7 arg8 harg8 arg9 harg9 arg10 harg10 arg11 harg11 arg12 harg12 arg13 harg13 (harg7.unread x6) (harg8.unread x7) X12 n, y ∈ p.1.set) := by
  induction n with
  | zero => exact ⟨fun p hp => absurd hp (by simp [pb_k0_t2]), fun y hy => absurd hy (by simp)⟩
  | succ n ih =>
    obtain ⟨ih1, ih2⟩ := ih (by omega)
    have hk : n < k0_t2_loop.trips := by rw [trips2]; omega
    rw [show n + 1 = (⟨n, hk⟩ : Fin k0_t2_loop.trips).val + 1 from rfl, pb_k0_t2_succ, trip2]
    generalize hI : (⟨n, hk⟩ : Fin k0_t2_loop.trips) = k at *
    have hkn : k.val = n := by rw [← hI]
    constructor
    · intro p hp
      rcases List.mem_append.mp hp with h | h
      · have ld4 : ∀ (z : Vec Ideal S4096x128 .f32) (r : Fin 512) (d : Fin 128), View.ld z (Rect.unit (s := S4096x128) (k0_off4 k) S512x128.size (k0_off4_inb k)) (ix2 r d) = z (ix2 (gi ⟨n, by omega⟩ r) d) := by
          intro z r d
          refine View.ld_unit_apply_of _ _ _ _ _ _ (fun a => ?_)
          rw [congrFun (off4 k) a]
          fin_cases a <;> simp [gi, ix2, hkn]
        have ld2 : ∀ (r : Fin 512) (d : Fin 256), View.readAt (Elt Ideal) arg12.view (Rect.unit (s := S4096x256) (k0_off2 k) S512x256.size (k0_off2_inb k)).toLoadRect X12 (ix2 r d) = A (ix2 (gi ⟨n, by omega⟩ r) d) := by
          intro r d
          rw [View.readAt_eq_ld, hA]
          refine View.ld_unit_apply_of _ _ _ _ _ _ (fun a => ?_)
          rw [congrFun (off2 k) a]
          fin_cases a <;> simp [gi, ix2, hkn]
        rcases List.mem_cons.mp h with h | h
        · subst h
          intro x
          obtain ⟨r, l, rfl⟩ : ∃ (r : Fin 512) (l : Fin 128), x = ix2 r l := ⟨x 0, x 1, eq_ix2 x⟩
          have e : (Rect.unit (s := S4096x256) (k0_off5 k) S512x128.size (k0_off5_inb k)).emb (ix2 r l) = ix2 (gi ⟨n, by omega⟩ r) ⟨128 + l.val, by omega⟩ := by
            funext a; apply Fin.ext
            refine (emb_unit_of (off5 k) _ _ a).trans ?_
            fin_cases a <;> simp [gi, ix2, hkn]
          refine (pay4_at _ _ _ r l).trans ?_
          show _ = out8F x6 x7 A ((Rect.unit (s := S4096x256) (k0_off5 k) S512x128.size (k0_off5_inb k)).emb (ix2 r l))
          rw [e]
          have c7 : ∀ d, View.readAt (Elt Ideal) arg7.view (Rect.unit (s := S4096x128) (k0_off4 k) S512x128.size (k0_off4_inb k)).toLoadRect (harg7.unread x6) (ix2 r d) = x6 (ix2 (gi ⟨n, by omega⟩ r) d) := by
            intro d; rw [View.readAt_eq_ld, harg7.read_unread, ld4]
          have c8 : ∀ d, View.readAt (Elt Ideal) arg8.view (Rect.unit (s := S4096x128) (k0_off4 k) S512x128.size (k0_off4_inb k)).toLoadRect (harg8.unread x7) (ix2 r d) = x7 (ix2 (gi ⟨n, by omega⟩ r) d) := by
            intro d; rw [View.readAt_eq_ld, harg8.read_unread, ld4]
          simp only [c7, c8, ld2]
          unfold out8F outQ
          rw [dif_neg (by simp [ix2])]
          congr 1
          apply Fin.ext
          simp [ix2]
        · rw [List.mem_singleton] at h
          subst h
          intro x
          obtain ⟨r, l, rfl⟩ : ∃ (r : Fin 512) (l : Fin 128), x = ix2 r l := ⟨x 0, x 1, eq_ix2 x⟩
          have e : (Rect.unit (s := S4096x256) (k0_off3 k) S512x128.size (k0_off3_inb k)).emb (ix2 r l) = ix2 (gi ⟨n, by omega⟩ r) ⟨l.val, by omega⟩ := by
            funext a; apply Fin.ext
            refine (emb_unit_of (off3 k) _ _ a).trans ?_
            fin_cases a <;> simp [gi, ix2, hkn]
          refine (pay3_at _ r l).trans ?_
          show _ = out8F x6 x7 A ((Rect.unit (s := S4096x256) (k0_off3 k) S512x128.size (k0_off3_inb k)).emb (ix2 r l))
          rw [e, ld2]
          unfold out8F outQ
          rw [dif_pos (by simp [ix2])]
          rfl
      · exact ih1 p (hkn ▸ h)
    · intro y hy
      by_cases h : (y 0).val < 512 * n
      · obtain ⟨p, hp, hy⟩ := ih2 y h
        exact ⟨p, List.mem_append_right _ (hkn.symm ▸ hp), hy⟩
      · have h1 : (y 1).val < 256 := (y 1).isLt
        by_cases hc : (y 1).val < 128
        · refine ⟨_, List.mem_append_left _ (List.mem_cons_of_mem _ (List.mem_singleton.mpr rfl)), ?_⟩
          rw [Rect.mem_set_unit, off3]
          intro a
          fin_cases a
          · simp; omega
          · simpa using hc
        · refine ⟨_, List.mem_append_left _ (List.mem_cons.mpr (.inl rfl)), ?_⟩
          rw [Rect.mem_set_unit, off5]
          intro a
          fin_cases a
          · simp; omega
          · simp; omega

/-- The query gradient stored: of a covered accumulator. -/
theorem canon2 (L : List (View.Piece (Elt Ideal) S4096x256 .f32)) (A : S4096x256.Idx → EReal) (hA : View.canon L = A) :
    View.canon (pb_k0_t2 Variants.none c none i arg1 harg1 arg2 harg2 arg3 harg3 arg4 harg4 arg5 harg5 arg6 harg6 arg7 harg7 arg8 harg8 arg9 harg9 arg10 harg10 arg11 harg11 arg12 harg12 arg13 harg13 (harg7.unread x6) (harg8.unread x7) (arg12.view.writes (Elt Ideal) arg12.view.junk L) (Scf.trips (0#32) (Scalar.addi 0#32 8#32) 1#32)) = out8F x6 x7 A := by
  have h := pieces2 c i arg1 harg1 arg2 harg2 arg3 harg3 arg4 harg4 arg5 harg5 arg6 harg6 arg7 harg7 arg8 harg8 arg9 harg9 arg10 harg10 arg11 harg11 arg12 harg12 arg13 harg13 x6 x7 (arg12.view.writes (Elt Ideal) arg12.view.junk L) A (by rw [← hA]; exact View.read_writes_junk_eq_canon _ _) 8 le_rfl
  funext y
  exact View.canon_apply_of_pieces (out8F x6 x7 A) _ h.1 _ (h.2 y (y 0).isLt)

/-! ## The stores of the other gradients -/

theorem exists_gi (i : Fin 4096) : ∃ I r, i = gi I r :=
  ⟨⟨i / 512, by omega⟩, ⟨i % 512, by omega⟩, Fin.ext (by simp [gi]; omega)⟩

section
variable {q k : Fin 8 → Vec Ideal S512x256 .bf16} {v o : Fin 8 → Vec Ideal S512x128 .bf16} {l : Fin 8 → Vec Ideal S1x512x1 .f32}
  {dl : Fin 8 → Vec Ideal S512x1 .f32}

theorem krJ_at (J : Fin 8) (r : Fin 512) (d : Fin 128) : krJ q k v o l dl J (ix2 r d) = dkJ q k v o l dl J (ix2 r ⟨128 + d.val, by omega⟩) := by
  unfold krJ
  pointwise

theorem emb128 (J : Fin 8) (r : Fin 512) (d : Fin 128) : (r128 J).emb (ix2 r d) = ix2 (gi J r) d := by
  funext a; apply Fin.ext
  rw [ValueKit.rect_emb_unit_val]
  fin_cases a <;> simp [gi, ix2]

theorem embA (J : Fin 8) (r : Fin 512) (d : Fin 128) : (rA J).emb (ix2 r d) = ix2 (gi J r) ⟨d.val, by omega⟩ := by
  funext a; apply Fin.ext
  rw [ValueKit.rect_emb_unit_val]
  fin_cases a <;> simp [gi, ix2]

theorem embB (J : Fin 8) (r : Fin 512) (d : Fin 128) : (rB J).emb (ix2 r d) = ix2 (gi J r) ⟨128 + d.val, by omega⟩ := by
  funext a; apply Fin.ext
  rw [ValueKit.rect_emb_unit_val]
  fin_cases a <;> simp [gi, ix2]

theorem mem_set_of_emb {S : Shape} (r : Rect S) (x : r.shape.Idx) {y : S.Idx} (h : r.emb x = y) : y ∈ r.set := by
  rw [← h, ← Rect.map_emb_univ]
  exact Finset.mem_map_of_mem _ (Finset.mem_univ x)

/-- The keys' and values' gradients as stored, of the gradients `K` and `V`. -/
def out9F (K : Fin 4096 → Fin 256 → EReal) (V : Fin 4096 → Fin 128 → EReal) (y : S4096x256.Idx) : EReal :=
  if h : (y 1).val < 128 then K (y 0) (y 1) * ((Real.log 2 : ℝ) : EReal) else V (y 0) ⟨(y 1).val - 128, by have := (y 1).isLt; simp at this; omega⟩

theorem kv_at (K : Fin 4096 → Fin 256 → EReal) (V : Fin 4096 → Fin 128 → EReal)
    (hK : ∀ J c d, dkJ q k v o l dl J (ix2 c d) = K (gi J c) d * ((Real.log 2 : ℝ) : EReal)) (hV : ∀ J c d, dvJ q k o l J (ix2 c d) = V (gi J c) d) :
    View.canon (kvPieces q k v o l dl [7, 6, 5, 4, 3, 2, 1, 0]) = out9F K V := by
  have hp : ∀ L : List (Fin 8), ∀ p ∈ kvPieces q k v o l dl L, ∀ x : p.1.shape.Idx, p.2 x = out9F K V (p.1.emb x) := by
    intro L
    induction L with
    | nil => intro p h; exact absurd h (by simp [kvPieces])
    | cons J L ih =>
      intro p h
      rcases List.mem_cons.mp h with h | h
      · subst h
        intro x
        obtain ⟨r, l, rfl⟩ : ∃ (r : Fin 512) (l : Fin 128), x = ix2 r l := ⟨x 0, x 1, eq_ix2 x⟩
        show dvJ q k o _ J (ix2 r l) = out9F K V ((rB J).emb (ix2 r l))
        rw [embB, hV, out9F, dif_neg (by simp [ix2])]
        congr 1
        apply Fin.ext
        simp [ix2]
      rcases List.mem_cons.mp h with h | h
      · subst h
        intro x
        obtain ⟨r, l, rfl⟩ : ∃ (r : Fin 512) (l : Fin 128), x = ix2 r l := ⟨x 0, x 1, eq_ix2 x⟩
        show extractStridedSlice S512x128 ![0, 0] (dkJ q k v o _ dl J) slices_S512x256_o0_0_S512x128 (ix2 r l) = out9F K V ((rA J).emb (ix2 r l))
        rw [embA, out9F, dif_pos (by simp [ix2])]
        pointwise
        rw [hK]
      · exact ih p h
  have hc : ∀ (L : List (Fin 8)) (J : Fin 8), J ∈ L → (∃ p ∈ kvPieces q k v o l dl L, p.1 = rA J) ∧ (∃ p ∈ kvPieces q k v o l dl L, p.1 = rB J) := by
    intro L
    induction L with
    | nil => intro J h; exact absurd h (by simp)
    | cons J' L ih =>
      intro J h
      rcases List.mem_cons.mp h with rfl | h
      · exact ⟨⟨_, List.mem_cons_of_mem _ (List.mem_cons.mpr (.inl rfl)), rfl⟩, ⟨_, List.mem_cons.mpr (.inl rfl), rfl⟩⟩
      · obtain ⟨⟨p, h1, h2⟩, ⟨p', h3, h4⟩⟩ := ih J h
        exact ⟨⟨p, List.mem_cons_of_mem _ (List.mem_cons_of_mem _ h1), h2⟩, ⟨p', List.mem_cons_of_mem _ (List.mem_cons_of_mem _ h3), h4⟩⟩
  funext y
  refine View.canon_apply_of_pieces (Val := Elt Ideal) (e := .bf16) (out9F K V) _ (hp _) y ?_
  obtain ⟨I, r, hI⟩ := exists_gi (y 0)
  obtain ⟨hA, hB⟩ := hc [7, 6, 5, 4, 3, 2, 1, 0] I (by clear hI; revert I; decide)
  have h1 : (y 1).val < 256 := (y 1).isLt
  have hy : y = ix2 (gi I r) (y 1) := by rw [← hI]; exact eq_ix2 y
  by_cases h : (y 1).val < 128
  · obtain ⟨p, hm, he⟩ := hA
    refine ⟨p, hm, ?_⟩
    rw [he]
    exact mem_set_of_emb _ (ix2 r ⟨(y 1).val, h⟩) ((embA I r ⟨(y 1).val, h⟩).trans hy.symm)
  · obtain ⟨p, hm, he⟩ := hB
    refine ⟨p, hm, ?_⟩
    rw [he]
    refine mem_set_of_emb _ (ix2 r ⟨(y 1).val - 128, by omega⟩) ((embB I r _).trans (Eq.trans ?_ hy.symm))
    congr 1
    apply Fin.ext
    show 128 + ((y 1).val - 128) = (y 1).val
    omega

theorem kr_at (K : Fin 4096 → Fin 256 → EReal) (p : Fin 8 → Vec Ideal S512x128 .f32) (P : S4096x128.Idx → EReal)
    (hK : ∀ J c d, dkJ q k v o l dl J (ix2 c d) = K (gi J c) d * ((Real.log 2 : ℝ) : EReal)) (hP : ∀ J r d, p J (ix2 r d) = P (ix2 (gi J r) d)) (j : Fin 4096) (d : Fin 128) :
    View.canon (krPieces q k v o l dl p [7, 6, 5, 4, 3, 2, 1, 0]) (ix2 j d) = P (ix2 j d) + K j ⟨128 + d.val, by omega⟩ * ((Real.log 2 : ℝ) : EReal) := by
  let G : S4096x128.Idx → EReal := fun y => P y + K (y 0) ⟨128 + (y 1).val, by have := (y 1).isLt; simp at this; omega⟩ * ((Real.log 2 : ℝ) : EReal)
  have hp : ∀ L : List (Fin 8), ∀ z ∈ krPieces q k v o l dl p L, ∀ x : z.1.shape.Idx, z.2 x = G (z.1.emb x) := by
    intro L
    induction L with
    | nil => intro z h; exact absurd h (by simp [krPieces])
    | cons J L ih =>
      intro z h
      rcases List.mem_cons.mp h with h | h
      · subst h
        intro x
        obtain ⟨r, l, rfl⟩ : ∃ (r : Fin 512) (l : Fin 128), x = ix2 r l := ⟨x 0, x 1, eq_ix2 x⟩
        show addf (shapeCast S512x128 (p J) shapeCasts_S512x128_S512x128 : FVec Ideal S512x128 .f32) (krJ q k v o _ dl J) (ix2 r l) = G ((r128 J).emb (ix2 r l))
        rw [emb128]
        pointwise
        rw [krJ_at, hK, hP]
        rfl
      · exact ih z h
  have hc : ∀ (L : List (Fin 8)) (J : Fin 8), J ∈ L → (∃ z ∈ krPieces q k v o l dl p L, z.1 = r128 J) := by
    intro L
    induction L with
    | nil => intro J h; exact absurd h (by simp)
    | cons J' L ih =>
      intro J h
      rcases List.mem_cons.mp h with rfl | h
      · exact ⟨_, List.mem_cons.mpr (.inl rfl), rfl⟩
      · obtain ⟨z, h1, h2⟩ := ih J h
        exact ⟨z, List.mem_cons_of_mem _ h1, h2⟩
  obtain ⟨I, r, rfl⟩ := exists_gi j
  obtain ⟨z, hm, he⟩ := hc [7, 6, 5, 4, 3, 2, 1, 0] I (by revert I; decide)
  refine View.canon_apply_of_pieces G _ (hp _) _ ⟨z, hm, ?_⟩
  rw [he]
  exact mem_set_of_emb _ (ix2 r d) (emb128 I r d)

theorem upd1_at (I I' : Fin 8) (T : S512x128.Idx → EReal) (g : S4096x128.Idx → EReal) (r : Fin 512) (d : Fin 128) :
    upd1 I T g (ix2 (gi I' r) d) = (if I = I' then T (ix2 r d) else 0) + g (ix2 (gi I' r) d) := by
  unfold upd1
  rcases eq_or_ne I I' with rfl | hne
  · rw [← emb128 I r d, Rect.overlay_emb, if_pos rfl, add_comm]
  · rw [Rect.overlay_of_not_mem, if_neg hne, zero_add]
    rw [Rect.mem_set_unit]
    intro h
    obtain ⟨h1, h2⟩ := h 0
    simp [gi, ix2] at h1 h2
    exact hne (Fin.ext (by omega))

theorem accR_at (T : Fin 8 → S512x128.Idx → EReal) (L : List (Fin 8)) (I : Fin 8) (r : Fin 512) (d : Fin 128) :
    accR T L (ix2 (gi I r) d) = (L.map fun J => if J = I then T J (ix2 r d) else 0).sum := by
  induction L with
  | nil => simp only [accR, List.map_nil, List.sum_nil]; pointwise [k0_pay5]
  | cons p L ih => rw [accR, upd1_at, ih, List.map_cons, List.sum_cons]

theorem kr0_at (K : Fin 4096 → Fin 256 → EReal) (hK : ∀ J c d, dkJ q k v o l dl J (ix2 c d) = K (gi J c) d * ((Real.log 2 : ℝ) : EReal)) (j : Fin 4096) (d : Fin 128) :
    accR (krJ q k v o l dl) [7, 6, 5, 4, 3, 2, 1, 0] (ix2 j d) = K j ⟨128 + d.val, by omega⟩ * ((Real.log 2 : ℝ) : EReal) := by
  obtain ⟨I, r, rfl⟩ := exists_gi j
  rw [accR_at]
  have h1 : ([7, 6, 5, 4, 3, 2, 1, 0] : List (Fin 8)).Nodup := by decide
  have h2 : ([7, 6, 5, 4, 3, 2, 1, 0] : List (Fin 8)).toFinset = Finset.univ := by decide
  rw [← List.sum_toFinset _ h1, h2, Finset.sum_ite_eq' Finset.univ I (fun J => krJ q k v o l dl J (ix2 r d)), if_pos (Finset.mem_univ _), krJ_at, hK]
end

end Cert.KernelIdeal.Body
-- ==== Proof.BodyA.lean ====
module
public import proofs.«01_k».proof.Proof.Tiles
@[expose] public section
noncomputable section
namespace Cert.KernelIdeal.Body
open Cert.KernelIdeal Cert.KernelIdeal.Gen Idealize.ShloMosaic Idealize.ShloMosaic.TcCoe Idealize.SL.Sem
set_option maxRecDepth 16384
variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S4096x256 .f32) (harg12 : arg12.IsWhole) (arg13 : Memref sig .tc .vmem S4096x128 .f32) (harg13 : arg13.IsWhole) (hc0 : cond0_0 i) (x0 : Vec Ideal S4096x256 .bf16) (x1 : Vec Ideal S4096x256 .bf16) (x2 : Vec Ideal S4096x128 .bf16) (x3 : Vec Ideal S4096x128 .bf16) (x4 : Vec Ideal S4096x128 .bf16) (x5 : Vec Ideal S1x4096x128 .f32) (x6 : Vec Ideal S4096x128 .f32) (x7 : Vec Ideal S4096x128 .f32)

/-- The query gradient's accumulator at the end of the tile loop. -/
theorem accA : ∃ L, (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 = pb_k0_t2 Variants.none c none i arg1 harg1 arg2 harg2 arg3 harg3 arg4 harg4 arg5 harg5 arg6 harg6 arg7 harg7 arg8 harg8 arg9 harg9 arg10 harg10 arg11 harg11 arg12 harg12 arg13 harg13 (harg7.unread x6) (harg8.unread x7)
      (arg12.view.writes (Elt Ideal) arg12.view.junk L) (Scf.trips (0#32) (Scalar.addi 0#32 8#32) 1#32) ∧
    View.canon L = accF (fun I J => dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) I J) (kL arg2 harg2 x1 J)) steps := by
  refine ⟨_, rfl, ?_⟩
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 7) (kL arg2 harg2 x1 7)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 6) (kL arg2 harg2 x1 6)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 6) (kL arg2 harg2 x1 6)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 5) (kL arg2 harg2 x1 5)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 5) (kL arg2 harg2 x1 5)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 5) (kL arg2 harg2 x1 5)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 4) (kL arg2 harg2 x1 4)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 4) (kL arg2 harg2 x1 4)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 4) (kL arg2 harg2 x1 4)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 4) (kL arg2 harg2 x1 4)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 3) (kL arg2 harg2 x1 3)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 3) (kL arg2 harg2 x1 3)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 3) (kL arg2 harg2 x1 3)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 3) (kL arg2 harg2 x1 3)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 3) (kL arg2 harg2 x1 3)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 2) (kL arg2 harg2 x1 2)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 2) (kL arg2 harg2 x1 2)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 2) (kL arg2 harg2 x1 2)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 2) (kL arg2 harg2 x1 2)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 2) (kL arg2 harg2 x1 2)) rfl ?_
  refine step 2 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 2 2) (kL arg2 harg2 x1 2)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 1) (kL arg2 harg2 x1 1)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 1) (kL arg2 harg2 x1 1)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 1) (kL arg2 harg2 x1 1)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 1) (kL arg2 harg2 x1 1)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 1) (kL arg2 harg2 x1 1)) rfl ?_
  refine step 2 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 2 1) (kL arg2 harg2 x1 1)) rfl ?_
  refine step 1 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 1 1) (kL arg2 harg2 x1 1)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 0) (kL arg2 harg2 x1 0)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 0) (kL arg2 harg2 x1 0)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 0) (kL arg2 harg2 x1 0)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 0) (kL arg2 harg2 x1 0)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 0) (kL arg2 harg2 x1 0)) rfl ?_
  refine step 2 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 2 0) (kL arg2 harg2 x1 0)) rfl ?_
  refine step 1 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 1 0) (kL arg2 harg2 x1 0)) rfl ?_
  refine step 0 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 0 0) (kL arg2 harg2 x1 0)) rfl ?_
  exact View.canon_cons_unit_lit _ _ _ (by decide)

theorem kvA : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 = kvPieces (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) [7, 6, 5, 4, 3, 2, 1, 0] := rfl

theorem krA : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1 = accR (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4)) [7, 6, 5, 4, 3, 2, 1, 0] := by
  refine step1 (v := arg11.view) 7 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7) rfl ?_
  refine step1 (v := arg11.view) 6 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6) rfl ?_
  refine step1 (v := arg11.view) 5 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5) rfl ?_
  refine step1 (v := arg11.view) 4 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4) rfl ?_
  refine step1 (v := arg11.view) 3 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3) rfl ?_
  refine step1 (v := arg11.view) 2 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 2) rfl ?_
  refine step1 (v := arg11.view) 1 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 1) rfl ?_
  refine step1 (v := arg11.view) 0 (krJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 0) rfl ?_
  exact View.canon_cons_unit_lit _ _ _ (by decide)

end Cert.KernelIdeal.Body
-- ==== Proof.BodyB.lean ====
module
public import proofs.«01_k».proof.Proof.Tiles
@[expose] public section
noncomputable section
namespace Cert.KernelIdeal.Body
open Cert.KernelIdeal Cert.KernelIdeal.Gen Idealize.ShloMosaic Idealize.ShloMosaic.TcCoe Idealize.SL.Sem
set_option maxRecDepth 16384
variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S4096x256 .f32) (harg12 : arg12.IsWhole) (arg13 : Memref sig .tc .vmem S4096x128 .f32) (harg13 : arg13.IsWhole) (hc0 : ¬ cond0_0 i) (x0 : Vec Ideal S4096x256 .bf16) (x1 : Vec Ideal S4096x256 .bf16) (x2 : Vec Ideal S4096x128 .bf16) (x3 : Vec Ideal S4096x128 .bf16) (x4 : Vec Ideal S4096x128 .bf16) (x5 : Vec Ideal S1x4096x128 .f32) (x6 : Vec Ideal S4096x128 .f32) (x7 : Vec Ideal S4096x128 .f32) (prev : Vec Ideal S4096x128 .f32)

/-- The query gradient's accumulator at the end of the tile loop. -/
theorem accB : ∃ L, (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev).1 = pb_k0_t2 Variants.none c none i arg1 harg1 arg2 harg2 arg3 harg3 arg4 harg4 arg5 harg5 arg6 harg6 arg7 harg7 arg8 harg8 arg9 harg9 arg10 harg10 arg11 harg11 arg12 harg12 arg13 harg13 (harg7.unread x6) (harg8.unread x7)
      (arg12.view.writes (Elt Ideal) arg12.view.junk L) (Scf.trips (0#32) (Scalar.addi 0#32 8#32) 1#32) ∧
    View.canon L = accF (fun I J => dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) I J) (kL arg2 harg2 x1 J)) steps := by
  refine ⟨_, rfl, ?_⟩
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 7) (kL arg2 harg2 x1 7)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 6) (kL arg2 harg2 x1 6)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 6) (kL arg2 harg2 x1 6)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 5) (kL arg2 harg2 x1 5)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 5) (kL arg2 harg2 x1 5)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 5) (kL arg2 harg2 x1 5)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 4) (kL arg2 harg2 x1 4)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 4) (kL arg2 harg2 x1 4)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 4) (kL arg2 harg2 x1 4)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 4) (kL arg2 harg2 x1 4)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 3) (kL arg2 harg2 x1 3)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 3) (kL arg2 harg2 x1 3)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 3) (kL arg2 harg2 x1 3)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 3) (kL arg2 harg2 x1 3)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 3) (kL arg2 harg2 x1 3)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 2) (kL arg2 harg2 x1 2)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 2) (kL arg2 harg2 x1 2)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 2) (kL arg2 harg2 x1 2)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 2) (kL arg2 harg2 x1 2)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 2) (kL arg2 harg2 x1 2)) rfl ?_
  refine step 2 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 2 2) (kL arg2 harg2 x1 2)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 1) (kL arg2 harg2 x1 1)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 1) (kL arg2 harg2 x1 1)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 1) (kL arg2 harg2 x1 1)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 1) (kL arg2 harg2 x1 1)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 1) (kL arg2 harg2 x1 1)) rfl ?_
  refine step 2 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 2 1) (kL arg2 harg2 x1 1)) rfl ?_
  refine step 1 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 1 1) (kL arg2 harg2 x1 1)) rfl ?_
  refine step 7 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 7 0) (kL arg2 harg2 x1 0)) rfl ?_
  refine step 6 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 6 0) (kL arg2 harg2 x1 0)) rfl ?_
  refine step 5 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 5 0) (kL arg2 harg2 x1 0)) rfl ?_
  refine step 4 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 4 0) (kL arg2 harg2 x1 0)) rfl ?_
  refine step 3 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 3 0) (kL arg2 harg2 x1 0)) rfl ?_
  refine step 2 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 2 0) (kL arg2 harg2 x1 0)) rfl ?_
  refine step 1 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 1 0) (kL arg2 harg2 x1 0)) rfl ?_
  refine step 0 (dqT (dsIJ (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) 0 0) (kL arg2 harg2 x1 0)) rfl ?_
  exact View.canon_cons_unit_lit _ _ _ (by decide)

theorem kvB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev).2.1 = kvPieces (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) [7, 6, 5, 4, 3, 2, 1, 0] := rfl

theorem krB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev).2.2.1 = krPieces (qL arg1 harg1 x0) (kL arg2 harg2 x1) (vL arg3 harg3 x2) (oL arg5 harg5 x4) (lL arg6 harg6 x5) (dL c i arg1 harg1 arg2 harg2 arg3 harg3 arg4 harg4 arg5 harg5 arg6 harg6 arg7 harg7 arg8 harg8 arg9 harg9 arg10 harg10 arg11 harg11 arg12 harg12 arg13 harg13 x3 x4) (pL arg11 harg11 prev) [7, 6, 5, 4, 3, 2, 1, 0] := rfl

end Cert.KernelIdeal.Body
-- ==== Proof.Blocks.lean ====
module
public import proofs.«01_k».proof.Proof.Val2
public import proofs.«01_k».proof.Proof.BodyA
public import proofs.«01_k».proof.Proof.BodyB
public import proofs.«01_k».proof.Proof.Gen.KernelIdeal.Value
@[expose] public section
noncomputable section
namespace Cert.KernelIdeal.Body
open Cert.KernelIdeal Cert.KernelIdeal.Gen Idealize.ShloMosaic Idealize.ShloMosaic.TcCoe Idealize.SL.Sem
set_option maxRecDepth 16384

section spec
variable (x0 x1 : S4096x256.Idx → EReal) (x2 x3 x4 : S4096x128.Idx → EReal) (x5 : S1x4096x128.Idx → EReal) (x6 x7 : S4096x128.Idx → EReal)
/-- The query gradient of one head, as stored. -/
def O8 : S4096x256.Idx → EReal := out8F x6 x7 (fun y => dQ x0 x1 x2 x3 x4 x5 (y 0) (y 1))
/-- The key and value gradients of one head, as stored. -/
def O9 : S4096x256.Idx → EReal := out9F (dK x0 x1 x2 x3 x4 x5) (dV x0 x1 x4 x5)
/-- One head's part of the shared key's gradient. -/
def R10 (j : Fin 4096) (d : Fin 128) : EReal := dK x0 x1 x2 x3 x4 x5 j ⟨128 + d.val, by omega⟩ * ((Real.log 2 : ℝ) : EReal)
end spec

theorem out8F_congr (x6 x7 : Vec Ideal S4096x128 .f32) (A B : S4096x256.Idx → EReal) (h : ∀ j d, A (ix2 j d) = B (ix2 j d)) : out8F x6 x7 A = out8F x6 x7 B := by
  have : A = B := funext fun y => by rw [eq_ix2 y]; exact h _ _
  rw [this]

section
variable {x0 x1 : S4096x256.Idx → EReal} {x2 x3 x4 : S4096x128.Idx → EReal} {x5 : S1x4096x128.Idx → EReal}
  {q k : Fin 8 → Vec Ideal S512x256 .bf16} {v o : Fin 8 → Vec Ideal S512x128 .bf16} {l : Fin 8 → Vec Ideal S1x512x1 .f32}
  {dl : Fin 8 → Vec Ideal S512x1 .f32}
theorem acc_glob (hq : ∀ I r d, q I (ix2 r d) = x0 (ix2 (gi I r) d)) (hk : ∀ I r d, k I (ix2 r d) = x1 (ix2 (gi I r) d))
    (hv : ∀ I r d, v I (ix2 r d) = x2 (ix2 (gi I r) d)) (ho : ∀ I r d, o I (ix2 r d) = x4 (ix2 (gi I r) d))
    (hl : ∀ I r, l I (ix3 0 r 0) = x5 (ix3 0 (gi I r) 0)) (hd : ∀ I r, dl I (ix2 r 0) = Dl x3 x4 (gi I r)) (j : Fin 4096) (d : Fin 256) :
    accF (fun I J => dqT (dsIJ q k v o l dl I J) (k J)) steps (ix2 j d) = dQ x0 x1 x2 x3 x4 x5 j d := by
  obtain ⟨I, r, rfl⟩ := exists_gi j
  exact acc_at hq hk hv ho hl hd I r d
end

variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S4096x256 .f32) (harg12 : arg12.IsWhole) (arg13 : Memref sig .tc .vmem S4096x128 .f32) (harg13 : arg13.IsWhole) (x0 : Vec Ideal S4096x256 .bf16) (x1 : Vec Ideal S4096x256 .bf16) (x2 : Vec Ideal S4096x128 .bf16) (x3 : Vec Ideal S4096x128 .bf16) (x4 : Vec Ideal S4096x128 .bf16) (x5 : Vec Ideal S1x4096x128 .f32) (x6 : Vec Ideal S4096x128 .f32) (x7 : Vec Ideal S4096x128 .f32)

theorem outA8 (hc0 : cond0_0 i)  : out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = O8 x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  obtain ⟨L, h1, h2⟩ := accA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
  rw [h1, canon2 c i arg1 harg1 arg2 harg2 arg3 harg3 arg4 harg4 arg5 harg5 arg6 harg6 arg7 harg7 arg8 harg8 arg9 harg9 arg10 harg10 arg11 harg11 arg12 harg12 arg13 harg13 x6 x7 L _ h2]
  exact out8F_congr x6 x7 _ _ fun j d => acc_glob (qL_at arg1 harg1 x0) (kL_at arg2 harg2 x1) (vL_at arg3 harg3 x2) (oL_at arg5 harg5 x4) (lL_at arg6 harg6 x5) (dL_at c i arg1 harg1 arg2 harg2 arg3 harg3 arg4 harg4 arg5 harg5 arg6 harg6 arg7 harg7 arg8 harg8 arg9 harg9 arg10 harg10 arg11 harg11 arg12 harg12 arg13 harg13 x3 x4) j d

theorem outA9 (hc0 : cond0_0 i)  : out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = O9 x0 x1 x2 x3 x4 x5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7), kvA]
  exact kv_at (dK x0 x1 x2 x3 x4 x5) (dV x0 x1 x4 x5) (fun J c' d => dkJ_at (qL_at arg1 harg1 x0) (kL_at arg2 harg2 x1) (vL_at arg3 harg3 x2) (oL_at arg5 harg5 x4) (lL_at arg6 harg6 x5) (dL_at c i arg1 harg1 arg2 harg2 arg3 harg3 arg4 harg4 arg5 harg5 arg6 harg6 arg7 harg7 arg8 harg8 arg9 harg9 arg10 harg10 arg11 harg11 arg12 harg12 arg13 harg13 x3 x4) J c' d) (fun J c' d => dvJ_at (qL_at arg1 harg1 x0) (kL_at arg2 harg2 x1) (oL_at arg5 harg5 x4) (lL_at arg6 harg6 x5) J c' d)

theorem outA10 (hc0 : cond0_0 i) (j : Fin 4096) (d : Fin 128) : out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 j d) = R10 x0 x1 x2 x3 x4 x5 j d := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7), krA]
  exact kr0_at (dK x0 x1 x2 x3 x4 x5) (fun J c' d => dkJ_at (qL_at arg1 harg1 x0) (kL_at arg2 harg2 x1) (vL_at arg3 harg3 x2) (oL_at arg5 harg5 x4) (lL_at arg6 harg6 x5) (dL_at c i arg1 harg1 arg2 harg2 arg3 harg3 arg4 harg4 arg5 harg5 arg6 harg6 arg7 harg7 arg8 harg8 arg9 harg9 arg10 harg10 arg11 harg11 arg12 harg12 arg13 harg13 x3 x4) J c' d) j d

theorem outB8 (hc0 : ¬ cond0_0 i) (prev : Vec Ideal S4096x128 .f32) : out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev = O8 x0 x1 x2 x3 x4 x5 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev)]
  obtain ⟨L, h1, h2⟩ := accB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev
  rw [h1, canon2 c i arg1 harg1 arg2 harg2 arg3 harg3 arg4 harg4 arg5 harg5 arg6 harg6 arg7 harg7 arg8 harg8 arg9 harg9 arg10 harg10 arg11 harg11 arg12 harg12 arg13 harg13 x6 x7 L _ h2]
  exact out8F_congr x6 x7 _ _ fun j d => acc_glob (qL_at arg1 harg1 x0) (kL_at arg2 harg2 x1) (vL_at arg3 harg3 x2) (oL_at arg5 harg5 x4) (lL_at arg6 harg6 x5) (dL_at c i arg1 harg1 arg2 harg2 arg3 harg3 arg4 harg4 arg5 harg5 arg6 harg6 arg7 harg7 arg8 harg8 arg9 harg9 arg10 harg10 arg11 harg11 arg12 harg12 arg13 harg13 x3 x4) j d

theorem outB9 (hc0 : ¬ cond0_0 i) (prev : Vec Ideal S4096x128 .f32) : out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev = O9 x0 x1 x2 x3 x4 x5 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev), kvB]
  exact kv_at (dK x0 x1 x2 x3 x4 x5) (dV x0 x1 x4 x5) (fun J c' d => dkJ_at (qL_at arg1 harg1 x0) (kL_at arg2 harg2 x1) (vL_at arg3 harg3 x2) (oL_at arg5 harg5 x4) (lL_at arg6 harg6 x5) (dL_at c i arg1 harg1 arg2 harg2 arg3 harg3 arg4 harg4 arg5 harg5 arg6 harg6 arg7 harg7 arg8 harg8 arg9 harg9 arg10 harg10 arg11 harg11 arg12 harg12 arg13 harg13 x3 x4) J c' d) (fun J c' d => dvJ_at (qL_at arg1 harg1 x0) (kL_at arg2 harg2 x1) (oL_at arg5 harg5 x4) (lL_at arg6 harg6 x5) J c' d)

theorem outB10 (hc0 : ¬ cond0_0 i) (prev : Vec Ideal S4096x128 .f32) (j : Fin 4096) (d : Fin 128) : out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev (ix2 j d) = prev (ix2 j d) + R10 x0 x1 x2 x3 x4 x5 j d := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 prev), krB]
  exact kr_at (dK x0 x1 x2 x3 x4 x5) (pL arg11 harg11 prev) prev (fun J c' d => dkJ_at (qL_at arg1 harg1 x0) (kL_at arg2 harg2 x1) (vL_at arg3 harg3 x2) (oL_at arg5 harg5 x4) (lL_at arg6 harg6 x5) (dL_at c i arg1 harg1 arg2 harg2 arg3 harg3 arg4 harg4 arg5 harg5 arg6 harg6 arg7 harg7 arg8 harg8 arg9 harg9 arg10 harg10 arg11 harg11 arg12 harg12 arg13 harg13 x3 x4) J c' d) (pL_at arg11 harg11 prev) j d

end Cert.KernelIdeal.Body
-- ==== Proof.Arr.lean ====
module
public import proofs.«01_k».proof.Proof.Blocks
public import Idealize.ShloMosaic.Lib.Pipeline.ValueKit
@[expose] public section
noncomputable section
namespace Cert.KernelIdeal.Body
open Cert.KernelIdeal Cert.KernelIdeal.Gen Idealize.ShloMosaic Idealize.ShloMosaic.TcCoe Idealize.SL.Sem
set_option maxRecDepth 16384

/-- Head `t`'s 256 columns of a `[4096, 4096]` array. -/
def h256 (A : S4096x4096.Idx → EReal) (t : Fin 16) : S4096x256.Idx → EReal := fun y => A (ix2 (y 0) ⟨256 * t.val + (y 1).val, by have := (y 1).isLt; have : (y 1).val < 256 := this; omega⟩)
/-- Head `t`'s 128 columns of a `[4096, 2048]` array. -/
def h128 (A : S4096x2048.Idx → EReal) (t : Fin 16) : S4096x128.Idx → EReal := fun y => A (ix2 (y 0) ⟨128 * t.val + (y 1).val, by have := (y 1).isLt; have : (y 1).val < 128 := this; omega⟩)
/-- Head `t`'s plane of a `[16, 4096, 128]` array. -/
def hpl (A : S16x4096x128.Idx → EReal) (t : Fin 16) : S1x4096x128.Idx → EReal := fun y => A (ix3 t (y 1) (y 2))

variable (m : (ℓ : Loc nD τ sig) → Buf (Elt Ideal) ℓ) (c : Dev nD)

theorem cidx0 : ∀ t : Fin cfg0.N, win0_0.index t = ![0, t.val] := by decide +kernel
theorem cidx1 : ∀ t : Fin cfg0.N, win0_1.index t = ![0, t.val] := by decide +kernel
theorem cidx2 : ∀ t : Fin cfg0.N, win0_2.index t = ![0, t.val] := by decide +kernel
theorem cidx3 : ∀ t : Fin cfg0.N, win0_3.index t = ![0, t.val] := by decide +kernel
theorem cidx4 : ∀ t : Fin cfg0.N, win0_4.index t = ![0, t.val] := by decide +kernel
theorem cidx5 : ∀ t : Fin cfg0.N, win0_5.index t = ![t.val, 0, 0] := by decide +kernel
theorem cidx6 : ∀ t : Fin cfg0.N, win0_6.index t = ![0, 0] := by decide +kernel
theorem cidx7 : ∀ t : Fin cfg0.N, win0_7.index t = ![0, 0] := by decide +kernel
theorem cidx8 : ∀ t : Fin cfg0.N, win0_8.index t = ![0, t.val] := by decide +kernel
theorem cidx9 : ∀ t : Fin cfg0.N, win0_9.index t = ![0, t.val] := by decide +kernel
theorem cidx10 : ∀ t : Fin cfg0.N, win0_10.index t = ![0, 0] := by decide +kernel

theorem iblk0 (t : Fin cfg0.N) : iblk m c 0 t = h256 (V m c main_v77) t := by
  funext y; unfold h256; blk_ext [iblk, cidx0]
theorem iblk1 (t : Fin cfg0.N) : iblk m c 1 t = h256 (V m c main_v82) t := by
  funext y; unfold h256; blk_ext [iblk, cidx1]
theorem iblk2 (t : Fin cfg0.N) : iblk m c 2 t = h128 (V m c main_v84) t := by
  funext y; unfold h128; blk_ext [iblk, cidx2]
theorem iblk3 (t : Fin cfg0.N) : iblk m c 3 t = h128 (V m c main_v86) t := by
  funext y; unfold h128; blk_ext [iblk, cidx3]
theorem iblk4 (t : Fin cfg0.N) : iblk m c 4 t = h128 (V m c main_v87) t := by
  funext y; unfold h128; blk_ext [iblk, cidx4]
theorem iblk5 (t : Fin cfg0.N) : iblk m c 5 t = hpl (V m c main_v70) t := by
  funext y; unfold hpl; blk_ext [iblk, cidx5]
theorem iblk6 (t : Fin cfg0.N) : iblk m c 6 t = V m c main_v20 := by
  funext y; blk_ext [iblk, cidx6]
theorem iblk7 (t : Fin cfg0.N) : iblk m c 7 t = V m c main_v22 := by
  funext y; blk_ext [iblk, cidx7]

/-- The three blocks of head `t`. -/
def E8 (t : Fin 16) : S4096x256.Idx → EReal := O8 (h256 (V m c main_v77) t) (h256 (V m c main_v82) t) (h128 (V m c main_v84) t) (h128 (V m c main_v86) t) (h128 (V m c main_v87) t) (hpl (V m c main_v70) t) (V m c main_v20) (V m c main_v22)
def E9 (t : Fin 16) : S4096x256.Idx → EReal := O9 (h256 (V m c main_v77) t) (h256 (V m c main_v82) t) (h128 (V m c main_v84) t) (h128 (V m c main_v86) t) (h128 (V m c main_v87) t) (hpl (V m c main_v70) t)
def E10 (t : Fin 16) : Fin 4096 → Fin 128 → EReal := R10 (h256 (V m c main_v77) t) (h256 (V m c main_v82) t) (h128 (V m c main_v84) t) (h128 (V m c main_v86) t) (h128 (V m c main_v87) t) (hpl (V m c main_v70) t)

theorem pt8 (t : Fin cfg0.N) : (outsAt0 m c t.val t.isLt).1 = E8 m c t := by
  unfold E8
  by_cases h0 : t.val % 16 = 0
  · rw [outsAt0_A m c t h0]; dsimp only; rw [outA8, iblk0, iblk1, iblk2, iblk3, iblk4, iblk5, iblk6, iblk7]
  · rw [outsAt0_B m c t h0]; dsimp only; rw [outB8, iblk0, iblk1, iblk2, iblk3, iblk4, iblk5, iblk6, iblk7]
theorem pt9 (t : Fin cfg0.N) : (outsAt0 m c t.val t.isLt).2.1 = E9 m c t := by
  unfold E9
  by_cases h0 : t.val % 16 = 0
  · rw [outsAt0_A m c t h0]; dsimp only; rw [outA9, iblk0, iblk1, iblk2, iblk3, iblk4, iblk5]
  · rw [outsAt0_B m c t h0]; dsimp only; rw [outB9, iblk0, iblk1, iblk2, iblk3, iblk4, iblk5]

theorem acc10 (t : Fin cfg0.N) (j : Fin 4096) (d : Fin 128) : (outsAt0 m c t.val t.isLt).2.2 (ix2 j d)
    = 0 + ∑ k ∈ Finset.range (t.val + 1), (if h : k < 16 then E10 m c ⟨k, h⟩ j d else 0) := by
  refine Pipeline.eq_sum_of_reset_step_apply_single (N := cfg0.N) (fun n h (x : Fin 4096 × Fin 128) => (outsAt0 m c n h).2.2 (ix2 x.1 x.2)) 16 (fun _ => (0 : EReal))
    (fun k x => if h : k < 16 then E10 m c ⟨k, h⟩ x.1 x.2 else 0) (fun t h x => ?_) (fun t h x => ?_) (by decide) t (j, d)
  · have ht : t.val < 16 := t.isLt
    rw [outsAt0_A m c t h, dif_pos ht]; dsimp only; rw [outA10, iblk0, iblk1, iblk2, iblk3, iblk4, iblk5, zero_add]; rfl
  · have ht : t.val < 16 := t.isLt
    rw [outsAt0_B m c t h, dif_pos ht]; dsimp only; rw [outB10, iblk0, iblk1, iblk2, iblk3, iblk4, iblk5]; rfl

/-- The query gradient's array: head by head. -/
def G8 : S4096x4096.Idx → EReal := fun i => E8 m c ⟨(i 1).val / 256, by have : (i 1).val < 4096 := (i 1).isLt; omega⟩ (ix2 (i 0) ⟨(i 1).val % 256, Nat.mod_lt _ (by norm_num)⟩)
/-- The key and value gradients' array: head by head. -/
def G9 : S4096x4096.Idx → EReal := fun i => E9 m c ⟨(i 1).val / 256, by have : (i 1).val < 4096 := (i 1).isLt; omega⟩ (ix2 (i 0) ⟨(i 1).val % 256, Nat.mod_lt _ (by norm_num)⟩)
/-- The shared key's gradient: summed over the heads. -/
def G10 : S4096x128.Idx → EReal := fun i => ∑ t : Fin 16, E10 m c t (i 0) (i 1)

theorem G8_at (t : ℕ) (ht : t < 16) (i : Fin 4096) (d : Fin 256) : G8 m c (ix2 i ⟨256 * t + d.val, by omega⟩) = E8 m c ⟨t, ht⟩ (ix2 i d) := by
  show E8 m c ⟨(256 * t + d.val) / 256, _⟩ (ix2 i ⟨(256 * t + d.val) % 256, _⟩) = _
  have h1 : (256 * t + d.val) / 256 = t := by omega
  have h2 : (256 * t + d.val) % 256 = d.val := by omega
  simp only [h1, h2]
theorem arr8 : (dats m 0 c).arrAt 8 cfg0.N = G8 m c := by
  refine (dats m 0 c).arrAt_eq_of_covers 8 _ (by decide +kernel) fun t hf y => ?_
  rw [after0_8, pt8]
  blk_simp [cidx8]
  have hy : (y 1).val < 256 := (y 1).isLt
  have ht : t.val < 16 := t.isLt
  have e : (win0_8.blk t).view.emb y = (@ix2 4096 4096 (y 0) ⟨256 * t.val + (y 1).val, by omega⟩ : S4096x4096.Idx) := by blk_ext [cidx8]
  rw [e, G8_at m c t ht (y 0) ⟨(y 1).val, hy⟩]
  exact congrArg (E8 m c t) (eq_ix2 y)
theorem G9_at (t : ℕ) (ht : t < 16) (i : Fin 4096) (d : Fin 256) : G9 m c (ix2 i ⟨256 * t + d.val, by omega⟩) = E9 m c ⟨t, ht⟩ (ix2 i d) := by
  show E9 m c ⟨(256 * t + d.val) / 256, _⟩ (ix2 i ⟨(256 * t + d.val) % 256, _⟩) = _
  have h1 : (256 * t + d.val) / 256 = t := by omega
  have h2 : (256 * t + d.val) % 256 = d.val := by omega
  simp only [h1, h2]
theorem arr9 : (dats m 0 c).arrAt 9 cfg0.N = G9 m c := by
  refine (dats m 0 c).arrAt_eq_of_covers 9 _ (by decide +kernel) fun t hf y => ?_
  rw [after0_9, pt9]
  blk_simp [cidx9]
  have hy : (y 1).val < 256 := (y 1).isLt
  have ht : t.val < 16 := t.isLt
  have e : (win0_9.blk t).view.emb y = (@ix2 4096 4096 (y 0) ⟨256 * t.val + (y 1).val, by omega⟩ : S4096x4096.Idx) := by blk_ext [cidx9]
  rw [e, G9_at m c t ht (y 0) ⟨(y 1).val, hy⟩]
  exact congrArg (E9 m c t) (eq_ix2 y)
theorem arr10 : (dats m 0 c).arrAt 10 cfg0.N = G10 m c := by
  refine (dats m 0 c).arrAt_eq_of_covers 10 _ (by decide +kernel) fun t hf y => ?_
  rw [after0_10]
  blk_simp [cidx10]
  have ht : t.val = 15 := by
    have h1 := (flush0_10 t).mp hf
    have h2 : t.val < 16 := t.isLt
    omega
  have e : (win0_10.blk t).view.emb y = y := by blk_ext [cidx10]
  rw [e]
  refine (congrArg _ (eq_ix2 y)).trans ((acc10 m c t (y 0) (y 1)).trans ?_)
  rw [zero_add, ht, Finset.sum_range]
  exact Finset.sum_congr rfl fun k _ => dif_pos k.isLt
end Cert.KernelIdeal.Body
-- ==== Proof.Ref.lean ====
module
public import proofs.«01_k».proof.Proof.Gen.ReferenceIdeal.Read
public import Idealize.ShloMosaic.Lib.Pointwise
public import Idealize.ShloMosaic.Lib.IdealHost
public import Idealize.ShloMosaic.Lib.WordCmp
@[expose] public section
noncomputable section
namespace Cert.ReferenceIdeal.Math
open Cert.ReferenceIdeal Cert.ReferenceIdeal.Read Idealize.ShloMosaic
set_option maxRecDepth 16384

theorem csum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

theorem ninf_eq : Ideal.ofBits .f32 4286578688#32 = ⊥ := by
  show Ideal.ieee 8 23 4286578688#32 = ⊥
  unfold Ideal.ieee
  have h1 : (BitVec.extractLsb' 23 8 (4286578688#32)).toNat = 2 ^ 8 - 1 := by decide
  have h2 : (BitVec.extractLsb' 0 23 (4286578688#32)).toNat = 0 := by decide
  have h3 : (BitVec.extractLsb' (8+23) 1 (4286578688#32) == 1#1) = true := by decide
  simp only [h1, h2, h3, if_true]
/-- The scores' scale. -/
def smR : ℝ := (Ideal.ofBits .f32 1033096506#32).toReal
theorem sm_eq : Ideal.ofBits .f32 1033096506#32 = ((smR : ℝ) : EReal) := by
  have h1 : ¬ (BitVec.extractLsb' 23 8 (1033096506#32)).toNat = 2 ^ 8 - 1 := by decide
  have h2 : ¬ (BitVec.extractLsb' 23 8 (1033096506#32)).toNat = 0 := by decide
  have h : ∃ r : ℝ, Ideal.ofBits .f32 1033096506#32 = (r : EReal) := by
    show ∃ r : ℝ, Ideal.ieee 8 23 1033096506#32 = (r : EReal)
    unfold Ideal.ieee
    simp only [h1, h2, if_false]
    exact ⟨_, rfl⟩
  obtain ⟨r, hr⟩ := h
  unfold smR
  rw [hr, EReal.toReal_coe]

theorem v47 (i k : Fin 4096) : val_main_v47 (F := Ideal) (ix2 i k) = if k ≤ i then 1#1 else 0#1 := by
  pointwise [val_main_v47, val_main_v45, val_main_v46, val_main_v42, val_main_v44, val_main_v41, val_main_v43]
  rw [WordCmp.cmpi_sle_ofNat (by omega) (by omega)]
  by_cases h : k ≤ i
  · rw [if_pos h, decide_eq_true (by exact h)]; rfl
  · rw [if_neg h, decide_eq_false (by exact h)]; rfl

theorem fold_max_real {n : ℕ} (f : Fin n → EReal) (hf : ∀ k, f k < ⊤) (i : Fin n) (hi : ⊥ < f i) : ∃ r : ℝ, Finset.univ.fold max ⊥ f = ((r : ℝ) : EReal) := by
  refine ⟨(Finset.univ.fold max ⊥ f).toReal, (EReal.coe_toReal ?_ ?_).symm⟩
  · exact ne_of_lt (Finset.fold_max_lt _ |>.mpr ⟨bot_lt_top, fun k _ => hf k⟩)
  · exact ne_of_gt (Finset.lt_fold_max _ |>.mpr (Or.inr ⟨i, Finset.mem_univ i, hi⟩))

theorem div_r (x y : ℝ) (h : y ≠ 0) : Ideal.div ((x : ℝ) : EReal) ((y : ℝ) : EReal) = ((x / y : ℝ) : EReal) := by
  rw [Ideal.div_coe h, ← EReal.coe_mul, div_eq_mul_one_div x y]

/-- The arguments as real arrays, and the rotary tables they give. -/
structure Reals (x0 : (⟨S4096x16x192, .f32⟩ : BufTy).Contents (Elt Ideal)) (x1 : (⟨S4096x16x256, .f32⟩ : BufTy).Contents (Elt Ideal)) (x2 : (⟨S4096x64, .f32⟩ : BufTy).Contents (Elt Ideal)) (x3 : (⟨S4096, .i32⟩ : BufTy).Contents (Elt Ideal)) (x4 : (⟨S4096x2048, .f32⟩ : BufTy).Contents (Elt Ideal)) where
  q : Fin 4096 → Fin 16 → Fin 192 → ℝ
  kv : Fin 4096 → Fin 16 → Fin 256 → ℝ
  kr : Fin 4096 → Fin 64 → ℝ
  dO : Fin 4096 → Fin 2048 → ℝ
  C : Fin 4096 → Fin 32 → ℝ
  S : Fin 4096 → Fin 32 → ℝ
  hq : ∀ i h d, x0 (ix3 i h d) = ((q i h d : ℝ) : EReal)
  hkv : ∀ i h d, x1 (ix3 i h d) = ((kv i h d : ℝ) : EReal)
  hkr : ∀ i d, x2 (ix2 i d) = ((kr i d : ℝ) : EReal)
  hdO : ∀ i d, x4 (ix2 i d) = ((dO i d : ℝ) : EReal)
  hC : ∀ i l, val_main_v20 (F := Ideal) x3 (ix2 i l) = ((C i l : ℝ) : EReal)
  hS : ∀ i l, val_main_v21 (F := Ideal) x3 (ix2 i l) = ((S i l : ℝ) : EReal)

variable {x0 : (⟨S4096x16x192, .f32⟩ : BufTy).Contents (Elt Ideal)} {x1 : (⟨S4096x16x256, .f32⟩ : BufTy).Contents (Elt Ideal)} {x2 : (⟨S4096x64, .f32⟩ : BufTy).Contents (Elt Ideal)} {x3 : (⟨S4096, .i32⟩ : BufTy).Contents (Elt Ideal)} {x4 : (⟨S4096x2048, .f32⟩ : BufTy).Contents (Elt Ideal)}

namespace Reals
variable (D : Reals x0 x1 x2 x3 x4)
include D

/-- The rotated query. -/
def rot (i : Fin 4096) (h : Fin 16) (d : Fin 64) : ℝ :=
  if hd : d.val < 32 then D.q i h ⟨128 + d.val, by omega⟩ * D.C i ⟨d.val, hd⟩ - D.q i h ⟨128 + (d.val + 32), by omega⟩ * D.S i ⟨d.val, hd⟩
  else D.q i h ⟨128 + d.val, by omega⟩ * D.C i ⟨d.val - 32, by omega⟩ + D.q i h ⟨128 + (d.val - 32), by omega⟩ * D.S i ⟨d.val - 32, by omega⟩
/-- The scores, not scaled. -/
def sc (h : Fin 16) (i k : Fin 4096) : ℝ :=
  (∑ d : Fin 128, D.q i h ⟨d.val, by omega⟩ * D.kv k h ⟨d.val, by omega⟩) + ∑ r : Fin 64, D.kr k r * D.rot i h r

theorem v36 (i : Fin 4096) (h : Fin 16) (d : Fin 64) : val_main_v36 (F := Ideal) x0 x3 (ix3 i h d) = ((D.rot i h d : ℝ) : EReal) := by
  pointwise [val_main_v36, val_main_v30, val_main_v35, val_main_v27, val_main_v29, val_main_v32, val_main_v34, val_main_v24, val_main_v25, val_main_v26, val_main_v28, val_main_v31, val_main_v33, val_main_v22, val_main_v23, val_main_v1]
  unfold rot
  split
  · rw [D.hC, D.hS, D.hq, D.hq]
    rw [EReal.coe_sub, EReal.coe_mul, EReal.coe_mul]
    congr 6
    omega
  · rw [D.hC, D.hS, D.hq, D.hq]
    rw [EReal.coe_add, EReal.coe_mul, EReal.coe_mul]
    congr 6
    omega

theorem v40 (h : Fin 16) (i k : Fin 4096) : val_main_v40 (F := Ideal) x0 x1 x2 x3 (ix3 h i k) = ((D.sc h i k : ℝ) : EReal) := by
  pointwise [val_main_v40, val_main_v37, val_main_v0, val_main_v2, val_main_v39, val_main_v38]
  simp only [D.v36, D.hq, D.hkv, D.hkr, ← EReal.coe_mul, csum, ← EReal.coe_add]
  rfl

theorem v51 (h : Fin 16) (i k : Fin 4096) : val_main_v51_0 (F := Ideal) x0 x1 x2 x3 (ix3 h i k) = if k ≤ i then ((D.sc h i k * smR : ℝ) : EReal) else ⊥ := by
  pointwise [val_main_v51_0, val_main_v51_1, val_main_v48, val_main_v50, val_main_v49, val_main_cst_3, val_main_call0_v2, val_main_call0_v0, val_main_cst_4]
  rw [v47, D.v40, sm_eq, ← EReal.coe_mul]
  by_cases hk : k ≤ i
  · rw [if_pos hk, if_pos hk]; rfl
  · rw [if_neg hk, if_neg hk]
    show Ideal.ofBits .f32 4286578688#32 = ⊥
    exact ninf_eq

theorem mu_exists (h : Fin 16) (i : Fin 4096) : ∃ r : ℝ, val_main_v52 (F := Ideal) x0 x1 x2 x3 (ix2 h i) = ((r : ℝ) : EReal) := by
  pointwise [val_main_v52]
  have : val_main_cst_5 (F := Ideal) (Shape.Idx.first Gen.h_S_) = ⊥ := by
    show Ideal.ofBits .f32 4286578688#32 = ⊥
    exact ninf_eq
  rw [this]
  refine fold_max_real _ (fun k => ?_) i ?_
  · rw [D.v51]; split
    · exact EReal.coe_lt_top _
    · exact bot_lt_top
  · rw [D.v51, if_pos (le_refl i)]
    exact EReal.bot_lt_coe _

/-- Each row's greatest score. -/
def mu (h : Fin 16) (i : Fin 4096) : ℝ := Classical.choose (D.mu_exists h i)
theorem v52' (h : Fin 16) (i : Fin 4096) : val_main_v52 (F := Ideal) x0 x1 x2 x3 (ix2 h i) = ((D.mu h i : ℝ) : EReal) := Classical.choose_spec (D.mu_exists h i)

/-- The weights before they are divided by their sum. -/
def ee (h : Fin 16) (i k : Fin 4096) : ℝ := if k ≤ i then Real.exp (D.sc h i k * smR - D.mu h i) else 0
def ll (h : Fin 16) (i : Fin 4096) : ℝ := ∑ k, D.ee h i k
/-- The weights. -/
def pp (h : Fin 16) (i k : Fin 4096) : ℝ := D.ee h i k / D.ll h i

theorem v59 (h : Fin 16) (i : Fin 4096) : val_main_v59 (F := Ideal) x0 x1 x2 x3 (ix2 h i) = ((D.mu h i : ℝ) : EReal) := by
  rw [val_main_v59_apply, val_main_v58_apply, val_main_cst_7_apply, D.v52']
  show max (Ideal.ofBits .f32 4286578688#32) _ = _
  rw [ninf_eq]
  exact max_bot_left _

theorem v72 (h : Fin 16) (i k : Fin 4096) : val_main_v72 (F := Ideal) x0 x1 x2 x3 (ix3 h i k) = ((D.ee h i k : ℝ) : EReal) := by
  pointwise [val_main_v72, val_main_v71, val_main_v70, val_main_v69]
  rw [D.v59, D.v51]
  unfold ee
  split
  · rw [← EReal.coe_sub]; exact Ideal.exp_coe _
  · rw [EReal.bot_sub]; rfl

theorem v73 (h : Fin 16) (i : Fin 4096) : val_main_v73 (F := Ideal) x0 x1 x2 x3 (ix2 h i) = ((D.ll h i : ℝ) : EReal) := by
  pointwise [val_main_v73, val_main_cst_13]
  simp only [D.v72, csum]
  rfl

theorem ee_nonneg (h : Fin 16) (i k : Fin 4096) : 0 ≤ D.ee h i k := by
  unfold ee; split
  · exact (Real.exp_pos _).le
  · exact le_refl _
theorem ll_pos (h : Fin 16) (i : Fin 4096) : 0 < D.ll h i := by
  unfold ll
  refine lt_of_lt_of_le ?_ (Finset.single_le_sum (fun k _ => D.ee_nonneg h i k) (Finset.mem_univ i))
  unfold ee; rw [if_pos (le_refl i)]; exact Real.exp_pos _

theorem v76 (h : Fin 16) (i k : Fin 4096) : val_main_v76 (F := Ideal) x0 x1 x2 x3 (ix3 h i k) = ((D.pp h i k : ℝ) : EReal) := by
  pointwise [val_main_v76, val_main_v75, val_main_v74]
  rw [D.v72, D.v73, div_r _ _ (D.ll_pos h i).ne']
  rfl

/-- The products of the output's gradient and the values. -/
def dp (h : Fin 16) (i k : Fin 4096) : ℝ := ∑ d : Fin 128, D.dO i ⟨h.val * 128 + d.val, by omega⟩ * D.kv k h ⟨128 + d.val, by omega⟩
/-- The scores' gradient. -/
def ds (h : Fin 16) (i k : Fin 4096) : ℝ := D.pp h i k * (D.dp h i k - ∑ k', D.pp h i k' * D.dp h i k')
/-- The value gradient. -/
def gv (k : Fin 4096) (h : Fin 16) (d : Fin 128) : ℝ := ∑ i, D.pp h i k * D.dO i ⟨h.val * 128 + d.val, by omega⟩
/-- The gradient of the key's first part. -/
def gk (k : Fin 4096) (h : Fin 16) (d : Fin 128) : ℝ := ∑ i, D.ds h i k * smR * D.q i h ⟨d.val, by omega⟩
/-- The gradient of the shared key. -/
def gkr (k : Fin 4096) (d : Fin 64) : ℝ := ∑ h, ∑ i, D.ds h i k * smR * D.rot i h d
/-- The gradient of the query's first part. -/
def gq (i : Fin 4096) (h : Fin 16) (d : Fin 128) : ℝ := ∑ k, D.ds h i k * smR * D.kv k h ⟨d.val, by omega⟩
/-- The gradient of the rotated query. -/
def gqr (i : Fin 4096) (h : Fin 16) (d : Fin 64) : ℝ := ∑ k, D.ds h i k * smR * D.kr k d
/-- The gradient of the query's second part. -/
def gqb (i : Fin 4096) (h : Fin 16) (d : Fin 64) : ℝ :=
  if hd : d.val < 32 then D.gqr i h ⟨d.val + 32, by omega⟩ * D.S i ⟨d.val, hd⟩ + D.gqr i h d * D.C i ⟨d.val, hd⟩
  else D.gqr i h d * D.C i ⟨d.val - 32, by omega⟩ + -D.gqr i h ⟨d.val - 32, by omega⟩ * D.S i ⟨d.val - 32, by omega⟩
/-- The attention's output. -/
def oo (i : Fin 4096) (h : Fin 16) (d : Fin 128) : ℝ := ∑ k, D.kv k h ⟨128 + d.val, by omega⟩ * D.pp h i k

theorem v81 (i : Fin 4096) (h : Fin 16) (d : Fin 128) : val_main_v81 (F := Ideal) x0 x1 x2 x3 (ix3 i h d) = ((D.oo i h d : ℝ) : EReal) := by
  pointwise [val_main_v81, val_main_v80, val_main_v3]
  simp only [D.v76, D.hkv, ← EReal.coe_mul, csum]
  rfl

theorem v85 (h : Fin 16) (i k : Fin 4096) : val_main_v85 (F := Ideal) x1 x4 (ix3 h i k) = ((D.dp h i k : ℝ) : EReal) := by
  pointwise [val_main_v85, val_main_v84, val_main_v83, val_main_v3]
  simp only [D.hkv, D.hdO, ← EReal.coe_mul, csum]
  rfl

theorem v87 (k : Fin 4096) (h : Fin 16) (d : Fin 128) : val_main_v87 (F := Ideal) x0 x1 x2 x3 x4 (ix3 k h d) = ((D.gv k h d : ℝ) : EReal) := by
  pointwise [val_main_v87, val_main_v86, val_main_v84, val_main_v83]
  simp only [D.v76, D.hdO, ← EReal.coe_mul, csum]
  unfold gv
  congr 1
  exact Finset.sum_congr rfl fun i _ => mul_comm _ _

theorem v79 (h : Fin 16) (i : Fin 4096) (z : Fin 1) : val_main_v79 (F := Ideal) x0 x1 x2 x3 (ix3 h i z) = ((1 / (D.ll h i * D.ll h i) : ℝ) : EReal) := by
  pointwise [val_main_v79, val_main_v78, val_main_cst_14, val_main_v77, val_main_v74]
  rw [D.v73]
  rw [← EReal.coe_mul]
  exact div_r _ _ (mul_pos (D.ll_pos h i) (D.ll_pos h i)).ne'

theorem v93 (h : Fin 16) (i : Fin 4096) (z : Fin 1) : val_main_v93 (F := Ideal) x0 x1 x2 x3 x4 (ix3 h i z) = ((-∑ k, D.dp h i k * (1 / (D.ll h i * D.ll h i)) * D.ee h i k : ℝ) : EReal) := by
  pointwise [val_main_v93, val_main_v92, val_main_v91, val_main_v90, val_main_v89, val_main_v88, val_main_cst_15]
  simp only [D.v72, D.v79, D.v85, ← EReal.coe_mul, csum]
  rw [EReal.coe_neg]

theorem v99 (h : Fin 16) (i k : Fin 4096) : val_main_v99 (F := Ideal) x0 x1 x2 x3 x4 (ix3 h i k) = (((D.dp h i k / D.ll h i + -∑ k, D.dp h i k * (1 / (D.ll h i * D.ll h i)) * D.ee h i k) * D.ee h i k : ℝ) : EReal) := by
  pointwise [val_main_v99, val_main_v98, val_main_v97, val_main_v96, val_main_v95, val_main_v94, val_main_v74, val_main_cst_16]
  simp only [D.v72, D.v73, D.v85, D.v93]
  rw [div_r _ _ (D.ll_pos h i).ne']
  rw [Fin.sum_univ_one, ← EReal.coe_add, ← EReal.coe_mul]

theorem v102 (h : Fin 16) (i k : Fin 4096) : val_main_v102 (F := Ideal) x0 x1 x2 x3 x4 (ix3 h i k) = ((D.ds h i k * smR : ℝ) : EReal) := by
  pointwise [val_main_v102, val_main_v101, val_main_cst_17, val_main_v100, val_main_v51_1, val_main_v48, val_main_call1_v0, val_main_call1_cst]
  rw [v47, D.v99, sm_eq]
  have hsum : (∑ k', D.pp h i k' * D.dp h i k') = ∑ k, D.dp h i k * (1 / (D.ll h i * D.ll h i)) * D.ee h i k * D.ll h i := by
    refine Finset.sum_congr rfl fun k' _ => ?_
    unfold pp
    field_simp [(D.ll_pos h i).ne']
  by_cases hk : k ≤ i
  · rw [if_pos hk, ← EReal.coe_mul]
    refine congrArg (fun r : ℝ => ((r * smR : ℝ) : EReal)) (?_ : _ = D.ds h i k)
    unfold ds
    rw [hsum, ← Finset.sum_mul]
    unfold pp
    have := (D.ll_pos h i).ne'
    field_simp
    ring
  · rw [if_neg hk]
    have : D.ds h i k = 0 := by unfold ds pp ee; rw [if_neg hk]; simp
    rw [this, zero_mul]
    rfl

theorem v105 (k : Fin 4096) (d : Fin 64) : val_main_v105 (F := Ideal) x0 x1 x2 x3 x4 (ix2 k d) = ((D.gkr k d : ℝ) : EReal) := by
  pointwise [val_main_v105, val_main_v103]
  simp only [D.v102, D.v36, ← EReal.coe_mul, csum]
  unfold gkr
  rw [Finset.sum_comm]

theorem v107 (k : Fin 4096) (h : Fin 16) (d : Fin 128) : val_main_v107 (F := Ideal) x0 x1 x2 x3 x4 (ix3 k h d) = ((D.gk k h d : ℝ) : EReal) := by
  pointwise [val_main_v107, val_main_v106, val_main_v0]
  simp only [D.v102, D.hq, ← EReal.coe_mul, csum]
  rfl

theorem v109 (i : Fin 4096) (h : Fin 16) (d : Fin 128) : val_main_v109 (F := Ideal) x0 x1 x2 x3 x4 (ix3 i h d) = ((D.gq i h d : ℝ) : EReal) := by
  pointwise [val_main_v109, val_main_v108, val_main_v2]
  simp only [D.v102, D.hkv, ← EReal.coe_mul, csum]
  rfl

theorem v104 (i : Fin 4096) (h : Fin 16) (d : Fin 64) : val_main_v104 (F := Ideal) x0 x1 x2 x3 x4 (ix3 i h d) = ((D.gqr i h d : ℝ) : EReal) := by
  pointwise [val_main_v104, val_main_v103]
  simp only [D.v102, D.hkr, ← EReal.coe_mul, csum]
  rfl

theorem v123 (i : Fin 4096) (h : Fin 16) (d : Fin 64) : val_main_v123 (F := Ideal) x0 x1 x2 x3 x4 (ix3 i h d) = ((D.gqb i h d : ℝ) : EReal) := by
  pointwise [val_main_v123, val_main_v122, val_main_v119, val_main_v113, val_main_v121, val_main_v115, val_main_v118, val_main_v110, val_main_v111, val_main_v112, val_main_v114, val_main_v116, val_main_v117, val_main_v120, val_main_v22, val_main_v23]
  unfold gqb
  split
  · simp only [D.v104, D.hC, D.hS]
    rw [EReal.coe_add, EReal.coe_mul, EReal.coe_mul]
    simp only [Nat.add_comm 32]
  · simp only [D.v104, D.hC, D.hS]
    rw [EReal.coe_add, EReal.coe_mul, EReal.coe_mul, EReal.coe_neg]
    congr 4
    exact Fin.ext (by dsimp only; omega)

theorem v131 (i : Fin 4096) (h : Fin 16) (d : Fin 256) : val_main_v131 (F := Ideal) x0 x1 x2 x3 x4 (ix2 i ⟨256 * h.val + d.val, by omega⟩)
    = (((if h1 : d.val < 128 then D.gq i h ⟨d.val, h1⟩ else if h2 : d.val < 192 then D.gqb i h ⟨d.val - 128, by omega⟩ else 0) : ℝ) : EReal) := by
  pointwise [val_main_v131, val_main_v130, val_main_v127, val_main_v125, val_main_v126, val_main_cst_18]
  by_cases h1 : d.val < 128
  · rw [dif_pos (by omega), dif_pos h1, dif_pos h1, D.v109]
  · by_cases h2 : d.val < 192
    · rw [dif_pos h2, dif_neg h1, dif_neg h1, dif_pos h2, D.v123]
    · rw [dif_neg h2, dif_neg h1, dif_neg h2, EReal.coe_zero]

theorem v133 (i : Fin 4096) (h : Fin 16) (d : Fin 256) : val_main_v133 (F := Ideal) x0 x1 x2 x3 x4 (ix2 i ⟨256 * h.val + d.val, by omega⟩)
    = (((if h1 : d.val < 128 then D.gk i h ⟨d.val, h1⟩ else D.gv i h ⟨d.val - 128, by omega⟩) : ℝ) : EReal) := by
  pointwise [val_main_v133, val_main_v132, val_main_v124]
  by_cases h1 : d.val < 128
  · rw [dif_pos h1, dif_pos h1, D.v107]
  · rw [dif_neg h1, dif_neg h1, D.v87]

theorem v129 (i : Fin 4096) (d : Fin 128) : val_main_v129 (F := Ideal) x0 x1 x2 x3 x4 (ix2 i d)
    = (((if h1 : d.val < 64 then D.gkr i ⟨d.val, h1⟩ else 0) : ℝ) : EReal) := by
  pointwise [val_main_v129, val_main_v128, val_main_cst_19]
  by_cases h1 : d.val < 64
  · rw [dif_pos h1, dif_pos h1, D.v105]
  · rw [dif_neg h1, dif_neg h1, EReal.coe_zero]
end Reals
end Cert.ReferenceIdeal.Math
-- ==== Proof.Alg.lean ====
module
public import proofs.«01_k».proof.Proof.Blocks
public import proofs.«01_k».proof.Proof.Ref
@[expose] public section
noncomputable section
namespace Cert.KernelIdeal.Body
open Cert.KernelIdeal Cert.KernelIdeal.Gen Idealize.ShloMosaic
open Cert.ReferenceIdeal.Math
set_option maxRecDepth 16384

/-- A sum over a head's 256 lanes, split where its three parts meet. -/
theorem sum256 (f : Fin 256 → ℝ) : ∑ d, f d = (∑ d : Fin 128, f ⟨d.val, by omega⟩) + ((∑ d : Fin 64, f ⟨128 + d.val, by omega⟩) + ∑ d : Fin 64, f ⟨192 + d.val, by omega⟩) := by
  have e1 : ∑ d, f d = (∑ d : Fin 128, f ⟨d.val, by omega⟩) + ∑ d : Fin 128, f ⟨128 + d.val, by omega⟩ :=
    Fin.sum_univ_add (a := 128) (b := 128) (fun d => f d)
  have e2 : (∑ d : Fin 128, f ⟨128 + d.val, by omega⟩) = (∑ d : Fin 64, f ⟨128 + d.val, by omega⟩) + ∑ d : Fin 64, f ⟨128 + (64 + d.val), by omega⟩ :=
    Fin.sum_univ_add (a := 64) (b := 64) (fun d : Fin (64 + 64) => f ⟨128 + d.val, by omega⟩)
  rw [e1, e2]
  refine congrArg _ (congrArg _ (Finset.sum_congr rfl fun d _ => congrArg f (Fin.ext ?_)))
  show 128 + (64 + d.val) = 192 + d.val
  omega

theorem ln2_pos : 0 < Real.log 2 := Real.log_pos one_lt_two

/-- Two to a quotient by the logarithm of two is the exponential. -/
theorem exp2_div (a : ℝ) : Ideal.exp2 ((a / Real.log 2 : ℝ) : EReal) = ((Real.exp a : ℝ) : EReal) := by
  show ((Real.rpow 2 (a / Real.log 2) : ℝ) : EReal) = _
  refine congrArg _ ?_
  show (2 : ℝ) ^ (a / Real.log 2) = _
  rw [Real.rpow_def_of_pos (by norm_num), mul_div_cancel₀ _ ln2_pos.ne']

/-- A head's columns of the kernel's query, key and rope operands. -/
def qt {x0 x1 x2 x3 x4} (D : Reals x0 x1 x2 x3 x4) (h : Fin 16) (i : Fin 4096) (d : Fin 256) : ℝ :=
  (if h1 : d.val < 128 then D.q i h ⟨d.val, by omega⟩ else if h2 : d.val < 192 then D.rot i h ⟨d.val - 128, by omega⟩ else 0) * (smR / Real.log 2)
def kt {x0 x1 x2 x3 x4} (D : Reals x0 x1 x2 x3 x4) (h : Fin 16) (i : Fin 4096) (d : Fin 256) : ℝ :=
  if h1 : d.val < 128 then D.kv i h ⟨d.val, by omega⟩ else if h2 : d.val < 192 then D.kr i ⟨d.val - 128, by omega⟩ else 0
def ct {x0 x1 x2 x3 x4} (D : Reals x0 x1 x2 x3 x4) (i : Fin 4096) (l : Fin 128) : ℝ :=
  if h : l.val < 32 then D.C i ⟨l.val, h⟩ else if h2 : l.val < 64 then D.C i ⟨l.val - 32, by omega⟩ else 0
def st {x0 x1 x2 x3 x4} (D : Reals x0 x1 x2 x3 x4) (i : Fin 4096) (l : Fin 128) : ℝ :=
  if h : l.val < 32 then -D.S i ⟨l.val, h⟩ else if h2 : l.val < 64 then D.S i ⟨l.val - 32, by omega⟩ else 0

/-- The lane of a head's keys and values where lane `d` of its values is. -/
def vLane (d : Fin 128) : Fin 256 := ⟨128 + d.val, by omega⟩
/-- The lane of all heads' outputs where lane `d` of head `h` is. -/
def oLane (h : Fin 16) (d : Fin 128) : Fin 2048 := ⟨h.val * 128 + d.val, by omega⟩

section
variable {a0 : (⟨Cert.ReferenceIdeal.S4096x16x192, .f32⟩ : BufTy).Contents (Elt Ideal)} {a1 : (⟨Cert.ReferenceIdeal.S4096x16x256, .f32⟩ : BufTy).Contents (Elt Ideal)} {a2 : (⟨Cert.ReferenceIdeal.S4096x64, .f32⟩ : BufTy).Contents (Elt Ideal)} {a3 : (⟨Cert.ReferenceIdeal.S4096, .i32⟩ : BufTy).Contents (Elt Ideal)} {a4 : (⟨Cert.ReferenceIdeal.S4096x2048, .f32⟩ : BufTy).Contents (Elt Ideal)}
variable (D : Reals a0 a1 a2 a3 a4) (h : Fin 16)

theorem qt_lo (i : Fin 4096) (d : Fin 128) : qt D h i ⟨d.val, by omega⟩ = D.q i h ⟨d.val, by omega⟩ * (smR / Real.log 2) := by
  unfold qt; rw [dif_pos d.isLt]
theorem qt_mid (i : Fin 4096) (d : Fin 64) : qt D h i ⟨128 + d.val, by omega⟩ = D.rot i h d * (smR / Real.log 2) := by
  unfold qt; rw [dif_neg (show ¬ 128 + d.val < 128 by omega), dif_pos (show 128 + d.val < 192 by omega)]
  exact congrArg (fun z => D.rot i h z * _) (Fin.ext (show 128 + d.val - 128 = d.val by omega))
theorem kt_lo (i : Fin 4096) (d : Fin 128) : kt D h i ⟨d.val, by omega⟩ = D.kv i h ⟨d.val, by omega⟩ := by
  unfold kt; rw [dif_pos d.isLt]
theorem kt_mid (i : Fin 4096) (d : Fin 64) : kt D h i ⟨128 + d.val, by omega⟩ = D.kr i d := by
  unfold kt; rw [dif_neg (show ¬ 128 + d.val < 128 by omega), dif_pos (show 128 + d.val < 192 by omega)]
  exact congrArg (fun z => D.kr i z) (Fin.ext (show 128 + d.val - 128 = d.val by omega))
theorem kt_hi (i : Fin 4096) (d : Fin 64) : kt D h i ⟨192 + d.val, by omega⟩ = 0 := by
  unfold kt; rw [dif_neg (show ¬ 192 + d.val < 128 by omega), dif_neg (show ¬ 192 + d.val < 192 by omega)]

theorem qk_sum (i k : Fin 4096) : ∑ d, qt D h i d * kt D h k d = D.sc h i k * smR / Real.log 2 := by
  rw [sum256]
  simp only [qt_lo, qt_mid, kt_lo, kt_mid, kt_hi, mul_zero, Finset.sum_const_zero, add_zero]
  unfold Reals.sc
  rw [add_mul, add_div, Finset.sum_mul, Finset.sum_div, Finset.sum_mul, Finset.sum_div]
  refine congrArg₂ (· + ·) (Finset.sum_congr rfl fun d _ => ?_) (Finset.sum_congr rfl fun d _ => ?_) <;> ring

variable {x0 x1 : S4096x256.Idx → EReal} {x2 x3 x4 : S4096x128.Idx → EReal} {x5 : S1x4096x128.Idx → EReal} {x6 x7 : S4096x128.Idx → EReal}
variable (h0 : ∀ i d, x0 (ix2 i d) = ((qt D h i d : ℝ) : EReal)) (h1 : ∀ i d, x1 (ix2 i d) = ((kt D h i d : ℝ) : EReal))
  (h2 : ∀ i (d : Fin 128), x2 (ix2 i d) = ((D.kv i h (vLane d) : ℝ) : EReal)) (h3 : ∀ i d, x3 (ix2 i d) = ((D.oo i h d : ℝ) : EReal))
  (h4 : ∀ i (d : Fin 128), x4 (ix2 i d) = ((D.dO i (oLane h d) : ℝ) : EReal))
  (h5 : ∀ i d, x5 (ix3 0 i d) = (((D.mu h i + Real.log (D.ll h i)) / Real.log 2 : ℝ) : EReal))
  (h6 : ∀ i l, x6 (ix2 i l) = ((ct D i l : ℝ) : EReal)) (h7 : ∀ i l, x7 (ix2 i l) = ((st D i l : ℝ) : EReal))
include h0 h1 in
theorem Sm_r (i k : Fin 4096) : Sm x0 x1 i k = if k ≤ i then ((D.sc h i k * smR / Real.log 2 : ℝ) : EReal) else ⊥ := by
  unfold Sm
  simp only [h0, h1, ← EReal.coe_mul, csum, qk_sum]
include h0 h1 h5 in
theorem Pm_r (i k : Fin 4096) : Pm x0 x1 x5 i k = ((D.pp h i k : ℝ) : EReal) := by
  unfold Pm
  rw [Sm_r D h h0 h1, h5]
  unfold Reals.pp Reals.ee
  have hl := D.ll_pos h i
  generalize D.ll h i = L at hl ⊢
  by_cases hk : k ≤ i
  · rw [if_pos hk, if_pos hk, ← EReal.coe_sub, ← sub_div, exp2_div]
    rw [← sub_sub, Real.exp_sub, Real.exp_log hl]
  · rw [if_neg hk, if_neg hk, exp2_bot_sub, zero_div]; rfl
include h3 h4 in
theorem Dl_r (i : Fin 4096) : Dl x3 x4 i = ((∑ k, D.pp h i k * D.dp h i k : ℝ) : EReal) := by
  unfold Dl
  simp only [h3, h4, oLane, ← EReal.coe_mul, csum]
  refine congrArg _ ?_
  unfold Reals.oo Reals.dp
  simp only [Finset.mul_sum]
  rw [Finset.sum_comm]
  exact Finset.sum_congr rfl fun k _ => Finset.sum_congr rfl fun d _ => by ring
include h0 h1 h2 h3 h4 h5 in
theorem Ds_r (i k : Fin 4096) : Ds x0 x1 x2 x3 x4 x5 i k = ((D.ds h i k : ℝ) : EReal) := by
  unfold Ds
  rw [Pm_r D h h0 h1 h5, Dl_r D h h3 h4]
  simp only [h2, h4, vLane, oLane, ← EReal.coe_mul, csum]
  rw [← EReal.coe_sub, ← EReal.coe_mul]
  rfl
include h0 h1 h4 h5 in
theorem dV_r (k : Fin 4096) (d : Fin 128) : dV x0 x1 x4 x5 k d = ((D.gv k h d : ℝ) : EReal) := by
  unfold dV
  simp only [Pm_r D h h0 h1 h5, h4, oLane, ← EReal.coe_mul, csum]
  rfl
include h0 h1 h2 h3 h4 h5 in
theorem dK_r (k : Fin 4096) (d : Fin 256) : dK x0 x1 x2 x3 x4 x5 k d = ((∑ i, D.ds h i k * qt D h i d : ℝ) : EReal) := by
  unfold dK
  simp only [Ds_r D h h0 h1 h2 h3 h4 h5, h0, ← EReal.coe_mul, csum]
include h0 h1 h2 h3 h4 h5 in
theorem dQ_r (i : Fin 4096) (d : Fin 256) : dQ x0 x1 x2 x3 x4 x5 i d = ((∑ k, D.ds h i k * kt D h k d : ℝ) : EReal) := by
  unfold dQ
  simp only [Ds_r D h h0 h1 h2 h3 h4 h5, h1, ← EReal.coe_mul, csum]

include h0 h1 h2 h3 h4 h5 in
theorem O9_r (k : Fin 4096) (d : Fin 256) : O9 x0 x1 x2 x3 x4 x5 (ix2 k d)
    = (((if h1 : d.val < 128 then D.gk k h ⟨d.val, h1⟩ else D.gv k h ⟨d.val - 128, by omega⟩) : ℝ) : EReal) := by
  show (if hd : d.val < 128 then dK x0 x1 x2 x3 x4 x5 k d * ((Real.log 2 : ℝ) : EReal) else dV x0 x1 x4 x5 k ⟨d.val - 128, _⟩) = _
  by_cases hd : d.val < 128
  · rw [dif_pos hd, dif_pos hd, dK_r D h h0 h1 h2 h3 h4 h5, ← EReal.coe_mul]
    refine congrArg _ ?_
    unfold Reals.gk
    rw [Finset.sum_mul]
    refine Finset.sum_congr rfl fun i _ => ?_
    rw [show qt D h i d = _ from qt_lo D h i ⟨d.val, hd⟩]
    field_simp [ln2_pos.ne']
  · rw [dif_neg hd, dif_neg hd, dV_r D h h0 h1 h4 h5]
include h0 h1 h2 h3 h4 h5 in
theorem R10_r (k : Fin 4096) (d : Fin 128) : R10 x0 x1 x2 x3 x4 x5 k d
    = (((if h1 : d.val < 64 then ∑ i, D.ds h i k * smR * D.rot i h ⟨d.val, h1⟩ else 0) : ℝ) : EReal) := by
  unfold R10
  rw [dK_r D h h0 h1 h2 h3 h4 h5, ← EReal.coe_mul]
  refine congrArg _ ?_
  by_cases hd : d.val < 64
  · rw [dif_pos hd, Finset.sum_mul]
    refine Finset.sum_congr rfl fun i _ => ?_
    rw [qt_mid D h i ⟨d.val, hd⟩]
    field_simp [ln2_pos.ne']
  · rw [dif_neg hd]
    have hz : ∀ i, qt D h i ⟨128 + d.val, by omega⟩ = 0 := fun i => by
      unfold qt; rw [dif_neg (show ¬ 128 + d.val < 128 by omega), dif_neg (show ¬ 128 + d.val < 192 by omega), zero_mul]
    simp only [hz, mul_zero, Finset.sum_const_zero, zero_mul]

/-- The query gradient before its scale. -/
def dqr (i : Fin 4096) (d : Fin 256) : ℝ := ∑ k, D.ds h i k * kt D h k d
theorem dqr_lo (i : Fin 4096) (d : Fin 128) : dqr D h i ⟨d.val, by omega⟩ * smR = D.gq i h d := by
  unfold dqr Reals.gq
  rw [Finset.sum_mul]
  exact Finset.sum_congr rfl fun k _ => by rw [kt_lo]; ring
theorem dqr_mid (i : Fin 4096) (d : Fin 64) : dqr D h i ⟨128 + d.val, by omega⟩ * smR = D.gqr i h d := by
  unfold dqr Reals.gqr
  rw [Finset.sum_mul]
  exact Finset.sum_congr rfl fun k _ => by rw [kt_mid]; ring
theorem smE_r : smE = ((smR : ℝ) : EReal) := sm_eq
include h0 h1 h2 h3 h4 h5 h6 h7 in
theorem O8_r (i : Fin 4096) (d : Fin 256) : O8 x0 x1 x2 x3 x4 x5 x6 x7 (ix2 i d)
    = (((if h1 : d.val < 128 then D.gq i h ⟨d.val, h1⟩ else if h2 : d.val < 192 then D.gqb i h ⟨d.val - 128, by omega⟩ else 0) : ℝ) : EReal) := by
  show outQ (fun d => dQ x0 x1 x2 x3 x4 x5 i d) (fun d => x6 (ix2 i d)) (fun d => x7 (ix2 i d)) d = _
  have e : (fun d => dQ x0 x1 x2 x3 x4 x5 i d) = fun d => ((dqr D h i d : ℝ) : EReal) := funext fun d => dQ_r D h h0 h1 h2 h3 h4 h5 i d
  rw [e]
  unfold outQ
  by_cases hd : d.val < 128
  · rw [dif_pos hd, dif_pos hd, smE_r, ← EReal.coe_mul]
    exact congrArg _ (dqr_lo D h i ⟨d.val, hd⟩)
  · rw [dif_neg hd, dif_neg hd]
    unfold rotB
    simp only [h6, h7, smE_r, ← EReal.coe_mul]
    unfold ct st
    by_cases ha : d.val < 160
    · have hl : d.val - 128 < 32 := by omega
      rw [dif_pos hl, dif_pos hl, dif_pos (show d.val < 192 by omega), dif_neg (show ¬ d.val - 128 + 32 < 32 by omega), dif_pos (show d.val - 128 + 32 < 64 by omega), ← EReal.coe_add]
      refine congrArg _ ?_
      unfold Reals.gqb
      rw [dif_pos hl, ← dqr_mid, ← dqr_mid, add_comm]
      refine congrArg₂ (· + ·) (congrArg _ (congrArg _ (Fin.ext ?_))) rfl
      show d.val - 128 + 32 - 32 = d.val - 128
      omega
    · have hl : ¬ d.val - 128 < 32 := by omega
      rw [dif_neg hl, dif_neg hl]
      by_cases hb : d.val < 192
      · have hm : d.val - 128 < 64 := by omega
        rw [dif_pos hm, dif_pos hm, dif_pos hb, dif_pos (show d.val - 128 - 32 < 32 by omega), ← EReal.coe_add]
        refine congrArg _ ?_
        unfold Reals.gqb
        rw [dif_neg hl, ← dqr_mid, ← dqr_mid]
        ring
      · have hm : ¬ d.val - 128 < 64 := by omega
        rw [dif_neg hm, dif_neg hm, dif_neg hb, mul_zero]
        simp
end
end Cert.KernelIdeal.Body
-- ==== Proof.Host1.lean ====
module
public import proofs.«01_k».proof.Proof.Gen.KernelIdeal.Frame
public import proofs.«01_k».proof.Proof.Ref
public import Idealize.ShloMosaic.Lib.StableHlo.ReadAt
public import Idealize.ShloMosaic.Lib.Pointwise
@[expose] public section
noncomputable section
namespace Cert.KernelIdeal.Body
open Cert.KernelIdeal Cert.KernelIdeal.Gen Idealize.ShloMosaic Idealize.ShloMosaic.TcCoe Idealize.SL.Sem
open Cert.ReferenceIdeal.Read Cert.ReferenceIdeal.Math
set_option maxRecDepth 16384
variable (m : (ℓ : Loc nD τ sig) → Buf (Elt Ideal) ℓ) (c : Dev nD)

/-- The kernel's arguments, on a device. -/
abbrev A0 : (⟨S4096x16x192, .f32⟩ : BufTy).Contents (Elt Ideal) := m ((c : Thread nD τ).loc main_arg0)
abbrev A1 : (⟨S4096x16x256, .f32⟩ : BufTy).Contents (Elt Ideal) := m ((c : Thread nD τ).loc main_arg1)
abbrev A2 : (⟨S4096x64, .f32⟩ : BufTy).Contents (Elt Ideal) := m ((c : Thread nD τ).loc main_arg2)
abbrev A3 : (⟨S4096, .i32⟩ : BufTy).Contents (Elt Ideal) := m ((c : Thread nD τ).loc main_arg3)
abbrev A4 : (⟨S4096x2048, .f32⟩ : BufTy).Contents (Elt Ideal) := m ((c : Thread nD τ).loc main_arg4)
/-- Its arguments as real arrays. -/
abbrev RD := Reals (A0 m c) (A1 m c) (A2 m c) (A3 m c) (A4 m c)

theorem hV17 (i : Fin 4096) (l : Fin 32) : (V m c main_v17 : S4096x32.Idx → EReal) (ix2 i l) = val_main_v20 (F := Ideal) (A3 m c) (ix2 i l) := by
  unfold V
  after_reads_at
  pointwise [val_main_v20, val_main_v19, val_main_v17, val_main_v15, val_main_v14, val_main_v18, val_main_v16, val_main_v13, val_main_v12, val_main_v11, val_main_v10, val_main_v9, val_main_v8, val_main_v7, val_main_v6, val_main_v5, val_main_v4, val_main_cst, val_main_cst_0, val_main_cst_1, val_main_cst_2]
theorem hV18 (i : Fin 4096) (l : Fin 32) : (V m c main_v18 : S4096x32.Idx → EReal) (ix2 i l) = val_main_v21 (F := Ideal) (A3 m c) (ix2 i l) := by
  unfold V
  after_reads_at
  pointwise [val_main_v21, val_main_v19, val_main_v17, val_main_v15, val_main_v14, val_main_v18, val_main_v16, val_main_v13, val_main_v12, val_main_v11, val_main_v10, val_main_v9, val_main_v8, val_main_v7, val_main_v6, val_main_v5, val_main_v4, val_main_cst, val_main_cst_0, val_main_cst_1, val_main_cst_2]
set_option maxHeartbeats 1000000 in
theorem hV38 (i : Fin 4096) (h : Fin 16) (d : Fin 64) : (V m c main_v38 : S4096x16x64.Idx → EReal) (ix3 i h d) = val_main_v36 (F := Ideal) (A0 m c) (A3 m c) (ix3 i h d) := by
  unfold V
  after_reads_at
  pointwise [val_main_v36, val_main_v30, val_main_v35, val_main_v27, val_main_v29, val_main_v32, val_main_v34, val_main_v24, val_main_v25, val_main_v26, val_main_v28, val_main_v31, val_main_v33, val_main_v22, val_main_v23, val_main_v1, val_main_v20, val_main_v21,  val_main_v19, val_main_v17, val_main_v15, val_main_v14, val_main_v18, val_main_v16, val_main_v13, val_main_v12, val_main_v11, val_main_v10, val_main_v9, val_main_v8, val_main_v7, val_main_v6, val_main_v5, val_main_v4, val_main_cst, val_main_cst_0, val_main_cst_1, val_main_cst_2]
  have hx : ∀ (a b : ℕ) (ha : a < 192) (hb : b < 192), a = b → (ix3 i h (⟨a, ha⟩ : Fin 192) : S4096x16x192.Idx) = ix3 i h ⟨b, hb⟩ := by rintro a _ ha hb rfl; rfl
  split
  · rw [hx (160 + d.val) (128 + (32 + d.val)) _ _ (by omega)]
  · rw [hx (160 + (d.val - 32)) (128 + (32 + (d.val - 32))) _ _ (by omega)]
theorem e44 : V m c main_v44 = addf (F := Ideal) (φ := .f32) (Host.dotGeneral (F := Ideal) (φ₁ := .f32) (φ₂ := .f32) dot_S4096x16x128_S4096x16x128_S16x4096x4096_2_2_0_0_1_1 none (V m c main_v23) (V m c main_v39))
    (transpose S16x4096x4096 [2, 1, 0] (Host.dotGeneral (F := Ideal) (φ₁ := .f32) (φ₂ := .f32) dot_S4096x64_S4096x16x64_S4096x4096x16_1_2_0_01_n_n none (V m c main_arg2) (V m c main_v38)) transposes_S4096x4096x16_S16x4096x4096_2_1_0) := by
  unfold V
  after_reads_simp
theorem hV23 (i : Fin 4096) (h : Fin 16) (d : Fin 128) : (V m c main_v23 : S4096x16x128.Idx → EReal) (ix3 i h d) = A0 m c (ix3 i h ⟨d.val, by omega⟩) := by
  unfold V
  after_reads_at
theorem hV39 (i : Fin 4096) (h : Fin 16) (d : Fin 128) : (V m c main_v39 : S4096x16x128.Idx → EReal) (ix3 i h d) = A1 m c (ix3 i h ⟨d.val, by omega⟩) := by
  unfold V
  after_reads_at
theorem hV40 (i : Fin 4096) (h : Fin 16) (d : Fin 128) : (V m c main_v40 : S4096x16x128.Idx → EReal) (ix3 i h d) = A1 m c (ix3 i h ⟨128 + d.val, by omega⟩) := by
  unfold V
  after_reads_at
theorem hVa2 : V m c main_arg2 = A2 m c := by
  unfold V
  after_reads_simp
theorem hV44 (D : RD m c) (h : Fin 16) (i k : Fin 4096) : (V m c main_v44 : S16x4096x4096.Idx → EReal) (ix3 h i k) = ((D.sc h i k : ℝ) : EReal) := by
  rw [e44, hVa2]
  have q23 := hV23 m c
  have q39 := hV39 m c
  have q38 := hV38 m c
  generalize V m c main_v23 = w23 at *
  generalize V m c main_v39 = w39 at *
  generalize V m c main_v38 = w38 at *
  pointwise []
  simp only [q23, q39, q38, D.v36, D.hq, D.hkv, D.hkr, ← EReal.coe_mul, csum, ← EReal.coe_add]
  rfl
end Cert.KernelIdeal.Body
-- ==== Proof.Host2.lean ====
module
public import proofs.«01_k».proof.Proof.Gen.KernelIdeal.Frame
public import proofs.«01_k».proof.Proof.Host1
public import Idealize.ShloMosaic.Lib.StableHlo.ReadAt
public import Idealize.ShloMosaic.Lib.Pointwise
public import Idealize.ShloMosaic.Lib.WordCmp
@[expose] public section
noncomputable section
namespace Cert.KernelIdeal.Body
open Cert.KernelIdeal Cert.KernelIdeal.Gen Idealize.ShloMosaic Idealize.ShloMosaic.TcCoe Idealize.SL.Sem
open Cert.ReferenceIdeal.Read Cert.ReferenceIdeal.Math
set_option maxRecDepth 16384
variable (m : (ℓ : Loc nD τ sig) → Buf (Elt Ideal) ℓ) (c : Dev nD)

theorem two_eq : Ideal.ofBits .f32 1073741824#32 = ((2 : ℝ) : EReal) := by
  have h1 : ¬ (BitVec.extractLsb' 23 8 (1073741824#32)).toNat = 2 ^ 8 - 1 := by decide
  have h2 : ¬ (BitVec.extractLsb' 23 8 (1073741824#32)).toNat = 0 := by decide
  have h3 : (BitVec.extractLsb' 23 8 (1073741824#32)).toNat = 128 := by decide
  have h4 : (BitVec.extractLsb' 0 23 (1073741824#32)).toNat = 0 := by decide
  have h5 : (BitVec.extractLsb' (8+23) 1 (1073741824#32) == 1#1) = false := by decide
  show Ideal.ieee 8 23 1073741824#32 = _
  unfold Ideal.ieee
  simp only [h1, h2, h3, h4, h5]
  norm_num
theorem log_pos_r (r : ℝ) (h : 0 < r) : Ideal.log ((r : ℝ) : EReal) = ((Real.log r : ℝ) : EReal) := by
  show (if r ≤ 0 then (⊥ : EReal) else ((Real.log r : ℝ) : EReal)) = _
  rw [if_neg (not_le.mpr h)]
theorem log_two : Ideal.log (Ideal.ofBits .f32 1073741824#32) = ((Real.log 2 : ℝ) : EReal) := by
  rw [two_eq, log_pos_r _ (by norm_num)]
theorem e53 : V m c main_v53 = mulf (F := Ideal) (φ := .f32) (V m c main_v44) (broadcastInDim S16x4096x4096 ![] bcast_S_S16x4096x4096 (constant (F := Ideal) S_ .f32 0x3D93CD3A#32)) := by
  unfold V
  after_reads_simp
theorem hV51 (i k : Fin 4096) (z : Fin 1) : (V m c main_v51 : S1x4096x4096.Idx → BitVec 1) (ix3 z i k) = if k ≤ i then 1#1 else 0#1 := by
  unfold V
  after_reads_at
  rw [WordCmp.cmpi_sle_ofNat (by omega) (by omega)]
  by_cases h : k ≤ i
  · rw [if_pos h]; simp [h]
  · rw [if_neg h]; simp [h]
theorem e54 : V m c main_v54 = select (broadcastInDim S16x4096x4096 ![0, 1, 2] bcast_S1x4096x4096_S16x4096x4096_0_1_2 (V m c main_v51)) (V m c main_v53) (broadcastInDim S16x4096x4096 ![] bcast_S_S16x4096x4096 (constant (F := Ideal) S_ .f32 0xFF800000#32)) := by
  unfold V
  after_reads_simp
  simp -implicitDefEqProofs only [StableHlo.TRef.toBuf, StableHlo.TRef.ofBuf, cast_cast, cast_eq]
  rfl
theorem hV54 (D : RD m c) (h : Fin 16) (i k : Fin 4096) : (V m c main_v54 : S16x4096x4096.Idx → EReal) (ix3 h i k) = val_main_v51_0 (F := Ideal) (A0 m c) (A1 m c) (A2 m c) (A3 m c) (ix3 h i k) := by
  rw [e54, e53, D.v51]
  have q51 := hV51 m c
  generalize V m c main_v51 = w51 at *
  have q44 := hV44 m c D
  generalize V m c main_v44 = w44 at *
  pointwise []
  rw [q51, q44, sm_eq, ← EReal.coe_mul]
  by_cases hk : k ≤ i
  · rw [if_pos hk, if_pos hk]; rfl
  · rw [if_neg hk, if_neg hk]; exact ninf_eq
theorem e55 : V m c main_v55 = Host.reduce (FloatOps.maximumf (F := Ideal) (φ := .f32)) (V m c main_v54) (constant (F := Ideal) S_ .f32 0xFF800000#32) reducesTo_S16x4096x4096_S16x4096_d2 h_S_ := by
  unfold V
  after_reads_simp
theorem hV55 (D : RD m c) (h : Fin 16) (i : Fin 4096) : (V m c main_v55 : S16x4096.Idx → EReal) (ix2 h i) = ((D.mu h i : ℝ) : EReal) := by
  rw [e55, ← D.v52']
  have e : V m c main_v54 = val_main_v51_0 (F := Ideal) (A0 m c) (A1 m c) (A2 m c) (A3 m c) := by
    funext y
    rw [eq_ix3 y]
    exact hV54 m c D _ _ _
  rw [e]
  rfl
theorem e59 : V m c main_v59 = Host.exp (F := Ideal) (φ := .f32) (subf (F := Ideal) (φ := .f32) (V m c main_v54) (broadcastInDim S16x4096x4096 ![0, 1, 2] bcast_S16x4096x1_S16x4096x4096_0_1_2 (broadcastInDim S16x4096x1 ![0, 1] bcast_S16x4096_S16x4096x1_0_1 (V m c main_v55)))) := by
  unfold V
  after_reads_simp
theorem hV59 (D : RD m c) (h : Fin 16) (i k : Fin 4096) : (V m c main_v59 : S16x4096x4096.Idx → EReal) (ix3 h i k) = ((D.ee h i k : ℝ) : EReal) := by
  rw [e59]
  have q54 := hV54 m c D
  generalize V m c main_v54 = w54 at *
  have q55 := hV55 m c D
  generalize V m c main_v55 = w55 at *
  pointwise []
  rw [q54, q55, ← D.v72, val_main_v72_apply]
  pointwise [val_main_v71, val_main_v70, val_main_v69]
  rw [D.v59]
theorem e60 : V m c main_v60 = Host.reduceAdd (F := Ideal) (φ := .f32) (V m c main_v59) (constant (F := Ideal) S_ .f32 0x00000000#32) reducesTo_S16x4096x4096_S16x4096_d2 h_S_ := by
  unfold V
  after_reads_simp
theorem hV60 (D : RD m c) (h : Fin 16) (i : Fin 4096) : (V m c main_v60 : S16x4096.Idx → EReal) (ix2 h i) = ((D.ll h i : ℝ) : EReal) := by
  rw [e60]
  have q59 := hV59 m c D
  generalize V m c main_v59 = w59 at *
  pointwise []
  simp only [q59, csum]
  rfl
theorem e63 : V m c main_v63 = Host.divf (F := Ideal) (φ := .f32) (V m c main_v59) (broadcastInDim S16x4096x4096 ![0, 1, 2] bcast_S16x4096x1_S16x4096x4096_0_1_2 (broadcastInDim S16x4096x1 ![0, 1] bcast_S16x4096_S16x4096x1_0_1 (V m c main_v60))) := by
  unfold V
  after_reads_simp
theorem hV63 (D : RD m c) (h : Fin 16) (i k : Fin 4096) : (V m c main_v63 : S16x4096x4096.Idx → EReal) (ix3 h i k) = ((D.pp h i k : ℝ) : EReal) := by
  rw [e63]
  have q59 := hV59 m c D
  generalize V m c main_v59 = w59 at *
  have q60 := hV60 m c D
  generalize V m c main_v60 = w60 at *
  pointwise []
  rw [q59, q60, div_r _ _ (D.ll_pos h i).ne']
  rfl
theorem e86 : V m c main_v86 = shapeCast S4096x2048 (transpose S4096x16x128 [2, 0, 1] (Host.dotGeneral (F := Ideal) (φ₁ := .f32) (φ₂ := .f32) dot_S4096x16x128_S16x4096x4096_S16x128x4096_0_2_2_1_1_0 none (V m c main_v40) (V m c main_v63)) transposes_S16x128x4096_S4096x16x128_2_0_1) shapeCasts_S4096x16x128_S4096x2048 := by
  unfold V
  after_reads_simp
  rfl
theorem hV86 (D : RD m c) (i : Fin 4096) (h : Fin 16) (d : Fin 128) : (V m c main_v86 : S4096x2048.Idx → EReal) (ix2 i ⟨128 * h.val + d.val, by omega⟩) = ((D.oo i h d : ℝ) : EReal) := by
  rw [e86]
  have q40 := hV40 m c
  generalize V m c main_v40 = w40 at *
  have q63 := hV63 m c D
  generalize V m c main_v63 = w63 at *
  pointwise []
  simp only [q40, q63, D.hkv, ← EReal.coe_mul, csum]
  rfl
end Cert.KernelIdeal.Body
-- ==== Proof.Host3.lean ====
module
public import proofs.«01_k».proof.Proof.Gen.KernelIdeal.Frame
public import proofs.«01_k».proof.Proof.Host2
public import Idealize.ShloMosaic.Lib.StableHlo.ReadAt
public import Idealize.ShloMosaic.Lib.Pointwise
@[expose] public section
noncomputable section
namespace Cert.KernelIdeal.Body
open Cert.KernelIdeal Cert.KernelIdeal.Gen Idealize.ShloMosaic Idealize.ShloMosaic.TcCoe Idealize.SL.Sem
open Cert.ReferenceIdeal.Read Cert.ReferenceIdeal.Math
set_option maxRecDepth 16384
variable (m : (ℓ : Loc nD τ sig) → Buf (Elt Ideal) ℓ) (c : Dev nD)

theorem log2_ne : Real.log 2 ≠ 0 := (Real.log_pos one_lt_two).ne'
theorem e61 : V m c main_v61 = broadcastInDim S16x4096x1 ![0, 1] bcast_S16x4096_S16x4096x1_0_1 (V m c main_v60) := by
  unfold V
  after_reads_simp
theorem hV61 (D : RD m c) (h : Fin 16) (i : Fin 4096) (z : Fin 1) : (V m c main_v61 : S16x4096x1.Idx → EReal) (ix3 h i z) = ((D.ll h i : ℝ) : EReal) := by
  rw [e61]
  have q60 := hV60 m c D
  generalize V m c main_v60 = w60 at *
  pointwise []
  exact q60 h i
theorem e66 : V m c main_v66 = Host.log (F := Ideal) (φ := .f32) (V m c main_v61) := by
  unfold V
  after_reads_simp
theorem hV66 (D : RD m c) (h : Fin 16) (i : Fin 4096) (z : Fin 1) : (V m c main_v66 : S16x4096x1.Idx → EReal) (ix3 h i z) = ((Real.log (D.ll h i) : ℝ) : EReal) := by
  rw [e66]
  have q61 := hV61 m c D
  generalize V m c main_v61 = w61 at *
  generalize hr : ((Real.log (D.ll h i) : ℝ) : EReal) = r
  pointwise []
  subst hr
  rw [q61, log_pos_r _ (D.ll_pos h i)]
theorem e56 : V m c main_v56 = broadcastInDim S16x4096x1 ![0, 1] bcast_S16x4096_S16x4096x1_0_1 (V m c main_v55) := by
  unfold V
  after_reads_simp
theorem hV56 (D : RD m c) (h : Fin 16) (i : Fin 4096) (z : Fin 1) : (V m c main_v56 : S16x4096x1.Idx → EReal) (ix3 h i z) = ((D.mu h i : ℝ) : EReal) := by
  rw [e56]
  have q55 := hV55 m c D
  generalize V m c main_v55 = w55 at *
  pointwise []
  exact q55 h i
theorem e68 : V m c main_v68 = broadcastInDim S16x4096x1 ![] bcast_S_S16x4096x1 (Host.log (F := Ideal) (constant (F := Ideal) S_ .f32 0x40000000#32)) := by
  unfold V
  after_reads_simp
theorem hV68 (h : Fin 16) (i : Fin 4096) (z : Fin 1) : (V m c main_v68 : S16x4096x1.Idx → EReal) (ix3 h i z) = ((Real.log 2 : ℝ) : EReal) := by
  rw [e68, ← log_two]
  rfl
theorem e70 : V m c main_v70 = broadcastInDim S16x4096x128 ![0, 1, 2] bcast_S16x4096x1_S16x4096x128_0_1_2 (Host.divf (F := Ideal) (φ := .f32) (addf (F := Ideal) (φ := .f32) (V m c main_v56) (V m c main_v66)) (V m c main_v68)) := by
  unfold V
  after_reads_simp
theorem hV70a (x y z : S16x4096x1.Idx → EReal) (h : Fin 16) (i : Fin 4096) (d : Fin 128) :
    (broadcastInDim S16x4096x128 ![0, 1, 2] bcast_S16x4096x1_S16x4096x128_0_1_2 (Host.divf (F := Ideal) (φ := .f32) (addf (F := Ideal) (φ := .f32) x y) z) : S16x4096x128.Idx → EReal) (ix3 h i d)
    = Ideal.div (x (ix3 h i 0) + y (ix3 h i 0)) (z (ix3 h i 0)) := by
  pointwise []
theorem hV70b (D : RD m c) (h : Fin 16) (i : Fin 4096) : Ideal.div (((D.mu h i : ℝ) : EReal) + ((Real.log (D.ll h i) : ℝ) : EReal)) ((Real.log 2 : ℝ) : EReal) = (((D.mu h i + Real.log (D.ll h i)) / Real.log 2 : ℝ) : EReal) := by
  generalize D.mu h i = a
  generalize Real.log (D.ll h i) = b
  rw [← EReal.coe_add]
  exact div_r _ _ log2_ne
theorem hV70 (D : RD m c) (h : Fin 16) (i : Fin 4096) (d : Fin 128) : (V m c main_v70 : S16x4096x128.Idx → EReal) (ix3 h i d) = (((D.mu h i + Real.log (D.ll h i)) / Real.log 2 : ℝ) : EReal) := by
  rw [e70, ← hV70b, ← hV56 m c D h i 0, ← hV66 m c D h i 0, ← hV68 m c h i 0]
  exact hV70a _ _ _ h i d
end Cert.KernelIdeal.Body
-- ==== Proof.Host4.lean ====
module
public import proofs.«01_k».proof.Proof.Gen.KernelIdeal.Frame
public import proofs.«01_k».proof.Proof.Host3
public import Idealize.ShloMosaic.Lib.StableHlo.ReadAt
public import Idealize.ShloMosaic.Lib.Pointwise
@[expose] public section
noncomputable section
namespace Cert.KernelIdeal.Body
open Cert.KernelIdeal Cert.KernelIdeal.Gen Idealize.ShloMosaic Idealize.ShloMosaic.TcCoe Idealize.SL.Sem
open Cert.ReferenceIdeal.Read Cert.ReferenceIdeal.Math
set_option maxRecDepth 16384
variable (m : (ℓ : Loc nD τ sig) → Buf (Elt Ideal) ℓ) (c : Dev nD)

theorem cosR (D : RD m c) (i : Fin 4096) (l : Fin 32) : Ideal.cos (FloatOps.sitofp (F := Ideal) FTy.f32 (A3 m c (ix1 i)) * Ideal.pow (Ideal.ofBits FTy.f32 1176256512#32) (Ideal.div (-(Ideal.ofBits FTy.f32 1073741824#32 * FloatOps.sitofp (F := Ideal) FTy.f32 (BitVec.ofNat 32 l.val))) (Ideal.ofBits FTy.f32 1115684864#32))) = ((D.C i l : ℝ) : EReal) := by
  rw [← D.hC]
  pointwise [val_main_v20, val_main_v19, val_main_v17, val_main_v15, val_main_v14, val_main_v18, val_main_v16, val_main_v13, val_main_v12, val_main_v11, val_main_v10, val_main_v9, val_main_v8, val_main_v7, val_main_v6, val_main_v5, val_main_v4, val_main_cst, val_main_cst_0, val_main_cst_1, val_main_cst_2]
theorem sinR (D : RD m c) (i : Fin 4096) (l : Fin 32) : Ideal.sin (FloatOps.sitofp (F := Ideal) FTy.f32 (A3 m c (ix1 i)) * Ideal.pow (Ideal.ofBits FTy.f32 1176256512#32) (Ideal.div (-(Ideal.ofBits FTy.f32 1073741824#32 * FloatOps.sitofp (F := Ideal) FTy.f32 (BitVec.ofNat 32 l.val))) (Ideal.ofBits FTy.f32 1115684864#32))) = ((D.S i l : ℝ) : EReal) := by
  rw [← D.hS]
  pointwise [val_main_v21, val_main_v19, val_main_v17, val_main_v15, val_main_v14, val_main_v18, val_main_v16, val_main_v13, val_main_v12, val_main_v11, val_main_v10, val_main_v9, val_main_v8, val_main_v7, val_main_v6, val_main_v5, val_main_v4, val_main_cst, val_main_cst_0, val_main_cst_1, val_main_cst_2]
theorem hV20 (D : RD m c) (i : Fin 4096) (l : Fin 128) : (V m c main_v20 : S4096x128.Idx → EReal) (ix2 i l)
    = (((if h : l.val < 32 then D.C i ⟨l.val, h⟩ else if h2 : l.val < 64 then D.C i ⟨l.val - 32, by omega⟩ else 0) : ℝ) : EReal) := by
  unfold V
  after_reads_at
  after_reads_at
  by_cases h : l.val < 32
  · rw [dif_pos h, dif_pos h]; exact cosR m c D i ⟨l.val, h⟩
  · rw [dif_neg h, dif_neg h]
    by_cases h2 : l.val < 64
    · rw [dif_pos (show l.val - 32 < 32 by omega), dif_pos h2]; exact cosR m c D i ⟨l.val - 32, by omega⟩
    · rw [dif_neg (show ¬ l.val - 32 < 32 by omega), dif_neg h2]; rfl
theorem hV22 (D : RD m c) (i : Fin 4096) (l : Fin 128) : (V m c main_v22 : S4096x128.Idx → EReal) (ix2 i l)
    = (((if h : l.val < 32 then -D.S i ⟨l.val, h⟩ else if h2 : l.val < 64 then D.S i ⟨l.val - 32, by omega⟩ else 0) : ℝ) : EReal) := by
  unfold V
  after_reads_at
  after_reads_at
  by_cases h : l.val < 32
  · rw [dif_pos h, dif_pos h, EReal.coe_neg]; exact congrArg (fun z => -z) (sinR m c D i ⟨l.val, h⟩)
  · rw [dif_neg h, dif_neg h]
    by_cases h2 : l.val < 64
    · rw [dif_pos (show l.val - 32 < 32 by omega), dif_pos h2]; exact sinR m c D i ⟨l.val - 32, by omega⟩
    · rw [dif_neg (show ¬ l.val - 32 < 32 by omega), dif_neg h2]; rfl
theorem u23 : StableHlo.upto [hostOps0, hostOps0_1, hostOps0_2].flatten (fun b => m (c, b)) 86 (Proc.devRef .tc main_v23) = V m c main_v23 := by
  unfold V
  after_reads_simp
theorem u38 : StableHlo.upto [hostOps0, hostOps0_1, hostOps0_2].flatten (fun b => m (c, b)) 86 (Proc.devRef .tc main_v38) = V m c main_v38 := by
  unfold V
  after_reads_simp
theorem u39 : StableHlo.upto [hostOps0, hostOps0_1, hostOps0_2].flatten (fun b => m (c, b)) 95 (Proc.devRef .tc main_v39) = V m c main_v39 := by
  unfold V
  after_reads_simp
theorem u71 (i : Fin 4096) (h : Fin 16) (d : Fin 64) : (StableHlo.upto [hostOps0, hostOps0_1, hostOps0_2].flatten (fun b => m (c, b)) 86 (Proc.devRef .tc main_v71) : S4096x16x64.Idx → EReal) (ix3 i h d) = (0 : EReal) := by
  after_reads_at
theorem u71' (i : Fin 4096) (h : Fin 16) (d : Fin 64) : (StableHlo.upto [hostOps0, hostOps0_1, hostOps0_2].flatten (fun b => m (c, b)) 95 (Proc.devRef .tc main_v71) : S4096x16x64.Idx → EReal) (ix3 i h d) = (0 : EReal) := by
  after_reads_at
theorem u79 (i : Fin 4096) (h : Fin 16) (d : Fin 64) : (StableHlo.upto [hostOps0, hostOps0_1, hostOps0_2].flatten (fun b => m (c, b)) 95 (Proc.devRef .tc main_v79) : S4096x16x64.Idx → EReal) (ix3 i h d) = A2 m c (ix2 i d) := by
  after_reads_at
theorem hV77 (D : RD m c) (i : Fin 4096) (h : Fin 16) (d : Fin 256) : (V m c main_v77 : S4096x4096.Idx → EReal) (ix2 i ⟨256 * h.val + d.val, by omega⟩)
    = (((if h1 : d.val < 128 then D.q i h ⟨d.val, by omega⟩ else if h2 : d.val < 192 then D.rot i h ⟨d.val - 128, by omega⟩ else 0) * (smR / Real.log 2) : ℝ) : EReal) := by
  unfold V
  after_reads_at
  rw [sm_eq, log_two, div_r _ _ log2_ne, EReal.coe_mul]
  refine congrArg (fun z : EReal => z * ((smR / Real.log 2 : ℝ) : EReal)) ?_
  by_cases h1 : d.val < 128
  · rw [dif_pos h1, dif_pos h1, u23, hV23]; exact D.hq _ _ _
  · rw [dif_neg h1, dif_neg h1]
    by_cases h2 : d.val < 192
    · rw [dif_pos (show d.val - 128 < 64 by omega), dif_pos h2, u38, hV38, D.v36]
    · rw [dif_neg (show ¬ d.val - 128 < 64 by omega), dif_neg h2, u71]; rfl
theorem hV82 (D : RD m c) (i : Fin 4096) (h : Fin 16) (d : Fin 256) : (V m c main_v82 : S4096x4096.Idx → EReal) (ix2 i ⟨256 * h.val + d.val, by omega⟩)
    = (((if h1 : d.val < 128 then D.kv i h ⟨d.val, by omega⟩ else if h2 : d.val < 192 then D.kr i ⟨d.val - 128, by omega⟩ else 0) : ℝ) : EReal) := by
  unfold V
  after_reads_at
  by_cases h1 : d.val < 128
  · rw [dif_pos h1, dif_pos h1, u39, hV39]; exact D.hkv _ _ _
  · rw [dif_neg h1, dif_neg h1]
    by_cases h2 : d.val < 192
    · rw [dif_pos (show d.val - 128 < 64 by omega), dif_pos h2, u79]; exact D.hkr _ _
    · rw [dif_neg (show ¬ d.val - 128 < 64 by omega), dif_neg h2, u71']; rfl
theorem hV84 (D : RD m c) (i : Fin 4096) (h : Fin 16) (d : Fin 128) : (V m c main_v84 : S4096x2048.Idx → EReal) (ix2 i ⟨128 * h.val + d.val, by omega⟩) = ((D.kv i h ⟨128 + d.val, by omega⟩ : ℝ) : EReal) := by
  unfold V
  after_reads_at
  exact D.hkv _ _ _
theorem hV87 (D : RD m c) (i : Fin 4096) (d : Fin 2048) : (V m c main_v87 : S4096x2048.Idx → EReal) (ix2 i d) = ((D.dO i d : ℝ) : EReal) := by
  unfold V
  after_reads_at
  exact D.hdO _ _
end Cert.KernelIdeal.Body
-- ==== Proof.Final.lean ====
module
public import proofs.«01_k».proof.Proof.Arr
public import proofs.«01_k».proof.Proof.Alg
public import proofs.«01_k».proof.Proof.Host4
@[expose] public section
noncomputable section
namespace Cert.KernelIdeal.Body
open Cert.KernelIdeal Cert.KernelIdeal.Gen Idealize.ShloMosaic Idealize.ShloMosaic.TcCoe Idealize.SL.Sem
open Cert.ReferenceIdeal.Read Cert.ReferenceIdeal.Math
set_option maxRecDepth 16384
variable (m : (ℓ : Loc nD τ sig) → Buf (Elt Ideal) ℓ) (c : Dev nD) (D : RD m c)

/-- A head's slices of the arrays the call is given, as the mathematics names them. -/
theorem sl_q (h : Fin 16) (i : Fin 4096) (d : Fin 256) : h256 (V m c main_v77) h (ix2 i d) = ((qt D h i d : ℝ) : EReal) := hV77 m c D i h d
theorem sl_k (h : Fin 16) (i : Fin 4096) (d : Fin 256) : h256 (V m c main_v82) h (ix2 i d) = ((kt D h i d : ℝ) : EReal) := hV82 m c D i h d
theorem sl_v (h : Fin 16) (i : Fin 4096) (d : Fin 128) : h128 (V m c main_v84) h (ix2 i d) = ((D.kv i h (vLane d) : ℝ) : EReal) := hV84 m c D i h d
theorem sl_o (h : Fin 16) (i : Fin 4096) (d : Fin 128) : h128 (V m c main_v86) h (ix2 i d) = ((D.oo i h d : ℝ) : EReal) := hV86 m c D i h d
theorem sl_do (h : Fin 16) (i : Fin 4096) (d : Fin 128) : h128 (V m c main_v87) h (ix2 i d) = ((D.dO i (oLane h d) : ℝ) : EReal) := by
  have e : (⟨128 * h.val + d.val, by omega⟩ : Fin 2048) = oLane h d := Fin.ext (by show 128 * h.val + d.val = h.val * 128 + d.val; omega)
  rw [← e]
  exact hV87 m c D i ⟨128 * h.val + d.val, by omega⟩
theorem sl_l (h : Fin 16) (i : Fin 4096) (d : Fin 128) : hpl (V m c main_v70) h (ix3 0 i d) = (((D.mu h i + Real.log (D.ll h i)) / Real.log 2 : ℝ) : EReal) := hV70 m c D h i d

theorem E8_r (h : Fin 16) (i : Fin 4096) (d : Fin 256) : E8 m c h (ix2 i d)
    = (((if h1 : d.val < 128 then D.gq i h ⟨d.val, h1⟩ else if h2 : d.val < 192 then D.gqb i h ⟨d.val - 128, by omega⟩ else 0) : ℝ) : EReal) :=
  O8_r D h (sl_q m c D h) (sl_k m c D h) (sl_v m c D h) (sl_o m c D h) (sl_do m c D h) (sl_l m c D h) (hV20 m c D) (hV22 m c D) i d
theorem E9_r (h : Fin 16) (i : Fin 4096) (d : Fin 256) : E9 m c h (ix2 i d)
    = (((if h1 : d.val < 128 then D.gk i h ⟨d.val, h1⟩ else D.gv i h ⟨d.val - 128, by omega⟩) : ℝ) : EReal) :=
  O9_r D h (sl_q m c D h) (sl_k m c D h) (sl_v m c D h) (sl_o m c D h) (sl_do m c D h) (sl_l m c D h) i d
theorem E10_r (h : Fin 16) (k : Fin 4096) (d : Fin 128) : E10 m c h k d
    = (((if h1 : d.val < 64 then ∑ i, D.ds h i k * smR * D.rot i h ⟨d.val, h1⟩ else 0) : ℝ) : EReal) :=
  R10_r D h (sl_q m c D h) (sl_k m c D h) (sl_v m c D h) (sl_o m c D h) (sl_do m c D h) (sl_l m c D h) k d

/-- Every lane of 4096 is a lane of some head's 256. -/
theorem head_lane (j : Fin 4096) : ∃ (h : Fin 16) (d : Fin 256), j = ⟨256 * h.val + d.val, by omega⟩ :=
  ⟨⟨j.val / 256, by omega⟩, ⟨j.val % 256, Nat.mod_lt _ (by norm_num)⟩, Fin.ext (by show j.val = 256 * (j.val / 256) + j.val % 256; omega)⟩

include D
/-- The first array is the reference's gradient of the queries. -/
theorem G8_ref : G8 m c = val_main_v131 (F := Ideal) (A0 m c) (A1 m c) (A2 m c) (A3 m c) (A4 m c) := by
  funext y
  obtain ⟨h, d, e⟩ := head_lane (y 1)
  rw [eq_ix2 y, e]
  exact ((G8_at m c h.val h.isLt (y 0) d).trans (E8_r m c D h (y 0) d)).trans (D.v131 (y 0) h d).symm
/-- The second is its gradient of the keys and values. -/
theorem G9_ref : G9 m c = val_main_v133 (F := Ideal) (A0 m c) (A1 m c) (A2 m c) (A3 m c) (A4 m c) := by
  funext y
  obtain ⟨h, d, e⟩ := head_lane (y 1)
  rw [eq_ix2 y, e]
  exact ((G9_at m c h.val h.isLt (y 0) d).trans (E9_r m c D h (y 0) d)).trans (D.v133 (y 0) h d).symm
theorem E10_sum (k : Fin 4096) (d : Fin 128) : (∑ t : Fin 16, E10 m c t k d) = (((if h1 : d.val < 64 then D.gkr k ⟨d.val, h1⟩ else 0) : ℝ) : EReal) := by
  simp only [E10_r m c D, csum]
  refine congrArg _ ?_
  by_cases h1 : d.val < 64
  · simp only [dif_pos h1]
    rfl
  · simp only [dif_neg h1, Finset.sum_const_zero]
/-- The third is its gradient of the shared key part. -/
theorem G10_ref : G10 m c = val_main_v129 (F := Ideal) (A0 m c) (A1 m c) (A2 m c) (A3 m c) (A4 m c) := by
  funext y
  rw [eq_ix2 y]
  exact (E10_sum m c D (y 0) (y 1)).trans (D.v129 (y 0) (y 1)).symm
end Cert.KernelIdeal.Body
-- ==== Proof.Dw1.lean ====
module
public import proofs.«01_k».proof.Proof.Gen.KDw1Ideal.Frame
public import proofs.«01_k».proof.Proof.Gen.RDw1Ideal.Read
public import Idealize.ShloMosaic.Lib.Pipeline.ValueKit
public import Idealize.ShloMosaic.Lib.StableHlo.ReadAt
public import Idealize.ShloMosaic.Lib.Pointwise
@[expose] public section
noncomputable section
namespace Cert.KDw1Ideal.Body
open Cert.KDw1Ideal Cert.KDw1Ideal.Gen Idealize.ShloMosaic Idealize.ShloMosaic.TcCoe Idealize.SL.Sem
open Cert.RDw1Ideal.Read
set_option maxRecDepth 16384
variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S4096x4096, .f32⟩ : BufTy).Contents (Elt Ideal) := m ((c : Thread nD τ).loc main_arg1)

theorem cidx0 : ∀ t : Fin cfg0.N, win0_0.index t = ![0, 0] := by decide +kernel
theorem cidx1 : ∀ t : Fin cfg0.N, win0_1.index t = ![0, t.val] := by decide +kernel
theorem cidx2 : ∀ t : Fin cfg0.N, win0_2.index t = ![t.val, 0, 0] := by decide +kernel

/-- What the call is given: the normalised rows and the gradient of the first product. -/
theorem hV0 (i : Fin 4096) (d : Fin 1024) : (V m c main_v0 : S4096x1024.Idx → EReal) (ix2 i d) = A0 m c (ix2 i d) := by
  unfold V
  after_reads_at
theorem hV1 (i : Fin 4096) (f : Fin 4096) : (V m c main_v1 : S4096x4096.Idx → EReal) (ix2 i f) = A1 m c (ix2 i f) := by
  unfold V
  after_reads_at

/-- Its blocks at a grid point. -/
theorem iblk0 (t : Fin cfg0.N) (i : Fin 4096) (d : Fin 1024) : (iblk m c 0 t : S4096x1024.Idx → EReal) (ix2 i d) = A0 m c (ix2 i d) := by
  rw [← hV0]
  blk_ext [iblk, cidx0]
theorem iblk1 (t : Fin cfg0.N) (i : Fin 4096) (f : Fin 512) : (iblk m c 1 t : S4096x512.Idx → EReal) (ix2 i f) = A1 m c (ix2 i ⟨512 * t.val + f.val, by have : t.val < 8 := t.isLt; omega⟩) := by
  rw [← hV1]
  blk_ext [iblk, cidx1]

/-- The block that a point writes: the rows' product with its block of columns. -/
theorem pay (x0 : Vec Ideal S4096x1024 .bf16) (x1 : Vec Ideal S4096x512 .bf16) (s : Fin 1) (d : Fin 1024) (f : Fin 512) :
    out0_2 x0 x1 (ix3 s d f) = ∑ i : Fin 4096, x0 (ix2 i d) * x1 (ix2 i f) := by
  frame_out
  pointwise [k0_pay1]

/-- The reference at an index. -/
theorem ref_at (x0 x1) (s : Fin 8) (d : Fin 1024) (f : Fin 512) :
    val_main_v6 (F := Ideal) x0 x1 (ix3 s d f) = ∑ i : Fin 4096, x0 (ix2 i d) * x1 (ix2 i ⟨s.val * 512 + f.val, by omega⟩) := by
  pointwise [val_main_v6, val_main_v5, val_main_v4, val_main_v3, val_main_v2]
  exact Finset.sum_congr rfl fun i _ => mul_comm _ _

/-- What a point writes is its block of the reference. -/
theorem outAt (t : Fin cfg0.N) (s : Fin 1) (d : Fin 1024) (f : Fin 512) :
    out0_2 (iblk m c 0 t) (iblk m c 1 t) (ix3 s d f)
      = val_main_v6 (F := Ideal) (A0 m c) (A1 m c) (ix3 ⟨t.val, t.isLt⟩ d f) := by
  rw [ref_at, pay]
  refine Finset.sum_congr rfl fun i _ => ?_
  rw [iblk0, iblk1, show (⟨512 * t.val + f.val, by have : t.val < 8 := t.isLt; omega⟩ : Fin 4096) = ⟨t.val * 512 + f.val, by have : t.val < 8 := t.isLt; omega⟩ from Fin.ext (by dsimp only; omega)]

/-- The call's result is the reference's gradient of the first weight. -/
theorem arr2 : (dats m 0 c).arrAt 2 cfg0.N = val_main_v6 (F := Ideal) (A0 m c) (A1 m c) := by
  refine (dats m 0 c).arrAt_eq_of_covers 2 _ (by decide +kernel) fun t hf y => ?_
  rw [after0_2]
  blk_simp [cidx2]
  have ht : t.val < 8 := t.isLt
  have e : (win0_2.blk t).view.emb y = (@ix3 8 1024 512 ⟨t.val, ht⟩ (y 1) (y 2) : S8x1024x512.Idx) := by blk_ext [cidx2]
  rw [e]
  exact (congrArg _ (eq_ix3 y)).trans (outAt m c t (y 0) (y 1) (y 2))
end Cert.KDw1Ideal.Body
-- ==== Proof.Dw2.lean ====
module
public import proofs.«01_k».proof.Proof.Gen.KDw2Ideal.Frame
public import proofs.«01_k».proof.Proof.Gen.RDw2Ideal.Read
public import Idealize.ShloMosaic.Lib.Pipeline.ValueKit
public import Idealize.ShloMosaic.Lib.StableHlo.ReadAt
public import Idealize.ShloMosaic.Lib.Pointwise
@[expose] public section
noncomputable section
namespace Cert.KDw2Ideal.Body
open Cert.KDw2Ideal Cert.KDw2Ideal.Gen Idealize.ShloMosaic Idealize.ShloMosaic.TcCoe Idealize.SL.Sem
open Cert.RDw2Ideal.Read
set_option maxRecDepth 16384
variable (m : (ℓ : Loc nD τ sig) → Buf (Elt Ideal) ℓ) (c : Dev nD)

abbrev A0 : (⟨S4096x4096, .f32⟩ : BufTy).Contents (Elt Ideal) := m ((c : Thread nD τ).loc main_arg0)
abbrev A1 : (⟨S4096x1024, .f32⟩ : BufTy).Contents (Elt Ideal) := m ((c : Thread nD τ).loc main_arg1)

theorem cidx0 : ∀ t : Fin cfg0.N, win0_0.index t = ![0, t.val] := by decide +kernel
theorem cidx1 : ∀ t : Fin cfg0.N, win0_1.index t = ![0, 0] := by decide +kernel
theorem cidx2 : ∀ t : Fin cfg0.N, win0_2.index t = ![t.val, 0] := by decide +kernel

/-- What the call is given: the first product's result, rectified, and the output's gradient. -/
theorem hV1 (i : Fin 4096) (f : Fin 4096) : (V m c main_v1 : S4096x4096.Idx → EReal) (ix2 i f) = max (A0 m c (ix2 i f)) 0 := by
  unfold V
  after_reads_at
theorem hV2 (i : Fin 4096) (d : Fin 1024) : (V m c main_v2 : S4096x1024.Idx → EReal) (ix2 i d) = A1 m c (ix2 i d) := by
  unfold V
  after_reads_at

/-- Its blocks at a grid point. -/
theorem iblk0 (t : Fin cfg0.N) (i : Fin 4096) (f : Fin 512) : (iblk m c 0 t : S4096x512.Idx → EReal) (ix2 i f) = max (A0 m c (ix2 i ⟨512 * t.val + f.val, by have : t.val < 8 := t.isLt; omega⟩)) 0 := by
  rw [← hV1]
  blk_ext [iblk, cidx0]
theorem iblk1 (t : Fin cfg0.N) (i : Fin 4096) (d : Fin 1024) : (iblk m c 1 t : S4096x1024.Idx → EReal) (ix2 i d) = A1 m c (ix2 i d) := by
  rw [← hV2]
  blk_ext [iblk, cidx1]

/-- The block that a point writes: the squared block's product with the output's gradient. -/
theorem pay (x0 : Vec Ideal S4096x512 .bf16) (x1 : Vec Ideal S4096x1024 .bf16) (f : Fin 512) (d : Fin 1024) :
    out0_2 x0 x1 (ix2 f d) = ∑ i : Fin 4096, x0 (ix2 i f) * x0 (ix2 i f) * x1 (ix2 i d) := by
  frame_out
  pointwise [k0_pay1]

/-- The reference at an index. -/
theorem ref_at (x0 x1) (f : Fin 4096) (d : Fin 1024) : val_main_v6 (F := Ideal) x0 x1 (ix2 f d) = ∑ i : Fin 4096, max (x0 (ix2 i f)) 0 * max (x0 (ix2 i f)) 0 * x1 (ix2 i d) := by
  pointwise [val_main_v6, val_main_v5, val_main_v4, val_main_v2, val_main_v1, val_main_call0_v0, val_main_call0_cst]
  exact Finset.sum_congr rfl fun i _ => mul_comm _ _

/-- What a point writes is its block of the reference. -/
theorem outAt (t : Fin cfg0.N) (f : Fin 512) (d : Fin 1024) :
    out0_2 (iblk m c 0 t) (iblk m c 1 t) (ix2 f d)
      = val_main_v6 (F := Ideal) (A0 m c) (A1 m c) (ix2 ⟨512 * t.val + f.val, by have : t.val < 8 := t.isLt; omega⟩ d) := by
  rw [ref_at, pay]
  refine Finset.sum_congr rfl fun i _ => ?_
  rw [iblk0, iblk1]

/-- The call's result is the reference's gradient of the second weight. -/
theorem arr2 : (dats m 0 c).arrAt 2 cfg0.N = val_main_v6 (F := Ideal) (A0 m c) (A1 m c) := by
  refine (dats m 0 c).arrAt_eq_of_covers 2 _ (by decide +kernel) fun t hf y => ?_
  rw [after0_2]
  blk_simp [cidx2]
  have hy : (y 0).val < 512 := (y 0).isLt
  have ht : t.val < 8 := t.isLt
  have e : (win0_2.blk t).view.emb y = (@ix2 4096 1024 ⟨512 * t.val + (y 0).val, by omega⟩ (y 1) : S4096x1024.Idx) := by blk_ext [cidx2]
  rw [e]
  exact (congrArg _ (eq_ix2 y)).trans (outAt m c t (y 0) (y 1))
end Cert.KDw2Ideal.Body
-- ==== Proof.Rows.lean ====
module
public import Idealize.ShloMosaic.Lib.Pipeline.ValueKit
public import Idealize.ShloMosaic.Lib.StableHlo.ReadAt
public import Idealize.ShloMosaic.Lib.Pointwise
public import Idealize.ShloMosaic.Lib.WritesUnit
@[expose] public section
noncomputable section
namespace Cert.Rows
open Idealize.ShloMosaic Idealize.ShloMosaic.TcCoe Idealize.SL.Sem

/-- Eight rows of sums. -/
abbrev R8 : Shape := ⟨2, ![8, 1024]⟩

theorem mem_row (o : ℕ) (inb : ∀ a, (![o, 0] : Fin 2 → ℕ) a + (![1, 1024] : Fin 2 → ℕ) a ≤ R8.size a) (k : Fin 8) (d : Fin 1024) (h : k.val = o) :
    (Rect.unit (s := R8) ![o, 0] ![1, 1024] inb).emb (ix2 (0 : Fin 1) d) = ix2 k d := by
  funext a
  refine Fin.ext ?_
  revert a
  refine Fin.forall_fin_two.mpr ⟨?_, ?_⟩
  · show o + 1 * 0 = k.val
    omega
  · show 0 + 1 * d.val = d.val
    omega

/-- A row stored over earlier stores, read at an index. -/
theorem canon_row (o : ℕ) (inb : ∀ a, (![o, 0] : Fin 2 → ℕ) a + (![1, 1024] : Fin 2 → ℕ) a ≤ R8.size a) (w : (⟨2, ![1, 1024]⟩ : Shape).Idx → EReal)
    (L : List (View.Piece (Elt Ideal) R8 .f32)) (k : Fin 8) (d : Fin 1024) :
    View.canon ((⟨Rect.unit (s := R8) ![o, 0] ![1, 1024] inb, w⟩ : View.Piece (Elt Ideal) R8 .f32) :: L) (ix2 k d)
      = if k.val = o then w (ix2 0 d) else View.canon L (ix2 k d) := by
  rw [View.canon_cons]
  by_cases h : k.val = o
  · rw [if_pos h, ← mem_row o inb k d h]
    exact Rect.overlay_emb _ _ _ _
  · rw [if_neg h]
    refine Rect.overlay_of_not_mem _ _ _ ?_
    rw [Rect.mem_set_unit]
    intro hm
    have h0 := hm 0
    have h1 : o ≤ k.val ∧ k.val < o + 1 := h0
    omega

/-- The same over a buffer whose contents are known. -/
theorem read_row {sig : RefSig} {κ : Kind} {sp : Space} (v : View sig κ sp R8 .f32) (f : v.ty.Contents (Elt Ideal)) (o : ℕ)
    (inb : ∀ a, (![o, 0] : Fin 2 → ℕ) a + (![1, 1024] : Fin 2 → ℕ) a ≤ R8.size a) (w : (⟨2, ![1, 1024]⟩ : Shape).Idx → EReal)
    (L : List (View.Piece (Elt Ideal) R8 .f32)) (k : Fin 8) (d : Fin 1024) :
    v.read (Elt Ideal) (v.writes (Elt Ideal) f ((⟨Rect.unit (s := R8) ![o, 0] ![1, 1024] inb, w⟩ : View.Piece (Elt Ideal) R8 .f32) :: L)) (ix2 k d)
      = if k.val = o then w (ix2 0 d) else v.read (Elt Ideal) (v.writes (Elt Ideal) f L) (ix2 k d) := by
  by_cases h : k.val = o
  · rw [if_pos h]
    exact View.read_writes_cons_rows_of_mem v f inb w L _ (ix2 (0 : Fin 1) d) rfl (by show k.val = o + 0; omega) rfl
  · rw [if_neg h]
    exact View.read_writes_cons_rows_of_not_mem (W := 1) v f inb w L _ rfl rfl (by show k.val < o ∨ o + 1 ≤ k.val; omega)

/-- A row loaded from a buffer. -/
theorem ld_row (x : R8.Idx → EReal) (o : ℕ) (inb : ∀ a, (![o, 0] : Fin 2 → ℕ) a + (![1, 1024] : Fin 2 → ℕ) a ≤ R8.size a) (k : Fin 8) (h : k.val = o) (d : Fin 1024) :
    (View.ld (Val := Elt Ideal) (e' := .f32) x (Rect.unit (s := R8) ![o, 0] ![1, 1024] inb) : (⟨2, ![1, 1024]⟩ : Shape).Idx → EReal) (ix2 0 d) = x (ix2 k d) := by
  rw [← mem_row o inb k d h]; rfl

/-- A row loaded after stores. -/
theorem cov_row {sig : RefSig} {κ : Kind} {sp : Space} (v : View sig κ sp R8 .f32) (L : List (View.Piece (Elt Ideal) R8 .f32)) (o : ℕ)
    (inb : ∀ a, (![o, 0] : Fin 2 → ℕ) a + (![1, 1024] : Fin 2 → ℕ) a ≤ R8.size a) (k : Fin 8) (h : k.val = o) (d : Fin 1024) :
    (v.readCov L (Rect.unit (s := R8) ![o, 0] ![1, 1024] inb).toLoadRect : (⟨2, ![1, 1024]⟩ : Shape).Idx → EReal) (ix2 0 d) = View.canon L (ix2 k d) := by
  rw [View.readCov_eq_canon', ← mem_row o inb k d h]; rfl

/-- Zeros stored over the whole buffer. -/
theorem canon_all (inb : ∀ a, (![0, 0] : Fin 2 → ℕ) a + (![8, 1024] : Fin 2 → ℕ) a ≤ R8.size a) (w : R8.Idx → EReal) (L : List (View.Piece (Elt Ideal) R8 .f32)) :
    View.canon ((⟨Rect.unit (s := R8) ![0, 0] ![8, 1024] inb, w⟩ : View.Piece (Elt Ideal) R8 .f32) :: L) = w := by
  rw [View.canon_cons]
  funext y
  have e : (Rect.unit (s := R8) ![0, 0] ![8, 1024] inb).emb y = y := by
    funext a
    refine Fin.ext ?_
    revert a
    refine Fin.forall_fin_two.mpr ⟨?_, ?_⟩
    · show 0 + 1 * (y 0).val = (y 0).val
      omega
    · show 0 + 1 * (y 1).val = (y 1).val
      omega
  refine Eq.trans (congrArg _ e.symm) ?_
  exact Rect.overlay_emb _ _ _ _

/-- The row that lane `r` of tile `t` is. -/
@[reducible] def row (t : Fin 8) (r : Fin 512) : Fin 4096 := ⟨512 * t.val + r.val, by omega⟩

/-- A sum over the tiles' rows is the sum over the rows. -/
theorem sum_rows (g : Fin 4096 → EReal) : ∑ t : Fin 8, ∑ r : Fin 512, g (row t r) = ∑ i : Fin 4096, g i := by
  rw [← Fin.sum_mul_add_fin 8 512 g]
  refine Finset.sum_congr rfl fun t _ => Finset.sum_congr rfl fun r _ => congrArg g (Fin.ext ?_)
  show 512 * t.val + r.val = t.val * 512 + r.val
  omega
end Cert.Rows
-- ==== Proof.Down1.lean ====
module
public import proofs.«01_k».proof.Proof.Gen.KDownIdeal.Frame
public import proofs.«01_k».proof.Proof.Rows
@[expose] public section
noncomputable section
namespace Cert.KDownIdeal.Body
open Cert.Rows Cert.KDownIdeal Cert.KDownIdeal.Gen Idealize.ShloMosaic Idealize.ShloMosaic.TcCoe Idealize.SL.Sem
set_option maxRecDepth 16384
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S6x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S8x1024 .f32) (harg8 : arg8.IsWhole)

variable (x0 : Vec Ideal S512x1024 .f32) (x1 : Vec Ideal S512x1024 .bf16) (x2 : Vec Ideal S6x1024 .f32) (x3 : Vec Ideal S4096x1024 .bf16) (x4 : Vec Ideal S512x4096 .bf16)

theorem k0_pay2_at (k : Fin 8) (d : Fin 1024) : k0_pay2 (F := Ideal) (ix2 k d) = 0 := by
  pointwise [k0_pay2]
theorem outA5 (hc0 : cond0_0 i) (r : Fin 512) (f : Fin 4096) : out0_A_5 (F := Ideal) c i arg1 harg1 arg2 harg2 arg3 harg3 arg4 harg4 arg5 harg5 arg6 harg6 arg7 harg7 arg8 harg8 hc0 x0 x1 x2 x3 x4 (ix2 r f) = (∑ d : Fin 1024, x0 (ix2 r d) * x2 (ix2 5 d) * x3 (ix2 f d)) * (Ideal.ofBits .f32 0x40000000#32 * x4 (ix2 r f)) := by
  frame_out
  canon_tiles z h
  all_goals
    idx_vars z
    pointwise [k0_pay1, k0_pay3, k0_pay5]
    obtain rfl : r = z0 := Fin.ext h0
  · have e : f = ⟨2048 + z1.val, by have := z1.isLt; omega⟩ := Fin.ext h1
    rw [e]
  · have e : f = ⟨z1.val, by have := z1.isLt; omega⟩ := Fin.ext h1
    rw [e]
theorem outA6 (hc0 : cond0_0 i) (r : Fin 512) (d : Fin 1024) : out0_A_6 (F := Ideal) c i arg1 harg1 arg2 harg2 arg3 harg3 arg4 harg4 arg5 harg5 arg6 harg6 arg7 harg7 arg8 harg8 hc0 x0 x1 x2 x3 x4 (ix2 r d) = x0 (ix2 r d) * x2 (ix2 5 d) := by
  frame_out
  pointwise [k0_pay3]
theorem outB5 (hc0 : ¬cond0_0 i) (xo7 : Vec Ideal S8x1024 .f32) (r : Fin 512) (f : Fin 4096) : out0_B_5 (F := Ideal) c i arg1 harg1 arg2 harg2 arg3 harg3 arg4 harg4 arg5 harg5 arg6 harg6 arg7 harg7 arg8 harg8 hc0 x0 x1 x2 x3 x4 xo7 (ix2 r f) = (∑ d : Fin 1024, x0 (ix2 r d) * x2 (ix2 5 d) * x3 (ix2 f d)) * (Ideal.ofBits .f32 0x40000000#32 * x4 (ix2 r f)) := by
  frame_out
  canon_tiles z h
  all_goals
    idx_vars z
    pointwise [k0_pay1, k0_pay3, k0_pay5]
    obtain rfl : r = z0 := Fin.ext h0
  · have e : f = ⟨2048 + z1.val, by have := z1.isLt; omega⟩ := Fin.ext h1
    rw [e]
  · have e : f = ⟨z1.val, by have := z1.isLt; omega⟩ := Fin.ext h1
    rw [e]
theorem outB6 (hc0 : ¬cond0_0 i) (xo7 : Vec Ideal S8x1024 .f32) (r : Fin 512) (d : Fin 1024) : out0_B_6 (F := Ideal) c i arg1 harg1 arg2 harg2 arg3 harg3 arg4 harg4 arg5 harg5 arg6 harg6 arg7 harg7 arg8 harg8 hc0 x0 x1 x2 x3 x4 xo7 (ix2 r d) = x0 (ix2 r d) * x2 (ix2 5 d) := by
  frame_out
  pointwise [k0_pay3]
theorem outA7 (hc0 : cond0_0 i) (k : Fin 8) (d : Fin 1024) : out0_A_7 (F := Ideal) c i arg1 harg1 arg2 harg2 arg3 harg3 arg4 harg4 arg5 harg5 arg6 harg6 arg7 harg7 arg8 harg8 hc0 x0 x1 x2 x3 x4 (ix2 k d) = if k = 5 then ∑ r : Fin 512, x0 (ix2 r d) * x1 (ix2 r d) else 0 := by
  frame_out
  rw [canon_row, canon_all]
  have e : (k.val = 5) = (k = 5) := propext ⟨fun h => Fin.ext h, fun h => h ▸ rfl⟩
  simp only [e]
  refine if_congr Iff.rfl ?_ (by rw [k0_pay2_at])
  generalize hw : arg8.view.readCov (Val := Elt Ideal) _ _ = w
  have q : w (ix2 0 d) = 0 := by rw [← hw, cov_row _ _ 5 _ 5 rfl, canon_all, k0_pay2_at]
  pointwise [k0_pay4]
  rw [q, zero_add]
theorem outB7 (hc0 : ¬cond0_0 i) (xo7 : Vec Ideal S8x1024 .f32) (k : Fin 8) (d : Fin 1024) : out0_B_7 (F := Ideal) c i arg1 harg1 arg2 harg2 arg3 harg3 arg4 harg4 arg5 harg5 arg6 harg6 arg7 harg7 arg8 harg8 hc0 x0 x1 x2 x3 x4 xo7 (ix2 k d) = if k = 5 then xo7 (ix2 5 d) + ∑ r : Fin 512, x0 (ix2 r d) * x1 (ix2 r d) else xo7 (ix2 k d) := by
  frame_out
  rw [read_row, View.writes_nil, harg8.read_unread]
  have e : (k.val = 5) = (k = 5) := propext ⟨fun h => Fin.ext h, fun h => h ▸ rfl⟩
  simp only [e]
  refine if_congr Iff.rfl ?_ rfl
  generalize hw : View.ld xo7 _ = w
  have q : w (ix2 0 d) = xo7 (ix2 5 d) := by rw [← hw]; exact ld_row _ 5 _ 5 rfl d
  pointwise [k0_pay4]
  rw [q]
end Cert.KDownIdeal.Body
-- ==== Proof.Down2.lean ====
module
public import proofs.«01_k».proof.Proof.Down1
public import proofs.«01_k».proof.Proof.Gen.RDownIdeal.Read
@[expose] public section
noncomputable section
namespace Cert.KDownIdeal.Body
open Cert.Rows Cert.KDownIdeal Cert.KDownIdeal.Gen Idealize.ShloMosaic Idealize.ShloMosaic.TcCoe Idealize.SL.Sem
open Cert.RDownIdeal.Read
set_option maxRecDepth 16384
variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S4096x4096, .f32⟩ : BufTy).Contents (Elt Ideal) := m ((c : Thread nD τ).loc main_arg1)
abbrev A2 : (⟨S6x1024, .f32⟩ : BufTy).Contents (Elt Ideal) := m ((c : Thread nD τ).loc main_arg2)
abbrev A3 : (⟨S4096x1024, .f32⟩ : BufTy).Contents (Elt Ideal) := m ((c : Thread nD τ).loc main_arg3)

theorem cidx0 : ∀ t : Fin cfg0.N, win0_0.index t = ![t.val, 0] := by decide +kernel
theorem cidx1 : ∀ t : Fin cfg0.N, win0_1.index t = ![t.val, 0] := by decide +kernel
theorem cidx2 : ∀ t : Fin cfg0.N, win0_2.index t = ![0, 0] := by decide +kernel
theorem cidx3 : ∀ t : Fin cfg0.N, win0_3.index t = ![0, 0] := by decide +kernel
theorem cidx4 : ∀ t : Fin cfg0.N, win0_4.index t = ![t.val, 0] := by decide +kernel
theorem cidx5 : ∀ t : Fin cfg0.N, win0_5.index t = ![t.val, 0] := by decide +kernel
theorem cidx6 : ∀ t : Fin cfg0.N, win0_6.index t = ![t.val, 0] := by decide +kernel
theorem cidx7 : ∀ t : Fin cfg0.N, win0_7.index t = ![0, 0] := by decide +kernel

/-- What the call is given. -/
theorem hX0 (i : Fin 4096) (d : Fin 1024) : (V m c main_arg0 : S4096x1024.Idx → EReal) (ix2 i d) = A0 m c (ix2 i d) := by
  unfold V
  after_reads_at
theorem hX2 (k : Fin 6) (d : Fin 1024) : (V m c main_arg2 : S6x1024.Idx → EReal) (ix2 k d) = A2 m c (ix2 k d) := by
  unfold V
  after_reads_at
theorem hV5 (i : Fin 4096) (f : Fin 4096) : (V m c main_v5 : S4096x4096.Idx → EReal) (ix2 i f) = max (A1 m c (ix2 i f)) 0 := by
  unfold V
  after_reads_at
theorem hV4 (f : Fin 4096) (d : Fin 1024) : (V m c main_v4 : S4096x1024.Idx → EReal) (ix2 f d) = A3 m c (ix2 f d) := by
  unfold V
  after_reads_at
theorem hV3 (i : Fin 4096) (d : Fin 1024) : (V m c main_v3 : S4096x1024.Idx → EReal) (ix2 i d) = ∑ f : Fin 4096, max (A1 m c (ix2 i f)) 0 * max (A1 m c (ix2 i f)) 0 * A3 m c (ix2 f d) := by
  unfold V
  after_reads_at

/-- Its blocks at a grid point. -/
theorem iblk0 (t : Fin cfg0.N) (r : Fin 512) (d : Fin 1024) : (iblk m c 0 t : S512x1024.Idx → EReal) (ix2 r d) = A0 m c (ix2 (row t r) d) := by
  rw [← hX0]
  blk_ext [iblk, cidx0]
theorem iblk1 (t : Fin cfg0.N) (r : Fin 512) (d : Fin 1024) : (iblk m c 1 t : S512x1024.Idx → EReal) (ix2 r d) = ∑ f : Fin 4096, max (A1 m c (ix2 (row t r) f)) 0 * max (A1 m c (ix2 (row t r) f)) 0 * A3 m c (ix2 f d) := by
  rw [← hV3]
  blk_ext [iblk, cidx1]
theorem iblk2 (t : Fin cfg0.N) (k : Fin 6) (d : Fin 1024) : (iblk m c 2 t : S6x1024.Idx → EReal) (ix2 k d) = A2 m c (ix2 k d) := by
  rw [← hX2]
  blk_ext [iblk, cidx2]
theorem iblk3 (t : Fin cfg0.N) (f : Fin 4096) (d : Fin 1024) : (iblk m c 3 t : S4096x1024.Idx → EReal) (ix2 f d) = A3 m c (ix2 f d) := by
  rw [← hV4]
  blk_ext [iblk, cidx3]
theorem iblk4 (t : Fin cfg0.N) (r : Fin 512) (f : Fin 4096) : (iblk m c 4 t : S512x4096.Idx → EReal) (ix2 r f) = max (A1 m c (ix2 (row t r) f)) 0 := by
  rw [← hV5]
  blk_ext [iblk, cidx4]

/-- The reference at an index. -/
theorem ref31 (x0 x1 x2 x3) (i : Fin 4096) (f : Fin 4096) : val_main_v31 (F := Ideal) x0 x1 x2 x3 (ix2 i f)
    = (∑ d : Fin 1024, x0 (ix2 i d) * x2 (ix2 5 d) * x3 (ix2 f d)) * (Ideal.ofBits .f32 0x40000000#32 * max (x1 (ix2 i f)) 0) := by
  pointwise [val_main_v31, val_main_v30, val_main_v29, val_main_cst_8, val_main_v28, val_main_v27, val_main_v17, val_main_v16, val_main_v13, val_main_v6, val_main_v5, val_main_cst_1, val_main_v2, val_main_v1, val_main_cst, val_main_v0, val_main_call0_v0, val_main_call0_cst]
  have e : ∑ d : Fin 1024, x2 (ix2 5 d) * x0 (ix2 i d) * x3 (ix2 f d) = ∑ d : Fin 1024, x0 (ix2 i d) * x2 (ix2 5 d) * x3 (ix2 f d) :=
    Finset.sum_congr rfl fun d _ => by rw [mul_comm (x2 (ix2 5 d))]
  by_cases h : 0 < x1 (ix2 i f)
  · rw [if_pos h, e]
  · rw [if_neg h, max_eq_right (not_lt.mp h), mul_zero, mul_zero]
theorem ref32 (x0 x2) (i : Fin 4096) (d : Fin 1024) : val_main_v32 (F := Ideal) x0 x2 (ix2 i d) = x0 (ix2 i d) * x2 (ix2 5 d) := by
  pointwise [val_main_v32, val_main_v17, val_main_v16, val_main_v13]
  exact mul_comm _ _
theorem ref34 (x0 x1 x3) (k : Fin 8) (d : Fin 1024) : val_main_v34 (F := Ideal) x0 x1 x3 (ix2 k d)
    = if k = 5 then ∑ i : Fin 4096, x0 (ix2 i d) * (∑ f : Fin 4096, max (x1 (ix2 i f)) 0 * max (x1 (ix2 i f)) 0 * x3 (ix2 f d)) else 0 := by
  fin_cases k
  all_goals
    pointwise [val_main_v34, val_main_v33, val_main_cst_9, val_main_v26, val_main_v25, val_main_v24, val_main_v23, val_main_v22, val_main_v21, val_main_v20, val_main_v19, val_main_v18, val_main_v7, val_main_v4, val_main_v0, val_main_call0_v0, val_main_call0_cst, val_main_cst_2, val_main_cst_3, val_main_cst_4, val_main_cst_5, val_main_cst_6, val_main_cst_7]

/-- What a point leaves. -/
theorem pt5 (t : Fin cfg0.N) (r : Fin 512) (f : Fin 4096) : (outsAt0 m c t.val t.isLt).1 (ix2 r f) = val_main_v31 (F := Ideal) (A0 m c) (A1 m c) (A2 m c) (A3 m c) (ix2 (row t r) f) := by
  rw [ref31]
  by_cases h0 : t.val % 8 = 0
  · rw [outsAt0_A m c t h0]; dsimp only; rw [outA5]; simp only [iblk0, iblk2, iblk3, iblk4]
  · rw [outsAt0_B m c t h0]; dsimp only; rw [outB5]; simp only [iblk0, iblk2, iblk3, iblk4]
theorem pt6 (t : Fin cfg0.N) (r : Fin 512) (d : Fin 1024) : (outsAt0 m c t.val t.isLt).2.1 (ix2 r d) = val_main_v32 (F := Ideal) (A0 m c) (A2 m c) (ix2 (row t r) d) := by
  rw [ref32]
  by_cases h0 : t.val % 8 = 0
  · rw [outsAt0_A m c t h0]; dsimp only; rw [outA6]; simp only [iblk0, iblk2]
  · rw [outsAt0_B m c t h0]; dsimp only; rw [outB6]; simp only [iblk0, iblk2]

/-- A row's part of the gate's gradient. -/
def gateRow (d : Fin 1024) (i : Fin 4096) : EReal := A0 m c (ix2 i d) * (∑ f : Fin 4096, max (A1 m c (ix2 i f)) 0 * max (A1 m c (ix2 i f)) 0 * A3 m c (ix2 f d))

theorem acc7 (t : Fin cfg0.N) (k : Fin 8) (d : Fin 1024) : (outsAt0 m c t.val t.isLt).2.2 (ix2 k d)
    = 0 + ∑ n ∈ Finset.range (t.val + 1), (if h : n < 8 then (if k = 5 then ∑ r : Fin 512, gateRow m c d (row ⟨n, h⟩ r) else 0) else 0) := by
  refine Pipeline.eq_sum_of_reset_step_apply_single (N := cfg0.N) (fun n h (x : Fin 8 × Fin 1024) => (outsAt0 m c n h).2.2 (ix2 x.1 x.2)) 8 (fun _ => (0 : EReal))
    (fun n x => if h : n < 8 then (if x.1 = 5 then ∑ r : Fin 512, gateRow m c x.2 (row ⟨n, h⟩ r) else 0) else 0) (fun t h x => ?_) (fun t h x => ?_) (by decide) t (k, d)
  · have ht : t.val < 8 := t.isLt
    rw [outsAt0_A m c t h, dif_pos ht]; dsimp only; rw [outA7, zero_add]; simp only [iblk0, iblk1]; rfl
  · have ht : t.val < 8 := t.isLt
    rw [outsAt0_B m c t h, dif_pos ht]; dsimp only; rw [outB7]; simp only [iblk0, iblk1]
    by_cases hk : x.1 = 5
    · rw [if_pos hk, if_pos hk, hk]; rfl
    · rw [if_neg hk, if_neg hk, add_zero]

/-- The gradient of the first product's result. -/
theorem arr5 : (dats m 0 c).arrAt 5 cfg0.N = val_main_v31 (F := Ideal) (A0 m c) (A1 m c) (A2 m c) (A3 m c) := by
  refine (dats m 0 c).arrAt_eq_of_covers 5 _ (by decide +kernel) fun t hf y => ?_
  rw [after0_5]
  blk_simp [cidx5]
  have hy : (y 0).val < 512 := (y 0).isLt
  have ht : t.val < 8 := t.isLt
  have e : (win0_5.blk t).view.emb y = (@ix2 4096 4096 ⟨512 * t.val + (y 0).val, by omega⟩ (y 1) : S4096x4096.Idx) := by blk_ext [cidx5]
  rw [e]
  exact (congrArg _ (eq_ix2 y)).trans (pt5 m c t (y 0) (y 1))
/-- The gradient of the block's output. -/
theorem arr6 : (dats m 0 c).arrAt 6 cfg0.N = val_main_v32 (F := Ideal) (A0 m c) (A2 m c) := by
  refine (dats m 0 c).arrAt_eq_of_covers 6 _ (by decide +kernel) fun t hf y => ?_
  rw [after0_6]
  blk_simp [cidx6]
  have hy : (y 0).val < 512 := (y 0).isLt
  have ht : t.val < 8 := t.isLt
  have e : (win0_6.blk t).view.emb y = (@ix2 4096 1024 ⟨512 * t.val + (y 0).val, by omega⟩ (y 1) : S4096x1024.Idx) := by blk_ext [cidx6]
  rw [e]
  exact (congrArg _ (eq_ix2 y)).trans (pt6 m c t (y 0) (y 1))
/-- The rows of sums: the gate's gradient in its row. -/
theorem last7 (t : Fin cfg0.N) (ht : t.val = 7) (k : Fin 8) (d : Fin 1024) : (outsAt0 m c t.val t.isLt).2.2 (ix2 k d) = val_main_v34 (F := Ideal) (A0 m c) (A1 m c) (A3 m c) (ix2 k d) := by
  rw [acc7, zero_add, ht, Finset.sum_range, ref34]
  by_cases hk : k = 5
  · simp only [if_pos hk]
    refine Eq.trans (Finset.sum_congr rfl fun n _ => dif_pos n.isLt) (sum_rows (gateRow m c d))
  · simp only [if_neg hk, dite_eq_ite, ite_self, Finset.sum_const_zero]
theorem arr7 : (dats m 0 c).arrAt 7 cfg0.N = val_main_v34 (F := Ideal) (A0 m c) (A1 m c) (A3 m c) := by
  refine (dats m 0 c).arrAt_eq_of_covers 7 _ (by decide +kernel) fun t hf y => ?_
  rw [after0_7]
  blk_simp [cidx7]
  have ht : t.val = 7 := by
    have h1 := (flush0_7 t).mp hf
    have h2 : t.val < 8 := t.isLt
    omega
  have e : (win0_7.blk t).view.emb y = y := by blk_ext [cidx7]
  rw [e]
  exact (congrArg _ (eq_ix2 y)).trans ((last7 m c t ht (y 0) (y 1)).trans (congrArg _ (eq_ix2 y).symm))
end Cert.KDownIdeal.Body
-- ==== Proof.Up1.lean ====
module
public import proofs.«01_k».proof.Proof.Gen.KUpIdeal.Frame
public import proofs.«01_k».proof.Proof.Rows
@[expose] public section
noncomputable section
namespace Cert.KUpIdeal.Body
open Cert.Rows Cert.KUpIdeal Cert.KUpIdeal.Gen Idealize.ShloMosaic Idealize.ShloMosaic.TcCoe Idealize.SL.Sem
set_option maxRecDepth 16384
variable (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S6x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S8x1024 .f32) (harg8 : arg8.IsWhole)

variable (x0 : Vec Ideal S512x4096 .bf16) (x1 : Vec Ideal S1024x4096 .bf16) (x2 : Vec Ideal S512x1024 .f32) (x3 : Vec Ideal S512x1024 .f32) (x4 : Vec Ideal S6x1024 .f32) (x5 : Vec Ideal S1x1024 .f32)

/-- A tile's gradient of the modulated rows. -/
def tDh (x0 : Vec Ideal S512x4096 .bf16) (x1 : Vec Ideal S1024x4096 .bf16) (r : Fin 512) (d : Fin 1024) : EReal := ∑ f : Fin 4096, x0 (ix2 r f) * x1 (ix2 d f)
/-- A tile's reciprocal root of the mean square. -/
def tR (x2 : Vec Ideal S512x1024 .f32) (r : Fin 512) : EReal :=
  Ideal.rsqrt (Ideal.div (∑ d : Fin 1024, x2 (ix2 r d) * x2 (ix2 r d)) (Ideal.ofBits .f32 0x44800000#32) + Ideal.ofBits .f32 0x358637BD#32)
/-- A tile's normalised rows. -/
def tN (x2 : Vec Ideal S512x1024 .f32) (r : Fin 512) (d : Fin 1024) : EReal := x2 (ix2 r d) * tR x2 r
/-- A tile's gradient of its rows. -/
def tDx (x0 : Vec Ideal S512x4096 .bf16) (x1 : Vec Ideal S1024x4096 .bf16) (x2 : Vec Ideal S512x1024 .f32) (x3 : Vec Ideal S512x1024 .f32) (x4 : Vec Ideal S6x1024 .f32) (x5 : Vec Ideal S1x1024 .f32) (r : Fin 512) (d : Fin 1024) : EReal :=
  x3 (ix2 r d) + tR x2 r * (tDh x0 x1 r d * (x5 (ix2 0 d) * (1 + x4 (ix2 4 d)))
    - tN x2 r d * Ideal.div (∑ e : Fin 1024, tDh x0 x1 r e * (x5 (ix2 0 e) * (1 + x4 (ix2 4 e))) * tN x2 r e) (Ideal.ofBits .f32 0x44800000#32))
/-- A tile's part of the rows of sums. -/
def tSt (x0 : Vec Ideal S512x4096 .bf16) (x1 : Vec Ideal S1024x4096 .bf16) (x2 : Vec Ideal S512x1024 .f32) (x4 : Vec Ideal S6x1024 .f32) (x5 : Vec Ideal S1x1024 .f32) (k : Fin 8) (d : Fin 1024) : EReal :=
  if k = 6 then (∑ r : Fin 512, tDh x0 x1 r d * tN x2 r d) * (1 + x4 (ix2 4 d))
  else if k = 4 then (∑ r : Fin 512, tDh x0 x1 r d * tN x2 r d) * x5 (ix2 0 d)
  else if k = 3 then ∑ r : Fin 512, tDh x0 x1 r d else 0

theorem outA6 (hc0 : cond0_0 i) (r : Fin 512) (d : Fin 1024) : out0_A_6 (F := Ideal) c i arg1 harg1 arg2 harg2 arg3 harg3 arg4 harg4 arg5 harg5 arg6 harg6 arg7 harg7 arg8 harg8 hc0 x0 x1 x2 x3 x4 x5 (ix2 r d) = tDx x0 x1 x2 x3 x4 x5 r d := by
  frame_out
  pointwise [k0_pay3, k0_pay5, k0_pay6, k0_pay7, k0_pay8]
  rfl
theorem outB6 (hc0 : ¬cond0_0 i) (xo7 : Vec Ideal S8x1024 .f32) (r : Fin 512) (d : Fin 1024) : out0_B_6 (F := Ideal) c i arg1 harg1 arg2 harg2 arg3 harg3 arg4 harg4 arg5 harg5 arg6 harg6 arg7 harg7 arg8 harg8 hc0 x0 x1 x2 x3 x4 x5 xo7 (ix2 r d) = tDx x0 x1 x2 x3 x4 x5 r d := by
  frame_out
  pointwise [k0_pay3, k0_pay5, k0_pay6, k0_pay7, k0_pay8]
  rfl

theorem pay1_at (w : Vec Ideal S1x1024 .f32) (d : Fin 1024) : k0_pay1 (F := Ideal) x5 (k0_pay9 x0 x1 x2) w (ix2 0 d) = w (ix2 0 d) + (∑ r : Fin 512, tDh x0 x1 r d * tN x2 r d) * x5 (ix2 0 d) := by
  pointwise [k0_pay1, k0_pay2, k0_pay5, k0_pay6, k0_pay7, k0_pay8, k0_pay9, k0_pay10]
  rfl
theorem pay2_at (w : Vec Ideal S1x1024 .f32) (d : Fin 1024) : k0_pay2 (F := Ideal) (k0_pay8 (View.ld x4 (Rect.unit ![4, 0] ![1, 1024] inb_S6x1024_S1x1024_4_0))) (k0_pay9 x0 x1 x2) w (ix2 0 d) = w (ix2 0 d) + (∑ r : Fin 512, tDh x0 x1 r d * tN x2 r d) * (1 + x4 (ix2 4 d)) := by
  pointwise [k0_pay1, k0_pay2, k0_pay5, k0_pay6, k0_pay7, k0_pay8, k0_pay9, k0_pay10]
  rfl
theorem pay10_at (w : Vec Ideal S1x1024 .f32) (d : Fin 1024) : k0_pay10 (F := Ideal) x0 x1 w (ix2 0 d) = w (ix2 0 d) + ∑ r : Fin 512, tDh x0 x1 r d := by
  pointwise [k0_pay1, k0_pay2, k0_pay5, k0_pay6, k0_pay7, k0_pay8, k0_pay9, k0_pay10]
  rfl
theorem pay4_at (z : S8x1024.Idx) : k0_pay4 (F := Ideal) z = 0 := by
  pointwise [k0_pay4]

theorem outA7 (hc0 : cond0_0 i) (k : Fin 8) (d : Fin 1024) : out0_A_7 (F := Ideal) c i arg1 harg1 arg2 harg2 arg3 harg3 arg4 harg4 arg5 harg5 arg6 harg6 arg7 harg7 arg8 harg8 hc0 x0 x1 x2 x3 x4 x5 (ix2 k d) = tSt x0 x1 x2 x4 x5 k d := by
  frame_out
  have e (o : Fin 8) : (k.val = o.val) = (k = o) := propext ⟨fun h => Fin.ext h, fun h => h ▸ rfl⟩
  have n43 : ¬(((4 : Fin 8) : ℕ) = 3) := by decide
  have n64 : ¬(((6 : Fin 8) : ℕ) = 4) := by decide
  have n63 : ¬(((6 : Fin 8) : ℕ) = 3) := by decide
  rw [canon_row, canon_row, canon_row, canon_all, pay2_at, pay1_at, pay10_at, cov_row _ _ 6 _ 6 rfl, canon_row, canon_row, canon_all,
    cov_row _ _ 4 _ 4 rfl, canon_row, canon_all, cov_row _ _ 3 _ 3 rfl, canon_all]
  simp only [if_neg n43, if_neg n64, if_neg n63, pay4_at, zero_add]
  unfold tSt
  exact if_congr (iff_of_eq (e 6)) rfl (if_congr (iff_of_eq (e 4)) rfl (if_congr (iff_of_eq (e 3)) rfl rfl))
theorem outB7 (hc0 : ¬cond0_0 i) (xo7 : Vec Ideal S8x1024 .f32) (k : Fin 8) (d : Fin 1024) : out0_B_7 (F := Ideal) c i arg1 harg1 arg2 harg2 arg3 harg3 arg4 harg4 arg5 harg5 arg6 harg6 arg7 harg7 arg8 harg8 hc0 x0 x1 x2 x3 x4 x5 xo7 (ix2 k d) = xo7 (ix2 k d) + tSt x0 x1 x2 x4 x5 k d := by
  frame_out
  have e (o : Fin 8) : (k.val = o.val) = (k = o) := propext ⟨fun h => Fin.ext h, fun h => h ▸ rfl⟩
  rw [read_row, read_row, read_row, View.writes_nil, harg8.read_unread, pay2_at, pay1_at, pay10_at, ld_row _ 6 _ 6 rfl, ld_row _ 4 _ 4 rfl, ld_row _ 3 _ 3 rfl]
  unfold tSt
  refine (if_congr (iff_of_eq (e 6)) rfl (if_congr (iff_of_eq (e 4)) rfl (if_congr (iff_of_eq (e 3)) rfl rfl))).trans ?_
  by_cases h6 : k = 6
  · rw [if_pos h6, if_pos h6, h6]
  by_cases h4 : k = 4
  · rw [if_neg h6, if_neg h6, if_pos h4, if_pos h4, h4]
  by_cases h3 : k = 3
  · rw [if_neg h6, if_neg h6, if_neg h4, if_neg h4, if_pos h3, if_pos h3, h3]
  · rw [if_neg h6, if_neg h6, if_neg h4, if_neg h4, if_neg h3, if_neg h3, add_zero]
end Cert.KUpIdeal.Body
-- ==== Proof.Pre.lean ====
module
public import proofs.«01_k».proof.Defs
public import proofs.«01_k».proof.Proof.Ref
public import Idealize.ShloMosaic.Lib.ReduceAll
public import Idealize.ShloMosaic.Lib.Affine
@[expose] public section
noncomputable section
namespace Cert.ReferenceIdeal.Math
open Cert.ReferenceIdeal Cert.ReferenceIdeal.Read Idealize.ShloMosaic
set_option maxRecDepth 16384

theorem pre_facts : Cert.Pre_finite.Facts := ⟨by decide, by decide, by decide, by decide, by decide, by decide, by decide, by decide, by decide⟩

theorem inf_eq : Ideal.ofBits .f32 2139095040#32 = ⊤ := by
  show Ideal.ieee 8 23 2139095040#32 = ⊤
  unfold Ideal.ieee
  have h1 : (BitVec.extractLsb' 23 8 (2139095040#32)).toNat = 2 ^ 8 - 1 := by decide
  have h2 : (BitVec.extractLsb' 0 23 (2139095040#32)).toNat = 0 := by decide
  have h3 : (BitVec.extractLsb' (8+23) 1 (2139095040#32) == 1#1) = false := by decide
  simp [h1, h2, h3]
/-- A literal whose exponent is not the infinities' is a real number. -/
theorem lit_real (b : BitVec 32) (h : ¬ (BitVec.extractLsb' 23 8 b).toNat = 2 ^ 8 - 1) : ∃ r : ℝ, Ideal.ofBits .f32 b = ((r : ℝ) : EReal) := by
  show ∃ r : ℝ, Ideal.ieee 8 23 b = _
  unfold Ideal.ieee
  simp only [h, if_false]
  split <;> exact ⟨_, rfl⟩
/-- A number whose absolute value is below infinity is a real number. -/
theorem real_of_fin (x : EReal) (h : Ideal.cmp .olt (max x (-x)) ⊤ = 1#1) : ∃ r : ℝ, x = ((r : ℝ) : EReal) := by
  induction x using EReal.rec with
  | bot => exfalso; revert h; simp [Ideal.cmp]
  | top => exfalso; revert h; simp [Ideal.cmp]
  | coe r => exact ⟨r, rfl⟩

theorem lit64 : Ideal.ofBits .f32 1115684864#32 = ((64 : ℝ) : EReal) := by
  have h1 : ¬ (BitVec.extractLsb' 23 8 (1115684864#32)).toNat = 2 ^ 8 - 1 := by decide
  have h2 : ¬ (BitVec.extractLsb' 23 8 (1115684864#32)).toNat = 0 := by decide
  have h3 : (BitVec.extractLsb' 23 8 (1115684864#32)).toNat = 133 := by decide
  have h4 : (BitVec.extractLsb' 0 23 (1115684864#32)).toNat = 0 := by decide
  have h5 : (BitVec.extractLsb' (8+23) 1 (1115684864#32) == 1#1) = false := by decide
  show Ideal.ieee 8 23 1115684864#32 = _
  unfold Ideal.ieee
  simp only [h1, h2, h3, h4, h5]
  norm_num

theorem pre_real (x0 : (⟨S4096x16x192, .f32⟩ : BufTy).Contents (Elt Ideal)) (x1 : (⟨S4096x16x256, .f32⟩ : BufTy).Contents (Elt Ideal)) (x2 : (⟨S4096x64, .f32⟩ : BufTy).Contents (Elt Ideal)) (x3 : (⟨S4096, .i32⟩ : BufTy).Contents (Elt Ideal)) (x4 : (⟨S4096x2048, .f32⟩ : BufTy).Contents (Elt Ideal))
    (h : (letI := pre_facts; Cert.Pre_finite.fn (F := Ideal) x0 x1 x2 x3 x4) = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal)) ∧ (∀ i, ∃ r : ℝ, x4 i = ((r : ℝ) : EReal)) := by
  have e := congrFun h (Shape.Idx.first Gen.h_S_)
  dsimp only [Cert.Pre_finite.fn, Cert.Pre_finite.fn_part1] at e
  simp only [WordCmp.andi_at, IntOp.andi_eq_one] at e
  obtain ⟨⟨⟨e1, e2⟩, e3⟩, e4⟩ := e
  refine ⟨fun i => real_of_fin _ ?_, fun i => real_of_fin _ ?_, fun i => real_of_fin _ ?_, fun i => real_of_fin _ ?_⟩ <;> rw [← inf_eq]
  · exact Host.reduce_andi_all _ _ _ _ _ e1 i
  · exact Host.reduce_andi_all _ _ _ _ _ e2 i
  · exact Host.reduce_andi_all _ _ _ _ _ e3 i
  · exact Host.reduce_andi_all _ _ _ _ _ e4 i

theorem angle_real (p a b n : ℝ) : ∃ r : ℝ, (p : EReal) * Ideal.pow (a : EReal) (Ideal.div (-((b : EReal) * (n : EReal))) ((64 : ℝ) : EReal)) = ((r : ℝ) : EReal) :=
  ⟨p * Real.rpow a (-(b * n) / 64), by rw [← EReal.coe_mul, ← EReal.coe_neg, div_r _ _ (by norm_num), Ideal.pow_coe_coe, ← EReal.coe_mul]⟩

theorem cos_real (x3 : (⟨S4096, .i32⟩ : BufTy).Contents (Elt Ideal)) (i : Fin 4096) (l : Fin 32) : ∃ r : ℝ, val_main_v19 (F := Ideal) x3 (ix2 i l) = ((r : ℝ) : EReal) := by
  pointwise [val_main_v19, val_main_v17, val_main_v15, val_main_v14, val_main_v18, val_main_v16, val_main_v13, val_main_v12, val_main_v11, val_main_v10, val_main_v9, val_main_v8, val_main_v7, val_main_v6, val_main_v5, val_main_v4, val_main_cst, val_main_cst_0, val_main_cst_1, val_main_cst_2]
  obtain ⟨a, ha⟩ := lit_real 1176256512#32 (by decide)
  obtain ⟨b, hb⟩ := lit_real 1073741824#32 (by decide)
  rw [ha, hb, lit64]
  exact angle_real _ _ _ _

/-- The finite arguments, as real arrays. -/
def mkReals (x0 : (⟨S4096x16x192, .f32⟩ : BufTy).Contents (Elt Ideal)) (x1 : (⟨S4096x16x256, .f32⟩ : BufTy).Contents (Elt Ideal)) (x2 : (⟨S4096x64, .f32⟩ : BufTy).Contents (Elt Ideal)) (x3 : (⟨S4096, .i32⟩ : BufTy).Contents (Elt Ideal)) (x4 : (⟨S4096x2048, .f32⟩ : BufTy).Contents (Elt Ideal))
    (h : (letI := pre_facts; Cert.Pre_finite.fn (F := Ideal) x0 x1 x2 x3 x4) = fun _ => 1#1) : Reals x0 x1 x2 x3 x4 where
  q i h' d := ((pre_real x0 x1 x2 x3 x4 h).1 (ix3 i h' d)).choose
  kv i h' d := ((pre_real x0 x1 x2 x3 x4 h).2.1 (ix3 i h' d)).choose
  kr i d := ((pre_real x0 x1 x2 x3 x4 h).2.2.1 (ix2 i d)).choose
  dO i d := ((pre_real x0 x1 x2 x3 x4 h).2.2.2 (ix2 i d)).choose
  C i l := Real.cos (cos_real x3 i l).choose
  S i l := Real.sin (cos_real x3 i l).choose
  hq i h' d := ((pre_real x0 x1 x2 x3 x4 h).1 (ix3 i h' d)).choose_spec
  hkv i h' d := ((pre_real x0 x1 x2 x3 x4 h).2.1 (ix3 i h' d)).choose_spec
  hkr i d := ((pre_real x0 x1 x2 x3 x4 h).2.2.1 (ix2 i d)).choose_spec
  hdO i d := ((pre_real x0 x1 x2 x3 x4 h).2.2.2 (ix2 i d)).choose_spec
  hC i l := by
    exact congrArg Ideal.cos (cos_real x3 i l).choose_spec
  hS i l := by
    exact congrArg Ideal.sin (cos_real x3 i l).choose_spec
end Cert.ReferenceIdeal.Math
-- ==== Proof.Up2.lean ====
module
public import proofs.«01_k».proof.Defs
public import proofs.«01_k».proof.Proof.Gen.RUpIdeal.Read
public import proofs.«01_k».proof.Proof.Pre
@[expose] public section
noncomputable section
namespace Cert.RUpIdeal.Math
open Cert.RUpIdeal Cert.RUpIdeal.Read Idealize.ShloMosaic
open Cert.ReferenceIdeal.Math (csum div_r real_of_fin inf_eq)
set_option maxRecDepth 16384

theorem lit1024 : Ideal.ofBits .f32 1149239296#32 = ((1024 : ℝ) : EReal) := by
  have h1 : ¬ (BitVec.extractLsb' 23 8 (1149239296#32)).toNat = 2 ^ 8 - 1 := by decide
  have h2 : ¬ (BitVec.extractLsb' 23 8 (1149239296#32)).toNat = 0 := by decide
  have h3 : (BitVec.extractLsb' 23 8 (1149239296#32)).toNat = 137 := by decide
  have h4 : (BitVec.extractLsb' 0 23 (1149239296#32)).toNat = 0 := by decide
  have h5 : (BitVec.extractLsb' (8+23) 1 (1149239296#32) == 1#1) = false := by decide
  show Ideal.ieee 8 23 1149239296#32 = _
  unfold Ideal.ieee
  simp only [h1, h2, h3, h4, h5]
  norm_num
theorem litHalf : Ideal.ofBits .f32 3204448256#32 = ((-(1 / 2) : ℝ) : EReal) := by
  have h1 : ¬ (BitVec.extractLsb' 23 8 (3204448256#32)).toNat = 2 ^ 8 - 1 := by decide
  have h2 : ¬ (BitVec.extractLsb' 23 8 (3204448256#32)).toNat = 0 := by decide
  have h3 : (BitVec.extractLsb' 23 8 (3204448256#32)).toNat = 126 := by decide
  have h4 : (BitVec.extractLsb' 0 23 (3204448256#32)).toNat = 0 := by decide
  have h5 : (BitVec.extractLsb' (8+23) 1 (3204448256#32) == 1#1) = true := by decide
  show Ideal.ieee 8 23 3204448256#32 = _
  unfold Ideal.ieee
  simp only [h1, h2, h3, h4, h5]
  norm_num
theorem litEps : ∃ e : ℝ, 0 < e ∧ Ideal.ofBits .f32 897988541#32 = ((e : ℝ) : EReal) := by
  have h1 : ¬ (BitVec.extractLsb' 23 8 (897988541#32)).toNat = 2 ^ 8 - 1 := by decide
  have h2 : ¬ (BitVec.extractLsb' 23 8 (897988541#32)).toNat = 0 := by decide
  have h3 : (BitVec.extractLsb' 23 8 (897988541#32)).toNat = 107 := by decide
  have h4 : (BitVec.extractLsb' 0 23 (897988541#32)).toNat = 407485 := by decide
  have h5 : (BitVec.extractLsb' (8+23) 1 (897988541#32) == 1#1) = false := by decide
  show ∃ e : ℝ, 0 < e ∧ Ideal.ieee 8 23 897988541#32 = _
  unfold Ideal.ieee
  simp only [h1, h2, h3, h4, h5]
  refine ⟨_, ?_, rfl⟩
  norm_num

variable (x0 : (⟨S4096x4096, .f32⟩ : BufTy).Contents (Elt Ideal)) (x1 : (⟨S1024x4096, .f32⟩ : BufTy).Contents (Elt Ideal)) (x2 : (⟨S4096x1024, .f32⟩ : BufTy).Contents (Elt Ideal)) (x3 : (⟨S4096x1024, .f32⟩ : BufTy).Contents (Elt Ideal)) (x4 : (⟨S6x1024, .f32⟩ : BufTy).Contents (Elt Ideal)) (x5 : (⟨S1x1024, .f32⟩ : BufTy).Contents (Elt Ideal))

/-- The gradient of the modulated rows. -/
def gDh (i : Fin 4096) (d : Fin 1024) : EReal := ∑ f : Fin 4096, x0 (ix2 i f) * x1 (ix2 d f)
/-- A row's mean square and epsilon. -/
def gA (i : Fin 4096) : EReal := Ideal.div (∑ d : Fin 1024, x2 (ix2 i d) * x2 (ix2 i d)) (Ideal.ofBits .f32 0x44800000#32) + Ideal.ofBits .f32 0x358637BD#32
/-- The part of a row's gradient that comes through its mean square, halved. -/
def gS (i : Fin 4096) : EReal :=
  Ideal.div ((∑ d : Fin 1024, x2 (ix2 i d) * (gDh x0 x1 i d * (1 + x4 (ix2 4 d)) * x5 (ix2 0 d))) * (Ideal.ofBits .f32 0xBF000000#32 * Ideal.div (Ideal.rsqrt (gA x2 i)) (gA x2 i)))
    (Ideal.ofBits .f32 0x44800000#32)

theorem ref55 (i : Fin 4096) (d : Fin 1024) : val_main_v55 (F := Ideal) x0 x1 x2 x3 x4 x5 (ix2 i d)
    = x3 (ix2 i d) + gDh x0 x1 i d * (1 + x4 (ix2 4 d)) * x5 (ix2 0 d) * Ideal.rsqrt (gA x2 i)
      + x2 (ix2 i d) * (∑ _e : Fin 1, gS x0 x1 x2 x4 x5 i) + (∑ _e : Fin 1, gS x0 x1 x2 x4 x5 i) * x2 (ix2 i d) := by
  pointwise [val_main_v55, val_main_v54, val_main_v53, val_main_v52, val_main_v51, val_main_v50, val_main_cst_9, val_main_v49, val_main_v48, val_main_cst_8, val_main_v47, val_main_v46, val_main_v45, val_main_v44, val_main_v43, val_main_v42, val_main_cst_7, val_main_v41, val_main_v40, val_main_v39, val_main_v35, val_main_v34, val_main_v28, val_main_v22, val_main_v21, val_main_cst_3, val_main_v4, val_main_v16, val_main_v15, val_main_cst_2, val_main_v14, val_main_v13, val_main_v12, val_main_v11, val_main_cst_1, val_main_v10, val_main_v9, val_main_cst_0, val_main_v8, val_main_v7, val_main_cst, val_main_v6]
  rfl
theorem ref62 (k : Fin 8) (d : Fin 1024) : val_main_v62 (F := Ideal) x0 x1 x2 x4 x5 (ix2 k d)
    = if k = 6 then ∑ i : Fin 4096, x2 (ix2 i d) * Ideal.rsqrt (gA x2 i) * (gDh x0 x1 i d * (1 + x4 (ix2 4 d)))
      else if k = 4 then ∑ i : Fin 4096, x2 (ix2 i d) * Ideal.rsqrt (gA x2 i) * x5 (ix2 0 d) * gDh x0 x1 i d
      else if k = 3 then ∑ i : Fin 4096, gDh x0 x1 i d else 0 := by
  unfold gDh gA
  fin_cases k
  all_goals
    pointwise [val_main_v62, val_main_v61, val_main_cst_14, val_main_v60, val_main_v59, val_main_v58, val_main_v57, val_main_v56, val_main_cst_10, val_main_cst_11, val_main_cst_12, val_main_cst_13, val_main_v38, val_main_v37, val_main_cst_6, val_main_v36, val_main_v35, val_main_v34, val_main_v33, val_main_v32, val_main_cst_5, val_main_v31, val_main_v30, val_main_v29, val_main_cst_4, val_main_v28, val_main_v22, val_main_v21, val_main_cst_3, val_main_v4, val_main_v20, val_main_v19, val_main_v18, val_main_v17, val_main_v13, val_main_v12, val_main_v11, val_main_cst_1, val_main_v10, val_main_v9, val_main_cst_0, val_main_v8, val_main_v7, val_main_cst, val_main_v6]

/-- The arguments that the norm, the scale or the product reads, as real arrays. -/
structure Reals where
  da : Fin 4096 → Fin 4096 → ℝ
  w : Fin 1024 → Fin 4096 → ℝ
  x : Fin 4096 → Fin 1024 → ℝ
  sc : Fin 1024 → ℝ
  gn : Fin 1024 → ℝ
  hda : ∀ i f, x0 (ix2 i f) = ((da i f : ℝ) : EReal)
  hw : ∀ d f, x1 (ix2 d f) = ((w d f : ℝ) : EReal)
  hx : ∀ i d, x2 (ix2 i d) = ((x i d : ℝ) : EReal)
  hsc : ∀ d, x4 (ix2 4 d) = ((sc d : ℝ) : EReal)
  hgn : ∀ d, x5 (ix2 0 d) = ((gn d : ℝ) : EReal)

variable {x0 x1 x2 x3 x4 x5} (D : Reals x0 x1 x2 x4 x5)

/-- The small number added to a mean square. -/
def eps : ℝ := litEps.choose
theorem eps_pos : 0 < eps := litEps.choose_spec.1
theorem eps_eq : Ideal.ofBits .f32 897988541#32 = ((eps : ℝ) : EReal) := litEps.choose_spec.2
/-- The real gradient of the modulated rows. -/
def Reals.dh (i : Fin 4096) (d : Fin 1024) : ℝ := ∑ f, D.da i f * D.w d f
/-- The real mean square and epsilon. -/
def Reals.a (i : Fin 4096) : ℝ := (∑ d, D.x i d * D.x i d) / 1024 + eps
/-- The real reciprocal root. -/
def Reals.r (i : Fin 4096) : ℝ := (√(D.a i))⁻¹
theorem Reals.a_pos (i : Fin 4096) : 0 < D.a i :=
  add_pos_of_nonneg_of_pos (div_nonneg (Finset.sum_nonneg fun d _ => mul_self_nonneg _) (by norm_num)) eps_pos
theorem Reals.r_sq (i : Fin 4096) : D.r i * D.r i * D.a i = 1 := by
  have h := Real.mul_self_sqrt (D.a_pos i).le
  have hs : √(D.a i) ≠ 0 := (Real.sqrt_pos.mpr (D.a_pos i)).ne'
  unfold Reals.r
  nth_rewrite 3 [← h]
  field_simp
theorem Reals.dh_eq (i : Fin 4096) (d : Fin 1024) : gDh x0 x1 i d = ((D.dh i d : ℝ) : EReal) := by
  simp only [gDh, D.hda, D.hw, ← EReal.coe_mul, csum]
  rfl
theorem Reals.a_eq (i : Fin 4096) : gA x2 i = ((D.a i : ℝ) : EReal) := by
  simp only [gA, D.hx, lit1024, eps_eq, ← EReal.coe_mul, csum]
  rw [div_r _ _ (by norm_num), ← EReal.coe_add]
  rfl
theorem Reals.r_eq (i : Fin 4096) : Ideal.rsqrt ((D.a i : ℝ) : EReal) = ((D.r i : ℝ) : EReal) := by
  rw [Ideal.rsqrt_coe, if_neg (D.a_pos i).not_gt, if_neg (D.a_pos i).ne']
  rfl
theorem Reals.sc_eq (d : Fin 1024) : (1 : EReal) + x4 (ix2 4 d) = ((1 + D.sc d : ℝ) : EReal) := by
  rw [D.hsc, EReal.coe_add, EReal.coe_one]
/-- What a row's gradient gains here. -/
def Reals.dxi (i : Fin 4096) (d : Fin 1024) : ℝ :=
  D.r i * (D.dh i d * (D.gn d * (1 + D.sc d)) - D.x i d * D.r i * ((∑ e, D.dh i e * (D.gn e * (1 + D.sc e)) * (D.x i e * D.r i)) / 1024))
/-- The real rows of sums. -/
def Reals.st (k : Fin 8) (d : Fin 1024) : ℝ :=
  if k = 6 then (∑ i, D.dh i d * (D.x i d * D.r i)) * (1 + D.sc d)
  else if k = 4 then (∑ i, D.dh i d * (D.x i d * D.r i)) * D.gn d
  else if k = 3 then ∑ i, D.dh i d else 0

theorem Reals.ref55 (i : Fin 4096) (d : Fin 1024) : val_main_v55 (F := Ideal) x0 x1 x2 x3 x4 x5 (ix2 i d) = x3 (ix2 i d) + ((D.dxi i d : ℝ) : EReal) := by
  have ha := (D.a_pos i).ne'
  have hq := D.r_sq i
  rw [Math.ref55, Fin.sum_univ_one]
  simp only [gS, D.r_eq, D.a_eq, D.dh_eq, D.hx, D.sc_eq, D.hgn, lit1024, litHalf, ← EReal.coe_mul, csum, div_r _ _ ha]
  rw [div_r _ _ (by norm_num)]
  simp only [← EReal.coe_mul]
  rw [add_assoc, add_assoc, ← EReal.coe_add, ← EReal.coe_add]
  refine congrArg (fun z : ℝ => x3 (ix2 i d) + ((z : ℝ) : EReal)) ?_
  unfold Reals.dxi
  have e : ∑ e, D.dh i e * (D.gn e * (1 + D.sc e)) * (D.x i e * D.r i) = (∑ e, D.x i e * (D.dh i e * (1 + D.sc e) * D.gn e)) * D.r i := by
    rw [Finset.sum_mul]
    exact Finset.sum_congr rfl fun e _ => by ring
  rw [e]
  generalize ∑ e, D.x i e * (D.dh i e * (1 + D.sc e) * D.gn e) = X
  have hr : D.r i / D.a i = D.r i * (D.r i * D.r i) := by
    rw [div_eq_iff ha]
    linear_combination (-D.r i) * hq
  rw [hr]
  ring
theorem Reals.ref62 (k : Fin 8) (d : Fin 1024) : val_main_v62 (F := Ideal) x0 x1 x2 x4 x5 (ix2 k d) = ((D.st k d : ℝ) : EReal) := by
  rw [Math.ref62]
  simp only [D.r_eq, D.a_eq, D.dh_eq, D.hx, D.sc_eq, D.hgn, ← EReal.coe_mul, csum]
  unfold Reals.st
  split_ifs
  · refine congrArg _ ?_
    rw [Finset.sum_mul]
    exact Finset.sum_congr rfl fun e _ => by ring
  · refine congrArg _ ?_
    rw [Finset.sum_mul]
    exact Finset.sum_congr rfl fun e _ => by ring
  · rfl
  · rfl

theorem pre_facts : Cert.Pre_finite_up.Facts := ⟨by decide, by decide, by decide, by decide, by decide, by decide, by decide, by decide, by decide, by decide⟩

theorem pre_real (x0 x1 x2 x3 x4 x5)
    (h : (letI := pre_facts; Cert.Pre_finite_up.fn (F := Ideal) x0 x1 x2 x3 x4 x5) = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal)) ∧ (∀ d : Fin 1024, ∃ r : ℝ, x4 (ix2 4 d) = ((r : ℝ) : EReal)) ∧ (∀ i, ∃ r : ℝ, x5 i = ((r : ℝ) : EReal)) := by
  have e := congrFun h (Shape.Idx.first Gen.h_S_)
  dsimp only [Cert.Pre_finite_up.fn, Cert.Pre_finite_up.fn_part1] at e
  simp only [WordCmp.andi_at, IntOp.andi_eq_one] at e
  obtain ⟨⟨⟨⟨e0, e1⟩, e2⟩, e4⟩, e5⟩ := e
  refine ⟨fun i => real_of_fin _ ?_, fun i => real_of_fin _ ?_, fun i => real_of_fin _ ?_, fun d => real_of_fin _ ?_, fun i => real_of_fin _ ?_⟩ <;> rw [← inf_eq]
  · exact Host.reduce_andi_all _ _ _ _ _ e0 i
  · exact Host.reduce_andi_all _ _ _ _ _ e1 i
  · exact Host.reduce_andi_all _ _ _ _ _ e2 i
  · have q := Host.reduce_andi_all _ _ _ _ _ e4 (ix2 (0 : Fin 1) d)
    have s : (extractStridedSlice S1x1024 ![4, 0] (x4 : FVec Ideal S6x1024 .f32) pre_facts.slices_S6x1024_S1x1024_4_0 : S1x1024.Idx → EReal) (ix2 (0 : Fin 1) d) = x4 (ix2 4 d) := by
      pointwise []
    rw [← s]
    exact q
  · exact Host.reduce_andi_all _ _ _ _ _ e5 i

/-- The finite arguments, as real arrays. -/
def mkReals (x0 : (⟨S4096x4096, .f32⟩ : BufTy).Contents (Elt Ideal)) (x1 : (⟨S1024x4096, .f32⟩ : BufTy).Contents (Elt Ideal)) (x2 : (⟨S4096x1024, .f32⟩ : BufTy).Contents (Elt Ideal)) (x3 : (⟨S4096x1024, .f32⟩ : BufTy).Contents (Elt Ideal)) (x4 : (⟨S6x1024, .f32⟩ : BufTy).Contents (Elt Ideal)) (x5 : (⟨S1x1024, .f32⟩ : BufTy).Contents (Elt Ideal))
    (h : (letI := pre_facts; Cert.Pre_finite_up.fn (F := Ideal) x0 x1 x2 x3 x4 x5) = fun _ => 1#1) : Reals x0 x1 x2 x4 x5 where
  da i f := ((pre_real x0 x1 x2 x3 x4 x5 h).1 (ix2 i f)).choose
  w d f := ((pre_real x0 x1 x2 x3 x4 x5 h).2.1 (ix2 d f)).choose
  x i d := ((pre_real x0 x1 x2 x3 x4 x5 h).2.2.1 (ix2 i d)).choose
  sc d := ((pre_real x0 x1 x2 x3 x4 x5 h).2.2.2.1 d).choose
  gn d := ((pre_real x0 x1 x2 x3 x4 x5 h).2.2.2.2 (ix2 0 d)).choose
  hda i f := ((pre_real x0 x1 x2 x3 x4 x5 h).1 (ix2 i f)).choose_spec
  hw d f := ((pre_real x0 x1 x2 x3 x4 x5 h).2.1 (ix2 d f)).choose_spec
  hx i d := ((pre_real x0 x1 x2 x3 x4 x5 h).2.2.1 (ix2 i d)).choose_spec
  hsc d := ((pre_real x0 x1 x2 x3 x4 x5 h).2.2.2.1 d).choose_spec
  hgn d := ((pre_real x0 x1 x2 x3 x4 x5 h).2.2.2.2 (ix2 0 d)).choose_spec
end Cert.RUpIdeal.Math
-- ==== Proof.Up3.lean ====
module
public import proofs.«01_k».proof.Proof.Up1
public import proofs.«01_k».proof.Proof.Up2
@[expose] public section
noncomputable section
namespace Cert.KUpIdeal.Body
open Cert.Rows Cert.KUpIdeal Cert.KUpIdeal.Gen Idealize.ShloMosaic Idealize.ShloMosaic.TcCoe Idealize.SL.Sem
open Cert.RUpIdeal.Read Cert.RUpIdeal.Math
open Cert.ReferenceIdeal.Math (csum div_r)
set_option maxRecDepth 16384
variable (m : (ℓ : Loc nD τ sig) → Buf (Elt Ideal) ℓ) (c : Dev nD)

abbrev A0 : (⟨S4096x4096, .f32⟩ : BufTy).Contents (Elt Ideal) := m ((c : Thread nD τ).loc main_arg0)
abbrev A1 : (⟨S1024x4096, .f32⟩ : BufTy).Contents (Elt Ideal) := m ((c : Thread nD τ).loc main_arg1)
abbrev A2 : (⟨S4096x1024, .f32⟩ : BufTy).Contents (Elt Ideal) := m ((c : Thread nD τ).loc main_arg2)
abbrev A3 : (⟨S4096x1024, .f32⟩ : BufTy).Contents (Elt Ideal) := m ((c : Thread nD τ).loc main_arg3)
abbrev A4 : (⟨S6x1024, .f32⟩ : BufTy).Contents (Elt Ideal) := m ((c : Thread nD τ).loc main_arg4)
abbrev A5 : (⟨S1x1024, .f32⟩ : BufTy).Contents (Elt Ideal) := m ((c : Thread nD τ).loc main_arg5)

theorem cidx0 : ∀ t : Fin cfg0.N, win0_0.index t = ![t.val, 0] := by decide +kernel
theorem cidx1 : ∀ t : Fin cfg0.N, win0_1.index t = ![0, 0] := by decide +kernel
theorem cidx2 : ∀ t : Fin cfg0.N, win0_2.index t = ![t.val, 0] := by decide +kernel
theorem cidx3 : ∀ t : Fin cfg0.N, win0_3.index t = ![t.val, 0] := by decide +kernel
theorem cidx4 : ∀ t : Fin cfg0.N, win0_4.index t = ![0, 0] := by decide +kernel
theorem cidx5 : ∀ t : Fin cfg0.N, win0_5.index t = ![0, 0] := by decide +kernel
theorem cidx6 : ∀ t : Fin cfg0.N, win0_6.index t = ![t.val, 0] := by decide +kernel
theorem cidx7 : ∀ t : Fin cfg0.N, win0_7.index t = ![0, 0] := by decide +kernel

/-- What the call is given. -/
theorem hV0 (i : Fin 4096) (f : Fin 4096) : (V m c main_v0 : S4096x4096.Idx → EReal) (ix2 i f) = A0 m c (ix2 i f) := by
  unfold V
  after_reads_at
theorem hV1 (d : Fin 1024) (f : Fin 4096) : (V m c main_v1 : S1024x4096.Idx → EReal) (ix2 d f) = A1 m c (ix2 d f) := by
  unfold V
  after_reads_at
theorem hX2 (i : Fin 4096) (d : Fin 1024) : (V m c main_arg2 : S4096x1024.Idx → EReal) (ix2 i d) = A2 m c (ix2 i d) := by
  unfold V
  after_reads_at
theorem hX3 (i : Fin 4096) (d : Fin 1024) : (V m c main_arg3 : S4096x1024.Idx → EReal) (ix2 i d) = A3 m c (ix2 i d) := by
  unfold V
  after_reads_at
theorem hX4 (k : Fin 6) (d : Fin 1024) : (V m c main_arg4 : S6x1024.Idx → EReal) (ix2 k d) = A4 m c (ix2 k d) := by
  unfold V
  after_reads_at
theorem hX5 (k : Fin 1) (d : Fin 1024) : (V m c main_arg5 : S1x1024.Idx → EReal) (ix2 k d) = A5 m c (ix2 k d) := by
  unfold V
  after_reads_at

/-- Its blocks at a grid point. -/
theorem iblk0 (t : Fin cfg0.N) (r : Fin 512) (f : Fin 4096) : (iblk m c 0 t : S512x4096.Idx → EReal) (ix2 r f) = A0 m c (ix2 (row t r) f) := by
  rw [← hV0]
  blk_ext [iblk, cidx0]
theorem iblk1 (t : Fin cfg0.N) (d : Fin 1024) (f : Fin 4096) : (iblk m c 1 t : S1024x4096.Idx → EReal) (ix2 d f) = A1 m c (ix2 d f) := by
  rw [← hV1]
  blk_ext [iblk, cidx1]
theorem iblk2 (t : Fin cfg0.N) (r : Fin 512) (d : Fin 1024) : (iblk m c 2 t : S512x1024.Idx → EReal) (ix2 r d) = A2 m c (ix2 (row t r) d) := by
  rw [← hX2]
  blk_ext [iblk, cidx2]
theorem iblk3 (t : Fin cfg0.N) (r : Fin 512) (d : Fin 1024) : (iblk m c 3 t : S512x1024.Idx → EReal) (ix2 r d) = A3 m c (ix2 (row t r) d) := by
  rw [← hX3]
  blk_ext [iblk, cidx3]
theorem iblk4 (t : Fin cfg0.N) (k : Fin 6) (d : Fin 1024) : (iblk m c 4 t : S6x1024.Idx → EReal) (ix2 k d) = A4 m c (ix2 k d) := by
  rw [← hX4]
  blk_ext [iblk, cidx4]
theorem iblk5 (t : Fin cfg0.N) (k : Fin 1) (d : Fin 1024) : (iblk m c 5 t : S1x1024.Idx → EReal) (ix2 k d) = A5 m c (ix2 k d) := by
  rw [← hX5]
  blk_ext [iblk, cidx5]

/-- A point's tiles are rows of the arrays. -/
theorem dh_at (t : Fin cfg0.N) (r : Fin 512) (d : Fin 1024) : tDh (iblk m c 0 t) (iblk m c 1 t) r d = gDh (A0 m c) (A1 m c) (row t r) d := by
  unfold tDh gDh
  simp only [iblk0, iblk1]
theorem r_at (t : Fin cfg0.N) (r : Fin 512) : tR (iblk m c 2 t) r = Ideal.rsqrt (gA (A2 m c) (row t r)) := by
  unfold tR gA
  simp only [iblk2]
theorem n_at (t : Fin cfg0.N) (r : Fin 512) (d : Fin 1024) : tN (iblk m c 2 t) r d = A2 m c (ix2 (row t r) d) * Ideal.rsqrt (gA (A2 m c) (row t r)) := by
  unfold tN
  rw [iblk2, r_at]

/-- What a point adds to the rows of sums. -/
def addSt (n : ℕ) (x : Fin 8 × Fin 1024) : EReal :=
  if h : n < 8 then tSt (iblk m c 0 ⟨n, h⟩) (iblk m c 1 ⟨n, h⟩) (iblk m c 2 ⟨n, h⟩) (iblk m c 4 ⟨n, h⟩) (iblk m c 5 ⟨n, h⟩) x.1 x.2 else 0
theorem acc7 (t : Fin cfg0.N) (k : Fin 8) (d : Fin 1024) : (outsAt0 m c t.val t.isLt).2 (ix2 k d) = 0 + ∑ n ∈ Finset.range (t.val + 1), addSt m c n (k, d) := by
  refine Pipeline.eq_sum_of_reset_step_apply_single (N := cfg0.N) (fun n h (x : Fin 8 × Fin 1024) => (outsAt0 m c n h).2 (ix2 x.1 x.2)) 8 (fun _ => (0 : EReal))
    (addSt m c) (fun t h x => ?_) (fun t h x => ?_) (by decide) t (k, d)
  · have ht : t.val < 8 := t.isLt
    rw [outsAt0_A m c t h, addSt, dif_pos ht]; dsimp only; rw [outA7, zero_add]
  · have ht : t.val < 8 := t.isLt
    rw [outsAt0_B m c t h, addSt, dif_pos ht]; dsimp only; rw [outB7]

section Real
variable {m c} (D : Reals (A0 m c) (A1 m c) (A2 m c) (A4 m c) (A5 m c))
include D

theorem dx_at (t : Fin cfg0.N) (r : Fin 512) (d : Fin 1024) :
    tDx (iblk m c 0 t) (iblk m c 1 t) (iblk m c 2 t) (iblk m c 3 t) (iblk m c 4 t) (iblk m c 5 t) r d = A3 m c (ix2 (row t r) d) + ((D.dxi (row t r) d : ℝ) : EReal) := by
  unfold tDx
  simp only [dh_at, n_at, r_at, iblk3, iblk4, iblk5]
  simp only [D.r_eq, D.a_eq, D.dh_eq, D.hx, D.sc_eq, D.hgn, lit1024, ← EReal.coe_mul, csum]
  rw [div_r _ _ (by norm_num)]
  simp only [← EReal.coe_mul, ← EReal.coe_sub]
  rfl
theorem st_at (n : Fin 8) (k : Fin 8) (d : Fin 1024) :
    addSt m c n.val (k, d) = ((if k = 6 then (∑ r : Fin 512, D.dh (row n r) d * (D.x (row n r) d * D.r (row n r))) * (1 + D.sc d)
      else if k = 4 then (∑ r : Fin 512, D.dh (row n r) d * (D.x (row n r) d * D.r (row n r))) * D.gn d
      else if k = 3 then ∑ r : Fin 512, D.dh (row n r) d else 0 : ℝ) : EReal) := by
  rw [addSt, dif_pos n.isLt]
  unfold tSt
  simp only [dh_at, n_at, iblk4, iblk5]
  simp only [D.r_eq, D.a_eq, D.dh_eq, D.hx, D.sc_eq, D.hgn, ← EReal.coe_mul, csum]
  split_ifs <;> rfl

/-- What a point leaves. -/
theorem pt6 (t : Fin cfg0.N) (r : Fin 512) (d : Fin 1024) : (outsAt0 m c t.val t.isLt).1 (ix2 r d) = val_main_v55 (F := Ideal) (A0 m c) (A1 m c) (A2 m c) (A3 m c) (A4 m c) (A5 m c) (ix2 (row t r) d) := by
  rw [D.ref55]
  by_cases h0 : t.val % 8 = 0
  · rw [outsAt0_A m c t h0]; dsimp only; rw [outA6]; exact dx_at D t r d
  · rw [outsAt0_B m c t h0]; dsimp only; rw [outB6]; exact dx_at D t r d
theorem last7 (t : Fin cfg0.N) (ht : t.val = 7) (k : Fin 8) (d : Fin 1024) : (outsAt0 m c t.val t.isLt).2 (ix2 k d) = val_main_v62 (F := Ideal) (A0 m c) (A1 m c) (A2 m c) (A4 m c) (A5 m c) (ix2 k d) := by
  have q (g : Fin 4096 → ℝ) : ∑ n : Fin 8, ∑ r : Fin 512, g (row n r) = ∑ i, g i := by
    have h := sum_rows fun i => ((g i : ℝ) : EReal)
    simp only [csum] at h
    exact EReal.coe_injective h
  rw [acc7, zero_add, ht, Finset.sum_range, D.ref62]
  simp only [st_at D, csum]
  refine congrArg _ ?_
  unfold Reals.st
  by_cases h6 : k = 6
  · simp only [if_pos h6]
    rw [← Finset.sum_mul, q fun i => D.dh i d * (D.x i d * D.r i)]
  by_cases h4 : k = 4
  · simp only [if_neg h6, if_pos h4]
    rw [← Finset.sum_mul, q fun i => D.dh i d * (D.x i d * D.r i)]
  by_cases h3 : k = 3
  · simp only [if_neg h6, if_neg h4, if_pos h3]
    exact q fun i => D.dh i d
  · simp only [if_neg h6, if_neg h4, if_neg h3, Finset.sum_const_zero]

/-- The gradient of the block's rows. -/
theorem arr6 : (dats m 0 c).arrAt 6 cfg0.N = val_main_v55 (F := Ideal) (A0 m c) (A1 m c) (A2 m c) (A3 m c) (A4 m c) (A5 m c) := by
  refine (dats m 0 c).arrAt_eq_of_covers 6 _ (by decide +kernel) fun t hf y => ?_
  rw [after0_6]
  blk_simp [cidx6]
  have hy : (y 0).val < 512 := (y 0).isLt
  have ht : t.val < 8 := t.isLt
  have e : (win0_6.blk t).view.emb y = (@ix2 4096 1024 ⟨512 * t.val + (y 0).val, by omega⟩ (y 1) : S4096x1024.Idx) := by blk_ext [cidx6]
  rw [e]
  exact (congrArg _ (eq_ix2 y)).trans (pt6 D t (y 0) (y 1))
/-- The rows of sums. -/
theorem arr7 : (dats m 0 c).arrAt 7 cfg0.N = val_main_v62 (F := Ideal) (A0 m c) (A1 m c) (A2 m c) (A4 m c) (A5 m c) := by
  refine (dats m 0 c).arrAt_eq_of_covers 7 _ (by decide +kernel) fun t hf y => ?_
  rw [after0_7]
  blk_simp [cidx7]
  have ht : t.val = 7 := by
    have h1 := (flush0_7 t).mp hf
    have h2 : t.val < 8 := t.isLt
    omega
  have e : (win0_7.blk t).view.emb y = y := by blk_ext [cidx7]
  rw [e]
  exact (congrArg _ (eq_ix2 y)).trans ((last7 D t ht (y 0) (y 1)).trans (congrArg _ (eq_ix2 y).symm))
end Real
end Cert.KUpIdeal.Body
-- ==== Proof.Mup.lean ====
module
public import proofs.«01_k».proof.Proof.Gen.KMupIdeal.Frame
public import proofs.«01_k».proof.Proof.Gen.RMupIdeal.Read
public import proofs.«01_k».proof.Proof.Rows
@[expose] public section
noncomputable section
namespace Cert.KMupIdeal.Body
open Cert.Rows Cert.KMupIdeal Cert.KMupIdeal.Gen Idealize.ShloMosaic Idealize.ShloMosaic.TcCoe Idealize.SL.Sem
open Cert.RMupIdeal.Read
set_option maxRecDepth 16384
variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S6x1024, .f32⟩ : BufTy).Contents (Elt Ideal) := m ((c : Thread nD τ).loc main_arg1)
abbrev A2 : (⟨S1x1024, .f32⟩ : BufTy).Contents (Elt Ideal) := m ((c : Thread nD τ).loc main_arg2)
abbrev A3 : (⟨S1024x4096, .f32⟩ : BufTy).Contents (Elt Ideal) := m ((c : Thread nD τ).loc main_arg3)

theorem cidx0 : ∀ t : Fin cfg0.N, win0_0.index t = ![t.val, 0] := by decide +kernel
theorem cidx1 : ∀ t : Fin cfg0.N, win0_1.index t = ![0, 0] := by decide +kernel
theorem cidx2 : ∀ t : Fin cfg0.N, win0_2.index t = ![0, 0] := by decide +kernel
theorem cidx3 : ∀ t : Fin cfg0.N, win0_3.index t = ![0, 0] := by decide +kernel
theorem cidx4 : ∀ t : Fin cfg0.N, win0_4.index t = ![t.val, 0] := by decide +kernel
theorem cidx5 : ∀ t : Fin cfg0.N, win0_5.index t = ![t.val, 0] := by decide +kernel

/-- What the call is given. -/
theorem hX0 (i : Fin 4096) (d : Fin 1024) : (V m c main_arg0 : S4096x1024.Idx → EReal) (ix2 i d) = A0 m c (ix2 i d) := by
  unfold V
  after_reads_at
theorem hX1 (i : Fin 6) (d : Fin 1024) : (V m c main_arg1 : S6x1024.Idx → EReal) (ix2 i d) = A1 m c (ix2 i d) := by
  unfold V
  after_reads_at
theorem hX2 (i : Fin 1) (d : Fin 1024) : (V m c main_arg2 : S1x1024.Idx → EReal) (ix2 i d) = A2 m c (ix2 i d) := by
  unfold V
  after_reads_at
theorem hV0 (i : Fin 1024) (d : Fin 4096) : (V m c main_v0 : S1024x4096.Idx → EReal) (ix2 i d) = A3 m c (ix2 i d) := by
  unfold V
  after_reads_at

/-- Its blocks at a grid point. -/
theorem iblk0 (t : Fin cfg0.N) (i : Fin 512) (d : Fin 1024) : (iblk m c 0 t : S512x1024.Idx → EReal) (ix2 i d) = A0 m c (ix2 (row t i) d) := by
  rw [← hX0]
  blk_ext [iblk, cidx0]
theorem iblk1 (t : Fin cfg0.N) (i : Fin 6) (d : Fin 1024) : (iblk m c 1 t : S6x1024.Idx → EReal) (ix2 i d) = A1 m c (ix2 i d) := by
  rw [← hX1]
  blk_ext [iblk, cidx1]
theorem iblk2 (t : Fin cfg0.N) (i : Fin 1) (d : Fin 1024) : (iblk m c 2 t : S1x1024.Idx → EReal) (ix2 i d) = A2 m c (ix2 i d) := by
  rw [← hX2]
  blk_ext [iblk, cidx2]
theorem iblk3 (t : Fin cfg0.N) (i : Fin 1024) (d : Fin 4096) : (iblk m c 3 t : S1024x4096.Idx → EReal) (ix2 i d) = A3 m c (ix2 i d) := by
  rw [← hV0]
  blk_ext [iblk, cidx3]

/-- A row normalised, scaled and shifted. -/
def hrow (x gn sc sh : Fin 1024 → EReal) (d : Fin 1024) : EReal :=
  x d * Ideal.rsqrt (Ideal.div (∑ e : Fin 1024, x e * x e) (Ideal.ofBits .f32 0x44800000#32) + Ideal.ofBits .f32 0x358637BD#32) * (gn d * (1 + sc d)) + sh d

variable (x0 : Vec Ideal S512x1024 .f32) (x1 : Vec Ideal S6x1024 .f32) (x2 : Vec Ideal S1x1024 .f32) (x3 : Vec Ideal S1024x4096 .bf16)
/-- What a point writes. -/
theorem out4 (r : Fin 512) (d : Fin 1024) : out0_4 x0 x1 x2 x3 (ix2 r d) = hrow (fun e => x0 (ix2 r e)) (fun e => x2 (ix2 0 e)) (fun e => x1 (ix2 4 e)) (fun e => x1 (ix2 3 e)) d := by
  unfold hrow
  frame_out
  pointwise [k0_pay2]
theorem out5 (r : Fin 512) (f : Fin 4096) : out0_5 x0 x1 x2 x3 (ix2 r f) = max (∑ d : Fin 1024, hrow (fun e => x0 (ix2 r e)) (fun e => x2 (ix2 0 e)) (fun e => x1 (ix2 4 e)) (fun e => x1 (ix2 3 e)) d * x3 (ix2 d f)) 0 := by
  unfold hrow
  frame_out
  canon_tiles z h
  all_goals
    idx_vars z
    pointwise [k0_pay1, k0_pay3, k0_pay4, k0_pay2]
    obtain rfl : r = z0 := Fin.ext h0
  · have e : f = ⟨2048 + z1.val, by have := z1.isLt; omega⟩ := Fin.ext h1
    rw [e]
  · have e : f = ⟨z1.val, by have := z1.isLt; omega⟩ := Fin.ext h1
    rw [e]

/-- The reference at an index. -/
theorem ref24 (y0 y1 y2) (i : Fin 4096) (d : Fin 1024) : val_main_v24 (F := Ideal) y0 y1 y2 (ix2 i d)
    = hrow (fun e => y0 (ix2 i e)) (fun e => y2 (ix2 0 e)) (fun e => y1 (ix2 4 e)) (fun e => y1 (ix2 3 e)) d := by
  unfold hrow
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v4, val_main_v3, val_main_cst, val_main_cst_0, val_main_cst_1, val_main_cst_2]
  rw [mul_assoc]
theorem ref27 (y0 y1 y2 y3) (i : Fin 4096) (f : Fin 4096) : val_main_v27 (F := Ideal) y0 y1 y2 y3 (ix2 i f)
    = max (∑ d : Fin 1024, hrow (fun e => y0 (ix2 i e)) (fun e => y2 (ix2 0 e)) (fun e => y1 (ix2 4 e)) (fun e => y1 (ix2 3 e)) d * y3 (ix2 d f)) 0 := by
  have e : ∀ d : Fin 1024, val_main_v23 (F := Ideal) y0 y1 y2 (ix2 i d) = hrow (fun e => y0 (ix2 i e)) (fun e => y2 (ix2 0 e)) (fun e => y1 (ix2 4 e)) (fun e => y1 (ix2 3 e)) d := ref24 y0 y1 y2 i
  pointwise [val_main_v27, val_main_v26, val_main_v25, val_main_call0_v0, val_main_call0_cst]
  simp only [e]

theorem pt4 (t : Fin cfg0.N) (r : Fin 512) (d : Fin 1024) : out0_4 (iblk m c 0 t) (iblk m c 1 t) (iblk m c 2 t) (iblk m c 3 t) (ix2 r d) = val_main_v24 (F := Ideal) (A0 m c) (A1 m c) (A2 m c) (ix2 (row t r) d) := by
  rw [ref24, out4]
  simp only [iblk0, iblk1, iblk2]
theorem pt5 (t : Fin cfg0.N) (r : Fin 512) (f : Fin 4096) : out0_5 (iblk m c 0 t) (iblk m c 1 t) (iblk m c 2 t) (iblk m c 3 t) (ix2 r f) = val_main_v27 (F := Ideal) (A0 m c) (A1 m c) (A2 m c) (A3 m c) (ix2 (row t r) f) := by
  rw [ref27, out5]
  simp only [iblk0, iblk1, iblk2, iblk3]

/-- The modulated rows. -/
theorem arr4 : (dats m 0 c).arrAt 4 cfg0.N = val_main_v24 (F := Ideal) (A0 m c) (A1 m c) (A2 m c) := by
  refine (dats m 0 c).arrAt_eq_of_covers 4 _ (by decide +kernel) fun t hf y => ?_
  rw [after0_4]
  blk_simp [cidx4]
  have hy : (y 0).val < 512 := (y 0).isLt
  have ht : t.val < 8 := t.isLt
  have e : (win0_4.blk t).view.emb y = (@ix2 4096 1024 ⟨512 * t.val + (y 0).val, by omega⟩ (y 1) : S4096x1024.Idx) := by blk_ext [cidx4]
  rw [e]
  exact (congrArg _ (eq_ix2 y)).trans (pt4 m c t (y 0) (y 1))
/-- The first product's positive part. -/
theorem arr5 : (dats m 0 c).arrAt 5 cfg0.N = val_main_v27 (F := Ideal) (A0 m c) (A1 m c) (A2 m c) (A3 m c) := by
  refine (dats m 0 c).arrAt_eq_of_covers 5 _ (by decide +kernel) fun t hf y => ?_
  rw [after0_5]
  blk_simp [cidx5]
  have hy : (y 0).val < 512 := (y 0).isLt
  have ht : t.val < 8 := t.isLt
  have e : (win0_5.blk t).view.emb y = (@ix2 4096 4096 ⟨512 * t.val + (y 0).val, by omega⟩ (y 1) : S4096x4096.Idx) := by blk_ext [cidx5]
  rw [e]
  exact (congrArg _ (eq_ix2 y)).trans (pt5 m c t (y 0) (y 1))
end Cert.KMupIdeal.Body
-- ==== Proof.Mdown.lean ====
module
public import proofs.«01_k».proof.Proof.Gen.KMdownIdeal.Frame
public import proofs.«01_k».proof.Proof.Gen.RMdownIdeal.Read
public import proofs.«01_k».proof.Proof.Rows
@[expose] public section
noncomputable section
namespace Cert.KMdownIdeal.Body
open Cert.Rows Cert.KMdownIdeal Cert.KMdownIdeal.Gen Idealize.ShloMosaic Idealize.ShloMosaic.TcCoe Idealize.SL.Sem
open Cert.RMdownIdeal.Read
set_option maxRecDepth 16384
variable (m : (ℓ : Loc nD τ sig) → Buf (Elt Ideal) ℓ) (c : Dev nD)

abbrev A0 : (⟨S4096x4096, .f32⟩ : BufTy).Contents (Elt Ideal) := m ((c : Thread nD τ).loc main_arg0)
abbrev A1 : (⟨S4096x1024, .f32⟩ : BufTy).Contents (Elt Ideal) := m ((c : Thread nD τ).loc main_arg1)
abbrev A2 : (⟨S4096x1024, .f32⟩ : BufTy).Contents (Elt Ideal) := m ((c : Thread nD τ).loc main_arg2)
abbrev A3 : (⟨S6x1024, .f32⟩ : BufTy).Contents (Elt Ideal) := m ((c : Thread nD τ).loc main_arg3)

theorem cidx0 : ∀ t : Fin cfg0.N, win0_0.index t = ![t.val, 0] := by decide +kernel
theorem cidx1 : ∀ t : Fin cfg0.N, win0_1.index t = ![0, 0] := by decide +kernel
theorem cidx2 : ∀ t : Fin cfg0.N, win0_2.index t = ![t.val, 0] := by decide +kernel
theorem cidx3 : ∀ t : Fin cfg0.N, win0_3.index t = ![0, 0] := by decide +kernel
theorem cidx4 : ∀ t : Fin cfg0.N, win0_4.index t = ![t.val, 0] := by decide +kernel
theorem cidx5 : ∀ t : Fin cfg0.N, win0_5.index t = ![t.val, 0] := by decide +kernel

/-- What the call is given. -/
theorem hV0 (i : Fin 4096) (d : Fin 4096) : (V m c main_v1 : S4096x4096.Idx → EReal) (ix2 i d) = max (A0 m c (ix2 i d)) 0 := by
  unfold V
  after_reads_at
theorem hV1 (i : Fin 4096) (d : Fin 1024) : (V m c main_v2 : S4096x1024.Idx → EReal) (ix2 i d) = A1 m c (ix2 i d) := by
  unfold V
  after_reads_at
theorem hX2 (i : Fin 4096) (d : Fin 1024) : (V m c main_arg2 : S4096x1024.Idx → EReal) (ix2 i d) = A2 m c (ix2 i d) := by
  unfold V
  after_reads_at
theorem hX3 (i : Fin 6) (d : Fin 1024) : (V m c main_arg3 : S6x1024.Idx → EReal) (ix2 i d) = A3 m c (ix2 i d) := by
  unfold V
  after_reads_at

/-- Its blocks at a grid point. -/
theorem iblk0 (t : Fin cfg0.N) (i : Fin 512) (d : Fin 4096) : (iblk m c 0 t : S512x4096.Idx → EReal) (ix2 i d) = max (A0 m c (ix2 (row t i) d)) 0 := by
  rw [← hV0]
  blk_ext [iblk, cidx0]
theorem iblk1 (t : Fin cfg0.N) (i : Fin 4096) (d : Fin 1024) : (iblk m c 1 t : S4096x1024.Idx → EReal) (ix2 i d) = A1 m c (ix2 i d) := by
  rw [← hV1]
  blk_ext [iblk, cidx1]
theorem iblk2 (t : Fin cfg0.N) (i : Fin 512) (d : Fin 1024) : (iblk m c 2 t : S512x1024.Idx → EReal) (ix2 i d) = A2 m c (ix2 (row t i) d) := by
  rw [← hX2]
  blk_ext [iblk, cidx2]
theorem iblk3 (t : Fin cfg0.N) (i : Fin 6) (d : Fin 1024) : (iblk m c 3 t : S6x1024.Idx → EReal) (ix2 i d) = A3 m c (ix2 i d) := by
  rw [← hX3]
  blk_ext [iblk, cidx3]

variable (x0 : Vec Ideal S512x4096 .bf16) (x1 : Vec Ideal S4096x1024 .bf16) (x2 : Vec Ideal S512x1024 .f32) (x3 : Vec Ideal S6x1024 .f32)
/-- What a point writes. -/
theorem out4 (r : Fin 512) (d : Fin 1024) : out0_4 x0 x1 x2 x3 (ix2 r d) = x2 (ix2 r d) + x3 (ix2 5 d) * ∑ f : Fin 4096, x0 (ix2 r f) * x0 (ix2 r f) * x1 (ix2 f d) := by
  frame_out
  pointwise [k0_pay3, k0_pay1]
theorem out5 (r : Fin 512) (d : Fin 1024) : out0_5 x0 x1 x2 x3 (ix2 r d) = ∑ f : Fin 4096, x0 (ix2 r f) * x0 (ix2 r f) * x1 (ix2 f d) := by
  frame_out
  pointwise [k0_pay2, k0_pay1]

/-- The reference at an index. -/
theorem refX (y0 y1 y2 y3) (i : Fin 4096) (d : Fin 1024) : val_main_v11 (F := Ideal) y0 y1 y2 y3 (ix2 i d)
    = y2 (ix2 i d) + y3 (ix2 5 d) * ∑ f : Fin 4096, max (y0 (ix2 i f)) 0 * max (y0 (ix2 i f)) 0 * y1 (ix2 f d) := by
  pointwise [val_main_v11, val_main_v10, val_main_v9, val_main_v8, val_main_v7, val_main_v6, val_main_v5, val_main_call0_v0, val_main_call0_cst]
theorem refO (y0 y1) (i : Fin 4096) (d : Fin 1024) : val_main_v12 (F := Ideal) y0 y1 (ix2 i d)
    = ∑ f : Fin 4096, max (y0 (ix2 i f)) 0 * max (y0 (ix2 i f)) 0 * y1 (ix2 f d) := by
  pointwise [val_main_v12, val_main_v8, val_main_v7, val_main_v6, val_main_call0_v0, val_main_call0_cst]

theorem pt4 (t : Fin cfg0.N) (r : Fin 512) (d : Fin 1024) : out0_4 (iblk m c 0 t) (iblk m c 1 t) (iblk m c 2 t) (iblk m c 3 t) (ix2 r d) = val_main_v11 (F := Ideal) (A0 m c) (A1 m c) (A2 m c) (A3 m c) (ix2 (row t r) d) := by
  rw [refX, out4]
  simp only [iblk0, iblk1, iblk2, iblk3]
theorem pt5 (t : Fin cfg0.N) (r : Fin 512) (d : Fin 1024) : out0_5 (iblk m c 0 t) (iblk m c 1 t) (iblk m c 2 t) (iblk m c 3 t) (ix2 r d) = val_main_v12 (F := Ideal) (A0 m c) (A1 m c) (ix2 (row t r) d) := by
  rw [refO, out5]
  simp only [iblk0, iblk1]

/-- The rows after the MLP. -/
theorem arr4 : (dats m 0 c).arrAt 4 cfg0.N = val_main_v11 (F := Ideal) (A0 m c) (A1 m c) (A2 m c) (A3 m c) := by
  refine (dats m 0 c).arrAt_eq_of_covers 4 _ (by decide +kernel) fun t hf y => ?_
  rw [after0_4]
  blk_simp [cidx4]
  have hy : (y 0).val < 512 := (y 0).isLt
  have ht : t.val < 8 := t.isLt
  have e : (win0_4.blk t).view.emb y = (@ix2 4096 1024 ⟨512 * t.val + (y 0).val, by omega⟩ (y 1) : S4096x1024.Idx) := by blk_ext [cidx4]
  rw [e]
  exact (congrArg _ (eq_ix2 y)).trans (pt4 m c t (y 0) (y 1))
/-- The product. -/
theorem arr5 : (dats m 0 c).arrAt 5 cfg0.N = val_main_v12 (F := Ideal) (A0 m c) (A1 m c) := by
  refine (dats m 0 c).arrAt_eq_of_covers 5 _ (by decide +kernel) fun t hf y => ?_
  rw [after0_5]
  blk_simp [cidx5]
  have hy : (y 0).val < 512 := (y 0).isLt
  have ht : t.val < 8 := t.isLt
  have e : (win0_5.blk t).view.emb y = (@ix2 4096 1024 ⟨512 * t.val + (y 0).val, by omega⟩ (y 1) : S4096x1024.Idx) := by blk_ext [cidx5]
  rw [e]
  exact (congrArg _ (eq_ix2 y)).trans (pt5 m c t (y 0) (y 1))
end Cert.KMdownIdeal.Body
-- ==== Proof.Out.lean ====
module
public import proofs.«01_k».proof.Proof.Gen.KOutIdeal.Frame
public import proofs.«01_k».proof.Proof.Gen.ROutIdeal.Read
public import proofs.«01_k».proof.Proof.Rows
@[expose] public section
noncomputable section
namespace Cert.KOutIdeal.Body
open Cert.Rows Cert.KOutIdeal Cert.KOutIdeal.Gen Idealize.ShloMosaic Idealize.ShloMosaic.TcCoe Idealize.SL.Sem
open Cert.ROutIdeal.Read
set_option maxRecDepth 16384
variable (m : (ℓ : Loc nD τ sig) → Buf (Elt Ideal) ℓ) (c : Dev nD)

abbrev A0 : (⟨S4096x2048, .f32⟩ : BufTy).Contents (Elt Ideal) := m ((c : Thread nD τ).loc main_arg0)
abbrev A1 : (⟨S2048x1024, .f32⟩ : BufTy).Contents (Elt Ideal) := m ((c : Thread nD τ).loc main_arg1)
abbrev A2 : (⟨S4096x1024, .f32⟩ : BufTy).Contents (Elt Ideal) := m ((c : Thread nD τ).loc main_arg2)
abbrev A3 : (⟨S6x1024, .f32⟩ : BufTy).Contents (Elt Ideal) := m ((c : Thread nD τ).loc main_arg3)

theorem cidx0 : ∀ t : Fin cfg0.N, win0_0.index t = ![t.val, 0] := by decide +kernel
theorem cidx1 : ∀ t : Fin cfg0.N, win0_1.index t = ![0, 0] := by decide +kernel
theorem cidx2 : ∀ t : Fin cfg0.N, win0_2.index t = ![t.val, 0] := by decide +kernel
theorem cidx3 : ∀ t : Fin cfg0.N, win0_3.index t = ![0, 0] := by decide +kernel
theorem cidx4 : ∀ t : Fin cfg0.N, win0_4.index t = ![t.val, 0] := by decide +kernel
theorem cidx5 : ∀ t : Fin cfg0.N, win0_5.index t = ![t.val, 0] := by decide +kernel

/-- What the call is given. -/
theorem hV0 (i : Fin 4096) (d : Fin 2048) : (V m c main_v0 : S4096x2048.Idx → EReal) (ix2 i d) = A0 m c (ix2 i d) := by
  unfold V
  after_reads_at
theorem hV1 (i : Fin 2048) (d : Fin 1024) : (V m c main_v1 : S2048x1024.Idx → EReal) (ix2 i d) = A1 m c (ix2 i d) := by
  unfold V
  after_reads_at
theorem hX2 (i : Fin 4096) (d : Fin 1024) : (V m c main_arg2 : S4096x1024.Idx → EReal) (ix2 i d) = A2 m c (ix2 i d) := by
  unfold V
  after_reads_at
theorem hX3 (i : Fin 6) (d : Fin 1024) : (V m c main_arg3 : S6x1024.Idx → EReal) (ix2 i d) = A3 m c (ix2 i d) := by
  unfold V
  after_reads_at

/-- Its blocks at a grid point. -/
theorem iblk0 (t : Fin cfg0.N) (i : Fin 512) (d : Fin 2048) : (iblk m c 0 t : S512x2048.Idx → EReal) (ix2 i d) = A0 m c (ix2 (row t i) d) := by
  rw [← hV0]
  blk_ext [iblk, cidx0]
theorem iblk1 (t : Fin cfg0.N) (i : Fin 2048) (d : Fin 1024) : (iblk m c 1 t : S2048x1024.Idx → EReal) (ix2 i d) = A1 m c (ix2 i d) := by
  rw [← hV1]
  blk_ext [iblk, cidx1]
theorem iblk2 (t : Fin cfg0.N) (i : Fin 512) (d : Fin 1024) : (iblk m c 2 t : S512x1024.Idx → EReal) (ix2 i d) = A2 m c (ix2 (row t i) d) := by
  rw [← hX2]
  blk_ext [iblk, cidx2]
theorem iblk3 (t : Fin cfg0.N) (i : Fin 6) (d : Fin 1024) : (iblk m c 3 t : S6x1024.Idx → EReal) (ix2 i d) = A3 m c (ix2 i d) := by
  rw [← hX3]
  blk_ext [iblk, cidx3]

variable (x0 : Vec Ideal S512x2048 .bf16) (x1 : Vec Ideal S2048x1024 .bf16) (x2 : Vec Ideal S512x1024 .f32) (x3 : Vec Ideal S6x1024 .f32)
/-- What a point writes. -/
theorem out4 (r : Fin 512) (d : Fin 1024) : out0_4 x0 x1 x2 x3 (ix2 r d) = x2 (ix2 r d) + x3 (ix2 2 d) * ∑ f : Fin 2048, x0 (ix2 r f) * x1 (ix2 f d) := by
  frame_out
  pointwise [k0_pay3, k0_pay1]
theorem out5 (r : Fin 512) (d : Fin 1024) : out0_5 x0 x1 x2 x3 (ix2 r d) = ∑ f : Fin 2048, x0 (ix2 r f) * x1 (ix2 f d) := by
  frame_out
  pointwise [k0_pay2, k0_pay1]

/-- The reference at an index. -/
theorem refX (y0 y1 y2 y3) (i : Fin 4096) (d : Fin 1024) : val_main_v9 (F := Ideal) y0 y1 y2 y3 (ix2 i d)
    = y2 (ix2 i d) + y3 (ix2 2 d) * ∑ f : Fin 2048, y0 (ix2 i f) * y1 (ix2 f d) := by
  pointwise [val_main_v9, val_main_v8, val_main_v7, val_main_v6, val_main_v2]
theorem refO (y0 y1) (i : Fin 4096) (d : Fin 1024) : val_main_v10 (F := Ideal) y0 y1 (ix2 i d)
    = ∑ f : Fin 2048, y0 (ix2 i f) * y1 (ix2 f d) := by
  pointwise [val_main_v10, val_main_v6]

theorem pt4 (t : Fin cfg0.N) (r : Fin 512) (d : Fin 1024) : out0_4 (iblk m c 0 t) (iblk m c 1 t) (iblk m c 2 t) (iblk m c 3 t) (ix2 r d) = val_main_v9 (F := Ideal) (A0 m c) (A1 m c) (A2 m c) (A3 m c) (ix2 (row t r) d) := by
  rw [refX, out4]
  simp only [iblk0, iblk1, iblk2, iblk3]
theorem pt5 (t : Fin cfg0.N) (r : Fin 512) (d : Fin 1024) : out0_5 (iblk m c 0 t) (iblk m c 1 t) (iblk m c 2 t) (iblk m c 3 t) (ix2 r d) = val_main_v10 (F := Ideal) (A0 m c) (A1 m c) (ix2 (row t r) d) := by
  rw [refO, out5]
  simp only [iblk0, iblk1]

/-- The rows after the attention. -/
theorem arr4 : (dats m 0 c).arrAt 4 cfg0.N = val_main_v9 (F := Ideal) (A0 m c) (A1 m c) (A2 m c) (A3 m c) := by
  refine (dats m 0 c).arrAt_eq_of_covers 4 _ (by decide +kernel) fun t hf y => ?_
  rw [after0_4]
  blk_simp [cidx4]
  have hy : (y 0).val < 512 := (y 0).isLt
  have ht : t.val < 8 := t.isLt
  have e : (win0_4.blk t).view.emb y = (@ix2 4096 1024 ⟨512 * t.val + (y 0).val, by omega⟩ (y 1) : S4096x1024.Idx) := by blk_ext [cidx4]
  rw [e]
  exact (congrArg _ (eq_ix2 y)).trans (pt4 m c t (y 0) (y 1))
/-- The product. -/
theorem arr5 : (dats m 0 c).arrAt 5 cfg0.N = val_main_v10 (F := Ideal) (A0 m c) (A1 m c) := by
  refine (dats m 0 c).arrAt_eq_of_covers 5 _ (by decide +kernel) fun t hf y => ?_
  rw [after0_5]
  blk_simp [cidx5]
  have hy : (y 0).val < 512 := (y 0).isLt
  have ht : t.val < 8 := t.isLt
  have e : (win0_5.blk t).view.emb y = (@ix2 4096 1024 ⟨512 * t.val + (y 0).val, by omega⟩ (y 1) : S4096x1024.Idx) := by blk_ext [cidx5]
  rw [e]
  exact (congrArg _ (eq_ix2 y)).trans (pt5 m c t (y 0) (y 1))
end Cert.KOutIdeal.Body
-- ==== Proof.Bo.lean ====
module
public import proofs.«01_k».proof.Proof.Gen.KBoIdeal.Frame
public import proofs.«01_k».proof.Proof.Gen.RBoIdeal.Read
public import proofs.«01_k».proof.Proof.Rows
@[expose] public section
noncomputable section
namespace Cert.KBoIdeal.Body
open Cert.Rows Cert.KBoIdeal Cert.KBoIdeal.Gen Idealize.ShloMosaic Idealize.ShloMosaic.TcCoe Idealize.SL.Sem
open Cert.RBoIdeal.Read
set_option maxRecDepth 16384
section Point
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S6x1024 .f32) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x2048 .bf16) (harg6 : arg6.IsWhole) (arg7 : Memref sig .tc .vmem S8x1024 .f32) (harg7 : arg7.IsWhole)
variable (x0 : Vec Ideal S512x1024 .f32) (x1 : Vec Ideal S512x1024 .bf16) (x2 : Vec Ideal S6x1024 .f32) (x3 : Vec Ideal S2048x1024 .bf16)

theorem k0_pay1_at (k : Fin 8) (d : Fin 1024) : k0_pay1 (F := Ideal) (ix2 k d) = 0 := by
  pointwise [k0_pay1]
theorem outA4 (hc0 : cond0_0 i) (r : Fin 512) (d : Fin 1024) : out0_A_4 (F := Ideal) c i arg1 harg1 arg2 harg2 arg3 harg3 arg4 harg4 arg5 harg5 arg6 harg6 arg7 harg7 hc0 x0 x1 x2 x3 (ix2 r d) = x0 (ix2 r d) * x2 (ix2 2 d) := by
  frame_out
  pointwise [k0_pay2]
theorem outA5 (hc0 : cond0_0 i) (r : Fin 512) (k : Fin 2048) : out0_A_5 (F := Ideal) c i arg1 harg1 arg2 harg2 arg3 harg3 arg4 harg4 arg5 harg5 arg6 harg6 arg7 harg7 hc0 x0 x1 x2 x3 (ix2 r k) = ∑ d : Fin 1024, x0 (ix2 r d) * x2 (ix2 2 d) * x3 (ix2 k d) := by
  frame_out
  pointwise [k0_pay4, k0_pay2]
theorem outB4 (hc0 : ¬cond0_0 i) (xo6 : Vec Ideal S8x1024 .f32) (r : Fin 512) (d : Fin 1024) : out0_B_4 (F := Ideal) c i arg1 harg1 arg2 harg2 arg3 harg3 arg4 harg4 arg5 harg5 arg6 harg6 arg7 harg7 hc0 x0 x1 x2 x3 xo6 (ix2 r d) = x0 (ix2 r d) * x2 (ix2 2 d) := by
  frame_out
  pointwise [k0_pay2]
theorem outB5 (hc0 : ¬cond0_0 i) (xo6 : Vec Ideal S8x1024 .f32) (r : Fin 512) (k : Fin 2048) : out0_B_5 (F := Ideal) c i arg1 harg1 arg2 harg2 arg3 harg3 arg4 harg4 arg5 harg5 arg6 harg6 arg7 harg7 hc0 x0 x1 x2 x3 xo6 (ix2 r k) = ∑ d : Fin 1024, x0 (ix2 r d) * x2 (ix2 2 d) * x3 (ix2 k d) := by
  frame_out
  pointwise [k0_pay4, k0_pay2]
theorem outA6 (hc0 : cond0_0 i) (k : Fin 8) (d : Fin 1024) : out0_A_6 (F := Ideal) c i arg1 harg1 arg2 harg2 arg3 harg3 arg4 harg4 arg5 harg5 arg6 harg6 arg7 harg7 hc0 x0 x1 x2 x3 (ix2 k d) = if k = 2 then ∑ r : Fin 512, x0 (ix2 r d) * x1 (ix2 r d) else 0 := by
  frame_out
  rw [canon_row, canon_all]
  have e : (k.val = 2) = (k = 2) := propext ⟨fun h => Fin.ext h, fun h => h ▸ rfl⟩
  simp only [e]
  refine if_congr Iff.rfl ?_ (by rw [k0_pay1_at])
  generalize hw : arg7.view.readCov (Val := Elt Ideal) _ _ = w
  have q : w (ix2 0 d) = 0 := by rw [← hw, cov_row _ _ 2 _ 2 rfl, canon_all, k0_pay1_at]
  pointwise [k0_pay3]
  rw [q, zero_add]
theorem outB6 (hc0 : ¬cond0_0 i) (xo6 : Vec Ideal S8x1024 .f32) (k : Fin 8) (d : Fin 1024) : out0_B_6 (F := Ideal) c i arg1 harg1 arg2 harg2 arg3 harg3 arg4 harg4 arg5 harg5 arg6 harg6 arg7 harg7 hc0 x0 x1 x2 x3 xo6 (ix2 k d) = if k = 2 then xo6 (ix2 2 d) + ∑ r : Fin 512, x0 (ix2 r d) * x1 (ix2 r d) else xo6 (ix2 k d) := by
  frame_out
  rw [read_row, View.writes_nil, harg7.read_unread]
  have e : (k.val = 2) = (k = 2) := propext ⟨fun h => Fin.ext h, fun h => h ▸ rfl⟩
  simp only [e]
  refine if_congr Iff.rfl ?_ rfl
  generalize hw : View.ld xo6 _ = w
  have q : w (ix2 0 d) = xo6 (ix2 2 d) := by rw [← hw]; exact ld_row _ 2 _ 2 rfl d
  pointwise [k0_pay3]
  rw [q]
end Point

variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S4096x2048, .f32⟩ : BufTy).Contents (Elt Ideal) := m ((c : Thread nD τ).loc main_arg1)
abbrev A2 : (⟨S6x1024, .f32⟩ : BufTy).Contents (Elt Ideal) := m ((c : Thread nD τ).loc main_arg2)
abbrev A3 : (⟨S2048x1024, .f32⟩ : BufTy).Contents (Elt Ideal) := m ((c : Thread nD τ).loc main_arg3)

theorem cidx0 : ∀ t : Fin cfg0.N, win0_0.index t = ![t.val, 0] := by decide +kernel
theorem cidx1 : ∀ t : Fin cfg0.N, win0_1.index t = ![t.val, 0] := by decide +kernel
theorem cidx2 : ∀ t : Fin cfg0.N, win0_2.index t = ![0, 0] := by decide +kernel
theorem cidx3 : ∀ t : Fin cfg0.N, win0_3.index t = ![0, 0] := by decide +kernel
theorem cidx4 : ∀ t : Fin cfg0.N, win0_4.index t = ![t.val, 0] := by decide +kernel
theorem cidx5 : ∀ t : Fin cfg0.N, win0_5.index t = ![t.val, 0] := by decide +kernel
theorem cidx6 : ∀ t : Fin cfg0.N, win0_6.index t = ![0, 0] := by decide +kernel

/-- What the call is given. -/
theorem hX0 (i : Fin 4096) (d : Fin 1024) : (V m c main_arg0 : S4096x1024.Idx → EReal) (ix2 i d) = A0 m c (ix2 i d) := by
  unfold V
  after_reads_at
theorem hV1 (i : Fin 4096) (d : Fin 1024) : (V m c main_v1 : S4096x1024.Idx → EReal) (ix2 i d) = ∑ k : Fin 2048, A1 m c (ix2 i k) * A3 m c (ix2 k d) := by
  unfold V
  after_reads_at
theorem hX2 (i : Fin 6) (d : Fin 1024) : (V m c main_arg2 : S6x1024.Idx → EReal) (ix2 i d) = A2 m c (ix2 i d) := by
  unfold V
  after_reads_at
theorem hV2 (i : Fin 2048) (d : Fin 1024) : (V m c main_v2 : S2048x1024.Idx → EReal) (ix2 i d) = A3 m c (ix2 i d) := by
  unfold V
  after_reads_at

/-- Its blocks at a grid point. -/
theorem iblk0 (t : Fin cfg0.N) (i : Fin 512) (d : Fin 1024) : (iblk m c 0 t : S512x1024.Idx → EReal) (ix2 i d) = A0 m c (ix2 (row t i) d) := by
  rw [← hX0]
  blk_ext [iblk, cidx0]
theorem iblk1 (t : Fin cfg0.N) (i : Fin 512) (d : Fin 1024) : (iblk m c 1 t : S512x1024.Idx → EReal) (ix2 i d) = ∑ k : Fin 2048, A1 m c (ix2 (row t i) k) * A3 m c (ix2 k d) := by
  rw [← hV1]
  blk_ext [iblk, cidx1]
theorem iblk2 (t : Fin cfg0.N) (i : Fin 6) (d : Fin 1024) : (iblk m c 2 t : S6x1024.Idx → EReal) (ix2 i d) = A2 m c (ix2 i d) := by
  rw [← hX2]
  blk_ext [iblk, cidx2]
theorem iblk3 (t : Fin cfg0.N) (i : Fin 2048) (d : Fin 1024) : (iblk m c 3 t : S2048x1024.Idx → EReal) (ix2 i d) = A3 m c (ix2 i d) := by
  rw [← hV2]
  blk_ext [iblk, cidx3]

/-- The reference at an index. -/
theorem ref21 (x0 x2) (i : Fin 4096) (d : Fin 1024) : val_main_v21 (F := Ideal) x0 x2 (ix2 i d) = x0 (ix2 i d) * x2 (ix2 2 d) := by
  pointwise [val_main_v21, val_main_v10, val_main_v9, val_main_v3]
  exact mul_comm _ _
theorem ref22 (x0 x2 x3) (i : Fin 4096) (k : Fin 2048) : val_main_v22 (F := Ideal) x0 x2 x3 (ix2 i k) = ∑ d : Fin 1024, x0 (ix2 i d) * x2 (ix2 2 d) * x3 (ix2 k d) := by
  pointwise [val_main_v22, val_main_v20, val_main_v10, val_main_v9, val_main_v3]
  exact Finset.sum_congr rfl fun d _ => by rw [mul_comm (x2 (ix2 2 d))]
theorem ref24 (x0 x1 x3) (k : Fin 8) (d : Fin 1024) : val_main_v24 (F := Ideal) x0 x1 x3 (ix2 k d)
    = if k = 2 then ∑ i : Fin 4096, x0 (ix2 i d) * (∑ j : Fin 2048, x1 (ix2 i j) * x3 (ix2 j d)) else 0 := by
  fin_cases k
  all_goals
    pointwise [val_main_v24, val_main_v23, val_main_cst_5, val_main_v19, val_main_v18, val_main_v17, val_main_v16, val_main_v15, val_main_v14, val_main_v13, val_main_v12, val_main_v11, val_main_v0, val_main_cst, val_main_cst_0, val_main_cst_1, val_main_cst_2, val_main_cst_3, val_main_cst_4]

/-- What a point leaves. -/
theorem pt4 (t : Fin cfg0.N) (r : Fin 512) (d : Fin 1024) : (outsAt0 m c t.val t.isLt).1 (ix2 r d) = val_main_v21 (F := Ideal) (A0 m c) (A2 m c) (ix2 (row t r) d) := by
  rw [ref21]
  by_cases h0 : t.val % 8 = 0
  · rw [outsAt0_A m c t h0]; dsimp only; rw [outA4]; simp only [iblk0, iblk2]
  · rw [outsAt0_B m c t h0]; dsimp only; rw [outB4]; simp only [iblk0, iblk2]
theorem pt5 (t : Fin cfg0.N) (r : Fin 512) (k : Fin 2048) : (outsAt0 m c t.val t.isLt).2.1 (ix2 r k) = val_main_v22 (F := Ideal) (A0 m c) (A2 m c) (A3 m c) (ix2 (row t r) k) := by
  rw [ref22]
  by_cases h0 : t.val % 8 = 0
  · rw [outsAt0_A m c t h0]; dsimp only; rw [outA5]; simp only [iblk0, iblk2, iblk3]
  · rw [outsAt0_B m c t h0]; dsimp only; rw [outB5]; simp only [iblk0, iblk2, iblk3]

/-- A row's part of the gate's gradient. -/
def gateRow (d : Fin 1024) (i : Fin 4096) : EReal := A0 m c (ix2 i d) * (∑ j : Fin 2048, A1 m c (ix2 i j) * A3 m c (ix2 j d))

theorem acc6 (t : Fin cfg0.N) (k : Fin 8) (d : Fin 1024) : (outsAt0 m c t.val t.isLt).2.2 (ix2 k d)
    = 0 + ∑ n ∈ Finset.range (t.val + 1), (if h : n < 8 then (if k = 2 then ∑ r : Fin 512, gateRow m c d (row ⟨n, h⟩ r) else 0) else 0) := by
  refine Pipeline.eq_sum_of_reset_step_apply_single (N := cfg0.N) (fun n h (x : Fin 8 × Fin 1024) => (outsAt0 m c n h).2.2 (ix2 x.1 x.2)) 8 (fun _ => (0 : EReal))
    (fun n x => if h : n < 8 then (if x.1 = 2 then ∑ r : Fin 512, gateRow m c x.2 (row ⟨n, h⟩ r) else 0) else 0) (fun t h x => ?_) (fun t h x => ?_) (by decide) t (k, d)
  · have ht : t.val < 8 := t.isLt
    rw [outsAt0_A m c t h, dif_pos ht]; dsimp only; rw [outA6, zero_add]; simp only [iblk0, iblk1]; rfl
  · have ht : t.val < 8 := t.isLt
    rw [outsAt0_B m c t h, dif_pos ht]; dsimp only; rw [outB6]; simp only [iblk0, iblk1]
    by_cases hk : x.1 = 2
    · rw [if_pos hk, if_pos hk, hk]; rfl
    · rw [if_neg hk, if_neg hk, add_zero]

/-- The gradient of the product. -/
theorem arr4 : (dats m 0 c).arrAt 4 cfg0.N = val_main_v21 (F := Ideal) (A0 m c) (A2 m c) := by
  refine (dats m 0 c).arrAt_eq_of_covers 4 _ (by decide +kernel) fun t hf y => ?_
  rw [after0_4]
  blk_simp [cidx4]
  have hy : (y 0).val < 512 := (y 0).isLt
  have ht : t.val < 8 := t.isLt
  have e : (win0_4.blk t).view.emb y = (@ix2 4096 1024 ⟨512 * t.val + (y 0).val, by omega⟩ (y 1) : S4096x1024.Idx) := by blk_ext [cidx4]
  rw [e]
  exact (congrArg _ (eq_ix2 y)).trans (pt4 m c t (y 0) (y 1))
/-- The gradient of the attention's output. -/
theorem arr5 : (dats m 0 c).arrAt 5 cfg0.N = val_main_v22 (F := Ideal) (A0 m c) (A2 m c) (A3 m c) := by
  refine (dats m 0 c).arrAt_eq_of_covers 5 _ (by decide +kernel) fun t hf y => ?_
  rw [after0_5]
  blk_simp [cidx5]
  have hy : (y 0).val < 512 := (y 0).isLt
  have ht : t.val < 8 := t.isLt
  have e : (win0_5.blk t).view.emb y = (@ix2 4096 2048 ⟨512 * t.val + (y 0).val, by omega⟩ (y 1) : S4096x2048.Idx) := by blk_ext [cidx5]
  rw [e]
  exact (congrArg _ (eq_ix2 y)).trans (pt5 m c t (y 0) (y 1))
/-- The rows of sums: the gate's gradient in its row. -/
theorem last6 (t : Fin cfg0.N) (ht : t.val = 7) (k : Fin 8) (d : Fin 1024) : (outsAt0 m c t.val t.isLt).2.2 (ix2 k d) = val_main_v24 (F := Ideal) (A0 m c) (A1 m c) (A3 m c) (ix2 k d) := by
  rw [acc6, zero_add, ht, Finset.sum_range, ref24]
  by_cases hk : k = 2
  · simp only [if_pos hk]
    refine Eq.trans (Finset.sum_congr rfl fun n _ => dif_pos n.isLt) (sum_rows (gateRow m c d))
  · simp only [if_neg hk, dite_eq_ite, ite_self, Finset.sum_const_zero]
theorem arr6 : (dats m 0 c).arrAt 6 cfg0.N = val_main_v24 (F := Ideal) (A0 m c) (A1 m c) (A3 m c) := by
  refine (dats m 0 c).arrAt_eq_of_covers 6 _ (by decide +kernel) fun t hf y => ?_
  rw [after0_6]
  blk_simp [cidx6]
  have ht : t.val = 7 := by
    have h1 := (flush0_6 t).mp hf
    have h2 : t.val < 8 := t.isLt
    omega
  have e : (win0_6.blk t).view.emb y = y := by blk_ext [cidx6]
  rw [e]
  exact (congrArg _ (eq_ix2 y)).trans ((last6 m c t ht (y 0) (y 1)).trans (congrArg _ (eq_ix2 y).symm))
end Cert.KBoIdeal.Body
-- ==== Proof.Dwo.lean ====
module
public import proofs.«01_k».proof.Proof.Gen.KDwoIdeal.Frame
public import proofs.«01_k».proof.Proof.Gen.RDwoIdeal.Read
public import proofs.«01_k».proof.Proof.Rows
@[expose] public section
noncomputable section
namespace Cert.KDwoIdeal.Body
open Cert.Rows Cert.KDwoIdeal Cert.KDwoIdeal.Gen Idealize.ShloMosaic Idealize.ShloMosaic.TcCoe Idealize.SL.Sem
open Cert.RDwoIdeal.Read
set_option maxRecDepth 16384
variable (m : (ℓ : Loc nD τ sig) → Buf (Elt Ideal) ℓ) (c : Dev nD)

abbrev A0 : (⟨S4096x2048, .f32⟩ : BufTy).Contents (Elt Ideal) := m ((c : Thread nD τ).loc main_arg0)
abbrev A1 : (⟨S4096x1024, .f32⟩ : BufTy).Contents (Elt Ideal) := m ((c : Thread nD τ).loc main_arg1)

theorem cidx0 : ∀ t : Fin cfg0.N, win0_0.index t = ![0, t.val] := by decide +kernel
theorem cidx1 : ∀ t : Fin cfg0.N, win0_1.index t = ![0, 0] := by decide +kernel
theorem cidx2 : ∀ t : Fin cfg0.N, win0_2.index t = ![t.val, 0] := by decide +kernel

/-- What the call is given. -/
theorem hV0 (i : Fin 4096) (d : Fin 2048) : (V m c main_v0 : S4096x2048.Idx → EReal) (ix2 i d) = A0 m c (ix2 i d) := by
  unfold V
  after_reads_at
theorem hV1 (i : Fin 4096) (d : Fin 1024) : (V m c main_v1 : S4096x1024.Idx → EReal) (ix2 i d) = A1 m c (ix2 i d) := by
  unfold V
  after_reads_at

/-- Column `r` of block `t`. -/
@[reducible] def col (t : Fin cfg0.N) (r : Fin 512) : Fin 2048 := ⟨512 * t.val + r.val, by have : t.val < 4 := t.isLt; omega⟩

/-- Its blocks at a grid point. -/
theorem iblk0 (t : Fin cfg0.N) (i : Fin 4096) (d : Fin 512) : (iblk m c 0 t : S4096x512.Idx → EReal) (ix2 i d) = A0 m c (ix2 i (col t d)) := by
  rw [← hV0]
  blk_ext [iblk, cidx0]
theorem iblk1 (t : Fin cfg0.N) (i : Fin 4096) (d : Fin 1024) : (iblk m c 1 t : S4096x1024.Idx → EReal) (ix2 i d) = A1 m c (ix2 i d) := by
  rw [← hV1]
  blk_ext [iblk, cidx1]

/-- What a point writes. -/
theorem out2 (x0 : Vec Ideal S4096x512 .bf16) (x1 : Vec Ideal S4096x1024 .bf16) (k : Fin 512) (d : Fin 1024) : out0_2 x0 x1 (ix2 k d) = ∑ i : Fin 4096, x0 (ix2 i k) * x1 (ix2 i d) := by
  frame_out
  pointwise [k0_pay1]

/-- The reference at an index. -/
theorem ref4 (y0 y1) (k : Fin 2048) (d : Fin 1024) : val_main_v4 (F := Ideal) y0 y1 (ix2 k d) = ∑ i : Fin 4096, y0 (ix2 i k) * y1 (ix2 i d) := by
  pointwise [val_main_v4, val_main_v3, val_main_v2]
  exact Finset.sum_congr rfl fun i _ => mul_comm _ _

theorem pt2 (t : Fin cfg0.N) (r : Fin 512) (d : Fin 1024) : out0_2 (iblk m c 0 t) (iblk m c 1 t) (ix2 r d) = val_main_v4 (F := Ideal) (A0 m c) (A1 m c) (ix2 (col t r) d) := by
  rw [ref4, out2]
  simp only [iblk0, iblk1]

/-- The output projection's weight gradient. -/
theorem arr2 : (dats m 0 c).arrAt 2 cfg0.N = val_main_v4 (F := Ideal) (A0 m c) (A1 m c) := by
  refine (dats m 0 c).arrAt_eq_of_covers 2 _ (by decide +kernel) fun t hf y => ?_
  rw [after0_2]
  blk_simp [cidx2]
  have hy : (y 0).val < 512 := (y 0).isLt
  have ht : t.val < 4 := t.isLt
  have e : (win0_2.blk t).view.emb y = (@ix2 2048 1024 ⟨512 * t.val + (y 0).val, by omega⟩ (y 1) : S2048x1024.Idx) := by blk_ext [cidx2]
  rw [e]
  exact (congrArg _ (eq_ix2 y)).trans (pt2 m c t (y 0) (y 1))
end Cert.KDwoIdeal.Body
-- ==== Proof.Sdo.lean ====
module
public import proofs.«01_k».proof.Proof.Gen.KSdoIdeal.Frame
public import proofs.«01_k».proof.Proof.Gen.RSdoIdeal.Read
public import proofs.«01_k».proof.Proof.Rows
@[expose] public section
noncomputable section
namespace Cert.KSdoIdeal.Body
open Cert.Rows Cert.KSdoIdeal Cert.KSdoIdeal.Gen Idealize.ShloMosaic Idealize.ShloMosaic.TcCoe Idealize.SL.Sem
open Cert.RSdoIdeal.Read
set_option maxRecDepth 16384
variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S4096x1024, .f32⟩ : BufTy).Contents (Elt Ideal) := m ((c : Thread nD τ).loc main_arg1)

theorem cidx0 : ∀ t : Fin cfg0.N, win0_0.index t = ![0, t.val] := by decide +kernel
theorem cidx1 : ∀ t : Fin cfg0.N, win0_1.index t = ![0, 0] := by decide +kernel
theorem cidx2 : ∀ t : Fin cfg0.N, win0_2.index t = ![t.val, 0] := by decide +kernel

/-- What the call is given. -/
theorem hV0 (i : Fin 4096) (d : Fin 1024) : (V m c main_v0 : S4096x1024.Idx → EReal) (ix2 i d) = A0 m c (ix2 i d) := by
  unfold V
  after_reads_at
theorem hV1 (i : Fin 4096) (d : Fin 1024) : (V m c main_v1 : S4096x1024.Idx → EReal) (ix2 i d) = A1 m c (ix2 i d) := by
  unfold V
  after_reads_at

/-- Column `r` of block `t`. -/
@[reducible] def colK (t : Fin cfg0.N) (r : Fin 512) : Fin 1024 := ⟨512 * t.val + r.val, by have : t.val < 2 := t.isLt; omega⟩
@[reducible] def colM (t : Fin cfg0.N) (r : Fin 1024) : Fin 1024 := ⟨1024 * 0 + r.val, by have : t.val < 2 := t.isLt; omega⟩

/-- Its blocks at a grid point. -/
theorem iblk0 (t : Fin cfg0.N) (i : Fin 4096) (d : Fin 512) : (iblk m c 0 t : S4096x512.Idx → EReal) (ix2 i d) = A0 m c (ix2 i (colK t d)) := by
  rw [← hV0]
  blk_ext [iblk, cidx0]
theorem iblk1 (t : Fin cfg0.N) (i : Fin 4096) (d : Fin 1024) : (iblk m c 1 t : S4096x1024.Idx → EReal) (ix2 i d) = A1 m c (ix2 i (colM t d)) := by
  rw [← hV1]
  blk_ext [iblk, cidx1]

/-- What a point writes. -/
theorem out2 (x0 : Vec Ideal S4096x512 .bf16) (x1 : Vec Ideal S4096x1024 .bf16) (k : Fin 512) (d : Fin 1024) : out0_2 x0 x1 (ix2 k d) = ∑ i : Fin 4096, x0 (ix2 i k) * x1 (ix2 i d) := by
  frame_out
  pointwise [k0_pay1]

/-- The reference at an index. -/
theorem ref4 (y0 y1) (k : Fin 1024) (d : Fin 1024) : val_main_v4 (F := Ideal) y0 y1 (ix2 k d) = ∑ i : Fin 4096, y0 (ix2 i k) * y1 (ix2 i d) := by
  pointwise [val_main_v4, val_main_v3, val_main_v2]
  exact Finset.sum_congr rfl fun i _ => mul_comm _ _

theorem pt2 (t : Fin cfg0.N) (r : Fin 512) (d : Fin 1024) : out0_2 (iblk m c 0 t) (iblk m c 1 t) (ix2 r d) = val_main_v4 (F := Ideal) (A0 m c) (A1 m c) (ix2 (colK t r) (colM t d)) := by
  rw [ref4, out2]
  simp only [iblk0, iblk1]

/-- The weight gradient. -/
theorem arr2 : (dats m 0 c).arrAt 2 cfg0.N = val_main_v4 (F := Ideal) (A0 m c) (A1 m c) := by
  refine (dats m 0 c).arrAt_eq_of_covers 2 _ (by decide +kernel) fun t hf y => ?_
  rw [after0_2]
  blk_simp [cidx2]
  have hy : (y 0).val < 512 := (y 0).isLt
  have hy1 : (y 1).val < 1024 := (y 1).isLt
  have ht : t.val < 2 := t.isLt
  have e : (win0_2.blk t).view.emb y = (@ix2 1024 1024 ⟨512 * t.val + (y 0).val, by omega⟩ ⟨1024 * 0 + (y 1).val, by omega⟩ : S1024x1024.Idx) := by blk_ext [cidx2]
  rw [e]
  exact (congrArg _ (eq_ix2 y)).trans (pt2 m c t (y 0) (y 1))
end Cert.KSdoIdeal.Body
-- ==== Proof.Sdi.lean ====
module
public import proofs.«01_k».proof.Proof.Gen.KSdiIdeal.Frame
public import proofs.«01_k».proof.Proof.Gen.RSdiIdeal.Read
public import proofs.«01_k».proof.Proof.Rows
@[expose] public section
noncomputable section
namespace Cert.KSdiIdeal.Body
open Cert.Rows Cert.KSdiIdeal Cert.KSdiIdeal.Gen Idealize.ShloMosaic Idealize.ShloMosaic.TcCoe Idealize.SL.Sem
open Cert.RSdiIdeal.Read
set_option maxRecDepth 16384
variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S4096x2048, .f32⟩ : BufTy).Contents (Elt Ideal) := m ((c : Thread nD τ).loc main_arg1)

theorem cidx0 : ∀ t : Fin cfg0.N, win0_0.index t = ![0, 0] := by decide +kernel
theorem cidx1 : ∀ t : Fin cfg0.N, win0_1.index t = ![0, t.val] := by decide +kernel
theorem cidx2 : ∀ t : Fin cfg0.N, win0_2.index t = ![t.val, 0, 0] := by decide +kernel

/-- What the call is given. -/
theorem hV0 (i : Fin 4096) (d : Fin 1024) : (V m c main_v0 : S4096x1024.Idx → EReal) (ix2 i d) = A0 m c (ix2 i d) := by
  unfold V
  after_reads_at
theorem hV1 (i : Fin 4096) (d : Fin 2048) : (V m c main_v1 : S4096x2048.Idx → EReal) (ix2 i d) = A1 m c (ix2 i d) := by
  unfold V
  after_reads_at

/-- Column `r` of block `t`. -/
@[reducible] def colK (t : Fin cfg0.N) (r : Fin 1024) : Fin 1024 := ⟨1024 * 0 + r.val, by have : t.val < 4 := t.isLt; omega⟩
@[reducible] def colM (t : Fin cfg0.N) (r : Fin 512) : Fin 2048 := ⟨512 * t.val + r.val, by have : t.val < 4 := t.isLt; omega⟩

/-- Its blocks at a grid point. -/
theorem iblk0 (t : Fin cfg0.N) (i : Fin 4096) (d : Fin 1024) : (iblk m c 0 t : S4096x1024.Idx → EReal) (ix2 i d) = A0 m c (ix2 i (colK t d)) := by
  rw [← hV0]
  blk_ext [iblk, cidx0]
theorem iblk1 (t : Fin cfg0.N) (i : Fin 4096) (d : Fin 512) : (iblk m c 1 t : S4096x512.Idx → EReal) (ix2 i d) = A1 m c (ix2 i (colM t d)) := by
  rw [← hV1]
  blk_ext [iblk, cidx1]

/-- What a point writes. -/
theorem out2 (x0 : Vec Ideal S4096x1024 .bf16) (x1 : Vec Ideal S4096x512 .bf16) (s : Fin 2) (k : Fin 1024) (f : Fin 256) :
    out0_2 x0 x1 (ix3 s k f) = ∑ i : Fin 4096, x0 (ix2 i k) * x1 (ix2 i ⟨256 * s.val + f.val, by omega⟩) := by
  frame_out
  canon_tiles z h
  all_goals
    idx_vars z
    pointwise [k0_pay1, k0_pay2, k0_pay3]
    obtain rfl : k = z1 := Fin.ext h1
    obtain rfl : f = z2 := Fin.ext h2
    have hz : z0.val < 1 := z0.isLt
    refine Finset.sum_congr rfl fun i _ => congrArg (fun z => x0 (ix2 i k) * x1 (ix2 i z)) (Fin.ext ?_)
    dsimp only
    omega

/-- The reference at an index. -/
theorem ref_at (x0 x1) (s : Fin 8) (d : Fin 1024) (f : Fin 256) :
    val_main_v6 (F := Ideal) x0 x1 (ix3 s d f) = ∑ i : Fin 4096, x0 (ix2 i d) * x1 (ix2 i ⟨s.val * 256 + f.val, by omega⟩) := by
  pointwise [val_main_v6, val_main_v5, val_main_v4, val_main_v3, val_main_v2]
  exact Finset.sum_congr rfl fun i _ => mul_comm _ _

/-- What a point writes is its block of the reference. -/
theorem outAt (t : Fin cfg0.N) (s : Fin 2) (d : Fin 1024) (f : Fin 256) :
    out0_2 (iblk m c 0 t) (iblk m c 1 t) (ix3 s d f)
      = val_main_v6 (F := Ideal) (A0 m c) (A1 m c) (ix3 ⟨2 * t.val + s.val, by have : t.val < 4 := t.isLt; omega⟩ d f) := by
  rw [ref_at, out2]
  have ht : t.val < 4 := t.isLt
  refine Finset.sum_congr rfl fun i _ => ?_
  rw [iblk0, iblk1]
  refine congrArg₂ (fun y z => A0 m c (ix2 i y) * A1 m c (ix2 i z)) (Fin.ext ?_) (Fin.ext ?_)
  · dsimp only; omega
  · dsimp only; omega

/-- The weight gradient. -/
theorem arr2 : (dats m 0 c).arrAt 2 cfg0.N = val_main_v6 (F := Ideal) (A0 m c) (A1 m c) := by
  refine (dats m 0 c).arrAt_eq_of_covers 2 _ (by decide +kernel) fun t hf y => ?_
  rw [after0_2]
  blk_simp [cidx2]
  have ht : t.val < 4 := t.isLt
  have hy : (y 0).val < 2 := (y 0).isLt
  have e : (win0_2.blk t).view.emb y = (@ix3 8 1024 256 ⟨2 * t.val + (y 0).val, by omega⟩ (y 1) (y 2) : S8x1024x256.Idx) := by blk_ext [cidx2]
  rw [e]
  exact (congrArg _ (eq_ix3 y)).trans (outAt m c t (y 0) (y 1) (y 2))
end Cert.KSdiIdeal.Body
-- ==== Proof.Dwq.lean ====
module
public import proofs.«01_k».proof.Proof.Gen.KDwqIdeal.Frame
public import proofs.«01_k».proof.Proof.Gen.RDwqIdeal.Read
public import proofs.«01_k».proof.Proof.Rows
@[expose] public section
noncomputable section
namespace Cert.KDwqIdeal.Body
open Cert.Rows Cert.KDwqIdeal Cert.KDwqIdeal.Gen Idealize.ShloMosaic Idealize.ShloMosaic.TcCoe Idealize.SL.Sem
open Cert.RDwqIdeal.Read
set_option maxRecDepth 16384
variable (m : (ℓ : Loc nD τ sig) → Buf (Elt Ideal) ℓ) (c : Dev nD)

abbrev A0 : (⟨S4096x256, .f32⟩ : BufTy).Contents (Elt Ideal) := m ((c : Thread nD τ).loc main_arg0)
abbrev A1 : (⟨S4096x4096, .f32⟩ : BufTy).Contents (Elt Ideal) := m ((c : Thread nD τ).loc main_arg1)

theorem cidx0 : ∀ t : Fin cfg0.N, win0_0.index t = ![0, 0] := by decide +kernel
theorem cidx1 : ∀ t : Fin cfg0.N, win0_1.index t = ![0, t.val] := by decide +kernel
theorem cidx2 : ∀ t : Fin cfg0.N, win0_2.index t = ![0, t.val] := by decide +kernel

/-- What the call is given. -/
theorem hV0 (i : Fin 4096) (d : Fin 256) : (V m c main_v0 : S4096x256.Idx → EReal) (ix2 i d) = A0 m c (ix2 i d) := by
  unfold V
  after_reads_at
theorem hV1 (i : Fin 4096) (d : Fin 4096) : (V m c main_v1 : S4096x4096.Idx → EReal) (ix2 i d) = A1 m c (ix2 i d) := by
  unfold V
  after_reads_at

/-- Column `r` of block `t`. -/
@[reducible] def colK (t : Fin cfg0.N) (r : Fin 256) : Fin 256 := ⟨256 * 0 + r.val, by have : t.val < 4 := t.isLt; omega⟩
@[reducible] def colM (t : Fin cfg0.N) (r : Fin 1024) : Fin 4096 := ⟨1024 * t.val + r.val, by have : t.val < 4 := t.isLt; omega⟩

/-- Its blocks at a grid point. -/
theorem iblk0 (t : Fin cfg0.N) (i : Fin 4096) (d : Fin 256) : (iblk m c 0 t : S4096x256.Idx → EReal) (ix2 i d) = A0 m c (ix2 i (colK t d)) := by
  rw [← hV0]
  blk_ext [iblk, cidx0]
theorem iblk1 (t : Fin cfg0.N) (i : Fin 4096) (d : Fin 1024) : (iblk m c 1 t : S4096x1024.Idx → EReal) (ix2 i d) = A1 m c (ix2 i (colM t d)) := by
  rw [← hV1]
  blk_ext [iblk, cidx1]

/-- What a point writes. -/
theorem out2 (x0 : Vec Ideal S4096x256 .bf16) (x1 : Vec Ideal S4096x1024 .bf16) (k : Fin 256) (d : Fin 1024) : out0_2 x0 x1 (ix2 k d) = ∑ i : Fin 4096, x0 (ix2 i k) * x1 (ix2 i d) := by
  frame_out
  pointwise [k0_pay1]

/-- The reference at an index. -/
theorem ref4 (y0 y1) (k : Fin 256) (d : Fin 4096) : val_main_v4 (F := Ideal) y0 y1 (ix2 k d) = ∑ i : Fin 4096, y0 (ix2 i k) * y1 (ix2 i d) := by
  pointwise [val_main_v4, val_main_v3, val_main_v2]
  exact Finset.sum_congr rfl fun i _ => mul_comm _ _

theorem pt2 (t : Fin cfg0.N) (r : Fin 256) (d : Fin 1024) : out0_2 (iblk m c 0 t) (iblk m c 1 t) (ix2 r d) = val_main_v4 (F := Ideal) (A0 m c) (A1 m c) (ix2 (colK t r) (colM t d)) := by
  rw [ref4, out2]
  simp only [iblk0, iblk1]

/-- The weight gradient. -/
theorem arr2 : (dats m 0 c).arrAt 2 cfg0.N = val_main_v4 (F := Ideal) (A0 m c) (A1 m c) := by
  refine (dats m 0 c).arrAt_eq_of_covers 2 _ (by decide +kernel) fun t hf y => ?_
  rw [after0_2]
  blk_simp [cidx2]
  have hy : (y 0).val < 256 := (y 0).isLt
  have hy1 : (y 1).val < 1024 := (y 1).isLt
  have ht : t.val < 4 := t.isLt
  have e : (win0_2.blk t).view.emb y = (@ix2 256 4096 ⟨256 * 0 + (y 0).val, by omega⟩ ⟨1024 * t.val + (y 1).val, by omega⟩ : S256x4096.Idx) := by blk_ext [cidx2]
  rw [e]
  exact (congrArg _ (eq_ix2 y)).trans (pt2 m c t (y 0) (y 1))
end Cert.KDwqIdeal.Body
-- ==== Proof.Dwk.lean ====
module
public import proofs.«01_k».proof.Proof.Gen.KDwkIdeal.Frame
public import proofs.«01_k».proof.Proof.Gen.RDwkIdeal.Read
public import proofs.«01_k».proof.Proof.Rows
@[expose] public section
noncomputable section
namespace Cert.KDwkIdeal.Body
open Cert.Rows Cert.KDwkIdeal Cert.KDwkIdeal.Gen Idealize.ShloMosaic Idealize.ShloMosaic.TcCoe Idealize.SL.Sem
open Cert.RDwkIdeal.Read
set_option maxRecDepth 16384
variable (m : (ℓ : Loc nD τ sig) → Buf (Elt Ideal) ℓ) (c : Dev nD)

abbrev A0 : (⟨S4096x128, .f32⟩ : BufTy).Contents (Elt Ideal) := m ((c : Thread nD τ).loc main_arg0)
abbrev A1 : (⟨S4096x4096, .f32⟩ : BufTy).Contents (Elt Ideal) := m ((c : Thread nD τ).loc main_arg1)

theorem cidx0 : ∀ t : Fin cfg0.N, win0_0.index t = ![0, 0] := by decide +kernel
theorem cidx1 : ∀ t : Fin cfg0.N, win0_1.index t = ![0, t.val] := by decide +kernel
theorem cidx2 : ∀ t : Fin cfg0.N, win0_2.index t = ![t.val, 0, 0] := by decide +kernel

/-- What the call is given. -/
theorem hV0 (i : Fin 4096) (d : Fin 128) : (V m c main_v0 : S4096x128.Idx → EReal) (ix2 i d) = A0 m c (ix2 i d) := by
  unfold V
  after_reads_at
theorem hV1 (i : Fin 4096) (d : Fin 4096) : (V m c main_v1 : S4096x4096.Idx → EReal) (ix2 i d) = A1 m c (ix2 i d) := by
  unfold V
  after_reads_at

/-- Column `r` of block `t`. -/
@[reducible] def colK (t : Fin cfg0.N) (r : Fin 128) : Fin 128 := ⟨128 * 0 + r.val, by have : t.val < 4 := t.isLt; omega⟩
@[reducible] def colM (t : Fin cfg0.N) (r : Fin 1024) : Fin 4096 := ⟨1024 * t.val + r.val, by have : t.val < 4 := t.isLt; omega⟩

/-- Its blocks at a grid point. -/
theorem iblk0 (t : Fin cfg0.N) (i : Fin 4096) (d : Fin 128) : (iblk m c 0 t : S4096x128.Idx → EReal) (ix2 i d) = A0 m c (ix2 i (colK t d)) := by
  rw [← hV0]
  blk_ext [iblk, cidx0]
theorem iblk1 (t : Fin cfg0.N) (i : Fin 4096) (d : Fin 1024) : (iblk m c 1 t : S4096x1024.Idx → EReal) (ix2 i d) = A1 m c (ix2 i (colM t d)) := by
  rw [← hV1]
  blk_ext [iblk, cidx1]

/-- What a point writes. -/
theorem out2 (x0 : Vec Ideal S4096x128 .bf16) (x1 : Vec Ideal S4096x1024 .bf16) (s : Fin 2) (k : Fin 128) (f : Fin 512) :
    out0_2 x0 x1 (ix3 s k f) = ∑ i : Fin 4096, x0 (ix2 i k) * x1 (ix2 i ⟨512 * s.val + f.val, by omega⟩) := by
  frame_out
  canon_tiles z h
  all_goals
    idx_vars z
    pointwise [k0_pay1, k0_pay2, k0_pay3]
    obtain rfl : k = z1 := Fin.ext h1
    obtain rfl : f = z2 := Fin.ext h2
    have hz : z0.val < 1 := z0.isLt
    refine Finset.sum_congr rfl fun i _ => congrArg (fun z => x0 (ix2 i k) * x1 (ix2 i z)) (Fin.ext ?_)
    dsimp only
    omega

/-- The reference at an index. -/
theorem ref_at (x0 x1) (s : Fin 8) (d : Fin 128) (f : Fin 512) :
    val_main_v6 (F := Ideal) x0 x1 (ix3 s d f) = ∑ i : Fin 4096, x0 (ix2 i d) * x1 (ix2 i ⟨s.val * 512 + f.val, by omega⟩) := by
  pointwise [val_main_v6, val_main_v5, val_main_v4, val_main_v3, val_main_v2]
  exact Finset.sum_congr rfl fun i _ => mul_comm _ _

/-- What a point writes is its block of the reference. -/
theorem outAt (t : Fin cfg0.N) (s : Fin 2) (d : Fin 128) (f : Fin 512) :
    out0_2 (iblk m c 0 t) (iblk m c 1 t) (ix3 s d f)
      = val_main_v6 (F := Ideal) (A0 m c) (A1 m c) (ix3 ⟨2 * t.val + s.val, by have : t.val < 4 := t.isLt; omega⟩ d f) := by
  rw [ref_at, out2]
  have ht : t.val < 4 := t.isLt
  refine Finset.sum_congr rfl fun i _ => ?_
  rw [iblk0, iblk1]
  refine congrArg₂ (fun y z => A0 m c (ix2 i y) * A1 m c (ix2 i z)) (Fin.ext ?_) (Fin.ext ?_)
  · dsimp only; omega
  · dsimp only; omega

/-- The weight gradient. -/
theorem arr2 : (dats m 0 c).arrAt 2 cfg0.N = val_main_v6 (F := Ideal) (A0 m c) (A1 m c) := by
  refine (dats m 0 c).arrAt_eq_of_covers 2 _ (by decide +kernel) fun t hf y => ?_
  rw [after0_2]
  blk_simp [cidx2]
  have ht : t.val < 4 := t.isLt
  have hy : (y 0).val < 2 := (y 0).isLt
  have e : (win0_2.blk t).view.emb y = (@ix3 8 128 512 ⟨2 * t.val + (y 0).val, by omega⟩ (y 1) (y 2) : S8x128x512.Idx) := by blk_ext [cidx2]
  rw [e]
  exact (congrArg _ (eq_ix3 y)).trans (outAt m c t (y 0) (y 1) (y 2))
end Cert.KDwkIdeal.Body
-- ==== Proof.Dwd.lean ====
module
public import proofs.«01_k».proof.Proof.Gen.KDwdIdeal.Frame
public import proofs.«01_k».proof.Proof.Gen.RDwdIdeal.Read
public import proofs.«01_k».proof.Proof.Rows
@[expose] public section
noncomputable section
namespace Cert.KDwdIdeal.Body
open Cert.Rows Cert.KDwdIdeal Cert.KDwdIdeal.Gen Idealize.ShloMosaic Idealize.ShloMosaic.TcCoe Idealize.SL.Sem
open Cert.RDwdIdeal.Read
set_option maxRecDepth 16384
variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S4096x512, .f32⟩ : BufTy).Contents (Elt Ideal) := m ((c : Thread nD τ).loc main_arg1)

theorem cidx0 : ∀ t : Fin cfg0.N, win0_0.index t = ![0, 0] := by decide +kernel
theorem cidx1 : ∀ t : Fin cfg0.N, win0_1.index t = ![0, 0] := by decide +kernel
theorem cidx2 : ∀ t : Fin cfg0.N, win0_2.index t = ![0, 0] := by decide +kernel

/-- What the call is given. -/
theorem hV0 (i : Fin 4096) (d : Fin 1024) : (V m c main_v0 : S4096x1024.Idx → EReal) (ix2 i d) = A0 m c (ix2 i d) := by
  unfold V
  after_reads_at
theorem hV1 (i : Fin 4096) (d : Fin 512) : (V m c main_v1 : S4096x512.Idx → EReal) (ix2 i d) = A1 m c (ix2 i d) := by
  unfold V
  after_reads_at

/-- Column `r` of block `t`. -/
@[reducible] def colK (t : Fin cfg0.N) (r : Fin 1024) : Fin 1024 := ⟨1024 * 0 + r.val, by have : t.val < 1 := t.isLt; omega⟩
@[reducible] def colM (t : Fin cfg0.N) (r : Fin 512) : Fin 512 := ⟨512 * 0 + r.val, by have : t.val < 1 := t.isLt; omega⟩

/-- Its blocks at a grid point. -/
theorem iblk0 (t : Fin cfg0.N) (i : Fin 4096) (d : Fin 1024) : (iblk m c 0 t : S4096x1024.Idx → EReal) (ix2 i d) = A0 m c (ix2 i (colK t d)) := by
  rw [← hV0]
  blk_ext [iblk, cidx0]
theorem iblk1 (t : Fin cfg0.N) (i : Fin 4096) (d : Fin 512) : (iblk m c 1 t : S4096x512.Idx → EReal) (ix2 i d) = A1 m c (ix2 i (colM t d)) := by
  rw [← hV1]
  blk_ext [iblk, cidx1]

/-- What a point writes. -/
theorem out2 (x0 : Vec Ideal S4096x1024 .bf16) (x1 : Vec Ideal S4096x512 .bf16) (k : Fin 1024) (d : Fin 512) : out0_2 x0 x1 (ix2 k d) = ∑ i : Fin 4096, x0 (ix2 i k) * x1 (ix2 i d) := by
  frame_out
  pointwise [k0_pay1]

/-- The reference at an index. -/
theorem ref4 (y0 y1) (k : Fin 1024) (d : Fin 512) : val_main_v4 (F := Ideal) y0 y1 (ix2 k d) = ∑ i : Fin 4096, y0 (ix2 i k) * y1 (ix2 i d) := by
  pointwise [val_main_v4, val_main_v3, val_main_v2]
  exact Finset.sum_congr rfl fun i _ => mul_comm _ _

theorem pt2 (t : Fin cfg0.N) (r : Fin 1024) (d : Fin 512) : out0_2 (iblk m c 0 t) (iblk m c 1 t) (ix2 r d) = val_main_v4 (F := Ideal) (A0 m c) (A1 m c) (ix2 (colK t r) (colM t d)) := by
  rw [ref4, out2]
  simp only [iblk0, iblk1]

/-- The weight gradient. -/
theorem arr2 : (dats m 0 c).arrAt 2 cfg0.N = val_main_v4 (F := Ideal) (A0 m c) (A1 m c) := by
  refine (dats m 0 c).arrAt_eq_of_covers 2 _ (by decide +kernel) fun t hf y => ?_
  rw [after0_2]
  blk_simp [cidx2]
  have hy : (y 0).val < 1024 := (y 0).isLt
  have hy1 : (y 1).val < 512 := (y 1).isLt
  have ht : t.val < 1 := t.isLt
  have e : (win0_2.blk t).view.emb y = (@ix2 1024 512 ⟨1024 * 0 + (y 0).val, by omega⟩ ⟨512 * 0 + (y 1).val, by omega⟩ : S1024x512.Idx) := by blk_ext [cidx2]
  rw [e]
  exact (congrArg _ (eq_ix2 y)).trans (pt2 m c t (y 0) (y 1))
end Cert.KDwdIdeal.Body
-- ==== Proof.AttnA.lean ====
module
public import proofs.«01_k».proof.Proof.Gen.KAttnIdeal.Frame
public import Idealize.ShloMosaic.Lib.Pipeline.ReadBack
public import Idealize.ShloMosaic.Lib.Pipeline.ValueKit
public import Idealize.ShloMosaic.Lib.Pointwise
@[expose] public section
noncomputable section
namespace Cert.KAttnIdeal.Body
open Cert.KAttnIdeal Cert.KAttnIdeal.Gen Idealize.ShloMosaic Idealize.ShloMosaic.TcCoe Idealize.SL.Sem
open Idealize.ShloMosaic.ValueIdx
set_option maxRecDepth 16384

/-! ## The tile the body works on, as functions of what it loads -/

/-- Scores of a query tile against a key tile, under the causal mask where the tile is on the diagonal. -/
def scT (diag : Bool) (q k : Vec Ideal S512x256 .bf16) : FVec Ideal S512x512 .f32 :=
  match diag with
  | true => select (cmpi .sle (iota .tc S512x512 32 [1] iota_S512x512_d1_w32) (iota .tc S512x512 32 [0] iota_S512x512_d0_w32))
      (matmul (φ₁ := .bf16) (φ₂ := .bf16) dot_S512x256_S512x256_S512x512_1_1_0_0_n_n none (shapeCast S512x256 q shapeCasts_S512x256_S512x256)
        (shapeCast S512x256 k shapeCasts_S512x256_S512x256) (constant S512x512 .f32 0x00000000#32))
      (broadcast S512x512 (Named.named κ "mask" 0xF149F2CA#32))
  | false => matmul (φ₁ := .bf16) (φ₂ := .bf16) dot_S512x256_S512x256_S512x512_1_1_0_0_n_n none (shapeCast S512x256 q shapeCasts_S512x256_S512x256)
        (shapeCast S512x256 k shapeCasts_S512x256_S512x256) (constant S512x512 .f32 0x00000000#32)

/-- The running maximum after a tile. -/
def updM (s : FVec Ideal S512x512 .f32) (m : FVec Ideal S512x1 .f32) : FVec Ideal S512x1 .f32 :=
  maximumf m (shapeCast S512x1 (multiReduction .maximumf [1] S512 s 0xFF800000#32 reduces_S512x512_S512 (.inl rfl) rfl) shapeCasts_S512_S512x1)

/-- The running sums after a tile. -/
def updA (s : FVec Ideal S512x512 .f32) (v : Vec Ideal S512x256 .bf16) (m : FVec Ideal S512x1 .f32) (a : FVec Ideal S512x256 .f32) : FVec Ideal S512x256 .f32 :=
  addf (mulf (broadcastTo S512x256 (exp2 (subf m (updM s m))) broadcasts_S512x1_S512x256) a)
    (matmul (φ₁ := .bf16) (φ₂ := .bf16) dot_S512x512_S512x256_S512x256_1_0_0_1_n_n none
      (truncf .bf16 (exp2 (subf s (broadcastTo S512x512 (updM s m) broadcasts_S512x1_S512x512))) bitsLt_bf16_f32) v (constant S512x256 .f32 0x00000000#32))

section
variable (q k v : Fin 8 → Vec Ideal S512x256 .bf16)

/-- The running maximum of query tile `I` after the key tiles of a list, last first. -/
def stM (I : Fin 8) : List (Fin 8) → FVec Ideal S512x1 .f32
  | [] => broadcast S512x1 (Named.named κ "mask" 0xF149F2CA#32)
  | J :: L => updM (scT (I == J) (q I) (k J)) (stM I L)

/-- The running sums of query tile `I` after the key tiles of a list, last first. -/
def stA (I : Fin 8) : List (Fin 8) → FVec Ideal S512x256 .f32
  | [] => broadcast S512x256 (Scalar.ofBits .f32 0x00000000#32)
  | J :: L => updA (scT (I == J) (q I) (k J)) (v J) (stM q k I L) (stA I L)

/-- The key tiles up to query tile `I`, last first. -/
def dn : Fin 8 → List (Fin 8)
  | 0 => [0]
  | 1 => [1, 0]
  | 2 => [2, 1, 0]
  | 3 => [3, 2, 1, 0]
  | 4 => [4, 3, 2, 1, 0]
  | 5 => [5, 4, 3, 2, 1, 0]
  | 6 => [6, 5, 4, 3, 2, 1, 0]
  | 7 => [7, 6, 5, 4, 3, 2, 1, 0]

/-- The softmax denominators of query tile `I`. -/
def dnT (I : Fin 8) : FVec Ideal S512x1 .f32 := extractStridedSlice S512x1 ![0, 128] (stA q k v I (dn I)) slices_S512x256_o0_128_S512x1

/-- The outputs of query tile `I`. -/
def oT (I : Fin 8) : FVec Ideal S512x128 .bf16 :=
  truncf .bf16 (divf (extractStridedSlice S512x128 ![0, 0] (stA q k v I (dn I)) slices_S512x256_o0_0_S512x128 : FVec Ideal S512x128 .f32)
    (broadcastTo S512x128 (dnT q k v I) broadcasts_S512x1_S512x128)) bitsLt_bf16_f32

/-- The row statistics of query tile `I`. -/
def lT (I : Fin 8) : FVec Ideal S1x512x128 .f32 :=
  shapeCast S1x512x128 (broadcastTo S512x128 (shapeCast S512x1 (addf (stM q k I (dn I)) (divf (log (dnT q k v I)) (broadcast S512x1 (Named.named κ "ln2" 0x3F317218#32))))
    shapeCasts_S512x1_S512x1 : FVec Ideal S512x1 .f32) broadcasts_S512x1_S512x128 : FVec Ideal S512x128 .f32) shapeCasts_S512x128_S1x512x128

theorem inb256 (I : Fin 8) : ∀ a, (![512 * I.val, 0] : Fin 2 → ℕ) a + S512x256.size a ≤ S4096x256.size a := by
  revert I; decide
theorem inb128 (I : Fin 8) : ∀ a, (![512 * I.val, 0] : Fin 2 → ℕ) a + S512x128.size a ≤ S4096x128.size a := by
  revert I; decide
theorem inbL (I : Fin 8) : ∀ a, (![0, 512 * I.val, 0] : Fin 3 → ℕ) a + S1x512x128.size a ≤ S1x4096x128.size a := by
  revert I; decide

/-- Row tile `I` of a buffer of 256 lanes. -/
@[reducible] def r256 (I : Fin 8) : Rect S4096x256 := Rect.unit ![512 * I.val, 0] S512x256.size (inb256 I)
@[reducible] def r128 (I : Fin 8) : Rect S4096x128 := Rect.unit ![512 * I.val, 0] S512x128.size (inb128 I)
@[reducible] def rL (I : Fin 8) : Rect S1x4096x128 := Rect.unit ![0, 512 * I.val, 0] S1x512x128.size (inbL I)

/-- The stores of the outputs. -/
def oPieces : List (Fin 8) → List (View.Piece (Elt Ideal) S4096x128 .bf16)
  | [] => []
  | I :: L => ⟨r128 I, oT q k v I⟩ :: oPieces L

/-- The stores of the row statistics. -/
def lPieces : List (Fin 8) → List (View.Piece (Elt Ideal) S1x4096x128 .f32)
  | [] => []
  | I :: L => ⟨rL I, lT q k v I⟩ :: lPieces L
end

section
variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x4096x128 .f32) (harg5 : arg5.IsWhole) (arg6 : Memref sig .tc .vmem S4096x256 .bf16) (harg6 : arg6.IsWhole) (x0 x1 : Vec Ideal S4096x256 .bf16) (x2 : Vec Ideal S4096x128 .bf16)
/-! What the body loads, tile by tile. -/
abbrev qL (I : Fin 8) : Vec Ideal S512x256 .bf16 := View.readAt (Elt Ideal) arg1.view (r256 I).toLoadRect (harg1.unread x0)
abbrev kL (I : Fin 8) : Vec Ideal S512x256 .bf16 := View.readAt (Elt Ideal) arg2.view (r256 I).toLoadRect (harg2.unread x1)
abbrev vL (I : Fin 8) : Vec Ideal S512x256 .bf16 := arg6.view.readCov (kernelRun0_A (F := Ideal) c i arg1 harg1 arg2 harg2 arg3 harg3 arg4 harg4 arg5 harg5 arg6 harg6 x0 x1 x2).2.2.1 (r256 I).toLoadRect

theorem oRun : (kernelRun0_A (F := Ideal) c i arg1 harg1 arg2 harg2 arg3 harg3 arg4 harg4 arg5 harg5 arg6 harg6 x0 x1 x2).1 = oPieces (qL arg1 harg1 x0) (kL arg2 harg2 x1) (vL c i arg1 harg1 arg2 harg2 arg3 harg3 arg4 harg4 arg5 harg5 arg6 harg6 x0 x1 x2) [7, 6, 5, 4, 3, 2, 1, 0] := rfl

theorem lRun : (kernelRun0_A (F := Ideal) c i arg1 harg1 arg2 harg2 arg3 harg3 arg4 harg4 arg5 harg5 arg6 harg6 x0 x1 x2).2.1 = lPieces (qL arg1 harg1 x0) (kL arg2 harg2 x1) (vL c i arg1 harg1 arg2 harg2 arg3 harg3 arg4 harg4 arg5 harg5 arg6 harg6 x0 x1 x2) [7, 6, 5, 4, 3, 2, 1, 0] := rfl
end
end Cert.KAttnIdeal.Body
-- ==== Proof.AttnB.lean ====
module
public import proofs.«01_k».proof.Proof.AttnA
public import Idealize.ShloMosaic.PureOps.Ideal.Laws
public import Idealize.ShloMosaic.Lib.WordCmp
@[expose] public section
noncomputable section
namespace Cert.KAttnIdeal.Body
open Cert.KAttnIdeal Cert.KAttnIdeal.Gen Idealize.ShloMosaic Idealize.ShloMosaic.TcCoe Idealize.SL.Sem
set_option maxRecDepth 16384

/-! ## Powers of two of differences, and sums scaled by them -/

theorem exp2_nonneg (x : EReal) : 0 ≤ Ideal.exp2 x := by
  induction x using EReal.rec with
  | bot => exact le_refl _
  | top => exact le_top
  | coe r => exact EReal.coe_nonneg.mpr (Real.rpow_nonneg (by norm_num) r)

theorem exp2_bot_sub (x : EReal) : Ideal.exp2 (⊥ - x) = 0 := by
  rw [EReal.bot_sub]; rfl

theorem exp2_sub_top (x : EReal) : Ideal.exp2 (x - ⊤) = 0 := by
  rw [EReal.sub_top]; rfl

theorem exp2_sub_ne_top {m m' : EReal} (h : m ≤ m') : Ideal.exp2 (m - m') ≠ ⊤ := by
  induction m' using EReal.rec with
  | bot => rw [le_bot_iff.mp h, exp2_bot_sub]; exact EReal.zero_ne_top
  | top => rw [exp2_sub_top]; exact EReal.zero_ne_top
  | coe b =>
    induction m using EReal.rec with
    | bot => rw [exp2_bot_sub]; exact EReal.zero_ne_top
    | top => exact absurd (le_antisymm le_top h) (EReal.coe_ne_top b)
    | coe a => rw [← EReal.coe_sub]; exact EReal.coe_ne_top _

theorem exp2_mul {x m m' : EReal} (h : x ≤ m) (h' : m ≤ m') : Ideal.exp2 (m - m') * Ideal.exp2 (x - m) = Ideal.exp2 (x - m') := by
  induction m' using EReal.rec with
  | bot => rw [le_bot_iff.mp h', exp2_bot_sub, zero_mul, le_bot_iff.mp (h.trans h'), exp2_bot_sub]
  | top => rw [exp2_sub_top, exp2_sub_top, zero_mul]
  | coe b =>
    induction m using EReal.rec with
    | bot => rw [exp2_bot_sub, zero_mul, le_bot_iff.mp h, exp2_bot_sub]
    | top => exact absurd (le_antisymm le_top h') (EReal.coe_ne_top b)
    | coe a =>
      induction x using EReal.rec with
      | bot => rw [exp2_bot_sub, exp2_bot_sub, mul_zero]
      | top => exact absurd (le_antisymm le_top h) (EReal.coe_ne_top a)
      | coe x =>
        rw [← EReal.coe_sub, ← EReal.coe_sub, ← EReal.coe_sub]
        show ((Real.rpow 2 (a - b) : ℝ) : EReal) * ((Real.rpow 2 (x - a) : ℝ) : EReal) = ((Real.rpow 2 (x - b) : ℝ) : EReal)
        rw [← EReal.coe_mul]
        congr 1
        refine (Real.rpow_add (by norm_num : (0 : ℝ) < 2) _ _).symm.trans ?_
        congr 1; ring

theorem mul_fsum {ι : Type} (s : Finset ι) (c : EReal) (h0 : 0 ≤ c) (h1 : c ≠ ⊤) (f : ι → EReal) : c * ∑ x ∈ s, f x = ∑ x ∈ s, c * f x := by
  classical
  induction s using Finset.induction_on with
  | empty => simp
  | insert a s ha ih => rw [Finset.sum_insert ha, Finset.sum_insert ha, EReal.left_distrib_of_nonneg_of_ne_top h0 h1, ih]

theorem mul_lsum {ι : Type} (L : List ι) (c : EReal) (h0 : 0 ≤ c) (h1 : c ≠ ⊤) (f : ι → EReal) : c * (L.map f).sum = (L.map fun x => c * f x).sum := by
  induction L with
  | nil => simp
  | cons a L ih => rw [List.map_cons, List.map_cons, List.sum_cons, List.sum_cons, EReal.left_distrib_of_nonneg_of_ne_top h0 h1, ih]

/-! ## One head's outputs, whole -/

/-- Row `r` of tile `I`. -/
def gi (I : Fin 8) (r : Fin 512) : Fin 4096 := ⟨512 * I.val + r.val, by omega⟩

theorem exists_gi (j : Fin 4096) : ∃ I r, gi I r = j :=
  ⟨⟨j.val / 512, by omega⟩, ⟨j.val % 512, by omega⟩, Fin.ext (by simp only [gi]; omega)⟩

section spec
variable (x0 x1 : S4096x256.Idx → EReal) (x2 : S4096x128.Idx → EReal)
/-- The causal scores. -/
def Sm (i k : Fin 4096) : EReal := if k ≤ i then ∑ d : Fin 256, x0 (ix2 i d) * x1 (ix2 k d) else ⊥
/-- Each row's greatest score. -/
def Mx (i : Fin 4096) : EReal := Finset.univ.fold max ⊥ (Sm x0 x1 i)
/-- The weights before they are divided by their sum. -/
def Ex (i k : Fin 4096) : EReal := Ideal.exp2 (Sm x0 x1 i k - Mx x0 x1 i)
/-- The outputs. -/
def Oo (i : Fin 4096) (d : Fin 128) : EReal := Ideal.div (∑ k, Ex x0 x1 i k * x2 (ix2 k d)) (∑ k, Ex x0 x1 i k)
/-- The row statistics. -/
def Ls (i : Fin 4096) : EReal := Mx x0 x1 i + Ideal.div (Ideal.log (∑ k, Ex x0 x1 i k)) ((Real.log 2 : ℝ) : EReal)
end spec

theorem mask_eq : (Named.named (F := Ideal) κ "mask" (φ := .f32) 0xF149F2CA#32 : EReal) = ⊥ :=
  IdealRules.named_const.ideal_named_scalar _ _ _ _ rfl
theorem ln2_eq : (Named.named (F := Ideal) κ "ln2" (φ := .f32) 0x3F317218#32 : EReal) = ((Real.log 2 : ℝ) : EReal) :=
  IdealRules.named_const.ideal_named_scalar _ _ _ _ rfl
theorem ninf_eq : Ideal.ofBits .f32 4286578688#32 = ⊥ := by
  show Ideal.ieee 8 23 4286578688#32 = ⊥
  unfold Ideal.ieee
  have h1 : (BitVec.extractLsb' 23 8 (4286578688#32)).toNat = 2 ^ 8 - 1 := by decide
  have h2 : (BitVec.extractLsb' 0 23 (4286578688#32)).toNat = 0 := by decide
  have h3 : (BitVec.extractLsb' (8+23) 1 (4286578688#32) == 1#1) = true := by decide
  simp only [h1, h2, h3, if_true]

theorem gi_le (I : Fin 8) (r c : Fin 512) : gi I c ≤ gi I r ↔ c ≤ r := by
  simp only [gi, Fin.le_def]; omega

theorem gi_le_of_lt {I J : Fin 8} (h : J < I) (r c : Fin 512) : gi J c ≤ gi I r := by
  simp only [gi, Fin.le_def, Fin.lt_def] at *; omega

/-- A sum over the rows, tile by tile. -/
theorem sum_gi (f : Fin 4096 → EReal) : ∑ i, f i = ∑ I : Fin 8, ∑ r : Fin 512, f (gi I r) := by
  rw [← Fintype.sum_prod_type' (f := fun I r => f (gi I r))]
  refine (Fintype.sum_equiv (finProdFinEquiv (m := 8) (n := 512)) _ _ fun p => ?_).symm
  congr 1
  apply Fin.ext
  simp [gi, finProdFinEquiv, add_comm]

section tiles
variable {x0 x1 : S4096x256.Idx → EReal} {x2 : S4096x128.Idx → EReal} {q k v : Fin 8 → Vec Ideal S512x256 .bf16}

/-- Off the causal triangle there is no score. -/
theorem Sm_bot {I J : Fin 8} (h : I < J) (r c : Fin 512) : Sm x0 x1 (gi I r) (gi J c) = ⊥ := by
  unfold Sm
  rw [if_neg]
  simp only [gi, Fin.le_def, Fin.lt_def] at *; omega

theorem scT_at (hq : ∀ I r d, q I (ix2 r d) = x0 (ix2 (gi I r) d)) (hk : ∀ I r d, k I (ix2 r d) = x1 (ix2 (gi I r) d))
    (I J : Fin 8) (hJ : J ≤ I) (r c : Fin 512) : scT (I == J) (q I) (k J) (ix2 r c) = Sm x0 x1 (gi I r) (gi J c) := by
  rcases eq_or_ne I J with rfl | hne
  · rw [beq_self_eq_true]
    unfold Sm
    pointwise [scT]
    simp only [hq, hk, gi_le, mask_eq]
    rw [WordCmp.cmpi_sle_ofNat (by omega) (by omega)]
    by_cases h : c ≤ r
    · rw [if_pos h, decide_eq_true (show (c : ℕ) ≤ r from h)]; rfl
    · rw [if_neg h, decide_eq_false (show ¬ (c : ℕ) ≤ r from h)]; rfl
  · rw [beq_eq_false_iff_ne.mpr hne]
    unfold Sm
    pointwise [scT]
    rw [if_pos (gi_le_of_lt (lt_of_le_of_ne hJ hne.symm) r c)]
    simp only [hq, hk]

theorem updM_at (s : FVec Ideal S512x512 .f32) (m : FVec Ideal S512x1 .f32) (r : Fin 512) :
    updM s m (ix2 r 0) = max (m (ix2 r 0)) (Finset.univ.fold max ⊥ fun c : Fin 512 => s (ix2 r c)) := by
  unfold updM
  pointwise
  rw [← ninf_eq]

theorem updA_at (s : FVec Ideal S512x512 .f32) (w : Vec Ideal S512x256 .bf16) (m : FVec Ideal S512x1 .f32) (a : FVec Ideal S512x256 .f32) (r : Fin 512) (d : Fin 256) :
    updA s w m a (ix2 r d) = Ideal.exp2 (m (ix2 r 0) - updM s m (ix2 r 0)) * a (ix2 r d)
      + ∑ c : Fin 512, Ideal.exp2 (s (ix2 r c) - updM s m (ix2 r 0)) * w (ix2 c d) := by
  unfold updA
  generalize updM s m = M
  pointwise
  rfl

/-- The greatest score of a row over the key tiles of a list. -/
def mx (x0 x1 : S4096x256.Idx → EReal) (I : Fin 8) (r : Fin 512) : List (Fin 8) → EReal
  | [] => ⊥
  | J :: L => max (mx x0 x1 I r L) (Finset.univ.fold max ⊥ fun c : Fin 512 => Sm x0 x1 (gi I r) (gi J c))

theorem le_mx (I : Fin 8) (r : Fin 512) (L : List (Fin 8)) : ∀ J ∈ L, ∀ c, Sm x0 x1 (gi I r) (gi J c) ≤ mx x0 x1 I r L := by
  induction L with
  | nil => intro J h; simp at h
  | cons K L ih =>
    intro J h c
    rcases List.mem_cons.mp h with rfl | h
    · exact le_max_of_le_right (Finset.le_fold_max _ |>.mpr (Or.inr ⟨c, Finset.mem_univ c, le_refl _⟩))
    · exact le_max_of_le_left (ih J h c)

theorem mx_le (I : Fin 8) (r : Fin 512) (X : EReal) (L : List (Fin 8)) (h : ∀ J ∈ L, ∀ c, Sm x0 x1 (gi I r) (gi J c) ≤ X) : mx x0 x1 I r L ≤ X := by
  induction L with
  | nil => exact bot_le
  | cons K L ih =>
    refine max_le (ih fun J hJ => h J (List.mem_cons_of_mem _ hJ)) ?_
    exact Finset.fold_max_le _ |>.mpr ⟨bot_le, fun c _ => h K List.mem_cons_self c⟩

theorem stM_at (hq : ∀ I r d, q I (ix2 r d) = x0 (ix2 (gi I r) d)) (hk : ∀ I r d, k I (ix2 r d) = x1 (ix2 (gi I r) d))
    (I : Fin 8) (r : Fin 512) (L : List (Fin 8)) (h : ∀ J ∈ L, J ≤ I) : stM q k I L (ix2 r 0) = mx x0 x1 I r L := by
  induction L with
  | nil => pointwise [stM, mx, mask_eq]
  | cons J L ih =>
    rw [stM, updM_at, ih fun K hK => h K (List.mem_cons_of_mem _ hK), mx]
    simp only [scT_at hq hk I J (h J List.mem_cons_self)]

theorem stA_at (hq : ∀ I r d, q I (ix2 r d) = x0 (ix2 (gi I r) d)) (hk : ∀ I r d, k I (ix2 r d) = x1 (ix2 (gi I r) d))
    (I : Fin 8) (r : Fin 512) (d : Fin 256) (L : List (Fin 8)) (h : ∀ J ∈ L, J ≤ I) :
    stA q k v I L (ix2 r d) = (L.map fun J => ∑ c : Fin 512, Ideal.exp2 (Sm x0 x1 (gi I r) (gi J c) - mx x0 x1 I r L) * v J (ix2 c d)).sum := by
  induction L with
  | nil => rw [List.map_nil, List.sum_nil]; pointwise [stA]
  | cons J L ih =>
    have hL : ∀ K ∈ L, K ≤ I := fun K hK => h K (List.mem_cons_of_mem _ hK)
    have e : updM (scT (I == J) (q I) (k J)) (stM q k I L) (ix2 r 0) = mx x0 x1 I r (J :: L) := stM_at hq hk I r (J :: L) h
    have hm : mx x0 x1 I r L ≤ mx x0 x1 I r (J :: L) := le_max_left _ _
    rw [stA, updA_at, e, ih hL, stM_at hq hk I r L hL, List.map_cons, List.sum_cons, add_comm]
    simp only [scT_at hq hk I J (h J List.mem_cons_self)]
    congr 1
    rw [mul_lsum _ _ (exp2_nonneg _) (exp2_sub_ne_top hm)]
    refine congrArg List.sum (List.map_congr_left fun K hK => ?_)
    rw [mul_fsum _ _ (exp2_nonneg _) (exp2_sub_ne_top hm)]
    refine Finset.sum_congr rfl fun c _ => ?_
    rw [← mul_assoc, exp2_mul (le_mx I r L K hK c) hm]

theorem dn_mem (I J : Fin 8) : J ∈ dn I ↔ J ≤ I := by
  revert I J; decide

theorem dn_sum (I : Fin 8) (f : Fin 8 → EReal) : ((dn I).map f).sum = ∑ J : Fin 8, if J ≤ I then f J else 0 := by
  have h1 : (dn I).Nodup := by revert I; decide
  have h2 : (dn I).toFinset = Finset.univ.filter fun J : Fin 8 => J ≤ I := by revert I; decide
  rw [← List.sum_toFinset f h1, h2, Finset.sum_filter]

theorem mx_dn (I : Fin 8) (r : Fin 512) : mx x0 x1 I r (dn I) = Mx x0 x1 (gi I r) := by
  refine le_antisymm (mx_le I r _ _ fun J _ c => ?_) (Finset.fold_max_le _ |>.mpr ⟨bot_le, fun j _ => ?_⟩)
  · exact Finset.le_fold_max _ |>.mpr (Or.inr ⟨gi J c, Finset.mem_univ _, le_refl _⟩)
  · obtain ⟨J, c, rfl⟩ := exists_gi j
    by_cases h : J ≤ I
    · exact le_mx I r _ J ((dn_mem I J).mpr h) c
    · rw [Sm_bot (not_le.mp h)]; exact bot_le

theorem stA_dn (hq : ∀ I r d, q I (ix2 r d) = x0 (ix2 (gi I r) d)) (hk : ∀ I r d, k I (ix2 r d) = x1 (ix2 (gi I r) d))
    (I : Fin 8) (r : Fin 512) (d : Fin 256) (w : Fin 4096 → EReal) (hw : ∀ J c, v J (ix2 c d) = w (gi J c)) :
    stA q k v I (dn I) (ix2 r d) = ∑ j, Ex x0 x1 (gi I r) j * w j := by
  rw [stA_at hq hk I r d _ fun J hJ => (dn_mem I J).mp hJ, dn_sum, mx_dn, sum_gi]
  refine Finset.sum_congr rfl fun J _ => ?_
  by_cases h : J ≤ I
  · rw [if_pos h]
    simp only [hw, Ex]
  · rw [if_neg h]
    symm
    refine Finset.sum_eq_zero fun c _ => ?_
    rw [Ex, Sm_bot (not_le.mp h), exp2_bot_sub, zero_mul]

theorem dnT_at (hq : ∀ I r d, q I (ix2 r d) = x0 (ix2 (gi I r) d)) (hk : ∀ I r d, k I (ix2 r d) = x1 (ix2 (gi I r) d))
    (hv : ∀ J c, v J (ix2 c 128) = 1) (I : Fin 8) (r : Fin 512) : dnT q k v I (ix2 r 0) = ∑ j, Ex x0 x1 (gi I r) j := by
  have e := stA_dn hq hk I r 128 (fun _ => 1) hv
  simp only [mul_one] at e
  rw [← e]
  unfold dnT
  generalize stA q k v I (dn I) = A
  pointwise

theorem oT_at (hq : ∀ I r d, q I (ix2 r d) = x0 (ix2 (gi I r) d)) (hk : ∀ I r d, k I (ix2 r d) = x1 (ix2 (gi I r) d))
    (hv : ∀ J c, v J (ix2 c 128) = 1) (hv' : ∀ J c (d : Fin 128), v J (ix2 c ⟨d.val, by omega⟩) = x2 (ix2 (gi J c) d)) (I : Fin 8) (r : Fin 512) (d : Fin 128) :
    oT q k v I (ix2 r d) = Oo x0 x1 x2 (gi I r) d := by
  have e := stA_dn hq hk I r ⟨d.val, by omega⟩ (fun j => x2 (ix2 j d)) fun J c => hv' J c d
  unfold Oo
  rw [← e, ← dnT_at hq hk hv]
  unfold oT
  generalize stA q k v I (dn I) = A
  generalize dnT q k v I = B
  pointwise

theorem lT_at (hq : ∀ I r d, q I (ix2 r d) = x0 (ix2 (gi I r) d)) (hk : ∀ I r d, k I (ix2 r d) = x1 (ix2 (gi I r) d))
    (hv : ∀ J c, v J (ix2 c 128) = 1) (I : Fin 8) (r : Fin 512) (l : Fin 128) :
    lT q k v I (ix3 0 r l) = Ls x0 x1 (gi I r) := by
  unfold Ls
  rw [← dnT_at hq hk hv, ← mx_dn, ← stM_at hq hk I r _ fun J hJ => (dn_mem I J).mp hJ, ← ln2_eq]
  unfold lT
  generalize stM q k I (dn I) = A
  generalize dnT q k v I = B
  pointwise

/-! ## The stores -/

theorem oPieces_at (I : Fin 8) (r : Fin 512) (d : Fin 128) (L : List (Fin 8)) (h : I ∈ L) :
    View.canon (oPieces q k v L) (ix2 (gi I r) d) = oT q k v I (ix2 r d) := by
  induction L with
  | nil => simp at h
  | cons J L ih =>
    rw [oPieces, View.canon_cons]
    rcases eq_or_ne I J with rfl | hne
    · have e : ix2 (gi I r) d = (r128 I).emb (ix2 r d) := by
        funext a; apply Fin.ext
        rw [ValueKit.rect_emb_unit_val]
        fin_cases a <;> simp [gi, ix2]
      rw [e, Rect.overlay_emb]
    · rw [Rect.overlay_of_not_mem]
      · exact ih ((List.mem_cons.mp h).resolve_left hne)
      · rw [Rect.mem_set_unit]
        intro h
        obtain ⟨h1, h2⟩ := h 0
        simp [gi, ix2] at h1 h2
        exact hne (Fin.ext (by omega))

theorem lPieces_at (I : Fin 8) (r : Fin 512) (l : Fin 128) (L : List (Fin 8)) (h : I ∈ L) :
    View.canon (lPieces q k v L) (ix3 0 (gi I r) l) = lT q k v I (ix3 0 r l) := by
  induction L with
  | nil => simp at h
  | cons J L ih =>
    rw [lPieces, View.canon_cons]
    rcases eq_or_ne I J with rfl | hne
    · have e : ix3 0 (gi I r) l = (rL I).emb (ix3 0 r l) := by
        funext a; apply Fin.ext
        rw [ValueKit.rect_emb_unit_val]
        fin_cases a <;> simp [gi, ix3]
      rw [e, Rect.overlay_emb]
    · rw [Rect.overlay_of_not_mem]
      · exact ih ((List.mem_cons.mp h).resolve_left hne)
      · rw [Rect.mem_set_unit]
        intro h
        obtain ⟨h1, h2⟩ := h 1
        simp [gi, ix3] at h1 h2
        exact hne (Fin.ext (by omega))
end tiles
end Cert.KAttnIdeal.Body
-- ==== Proof.AttnC.lean ====
module
public import proofs.«01_k».proof.Proof.AttnB
@[expose] public section
noncomputable section
namespace Cert.KAttnIdeal.Body
open Cert.KAttnIdeal Cert.KAttnIdeal.Gen Idealize.ShloMosaic Idealize.ShloMosaic.TcCoe Idealize.SL.Sem
set_option maxRecDepth 16384

section
variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x4096x128 .f32) (harg5 : arg5.IsWhole) (arg6 : Memref sig .tc .vmem S4096x256 .bf16) (harg6 : arg6.IsWhole) (x0 x1 : Vec Ideal S4096x256 .bf16) (x2 : Vec Ideal S4096x128 .bf16)

theorem qL_at (I : Fin 8) (r : Fin 512) (d : Fin 256) : qL arg1 harg1 x0 I (ix2 r d) = x0 (ix2 (gi I r) d) := by
  rw [qL, View.readAt_eq_ld, harg1.read_unread]
  exact View.ld_unit_apply_of _ _ _ _ _ _ (fun a => by fin_cases a <;> simp [gi, ix2])
theorem kL_at (I : Fin 8) (r : Fin 512) (d : Fin 256) : kL arg2 harg2 x1 I (ix2 r d) = x1 (ix2 (gi I r) d) := by
  rw [kL, View.readAt_eq_ld, harg2.read_unread]
  exact View.ld_unit_apply_of _ _ _ _ _ _ (fun a => by fin_cases a <;> simp [gi, ix2])

/-- The values and the ones beside them, as the body stores them. -/
theorem vRun : (kernelRun0_A (F := Ideal) c i arg1 harg1 arg2 harg2 arg3 harg3 arg4 harg4 arg5 harg5 arg6 harg6 x0 x1 x2).2.2.1
    = [⟨Rect.unit (s := S4096x256) ![0, 128] S4096x128.size inb_S4096x256_S4096x128_0_128, k0_pay7 (F := Ideal)⟩,
       ⟨Rect.unit (s := S4096x256) ![0, 0] S4096x128.size inb_S4096x256_S4096x128_0_0,
        k0_pay6 (F := Ideal) (View.readAt (Elt Ideal) arg3.view (Rect.unit (s := S4096x128) ![0, 0] S4096x128.size inb_S4096x128_S4096x128_0_0).toLoadRect (harg3.unread x2))⟩] := rfl

theorem one_eq : Ideal.ofBits .bf16 0x3F80#16 = 1 := by
  pointwise

theorem pay7_at (j : Fin 4096) (d : Fin 128) : k0_pay7 (F := Ideal) (ix2 j d) = 1 := by
  pointwise [k0_pay7]

theorem pay6_at (j : Fin 4096) (d : Fin 128) : k0_pay6 (F := Ideal) (View.readAt (Elt Ideal) arg3.view (Rect.unit (s := S4096x128) ![0, 0] S4096x128.size inb_S4096x128_S4096x128_0_0).toLoadRect (harg3.unread x2)) (ix2 j d) = x2 (ix2 j d) := by
  have e : View.readAt (Elt Ideal) arg3.view (Rect.unit (s := S4096x128) ![0, 0] S4096x128.size inb_S4096x128_S4096x128_0_0).toLoadRect (harg3.unread x2) (ix2 j d) = x2 (ix2 j d) := by
    rw [View.readAt_eq_ld, harg3.read_unread]
    exact View.ld_unit_apply_of _ _ _ _ _ _ (fun a => by fin_cases a <;> simp [ix2])
  rw [← e]
  generalize View.readAt (Elt Ideal) arg3.view (Rect.unit (s := S4096x128) ![0, 0] S4096x128.size inb_S4096x128_S4096x128_0_0).toLoadRect (harg3.unread x2) = X
  pointwise [k0_pay6]

/-- A buffer of 256 lanes stored in two halves. -/
theorem canon_halves (w w' : S4096x128.Idx → EReal) (j : Fin 4096) (d : Fin 256) :
    View.canon (Val := Elt Ideal) [(⟨Rect.unit (s := S4096x256) ![0, 128] S4096x128.size inb_S4096x256_S4096x128_0_128, w⟩ : View.Piece (Elt Ideal) S4096x256 .bf16),
      ⟨Rect.unit (s := S4096x256) ![0, 0] S4096x128.size inb_S4096x256_S4096x128_0_0, w'⟩] (ix2 j d)
      = if h : d.val < 128 then w' (ix2 j ⟨d.val, h⟩) else w (ix2 j ⟨d.val - 128, by omega⟩) := by
  canon_tiles z h
  all_goals idx_vars z
  all_goals obtain rfl : j = z0 := Fin.ext h0
  · have hz := z1.isLt
    rw [dif_neg (by omega)]
    exact congrArg (fun z => w (ix2 j z)) (Fin.ext (by dsimp only; omega))
  · have hz : z1.val < 128 := z1.isLt
    rw [dif_pos (by omega)]
    exact congrArg (fun z => w' (ix2 j z)) (Fin.ext (by dsimp only; omega))

theorem vL_at (I : Fin 8) (r : Fin 512) (d : Fin 256) : vL c i arg1 harg1 arg2 harg2 arg3 harg3 arg4 harg4 arg5 harg5 arg6 harg6 x0 x1 x2 I (ix2 r d)
    = if h : d.val < 128 then x2 (ix2 (gi I r) ⟨d.val, h⟩) else 1 := by
  have e : (r256 I).toLoadRect.idx (ix2 r d) = ix2 (gi I r) d := by
    funext a; apply Fin.ext
    fin_cases a <;> simp [gi, ix2]
  rw [vL, View.readCov_eq_canon', vRun]
  refine (congrArg _ e).trans ?_
  rw [canon_halves]
  by_cases h : d.val < 128
  · rw [dif_pos h, dif_pos h, pay6_at]
  · rw [dif_neg h, dif_neg h, pay7_at]

theorem mem_all (I : Fin 8) : I ∈ ([7, 6, 5, 4, 3, 2, 1, 0] : List (Fin 8)) := by
  revert I; decide

/-- What a head's body leaves: its outputs. -/
theorem outA3 (j : Fin 4096) (d : Fin 128) : out0_A_3 (F := Ideal) c i arg1 harg1 arg2 harg2 arg3 harg3 arg4 harg4 arg5 harg5 arg6 harg6 x0 x1 x2 (ix2 j d) = Oo x0 x1 x2 j d := by
  obtain ⟨I, r, rfl⟩ := exists_gi j
  unfold out0_A_3
  rw [View.read_writes_eq_canon _ _ _ (cover0_A_3 c i arg1 harg1 arg2 harg2 arg3 harg3 arg4 harg4 arg5 harg5 arg6 harg6 x0 x1 x2), oRun, oPieces_at I r d _ (mem_all I)]
  exact oT_at (fun I r d => qL_at arg1 harg1 x0 I r d) (fun I r d => kL_at arg2 harg2 x1 I r d)
    (fun J c' => by rw [vL_at]; rfl) (fun J c' d => by rw [vL_at, dif_pos d.isLt]) I r d

/-- And its row statistics. -/
theorem outA4 (j : Fin 4096) (l : Fin 128) : out0_A_4 (F := Ideal) c i arg1 harg1 arg2 harg2 arg3 harg3 arg4 harg4 arg5 harg5 arg6 harg6 x0 x1 x2 (ix3 0 j l) = Ls x0 x1 j := by
  obtain ⟨I, r, rfl⟩ := exists_gi j
  unfold out0_A_4
  rw [View.read_writes_eq_canon _ _ _ (cover0_A_4 c i arg1 harg1 arg2 harg2 arg3 harg3 arg4 harg4 arg5 harg5 arg6 harg6 x0 x1 x2), lRun, lPieces_at I r l _ (mem_all I)]
  exact lT_at (fun I r d => qL_at arg1 harg1 x0 I r d) (fun I r d => kL_at arg2 harg2 x1 I r d)
    (fun J c' => by rw [vL_at]; rfl) I r l
end
end Cert.KAttnIdeal.Body
-- ==== Proof.AttnS.lean ====
module
public import proofs.«01_k».proof.Proof.Gen.RAttnIdeal.Read
public import Idealize.ShloMosaic.Lib.Pointwise
@[expose] public section
noncomputable section
namespace Cert.RAttnIdeal.Math
open Cert.RAttnIdeal Cert.RAttnIdeal.Read Idealize.ShloMosaic
set_option maxRecDepth 16384

/-- The row statistics from each row's greatest score and sum. -/
theorem v46_from (x0 x1 x2) (h : Fin 16) (i : Fin 4096) (l : Fin 128) : val_main_v46 (F := Ideal) x0 x1 x2 (ix3 h i l)
    = Ideal.div (val_main_v33 (F := Ideal) x0 x1 x2 (ix2 h i) + Ideal.log (val_main_v38 (F := Ideal) x0 x1 x2 (ix2 h i))) (Ideal.log (Ideal.ofBits .f32 1073741824#32)) := by
  have e : ix2 h i = idx_main_v34 (idx_main_v46 (ix3 h i l)) := by
    funext a; fin_cases a <;> rfl
  have e' : ix2 h i = idx_main_v39 (idx_main_v46 (ix3 h i l)) := by
    funext a; fin_cases a <;> rfl
  rw [val_main_v46_apply, val_main_v45_apply, val_main_v41_apply, val_main_v40_apply, val_main_v39_apply, val_main_v34_apply, val_main_v44_apply, val_main_v43_apply, val_main_cst_6_apply, ← e, ← e']
  generalize val_main_v33 (F := Ideal) x0 x1 x2 (ix2 h i) = a
  generalize val_main_v38 (F := Ideal) x0 x1 x2 (ix2 h i) = b
  rfl
end Cert.RAttnIdeal.Math
-- ==== Proof.AttnR.lean ====
module
public import proofs.«01_k».proof.Defs
public import proofs.«01_k».proof.Proof.Gen.RAttnIdeal.Read
public import proofs.«01_k».proof.Proof.Alg
public import proofs.«01_k».proof.Proof.Pre
public import proofs.«01_k».proof.Proof.AttnS
public import proofs.«01_k».proof.Proof.Host3
@[expose] public section
noncomputable section
namespace Cert.RAttnIdeal.Math
open Cert.RAttnIdeal Cert.RAttnIdeal.Read Idealize.ShloMosaic
open Cert.ReferenceIdeal.Math (csum ninf_eq smR sm_eq fold_max_real div_r inf_eq real_of_fin)
open Cert.KernelIdeal.Body (log_two log2_ne log_pos_r sum256 ln2_pos exp2_div)
set_option maxRecDepth 16384

/-- The queries, keys and shared keys as real arrays. The values are left as they are. -/
structure Keys (x0 : (⟨S4096x16x192, .f32⟩ : BufTy).Contents (Elt Ideal)) (x1 : (⟨S4096x16x256, .f32⟩ : BufTy).Contents (Elt Ideal)) (x2 : (⟨S4096x64, .f32⟩ : BufTy).Contents (Elt Ideal)) where
  q : Fin 4096 → Fin 16 → Fin 192 → ℝ
  k : Fin 4096 → Fin 16 → Fin 128 → ℝ
  kr : Fin 4096 → Fin 64 → ℝ
  hq : ∀ i h d, x0 (ix3 i h d) = ((q i h d : ℝ) : EReal)
  hk : ∀ i h (d : Fin 128), x1 (ix3 i h ⟨d.val, by omega⟩) = ((k i h d : ℝ) : EReal)
  hkr : ∀ i d, x2 (ix2 i d) = ((kr i d : ℝ) : EReal)

variable {x0 : (⟨S4096x16x192, .f32⟩ : BufTy).Contents (Elt Ideal)} {x1 : (⟨S4096x16x256, .f32⟩ : BufTy).Contents (Elt Ideal)} {x2 : (⟨S4096x64, .f32⟩ : BufTy).Contents (Elt Ideal)}

theorem v14 (i k : Fin 4096) : val_main_v14 (F := Ideal) (ix2 i k) = if k ≤ i then 1#1 else 0#1 := by
  pointwise [val_main_v14, val_main_v12, val_main_v13, val_main_v9, val_main_v11, val_main_v8, val_main_v10]
  rw [WordCmp.cmpi_sle_ofNat (by omega) (by omega)]
  by_cases h : k ≤ i
  · rw [if_pos h, decide_eq_true (by exact h)]; rfl
  · rw [if_neg h, decide_eq_false (by exact h)]; rfl

namespace Keys
variable (D : Keys x0 x1 x2)
include D

/-- The scores, not scaled. -/
def sc (h : Fin 16) (i k : Fin 4096) : ℝ :=
  (∑ d : Fin 128, D.q i h ⟨d.val, by omega⟩ * D.k k h d) + ∑ r : Fin 64, D.kr k r * D.q i h ⟨128 + r.val, by omega⟩

theorem v7 (h : Fin 16) (i k : Fin 4096) : val_main_v7 (F := Ideal) x0 x1 x2 (ix3 h i k) = ((D.sc h i k : ℝ) : EReal) := by
  pointwise [val_main_v7, val_main_v4, val_main_v0, val_main_v2, val_main_v6, val_main_v5, val_main_v1]
  simp only [D.hq, D.hk, D.hkr, ← EReal.coe_mul, csum, ← EReal.coe_add]
  rfl

/-- The scaled scores under the causal mask. -/
def ss (h : Fin 16) (i k : Fin 4096) : EReal := if k ≤ i then ((D.sc h i k * smR : ℝ) : EReal) else ⊥

theorem v18 (h : Fin 16) (i k : Fin 4096) : val_main_v18 (F := Ideal) x0 x1 x2 (ix3 h i k) = D.ss h i k := by
  unfold ss
  pointwise [val_main_v18, val_main_call0_v1, val_main_v15, val_main_v17, val_main_v16, val_main_cst, val_main_call0_v2, val_main_call0_v0, val_main_cst_0]
  rw [v14, D.v7, sm_eq, ← EReal.coe_mul]
  by_cases hk : k ≤ i
  · rw [if_pos hk, if_pos hk]; rfl
  · rw [if_neg hk, if_neg hk]
    show Ideal.ofBits .f32 4286578688#32 = ⊥
    exact ninf_eq

theorem mu_exists (h : Fin 16) (i : Fin 4096) : ∃ r : ℝ, Finset.univ.fold max ⊥ (D.ss h i) = ((r : ℝ) : EReal) := by
  refine fold_max_real _ (fun k => ?_) i ?_
  · unfold ss; split
    · exact EReal.coe_lt_top _
    · exact bot_lt_top
  · unfold ss; rw [if_pos (le_refl i)]
    exact EReal.bot_lt_coe _

/-- Each row's greatest score. -/
def mu (h : Fin 16) (i : Fin 4096) : ℝ := Classical.choose (D.mu_exists h i)
theorem mu_eq (h : Fin 16) (i : Fin 4096) : Finset.univ.fold max ⊥ (D.ss h i) = ((D.mu h i : ℝ) : EReal) := Classical.choose_spec (D.mu_exists h i)

theorem v19 (h : Fin 16) (i : Fin 4096) : val_main_v19 (F := Ideal) x0 x1 x2 (ix2 h i) = ((D.mu h i : ℝ) : EReal) := by
  rw [← D.mu_eq]
  pointwise [val_main_v19]
  have : val_main_cst_1 (F := Ideal) (Shape.Idx.first Gen.h_S_) = ⊥ := by
    show Ideal.ofBits .f32 4286578688#32 = ⊥
    exact ninf_eq
  rw [this]
  simp only [D.v18]
theorem v33 (h : Fin 16) (i : Fin 4096) : val_main_v33 (F := Ideal) x0 x1 x2 (ix2 h i) = ((D.mu h i : ℝ) : EReal) := D.v19 h i

theorem v21 (h : Fin 16) (i : Fin 4096) : val_main_v21 (F := Ideal) x0 x1 x2 (ix2 h i) = ((D.mu h i : ℝ) : EReal) := by
  rw [val_main_v21_apply, val_main_v20_apply, val_main_cst_2_apply, D.v19]
  show max (Ideal.ofBits .f32 4286578688#32) _ = _
  rw [ninf_eq]
  exact max_bot_left _

/-- The weights before they are divided by their sum. -/
def ee (h : Fin 16) (i k : Fin 4096) : ℝ := if k ≤ i then Real.exp (D.sc h i k * smR - D.mu h i) else 0
def ll (h : Fin 16) (i : Fin 4096) : ℝ := ∑ k, D.ee h i k
/-- The weights. -/
def pp (h : Fin 16) (i k : Fin 4096) : ℝ := D.ee h i k / D.ll h i

theorem exp_ss (h : Fin 16) (i k : Fin 4096) : Ideal.exp (D.ss h i k - ((D.mu h i : ℝ) : EReal)) = ((D.ee h i k : ℝ) : EReal) := by
  unfold ss ee
  split
  · rw [← EReal.coe_sub]; exact Ideal.exp_coe _
  · rw [EReal.bot_sub]; rfl

theorem v25 (h : Fin 16) (i k : Fin 4096) : val_main_v25 (F := Ideal) x0 x1 x2 (ix3 h i k) = ((D.ee h i k : ℝ) : EReal) := by
  pointwise [val_main_v25, val_main_v24, val_main_v23, val_main_v22]
  rw [D.v21, D.v18]
  exact D.exp_ss h i k
theorem v37 (h : Fin 16) (i k : Fin 4096) : val_main_v37 (F := Ideal) x0 x1 x2 (ix3 h i k) = ((D.ee h i k : ℝ) : EReal) := by
  pointwise [val_main_v37, val_main_v36, val_main_v35, val_main_v34]
  rw [D.v33, D.v18]
  exact D.exp_ss h i k

theorem v26 (h : Fin 16) (i : Fin 4096) : val_main_v26 (F := Ideal) x0 x1 x2 (ix2 h i) = ((D.ll h i : ℝ) : EReal) := by
  pointwise [val_main_v26, val_main_cst_3]
  simp only [D.v25, csum]
  rfl
theorem v38 (h : Fin 16) (i : Fin 4096) : val_main_v38 (F := Ideal) x0 x1 x2 (ix2 h i) = ((D.ll h i : ℝ) : EReal) := by
  pointwise [val_main_v38, val_main_cst_5]
  simp only [D.v37, csum]
  rfl

theorem ee_nonneg (h : Fin 16) (i k : Fin 4096) : 0 ≤ D.ee h i k := by
  unfold ee; split
  · exact (Real.exp_pos _).le
  · exact le_refl _
theorem ll_pos (h : Fin 16) (i : Fin 4096) : 0 < D.ll h i := by
  unfold ll
  refine lt_of_lt_of_le ?_ (Finset.single_le_sum (fun k _ => D.ee_nonneg h i k) (Finset.mem_univ i))
  unfold ee; rw [if_pos (le_refl i)]; exact Real.exp_pos _

theorem v29 (h : Fin 16) (i k : Fin 4096) : val_main_v29 (F := Ideal) x0 x1 x2 (ix3 h i k) = ((D.pp h i k : ℝ) : EReal) := by
  pointwise [val_main_v29, val_main_v28, val_main_v27]
  rw [D.v25, D.v26, div_r _ _ (D.ll_pos h i).ne']
  rfl

/-- The outputs. -/
theorem v42 (i : Fin 4096) (h : Fin 16) (d : Fin 128) : val_main_v42 (F := Ideal) x0 x1 x2 (ix2 i ⟨128 * h.val + d.val, by omega⟩)
    = ∑ k, x1 (ix3 k h ⟨128 + d.val, by omega⟩) * ((D.pp h i k : ℝ) : EReal) := by
  pointwise [val_main_v42, val_main_v32, val_main_v31, val_main_v30, val_main_v3]
  simp only [D.v29]

/-- The row statistics. -/
theorem v46 (h : Fin 16) (i : Fin 4096) (l : Fin 128) : val_main_v46 (F := Ideal) x0 x1 x2 (ix3 h i l)
    = (((D.mu h i + Real.log (D.ll h i)) / Real.log 2 : ℝ) : EReal) := by
  rw [v46_from, D.v33, D.v38, log_pos_r _ (D.ll_pos h i), log_two, ← EReal.coe_add, div_r _ _ log2_ne]

/-! ## The kernel's operands for a head -/

/-- A head's columns of the kernel's query and key operands. -/
def qt (h : Fin 16) (i : Fin 4096) (d : Fin 256) : ℝ := (if h1 : d.val < 192 then D.q i h ⟨d.val, h1⟩ else 0) * (smR / Real.log 2)
def kt (h : Fin 16) (i : Fin 4096) (d : Fin 256) : ℝ :=
  if h1 : d.val < 128 then D.k i h ⟨d.val, h1⟩ else if h2 : d.val < 192 then D.kr i ⟨d.val - 128, by omega⟩ else 0

variable (h : Fin 16)
theorem qt_lo (i : Fin 4096) (d : Fin 128) : D.qt h i ⟨d.val, by omega⟩ = D.q i h ⟨d.val, by omega⟩ * (smR / Real.log 2) := by
  unfold qt; rw [dif_pos (show d.val < 192 by omega)]
theorem qt_mid (i : Fin 4096) (d : Fin 64) : D.qt h i ⟨128 + d.val, by omega⟩ = D.q i h ⟨128 + d.val, by omega⟩ * (smR / Real.log 2) := by
  unfold qt; rw [dif_pos (show 128 + d.val < 192 by omega)]
theorem kt_lo (i : Fin 4096) (d : Fin 128) : D.kt h i ⟨d.val, by omega⟩ = D.k i h d := by
  unfold kt; rw [dif_pos d.isLt]
theorem kt_mid (i : Fin 4096) (d : Fin 64) : D.kt h i ⟨128 + d.val, by omega⟩ = D.kr i d := by
  unfold kt; rw [dif_neg (show ¬ 128 + d.val < 128 by omega), dif_pos (show 128 + d.val < 192 by omega)]
  exact congrArg (fun z => D.kr i z) (Fin.ext (show 128 + d.val - 128 = d.val by omega))
theorem kt_hi (i : Fin 4096) (d : Fin 64) : D.kt h i ⟨192 + d.val, by omega⟩ = 0 := by
  unfold kt; rw [dif_neg (show ¬ 192 + d.val < 128 by omega), dif_neg (show ¬ 192 + d.val < 192 by omega)]

theorem qk_sum (i k : Fin 4096) : ∑ d, D.qt h i d * D.kt h k d = D.sc h i k * smR / Real.log 2 := by
  rw [sum256]
  simp only [qt_lo, qt_mid, kt_lo, kt_mid, kt_hi, mul_zero, Finset.sum_const_zero, add_zero]
  unfold sc
  rw [add_mul, add_div, Finset.sum_mul, Finset.sum_div, Finset.sum_mul, Finset.sum_div]
  refine congrArg₂ (· + ·) (Finset.sum_congr rfl fun d _ => ?_) (Finset.sum_congr rfl fun d _ => ?_) <;> ring
end Keys

theorem pre_facts : Cert.Pre_finite_attn.Facts := by
  constructor <;> decide

theorem pre_real (x0 : (⟨S4096x16x192, .f32⟩ : BufTy).Contents (Elt Ideal)) (x1 : (⟨S4096x16x256, .f32⟩ : BufTy).Contents (Elt Ideal)) (x2 : (⟨S4096x64, .f32⟩ : BufTy).Contents (Elt Ideal))
    (h : (letI := pre_facts; Cert.Pre_finite_attn.fn (F := Ideal) x0 x1 x2) = fun _ => 1#1) :
    (∀ i, ∃ r : ℝ, x0 i = ((r : ℝ) : EReal)) ∧ (∀ i h' (d : Fin 128), ∃ r : ℝ, x1 (ix3 i h' ⟨d.val, by omega⟩) = ((r : ℝ) : EReal)) ∧ (∀ i, ∃ r : ℝ, x2 i = ((r : ℝ) : EReal)) := by
  have e := congrFun h (Shape.Idx.first Gen.h_S_)
  dsimp only [Cert.Pre_finite_attn.fn] at e
  simp only [WordCmp.andi_at, IntOp.andi_eq_one] at e
  obtain ⟨⟨e1, e2⟩, e3⟩ := e
  refine ⟨fun i => real_of_fin _ ?_, fun i h' d => real_of_fin _ ?_, fun i => real_of_fin _ ?_⟩ <;> rw [← inf_eq]
  · exact Host.reduce_andi_all _ _ _ _ _ e1 i
  · have q := Host.reduce_andi_all _ _ _ _ _ e2 (ix3 i h' d)
    rw [← q]
    pointwise
    rfl
  · exact Host.reduce_andi_all _ _ _ _ _ e3 i

/-- The finite arguments, as real arrays. -/
def mkKeys (x0 : (⟨S4096x16x192, .f32⟩ : BufTy).Contents (Elt Ideal)) (x1 : (⟨S4096x16x256, .f32⟩ : BufTy).Contents (Elt Ideal)) (x2 : (⟨S4096x64, .f32⟩ : BufTy).Contents (Elt Ideal))
    (h : (letI := pre_facts; Cert.Pre_finite_attn.fn (F := Ideal) x0 x1 x2) = fun _ => 1#1) : Keys x0 x1 x2 where
  q i h' d := ((pre_real x0 x1 x2 h).1 (ix3 i h' d)).choose
  k i h' d := ((pre_real x0 x1 x2 h).2.1 i h' d).choose
  kr i d := ((pre_real x0 x1 x2 h).2.2 (ix2 i d)).choose
  hq i h' d := ((pre_real x0 x1 x2 h).1 (ix3 i h' d)).choose_spec
  hk i h' d := ((pre_real x0 x1 x2 h).2.1 i h' d).choose_spec
  hkr i d := ((pre_real x0 x1 x2 h).2.2 (ix2 i d)).choose_spec
end Cert.RAttnIdeal.Math
-- ==== Proof.AttnH.lean ====
module
public import proofs.«01_k».proof.Proof.Gen.KAttnIdeal.Frame
public import proofs.«01_k».proof.Proof.AttnR
public import Idealize.ShloMosaic.Lib.StableHlo.ReadAt
public import Idealize.ShloMosaic.Lib.Pointwise
@[expose] public section
noncomputable section
namespace Cert.KAttnIdeal.Body
open Cert.KAttnIdeal Cert.KAttnIdeal.Gen Idealize.ShloMosaic Idealize.ShloMosaic.TcCoe Idealize.SL.Sem
open Cert.RAttnIdeal.Math
open Cert.ReferenceIdeal.Math (smR sm_eq div_r)
open Cert.KernelIdeal.Body (log_two log2_ne)
set_option maxRecDepth 16384
variable (m : (ℓ : Loc nD τ sig) → Buf (Elt Ideal) ℓ) (c : Dev nD)

/-- The kernel's arguments, on a device. -/
abbrev A0 : (⟨S4096x16x192, .f32⟩ : BufTy).Contents (Elt Ideal) := m ((c : Thread nD τ).loc main_arg0)
abbrev A1 : (⟨S4096x16x256, .f32⟩ : BufTy).Contents (Elt Ideal) := m ((c : Thread nD τ).loc main_arg1)
abbrev A2 : (⟨S4096x64, .f32⟩ : BufTy).Contents (Elt Ideal) := m ((c : Thread nD τ).loc main_arg2)
abbrev KD := Keys (A0 m c) (A1 m c) (A2 m c)

theorem u1 (i : Fin 4096) (h : Fin 16) (d : Fin 64) : (StableHlo.upto hostOps0 (fun b => m (c, b)) 6 (Proc.devRef .tc main_v1) : S4096x16x64.Idx → EReal) (ix3 i h d) = (0 : EReal) := by
  after_reads_at

/-- The call's operands, head by head. -/
theorem hV9 (D : KD m c) (i : Fin 4096) (h : Fin 16) (d : Fin 256) : (V m c main_v9 : S4096x4096.Idx → EReal) (ix2 i ⟨256 * h.val + d.val, by omega⟩) = ((D.qt h i d : ℝ) : EReal) := by
  unfold V Keys.qt
  after_reads_at
  rw [sm_eq, log_two, div_r _ _ log2_ne, EReal.coe_mul]
  refine congrArg (fun z : EReal => z * ((smR / Real.log 2 : ℝ) : EReal)) ?_
  by_cases h1 : d.val < 192
  · rw [dif_pos h1, dif_pos h1]; exact D.hq _ _ _
  · rw [dif_neg h1, dif_neg h1, u1]; rfl
theorem hV14 (D : KD m c) (i : Fin 4096) (h : Fin 16) (d : Fin 256) : (V m c main_v14 : S4096x4096.Idx → EReal) (ix2 i ⟨256 * h.val + d.val, by omega⟩) = ((D.kt h i d : ℝ) : EReal) := by
  unfold V Keys.kt
  after_reads_at
  after_reads_at
  by_cases h1 : d.val < 128
  · rw [dif_pos h1, dif_pos h1]; exact D.hk i h ⟨d.val, h1⟩
  · rw [dif_neg h1, dif_neg h1]
    by_cases h2 : d.val < 192
    · rw [dif_pos (show d.val - 128 < 64 by omega), dif_pos h2]; exact D.hkr _ _
    · rw [dif_neg (show ¬ d.val - 128 < 64 by omega), dif_neg h2]; rfl
theorem hV16 (i : Fin 4096) (h : Fin 16) (d : Fin 128) : (V m c main_v16 : S4096x2048.Idx → EReal) (ix2 i ⟨128 * h.val + d.val, by omega⟩) = A1 m c (ix3 i h ⟨128 + d.val, by omega⟩) := by
  unfold V
  after_reads_at
end Cert.KAttnIdeal.Body
-- ==== Proof.AttnF.lean ====
module
public import proofs.«01_k».proof.Proof.AttnC
public import proofs.«01_k».proof.Proof.AttnH
@[expose] public section
noncomputable section
namespace Cert.KAttnIdeal.Body
open Cert.KAttnIdeal Cert.KAttnIdeal.Gen Idealize.ShloMosaic Idealize.ShloMosaic.TcCoe Idealize.SL.Sem
open Cert.RAttnIdeal.Math
open Cert.ReferenceIdeal.Math (csum smR div_r)
open Cert.KernelIdeal.Body (log2_ne log_pos_r ln2_pos exp2_div)
open Cert.RAttnIdeal.Read
set_option maxRecDepth 16384

/-! ## One head, against the reference -/
section
variable {a0 : (⟨S4096x16x192, .f32⟩ : BufTy).Contents (Elt Ideal)} {a1 : (⟨S4096x16x256, .f32⟩ : BufTy).Contents (Elt Ideal)} {a2 : (⟨S4096x64, .f32⟩ : BufTy).Contents (Elt Ideal)}
variable (D : Keys a0 a1 a2) (h : Fin 16)
variable {x0 x1 : S4096x256.Idx → EReal} {x2 : S4096x128.Idx → EReal}
variable (h0 : ∀ i d, x0 (ix2 i d) = ((D.qt h i d : ℝ) : EReal)) (h1 : ∀ i d, x1 (ix2 i d) = ((D.kt h i d : ℝ) : EReal))
include h0 h1

theorem Sm_r (i k : Fin 4096) : Sm x0 x1 i k = D.ss h i k * ((1 / Real.log 2 : ℝ) : EReal) := by
  unfold Sm Keys.ss
  simp only [h0, h1, ← EReal.coe_mul, csum, D.qk_sum]
  by_cases hk : k ≤ i
  · rw [if_pos hk, if_pos hk, ← EReal.coe_mul, div_eq_mul_one_div]
  · rw [if_neg hk, if_neg hk, EReal.bot_mul_coe_of_pos (one_div_pos.mpr ln2_pos)]

theorem Mx_r (i : Fin 4096) : Mx x0 x1 i = ((D.mu h i / Real.log 2 : ℝ) : EReal) := by
  have hm : Monotone fun x : EReal => x * ((1 / Real.log 2 : ℝ) : EReal) := fun x y hxy =>
    mul_le_mul_of_nonneg_right hxy (EReal.coe_nonneg.mpr (one_div_pos.mpr ln2_pos).le)
  have e := Finset.fold_hom (op := max) (op' := max) (s := Finset.univ) (b := (⊥ : EReal)) (f := D.ss h i)
    (m := fun x : EReal => x * ((1 / Real.log 2 : ℝ) : EReal)) fun x y => hm.map_max
  rw [D.mu_eq, EReal.bot_mul_coe_of_pos (one_div_pos.mpr ln2_pos), ← EReal.coe_mul, ← div_eq_mul_one_div] at e
  rw [← e]
  unfold Mx
  exact congrArg (Finset.univ.fold max ⊥) (funext fun k => Sm_r D h h0 h1 i k)

theorem Ex_r (i k : Fin 4096) : Ex x0 x1 i k = ((D.ee h i k : ℝ) : EReal) := by
  unfold Ex
  rw [Sm_r D h h0 h1, Mx_r D h h0 h1]
  unfold Keys.ss Keys.ee
  by_cases hk : k ≤ i
  · rw [if_pos hk, if_pos hk, ← EReal.coe_mul, ← div_eq_mul_one_div, ← EReal.coe_sub, ← sub_div, exp2_div]
  · rw [if_neg hk, if_neg hk, EReal.bot_mul_coe_of_pos (one_div_pos.mpr ln2_pos), exp2_bot_sub]; rfl

theorem Ex_sum (i : Fin 4096) : ∑ k, Ex x0 x1 i k = ((D.ll h i : ℝ) : EReal) := by
  simp only [Ex_r D h h0 h1, csum]
  rfl

/-- The head's outputs: the weighted sums divided by the weights' sum are the sums by the divided weights. -/
theorem Oo_r (i : Fin 4096) (d : Fin 128) : Oo x0 x1 x2 i d = ∑ k, x2 (ix2 k d) * ((D.pp h i k : ℝ) : EReal) := by
  have hl := D.ll_pos h i
  unfold Oo
  rw [Ex_sum D h h0 h1, Ideal.div_coe hl.ne', mul_comm, mul_fsum _ _ (EReal.coe_nonneg.mpr (one_div_pos.mpr hl).le) (EReal.coe_ne_top _)]
  refine Finset.sum_congr rfl fun k _ => ?_
  rw [Ex_r D h h0 h1, ← mul_assoc, ← EReal.coe_mul, mul_comm (x2 _)]
  refine congrArg (fun r : ℝ => ((r : ℝ) : EReal) * x2 (ix2 k d)) ?_
  unfold Keys.pp
  rw [mul_comm, ← div_eq_mul_one_div]

/-- The head's row statistics. -/
theorem Ls_r (i : Fin 4096) : Ls x0 x1 i = (((D.mu h i + Real.log (D.ll h i)) / Real.log 2 : ℝ) : EReal) := by
  unfold Ls
  rw [Mx_r D h h0 h1, Ex_sum D h h0 h1, log_pos_r _ (D.ll_pos h i), div_r _ _ log2_ne, ← EReal.coe_add, ← add_div]
end

/-! ## The arrays -/
variable (m : (ℓ : Loc nD τ sig) → Buf (Elt Ideal) ℓ) (c : Dev nD)

theorem cidx0 : ∀ t : Fin cfg0.N, win0_0.index t = ![0, t.val] := by decide +kernel
theorem cidx1 : ∀ t : Fin cfg0.N, win0_1.index t = ![0, t.val] := by decide +kernel
theorem cidx2 : ∀ t : Fin cfg0.N, win0_2.index t = ![0, t.val] := by decide +kernel
theorem cidx3 : ∀ t : Fin cfg0.N, win0_3.index t = ![0, t.val] := by decide +kernel
theorem cidx4 : ∀ t : Fin cfg0.N, win0_4.index t = ![t.val, 0, 0] := by decide +kernel

/-- The head of a grid point. -/
@[reducible] def hd (t : Fin cfg0.N) : Fin 16 := ⟨t.val, t.isLt⟩
/-- Lane `d` of a head's 256, and of its 128. -/
@[reducible] def l256 (t : Fin cfg0.N) (d : Fin 256) : Fin 4096 := ⟨256 * (hd t).val + d.val, by omega⟩
@[reducible] def l128 (t : Fin cfg0.N) (d : Fin 128) : Fin 2048 := ⟨128 * (hd t).val + d.val, by omega⟩

theorem iblk0 (D : KD m c) (t : Fin cfg0.N) (i : Fin 4096) (d : Fin 256) : (iblk m c 0 t : S4096x256.Idx → EReal) (ix2 i d) = ((D.qt (hd t) i d : ℝ) : EReal) := by
  rw [← hV9 m c D]
  show _ = V m c main_v9 (ix2 i (l256 t d))
  blk_ext [iblk, cidx0]
theorem iblk1 (D : KD m c) (t : Fin cfg0.N) (i : Fin 4096) (d : Fin 256) : (iblk m c 1 t : S4096x256.Idx → EReal) (ix2 i d) = ((D.kt (hd t) i d : ℝ) : EReal) := by
  rw [← hV14 m c D]
  show _ = V m c main_v14 (ix2 i (l256 t d))
  blk_ext [iblk, cidx1]
theorem iblk2 (t : Fin cfg0.N) (i : Fin 4096) (d : Fin 128) : (iblk m c 2 t : S4096x128.Idx → EReal) (ix2 i d) = A1 m c (ix3 i (hd t) ⟨128 + d.val, by omega⟩) := by
  rw [← hV16]
  show _ = V m c main_v16 (ix2 i (l128 t d))
  blk_ext [iblk, cidx2]

theorem pt3 (D : KD m c) (t : Fin cfg0.N) (i : Fin 4096) (d : Fin 128) : (outsAt0 m c t).1 (ix2 i d) = val_main_v42 (F := Ideal) (A0 m c) (A1 m c) (A2 m c) (ix2 i (l128 t d)) := by
  rw [D.v42 i (hd t) d]
  unfold outsAt0
  dsimp only
  rw [outA3, Oo_r D (hd t) (fun i d => iblk0 m c D t i d) (fun i d => iblk1 m c D t i d)]
  simp only [iblk2]
theorem pt4 (D : KD m c) (t : Fin cfg0.N) (z : Fin 1) (i : Fin 4096) (l : Fin 128) : (outsAt0 m c t).2 (ix3 z i l) = val_main_v46 (F := Ideal) (A0 m c) (A1 m c) (A2 m c) (ix3 (hd t) i l) := by
  obtain rfl : z = 0 := Subsingleton.elim _ _
  rw [D.v46]
  unfold outsAt0
  dsimp only
  rw [outA4, Ls_r D (hd t) (fun i d => iblk0 m c D t i d) (fun i d => iblk1 m c D t i d)]

/-- The attention's outputs. -/
theorem arr3 (D : KD m c) : (dats m 0 c).arrAt 3 cfg0.N = val_main_v42 (F := Ideal) (A0 m c) (A1 m c) (A2 m c) := by
  refine (dats m 0 c).arrAt_eq_of_covers 3 _ (by decide +kernel) fun t hf y => ?_
  rw [after0_3]
  blk_simp [cidx3]
  have hy : (y 1).val < 128 := (y 1).isLt
  have ht : t.val < 16 := t.isLt
  have e : (win0_3.blk t).view.emb y = (@ix2 4096 2048 (y 0) ⟨128 * t.val + (y 1).val, by omega⟩ : S4096x2048.Idx) := by blk_ext [cidx3]
  rw [e]
  exact (congrArg _ (eq_ix2 y)).trans (pt3 m c D t (y 0) (y 1))

/-- The attention's row statistics. -/
theorem arr4 (D : KD m c) : (dats m 0 c).arrAt 4 cfg0.N = val_main_v46 (F := Ideal) (A0 m c) (A1 m c) (A2 m c) := by
  refine (dats m 0 c).arrAt_eq_of_covers 4 _ (by decide +kernel) fun t hf y => ?_
  rw [after0_4]
  blk_simp [cidx4]
  have hy : (y 0).val < 1 := (y 0).isLt
  have ht : t.val < 16 := t.isLt
  have e : (win0_4.blk t).view.emb y = (@ix3 16 4096 128 ⟨t.val, ht⟩ (y 1) (y 2) : S16x4096x128.Idx) := by blk_ext [cidx4]
  rw [e]
  exact (congrArg _ (eq_ix3 y)).trans (pt4 m c D t (y 0) (y 1) (y 2))
end Cert.KAttnIdeal.Body
-- ==== Proof.Rope.lean ====
module
public import Idealize.ShloMosaic.Lib.Pipeline.ValueKit
@[expose] public section
noncomputable section
namespace Cert.Rope

/-- The table of the cosines, and of the sines with the first half's sign turned, both with zeros behind. -/
def tabC (cos : Fin 32 → EReal) (l : Fin 128) : EReal :=
  if h : l.val < 32 then cos ⟨l.val, h⟩ else if h : l.val < 64 then cos ⟨l.val - 32, by omega⟩ else 0
def tabS (sin : Fin 32 → EReal) (l : Fin 128) : EReal :=
  if h : l.val < 32 then - sin ⟨l.val, h⟩ else if h : l.val < 64 then sin ⟨l.val - 32, by omega⟩ else 0

/-- A row's lanes with its halves exchanged. -/
def swp (L : Fin 128 → EReal) (l : Fin 128) : EReal :=
  if h : l.val < 32 then L ⟨l.val + 32, by omega⟩ else if h : l.val < 64 then L ⟨l.val - 32, by omega⟩ else 0

/-- A row rotated by way of the tables. -/
def ropeK (L cs sn : Fin 128 → EReal) (l : Fin 128) : EReal := L l * cs l + swp L l * sn l

/-- A row rotated half by half, with zeros behind. -/
def ropeR (K : Fin 64 → EReal) (cos sin : Fin 32 → EReal) (l : Fin 128) : EReal :=
  if h : l.val < 32 then K ⟨l.val, by omega⟩ * cos ⟨l.val, h⟩ - K ⟨l.val + 32, by omega⟩ * sin ⟨l.val, h⟩
  else if h : l.val < 64 then K ⟨l.val, h⟩ * cos ⟨l.val - 32, by omega⟩ + K ⟨l.val - 32, by omega⟩ * sin ⟨l.val - 32, by omega⟩ else 0

theorem rope_eq (L : Fin 128 → EReal) (K : Fin 64 → EReal) (cos sin : Fin 32 → EReal)
    (hL : ∀ l, L l = if h : l.val < 64 then K ⟨l.val, h⟩ else 0) (l : Fin 128) :
    ropeK L (tabC cos) (tabS sin) l = ropeR K cos sin l := by
  unfold ropeK ropeR tabC tabS swp
  by_cases h : l.val < 32
  · rw [dif_pos h, dif_pos h, dif_pos h, dif_pos h, hL, hL, dif_pos (show l.val < 64 by omega), dif_pos (show l.val + 32 < 64 by omega), mul_neg, sub_eq_add_neg]
  · rw [dif_neg h, dif_neg h, dif_neg h, dif_neg h]
    by_cases h2 : l.val < 64
    · rw [dif_pos h2, dif_pos h2, dif_pos h2, dif_pos h2, hL, hL, dif_pos h2, dif_pos (show l.val - 32 < 64 by omega)]
    · rw [dif_neg h2, dif_neg h2, dif_neg h2, dif_neg h2, mul_zero, mul_zero, add_zero]
end Cert.Rope
-- ==== Proof.Lat.lean ====
module
public import proofs.«01_k».proof.Proof.Gen.KLatIdeal.Frame
public import proofs.«01_k».proof.Proof.Gen.RLatIdeal.Read
public import proofs.«01_k».proof.Proof.Rows
public import proofs.«01_k».proof.Proof.Rope
@[expose] public section
noncomputable section
namespace Cert.KLatIdeal.Body
open Cert.Rows Cert.Rope Cert.KLatIdeal Cert.KLatIdeal.Gen Idealize.ShloMosaic Idealize.ShloMosaic.TcCoe Idealize.SL.Sem
open Cert.RLatIdeal.Read
set_option maxRecDepth 16384
variable (m : (ℓ : Loc nD τ sig) → Buf (Elt Ideal) ℓ) (c : Dev nD)

abbrev A0 : (⟨S4096x1024, .f32⟩ : BufTy).Contents (Elt Ideal) := m ((c : Thread nD τ).loc main_arg0)
abbrev A1 : (⟨S6x1024, .f32⟩ : BufTy).Contents (Elt Ideal) := m ((c : Thread nD τ).loc main_arg1)
abbrev A2 : (⟨S1x1024, .f32⟩ : BufTy).Contents (Elt Ideal) := m ((c : Thread nD τ).loc main_arg2)
abbrev A3 : (⟨S1024x448, .f32⟩ : BufTy).Contents (Elt Ideal) := m ((c : Thread nD τ).loc main_arg3)
abbrev A4 : (⟨S1x256, .f32⟩ : BufTy).Contents (Elt Ideal) := m ((c : Thread nD τ).loc main_arg4)
abbrev A5 : (⟨S1x128, .f32⟩ : BufTy).Contents (Elt Ideal) := m ((c : Thread nD τ).loc main_arg5)
abbrev A6 : (⟨S4096x32, .f32⟩ : BufTy).Contents (Elt Ideal) := m ((c : Thread nD τ).loc main_arg6)
abbrev A7 : (⟨S4096x32, .f32⟩ : BufTy).Contents (Elt Ideal) := m ((c : Thread nD τ).loc main_arg7)

theorem cidx0 : ∀ t : Fin cfg0.N, win0_0.index t = ![t.val, 0] := by decide +kernel
theorem cidx1 : ∀ t : Fin cfg0.N, win0_1.index t = ![0, 0] := by decide +kernel
theorem cidx2 : ∀ t : Fin cfg0.N, win0_2.index t = ![0, 0] := by decide +kernel
theorem cidx3 : ∀ t : Fin cfg0.N, win0_3.index t = ![0, 0] := by decide +kernel
theorem cidx4 : ∀ t : Fin cfg0.N, win0_4.index t = ![0, 0] := by decide +kernel
theorem cidx5 : ∀ t : Fin cfg0.N, win0_5.index t = ![0, 0] := by decide +kernel
theorem cidx6 : ∀ t : Fin cfg0.N, win0_6.index t = ![t.val, 0] := by decide +kernel
theorem cidx7 : ∀ t : Fin cfg0.N, win0_7.index t = ![t.val, 0] := by decide +kernel
theorem cidx8 : ∀ t : Fin cfg0.N, win0_8.index t = ![t.val, 0] := by decide +kernel
theorem cidx9 : ∀ t : Fin cfg0.N, win0_9.index t = ![t.val, 0] := by decide +kernel
theorem cidx10 : ∀ t : Fin cfg0.N, win0_10.index t = ![t.val, 0] := by decide +kernel
theorem cidx11 : ∀ t : Fin cfg0.N, win0_11.index t = ![t.val, 0] := by decide +kernel
theorem cidx12 : ∀ t : Fin cfg0.N, win0_12.index t = ![t.val, 0] := by decide +kernel

/-- What the call is given. -/
theorem hX0 (i : Fin 4096) (d : Fin 1024) : (V m c main_arg0 : S4096x1024.Idx → EReal) (ix2 i d) = A0 m c (ix2 i d) := by
  unfold V
  after_reads_at
theorem hX1 (i : Fin 6) (d : Fin 1024) : (V m c main_arg1 : S6x1024.Idx → EReal) (ix2 i d) = A1 m c (ix2 i d) := by
  unfold V
  after_reads_at
theorem hX2 (i : Fin 1) (d : Fin 1024) : (V m c main_arg2 : S1x1024.Idx → EReal) (ix2 i d) = A2 m c (ix2 i d) := by
  unfold V
  after_reads_at
theorem hX4 (i : Fin 1) (d : Fin 256) : (V m c main_arg4 : S1x256.Idx → EReal) (ix2 i d) = A4 m c (ix2 i d) := by
  unfold V
  after_reads_at
theorem hX5 (i : Fin 1) (d : Fin 128) : (V m c main_arg5 : S1x128.Idx → EReal) (ix2 i d) = A5 m c (ix2 i d) := by
  unfold V
  after_reads_at
theorem hV1 (i : Fin 4096) (l : Fin 128) : (V m c main_v1 : S4096x128.Idx → EReal) (ix2 i l) = tabC (fun k => A6 m c (ix2 i k)) l := by
  unfold V tabC
  after_reads_at
  by_cases h : l.val < 32
  · rw [dif_pos h, dif_pos h]
  · rw [dif_neg h, dif_neg h]
    by_cases h2 : l.val < 64
    · rw [dif_pos (show l.val - 32 < 32 by omega), dif_pos h2]
    · rw [dif_neg (show ¬ l.val - 32 < 32 by omega), dif_neg h2]
      after_reads_at
theorem hV3 (i : Fin 4096) (l : Fin 128) : (V m c main_v3 : S4096x128.Idx → EReal) (ix2 i l) = tabS (fun k => A7 m c (ix2 i k)) l := by
  unfold V tabS
  after_reads_at
  by_cases h : l.val < 32
  · rw [dif_pos h, dif_pos h]
    rfl
  · rw [dif_neg h, dif_neg h]
    by_cases h2 : l.val < 64
    · rw [dif_pos (show l.val - 32 < 32 by omega), dif_pos h2]
    · rw [dif_neg (show ¬ l.val - 32 < 32 by omega), dif_neg h2]
      after_reads_at
theorem hV6 (i : Fin 1024) (f : Fin 512) : (V m c main_v6 : S1024x512.Idx → EReal) (ix2 i f) = if h : f.val < 448 then A3 m c (ix2 i ⟨f.val, h⟩) else 0 := by
  unfold V
  after_reads_at

/-- Its blocks at a grid point. -/
theorem iblk0 (t : Fin cfg0.N) (i : Fin 512) (d : Fin 1024) : (iblk m c 0 t : S512x1024.Idx → EReal) (ix2 i d) = A0 m c (ix2 (row t i) d) := by
  rw [← hX0]
  blk_ext [iblk, cidx0]
theorem iblk1 (t : Fin cfg0.N) (i : Fin 6) (d : Fin 1024) : (iblk m c 1 t : S6x1024.Idx → EReal) (ix2 i d) = A1 m c (ix2 i d) := by
  rw [← hX1]
  blk_ext [iblk, cidx1]
theorem iblk2 (t : Fin cfg0.N) (i : Fin 1) (d : Fin 1024) : (iblk m c 2 t : S1x1024.Idx → EReal) (ix2 i d) = A2 m c (ix2 i d) := by
  rw [← hX2]
  blk_ext [iblk, cidx2]
theorem iblk3 (t : Fin cfg0.N) (i : Fin 1024) (d : Fin 512) : (iblk m c 3 t : S1024x512.Idx → EReal) (ix2 i d) = if h : d.val < 448 then A3 m c (ix2 i ⟨d.val, h⟩) else 0 := by
  rw [← hV6]
  blk_ext [iblk, cidx3]
theorem iblk4 (t : Fin cfg0.N) (i : Fin 1) (d : Fin 256) : (iblk m c 4 t : S1x256.Idx → EReal) (ix2 i d) = A4 m c (ix2 i d) := by
  rw [← hX4]
  blk_ext [iblk, cidx4]
theorem iblk5 (t : Fin cfg0.N) (i : Fin 1) (d : Fin 128) : (iblk m c 5 t : S1x128.Idx → EReal) (ix2 i d) = A5 m c (ix2 i d) := by
  rw [← hX5]
  blk_ext [iblk, cidx5]
theorem iblk6 (t : Fin cfg0.N) (i : Fin 512) (d : Fin 128) : (iblk m c 6 t : S512x128.Idx → EReal) (ix2 i d) = tabC (fun k => A6 m c (ix2 (row t i) k)) d := by
  rw [← hV1]
  blk_ext [iblk, cidx6]
theorem iblk7 (t : Fin cfg0.N) (i : Fin 512) (d : Fin 128) : (iblk m c 7 t : S512x128.Idx → EReal) (ix2 i d) = tabS (fun k => A7 m c (ix2 (row t i) k)) d := by
  rw [← hV3]
  blk_ext [iblk, cidx7]

/-- A row normalised, scaled and shifted. -/
def hrow (x gn sc sh : Fin 1024 → EReal) (d : Fin 1024) : EReal :=
  x d * Ideal.rsqrt (Ideal.div (∑ e : Fin 1024, x e * x e) (Ideal.ofBits .f32 0x44800000#32) + Ideal.ofBits .f32 0x358637BD#32) * (gn d * (1 + sc d)) + sh d

/-- A lane of the product of such a row. -/
def lt (x gn sc sh : Fin 1024 → EReal) (w : Fin 1024 → EReal) : EReal := ∑ d : Fin 1024, hrow x gn sc sh d * w d

/-- A lane of a row normalised. -/
def nrm {n : ℕ} (b : BitVec 32) (L : Fin n → EReal) (d : Fin n) : EReal :=
  L d * Ideal.rsqrt (Ideal.div (∑ e : Fin n, L e * L e) (Ideal.ofBits .f32 b) + Ideal.ofBits .f32 0x358637BD#32)

section
variable (x0 : Vec Ideal S512x1024 .f32) (x1 : Vec Ideal S6x1024 .f32) (x2 : Vec Ideal S1x1024 .f32) (x3 : Vec Ideal S1024x512 .bf16) (x4 : Vec Ideal S1x256 .f32) (x5 : Vec Ideal S1x128 .f32) (x6 x7 : Vec Ideal S512x128 .f32)

/-- A lane of the product, of a block's row. -/
def ltB (r : Fin 512) (f : Fin 512) : EReal := lt (fun e => x0 (ix2 r e)) (fun e => x2 (ix2 0 e)) (fun e => x1 (ix2 1 e)) (fun e => x1 (ix2 0 e)) (fun e => x3 (ix2 e f))

/-- What a point writes. -/
theorem out8 (r : Fin 512) (d : Fin 1024) : out0_8 x0 x1 x2 x3 x4 x5 x6 x7 (ix2 r d) = hrow (fun e => x0 (ix2 r e)) (fun e => x2 (ix2 0 e)) (fun e => x1 (ix2 1 e)) (fun e => x1 (ix2 0 e)) d := by
  unfold hrow
  frame_out
  pointwise [k0_pay2]
theorem out9 (r : Fin 512) (f : Fin 512) : out0_9 x0 x1 x2 x3 x4 x5 x6 x7 (ix2 r f) = ltB x0 x1 x2 x3 r f := by
  unfold ltB lt hrow
  frame_out
  pointwise [k0_pay3, k0_pay2]
theorem pay3_at (r : Fin 512) (f : Fin 512) : k0_pay3 (F := Ideal) (View.ld x0 r0_0) (View.ld x2 r0_1) (View.ld x1 r0_2) (View.ld x1 r0_3) (View.ld x3 r0_4) (ix2 r f) = ltB x0 x1 x2 x3 r f := by
  unfold ltB lt hrow
  pointwise [k0_pay3, k0_pay2]
theorem pay11_at (r : Fin 512) (f : Fin 512) : k0_pay11 (F := Ideal) x0 x1 x2 x3 x4 x5 x6 x7 (ix2 r f) = ltB x0 x1 x2 x3 r f := by
  unfold k0_pay11
  exact pay3_at x0 x1 x2 x3 r f
theorem out10 (r : Fin 512) (d : Fin 256) : out0_10 x0 x1 x2 x3 x4 x5 x6 x7 (ix2 r d) = nrm 0x43800000#32 (fun e : Fin 256 => ltB x0 x1 x2 x3 r ⟨e.val, by omega⟩) d * x4 (ix2 0 d) := by
  unfold nrm
  simp only [← pay3_at x0 x1 x2 x3]
  frame_out
  pointwise [k0_pay6, k0_pay4, k0_pay5]
theorem out11 (r : Fin 512) (d : Fin 128) : out0_11 x0 x1 x2 x3 x4 x5 x6 x7 (ix2 r d) = nrm 0x43000000#32 (fun e : Fin 128 => ltB x0 x1 x2 x3 r ⟨256 + e.val, by omega⟩) d * x5 (ix2 0 d) := by
  unfold nrm
  simp only [← pay11_at x0 x1 x2 x3 x4 x5 x6 x7]
  frame_out
  pointwise [k0_pay7]
theorem out12 (r : Fin 512) (l : Fin 128) : out0_12 x0 x1 x2 x3 x4 x5 x6 x7 (ix2 r l) = ropeK (fun e : Fin 128 => ltB x0 x1 x2 x3 r ⟨384 + e.val, by omega⟩) (fun e => x6 (ix2 r e)) (fun e => x7 (ix2 r e)) l := by
  unfold ropeK swp
  simp only [← pay11_at x0 x1 x2 x3 x4 x5 x6 x7]
  frame_out
  pointwise [k0_pay1, k0_pay9, k0_pay10, k0_pay8]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
end

section
variable (y0 : (⟨S4096x1024, .f32⟩ : BufTy).Contents (Elt Ideal)) (y1 : (⟨S6x1024, .f32⟩ : BufTy).Contents (Elt Ideal)) (y2 : (⟨S1x1024, .f32⟩ : BufTy).Contents (Elt Ideal)) (y3 : (⟨S1024x448, .f32⟩ : BufTy).Contents (Elt Ideal))
  (y4 : (⟨S1x256, .f32⟩ : BufTy).Contents (Elt Ideal)) (y5 : (⟨S1x128, .f32⟩ : BufTy).Contents (Elt Ideal)) (y6 y7 : (⟨S4096x32, .f32⟩ : BufTy).Contents (Elt Ideal))

/-- A lane of the product, of a row of the reference's. -/
def ltR (i : Fin 4096) (f : Fin 448) : EReal := lt (fun e => y0 (ix2 i e)) (fun e => y2 (ix2 0 e)) (fun e => y1 (ix2 1 e)) (fun e => y1 (ix2 0 e)) (fun e => y3 (ix2 e f))

/-- The reference at an index. -/
theorem ref38 (i : Fin 4096) (d : Fin 1024) : val_main_v38 (F := Ideal) y0 y1 y2 (ix2 i d)
    = hrow (fun e => y0 (ix2 i e)) (fun e => y2 (ix2 0 e)) (fun e => y1 (ix2 1 e)) (fun e => y1 (ix2 0 e)) d := by
  unfold hrow
  pointwise [val_main_v38, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_v1, val_main_cst, val_main_cst_0, val_main_cst_1, val_main_cst_2]
  rw [mul_assoc]
theorem ref24 (i : Fin 4096) (f : Fin 448) : val_main_v24 (F := Ideal) y0 y1 y2 y3 (ix2 i f) = ltR y0 y1 y2 y3 i f := by
  have e : ∀ d : Fin 1024, val_main_v23 (F := Ideal) y0 y1 y2 (ix2 i d) = hrow (fun e => y0 (ix2 i e)) (fun e => y2 (ix2 0 e)) (fun e => y1 (ix2 1 e)) (fun e => y1 (ix2 0 e)) d := ref38 y0 y1 y2 i
  unfold ltR lt
  pointwise [val_main_v24]
  simp only [e]
theorem ref39 (i : Fin 4096) (f : Fin 512) : val_main_v39 (F := Ideal) y0 y1 y2 y3 (ix2 i f) = if h : f.val < 448 then ltR y0 y1 y2 y3 i ⟨f.val, h⟩ else 0 := by
  simp only [← ref24]
  pointwise [val_main_v39, val_main_v37, val_main_cst_3]
theorem ref52 (i : Fin 4096) (d : Fin 256) : val_main_v52 (F := Ideal) y0 y1 y2 y3 y4 (ix2 i d) = nrm 0x43800000#32 (fun e : Fin 256 => ltR y0 y1 y2 y3 i ⟨e.val, by omega⟩) d * y4 (ix2 0 d) := by
  unfold nrm
  simp only [← ref24]
  pointwise [val_main_v52, val_main_v51, val_main_v50, val_main_v49, val_main_v48, val_main_v47, val_main_v46, val_main_v45, val_main_v44, val_main_v43, val_main_v42, val_main_v41, val_main_v40, val_main_v25, val_main_cst_4, val_main_cst_5, val_main_cst_6]
theorem ref65 (i : Fin 4096) (d : Fin 128) : val_main_v65 (F := Ideal) y0 y1 y2 y3 y5 (ix2 i d) = nrm 0x43000000#32 (fun e : Fin 128 => ltR y0 y1 y2 y3 i ⟨256 + e.val, by omega⟩) d * y5 (ix2 0 d) := by
  unfold nrm
  simp only [← ref24]
  pointwise [val_main_v65, val_main_v64, val_main_v63, val_main_v62, val_main_v61, val_main_v60, val_main_v59, val_main_v58, val_main_v57, val_main_v56, val_main_v55, val_main_v54, val_main_v53, val_main_v26, val_main_cst_7, val_main_cst_8, val_main_cst_9]
theorem ref67 (i : Fin 4096) (l : Fin 128) : val_main_v67 (F := Ideal) y0 y1 y2 y3 y6 y7 (ix2 i l) = ropeR (fun e : Fin 64 => ltR y0 y1 y2 y3 i ⟨384 + e.val, by omega⟩) (fun k => y6 (ix2 i k)) (fun k => y7 (ix2 i k)) l := by
  unfold ropeR
  simp only [← ref24]
  pointwise [val_main_v67, val_main_v66, val_main_v37, val_main_v36, val_main_v35, val_main_v34, val_main_v33, val_main_v32, val_main_v31, val_main_v30, val_main_v29, val_main_v28, val_main_v27, val_main_cst_3]
  by_cases h : l.val < 32
  · rw [dif_pos (show l.val < 64 by omega), dif_pos h, dif_pos h]
    simp only [Nat.add_comm 32]
  · rw [dif_neg h]
    by_cases h2 : l.val < 64
    · rw [dif_pos h2, dif_neg h, dif_pos h2]
      have e : 32 + (l.val - 32) = l.val := by omega
      simp only [e]
    · rw [dif_neg h2, dif_neg h2]
end

/-- The product's lanes behind the weight's are zero. -/
theorem ltB_blk (t : Fin cfg0.N) (r f : Fin 512) : ltB (iblk m c 0 t) (iblk m c 1 t) (iblk m c 2 t) (iblk m c 3 t) r f
    = if h : f.val < 448 then ltR (A0 m c) (A1 m c) (A2 m c) (A3 m c) (row t r) ⟨f.val, h⟩ else 0 := by
  unfold ltB ltR lt
  simp only [iblk0, iblk1, iblk2, iblk3]
  by_cases h : f.val < 448
  · simp only [dif_pos h]
  · simp only [dif_neg h, mul_zero, Finset.sum_const_zero]

theorem pt8 (t : Fin cfg0.N) (r : Fin 512) (d : Fin 1024) : out0_8 (iblk m c 0 t) (iblk m c 1 t) (iblk m c 2 t) (iblk m c 3 t) (iblk m c 4 t) (iblk m c 5 t) (iblk m c 6 t) (iblk m c 7 t) (ix2 r d) = val_main_v38 (F := Ideal) (A0 m c) (A1 m c) (A2 m c) (ix2 (row t r) d) := by
  rw [ref38, out8]
  simp only [iblk0, iblk1, iblk2]
theorem pt9 (t : Fin cfg0.N) (r : Fin 512) (d : Fin 512) : out0_9 (iblk m c 0 t) (iblk m c 1 t) (iblk m c 2 t) (iblk m c 3 t) (iblk m c 4 t) (iblk m c 5 t) (iblk m c 6 t) (iblk m c 7 t) (ix2 r d) = val_main_v39 (F := Ideal) (A0 m c) (A1 m c) (A2 m c) (A3 m c) (ix2 (row t r) d) := by
  rw [ref39, out9, ltB_blk]
theorem pt10 (t : Fin cfg0.N) (r : Fin 512) (d : Fin 256) : out0_10 (iblk m c 0 t) (iblk m c 1 t) (iblk m c 2 t) (iblk m c 3 t) (iblk m c 4 t) (iblk m c 5 t) (iblk m c 6 t) (iblk m c 7 t) (ix2 r d) = val_main_v52 (F := Ideal) (A0 m c) (A1 m c) (A2 m c) (A3 m c) (A4 m c) (ix2 (row t r) d) := by
  rw [ref52, out10]
  simp only [ltB_blk, iblk4]
  have h : ∀ e : Fin 256, e.val < 448 := fun e => by omega
  simp only [h, dite_true]
theorem pt11 (t : Fin cfg0.N) (r : Fin 512) (d : Fin 128) : out0_11 (iblk m c 0 t) (iblk m c 1 t) (iblk m c 2 t) (iblk m c 3 t) (iblk m c 4 t) (iblk m c 5 t) (iblk m c 6 t) (iblk m c 7 t) (ix2 r d) = val_main_v65 (F := Ideal) (A0 m c) (A1 m c) (A2 m c) (A3 m c) (A5 m c) (ix2 (row t r) d) := by
  rw [ref65, out11]
  simp only [ltB_blk, iblk5]
  have h : ∀ e : Fin 128, 256 + e.val < 448 := fun e => by omega
  simp only [h, dite_true]
theorem pt12 (t : Fin cfg0.N) (r : Fin 512) (d : Fin 128) : out0_12 (iblk m c 0 t) (iblk m c 1 t) (iblk m c 2 t) (iblk m c 3 t) (iblk m c 4 t) (iblk m c 5 t) (iblk m c 6 t) (iblk m c 7 t) (ix2 r d) = val_main_v67 (F := Ideal) (A0 m c) (A1 m c) (A2 m c) (A3 m c) (A6 m c) (A7 m c) (ix2 (row t r) d) := by
  rw [ref67, out12]
  simp only [iblk6, iblk7]
  refine rope_eq _ _ _ _ (fun l => ?_) d
  rw [ltB_blk]
  by_cases h : l.val < 64
  · rw [dif_pos h, dif_pos (show 384 + l.val < 448 by omega)]
  · rw [dif_neg h, dif_neg (show ¬ 384 + l.val < 448 by omega)]

/-- The modulated rows. -/
theorem arr8 : (dats m 0 c).arrAt 8 cfg0.N = val_main_v38 (F := Ideal) (A0 m c) (A1 m c) (A2 m c) := by
  refine (dats m 0 c).arrAt_eq_of_covers 8 _ (by decide +kernel) fun t hf y => ?_
  rw [after0_8]
  blk_simp [cidx8]
  have hy : (y 0).val < 512 := (y 0).isLt
  have ht : t.val < 8 := t.isLt
  have e : (win0_8.blk t).view.emb y = (@ix2 4096 1024 ⟨512 * t.val + (y 0).val, by omega⟩ (y 1) : S4096x1024.Idx) := by blk_ext [cidx8]
  rw [e]
  exact (congrArg _ (eq_ix2 y)).trans (pt8 m c t (y 0) (y 1))

/-- The latents. -/
theorem arr9 : (dats m 0 c).arrAt 9 cfg0.N = val_main_v39 (F := Ideal) (A0 m c) (A1 m c) (A2 m c) (A3 m c) := by
  refine (dats m 0 c).arrAt_eq_of_covers 9 _ (by decide +kernel) fun t hf y => ?_
  rw [after0_9]
  blk_simp [cidx9]
  have hy : (y 0).val < 512 := (y 0).isLt
  have ht : t.val < 8 := t.isLt
  have e : (win0_9.blk t).view.emb y = (@ix2 4096 512 ⟨512 * t.val + (y 0).val, by omega⟩ (y 1) : S4096x512.Idx) := by blk_ext [cidx9]
  rw [e]
  exact (congrArg _ (eq_ix2 y)).trans (pt9 m c t (y 0) (y 1))

/-- The query's latent, normalised. -/
theorem arr10 : (dats m 0 c).arrAt 10 cfg0.N = val_main_v52 (F := Ideal) (A0 m c) (A1 m c) (A2 m c) (A3 m c) (A4 m c) := by
  refine (dats m 0 c).arrAt_eq_of_covers 10 _ (by decide +kernel) fun t hf y => ?_
  rw [after0_10]
  blk_simp [cidx10]
  have hy : (y 0).val < 512 := (y 0).isLt
  have ht : t.val < 8 := t.isLt
  have e : (win0_10.blk t).view.emb y = (@ix2 4096 256 ⟨512 * t.val + (y 0).val, by omega⟩ (y 1) : S4096x256.Idx) := by blk_ext [cidx10]
  rw [e]
  exact (congrArg _ (eq_ix2 y)).trans (pt10 m c t (y 0) (y 1))

/-- The keys' and values' latent, normalised. -/
theorem arr11 : (dats m 0 c).arrAt 11 cfg0.N = val_main_v65 (F := Ideal) (A0 m c) (A1 m c) (A2 m c) (A3 m c) (A5 m c) := by
  refine (dats m 0 c).arrAt_eq_of_covers 11 _ (by decide +kernel) fun t hf y => ?_
  rw [after0_11]
  blk_simp [cidx11]
  have hy : (y 0).val < 512 := (y 0).isLt
  have ht : t.val < 8 := t.isLt
  have e : (win0_11.blk t).view.emb y = (@ix2 4096 128 ⟨512 * t.val + (y 0).val, by omega⟩ (y 1) : S4096x128.Idx) := by blk_ext [cidx11]
  rw [e]
  exact (congrArg _ (eq_ix2 y)).trans (pt11 m c t (y 0) (y 1))

/-- The shared key, rotated. -/
theorem arr12 : (dats m 0 c).arrAt 12 cfg0.N = val_main_v67 (F := Ideal) (A0 m c) (A1 m c) (A2 m c) (A3 m c) (A6 m c) (A7 m c) := by
  refine (dats m 0 c).arrAt_eq_of_covers 12 _ (by decide +kernel) fun t hf y => ?_
  rw [after0_12]
  blk_simp [cidx12]
  have hy : (y 0).val < 512 := (y 0).isLt
  have ht : t.val < 8 := t.isLt
  have e : (win0_12.blk t).view.emb y = (@ix2 4096 128 ⟨512 * t.val + (y 0).val, by omega⟩ (y 1) : S4096x128.Idx) := by blk_ext [cidx12]
  rw [e]
  exact (congrArg _ (eq_ix2 y)).trans (pt12 m c t (y 0) (y 1))
end Cert.KLatIdeal.Body
-- ==== Proof.QkvH.lean ====
module
public import proofs.«01_k».proof.Proof.Gen.KQkvIdeal.Frame
public import proofs.«01_k».proof.Proof.Rows
public import proofs.«01_k».proof.Proof.Rope
@[expose] public section
noncomputable section
namespace Cert.KQkvIdeal.Body
open Cert.Rows Cert.Rope Cert.KQkvIdeal Cert.KQkvIdeal.Gen Idealize.ShloMosaic Idealize.ShloMosaic.TcCoe Idealize.SL.Sem
set_option maxRecDepth 16384
variable (m : (ℓ : Loc nD τ sig) → Buf (Elt Ideal) ℓ) (c : Dev nD)

abbrev A0 : (⟨S4096x256, .f32⟩ : BufTy).Contents (Elt Ideal) := m ((c : Thread nD τ).loc main_arg0)
abbrev A1 : (⟨S4096x128, .f32⟩ : BufTy).Contents (Elt Ideal) := m ((c : Thread nD τ).loc main_arg1)
abbrev A2 : (⟨S4096x64, .f32⟩ : BufTy).Contents (Elt Ideal) := m ((c : Thread nD τ).loc main_arg2)
abbrev A3 : (⟨S256x3072, .f32⟩ : BufTy).Contents (Elt Ideal) := m ((c : Thread nD τ).loc main_arg3)
abbrev A4 : (⟨S128x4096, .f32⟩ : BufTy).Contents (Elt Ideal) := m ((c : Thread nD τ).loc main_arg4)
abbrev A5 : (⟨S4096x32, .f32⟩ : BufTy).Contents (Elt Ideal) := m ((c : Thread nD τ).loc main_arg5)
abbrev A6 : (⟨S4096x32, .f32⟩ : BufTy).Contents (Elt Ideal) := m ((c : Thread nD τ).loc main_arg6)

theorem cidx0 : ∀ t : Fin cfg0.N, win0_0.index t = ![t.val, 0] := by decide +kernel
theorem cidx1 : ∀ t : Fin cfg0.N, win0_1.index t = ![t.val, 0] := by decide +kernel
theorem cidx2 : ∀ t : Fin cfg0.N, win0_2.index t = ![t.val, 0] := by decide +kernel
theorem cidx3 : ∀ t : Fin cfg0.N, win0_3.index t = ![0, 0] := by decide +kernel
theorem cidx4 : ∀ t : Fin cfg0.N, win0_4.index t = ![0, 0] := by decide +kernel
theorem cidx5 : ∀ t : Fin cfg0.N, win0_5.index t = ![t.val, 0] := by decide +kernel
theorem cidx6 : ∀ t : Fin cfg0.N, win0_6.index t = ![t.val, 0] := by decide +kernel
theorem cidx7 : ∀ t : Fin cfg0.N, win0_7.index t = ![t.val, 0] := by decide +kernel
theorem cidx8 : ∀ t : Fin cfg0.N, win0_8.index t = ![t.val, 0] := by decide +kernel
theorem cidx9 : ∀ t : Fin cfg0.N, win0_9.index t = ![t.val, 0] := by decide +kernel

/-- What the call is given. -/
theorem hV12 (i : Fin 4096) (d : Fin 256) : (V m c main_v12 : S4096x256.Idx → EReal) (ix2 i d) = A0 m c (ix2 i d) := by
  unfold V
  after_reads_at
theorem hV13 (i : Fin 4096) (d : Fin 128) : (V m c main_v13 : S4096x128.Idx → EReal) (ix2 i d) = A1 m c (ix2 i d) := by
  unfold V
  after_reads_at
theorem hV6 (i : Fin 4096) (d : Fin 128) : (V m c main_v6 : S4096x128.Idx → EReal) (ix2 i d) = if h : d.val < 64 then A2 m c (ix2 i ⟨d.val, h⟩) else 0 := by
  unfold V
  after_reads_at
  by_cases h : d.val < 64
  · rw [dif_pos h, dif_pos h]
    after_reads_at
  · rw [dif_neg h, dif_neg h]
    after_reads_at
theorem hV14 (i : Fin 128) (d : Fin 4096) : (V m c main_v14 : S128x4096.Idx → EReal) (ix2 i d) = A4 m c (ix2 i d) := by
  unfold V
  after_reads_at
theorem hV1 (i : Fin 4096) (d : Fin 128) : (V m c main_v1 : S4096x128.Idx → EReal) (ix2 i d) = tabC (fun k => A5 m c (ix2 i k)) d := by
  unfold V tabC
  after_reads_at
  by_cases h : d.val < 32
  · rw [dif_pos h, dif_pos h]
  · rw [dif_neg h, dif_neg h]
    by_cases h2 : d.val < 64
    · rw [dif_pos (show d.val - 32 < 32 by omega), dif_pos h2]
    · rw [dif_neg (show ¬ d.val - 32 < 32 by omega), dif_neg h2]
      after_reads_at
theorem hV3 (i : Fin 4096) (d : Fin 128) : (V m c main_v3 : S4096x128.Idx → EReal) (ix2 i d) = tabS (fun k => A6 m c (ix2 i k)) d := by
  unfold V tabS
  after_reads_at
  by_cases h : d.val < 32
  · rw [dif_pos h, dif_pos h]
    rfl
  · rw [dif_neg h, dif_neg h]
    by_cases h2 : d.val < 64
    · rw [dif_pos (show d.val - 32 < 32 by omega), dif_pos h2]
    · rw [dif_neg (show ¬ d.val - 32 < 32 by omega), dif_neg h2]
      after_reads_at
theorem hV11 (i : Fin 256) (d : Fin 4096) : (V m c main_v11 : S256x4096.Idx → EReal) (ix2 i d) = if h : d.val % 256 < 192 then A3 m c (ix2 i ⟨192 * (d.val / 256) + d.val % 256, by omega⟩) else 0 := by
  unfold V
  after_reads_at
  by_cases h : d.val % 256 < 192
  · rw [dif_pos h, dif_pos h]
    after_reads_at
    exact congrArg (fun z => A3 m c (ix2 i z)) (Fin.ext (by dsimp only; omega))
  · rw [dif_neg h, dif_neg h]
    after_reads_at

/-- Its blocks at a grid point. -/
theorem iblk0 (t : Fin cfg0.N) (i : Fin 512) (d : Fin 256) : (iblk m c 0 t : S512x256.Idx → EReal) (ix2 i d) = A0 m c (ix2 (row t i) d) := by
  rw [← hV12]
  blk_ext [iblk, cidx0]
theorem iblk1 (t : Fin cfg0.N) (i : Fin 512) (d : Fin 128) : (iblk m c 1 t : S512x128.Idx → EReal) (ix2 i d) = A1 m c (ix2 (row t i) d) := by
  rw [← hV13]
  blk_ext [iblk, cidx1]
theorem iblk2 (t : Fin cfg0.N) (i : Fin 512) (d : Fin 128) : (iblk m c 2 t : S512x128.Idx → EReal) (ix2 i d) = if h : d.val < 64 then A2 m c (ix2 (row t i) ⟨d.val, h⟩) else 0 := by
  rw [← hV6]
  blk_ext [iblk, cidx2]
theorem iblk3 (t : Fin cfg0.N) (i : Fin 256) (d : Fin 4096) : (iblk m c 3 t : S256x4096.Idx → EReal) (ix2 i d) = if h : d.val % 256 < 192 then A3 m c (ix2 i ⟨192 * (d.val / 256) + d.val % 256, by omega⟩) else 0 := by
  rw [← hV11]
  blk_ext [iblk, cidx3]
theorem iblk4 (t : Fin cfg0.N) (i : Fin 128) (d : Fin 4096) : (iblk m c 4 t : S128x4096.Idx → EReal) (ix2 i d) = A4 m c (ix2 i d) := by
  rw [← hV14]
  blk_ext [iblk, cidx4]
theorem iblk5 (t : Fin cfg0.N) (i : Fin 512) (d : Fin 128) : (iblk m c 5 t : S512x128.Idx → EReal) (ix2 i d) = tabC (fun k => A5 m c (ix2 (row t i) k)) d := by
  rw [← hV1]
  blk_ext [iblk, cidx5]
theorem iblk6 (t : Fin cfg0.N) (i : Fin 512) (d : Fin 128) : (iblk m c 6 t : S512x128.Idx → EReal) (ix2 i d) = tabS (fun k => A6 m c (ix2 (row t i) k)) d := by
  rw [← hV3]
  blk_ext [iblk, cidx6]
end Cert.KQkvIdeal.Body
-- ==== Proof.QkvT.lean ====
module
public import proofs.«01_k».proof.Proof.Gen.KQkvIdeal.Frame
public import proofs.«01_k».proof.Proof.Rows
public import proofs.«01_k».proof.Proof.Rope
@[expose] public section
noncomputable section
namespace Cert.KQkvIdeal.Body
open Cert.Rows Cert.Rope Cert.KQkvIdeal Cert.KQkvIdeal.Gen Idealize.ShloMosaic Idealize.ShloMosaic.TcCoe Idealize.SL.Sem
set_option maxRecDepth 16384

/-- The scale of the scores times the logarithm's factor. -/
def qs : EReal := Ideal.ofBits .f32 0x3DD53B95#32

/-- A row of queries as stored, from the product's row and the tables' rows. -/
def outQ (Q : Fin 4096 → EReal) (cs sn : Fin 128 → EReal) (z : Fin 4096) : EReal :=
  if z.val % 256 < 128 then Q z * qs
  else ropeK (fun e => Q ⟨256 * (z.val / 256) + 128 + e.val, by omega⟩) cs sn ⟨z.val % 256 - 128, by omega⟩ * qs
/-- A row of keys as stored, from the product's row and the shared key's row. -/
def outK (K : Fin 4096 → EReal) (kr : Fin 128 → EReal) (z : Fin 4096) : EReal :=
  if z.val % 256 < 128 then K z else kr ⟨z.val % 256 - 128, by omega⟩
/-- A row of values as stored, from the product's row. -/
def outV (K : Fin 4096 → EReal) (z : Fin 2048) : EReal := K ⟨256 * (z.val / 128) + 128 + z.val % 128, by omega⟩

theorem outQ_lo (Q : Fin 4096 → EReal) (cs sn : Fin 128 → EReal) (h o : ℕ) (ho : o = 256 * h) (hh : h < 16) (l : Fin 128) :
    Q ⟨o + l.val, by omega⟩ * qs = outQ Q cs sn ⟨o + l.val, by omega⟩ := by
  subst ho
  unfold outQ
  rw [if_pos (by dsimp only; omega)]
theorem outQ_hi (Q : Fin 4096 → EReal) (cs sn : Fin 128 → EReal) (h o : ℕ) (ho : o = 256 * h + 128) (hh : h < 16) (l : Fin 128) :
    ropeK (fun e => Q ⟨o + e.val, by omega⟩) cs sn l * qs = outQ Q cs sn ⟨o + l.val, by omega⟩ := by
  subst ho
  unfold outQ
  rw [if_neg (by dsimp only; omega)]
  have e1 : (256 * h + 128 + l.val) / 256 = h := by omega
  have e2 : (⟨(256 * h + 128 + l.val) % 256 - 128, by omega⟩ : Fin 128) = l := Fin.ext (by dsimp only; omega)
  simp only [e1, e2]
theorem outK_lo (K : Fin 4096 → EReal) (kr : Fin 128 → EReal) (h o : ℕ) (ho : o = 256 * h) (hh : h < 16) (l : Fin 128) :
    K ⟨o + l.val, by omega⟩ = outK K kr ⟨o + l.val, by omega⟩ := by
  subst ho
  unfold outK
  rw [if_pos (by dsimp only; omega)]
theorem outK_hi (K : Fin 4096 → EReal) (kr : Fin 128 → EReal) (h o : ℕ) (ho : o = 256 * h + 128) (hh : h < 16) (l : Fin 128) :
    kr l = outK K kr ⟨o + l.val, by omega⟩ := by
  subst ho
  unfold outK
  rw [if_neg (by dsimp only; omega)]
  exact congrArg kr (Fin.ext (by dsimp only; omega))
theorem outV_eq (K : Fin 4096 → EReal) (h o p : ℕ) (ho : o = 128 * h) (hp : p = 256 * h + 128) (hh : h < 16) (l : Fin 128) :
    K ⟨p + l.val, by omega⟩ = outV K ⟨o + l.val, by omega⟩ := by
  subst ho hp
  unfold outV
  exact congrArg K (Fin.ext (by dsimp only; omega))

/-- A tile of 128 columns agrees with a function when its lanes do. -/
theorem tile (o : ℕ) (ho : o + 128 ≤ 4096) (inb) (w : Vec Ideal S512x128 .bf16) (g : Fin 512 → Fin 4096 → EReal)
    (h : ∀ (r : Fin 512) (l : Fin 128), w (ix2 r l) = g r ⟨o + l.val, by omega⟩) :
    ∀ x : (Rect.unit (s := S512x4096) ![0, o] S512x128.size inb).shape.Idx, w x = g ((Rect.unit (s := S512x4096) ![0, o] S512x128.size inb).emb x 0) ((Rect.unit (s := S512x4096) ![0, o] S512x128.size inb).emb x 1) := by
  intro x
  obtain ⟨r, l, rfl⟩ : ∃ (r : Fin 512) (l : Fin 128), x = ix2 r l := ⟨x 0, x 1, eq_ix2 x⟩
  refine (h r l).trans (congrArg₂ g ?_ ?_)
  · exact Fin.ext ((ValueKit.rect_emb_unit_val _ _ _ _ _).trans (by simp [ix2])).symm
  · exact Fin.ext ((ValueKit.rect_emb_unit_val _ _ _ _ _).trans (by simp [ix2])).symm
theorem tileV (o : ℕ) (ho : o + 128 ≤ 2048) (inb) (w : Vec Ideal S512x128 .bf16) (g : Fin 512 → Fin 2048 → EReal)
    (h : ∀ (r : Fin 512) (l : Fin 128), w (ix2 r l) = g r ⟨o + l.val, by omega⟩) :
    ∀ x : (Rect.unit (s := S512x2048) ![0, o] S512x128.size inb).shape.Idx, w x = g ((Rect.unit (s := S512x2048) ![0, o] S512x128.size inb).emb x 0) ((Rect.unit (s := S512x2048) ![0, o] S512x128.size inb).emb x 1) := by
  intro x
  obtain ⟨r, l, rfl⟩ : ∃ (r : Fin 512) (l : Fin 128), x = ix2 r l := ⟨x 0, x 1, eq_ix2 x⟩
  refine (h r l).trans (congrArg₂ g ?_ ?_)
  · exact Fin.ext ((ValueKit.rect_emb_unit_val _ _ _ _ _).trans (by simp [ix2])).symm
  · exact Fin.ext ((ValueKit.rect_emb_unit_val _ _ _ _ _).trans (by simp [ix2])).symm

section
variable (Q : FVec Ideal S512x4096 .f32) (a : Vec Ideal S512x256 .bf16) (b : Vec Ideal S256x4096 .bf16) (cs sn : FVec Ideal S512x128 .f32) (r : Fin 512) (l : Fin 128)

/-- What a store writes, of the product and the tables. -/
theorem q3968 : k0_pay1 (k0_pay95 Q cs) (k0_pay96 Q sn) (ix2 r l) = ropeK (fun e => Q (ix2 r ⟨3968 + e.val, by omega⟩)) (fun e => cs (ix2 r e)) (fun e => sn (ix2 r e)) l * qs := by
  unfold ropeK swp qs
  pointwise [k0_pay1, k0_pay95, k0_pay96, k0_pay93]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q3840 : k0_pay94 Q (ix2 r l) = Q (ix2 r ⟨3840 + l.val, by omega⟩) * qs := by
  unfold qs
  pointwise [k0_pay94]
theorem q3712 : k0_pay90 sn (k0_pay84 Q) (k0_pay86 Q cs) (iota .tc S512x128 32 [1] iota_S512x128_d1_w32) k0_pay87 (k0_pay88 Q) k0_pay89 (ix2 r l) = ropeK (fun e => Q (ix2 r ⟨3712 + e.val, by omega⟩)) (fun e => cs (ix2 r e)) (fun e => sn (ix2 r e)) l * qs := by
  unfold ropeK swp qs
  pointwise [k0_pay90, k0_pay84, k0_pay86, k0_pay87, k0_pay88, k0_pay89]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q3584 : k0_pay85 Q (ix2 r l) = Q (ix2 r ⟨3584 + l.val, by omega⟩) * qs := by
  unfold qs
  pointwise [k0_pay85]
theorem q3456 : k0_pay81 sn (k0_pay78 Q) (k0_pay80 Q cs) (ix2 r l) = ropeK (fun e => Q (ix2 r ⟨3456 + e.val, by omega⟩)) (fun e => cs (ix2 r e)) (fun e => sn (ix2 r e)) l * qs := by
  unfold ropeK swp qs
  pointwise [k0_pay81, k0_pay78, k0_pay80]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q3328 : k0_pay79 Q (ix2 r l) = Q (ix2 r ⟨3328 + l.val, by omega⟩) * qs := by
  unfold qs
  pointwise [k0_pay79]
theorem q3200 : k0_pay75 cs sn (k0_pay72 Q) (ix2 r l) = ropeK (fun e => Q (ix2 r ⟨3200 + e.val, by omega⟩)) (fun e => cs (ix2 r e)) (fun e => sn (ix2 r e)) l * qs := by
  unfold ropeK swp qs
  pointwise [k0_pay75, k0_pay72]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q3072 : k0_pay74 (k0_pay73 Q) (Scalar.ofBits .f32 0x3DD53B95#32) (ix2 r l) = Q (ix2 r ⟨3072 + l.val, by omega⟩) * qs := by
  unfold qs
  pointwise [k0_pay74, k0_pay73]
theorem q2944 : k0_pay69 Q cs sn (ix2 r l) = ropeK (fun e => Q (ix2 r ⟨2944 + e.val, by omega⟩)) (fun e => cs (ix2 r e)) (fun e => sn (ix2 r e)) l * qs := by
  unfold ropeK swp qs
  pointwise [k0_pay69]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q2816 : k0_pay68 Q (ix2 r l) = Q (ix2 r ⟨2816 + l.val, by omega⟩) * qs := by
  unfold qs
  pointwise [k0_pay68]
theorem q2688 : k0_pay64 Q cs sn (ix2 r l) = ropeK (fun e => Q (ix2 r ⟨2688 + e.val, by omega⟩)) (fun e => cs (ix2 r e)) (fun e => sn (ix2 r e)) l * qs := by
  unfold ropeK swp qs
  pointwise [k0_pay64]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q2560 : k0_pay63 Q (ix2 r l) = Q (ix2 r ⟨2560 + l.val, by omega⟩) * qs := by
  unfold qs
  pointwise [k0_pay63]
theorem q2432 : k0_pay60 Q cs sn (ix2 r l) = ropeK (fun e => Q (ix2 r ⟨2432 + e.val, by omega⟩)) (fun e => cs (ix2 r e)) (fun e => sn (ix2 r e)) l * qs := by
  unfold ropeK swp qs
  pointwise [k0_pay60]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q2304 : k0_pay59 Q (ix2 r l) = Q (ix2 r ⟨2304 + l.val, by omega⟩) * qs := by
  unfold qs
  pointwise [k0_pay59]
theorem q2176 : k0_pay56 (k0_pay55 Q cs sn) (ix2 r l) = ropeK (fun e => Q (ix2 r ⟨2176 + e.val, by omega⟩)) (fun e => cs (ix2 r e)) (fun e => sn (ix2 r e)) l * qs := by
  unfold ropeK swp qs
  pointwise [k0_pay56, k0_pay55]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q2048 : k0_pay54 Q (ix2 r l) = Q (ix2 r ⟨2048 + l.val, by omega⟩) * qs := by
  unfold qs
  pointwise [k0_pay54]
theorem q1920 : k0_pay51 sn (k0_pay46 Q cs) k0_pay47 (k0_pay48 Q) k0_pay49 (k0_pay50 Q) (Scalar.ofBits .f32 0x00000000#32) (ix2 r l) = ropeK (fun e => Q (ix2 r ⟨1920 + e.val, by omega⟩)) (fun e => cs (ix2 r e)) (fun e => sn (ix2 r e)) l * qs := by
  unfold ropeK swp qs
  pointwise [k0_pay51, k0_pay46, k0_pay47, k0_pay48, k0_pay49, k0_pay50, k0_pay44]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q1792 : k0_pay45 Q (ix2 r l) = Q (ix2 r ⟨1792 + l.val, by omega⟩) * qs := by
  unfold qs
  pointwise [k0_pay45]
theorem q1664 : k0_pay41 sn (k0_pay37 Q) (k0_pay39 Q cs) (iota .tc S512x128 32 [1] iota_S512x128_d1_w32) k0_pay40 (ix2 r l) = ropeK (fun e => Q (ix2 r ⟨1664 + e.val, by omega⟩)) (fun e => cs (ix2 r e)) (fun e => sn (ix2 r e)) l * qs := by
  unfold ropeK swp qs
  pointwise [k0_pay41, k0_pay37, k0_pay39, k0_pay40]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q1536 : k0_pay38 Q (ix2 r l) = Q (ix2 r ⟨1536 + l.val, by omega⟩) * qs := by
  unfold qs
  pointwise [k0_pay38]
theorem q1408 : k0_pay34 cs sn (k0_pay32 Q) (ix2 r l) = ropeK (fun e => Q (ix2 r ⟨1408 + e.val, by omega⟩)) (fun e => cs (ix2 r e)) (fun e => sn (ix2 r e)) l * qs := by
  unfold ropeK swp qs
  pointwise [k0_pay34, k0_pay32]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q1280 : k0_pay33 Q (ix2 r l) = Q (ix2 r ⟨1280 + l.val, by omega⟩) * qs := by
  unfold qs
  pointwise [k0_pay33]
theorem q1152 : k0_pay29 Q cs sn (ix2 r l) = ropeK (fun e => Q (ix2 r ⟨1152 + e.val, by omega⟩)) (fun e => cs (ix2 r e)) (fun e => sn (ix2 r e)) l * qs := by
  unfold ropeK swp qs
  pointwise [k0_pay29]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q1024 : k0_pay28 Q (ix2 r l) = Q (ix2 r ⟨1024 + l.val, by omega⟩) * qs := by
  unfold qs
  pointwise [k0_pay28]
theorem q896 : k0_pay25 Q cs sn (ix2 r l) = ropeK (fun e => Q (ix2 r ⟨896 + e.val, by omega⟩)) (fun e => cs (ix2 r e)) (fun e => sn (ix2 r e)) l * qs := by
  unfold ropeK swp qs
  pointwise [k0_pay25]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q768 : k0_pay24 Q (ix2 r l) = Q (ix2 r ⟨768 + l.val, by omega⟩) * qs := by
  unfold qs
  pointwise [k0_pay24]
theorem q640 : k0_pay21 Q cs sn (ix2 r l) = ropeK (fun e => Q (ix2 r ⟨640 + e.val, by omega⟩)) (fun e => cs (ix2 r e)) (fun e => sn (ix2 r e)) l * qs := by
  unfold ropeK swp qs
  pointwise [k0_pay21]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q512 : k0_pay20 Q (ix2 r l) = Q (ix2 r ⟨512 + l.val, by omega⟩) * qs := by
  unfold qs
  pointwise [k0_pay20]
theorem q384 : k0_pay17 Q cs sn (ix2 r l) = ropeK (fun e => Q (ix2 r ⟨384 + e.val, by omega⟩)) (fun e => cs (ix2 r e)) (fun e => sn (ix2 r e)) l * qs := by
  unfold ropeK swp qs
  pointwise [k0_pay17]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q256 : k0_pay16 Q (ix2 r l) = Q (ix2 r ⟨256 + l.val, by omega⟩) * qs := by
  unfold qs
  pointwise [k0_pay16]
theorem q128 : k0_pay13 (k0_pay11 a b cs) (k0_pay12 a b sn) (ix2 r l) = ropeK (fun e => k0_pay4 a b (ix2 r ⟨128 + e.val, by omega⟩)) (fun e => k0_pay6 (F := Ideal) cs (ix2 r e)) (fun e => k0_pay7 (F := Ideal) sn (ix2 r e)) l * qs := by
  unfold ropeK swp qs
  pointwise [k0_pay13, k0_pay11, k0_pay12, k0_pay9]
  rw [WordCmp.cmpi_slt_ofNat (by omega) (by omega), WordCmp.cmpi_slt_ofNat (by omega) (by omega)]
  by_cases h : l.val < 32
  · rw [dif_pos h, decide_eq_true h]
    have e : (l.val + 128 - 96) % 128 = l.val + 32 := by omega
    simp only [e]
    rfl
  · rw [dif_neg h, decide_eq_false h]
    by_cases h2 : l.val < 64
    · rw [dif_pos h2, decide_eq_true h2]
      have e : (l.val + 128 - 32) % 128 = l.val - 32 := by omega
      simp only [e]
      rfl
    · rw [dif_neg h2, decide_eq_false h2]
      have e : ∀ a b : EReal, Scalar.select (BitVec.ofBool false) a b = b := fun _ _ => rfl
      rw [e, e]
theorem q0 : k0_pay10 a b (ix2 r l) = k0_pay4 a b (ix2 r ⟨0 + l.val, by omega⟩) * qs := by
  unfold qs
  pointwise [k0_pay10]
theorem k3840 : k0_pay2 Q (ix2 r l) = Q (ix2 r ⟨3840 + l.val, by omega⟩) := by
  pointwise [k0_pay2]
theorem k3584 : k0_pay91 Q (ix2 r l) = Q (ix2 r ⟨3584 + l.val, by omega⟩) := by
  pointwise [k0_pay91]
theorem k3328 : k0_pay82 Q (ix2 r l) = Q (ix2 r ⟨3328 + l.val, by omega⟩) := by
  pointwise [k0_pay82]
theorem k3072 : k0_pay76 Q (ix2 r l) = Q (ix2 r ⟨3072 + l.val, by omega⟩) := by
  pointwise [k0_pay76]
theorem k2816 : k0_pay70 Q (ix2 r l) = Q (ix2 r ⟨2816 + l.val, by omega⟩) := by
  pointwise [k0_pay70]
theorem k2560 : k0_pay65 Q (ix2 r l) = Q (ix2 r ⟨2560 + l.val, by omega⟩) := by
  pointwise [k0_pay65]
theorem k2304 : k0_pay61 Q (ix2 r l) = Q (ix2 r ⟨2304 + l.val, by omega⟩) := by
  pointwise [k0_pay61]
theorem k2048 : k0_pay57 Q (ix2 r l) = Q (ix2 r ⟨2048 + l.val, by omega⟩) := by
  pointwise [k0_pay57]
theorem k1792 : k0_pay52 Q (ix2 r l) = Q (ix2 r ⟨1792 + l.val, by omega⟩) := by
  pointwise [k0_pay52]
theorem k1536 : k0_pay42 Q (ix2 r l) = Q (ix2 r ⟨1536 + l.val, by omega⟩) := by
  pointwise [k0_pay42]
theorem k1280 : k0_pay35 Q (ix2 r l) = Q (ix2 r ⟨1280 + l.val, by omega⟩) := by
  pointwise [k0_pay35]
theorem k1024 : k0_pay30 Q (ix2 r l) = Q (ix2 r ⟨1024 + l.val, by omega⟩) := by
  pointwise [k0_pay30]
theorem k768 : k0_pay26 Q (ix2 r l) = Q (ix2 r ⟨768 + l.val, by omega⟩) := by
  pointwise [k0_pay26]
theorem k512 : k0_pay22 Q (ix2 r l) = Q (ix2 r ⟨512 + l.val, by omega⟩) := by
  pointwise [k0_pay22]
theorem k256 : k0_pay18 Q (ix2 r l) = Q (ix2 r ⟨256 + l.val, by omega⟩) := by
  pointwise [k0_pay18]
theorem k0 : k0_pay14 Q (ix2 r l) = Q (ix2 r ⟨0 + l.val, by omega⟩) := by
  pointwise [k0_pay14]
theorem v1920 : k0_pay3 Q (ix2 r l) = Q (ix2 r ⟨3968 + l.val, by omega⟩) := by
  pointwise [k0_pay3]
theorem v1792 : k0_pay92 Q (ix2 r l) = Q (ix2 r ⟨3712 + l.val, by omega⟩) := by
  pointwise [k0_pay92]
theorem v1664 : k0_pay83 Q (ix2 r l) = Q (ix2 r ⟨3456 + l.val, by omega⟩) := by
  pointwise [k0_pay83]
theorem v1536 : k0_pay77 Q (ix2 r l) = Q (ix2 r ⟨3200 + l.val, by omega⟩) := by
  pointwise [k0_pay77]
theorem v1408 : k0_pay71 Q (ix2 r l) = Q (ix2 r ⟨2944 + l.val, by omega⟩) := by
  pointwise [k0_pay71]
theorem v1280 : k0_pay67 (k0_pay66 Q) (ix2 r l) = Q (ix2 r ⟨2688 + l.val, by omega⟩) := by
  pointwise [k0_pay67, k0_pay66]
theorem v1152 : k0_pay62 Q (ix2 r l) = Q (ix2 r ⟨2432 + l.val, by omega⟩) := by
  pointwise [k0_pay62]
theorem v1024 : k0_pay58 Q (ix2 r l) = Q (ix2 r ⟨2176 + l.val, by omega⟩) := by
  pointwise [k0_pay58]
theorem v896 : k0_pay53 Q (ix2 r l) = Q (ix2 r ⟨1920 + l.val, by omega⟩) := by
  pointwise [k0_pay53]
theorem v768 : k0_pay43 Q (ix2 r l) = Q (ix2 r ⟨1664 + l.val, by omega⟩) := by
  pointwise [k0_pay43]
theorem v640 : k0_pay36 Q (ix2 r l) = Q (ix2 r ⟨1408 + l.val, by omega⟩) := by
  pointwise [k0_pay36]
theorem v512 : k0_pay31 Q (ix2 r l) = Q (ix2 r ⟨1152 + l.val, by omega⟩) := by
  pointwise [k0_pay31]
theorem v384 : k0_pay27 Q (ix2 r l) = Q (ix2 r ⟨896 + l.val, by omega⟩) := by
  pointwise [k0_pay27]
theorem v256 : k0_pay23 Q (ix2 r l) = Q (ix2 r ⟨640 + l.val, by omega⟩) := by
  pointwise [k0_pay23]
theorem v128 : k0_pay19 Q (ix2 r l) = Q (ix2 r ⟨384 + l.val, by omega⟩) := by
  pointwise [k0_pay19]
theorem v0 : k0_pay15 Q (ix2 r l) = Q (ix2 r ⟨128 + l.val, by omega⟩) := by
  pointwise [k0_pay15]
end
end Cert.KQkvIdeal.Body
-- ==== Proof.QkvO.lean ====
module
public import proofs.«01_k».proof.Proof.QkvT
@[expose] public section
noncomputable section
namespace Cert.KQkvIdeal.Body
open Cert.Rows Cert.Rope Cert.KQkvIdeal Cert.KQkvIdeal.Gen Idealize.ShloMosaic Idealize.ShloMosaic.TcCoe Idealize.SL.Sem
set_option maxRecDepth 16384
section
variable (x0 : Vec Ideal S512x256 .bf16) (x1 : Vec Ideal S512x128 .bf16) (x2 : Vec Ideal S512x128 .bf16) (x3 : Vec Ideal S256x4096 .bf16) (x4 : Vec Ideal S128x4096 .bf16) (x5 : Vec Ideal S512x128 .f32) (x6 : Vec Ideal S512x128 .f32) (r : Fin 512)

/-- The products and the loads, read at an index. -/
theorem pay97_at (f : Fin 4096) : k0_pay97 (F := Ideal) x0 x1 x2 x3 x4 x5 x6 (ix2 r f) = ∑ d : Fin 256, x0 (ix2 r d) * x3 (ix2 d f) := by
  unfold k0_pay97
  pointwise [k0_pay4]
theorem pay98_at (f : Fin 4096) : k0_pay98 (F := Ideal) x0 x1 x2 x3 x4 x5 x6 (ix2 r f) = ∑ d : Fin 128, x1 (ix2 r d) * x4 (ix2 d f) := by
  unfold k0_pay98
  pointwise [k0_pay5]
theorem pay99_at (e : Fin 128) : k0_pay99 (F := Ideal) x0 x1 x2 x3 x4 x5 x6 (ix2 r e) = x5 (ix2 r e) := by
  unfold k0_pay99
  pointwise [k0_pay6]
theorem pay100_at (e : Fin 128) : k0_pay100 (F := Ideal) x0 x1 x2 x3 x4 x5 x6 (ix2 r e) = x6 (ix2 r e) := by
  unfold k0_pay100
  pointwise [k0_pay7]
theorem pay101_at (e : Fin 128) : k0_pay101 (F := Ideal) x0 x1 x2 x3 x4 x5 x6 (ix2 r e) = x2 (ix2 r e) := by
  unfold k0_pay101
  pointwise [k0_pay8]

/-- What a point writes. -/
theorem out7 (z : Fin 4096) : out0_7 x0 x1 x2 x3 x4 x5 x6 (ix2 r z) = outQ (fun f => ∑ d : Fin 256, x0 (ix2 r d) * x3 (ix2 d f)) (fun e => x5 (ix2 r e)) (fun e => x6 (ix2 r e)) z := by
  have g : ∀ y : S512x4096.Idx, out0_7 x0 x1 x2 x3 x4 x5 x6 y = (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z : Fin 512 → Fin 4096 → EReal) (y 0) (y 1) := by
    intro y
    unfold out0_7
    refine View.canon_apply_of_pieces (Val := Elt Ideal) (S := S512x4096) (e := .bf16) (fun y : S512x4096.Idx => (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z : Fin 512 → Fin 4096 → EReal) (y 0) (y 1)) _ ?_ y (cover0_7 _ _ _ _ _ _ _ _ _ _ _ _ _ _ _ _ _ _ _ _ _ _ _ _ _ _ _ _ _ _ _ _ y)
    refine List.forall_mem_cons.2 ⟨tile 3968 (by omega) inb_S512x4096_S512x128_0_3968 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3968 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 15 3968 (by omega) (by omega) l), ?_⟩
    refine List.forall_mem_cons.2 ⟨tile 3840 (by omega) inb_S512x4096_S512x128_0_3840 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3840 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 15 3840 (by omega) (by omega) l), ?_⟩
    refine List.forall_mem_cons.2 ⟨tile 3712 (by omega) inb_S512x4096_S512x128_0_3712 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3712 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 14 3712 (by omega) (by omega) l), ?_⟩
    refine List.forall_mem_cons.2 ⟨tile 3584 (by omega) inb_S512x4096_S512x128_0_3584 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3584 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 14 3584 (by omega) (by omega) l), ?_⟩
    refine List.forall_mem_cons.2 ⟨tile 3456 (by omega) inb_S512x4096_S512x128_0_3456 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3456 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 13 3456 (by omega) (by omega) l), ?_⟩
    refine List.forall_mem_cons.2 ⟨tile 3328 (by omega) inb_S512x4096_S512x128_0_3328 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3328 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 13 3328 (by omega) (by omega) l), ?_⟩
    refine List.forall_mem_cons.2 ⟨tile 3200 (by omega) inb_S512x4096_S512x128_0_3200 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3200 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 12 3200 (by omega) (by omega) l), ?_⟩
    refine List.forall_mem_cons.2 ⟨tile 3072 (by omega) inb_S512x4096_S512x128_0_3072 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q3072 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 12 3072 (by omega) (by omega) l), ?_⟩
    refine List.forall_mem_cons.2 ⟨tile 2944 (by omega) inb_S512x4096_S512x128_0_2944 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2944 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 11 2944 (by omega) (by omega) l), ?_⟩
    refine List.forall_mem_cons.2 ⟨tile 2816 (by omega) inb_S512x4096_S512x128_0_2816 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2816 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 11 2816 (by omega) (by omega) l), ?_⟩
    refine List.forall_mem_cons.2 ⟨tile 2688 (by omega) inb_S512x4096_S512x128_0_2688 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2688 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 10 2688 (by omega) (by omega) l), ?_⟩
    refine List.forall_mem_cons.2 ⟨tile 2560 (by omega) inb_S512x4096_S512x128_0_2560 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2560 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 10 2560 (by omega) (by omega) l), ?_⟩
    refine List.forall_mem_cons.2 ⟨tile 2432 (by omega) inb_S512x4096_S512x128_0_2432 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2432 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 9 2432 (by omega) (by omega) l), ?_⟩
    refine List.forall_mem_cons.2 ⟨tile 2304 (by omega) inb_S512x4096_S512x128_0_2304 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2304 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 9 2304 (by omega) (by omega) l), ?_⟩
    refine List.forall_mem_cons.2 ⟨tile 2176 (by omega) inb_S512x4096_S512x128_0_2176 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2176 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 8 2176 (by omega) (by omega) l), ?_⟩
    refine List.forall_mem_cons.2 ⟨tile 2048 (by omega) inb_S512x4096_S512x128_0_2048 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q2048 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 8 2048 (by omega) (by omega) l), ?_⟩
    refine List.forall_mem_cons.2 ⟨tile 1920 (by omega) inb_S512x4096_S512x128_0_1920 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1920 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 7 1920 (by omega) (by omega) l), ?_⟩
    refine List.forall_mem_cons.2 ⟨tile 1792 (by omega) inb_S512x4096_S512x128_0_1792 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1792 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 7 1792 (by omega) (by omega) l), ?_⟩
    refine List.forall_mem_cons.2 ⟨tile 1664 (by omega) inb_S512x4096_S512x128_0_1664 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1664 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 6 1664 (by omega) (by omega) l), ?_⟩
    refine List.forall_mem_cons.2 ⟨tile 1536 (by omega) inb_S512x4096_S512x128_0_1536 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1536 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 6 1536 (by omega) (by omega) l), ?_⟩
    refine List.forall_mem_cons.2 ⟨tile 1408 (by omega) inb_S512x4096_S512x128_0_1408 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1408 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 5 1408 (by omega) (by omega) l), ?_⟩
    refine List.forall_mem_cons.2 ⟨tile 1280 (by omega) inb_S512x4096_S512x128_0_1280 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1280 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 5 1280 (by omega) (by omega) l), ?_⟩
    refine List.forall_mem_cons.2 ⟨tile 1152 (by omega) inb_S512x4096_S512x128_0_1152 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1152 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 4 1152 (by omega) (by omega) l), ?_⟩
    refine List.forall_mem_cons.2 ⟨tile 1024 (by omega) inb_S512x4096_S512x128_0_1024 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q1024 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 4 1024 (by omega) (by omega) l), ?_⟩
    refine List.forall_mem_cons.2 ⟨tile 896 (by omega) inb_S512x4096_S512x128_0_896 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q896 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 3 896 (by omega) (by omega) l), ?_⟩
    refine List.forall_mem_cons.2 ⟨tile 768 (by omega) inb_S512x4096_S512x128_0_768 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q768 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 3 768 (by omega) (by omega) l), ?_⟩
    refine List.forall_mem_cons.2 ⟨tile 640 (by omega) inb_S512x4096_S512x128_0_640 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q640 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 2 640 (by omega) (by omega) l), ?_⟩
    refine List.forall_mem_cons.2 ⟨tile 512 (by omega) inb_S512x4096_S512x128_0_512 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q512 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 2 512 (by omega) (by omega) l), ?_⟩
    refine List.forall_mem_cons.2 ⟨tile 384 (by omega) inb_S512x4096_S512x128_0_384 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q384 (k0_pay97 x0 x1 x2 x3 x4 x5 x6) (k0_pay99 x0 x1 x2 x3 x4 x5 x6) (k0_pay100 x0 x1 x2 x3 x4 x5 x6) r l).trans (outQ_hi (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 1 384 (by omega) (by omega) l), ?_⟩
    refine List.forall_mem_cons.2 ⟨tile 256 (by omega) inb_S512x4096_S512x128_0_256 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q256 (k0_pay97 x0 x1 x2 x3 x4 x5 x6) r l).trans (outQ_lo (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) 1 256 (by omega) (by omega) l), ?_⟩
    refine List.forall_mem_cons.2 ⟨tile 128 (by omega) inb_S512x4096_S512x128_0_128 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q128 (View.ld x0 r0_0) (View.ld x3 r0_1) (View.ld x5 r0_2) (View.ld x6 r0_2) r l).trans (outQ_hi (fun f => k0_pay4 (View.ld x0 r0_0) (View.ld x3 r0_1) (ix2 r f)) (fun e => k0_pay6 (View.ld x5 r0_2) (ix2 r e)) (fun e => k0_pay7 (View.ld x6 r0_2) (ix2 r e)) 0 128 (by omega) (by omega) l), ?_⟩
    refine List.forall_mem_cons.2 ⟨tile 0 (by omega) inb_S512x4096_S512x128_0_0 _ (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z) fun r l => (q0 (View.ld x0 r0_0) (View.ld x3 r0_1) r l).trans (outQ_lo (fun f => k0_pay4 (View.ld x0 r0_0) (View.ld x3 r0_1) (ix2 r f)) (fun e => k0_pay6 (View.ld x5 r0_2) (ix2 r e)) (fun e => k0_pay7 (View.ld x6 r0_2) (ix2 r e)) 0 0 (by omega) (by omega) l), ?_⟩
    exact List.forall_mem_nil _
  refine (g (ix2 r z)).trans ?_
  show (fun r z => outQ (fun f => k0_pay97 x0 x1 x2 x3 x4 x5 x6 (ix2 r f)) (fun e => k0_pay99 x0 x1 x2 x3 x4 x5 x6 (ix2 r e)) (fun e => k0_pay100 x0 x1 x2 x3 x4 x5 x6 (ix2 r e)) z : Fin 512 → Fin 4096 → EReal) r z = _
  simp only [pay97_at, pay99_at, pay100_at]
theorem out8 (z : Fin 4096) : out0_8 x0 x1 x2 x3 x4 x5 x6 (ix2 r z) = outK (fun f => ∑ d : Fin 128, x1 (ix2 r d) * x4 (ix2 d f)) (fun e => x2 (ix2 r e)) z := by
  have g : ∀ y : S512x4096.Idx, out0_8 x0 x1 x2 x3 x4 x5 x6 y = (fun r z => outK (fun f => k0_pay98 x0 x1 x2 x3 x4 x5 x6 (ix2 r f)) (fun e => k0_pay101 x0 x1 x2 x3 x4 x5 x6 (ix2 r e)) z : Fin 512 → Fin 4096 → EReal) (y 0) (y 1) := by
    intro y
    unfold out0_8
    refine View.canon_apply_of_pieces (Val := Elt Ideal) (S := S512x4096) (e := .bf16) (fun y : S512x4096.Idx => (fun r z => outK (fun f => k0_pay98 x0 x1 x2 x3 x4 x5 x6 (ix2 r f)) (fun e => k0_pay101 x0 x1 x2 x3 x4 x5 x6 (ix2 r e)) z : Fin 512 → Fin 4096 → EReal) (y 0) (y 1)) _ ?_ y (cover0_8 _ _ _ _ _ _ _ _ _ _ _ _ _ _ _ _ _ _ _ _ _ _ _ _ _ _ _ _ _ _ _ _ y)
    refine List.forall_mem_cons.2 ⟨tile 3968 (by omega) inb_S512x4096_S512x128_0_3968 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 15 3968 (by omega) (by omega) l, ?_⟩
    refine List.forall_mem_cons.2 ⟨tile 3840 (by omega) inb_S512x4096_S512x128_0_3840 _ (fun r z => outK (fun f => k0_pay98 x0 x1 x2 x3 x4 x5 x6 (ix2 r f)) (fun e => k0_pay101 x0 x1 x2 x3 x4 x5 x6 (ix2 r e)) z) fun r l => (k3840 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 15 3840 (by omega) (by omega) l), ?_⟩
    refine List.forall_mem_cons.2 ⟨tile 3712 (by omega) inb_S512x4096_S512x128_0_3712 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 14 3712 (by omega) (by omega) l, ?_⟩
    refine List.forall_mem_cons.2 ⟨tile 3584 (by omega) inb_S512x4096_S512x128_0_3584 _ (fun r z => outK (fun f => k0_pay98 x0 x1 x2 x3 x4 x5 x6 (ix2 r f)) (fun e => k0_pay101 x0 x1 x2 x3 x4 x5 x6 (ix2 r e)) z) fun r l => (k3584 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 14 3584 (by omega) (by omega) l), ?_⟩
    refine List.forall_mem_cons.2 ⟨tile 3456 (by omega) inb_S512x4096_S512x128_0_3456 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 13 3456 (by omega) (by omega) l, ?_⟩
    refine List.forall_mem_cons.2 ⟨tile 3328 (by omega) inb_S512x4096_S512x128_0_3328 _ (fun r z => outK (fun f => k0_pay98 x0 x1 x2 x3 x4 x5 x6 (ix2 r f)) (fun e => k0_pay101 x0 x1 x2 x3 x4 x5 x6 (ix2 r e)) z) fun r l => (k3328 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 13 3328 (by omega) (by omega) l), ?_⟩
    refine List.forall_mem_cons.2 ⟨tile 3200 (by omega) inb_S512x4096_S512x128_0_3200 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 12 3200 (by omega) (by omega) l, ?_⟩
    refine List.forall_mem_cons.2 ⟨tile 3072 (by omega) inb_S512x4096_S512x128_0_3072 _ (fun r z => outK (fun f => k0_pay98 x0 x1 x2 x3 x4 x5 x6 (ix2 r f)) (fun e => k0_pay101 x0 x1 x2 x3 x4 x5 x6 (ix2 r e)) z) fun r l => (k3072 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 12 3072 (by omega) (by omega) l), ?_⟩
    refine List.forall_mem_cons.2 ⟨tile 2944 (by omega) inb_S512x4096_S512x128_0_2944 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 11 2944 (by omega) (by omega) l, ?_⟩
    refine List.forall_mem_cons.2 ⟨tile 2816 (by omega) inb_S512x4096_S512x128_0_2816 _ (fun r z => outK (fun f => k0_pay98 x0 x1 x2 x3 x4 x5 x6 (ix2 r f)) (fun e => k0_pay101 x0 x1 x2 x3 x4 x5 x6 (ix2 r e)) z) fun r l => (k2816 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 11 2816 (by omega) (by omega) l), ?_⟩
    refine List.forall_mem_cons.2 ⟨tile 2688 (by omega) inb_S512x4096_S512x128_0_2688 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 10 2688 (by omega) (by omega) l, ?_⟩
    refine List.forall_mem_cons.2 ⟨tile 2560 (by omega) inb_S512x4096_S512x128_0_2560 _ (fun r z => outK (fun f => k0_pay98 x0 x1 x2 x3 x4 x5 x6 (ix2 r f)) (fun e => k0_pay101 x0 x1 x2 x3 x4 x5 x6 (ix2 r e)) z) fun r l => (k2560 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 10 2560 (by omega) (by omega) l), ?_⟩
    refine List.forall_mem_cons.2 ⟨tile 2432 (by omega) inb_S512x4096_S512x128_0_2432 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 9 2432 (by omega) (by omega) l, ?_⟩
    refine List.forall_mem_cons.2 ⟨tile 2304 (by omega) inb_S512x4096_S512x128_0_2304 _ (fun r z => outK (fun f => k0_pay98 x0 x1 x2 x3 x4 x5 x6 (ix2 r f)) (fun e => k0_pay101 x0 x1 x2 x3 x4 x5 x6 (ix2 r e)) z) fun r l => (k2304 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 9 2304 (by omega) (by omega) l), ?_⟩
    refine List.forall_mem_cons.2 ⟨tile 2176 (by omega) inb_S512x4096_S512x128_0_2176 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 8 2176 (by omega) (by omega) l, ?_⟩
    refine List.forall_mem_cons.2 ⟨tile 2048 (by omega) inb_S512x4096_S512x128_0_2048 _ (fun r z => outK (fun f => k0_pay98 x0 x1 x2 x3 x4 x5 x6 (ix2 r f)) (fun e => k0_pay101 x0 x1 x2 x3 x4 x5 x6 (ix2 r e)) z) fun r l => (k2048 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 8 2048 (by omega) (by omega) l), ?_⟩
    refine List.forall_mem_cons.2 ⟨tile 1920 (by omega) inb_S512x4096_S512x128_0_1920 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 7 1920 (by omega) (by omega) l, ?_⟩
    refine List.forall_mem_cons.2 ⟨tile 1792 (by omega) inb_S512x4096_S512x128_0_1792 _ (fun r z => outK (fun f => k0_pay98 x0 x1 x2 x3 x4 x5 x6 (ix2 r f)) (fun e => k0_pay101 x0 x1 x2 x3 x4 x5 x6 (ix2 r e)) z) fun r l => (k1792 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 7 1792 (by omega) (by omega) l), ?_⟩
    refine List.forall_mem_cons.2 ⟨tile 1664 (by omega) inb_S512x4096_S512x128_0_1664 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 6 1664 (by omega) (by omega) l, ?_⟩
    refine List.forall_mem_cons.2 ⟨tile 1536 (by omega) inb_S512x4096_S512x128_0_1536 _ (fun r z => outK (fun f => k0_pay98 x0 x1 x2 x3 x4 x5 x6 (ix2 r f)) (fun e => k0_pay101 x0 x1 x2 x3 x4 x5 x6 (ix2 r e)) z) fun r l => (k1536 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 6 1536 (by omega) (by omega) l), ?_⟩
    refine List.forall_mem_cons.2 ⟨tile 1408 (by omega) inb_S512x4096_S512x128_0_1408 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 5 1408 (by omega) (by omega) l, ?_⟩
    refine List.forall_mem_cons.2 ⟨tile 1280 (by omega) inb_S512x4096_S512x128_0_1280 _ (fun r z => outK (fun f => k0_pay98 x0 x1 x2 x3 x4 x5 x6 (ix2 r f)) (fun e => k0_pay101 x0 x1 x2 x3 x4 x5 x6 (ix2 r e)) z) fun r l => (k1280 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 5 1280 (by omega) (by omega) l), ?_⟩
    refine List.forall_mem_cons.2 ⟨tile 1152 (by omega) inb_S512x4096_S512x128_0_1152 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 4 1152 (by omega) (by omega) l, ?_⟩
    refine List.forall_mem_cons.2 ⟨tile 1024 (by omega) inb_S512x4096_S512x128_0_1024 _ (fun r z => outK (fun f => k0_pay98 x0 x1 x2 x3 x4 x5 x6 (ix2 r f)) (fun e => k0_pay101 x0 x1 x2 x3 x4 x5 x6 (ix2 r e)) z) fun r l => (k1024 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 4 1024 (by omega) (by omega) l), ?_⟩
    refine List.forall_mem_cons.2 ⟨tile 896 (by omega) inb_S512x4096_S512x128_0_896 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 3 896 (by omega) (by omega) l, ?_⟩
    refine List.forall_mem_cons.2 ⟨tile 768 (by omega) inb_S512x4096_S512x128_0_768 _ (fun r z => outK (fun f => k0_pay98 x0 x1 x2 x3 x4 x5 x6 (ix2 r f)) (fun e => k0_pay101 x0 x1 x2 x3 x4 x5 x6 (ix2 r e)) z) fun r l => (k768 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 3 768 (by omega) (by omega) l), ?_⟩
    refine List.forall_mem_cons.2 ⟨tile 640 (by omega) inb_S512x4096_S512x128_0_640 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 2 640 (by omega) (by omega) l, ?_⟩
    refine List.forall_mem_cons.2 ⟨tile 512 (by omega) inb_S512x4096_S512x128_0_512 _ (fun r z => outK (fun f => k0_pay98 x0 x1 x2 x3 x4 x5 x6 (ix2 r f)) (fun e => k0_pay101 x0 x1 x2 x3 x4 x5 x6 (ix2 r e)) z) fun r l => (k512 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 2 512 (by omega) (by omega) l), ?_⟩
    refine List.forall_mem_cons.2 ⟨tile 384 (by omega) inb_S512x4096_S512x128_0_384 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 1 384 (by omega) (by omega) l, ?_⟩
    refine List.forall_mem_cons.2 ⟨tile 256 (by omega) inb_S512x4096_S512x128_0_256 _ (fun r z => outK (fun f => k0_pay98 x0 x1 x2 x3 x4 x5 x6 (ix2 r f)) (fun e => k0_pay101 x0 x1 x2 x3 x4 x5 x6 (ix2 r e)) z) fun r l => (k256 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 1 256 (by omega) (by omega) l), ?_⟩
    refine List.forall_mem_cons.2 ⟨tile 128 (by omega) inb_S512x4096_S512x128_0_128 _ (fun r z => outK (fun f => k0_pay98 x0 x1 x2 x3 x4 x5 x6 (ix2 r f)) (fun e => k0_pay101 x0 x1 x2 x3 x4 x5 x6 (ix2 r e)) z) fun r l => outK_hi (fun f => k0_pay98 x0 x1 x2 x3 x4 x5 x6 (ix2 r f)) (fun e => k0_pay101 x0 x1 x2 x3 x4 x5 x6 (ix2 r e)) 0 128 (by omega) (by omega) l, ?_⟩
    refine List.forall_mem_cons.2 ⟨tile 0 (by omega) inb_S512x4096_S512x128_0_0 _ (fun r z => outK (fun f => k0_pay98 x0 x1 x2 x3 x4 x5 x6 (ix2 r f)) (fun e => k0_pay101 x0 x1 x2 x3 x4 x5 x6 (ix2 r e)) z) fun r l => (k0 (k0_pay98 x0 x1 x2 x3 x4 x5 x6) r l).trans (outK_lo (fun f => k0_pay98 x0 x1 x2 x3 x4 x5 x6 (ix2 r f)) (fun e => k0_pay101 x0 x1 x2 x3 x4 x5 x6 (ix2 r e)) 0 0 (by omega) (by omega) l), ?_⟩
    exact List.forall_mem_nil _
  refine (g (ix2 r z)).trans ?_
  show (fun r z => outK (fun f => k0_pay98 x0 x1 x2 x3 x4 x5 x6 (ix2 r f)) (fun e => k0_pay101 x0 x1 x2 x3 x4 x5 x6 (ix2 r e)) z : Fin 512 → Fin 4096 → EReal) r z = _
  simp only [pay98_at, pay101_at]
theorem out9 (z : Fin 2048) : out0_9 x0 x1 x2 x3 x4 x5 x6 (ix2 r z) = outV (fun f => ∑ d : Fin 128, x1 (ix2 r d) * x4 (ix2 d f)) z := by
  have g : ∀ y : S512x2048.Idx, out0_9 x0 x1 x2 x3 x4 x5 x6 y = (fun r z => outV (fun f => k0_pay98 x0 x1 x2 x3 x4 x5 x6 (ix2 r f)) z : Fin 512 → Fin 2048 → EReal) (y 0) (y 1) := by
    intro y
    unfold out0_9
    refine View.canon_apply_of_pieces (Val := Elt Ideal) (S := S512x2048) (e := .bf16) (fun y : S512x2048.Idx => (fun r z => outV (fun f => k0_pay98 x0 x1 x2 x3 x4 x5 x6 (ix2 r f)) z : Fin 512 → Fin 2048 → EReal) (y 0) (y 1)) _ ?_ y (cover0_9 _ _ _ _ _ _ _ _ _ _ _ _ _ _ _ _ y)
    refine List.forall_mem_cons.2 ⟨tileV 1920 (by omega) inb_S512x2048_S512x128_0_1920 _ (fun r z => outV (fun f => k0_pay98 x0 x1 x2 x3 x4 x5 x6 (ix2 r f)) z) fun r l => (v1920 (k0_pay98 x0 x1 x2 x3 x4 x5 x6) r l).trans (outV_eq (fun f => k0_pay98 x0 x1 x2 x3 x4 x5 x6 (ix2 r f)) 15 1920 3968 (by omega) (by omega) (by omega) l), ?_⟩
    refine List.forall_mem_cons.2 ⟨tileV 1792 (by omega) inb_S512x2048_S512x128_0_1792 _ (fun r z => outV (fun f => k0_pay98 x0 x1 x2 x3 x4 x5 x6 (ix2 r f)) z) fun r l => (v1792 (k0_pay98 x0 x1 x2 x3 x4 x5 x6) r l).trans (outV_eq (fun f => k0_pay98 x0 x1 x2 x3 x4 x5 x6 (ix2 r f)) 14 1792 3712 (by omega) (by omega) (by omega) l), ?_⟩
    refine List.forall_mem_cons.2 ⟨tileV 1664 (by omega) inb_S512x2048_S512x128_0_1664 _ (fun r z => outV (fun f => k0_pay98 x0 x1 x2 x3 x4 x5 x6 (ix2 r f)) z) fun r l => (v1664 (k0_pay98 x0 x1 x2 x3 x4 x5 x6) r l).trans (outV_eq (fun f => k0_pay98 x0 x1 x2 x3 x4 x5 x6 (ix2 r f)) 13 1664 3456 (by omega) (by omega) (by omega) l), ?_⟩
    refine List.forall_mem_cons.2 ⟨tileV 1536 (by omega) inb_S512x2048_S512x128_0_1536 _ (fun r z => outV (fun f => k0_pay98 x0 x1 x2 x3 x4 x5 x6 (ix2 r f)) z) fun r l => (v1536 (k0_pay98 x0 x1 x2 x3 x4 x5 x6) r l).trans (outV_eq (fun f => k0_pay98 x0 x1 x2 x3 x4 x5 x6 (ix2 r f)) 12 1536 3200 (by omega) (by omega) (by omega) l), ?_⟩
    refine List.forall_mem_cons.2 ⟨tileV 1408 (by omega) inb_S512x2048_S512x128_0_1408 _ (fun r z => outV (fun f => k0_pay98 x0 x1 x2 x3 x4 x5 x6 (ix2 r f)) z) fun r l => (v1408 (k0_pay98 x0 x1 x2 x3 x4 x5 x6) r l).trans (outV_eq (fun f => k0_pay98 x0 x1 x2 x3 x4 x5 x6 (ix2 r f)) 11 1408 2944 (by omega) (by omega) (by omega) l), ?_⟩
    refine List.forall_mem_cons.2 ⟨tileV 1280 (by omega) inb_S512x2048_S512x128_0_1280 _ (fun r z => outV (fun f => k0_pay98 x0 x1 x2 x3 x4 x5 x6 (ix2 r f)) z) fun r l => (v1280 (k0_pay98 x0 x1 x2 x3 x4 x5 x6) r l).trans (outV_eq (fun f => k0_pay98 x0 x1 x2 x3 x4 x5 x6 (ix2 r f)) 10 1280 2688 (by omega) (by omega) (by omega) l), ?_⟩
    refine List.forall_mem_cons.2 ⟨tileV 1152 (by omega) inb_S512x2048_S512x128_0_1152 _ (fun r z => outV (fun f => k0_pay98 x0 x1 x2 x3 x4 x5 x6 (ix2 r f)) z) fun r l => (v1152 (k0_pay98 x0 x1 x2 x3 x4 x5 x6) r l).trans (outV_eq (fun f => k0_pay98 x0 x1 x2 x3 x4 x5 x6 (ix2 r f)) 9 1152 2432 (by omega) (by omega) (by omega) l), ?_⟩
    refine List.forall_mem_cons.2 ⟨tileV 1024 (by omega) inb_S512x2048_S512x128_0_1024 _ (fun r z => outV (fun f => k0_pay98 x0 x1 x2 x3 x4 x5 x6 (ix2 r f)) z) fun r l => (v1024 (k0_pay98 x0 x1 x2 x3 x4 x5 x6) r l).trans (outV_eq (fun f => k0_pay98 x0 x1 x2 x3 x4 x5 x6 (ix2 r f)) 8 1024 2176 (by omega) (by omega) (by omega) l), ?_⟩
    refine List.forall_mem_cons.2 ⟨tileV 896 (by omega) inb_S512x2048_S512x128_0_896 _ (fun r z => outV (fun f => k0_pay98 x0 x1 x2 x3 x4 x5 x6 (ix2 r f)) z) fun r l => (v896 (k0_pay98 x0 x1 x2 x3 x4 x5 x6) r l).trans (outV_eq (fun f => k0_pay98 x0 x1 x2 x3 x4 x5 x6 (ix2 r f)) 7 896 1920 (by omega) (by omega) (by omega) l), ?_⟩
    refine List.forall_mem_cons.2 ⟨tileV 768 (by omega) inb_S512x2048_S512x128_0_768 _ (fun r z => outV (fun f => k0_pay98 x0 x1 x2 x3 x4 x5 x6 (ix2 r f)) z) fun r l => (v768 (k0_pay98 x0 x1 x2 x3 x4 x5 x6) r l).trans (outV_eq (fun f => k0_pay98 x0 x1 x2 x3 x4 x5 x6 (ix2 r f)) 6 768 1664 (by omega) (by omega) (by omega) l), ?_⟩
    refine List.forall_mem_cons.2 ⟨tileV 640 (by omega) inb_S512x2048_S512x128_0_640 _ (fun r z => outV (fun f => k0_pay98 x0 x1 x2 x3 x4 x5 x6 (ix2 r f)) z) fun r l => (v640 (k0_pay98 x0 x1 x2 x3 x4 x5 x6) r l).trans (outV_eq (fun f => k0_pay98 x0 x1 x2 x3 x4 x5 x6 (ix2 r f)) 5 640 1408 (by omega) (by omega) (by omega) l), ?_⟩
    refine List.forall_mem_cons.2 ⟨tileV 512 (by omega) inb_S512x2048_S512x128_0_512 _ (fun r z => outV (fun f => k0_pay98 x0 x1 x2 x3 x4 x5 x6 (ix2 r f)) z) fun r l => (v512 (k0_pay98 x0 x1 x2 x3 x4 x5 x6) r l).trans (outV_eq (fun f => k0_pay98 x0 x1 x2 x3 x4 x5 x6 (ix2 r f)) 4 512 1152 (by omega) (by omega) (by omega) l), ?_⟩
    refine List.forall_mem_cons.2 ⟨tileV 384 (by omega) inb_S512x2048_S512x128_0_384 _ (fun r z => outV (fun f => k0_pay98 x0 x1 x2 x3 x4 x5 x6 (ix2 r f)) z) fun r l => (v384 (k0_pay98 x0 x1 x2 x3 x4 x5 x6) r l).trans (outV_eq (fun f => k0_pay98 x0 x1 x2 x3 x4 x5 x6 (ix2 r f)) 3 384 896 (by omega) (by omega) (by omega) l), ?_⟩
    refine List.forall_mem_cons.2 ⟨tileV 256 (by omega) inb_S512x2048_S512x128_0_256 _ (fun r z => outV (fun f => k0_pay98 x0 x1 x2 x3 x4 x5 x6 (ix2 r f)) z) fun r l => (v256 (k0_pay98 x0 x1 x2 x3 x4 x5 x6) r l).trans (outV_eq (fun f => k0_pay98 x0 x1 x2 x3 x4 x5 x6 (ix2 r f)) 2 256 640 (by omega) (by omega) (by omega) l), ?_⟩
    refine List.forall_mem_cons.2 ⟨tileV 128 (by omega) inb_S512x2048_S512x128_0_128 _ (fun r z => outV (fun f => k0_pay98 x0 x1 x2 x3 x4 x5 x6 (ix2 r f)) z) fun r l => (v128 (k0_pay98 x0 x1 x2 x3 x4 x5 x6) r l).trans (outV_eq (fun f => k0_pay98 x0 x1 x2 x3 x4 x5 x6 (ix2 r f)) 1 128 384 (by omega) (by omega) (by omega) l), ?_⟩
    refine List.forall_mem_cons.2 ⟨tileV 0 (by omega) inb_S512x2048_S512x128_0_0 _ (fun r z => outV (fun f => k0_pay98 x0 x1 x2 x3 x4 x5 x6 (ix2 r f)) z) fun r l => (v0 (k0_pay98 x0 x1 x2 x3 x4 x5 x6) r l).trans (outV_eq (fun f => k0_pay98 x0 x1 x2 x3 x4 x5 x6 (ix2 r f)) 0 0 128 (by omega) (by omega) (by omega) l), ?_⟩
    exact List.forall_mem_nil _
  refine (g (ix2 r z)).trans ?_
  show (fun r z => outV (fun f => k0_pay98 x0 x1 x2 x3 x4 x5 x6 (ix2 r f)) z : Fin 512 → Fin 2048 → EReal) r z = _
  simp only [pay98_at]
end
end Cert.KQkvIdeal.Body
-- ==== Proof.QkvR.lean ====
module
public import proofs.«01_k».proof.Proof.Gen.RQkvIdeal.Read
public import proofs.«01_k».proof.Proof.Rows
public import proofs.«01_k».proof.Proof.Rope
@[expose] public section
noncomputable section
namespace Cert.RQkvIdeal.Body
open Cert.Rows Cert.Rope Cert.RQkvIdeal Idealize.ShloMosaic Idealize.ShloMosaic.TcCoe Idealize.SL.Sem
open Cert.RQkvIdeal.Read
set_option maxRecDepth 16384
variable (y0 : (⟨S4096x256, .f32⟩ : BufTy).Contents (Elt Ideal)) (y1 : (⟨S4096x128, .f32⟩ : BufTy).Contents (Elt Ideal)) (y2 : (⟨S4096x64, .f32⟩ : BufTy).Contents (Elt Ideal)) (y3 : (⟨S256x3072, .f32⟩ : BufTy).Contents (Elt Ideal))
  (y4 : (⟨S128x4096, .f32⟩ : BufTy).Contents (Elt Ideal)) (y5 y6 : (⟨S4096x32, .f32⟩ : BufTy).Contents (Elt Ideal))

/-- A lane of a head's query, key or value, of the reference's products. -/
def qR (i : Fin 4096) (h : Fin 16) (e : Fin 192) : EReal := ∑ d : Fin 256, y0 (ix2 i d) * y3 (ix2 d ⟨192 * h.val + e.val, by omega⟩)
def kR (i : Fin 4096) (h : Fin 16) (e : Fin 256) : EReal := ∑ d : Fin 128, y1 (ix2 i d) * y4 (ix2 d ⟨256 * h.val + e.val, by omega⟩)

theorem ref1 (i : Fin 4096) (h : Fin 16) (e : Fin 192) : val_main_v1 (F := Ideal) y0 y3 (ix3 i h e) = qR y0 y3 i h e := by
  have p : ∀ f : Fin 3072, val_main_v0 (F := Ideal) y0 y3 (ix2 i f) = ∑ d : Fin 256, y0 (ix2 i d) * y3 (ix2 d f) := by
    intro f
    pointwise [val_main_v0]
  rw [val_main_v1_apply]
  have q : idx_main_v1 (ix3 i h e) = ix2 i ⟨192 * h.val + e.val, by omega⟩ := by
    funext a
    apply Fin.ext
    fin_cases a
    · show ((i.val * 16 + h.val) * 192 + e.val) / 3072 = i.val
      omega
    · show ((i.val * 16 + h.val) * 192 + e.val) % 3072 = 192 * h.val + e.val
      omega
  exact (congrArg _ q).trans (p _)
theorem ref5 (i : Fin 4096) (h : Fin 16) (e : Fin 256) : val_main_v5 (F := Ideal) y1 y4 (ix3 i h e) = kR y1 y4 i h e := by
  have p : ∀ f : Fin 4096, val_main_v4 (F := Ideal) y1 y4 (ix2 i f) = ∑ d : Fin 128, y1 (ix2 i d) * y4 (ix2 d f) := by
    intro f
    pointwise [val_main_v4]
  rw [val_main_v5_apply]
  have q : idx_main_v5 (ix3 i h e) = ix2 i ⟨256 * h.val + e.val, by omega⟩ := by
    funext a
    apply Fin.ext
    fin_cases a
    · show ((i.val * 16 + h.val) * 256 + e.val) / 4096 = i.val
      omega
    · show ((i.val * 16 + h.val) * 256 + e.val) % 4096 = 256 * h.val + e.val
      omega
  exact (congrArg _ q).trans (p _)

/-- The reference's heads, read at a lane. -/
theorem ref29 (i : Fin 4096) (h : Fin 16) (l : Fin 256) : val_main_v29 (F := Ideal) y0 y3 y5 y6 (ix3 i h l)
    = (if g : l.val < 128 then qR y0 y3 i h ⟨l.val, by omega⟩
      else ropeR (fun e => qR y0 y3 i h ⟨128 + e.val, by omega⟩) (fun k => y5 (ix2 i k)) (fun k => y6 (ix2 i k)) ⟨l.val - 128, by omega⟩) * Ideal.ofBits .f32 0x3DD53B95#32 := by
  unfold ropeR
  simp only [← ref1]
  pointwise [val_main_v29, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v3, val_main_v2, val_main_cst, val_main_cst_0]
  refine congrArg (fun z : EReal => z * Ideal.ofBits .f32 0x3DD53B95#32) ?_
  by_cases g : l.val < 128
  · rw [dif_pos g, dif_pos g]
  · rw [dif_neg g, dif_neg g]
    by_cases g2 : l.val - 128 < 32
    · rw [dif_pos g2, dif_pos g2]
      simp only [Nat.add_comm 32]
    · rw [dif_neg g2, dif_neg g2]
      by_cases g3 : l.val - 128 < 64
      · rw [dif_pos g3, dif_pos (show l.val - 128 - 32 < 32 by omega)]
        have e : 32 + (l.val - 128 - 32) = l.val - 128 := by omega
        simp only [e]
      · rw [dif_neg g3, dif_neg (show ¬ l.val - 128 - 32 < 32 by omega)]
theorem ref31 (i : Fin 4096) (h : Fin 16) (l : Fin 256) : val_main_v31 (F := Ideal) y1 y2 y4 (ix3 i h l)
    = if g : l.val < 128 then kR y1 y4 i h ⟨l.val, by omega⟩ else if g : l.val - 128 < 64 then y2 (ix2 i ⟨l.val - 128, g⟩) else 0 := by
  simp only [← ref5]
  pointwise [val_main_v31, val_main_v28, val_main_v27, val_main_v26, val_main_v12, val_main_v6, val_main_cst]
theorem ref33 (i : Fin 4096) (h : Fin 16) (l : Fin 128) : val_main_v33 (F := Ideal) y1 y4 (ix3 i h l) = kR y1 y4 i h ⟨128 + l.val, by omega⟩ := by
  simp only [← ref5]
  pointwise [val_main_v33, val_main_v7]

/-- The reference's results, read at a column. -/
theorem ref30 (i : Fin 4096) (z : Fin 4096) : val_main_v30 (F := Ideal) y0 y3 y5 y6 (ix2 i z) = val_main_v29 (F := Ideal) y0 y3 y5 y6 (ix3 i ⟨z.val / 256, by omega⟩ ⟨z.val % 256, by omega⟩) := by
  rw [val_main_v30_apply]
  refine congrArg _ ?_
  funext a
  apply Fin.ext
  fin_cases a
  · show (i.val * 4096 + z.val) / 4096 = i.val
    omega
  · show (i.val * 4096 + z.val) / 256 % 16 = z.val / 256
    omega
  · show (i.val * 4096 + z.val) % 256 = z.val % 256
    omega
theorem ref32 (i : Fin 4096) (z : Fin 4096) : val_main_v32 (F := Ideal) y1 y2 y4 (ix2 i z) = val_main_v31 (F := Ideal) y1 y2 y4 (ix3 i ⟨z.val / 256, by omega⟩ ⟨z.val % 256, by omega⟩) := by
  rw [val_main_v32_apply]
  refine congrArg _ ?_
  funext a
  apply Fin.ext
  fin_cases a
  · show (i.val * 4096 + z.val) / 4096 = i.val
    omega
  · show (i.val * 4096 + z.val) / 256 % 16 = z.val / 256
    omega
  · show (i.val * 4096 + z.val) % 256 = z.val % 256
    omega
theorem ref34 (i : Fin 4096) (z : Fin 2048) : val_main_v34 (F := Ideal) y1 y4 (ix2 i z) = val_main_v33 (F := Ideal) y1 y4 (ix3 i ⟨z.val / 128, by omega⟩ ⟨z.val % 128, by omega⟩) := by
  rw [val_main_v34_apply]
  refine congrArg _ ?_
  funext a
  apply Fin.ext
  fin_cases a
  · show (i.val * 2048 + z.val) / 2048 = i.val
    omega
  · show (i.val * 2048 + z.val) / 128 % 16 = z.val / 128
    omega
  · show (i.val * 2048 + z.val) % 128 = z.val % 128
    omega
end Cert.RQkvIdeal.Body
-- ==== Proof.Qkv.lean ====
module
public import proofs.«01_k».proof.Proof.QkvH
public import proofs.«01_k».proof.Proof.QkvO
public import proofs.«01_k».proof.Proof.QkvR
@[expose] public section
noncomputable section
namespace Cert.KQkvIdeal.Body
open Cert.Rows Cert.Rope Cert.KQkvIdeal Cert.KQkvIdeal.Gen Idealize.ShloMosaic Idealize.ShloMosaic.TcCoe Idealize.SL.Sem
open Cert.RQkvIdeal.Read Cert.RQkvIdeal.Body
set_option maxRecDepth 16384
variable (m : (ℓ : Loc nD τ sig) → Buf (Elt Ideal) ℓ) (c : Dev nD)

/-- The product with the padded weight, lane by lane of a head. -/
theorem qsum (i : Fin 4096) (f : Fin 4096) : (∑ d : Fin 256, A0 m c (ix2 i d) * (if h : f.val % 256 < 192 then A3 m c (ix2 d ⟨192 * (f.val / 256) + f.val % 256, by omega⟩) else 0))
    = if h : f.val % 256 < 192 then qR (A0 m c) (A3 m c) i ⟨f.val / 256, by omega⟩ ⟨f.val % 256, h⟩ else 0 := by
  unfold qR
  by_cases h : f.val % 256 < 192
  · simp only [dif_pos h]
  · simp only [dif_neg h, mul_zero, Finset.sum_const_zero]
theorem ksum (i : Fin 4096) (f : Fin 4096) : (∑ d : Fin 128, A1 m c (ix2 i d) * A4 m c (ix2 d f)) = kR (A1 m c) (A4 m c) i ⟨f.val / 256, by omega⟩ ⟨f.val % 256, by omega⟩ := by
  unfold kR
  refine Finset.sum_congr rfl fun d _ => congrArg (fun z => A1 m c (ix2 i d) * A4 m c (ix2 d z)) (Fin.ext ?_)
  dsimp only
  omega

theorem outQ_congr {Q Q' : Fin 4096 → EReal} {cs cs' sn sn' : Fin 128 → EReal} (h1 : ∀ f, Q f = Q' f) (h2 : ∀ e, cs e = cs' e) (h3 : ∀ e, sn e = sn' e) (z : Fin 4096) : outQ Q cs sn z = outQ Q' cs' sn' z := by
  rw [funext h1, funext h2, funext h3]
theorem outK_congr {K K' : Fin 4096 → EReal} {kr kr' : Fin 128 → EReal} (h1 : ∀ f, K f = K' f) (h2 : ∀ e, kr e = kr' e) (z : Fin 4096) : outK K kr z = outK K' kr' z := by
  rw [funext h1, funext h2]
theorem outV_congr {K K' : Fin 4096 → EReal} (h1 : ∀ f, K f = K' f) (z : Fin 2048) : outV K z = outV K' z := by
  rw [funext h1]
theorem pt7 (t : Fin cfg0.N) (r : Fin 512) (z : Fin 4096) : out0_7 (iblk m c 0 t) (iblk m c 1 t) (iblk m c 2 t) (iblk m c 3 t) (iblk m c 4 t) (iblk m c 5 t) (iblk m c 6 t) (ix2 r z) = val_main_v30 (F := Ideal) (A0 m c) (A3 m c) (A5 m c) (A6 m c) (ix2 (row t r) z) := by
  rw [ref30, ref29]
  refine (out7 _ _ _ _ _ _ _ r z).trans ((outQ_congr (Q' := (fun f => if h : f.val % 256 < 192 then qR (A0 m c) (A3 m c) (row t r) ⟨f.val / 256, by omega⟩ ⟨f.val % 256, h⟩ else 0)) (fun f => ?_) (fun e => iblk5 m c t r e) (fun e => iblk6 m c t r e) z).trans ?_)
  · simp only [iblk0, iblk3]
    exact qsum m c (row t r) f
  unfold outQ
  dsimp only
  by_cases g : z.val % 256 < 128
  · rw [if_pos g, dif_pos g, dif_pos (show z.val % 256 < 192 by omega)]
    rfl
  · rw [if_neg g, dif_neg g]
    refine congrArg (fun x : EReal => x * qs) (rope_eq _ _ _ _ (fun l => ?_) _)
    have e1 : (256 * (z.val / 256) + 128 + l.val) % 256 = 128 + l.val := by omega
    have e2 : (256 * (z.val / 256) + 128 + l.val) / 256 = z.val / 256 := by omega
    simp only [e1, e2]
    by_cases h : l.val < 64
    · rw [dif_pos h, dif_pos (show 128 + l.val < 192 by omega)]
    · rw [dif_neg h, dif_neg (show ¬ 128 + l.val < 192 by omega)]
theorem pt8 (t : Fin cfg0.N) (r : Fin 512) (z : Fin 4096) : out0_8 (iblk m c 0 t) (iblk m c 1 t) (iblk m c 2 t) (iblk m c 3 t) (iblk m c 4 t) (iblk m c 5 t) (iblk m c 6 t) (ix2 r z) = val_main_v32 (F := Ideal) (A1 m c) (A2 m c) (A4 m c) (ix2 (row t r) z) := by
  rw [ref32, ref31]
  refine (out8 _ _ _ _ _ _ _ r z).trans ((outK_congr (K' := (fun f => kR (A1 m c) (A4 m c) (row t r) ⟨f.val / 256, by omega⟩ ⟨f.val % 256, by omega⟩)) (fun f => ?_) (fun e => iblk2 m c t r e) z).trans ?_)
  · simp only [iblk1, iblk4]
    exact ksum m c (row t r) f
  unfold outK
  dsimp only
  by_cases g : z.val % 256 < 128
  · rw [if_pos g, dif_pos g]
  · rw [if_neg g, dif_neg g]
theorem pt9 (t : Fin cfg0.N) (r : Fin 512) (z : Fin 2048) : out0_9 (iblk m c 0 t) (iblk m c 1 t) (iblk m c 2 t) (iblk m c 3 t) (iblk m c 4 t) (iblk m c 5 t) (iblk m c 6 t) (ix2 r z) = val_main_v34 (F := Ideal) (A1 m c) (A4 m c) (ix2 (row t r) z) := by
  rw [ref34, ref33]
  refine (out9 _ _ _ _ _ _ _ r z).trans ((outV_congr (K' := (fun f => kR (A1 m c) (A4 m c) (row t r) ⟨f.val / 256, by omega⟩ ⟨f.val % 256, by omega⟩)) (fun f => ?_) z).trans ?_)
  · simp only [iblk1, iblk4]
    exact ksum m c (row t r) f
  unfold outV
  have e1 : (256 * (z.val / 128) + 128 + z.val % 128) % 256 = 128 + z.val % 128 := by omega
  have e2 : (256 * (z.val / 128) + 128 + z.val % 128) / 256 = z.val / 128 := by omega
  simp only [e1, e2]

/-- The queries, rotated and scaled. -/
theorem arr7 : (dats m 0 c).arrAt 7 cfg0.N = val_main_v30 (F := Ideal) (A0 m c) (A3 m c) (A5 m c) (A6 m c) := by
  refine (dats m 0 c).arrAt_eq_of_covers 7 _ (by decide +kernel) fun t hf y => ?_
  rw [after0_7]
  blk_simp [cidx7]
  have hy : (y 0).val < 512 := (y 0).isLt
  have ht : t.val < 8 := t.isLt
  have e : (win0_7.blk t).view.emb y = (@ix2 4096 4096 ⟨512 * t.val + (y 0).val, by omega⟩ (y 1) : S4096x4096.Idx) := by blk_ext [cidx7]
  rw [e]
  exact (congrArg _ (eq_ix2 y)).trans (pt7 m c t (y 0) (y 1))

/-- The keys. -/
theorem arr8 : (dats m 0 c).arrAt 8 cfg0.N = val_main_v32 (F := Ideal) (A1 m c) (A2 m c) (A4 m c) := by
  refine (dats m 0 c).arrAt_eq_of_covers 8 _ (by decide +kernel) fun t hf y => ?_
  rw [after0_8]
  blk_simp [cidx8]
  have hy : (y 0).val < 512 := (y 0).isLt
  have ht : t.val < 8 := t.isLt
  have e : (win0_8.blk t).view.emb y = (@ix2 4096 4096 ⟨512 * t.val + (y 0).val, by omega⟩ (y 1) : S4096x4096.Idx) := by blk_ext [cidx8]
  rw [e]
  exact (congrArg _ (eq_ix2 y)).trans (pt8 m c t (y 0) (y 1))

/-- The values. -/
theorem arr9 : (dats m 0 c).arrAt 9 cfg0.N = val_main_v34 (F := Ideal) (A1 m c) (A4 m c) := by
  refine (dats m 0 c).arrAt_eq_of_covers 9 _ (by decide +kernel) fun t hf y => ?_
  rw [after0_9]
  blk_simp [cidx9]
  have hy : (y 0).val < 512 := (y 0).isLt
  have ht : t.val < 8 := t.isLt
  have e : (win0_9.blk t).view.emb y = (@ix2 4096 2048 ⟨512 * t.val + (y 0).val, by omega⟩ (y 1) : S4096x2048.Idx) := by blk_ext [cidx9]
  rw [e]
  exact (congrArg _ (eq_ix2 y)).trans (pt9 m c t (y 0) (y 1))
end Cert.KQkvIdeal.Body
-- ==== Proof.Mlp.lean ====
module
public import proofs.«01_k».proof.Defs
public import proofs.«01_k».proof.Proof.Gen.KDw2Ideal.Value
public import proofs.«01_k».proof.Proof.Gen.RDw2Ideal.Run
public import proofs.«01_k».proof.Proof.Gen.RDw2Ideal.Read
public import proofs.«01_k».proof.Proof.Gen.KDw1Ideal.Value
public import proofs.«01_k».proof.Proof.Gen.RDw1Ideal.Run
public import proofs.«01_k».proof.Proof.Gen.RDw1Ideal.Read
public import proofs.«01_k».proof.Proof.Gen.KDownIdeal.Value
public import proofs.«01_k».proof.Proof.Gen.RDownIdeal.Run
public import proofs.«01_k».proof.Proof.Gen.RDownIdeal.Read
public import proofs.«01_k».proof.Proof.Gen.KUpIdeal.Value
public import proofs.«01_k».proof.Proof.Gen.RUpIdeal.Run
public import proofs.«01_k».proof.Proof.Gen.RUpIdeal.Read
public import proofs.«01_k».proof.Proof.Gen.KMupIdeal.Value
public import proofs.«01_k».proof.Proof.Gen.RMupIdeal.Run
public import proofs.«01_k».proof.Proof.Gen.RMupIdeal.Read
public import proofs.«01_k».proof.Proof.Gen.KMdownIdeal.Value
public import proofs.«01_k».proof.Proof.Gen.RMdownIdeal.Run
public import proofs.«01_k».proof.Proof.Gen.RMdownIdeal.Read
public import proofs.«01_k».proof.Proof.Gen.KOutIdeal.Value
public import proofs.«01_k».proof.Proof.Gen.ROutIdeal.Run
public import proofs.«01_k».proof.Proof.Gen.ROutIdeal.Read
public import proofs.«01_k».proof.Proof.Gen.KBoIdeal.Value
public import proofs.«01_k».proof.Proof.Gen.RBoIdeal.Run
public import proofs.«01_k».proof.Proof.Gen.RBoIdeal.Read
public import proofs.«01_k».proof.Proof.Gen.KDwoIdeal.Value
public import proofs.«01_k».proof.Proof.Gen.RDwoIdeal.Run
public import proofs.«01_k».proof.Proof.Gen.RDwoIdeal.Read
public import proofs.«01_k».proof.Proof.Gen.KSdoIdeal.Value
public import proofs.«01_k».proof.Proof.Gen.RSdoIdeal.Run
public import proofs.«01_k».proof.Proof.Gen.RSdoIdeal.Read
public import proofs.«01_k».proof.Proof.Gen.KSdiIdeal.Value
public import proofs.«01_k».proof.Proof.Gen.RSdiIdeal.Run
public import proofs.«01_k».proof.Proof.Gen.RSdiIdeal.Read
public import proofs.«01_k».proof.Proof.Gen.KDwqIdeal.Value
public import proofs.«01_k».proof.Proof.Gen.RDwqIdeal.Run
public import proofs.«01_k».proof.Proof.Gen.RDwqIdeal.Read
public import proofs.«01_k».proof.Proof.Gen.KDwkIdeal.Value
public import proofs.«01_k».proof.Proof.Gen.RDwkIdeal.Run
public import proofs.«01_k».proof.Proof.Gen.RDwkIdeal.Read
public import proofs.«01_k».proof.Proof.Gen.KDwdIdeal.Value
public import proofs.«01_k».proof.Proof.Gen.RDwdIdeal.Run
public import proofs.«01_k».proof.Proof.Gen.RDwdIdeal.Read
public import proofs.«01_k».proof.Proof.Gen.KLatIdeal.Value
public import proofs.«01_k».proof.Proof.Gen.RLatIdeal.Run
public import proofs.«01_k».proof.Proof.Gen.RLatIdeal.Read
public import proofs.«01_k».proof.Proof.Gen.KQkvIdeal.Value
public import proofs.«01_k».proof.Proof.Gen.RQkvIdeal.Run
public import proofs.«01_k».proof.Proof.Gen.RQkvIdeal.Read
public import proofs.«01_k».proof.Proof.Gen.KAttnIdeal.Value
public import proofs.«01_k».proof.Proof.Gen.RAttnIdeal.Run
public import proofs.«01_k».proof.Proof.Gen.RAttnIdeal.Read
public import proofs.«01_k».proof.Proof.Dw1
public import proofs.«01_k».proof.Proof.Dw2
public import proofs.«01_k».proof.Proof.Down2
public import proofs.«01_k».proof.Proof.Up3
public import proofs.«01_k».proof.Proof.Mup
public import proofs.«01_k».proof.Proof.Mdown
public import proofs.«01_k».proof.Proof.Out
public import proofs.«01_k».proof.Proof.Bo
public import proofs.«01_k».proof.Proof.Dwo
public import proofs.«01_k».proof.Proof.Sdo
public import proofs.«01_k».proof.Proof.Sdi
public import proofs.«01_k».proof.Proof.Dwq
public import proofs.«01_k».proof.Proof.Dwk
public import proofs.«01_k».proof.Proof.Dwd
public import proofs.«01_k».proof.Proof.AttnF
public import proofs.«01_k».proof.Proof.Lat
public import proofs.«01_k».proof.Proof.Qkv
public import Idealize.ShloMosaic.Adequacy
public import Idealize.ShloMosaic.Init
@[expose] public section
noncomputable section
namespace Cert.Mlp
open Idealize.ShloMosaic Idealize.SL.Sem

/-- The second product's weight gradient: kernel and reference leave equal arrays. -/
theorem dw2 :
    letI := Cert.KDw2Ideal.Gen.facts; letI := Cert.RDw2Ideal.Gen.facts
    Cert.algebraic_KDw2Ideal_RDw2Ideal := by
  intro m g m' g' hpre hargs
  refine ⟨fun c => Cert.RDw2Ideal.Read.val_main_v6 (F := Ideal) (Cert.KDw2Ideal.Body.A0 m c) (Cert.KDw2Ideal.Body.A1 m c), ?_, ?_⟩
  · refine (θ_run Cert.KDw2Ideal.defs _ _).mono (fun r h c => ?_) (Cert.KDw2Ideal.Value.run_blocks (F := Ideal) m g)
    obtain ⟨e2, rest⟩ := h c
    exact ⟨e2.trans (Cert.KDw2Ideal.Body.arr2 m c), rest⟩
  · refine (θ_run Cert.RDw2Ideal.defs _ _).mono (fun r h c => ?_) (Cert.RDw2Ideal.Value.run (F := Ideal) m' g')
    obtain ⟨e2, rest⟩ := h c
    obtain ⟨a0, a1⟩ := hargs c
    refine ⟨e2.trans ?_, rest⟩
    · refine (Cert.RDw2Ideal.Read.val_main_v6_eq _ _).trans ?_
      show Cert.RDw2Ideal.Read.val_main_v6 (F := Ideal) (m' ((c.tc : Thread Cert.RDw2Ideal.nD Cert.RDw2Ideal.τ).loc Cert.RDw2Ideal.main_arg0)) (m' ((c.tc : Thread Cert.RDw2Ideal.nD Cert.RDw2Ideal.τ).loc Cert.RDw2Ideal.main_arg1)) = _
      rw [a0, a1]

/-- The first product's weight gradient: kernel and reference leave equal arrays. -/
theorem dw1 :
    letI := Cert.KDw1Ideal.Gen.facts; letI := Cert.RDw1Ideal.Gen.facts
    Cert.algebraic_KDw1Ideal_RDw1Ideal := by
  intro m g m' g' hpre hargs
  refine ⟨fun c => Cert.RDw1Ideal.Read.val_main_v6 (F := Ideal) (Cert.KDw1Ideal.Body.A0 m c) (Cert.KDw1Ideal.Body.A1 m c), ?_, ?_⟩
  · refine (θ_run Cert.KDw1Ideal.defs _ _).mono (fun r h c => ?_) (Cert.KDw1Ideal.Value.run_blocks (F := Ideal) m g)
    obtain ⟨e2, rest⟩ := h c
    exact ⟨e2.trans (Cert.KDw1Ideal.Body.arr2 m c), rest⟩
  · refine (θ_run Cert.RDw1Ideal.defs _ _).mono (fun r h c => ?_) (Cert.RDw1Ideal.Value.run (F := Ideal) m' g')
    obtain ⟨e2, rest⟩ := h c
    obtain ⟨a0, a1⟩ := hargs c
    refine ⟨e2.trans ?_, rest⟩
    · refine (Cert.RDw1Ideal.Read.val_main_v6_eq _ _).trans ?_
      show Cert.RDw1Ideal.Read.val_main_v6 (F := Ideal) (m' ((c.tc : Thread Cert.RDw1Ideal.nD Cert.RDw1Ideal.τ).loc Cert.RDw1Ideal.main_arg0)) (m' ((c.tc : Thread Cert.RDw1Ideal.nD Cert.RDw1Ideal.τ).loc Cert.RDw1Ideal.main_arg1)) = _
      rw [a0, a1]

/-- Back through the second product, the gate and the activation: kernel and reference leave equal arrays. -/
theorem down :
    letI := Cert.KDownIdeal.Gen.facts; letI := Cert.RDownIdeal.Gen.facts
    Cert.algebraic_KDownIdeal_RDownIdeal := by
  intro m g m' g' hpre hargs
  refine ⟨fun c => Cert.RDownIdeal.Read.val_main_v31 (F := Ideal) (Cert.KDownIdeal.Body.A0 m c) (Cert.KDownIdeal.Body.A1 m c) (Cert.KDownIdeal.Body.A2 m c) (Cert.KDownIdeal.Body.A3 m c), fun c => Cert.RDownIdeal.Read.val_main_v32 (F := Ideal) (Cert.KDownIdeal.Body.A0 m c) (Cert.KDownIdeal.Body.A2 m c), fun c => Cert.RDownIdeal.Read.val_main_v34 (F := Ideal) (Cert.KDownIdeal.Body.A0 m c) (Cert.KDownIdeal.Body.A1 m c) (Cert.KDownIdeal.Body.A3 m c), ?_, ?_⟩
  · refine (θ_run Cert.KDownIdeal.defs _ _).mono (fun r h c => ?_) (Cert.KDownIdeal.Value.run_blocks (F := Ideal) m g)
    obtain ⟨e5, e6, e7, rest⟩ := h c
    exact ⟨e5.trans (Cert.KDownIdeal.Body.arr5 m c), e6.trans (Cert.KDownIdeal.Body.arr6 m c), e7.trans (Cert.KDownIdeal.Body.arr7 m c), rest⟩
  · refine (θ_run Cert.RDownIdeal.defs _ _).mono (fun r h c => ?_) (Cert.RDownIdeal.Value.run (F := Ideal) m' g')
    obtain ⟨e5, e6, e7, rest⟩ := h c
    obtain ⟨a0, a1, a2, a3⟩ := hargs c
    refine ⟨e5.trans ?_, e6.trans ?_, e7.trans ?_, rest⟩
    · refine (Cert.RDownIdeal.Read.val_main_v31_eq _ _ _ _).trans ?_
      show Cert.RDownIdeal.Read.val_main_v31 (F := Ideal) (m' ((c.tc : Thread Cert.RDownIdeal.nD Cert.RDownIdeal.τ).loc Cert.RDownIdeal.main_arg0)) (m' ((c.tc : Thread Cert.RDownIdeal.nD Cert.RDownIdeal.τ).loc Cert.RDownIdeal.main_arg1)) (m' ((c.tc : Thread Cert.RDownIdeal.nD Cert.RDownIdeal.τ).loc Cert.RDownIdeal.main_arg2)) (m' ((c.tc : Thread Cert.RDownIdeal.nD Cert.RDownIdeal.τ).loc Cert.RDownIdeal.main_arg3)) = _
      rw [a0, a1, a2, a3]
    · refine (Cert.RDownIdeal.Read.val_main_v32_eq _ _).trans ?_
      show Cert.RDownIdeal.Read.val_main_v32 (F := Ideal) (m' ((c.tc : Thread Cert.RDownIdeal.nD Cert.RDownIdeal.τ).loc Cert.RDownIdeal.main_arg0)) (m' ((c.tc : Thread Cert.RDownIdeal.nD Cert.RDownIdeal.τ).loc Cert.RDownIdeal.main_arg2)) = _
      rw [a0, a2]
    · refine (Cert.RDownIdeal.Read.val_main_v34_eq _ _ _).trans ?_
      show Cert.RDownIdeal.Read.val_main_v34 (F := Ideal) (m' ((c.tc : Thread Cert.RDownIdeal.nD Cert.RDownIdeal.τ).loc Cert.RDownIdeal.main_arg0)) (m' ((c.tc : Thread Cert.RDownIdeal.nD Cert.RDownIdeal.τ).loc Cert.RDownIdeal.main_arg1)) (m' ((c.tc : Thread Cert.RDownIdeal.nD Cert.RDownIdeal.τ).loc Cert.RDownIdeal.main_arg3)) = _
      rw [a0, a1, a3]

/-- Back through the first product, the modulation and the norm: kernel and reference leave equal arrays, whatever finite arguments they start from. -/
theorem up :
    letI := Cert.KUpIdeal.Gen.facts; letI := Cert.RUpIdeal.Gen.facts; letI := Cert.RUpIdeal.Math.pre_facts
    Cert.algebraic_KUpIdeal_RUpIdeal_pre_finite_up := by
  intro m g m' g' hpre hargs
  have D : ∀ c, Cert.RUpIdeal.Math.Reals (Cert.KUpIdeal.Body.A0 m c) (Cert.KUpIdeal.Body.A1 m c) (Cert.KUpIdeal.Body.A2 m c) (Cert.KUpIdeal.Body.A4 m c) (Cert.KUpIdeal.Body.A5 m c) := fun c => Cert.RUpIdeal.Math.mkReals (Cert.KUpIdeal.Body.A0 m c) (Cert.KUpIdeal.Body.A1 m c) (Cert.KUpIdeal.Body.A2 m c) (Cert.KUpIdeal.Body.A3 m c) (Cert.KUpIdeal.Body.A4 m c) (Cert.KUpIdeal.Body.A5 m c) (hpre c)
  refine ⟨fun c => Cert.RUpIdeal.Read.val_main_v55 (F := Ideal) (Cert.KUpIdeal.Body.A0 m c) (Cert.KUpIdeal.Body.A1 m c) (Cert.KUpIdeal.Body.A2 m c) (Cert.KUpIdeal.Body.A3 m c) (Cert.KUpIdeal.Body.A4 m c) (Cert.KUpIdeal.Body.A5 m c), fun c => Cert.RUpIdeal.Read.val_main_v62 (F := Ideal) (Cert.KUpIdeal.Body.A0 m c) (Cert.KUpIdeal.Body.A1 m c) (Cert.KUpIdeal.Body.A2 m c) (Cert.KUpIdeal.Body.A4 m c) (Cert.KUpIdeal.Body.A5 m c), ?_, ?_⟩
  · refine (θ_run Cert.KUpIdeal.defs _ _).mono (fun r h c => ?_) (Cert.KUpIdeal.Value.run_blocks (F := Ideal) m g)
    obtain ⟨e6, e7, rest⟩ := h c
    exact ⟨e6.trans (Cert.KUpIdeal.Body.arr6 (D c)), e7.trans (Cert.KUpIdeal.Body.arr7 (D c)), rest⟩
  · refine (θ_run Cert.RUpIdeal.defs _ _).mono (fun r h c => ?_) (Cert.RUpIdeal.Value.run (F := Ideal) m' g')
    obtain ⟨e6, e7, rest⟩ := h c
    obtain ⟨a0, a1, a2, a3, a4, a5⟩ := hargs c
    refine ⟨e6.trans ?_, e7.trans ?_, rest⟩
    · refine (Cert.RUpIdeal.Read.val_main_v55_eq _ _).trans ?_
      show Cert.RUpIdeal.Read.val_main_v55 (F := Ideal) (m' ((c.tc : Thread Cert.RUpIdeal.nD Cert.RUpIdeal.τ).loc Cert.RUpIdeal.main_arg0)) (m' ((c.tc : Thread Cert.RUpIdeal.nD Cert.RUpIdeal.τ).loc Cert.RUpIdeal.main_arg1)) (m' ((c.tc : Thread Cert.RUpIdeal.nD Cert.RUpIdeal.τ).loc Cert.RUpIdeal.main_arg2)) (m' ((c.tc : Thread Cert.RUpIdeal.nD Cert.RUpIdeal.τ).loc Cert.RUpIdeal.main_arg3)) (m' ((c.tc : Thread Cert.RUpIdeal.nD Cert.RUpIdeal.τ).loc Cert.RUpIdeal.main_arg4)) (m' ((c.tc : Thread Cert.RUpIdeal.nD Cert.RUpIdeal.τ).loc Cert.RUpIdeal.main_arg5)) = _
      rw [a0, a1, a2, a3, a4, a5]
    · refine (Cert.RUpIdeal.Read.val_main_v62_eq _ _ _ _ _).trans ?_
      show Cert.RUpIdeal.Read.val_main_v62 (F := Ideal) (m' ((c.tc : Thread Cert.RUpIdeal.nD Cert.RUpIdeal.τ).loc Cert.RUpIdeal.main_arg0)) (m' ((c.tc : Thread Cert.RUpIdeal.nD Cert.RUpIdeal.τ).loc Cert.RUpIdeal.main_arg1)) (m' ((c.tc : Thread Cert.RUpIdeal.nD Cert.RUpIdeal.τ).loc Cert.RUpIdeal.main_arg2)) (m' ((c.tc : Thread Cert.RUpIdeal.nD Cert.RUpIdeal.τ).loc Cert.RUpIdeal.main_arg4)) (m' ((c.tc : Thread Cert.RUpIdeal.nD Cert.RUpIdeal.τ).loc Cert.RUpIdeal.main_arg5)) = _
      rw [a0, a1, a2, a4, a5]

/-- The MLP's normalised rows and first product: kernel and reference leave equal arrays. -/
theorem mup :
    letI := Cert.KMupIdeal.Gen.facts; letI := Cert.RMupIdeal.Gen.facts
    Cert.algebraic_KMupIdeal_RMupIdeal := by
  intro m g m' g' hpre hargs
  refine ⟨fun c => Cert.RMupIdeal.Read.val_main_v24 (F := Ideal) (Cert.KMupIdeal.Body.A0 m c) (Cert.KMupIdeal.Body.A1 m c) (Cert.KMupIdeal.Body.A2 m c), fun c => Cert.RMupIdeal.Read.val_main_v27 (F := Ideal) (Cert.KMupIdeal.Body.A0 m c) (Cert.KMupIdeal.Body.A1 m c) (Cert.KMupIdeal.Body.A2 m c) (Cert.KMupIdeal.Body.A3 m c), ?_, ?_⟩
  · refine (θ_run Cert.KMupIdeal.defs _ _).mono (fun r h c => ?_) (Cert.KMupIdeal.Value.run_blocks (F := Ideal) m g)
    obtain ⟨e4, e5, rest⟩ := h c
    exact ⟨e4.trans (Cert.KMupIdeal.Body.arr4 m c), e5.trans (Cert.KMupIdeal.Body.arr5 m c), rest⟩
  · refine (θ_run Cert.RMupIdeal.defs _ _).mono (fun r h c => ?_) (Cert.RMupIdeal.Value.run (F := Ideal) m' g')
    obtain ⟨e4, e5, rest⟩ := h c
    obtain ⟨a0, a1, a2, a3⟩ := hargs c
    refine ⟨e4.trans ?_, e5.trans ?_, rest⟩
    · refine (Cert.RMupIdeal.Read.val_main_v24_eq _ _ _).trans ?_
      show Cert.RMupIdeal.Read.val_main_v24 (F := Ideal) (m' ((c.tc : Thread Cert.RMupIdeal.nD Cert.RMupIdeal.τ).loc Cert.RMupIdeal.main_arg0)) (m' ((c.tc : Thread Cert.RMupIdeal.nD Cert.RMupIdeal.τ).loc Cert.RMupIdeal.main_arg1)) (m' ((c.tc : Thread Cert.RMupIdeal.nD Cert.RMupIdeal.τ).loc Cert.RMupIdeal.main_arg2)) = _
      rw [a0, a1, a2]
    · refine (Cert.RMupIdeal.Read.val_main_v27_eq _ _ _ _).trans ?_
      show Cert.RMupIdeal.Read.val_main_v27 (F := Ideal) (m' ((c.tc : Thread Cert.RMupIdeal.nD Cert.RMupIdeal.τ).loc Cert.RMupIdeal.main_arg0)) (m' ((c.tc : Thread Cert.RMupIdeal.nD Cert.RMupIdeal.τ).loc Cert.RMupIdeal.main_arg1)) (m' ((c.tc : Thread Cert.RMupIdeal.nD Cert.RMupIdeal.τ).loc Cert.RMupIdeal.main_arg2)) (m' ((c.tc : Thread Cert.RMupIdeal.nD Cert.RMupIdeal.τ).loc Cert.RMupIdeal.main_arg3)) = _
      rw [a0, a1, a2, a3]

/-- The MLP's second product and sum: kernel and reference leave equal arrays. -/
theorem mdown :
    letI := Cert.KMdownIdeal.Gen.facts; letI := Cert.RMdownIdeal.Gen.facts
    Cert.algebraic_KMdownIdeal_RMdownIdeal := by
  intro m g m' g' hpre hargs
  refine ⟨fun c => Cert.RMdownIdeal.Read.val_main_v11 (F := Ideal) (Cert.KMdownIdeal.Body.A0 m c) (Cert.KMdownIdeal.Body.A1 m c) (Cert.KMdownIdeal.Body.A2 m c) (Cert.KMdownIdeal.Body.A3 m c), fun c => Cert.RMdownIdeal.Read.val_main_v12 (F := Ideal) (Cert.KMdownIdeal.Body.A0 m c) (Cert.KMdownIdeal.Body.A1 m c), ?_, ?_⟩
  · refine (θ_run Cert.KMdownIdeal.defs _ _).mono (fun r h c => ?_) (Cert.KMdownIdeal.Value.run_blocks (F := Ideal) m g)
    obtain ⟨e4, e5, rest⟩ := h c
    exact ⟨e4.trans (Cert.KMdownIdeal.Body.arr4 m c), e5.trans (Cert.KMdownIdeal.Body.arr5 m c), rest⟩
  · refine (θ_run Cert.RMdownIdeal.defs _ _).mono (fun r h c => ?_) (Cert.RMdownIdeal.Value.run (F := Ideal) m' g')
    obtain ⟨e4, e5, rest⟩ := h c
    obtain ⟨a0, a1, a2, a3⟩ := hargs c
    refine ⟨e4.trans ?_, e5.trans ?_, rest⟩
    · refine (Cert.RMdownIdeal.Read.val_main_v11_eq _ _ _ _).trans ?_
      show Cert.RMdownIdeal.Read.val_main_v11 (F := Ideal) (m' ((c.tc : Thread Cert.RMdownIdeal.nD Cert.RMdownIdeal.τ).loc Cert.RMdownIdeal.main_arg0)) (m' ((c.tc : Thread Cert.RMdownIdeal.nD Cert.RMdownIdeal.τ).loc Cert.RMdownIdeal.main_arg1)) (m' ((c.tc : Thread Cert.RMdownIdeal.nD Cert.RMdownIdeal.τ).loc Cert.RMdownIdeal.main_arg2)) (m' ((c.tc : Thread Cert.RMdownIdeal.nD Cert.RMdownIdeal.τ).loc Cert.RMdownIdeal.main_arg3)) = _
      rw [a0, a1, a2, a3]
    · refine (Cert.RMdownIdeal.Read.val_main_v12_eq _ _).trans ?_
      show Cert.RMdownIdeal.Read.val_main_v12 (F := Ideal) (m' ((c.tc : Thread Cert.RMdownIdeal.nD Cert.RMdownIdeal.τ).loc Cert.RMdownIdeal.main_arg0)) (m' ((c.tc : Thread Cert.RMdownIdeal.nD Cert.RMdownIdeal.τ).loc Cert.RMdownIdeal.main_arg1)) = _
      rw [a0, a1]

/-- The attention's output product and sum: kernel and reference leave equal arrays. -/
theorem out :
    letI := Cert.KOutIdeal.Gen.facts; letI := Cert.ROutIdeal.Gen.facts
    Cert.algebraic_KOutIdeal_ROutIdeal := by
  intro m g m' g' hpre hargs
  refine ⟨fun c => Cert.ROutIdeal.Read.val_main_v9 (F := Ideal) (Cert.KOutIdeal.Body.A0 m c) (Cert.KOutIdeal.Body.A1 m c) (Cert.KOutIdeal.Body.A2 m c) (Cert.KOutIdeal.Body.A3 m c), fun c => Cert.ROutIdeal.Read.val_main_v10 (F := Ideal) (Cert.KOutIdeal.Body.A0 m c) (Cert.KOutIdeal.Body.A1 m c), ?_, ?_⟩
  · refine (θ_run Cert.KOutIdeal.defs _ _).mono (fun r h c => ?_) (Cert.KOutIdeal.Value.run_blocks (F := Ideal) m g)
    obtain ⟨e4, e5, rest⟩ := h c
    exact ⟨e4.trans (Cert.KOutIdeal.Body.arr4 m c), e5.trans (Cert.KOutIdeal.Body.arr5 m c), rest⟩
  · refine (θ_run Cert.ROutIdeal.defs _ _).mono (fun r h c => ?_) (Cert.ROutIdeal.Value.run (F := Ideal) m' g')
    obtain ⟨e4, e5, rest⟩ := h c
    obtain ⟨a0, a1, a2, a3⟩ := hargs c
    refine ⟨e4.trans ?_, e5.trans ?_, rest⟩
    · refine (Cert.ROutIdeal.Read.val_main_v9_eq _ _ _ _).trans ?_
      show Cert.ROutIdeal.Read.val_main_v9 (F := Ideal) (m' ((c.tc : Thread Cert.ROutIdeal.nD Cert.ROutIdeal.τ).loc Cert.ROutIdeal.main_arg0)) (m' ((c.tc : Thread Cert.ROutIdeal.nD Cert.ROutIdeal.τ).loc Cert.ROutIdeal.main_arg1)) (m' ((c.tc : Thread Cert.ROutIdeal.nD Cert.ROutIdeal.τ).loc Cert.ROutIdeal.main_arg2)) (m' ((c.tc : Thread Cert.ROutIdeal.nD Cert.ROutIdeal.τ).loc Cert.ROutIdeal.main_arg3)) = _
      rw [a0, a1, a2, a3]
    · refine (Cert.ROutIdeal.Read.val_main_v10_eq _ _).trans ?_
      show Cert.ROutIdeal.Read.val_main_v10 (F := Ideal) (m' ((c.tc : Thread Cert.ROutIdeal.nD Cert.ROutIdeal.τ).loc Cert.ROutIdeal.main_arg0)) (m' ((c.tc : Thread Cert.ROutIdeal.nD Cert.ROutIdeal.τ).loc Cert.ROutIdeal.main_arg1)) = _
      rw [a0, a1]

/-- Back through the gate and the output product: kernel and reference leave equal arrays. -/
theorem bo :
    letI := Cert.KBoIdeal.Gen.facts; letI := Cert.RBoIdeal.Gen.facts
    Cert.algebraic_KBoIdeal_RBoIdeal := by
  intro m g m' g' hpre hargs
  refine ⟨fun c => Cert.RBoIdeal.Read.val_main_v21 (F := Ideal) (Cert.KBoIdeal.Body.A0 m c) (Cert.KBoIdeal.Body.A2 m c), fun c => Cert.RBoIdeal.Read.val_main_v22 (F := Ideal) (Cert.KBoIdeal.Body.A0 m c) (Cert.KBoIdeal.Body.A2 m c) (Cert.KBoIdeal.Body.A3 m c), fun c => Cert.RBoIdeal.Read.val_main_v24 (F := Ideal) (Cert.KBoIdeal.Body.A0 m c) (Cert.KBoIdeal.Body.A1 m c) (Cert.KBoIdeal.Body.A3 m c), ?_, ?_⟩
  · refine (θ_run Cert.KBoIdeal.defs _ _).mono (fun r h c => ?_) (Cert.KBoIdeal.Value.run_blocks (F := Ideal) m g)
    obtain ⟨e4, e5, e6, rest⟩ := h c
    exact ⟨e4.trans (Cert.KBoIdeal.Body.arr4 m c), e5.trans (Cert.KBoIdeal.Body.arr5 m c), e6.trans (Cert.KBoIdeal.Body.arr6 m c), rest⟩
  · refine (θ_run Cert.RBoIdeal.defs _ _).mono (fun r h c => ?_) (Cert.RBoIdeal.Value.run (F := Ideal) m' g')
    obtain ⟨e4, e5, e6, rest⟩ := h c
    obtain ⟨a0, a1, a2, a3⟩ := hargs c
    refine ⟨e4.trans ?_, e5.trans ?_, e6.trans ?_, rest⟩
    · refine (Cert.RBoIdeal.Read.val_main_v21_eq _ _).trans ?_
      show Cert.RBoIdeal.Read.val_main_v21 (F := Ideal) (m' ((c.tc : Thread Cert.RBoIdeal.nD Cert.RBoIdeal.τ).loc Cert.RBoIdeal.main_arg0)) (m' ((c.tc : Thread Cert.RBoIdeal.nD Cert.RBoIdeal.τ).loc Cert.RBoIdeal.main_arg2)) = _
      rw [a0, a2]
    · refine (Cert.RBoIdeal.Read.val_main_v22_eq _ _ _).trans ?_
      show Cert.RBoIdeal.Read.val_main_v22 (F := Ideal) (m' ((c.tc : Thread Cert.RBoIdeal.nD Cert.RBoIdeal.τ).loc Cert.RBoIdeal.main_arg0)) (m' ((c.tc : Thread Cert.RBoIdeal.nD Cert.RBoIdeal.τ).loc Cert.RBoIdeal.main_arg2)) (m' ((c.tc : Thread Cert.RBoIdeal.nD Cert.RBoIdeal.τ).loc Cert.RBoIdeal.main_arg3)) = _
      rw [a0, a2, a3]
    · refine (Cert.RBoIdeal.Read.val_main_v24_eq _ _ _).trans ?_
      show Cert.RBoIdeal.Read.val_main_v24 (F := Ideal) (m' ((c.tc : Thread Cert.RBoIdeal.nD Cert.RBoIdeal.τ).loc Cert.RBoIdeal.main_arg0)) (m' ((c.tc : Thread Cert.RBoIdeal.nD Cert.RBoIdeal.τ).loc Cert.RBoIdeal.main_arg1)) (m' ((c.tc : Thread Cert.RBoIdeal.nD Cert.RBoIdeal.τ).loc Cert.RBoIdeal.main_arg3)) = _
      rw [a0, a1, a3]

/-- The output product's weight gradient: kernel and reference leave equal arrays. -/
theorem dwo :
    letI := Cert.KDwoIdeal.Gen.facts; letI := Cert.RDwoIdeal.Gen.facts
    Cert.algebraic_KDwoIdeal_RDwoIdeal := by
  intro m g m' g' hpre hargs
  refine ⟨fun c => Cert.RDwoIdeal.Read.val_main_v4 (F := Ideal) (Cert.KDwoIdeal.Body.A0 m c) (Cert.KDwoIdeal.Body.A1 m c), ?_, ?_⟩
  · refine (θ_run Cert.KDwoIdeal.defs _ _).mono (fun r h c => ?_) (Cert.KDwoIdeal.Value.run_blocks (F := Ideal) m g)
    obtain ⟨e2, rest⟩ := h c
    exact ⟨e2.trans (Cert.KDwoIdeal.Body.arr2 m c), rest⟩
  · refine (θ_run Cert.RDwoIdeal.defs _ _).mono (fun r h c => ?_) (Cert.RDwoIdeal.Value.run (F := Ideal) m' g')
    obtain ⟨e2, rest⟩ := h c
    obtain ⟨a0, a1⟩ := hargs c
    refine ⟨e2.trans ?_, rest⟩
    · refine (Cert.RDwoIdeal.Read.val_main_v4_eq _ _).trans ?_
      show Cert.RDwoIdeal.Read.val_main_v4 (F := Ideal) (m' ((c.tc : Thread Cert.RDwoIdeal.nD Cert.RDwoIdeal.τ).loc Cert.RDwoIdeal.main_arg0)) (m' ((c.tc : Thread Cert.RDwoIdeal.nD Cert.RDwoIdeal.τ).loc Cert.RDwoIdeal.main_arg1)) = _
      rw [a0, a1]

/-- The gated unit's second weight gradient: kernel and reference leave equal arrays. -/
theorem sdo :
    letI := Cert.KSdoIdeal.Gen.facts; letI := Cert.RSdoIdeal.Gen.facts
    Cert.algebraic_KSdoIdeal_RSdoIdeal := by
  intro m g m' g' hpre hargs
  refine ⟨fun c => Cert.RSdoIdeal.Read.val_main_v4 (F := Ideal) (Cert.KSdoIdeal.Body.A0 m c) (Cert.KSdoIdeal.Body.A1 m c), ?_, ?_⟩
  · refine (θ_run Cert.KSdoIdeal.defs _ _).mono (fun r h c => ?_) (Cert.KSdoIdeal.Value.run_blocks (F := Ideal) m g)
    obtain ⟨e2, rest⟩ := h c
    exact ⟨e2.trans (Cert.KSdoIdeal.Body.arr2 m c), rest⟩
  · refine (θ_run Cert.RSdoIdeal.defs _ _).mono (fun r h c => ?_) (Cert.RSdoIdeal.Value.run (F := Ideal) m' g')
    obtain ⟨e2, rest⟩ := h c
    obtain ⟨a0, a1⟩ := hargs c
    refine ⟨e2.trans ?_, rest⟩
    · refine (Cert.RSdoIdeal.Read.val_main_v4_eq _ _).trans ?_
      show Cert.RSdoIdeal.Read.val_main_v4 (F := Ideal) (m' ((c.tc : Thread Cert.RSdoIdeal.nD Cert.RSdoIdeal.τ).loc Cert.RSdoIdeal.main_arg0)) (m' ((c.tc : Thread Cert.RSdoIdeal.nD Cert.RSdoIdeal.τ).loc Cert.RSdoIdeal.main_arg1)) = _
      rw [a0, a1]

/-- The gated unit's first weight gradient: kernel and reference leave equal arrays. -/
theorem sdi :
    letI := Cert.KSdiIdeal.Gen.facts; letI := Cert.RSdiIdeal.Gen.facts
    Cert.algebraic_KSdiIdeal_RSdiIdeal := by
  intro m g m' g' hpre hargs
  refine ⟨fun c => Cert.RSdiIdeal.Read.val_main_v6 (F := Ideal) (Cert.KSdiIdeal.Body.A0 m c) (Cert.KSdiIdeal.Body.A1 m c), ?_, ?_⟩
  · refine (θ_run Cert.KSdiIdeal.defs _ _).mono (fun r h c => ?_) (Cert.KSdiIdeal.Value.run_blocks (F := Ideal) m g)
    obtain ⟨e2, rest⟩ := h c
    exact ⟨e2.trans (Cert.KSdiIdeal.Body.arr2 m c), rest⟩
  · refine (θ_run Cert.RSdiIdeal.defs _ _).mono (fun r h c => ?_) (Cert.RSdiIdeal.Value.run (F := Ideal) m' g')
    obtain ⟨e2, rest⟩ := h c
    obtain ⟨a0, a1⟩ := hargs c
    refine ⟨e2.trans ?_, rest⟩
    · refine (Cert.RSdiIdeal.Read.val_main_v6_eq _ _).trans ?_
      show Cert.RSdiIdeal.Read.val_main_v6 (F := Ideal) (m' ((c.tc : Thread Cert.RSdiIdeal.nD Cert.RSdiIdeal.τ).loc Cert.RSdiIdeal.main_arg0)) (m' ((c.tc : Thread Cert.RSdiIdeal.nD Cert.RSdiIdeal.τ).loc Cert.RSdiIdeal.main_arg1)) = _
      rw [a0, a1]

/-- The query weight's gradient: kernel and reference leave equal arrays. -/
theorem dwq :
    letI := Cert.KDwqIdeal.Gen.facts; letI := Cert.RDwqIdeal.Gen.facts
    Cert.algebraic_KDwqIdeal_RDwqIdeal := by
  intro m g m' g' hpre hargs
  refine ⟨fun c => Cert.RDwqIdeal.Read.val_main_v4 (F := Ideal) (Cert.KDwqIdeal.Body.A0 m c) (Cert.KDwqIdeal.Body.A1 m c), ?_, ?_⟩
  · refine (θ_run Cert.KDwqIdeal.defs _ _).mono (fun r h c => ?_) (Cert.KDwqIdeal.Value.run_blocks (F := Ideal) m g)
    obtain ⟨e2, rest⟩ := h c
    exact ⟨e2.trans (Cert.KDwqIdeal.Body.arr2 m c), rest⟩
  · refine (θ_run Cert.RDwqIdeal.defs _ _).mono (fun r h c => ?_) (Cert.RDwqIdeal.Value.run (F := Ideal) m' g')
    obtain ⟨e2, rest⟩ := h c
    obtain ⟨a0, a1⟩ := hargs c
    refine ⟨e2.trans ?_, rest⟩
    · refine (Cert.RDwqIdeal.Read.val_main_v4_eq _ _).trans ?_
      show Cert.RDwqIdeal.Read.val_main_v4 (F := Ideal) (m' ((c.tc : Thread Cert.RDwqIdeal.nD Cert.RDwqIdeal.τ).loc Cert.RDwqIdeal.main_arg0)) (m' ((c.tc : Thread Cert.RDwqIdeal.nD Cert.RDwqIdeal.τ).loc Cert.RDwqIdeal.main_arg1)) = _
      rw [a0, a1]

/-- The key and value weight's gradient: kernel and reference leave equal arrays. -/
theorem dwk :
    letI := Cert.KDwkIdeal.Gen.facts; letI := Cert.RDwkIdeal.Gen.facts
    Cert.algebraic_KDwkIdeal_RDwkIdeal := by
  intro m g m' g' hpre hargs
  refine ⟨fun c => Cert.RDwkIdeal.Read.val_main_v6 (F := Ideal) (Cert.KDwkIdeal.Body.A0 m c) (Cert.KDwkIdeal.Body.A1 m c), ?_, ?_⟩
  · refine (θ_run Cert.KDwkIdeal.defs _ _).mono (fun r h c => ?_) (Cert.KDwkIdeal.Value.run_blocks (F := Ideal) m g)
    obtain ⟨e2, rest⟩ := h c
    exact ⟨e2.trans (Cert.KDwkIdeal.Body.arr2 m c), rest⟩
  · refine (θ_run Cert.RDwkIdeal.defs _ _).mono (fun r h c => ?_) (Cert.RDwkIdeal.Value.run (F := Ideal) m' g')
    obtain ⟨e2, rest⟩ := h c
    obtain ⟨a0, a1⟩ := hargs c
    refine ⟨e2.trans ?_, rest⟩
    · refine (Cert.RDwkIdeal.Read.val_main_v6_eq _ _).trans ?_
      show Cert.RDwkIdeal.Read.val_main_v6 (F := Ideal) (m' ((c.tc : Thread Cert.RDwkIdeal.nD Cert.RDwkIdeal.τ).loc Cert.RDwkIdeal.main_arg0)) (m' ((c.tc : Thread Cert.RDwkIdeal.nD Cert.RDwkIdeal.τ).loc Cert.RDwkIdeal.main_arg1)) = _
      rw [a0, a1]

/-- The latent weight's gradient: kernel and reference leave equal arrays. -/
theorem dwd :
    letI := Cert.KDwdIdeal.Gen.facts; letI := Cert.RDwdIdeal.Gen.facts
    Cert.algebraic_KDwdIdeal_RDwdIdeal := by
  intro m g m' g' hpre hargs
  refine ⟨fun c => Cert.RDwdIdeal.Read.val_main_v4 (F := Ideal) (Cert.KDwdIdeal.Body.A0 m c) (Cert.KDwdIdeal.Body.A1 m c), ?_, ?_⟩
  · refine (θ_run Cert.KDwdIdeal.defs _ _).mono (fun r h c => ?_) (Cert.KDwdIdeal.Value.run_blocks (F := Ideal) m g)
    obtain ⟨e2, rest⟩ := h c
    exact ⟨e2.trans (Cert.KDwdIdeal.Body.arr2 m c), rest⟩
  · refine (θ_run Cert.RDwdIdeal.defs _ _).mono (fun r h c => ?_) (Cert.RDwdIdeal.Value.run (F := Ideal) m' g')
    obtain ⟨e2, rest⟩ := h c
    obtain ⟨a0, a1⟩ := hargs c
    refine ⟨e2.trans ?_, rest⟩
    · refine (Cert.RDwdIdeal.Read.val_main_v4_eq _ _).trans ?_
      show Cert.RDwdIdeal.Read.val_main_v4 (F := Ideal) (m' ((c.tc : Thread Cert.RDwdIdeal.nD Cert.RDwdIdeal.τ).loc Cert.RDwdIdeal.main_arg0)) (m' ((c.tc : Thread Cert.RDwdIdeal.nD Cert.RDwdIdeal.τ).loc Cert.RDwdIdeal.main_arg1)) = _
      rw [a0, a1]

/-- The latents, the normalised latents and the rotated shared key: kernel and reference leave equal arrays. -/
theorem lat :
    letI := Cert.KLatIdeal.Gen.facts; letI := Cert.RLatIdeal.Gen.facts
    Cert.algebraic_KLatIdeal_RLatIdeal := by
  intro m g m' g' hpre hargs
  refine ⟨fun c => Cert.RLatIdeal.Read.val_main_v38 (F := Ideal) (Cert.KLatIdeal.Body.A0 m c) (Cert.KLatIdeal.Body.A1 m c) (Cert.KLatIdeal.Body.A2 m c), fun c => Cert.RLatIdeal.Read.val_main_v39 (F := Ideal) (Cert.KLatIdeal.Body.A0 m c) (Cert.KLatIdeal.Body.A1 m c) (Cert.KLatIdeal.Body.A2 m c) (Cert.KLatIdeal.Body.A3 m c), fun c => Cert.RLatIdeal.Read.val_main_v52 (F := Ideal) (Cert.KLatIdeal.Body.A0 m c) (Cert.KLatIdeal.Body.A1 m c) (Cert.KLatIdeal.Body.A2 m c) (Cert.KLatIdeal.Body.A3 m c) (Cert.KLatIdeal.Body.A4 m c), fun c => Cert.RLatIdeal.Read.val_main_v65 (F := Ideal) (Cert.KLatIdeal.Body.A0 m c) (Cert.KLatIdeal.Body.A1 m c) (Cert.KLatIdeal.Body.A2 m c) (Cert.KLatIdeal.Body.A3 m c) (Cert.KLatIdeal.Body.A5 m c), fun c => Cert.RLatIdeal.Read.val_main_v67 (F := Ideal) (Cert.KLatIdeal.Body.A0 m c) (Cert.KLatIdeal.Body.A1 m c) (Cert.KLatIdeal.Body.A2 m c) (Cert.KLatIdeal.Body.A3 m c) (Cert.KLatIdeal.Body.A6 m c) (Cert.KLatIdeal.Body.A7 m c), ?_, ?_⟩
  · refine (θ_run Cert.KLatIdeal.defs _ _).mono (fun r h c => ?_) (Cert.KLatIdeal.Value.run_blocks (F := Ideal) m g)
    obtain ⟨e8, e9, e10, e11, e12, rest⟩ := h c
    exact ⟨e8.trans (Cert.KLatIdeal.Body.arr8 m c), e9.trans (Cert.KLatIdeal.Body.arr9 m c), e10.trans (Cert.KLatIdeal.Body.arr10 m c), e11.trans (Cert.KLatIdeal.Body.arr11 m c), e12.trans (Cert.KLatIdeal.Body.arr12 m c), rest⟩
  · refine (θ_run Cert.RLatIdeal.defs _ _).mono (fun r h c => ?_) (Cert.RLatIdeal.Value.run (F := Ideal) m' g')
    obtain ⟨e8, e9, e10, e11, e12, rest⟩ := h c
    obtain ⟨a0, a1, a2, a3, a4, a5, a6, a7⟩ := hargs c
    refine ⟨e8.trans ?_, e9.trans ?_, e10.trans ?_, e11.trans ?_, e12.trans ?_, rest⟩
    · refine (Cert.RLatIdeal.Read.val_main_v38_eq _ _ _).trans ?_
      show Cert.RLatIdeal.Read.val_main_v38 (F := Ideal) (m' ((c.tc : Thread Cert.RLatIdeal.nD Cert.RLatIdeal.τ).loc Cert.RLatIdeal.main_arg0)) (m' ((c.tc : Thread Cert.RLatIdeal.nD Cert.RLatIdeal.τ).loc Cert.RLatIdeal.main_arg1)) (m' ((c.tc : Thread Cert.RLatIdeal.nD Cert.RLatIdeal.τ).loc Cert.RLatIdeal.main_arg2)) = _
      rw [a0, a1, a2]
    · refine (Cert.RLatIdeal.Read.val_main_v39_eq _ _ _ _).trans ?_
      show Cert.RLatIdeal.Read.val_main_v39 (F := Ideal) (m' ((c.tc : Thread Cert.RLatIdeal.nD Cert.RLatIdeal.τ).loc Cert.RLatIdeal.main_arg0)) (m' ((c.tc : Thread Cert.RLatIdeal.nD Cert.RLatIdeal.τ).loc Cert.RLatIdeal.main_arg1)) (m' ((c.tc : Thread Cert.RLatIdeal.nD Cert.RLatIdeal.τ).loc Cert.RLatIdeal.main_arg2)) (m' ((c.tc : Thread Cert.RLatIdeal.nD Cert.RLatIdeal.τ).loc Cert.RLatIdeal.main_arg3)) = _
      rw [a0, a1, a2, a3]
    · refine (Cert.RLatIdeal.Read.val_main_v52_eq _ _).trans ?_
      show Cert.RLatIdeal.Read.val_main_v52 (F := Ideal) (m' ((c.tc : Thread Cert.RLatIdeal.nD Cert.RLatIdeal.τ).loc Cert.RLatIdeal.main_arg0)) (m' ((c.tc : Thread Cert.RLatIdeal.nD Cert.RLatIdeal.τ).loc Cert.RLatIdeal.main_arg1)) (m' ((c.tc : Thread Cert.RLatIdeal.nD Cert.RLatIdeal.τ).loc Cert.RLatIdeal.main_arg2)) (m' ((c.tc : Thread Cert.RLatIdeal.nD Cert.RLatIdeal.τ).loc Cert.RLatIdeal.main_arg3)) (m' ((c.tc : Thread Cert.RLatIdeal.nD Cert.RLatIdeal.τ).loc Cert.RLatIdeal.main_arg4)) = _
      rw [a0, a1, a2, a3, a4]
    · refine (Cert.RLatIdeal.Read.val_main_v65_eq _ _).trans ?_
      show Cert.RLatIdeal.Read.val_main_v65 (F := Ideal) (m' ((c.tc : Thread Cert.RLatIdeal.nD Cert.RLatIdeal.τ).loc Cert.RLatIdeal.main_arg0)) (m' ((c.tc : Thread Cert.RLatIdeal.nD Cert.RLatIdeal.τ).loc Cert.RLatIdeal.main_arg1)) (m' ((c.tc : Thread Cert.RLatIdeal.nD Cert.RLatIdeal.τ).loc Cert.RLatIdeal.main_arg2)) (m' ((c.tc : Thread Cert.RLatIdeal.nD Cert.RLatIdeal.τ).loc Cert.RLatIdeal.main_arg3)) (m' ((c.tc : Thread Cert.RLatIdeal.nD Cert.RLatIdeal.τ).loc Cert.RLatIdeal.main_arg5)) = _
      rw [a0, a1, a2, a3, a5]
    · refine (Cert.RLatIdeal.Read.val_main_v67_eq _ _).trans ?_
      show Cert.RLatIdeal.Read.val_main_v67 (F := Ideal) (m' ((c.tc : Thread Cert.RLatIdeal.nD Cert.RLatIdeal.τ).loc Cert.RLatIdeal.main_arg0)) (m' ((c.tc : Thread Cert.RLatIdeal.nD Cert.RLatIdeal.τ).loc Cert.RLatIdeal.main_arg1)) (m' ((c.tc : Thread Cert.RLatIdeal.nD Cert.RLatIdeal.τ).loc Cert.RLatIdeal.main_arg2)) (m' ((c.tc : Thread Cert.RLatIdeal.nD Cert.RLatIdeal.τ).loc Cert.RLatIdeal.main_arg3)) (m' ((c.tc : Thread Cert.RLatIdeal.nD Cert.RLatIdeal.τ).loc Cert.RLatIdeal.main_arg6)) (m' ((c.tc : Thread Cert.RLatIdeal.nD Cert.RLatIdeal.τ).loc Cert.RLatIdeal.main_arg7)) = _
      rw [a0, a1, a2, a3, a6, a7]

/-- The queries, keys and values from the latents: kernel and reference leave equal arrays. -/
theorem qkv :
    letI := Cert.KQkvIdeal.Gen.facts; letI := Cert.RQkvIdeal.Gen.facts
    Cert.algebraic_KQkvIdeal_RQkvIdeal := by
  intro m g m' g' hpre hargs
  refine ⟨fun c => Cert.RQkvIdeal.Read.val_main_v30 (F := Ideal) (Cert.KQkvIdeal.Body.A0 m c) (Cert.KQkvIdeal.Body.A3 m c) (Cert.KQkvIdeal.Body.A5 m c) (Cert.KQkvIdeal.Body.A6 m c), fun c => Cert.RQkvIdeal.Read.val_main_v32 (F := Ideal) (Cert.KQkvIdeal.Body.A1 m c) (Cert.KQkvIdeal.Body.A2 m c) (Cert.KQkvIdeal.Body.A4 m c), fun c => Cert.RQkvIdeal.Read.val_main_v34 (F := Ideal) (Cert.KQkvIdeal.Body.A1 m c) (Cert.KQkvIdeal.Body.A4 m c), ?_, ?_⟩
  · refine (θ_run Cert.KQkvIdeal.defs _ _).mono (fun r h c => ?_) (Cert.KQkvIdeal.Value.run_blocks (F := Ideal) m g)
    obtain ⟨e7, e8, e9, rest⟩ := h c
    exact ⟨e7.trans (Cert.KQkvIdeal.Body.arr7 m c), e8.trans (Cert.KQkvIdeal.Body.arr8 m c), e9.trans (Cert.KQkvIdeal.Body.arr9 m c), rest⟩
  · refine (θ_run Cert.RQkvIdeal.defs _ _).mono (fun r h c => ?_) (Cert.RQkvIdeal.Value.run (F := Ideal) m' g')
    obtain ⟨e7, e8, e9, rest⟩ := h c
    obtain ⟨a0, a1, a2, a3, a4, a5, a6⟩ := hargs c
    refine ⟨e7.trans ?_, e8.trans ?_, e9.trans ?_, rest⟩
    · refine (Cert.RQkvIdeal.Read.val_main_v30_eq _ _ _ _).trans ?_
      show Cert.RQkvIdeal.Read.val_main_v30 (F := Ideal) (m' ((c.tc : Thread Cert.RQkvIdeal.nD Cert.RQkvIdeal.τ).loc Cert.RQkvIdeal.main_arg0)) (m' ((c.tc : Thread Cert.RQkvIdeal.nD Cert.RQkvIdeal.τ).loc Cert.RQkvIdeal.main_arg3)) (m' ((c.tc : Thread Cert.RQkvIdeal.nD Cert.RQkvIdeal.τ).loc Cert.RQkvIdeal.main_arg5)) (m' ((c.tc : Thread Cert.RQkvIdeal.nD Cert.RQkvIdeal.τ).loc Cert.RQkvIdeal.main_arg6)) = _
      rw [a0, a3, a5, a6]
    · refine (Cert.RQkvIdeal.Read.val_main_v32_eq _ _ _).trans ?_
      show Cert.RQkvIdeal.Read.val_main_v32 (F := Ideal) (m' ((c.tc : Thread Cert.RQkvIdeal.nD Cert.RQkvIdeal.τ).loc Cert.RQkvIdeal.main_arg1)) (m' ((c.tc : Thread Cert.RQkvIdeal.nD Cert.RQkvIdeal.τ).loc Cert.RQkvIdeal.main_arg2)) (m' ((c.tc : Thread Cert.RQkvIdeal.nD Cert.RQkvIdeal.τ).loc Cert.RQkvIdeal.main_arg4)) = _
      rw [a1, a2, a4]
    · refine (Cert.RQkvIdeal.Read.val_main_v34_eq _ _).trans ?_
      show Cert.RQkvIdeal.Read.val_main_v34 (F := Ideal) (m' ((c.tc : Thread Cert.RQkvIdeal.nD Cert.RQkvIdeal.τ).loc Cert.RQkvIdeal.main_arg1)) (m' ((c.tc : Thread Cert.RQkvIdeal.nD Cert.RQkvIdeal.τ).loc Cert.RQkvIdeal.main_arg4)) = _
      rw [a1, a4]

/-- The attention's forward pass: kernel and reference leave equal arrays, whatever finite queries and keys they start from. -/
theorem attn :
    letI := Cert.KAttnIdeal.Gen.facts; letI := Cert.RAttnIdeal.Gen.facts; letI := Cert.RAttnIdeal.Math.pre_facts
    Cert.algebraic_KAttnIdeal_RAttnIdeal_pre_finite_attn := by
  intro m g m' g' hpre hargs
  have D : ∀ c, Cert.RAttnIdeal.Math.Keys (Cert.KAttnIdeal.Body.A0 m c) (Cert.KAttnIdeal.Body.A1 m c) (Cert.KAttnIdeal.Body.A2 m c) := fun c => Cert.RAttnIdeal.Math.mkKeys (Cert.KAttnIdeal.Body.A0 m c) (Cert.KAttnIdeal.Body.A1 m c) (Cert.KAttnIdeal.Body.A2 m c) (hpre c)
  refine ⟨fun c => Cert.RAttnIdeal.Read.val_main_v42 (F := Ideal) (Cert.KAttnIdeal.Body.A0 m c) (Cert.KAttnIdeal.Body.A1 m c) (Cert.KAttnIdeal.Body.A2 m c), fun c => Cert.RAttnIdeal.Read.val_main_v46 (F := Ideal) (Cert.KAttnIdeal.Body.A0 m c) (Cert.KAttnIdeal.Body.A1 m c) (Cert.KAttnIdeal.Body.A2 m c), ?_, ?_⟩
  · refine (θ_run Cert.KAttnIdeal.defs _ _).mono (fun r h c => ?_) (Cert.KAttnIdeal.Value.run_blocks (F := Ideal) m g)
    obtain ⟨e3, e4, rest⟩ := h c
    exact ⟨e3.trans (Cert.KAttnIdeal.Body.arr3 m c (D c)), e4.trans (Cert.KAttnIdeal.Body.arr4 m c (D c)), rest⟩
  · refine (θ_run Cert.RAttnIdeal.defs _ _).mono (fun r h c => ?_) (Cert.RAttnIdeal.Value.run (F := Ideal) m' g')
    obtain ⟨e3, e4, rest⟩ := h c
    obtain ⟨a0, a1, a2⟩ := hargs c
    refine ⟨e3.trans ?_, e4.trans ?_, rest⟩
    · refine (Cert.RAttnIdeal.Read.val_main_v42_eq _ _).trans ?_
      show Cert.RAttnIdeal.Read.val_main_v42 (F := Ideal) (m' ((c.tc : Thread Cert.RAttnIdeal.nD Cert.RAttnIdeal.τ).loc Cert.RAttnIdeal.main_arg0)) (m' ((c.tc : Thread Cert.RAttnIdeal.nD Cert.RAttnIdeal.τ).loc Cert.RAttnIdeal.main_arg1)) (m' ((c.tc : Thread Cert.RAttnIdeal.nD Cert.RAttnIdeal.τ).loc Cert.RAttnIdeal.main_arg2)) = _
      rw [a0, a1, a2]
    · refine (Cert.RAttnIdeal.Read.val_main_v46_eq _ _).trans ?_
      show Cert.RAttnIdeal.Read.val_main_v46 (F := Ideal) (m' ((c.tc : Thread Cert.RAttnIdeal.nD Cert.RAttnIdeal.τ).loc Cert.RAttnIdeal.main_arg0)) (m' ((c.tc : Thread Cert.RAttnIdeal.nD Cert.RAttnIdeal.τ).loc Cert.RAttnIdeal.main_arg1)) (m' ((c.tc : Thread Cert.RAttnIdeal.nD Cert.RAttnIdeal.τ).loc Cert.RAttnIdeal.main_arg2)) = _
      rw [a0, a1, a2]

end Cert.Mlp
-- ==== Proof.lean ====
module

public import proofs.«01_k».proof.Defs
public import proofs.«01_k».proof.Proof.Gen.KLat.Frame
public import proofs.«01_k».proof.Proof.Gen.KLatIdeal.Frame
public import proofs.«01_k».proof.Proof.Gen.KLatIdeal.Value
public import proofs.«01_k».proof.Proof.Gen.RLatIdeal.Run
public import proofs.«01_k».proof.Proof.Gen.RLatIdeal.Read
public import proofs.«01_k».proof.Proof.Gen.KQkv.Frame
public import proofs.«01_k».proof.Proof.Gen.KQkvIdeal.Frame
public import proofs.«01_k».proof.Proof.Gen.KQkvIdeal.Value
public import proofs.«01_k».proof.Proof.Gen.RQkvIdeal.Run
public import proofs.«01_k».proof.Proof.Gen.RQkvIdeal.Read
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KDown.Frame
public import proofs.«01_k».proof.Proof.Gen.KDownIdeal.Frame
public import proofs.«01_k».proof.Proof.Gen.KDownIdeal.Value
public import proofs.«01_k».proof.Proof.Gen.RDownIdeal.Run
public import proofs.«01_k».proof.Proof.Gen.RDownIdeal.Read
public import proofs.«01_k».proof.Proof.Gen.KDw2.Frame
public import proofs.«01_k».proof.Proof.Gen.KDw2Ideal.Frame
public import proofs.«01_k».proof.Proof.Gen.KDw2Ideal.Value
public import proofs.«01_k».proof.Proof.Gen.RDw2Ideal.Run
public import proofs.«01_k».proof.Proof.Gen.RDw2Ideal.Read
public import proofs.«01_k».proof.Proof.Gen.KDw1.Frame
public import proofs.«01_k».proof.Proof.Gen.KDw1Ideal.Frame
public import proofs.«01_k».proof.Proof.Gen.KDw1Ideal.Value
public import proofs.«01_k».proof.Proof.Gen.RDw1Ideal.Run
public import proofs.«01_k».proof.Proof.Gen.RDw1Ideal.Read
public import proofs.«01_k».proof.Proof.Gen.KUp.Frame
public import proofs.«01_k».proof.Proof.Gen.KUpIdeal.Frame
public import proofs.«01_k».proof.Proof.Gen.KUpIdeal.Value
public import proofs.«01_k».proof.Proof.Gen.RUpIdeal.Run
public import proofs.«01_k».proof.Proof.Gen.RUpIdeal.Read
public import proofs.«01_k».proof.Proof.Gen.KMup.Frame
public import proofs.«01_k».proof.Proof.Gen.KMupIdeal.Frame
public import proofs.«01_k».proof.Proof.Gen.KMupIdeal.Value
public import proofs.«01_k».proof.Proof.Gen.RMupIdeal.Run
public import proofs.«01_k».proof.Proof.Gen.RMupIdeal.Read
public import proofs.«01_k».proof.Proof.Gen.KMdown.Frame
public import proofs.«01_k».proof.Proof.Gen.KMdownIdeal.Frame
public import proofs.«01_k».proof.Proof.Gen.KMdownIdeal.Value
public import proofs.«01_k».proof.Proof.Gen.RMdownIdeal.Run
public import proofs.«01_k».proof.Proof.Gen.RMdownIdeal.Read
public import proofs.«01_k».proof.Proof.Gen.KOut.Frame
public import proofs.«01_k».proof.Proof.Gen.KOutIdeal.Frame
public import proofs.«01_k».proof.Proof.Gen.KOutIdeal.Value
public import proofs.«01_k».proof.Proof.Gen.ROutIdeal.Run
public import proofs.«01_k».proof.Proof.Gen.ROutIdeal.Read
public import proofs.«01_k».proof.Proof.Gen.KBo.Frame
public import proofs.«01_k».proof.Proof.Gen.KBoIdeal.Frame
public import proofs.«01_k».proof.Proof.Gen.KBoIdeal.Value
public import proofs.«01_k».proof.Proof.Gen.RBoIdeal.Run
public import proofs.«01_k».proof.Proof.Gen.RBoIdeal.Read
public import proofs.«01_k».proof.Proof.Gen.KDwo.Frame
public import proofs.«01_k».proof.Proof.Gen.KDwoIdeal.Frame
public import proofs.«01_k».proof.Proof.Gen.KDwoIdeal.Value
public import proofs.«01_k».proof.Proof.Gen.RDwoIdeal.Run
public import proofs.«01_k».proof.Proof.Gen.RDwoIdeal.Read
public import proofs.«01_k».proof.Proof.Final
public import proofs.«01_k».proof.Proof.Gen.KSdo.Frame
public import proofs.«01_k».proof.Proof.Gen.KSdoIdeal.Frame
public import proofs.«01_k».proof.Proof.Gen.KSdoIdeal.Value
public import proofs.«01_k».proof.Proof.Gen.RSdoIdeal.Run
public import proofs.«01_k».proof.Proof.Gen.RSdoIdeal.Read
public import proofs.«01_k».proof.Proof.Gen.KSdi.Frame
public import proofs.«01_k».proof.Proof.Gen.KSdiIdeal.Frame
public import proofs.«01_k».proof.Proof.Gen.KSdiIdeal.Value
public import proofs.«01_k».proof.Proof.Gen.RSdiIdeal.Run
public import proofs.«01_k».proof.Proof.Gen.RSdiIdeal.Read
public import proofs.«01_k».proof.Proof.Gen.KDwq.Frame
public import proofs.«01_k».proof.Proof.Gen.KDwqIdeal.Frame
public import proofs.«01_k».proof.Proof.Gen.KDwqIdeal.Value
public import proofs.«01_k».proof.Proof.Gen.RDwqIdeal.Run
public import proofs.«01_k».proof.Proof.Gen.RDwqIdeal.Read
public import proofs.«01_k».proof.Proof.Gen.KDwk.Frame
public import proofs.«01_k».proof.Proof.Gen.KDwkIdeal.Frame
public import proofs.«01_k».proof.Proof.Gen.KDwkIdeal.Value
public import proofs.«01_k».proof.Proof.Gen.RDwkIdeal.Run
public import proofs.«01_k».proof.Proof.Gen.RDwkIdeal.Read
public import proofs.«01_k».proof.Proof.Gen.KDwd.Frame
public import proofs.«01_k».proof.Proof.Gen.KDwdIdeal.Frame
public import proofs.«01_k».proof.Proof.Gen.KDwdIdeal.Value
public import proofs.«01_k».proof.Proof.Gen.RDwdIdeal.Run
public import proofs.«01_k».proof.Proof.Gen.RDwdIdeal.Read
public import proofs.«01_k».proof.Proof.Gen.KAttn.Frame
public import proofs.«01_k».proof.Proof.Gen.KAttnIdeal.Frame
public import proofs.«01_k».proof.Proof.Gen.KAttnIdeal.Value
public import proofs.«01_k».proof.Proof.Gen.RAttnIdeal.Run
public import proofs.«01_k».proof.Proof.Gen.RAttnIdeal.Read
public import proofs.«01_k».proof.Proof.Mlp
public import proofs.«01_k».proof.Proof.Pre
public import Idealize.ShloMosaic.Adequacy
public import Idealize.ShloMosaic.Init

@[expose] public section

noncomputable section

namespace Cert.Proof

open Idealize.ShloMosaic Idealize.SL.Sem

/-- The two named constants denote what the table says. -/
theorem preserves : Cert.preserves_Kernel_KernelIdeal :=
  ⟨IdealRules.named_const.statement Cert.KernelIdeal.κ "mask" .f32 0xF149F2CA#32 ⊥ rfl,
   IdealRules.named_const.statement Cert.KernelIdeal.κ "ln2" .f32 0x3F317218#32 ((Real.log 2 : ℝ) : EReal) rfl⟩

/-- The reference runs, keeps its arguments, and declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

open Cert.ReferenceIdeal.Math Cert.KernelIdeal.Body in
/-- Kernel and reference leave equal gradients, whatever finite arguments they start from. -/
theorem algebraic :
    letI := Cert.KernelIdeal.Gen.facts; letI := Cert.ReferenceIdeal.Gen.facts; letI := pre_facts
    Cert.algebraic_KernelIdeal_ReferenceIdeal_pre_finite := by
  intro m g m' g' hpre hargs
  have D : ∀ c, RD m c := fun c => mkReals (A0 m c) (A1 m c) (A2 m c) (A3 m c) (A4 m c) (hpre c)
  refine ⟨fun c => G8 m c, fun c => G9 m c, fun c => G10 m c, ?_, ?_⟩
  · refine (θ_run Cert.KernelIdeal.defs _ _).mono (fun r h c => ?_) (Cert.KernelIdeal.Value.run_blocks (F := Ideal) m g)
    obtain ⟨e8, e9, e10, rest⟩ := h c
    exact ⟨e8.trans (arr8 m c), e9.trans (arr9 m c), e10.trans (arr10 m c), rest⟩
  · refine (θ_run Cert.ReferenceIdeal.defs _ _).mono (fun r h c => ?_) (Cert.ReferenceIdeal.Value.run (F := Ideal) m' g')
    obtain ⟨e8, e9, e10, rest⟩ := h c
    obtain ⟨a0, a1, a2, a3, a4⟩ := hargs c
    refine ⟨e8.trans ?_, e9.trans ?_, e10.trans ?_, rest⟩
    · refine (Cert.ReferenceIdeal.Read.val_main_v131_eq _).trans (Eq.trans ?_ (G8_ref m c (D c)).symm)
      show Cert.ReferenceIdeal.Read.val_main_v131 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
      rw [a0, a1, a2, a3, a4]
    · refine (Cert.ReferenceIdeal.Read.val_main_v133_eq _).trans (Eq.trans ?_ (G9_ref m c (D c)).symm)
      show Cert.ReferenceIdeal.Read.val_main_v133 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
      rw [a0, a1, a2, a3, a4]
    · refine (Cert.ReferenceIdeal.Read.val_main_v129_eq _).trans (Eq.trans ?_ (G10_ref m c (D c)).symm)
      show Cert.ReferenceIdeal.Read.val_main_v129 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
      rw [a0, a1, a2, a3, a4]

/-- A reference runs, keeps its arguments, and declares no semaphore. -/
theorem frame_down : Cert.quiescent_RDownIdeal := fun m ρ _ =>
  (θ_run Cert.RDownIdeal.defs _ _).mono (fun r h => ⟨fun c => (h c).2.2.2, sem_eq_zero_of_no_sems (by decide) r.2⟩)
    (Cert.RDownIdeal.Value.run (F := Ideal) m ρ)
/-- A reference runs, keeps its arguments, and declares no semaphore. -/
theorem frame_dw2 : Cert.quiescent_RDw2Ideal := fun m ρ _ =>
  (θ_run Cert.RDw2Ideal.defs _ _).mono (fun r h => ⟨fun c => (h c).2, sem_eq_zero_of_no_sems (by decide) r.2⟩)
    (Cert.RDw2Ideal.Value.run (F := Ideal) m ρ)
/-- A reference runs, keeps its arguments, and declares no semaphore. -/
theorem frame_dw1 : Cert.quiescent_RDw1Ideal := fun m ρ _ =>
  (θ_run Cert.RDw1Ideal.defs _ _).mono (fun r h => ⟨fun c => (h c).2, sem_eq_zero_of_no_sems (by decide) r.2⟩)
    (Cert.RDw1Ideal.Value.run (F := Ideal) m ρ)
/-- A reference runs, keeps its arguments, and declares no semaphore. -/
theorem frame_up : Cert.quiescent_RUpIdeal := fun m ρ _ =>
  (θ_run Cert.RUpIdeal.defs _ _).mono (fun r h => ⟨fun c => (h c).2.2, sem_eq_zero_of_no_sems (by decide) r.2⟩)
    (Cert.RUpIdeal.Value.run (F := Ideal) m ρ)
/-- A reference runs, keeps its arguments, and declares no semaphore. -/
theorem frame_mup : Cert.quiescent_RMupIdeal := fun m ρ _ =>
  (θ_run Cert.RMupIdeal.defs _ _).mono (fun r h => ⟨fun c => (h c).2.2, sem_eq_zero_of_no_sems (by decide) r.2⟩)
    (Cert.RMupIdeal.Value.run (F := Ideal) m ρ)
/-- A reference runs, keeps its arguments, and declares no semaphore. -/
theorem frame_mdown : Cert.quiescent_RMdownIdeal := fun m ρ _ =>
  (θ_run Cert.RMdownIdeal.defs _ _).mono (fun r h => ⟨fun c => (h c).2.2, sem_eq_zero_of_no_sems (by decide) r.2⟩)
    (Cert.RMdownIdeal.Value.run (F := Ideal) m ρ)
/-- A reference runs, keeps its arguments, and declares no semaphore. -/
theorem frame_out : Cert.quiescent_ROutIdeal := fun m ρ _ =>
  (θ_run Cert.ROutIdeal.defs _ _).mono (fun r h => ⟨fun c => (h c).2.2, sem_eq_zero_of_no_sems (by decide) r.2⟩)
    (Cert.ROutIdeal.Value.run (F := Ideal) m ρ)
/-- A reference runs, keeps its arguments, and declares no semaphore. -/
theorem frame_bo : Cert.quiescent_RBoIdeal := fun m ρ _ =>
  (θ_run Cert.RBoIdeal.defs _ _).mono (fun r h => ⟨fun c => (h c).2.2.2, sem_eq_zero_of_no_sems (by decide) r.2⟩)
    (Cert.RBoIdeal.Value.run (F := Ideal) m ρ)
/-- A reference runs, keeps its arguments, and declares no semaphore. -/
theorem frame_dwo : Cert.quiescent_RDwoIdeal := fun m ρ _ =>
  (θ_run Cert.RDwoIdeal.defs _ _).mono (fun r h => ⟨fun c => (h c).2, sem_eq_zero_of_no_sems (by decide) r.2⟩)
    (Cert.RDwoIdeal.Value.run (F := Ideal) m ρ)
/-- A reference runs, keeps its arguments, and declares no semaphore. -/
theorem frame_sdo : Cert.quiescent_RSdoIdeal := fun m ρ _ =>
  (θ_run Cert.RSdoIdeal.defs _ _).mono (fun r h => ⟨fun c => (h c).2, sem_eq_zero_of_no_sems (by decide) r.2⟩)
    (Cert.RSdoIdeal.Value.run (F := Ideal) m ρ)
/-- A reference runs, keeps its arguments, and declares no semaphore. -/
theorem frame_sdi : Cert.quiescent_RSdiIdeal := fun m ρ _ =>
  (θ_run Cert.RSdiIdeal.defs _ _).mono (fun r h => ⟨fun c => (h c).2, sem_eq_zero_of_no_sems (by decide) r.2⟩)
    (Cert.RSdiIdeal.Value.run (F := Ideal) m ρ)
/-- A reference runs, keeps its arguments, and declares no semaphore. -/
theorem frame_dwq : Cert.quiescent_RDwqIdeal := fun m ρ _ =>
  (θ_run Cert.RDwqIdeal.defs _ _).mono (fun r h => ⟨fun c => (h c).2, sem_eq_zero_of_no_sems (by decide) r.2⟩)
    (Cert.RDwqIdeal.Value.run (F := Ideal) m ρ)
/-- A reference runs, keeps its arguments, and declares no semaphore. -/
theorem frame_dwk : Cert.quiescent_RDwkIdeal := fun m ρ _ =>
  (θ_run Cert.RDwkIdeal.defs _ _).mono (fun r h => ⟨fun c => (h c).2, sem_eq_zero_of_no_sems (by decide) r.2⟩)
    (Cert.RDwkIdeal.Value.run (F := Ideal) m ρ)
/-- A reference runs, keeps its arguments, and declares no semaphore. -/
theorem frame_dwd : Cert.quiescent_RDwdIdeal := fun m ρ _ =>
  (θ_run Cert.RDwdIdeal.defs _ _).mono (fun r h => ⟨fun c => (h c).2, sem_eq_zero_of_no_sems (by decide) r.2⟩)
    (Cert.RDwdIdeal.Value.run (F := Ideal) m ρ)
/-- A reference runs, keeps its arguments, and declares no semaphore. -/
theorem frame_attn : Cert.quiescent_RAttnIdeal := fun m ρ _ =>
  (θ_run Cert.RAttnIdeal.defs _ _).mono (fun r h => ⟨fun c => (h c).2.2, sem_eq_zero_of_no_sems (by decide) r.2⟩)
    (Cert.RAttnIdeal.Value.run (F := Ideal) m ρ)
/-- A reference runs, keeps its arguments, and declares no semaphore. -/
theorem frame_lat : Cert.quiescent_RLatIdeal := fun m ρ _ =>
  (θ_run Cert.RLatIdeal.defs _ _).mono (fun r h => ⟨fun c => (h c).2.2.2.2.2, sem_eq_zero_of_no_sems (by decide) r.2⟩)
    (Cert.RLatIdeal.Value.run (F := Ideal) m ρ)
/-- A reference runs, keeps its arguments, and declares no semaphore. -/
theorem frame_qkv : Cert.quiescent_RQkvIdeal := fun m ρ _ =>
  (θ_run Cert.RQkvIdeal.defs _ _).mono (fun r h => ⟨fun c => (h c).2.2.2, sem_eq_zero_of_no_sems (by decide) r.2⟩)
    (Cert.RQkvIdeal.Value.run (F := Ideal) m ρ)

/-- The attention's forward call names the mask's constant and log 2. -/
theorem preserves_attn : Cert.preserves_KAttn_KAttnIdeal :=
  ⟨IdealRules.named_const.statement Cert.KAttnIdeal.κ "mask" .f32 0xF149F2CA#32 ⊥ rfl,
    IdealRules.named_const.statement Cert.KAttnIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts,
    Cert.KDown.Gen.facts, Cert.KDownIdeal.Gen.facts, Cert.RDownIdeal.Gen.facts, Cert.KDw2.Gen.facts, Cert.KDw2Ideal.Gen.facts, Cert.RDw2Ideal.Gen.facts, Cert.KDw1.Gen.facts, Cert.KDw1Ideal.Gen.facts, Cert.RDw1Ideal.Gen.facts, Cert.KUp.Gen.facts, Cert.KUpIdeal.Gen.facts, Cert.RUpIdeal.Gen.facts, Cert.KMup.Gen.facts, Cert.KMupIdeal.Gen.facts, Cert.RMupIdeal.Gen.facts, Cert.KMdown.Gen.facts, Cert.KMdownIdeal.Gen.facts, Cert.RMdownIdeal.Gen.facts, Cert.KOut.Gen.facts, Cert.KOutIdeal.Gen.facts, Cert.ROutIdeal.Gen.facts, Cert.KBo.Gen.facts, Cert.KBoIdeal.Gen.facts, Cert.RBoIdeal.Gen.facts, Cert.KDwo.Gen.facts, Cert.KDwoIdeal.Gen.facts, Cert.RDwoIdeal.Gen.facts, Cert.KSdo.Gen.facts, Cert.KSdoIdeal.Gen.facts, Cert.RSdoIdeal.Gen.facts, Cert.KSdi.Gen.facts, Cert.KSdiIdeal.Gen.facts, Cert.RSdiIdeal.Gen.facts, Cert.KDwq.Gen.facts, Cert.KDwqIdeal.Gen.facts, Cert.RDwqIdeal.Gen.facts, Cert.KDwk.Gen.facts, Cert.KDwkIdeal.Gen.facts, Cert.RDwkIdeal.Gen.facts, Cert.KDwd.Gen.facts, Cert.KDwdIdeal.Gen.facts, Cert.RDwdIdeal.Gen.facts, Cert.KAttn.Gen.facts, Cert.KAttnIdeal.Gen.facts, Cert.RAttnIdeal.Gen.facts, Cert.KLat.Gen.facts, Cert.KLatIdeal.Gen.facts, Cert.RLatIdeal.Gen.facts, Cert.KQkv.Gen.facts, Cert.KQkvIdeal.Gen.facts, Cert.RQkvIdeal.Gen.facts,
    Cert.ReferenceIdeal.Math.pre_facts, Cert.RUpIdeal.Math.pre_facts, Cert.RAttnIdeal.Math.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.KDown.Gen.frame m ρ, fun m ρ _ => Cert.KDownIdeal.Gen.frame m ρ, frame_down,
    fun m ρ _ => Cert.KDw2.Gen.frame m ρ, fun m ρ _ => Cert.KDw2Ideal.Gen.frame m ρ, frame_dw2,
    fun m ρ _ => Cert.KDw1.Gen.frame m ρ, fun m ρ _ => Cert.KDw1Ideal.Gen.frame m ρ, frame_dw1,
    fun m ρ _ => Cert.KUp.Gen.frame m ρ, fun m ρ _ => Cert.KUpIdeal.Gen.frame m ρ, fun m ρ _ => Cert.KUpIdeal.Gen.frame m ρ, frame_up, fun m ρ _ => frame_up m ρ trivial,
    fun m ρ _ => Cert.KMup.Gen.frame m ρ, fun m ρ _ => Cert.KMupIdeal.Gen.frame m ρ, frame_mup,
    fun m ρ _ => Cert.KMdown.Gen.frame m ρ, fun m ρ _ => Cert.KMdownIdeal.Gen.frame m ρ, frame_mdown,
    fun m ρ _ => Cert.KOut.Gen.frame m ρ, fun m ρ _ => Cert.KOutIdeal.Gen.frame m ρ, frame_out,
    fun m ρ _ => Cert.KBo.Gen.frame m ρ, fun m ρ _ => Cert.KBoIdeal.Gen.frame m ρ, frame_bo,
    fun m ρ _ => Cert.KDwo.Gen.frame m ρ, fun m ρ _ => Cert.KDwoIdeal.Gen.frame m ρ, frame_dwo,
    fun m ρ _ => Cert.KSdo.Gen.frame m ρ, fun m ρ _ => Cert.KSdoIdeal.Gen.frame m ρ, frame_sdo,
    fun m ρ _ => Cert.KSdi.Gen.frame m ρ, fun m ρ _ => Cert.KSdiIdeal.Gen.frame m ρ, frame_sdi,
    fun m ρ _ => Cert.KDwq.Gen.frame m ρ, fun m ρ _ => Cert.KDwqIdeal.Gen.frame m ρ, frame_dwq,
    fun m ρ _ => Cert.KDwk.Gen.frame m ρ, fun m ρ _ => Cert.KDwkIdeal.Gen.frame m ρ, frame_dwk,
    fun m ρ _ => Cert.KDwd.Gen.frame m ρ, fun m ρ _ => Cert.KDwdIdeal.Gen.frame m ρ, frame_dwd,
    fun m ρ _ => Cert.KAttn.Gen.frame m ρ, fun m ρ _ => Cert.KAttnIdeal.Gen.frame m ρ, fun m ρ _ => Cert.KAttnIdeal.Gen.frame m ρ, frame_attn, fun m ρ _ => frame_attn m ρ trivial,
    fun m ρ _ => Cert.KLat.Gen.frame m ρ, fun m ρ _ => Cert.KLatIdeal.Gen.frame m ρ, frame_lat,
    fun m ρ _ => Cert.KQkv.Gen.frame m ρ, fun m ρ _ => Cert.KQkvIdeal.Gen.frame m ρ, frame_qkv,
    preserves, algebraic, trivial, Cert.Mlp.down, trivial, Cert.Mlp.dw2, trivial, Cert.Mlp.dw1, trivial, Cert.Mlp.up, trivial, Cert.Mlp.mup, trivial, Cert.Mlp.mdown, trivial, Cert.Mlp.out, trivial, Cert.Mlp.bo, trivial, Cert.Mlp.dwo, trivial, Cert.Mlp.sdo, trivial, Cert.Mlp.sdi, trivial, Cert.Mlp.dwq, trivial, Cert.Mlp.dwk, trivial, Cert.Mlp.dwd, preserves_attn, Cert.Mlp.attn, trivial, Cert.Mlp.lat, trivial, Cert.Mlp.qkv⟩

end Cert.Proof

end
